-- ==== Defs.lean ====
def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpIdeal_mlp_up_finite [hPre_mlp_up_finite : Cert.Pre_mlp_up_finite.Facts] (m : (ℓ : Loc Cert.MlpUpIdeal.nD Cert.MlpUpIdeal.τ Cert.MlpUpIdeal.sig) → Buf (Elt Ideal) ℓ) : Prop :=
  ∀ c : Dev Cert.MlpUpIdeal.nD,
    (Cert.Pre_mlp_up_finite.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3)) (m ((c.tc : Thread Cert.MlpUpIdeal.nD Cert.MlpUpIdeal.τ).loc Cert.MlpUpIdeal.main_arg4))).1 = (fun _ => 1#1)
    ∧ (Cert.Pre_mlp_up_finite.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3)) (m ((c.tc : Thread Cert.MlpUpIdeal.nD Cert.MlpUpIdeal.τ).loc Cert.MlpUpIdeal.main_arg4))).2.1 = (fun _ => 1#1)
    ∧ (Cert.Pre_mlp_up_finite.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3)) (m ((c.tc : Thread Cert.MlpUpIdeal.nD Cert.MlpUpIdeal.τ).loc Cert.MlpUpIdeal.main_arg4))).2.2.1 = (fun _ => 1#1)
    ∧ (Cert.Pre_mlp_up_finite.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3)) (m ((c.tc : Thread Cert.MlpUpIdeal.nD Cert.MlpUpIdeal.τ).loc Cert.MlpUpIdeal.main_arg4))).2.2.2 = (fun _ => 1#1)

def Pre_MlpUpRefIdeal (m : (ℓ : Loc Cert.MlpUpRefIdeal.nD Cert.MlpUpRefIdeal.τ Cert.MlpUpRefIdeal.sig) → Buf (Elt Ideal) ℓ) : Prop :=
  True

def Pre_MlpUpRefIdeal_mlp_up_finite [hPre_mlp_up_finite : Cert.Pre_mlp_up_finite.Facts] (m : (ℓ : Loc Cert.MlpUpRefIdeal.nD Cert.MlpUpRefIdeal.τ Cert.MlpUpRefIdeal.sig) → Buf (Elt Ideal) ℓ) : Prop :=
  ∀ c : Dev Cert.MlpUpRefIdeal.nD,
    (Cert.Pre_mlp_up_finite.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).1 = (fun _ => 1#1)
    ∧ (Cert.Pre_mlp_up_finite.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.1 = (fun _ => 1#1)
    ∧ (Cert.Pre_mlp_up_finite.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.2.1 = (fun _ => 1#1)
    ∧ (Cert.Pre_mlp_up_finite.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.2.2 = (fun _ => 1#1)

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownIdeal_mlp_down_finite [hPre_mlp_down_finite : Cert.Pre_mlp_down_finite.Facts] (m : (ℓ : Loc Cert.MlpDownIdeal.nD Cert.MlpDownIdeal.τ Cert.MlpDownIdeal.sig) → Buf (Elt Ideal) ℓ) : Prop :=
  ∀ c : Dev Cert.MlpDownIdeal.nD,
    (Cert.Pre_mlp_down_finite.fn (F := Ideal) (m ((c.tc : Thread Cert.MlpDownIdeal.nD Cert.MlpDownIdeal.τ).loc Cert.MlpDownIdeal.main_arg0)) (m ((c.tc : Thread Cert.MlpDownIdeal.nD Cert.MlpDownIdeal.τ).loc Cert.MlpDownIdeal.main_arg1)) (m ((c.tc : Thread Cert.MlpDownIdeal.nD Cert.MlpDownIdeal.τ).loc Cert.MlpDownIdeal.main_arg2)) (m ((c.tc : Thread Cert.MlpDownIdeal.nD Cert.MlpDownIdeal.τ).loc Cert.MlpDownIdeal.main_arg3))).1 = (fun _ => 1#1)
    ∧ (Cert.Pre_mlp_down_finite.fn (F := Ideal) (m ((c.tc : Thread Cert.MlpDownIdeal.nD Cert.MlpDownIdeal.τ).loc Cert.MlpDownIdeal.main_arg0)) (m ((c.tc : Thread Cert.MlpDownIdeal.nD Cert.MlpDownIdeal.τ).loc Cert.MlpDownIdeal.main_arg1)) (m ((c.tc : Thread Cert.MlpDownIdeal.nD Cert.MlpDownIdeal.τ).loc Cert.MlpDownIdeal.main_arg2)) (m ((c.tc : Thread Cert.MlpDownIdeal.nD Cert.MlpDownIdeal.τ).loc Cert.MlpDownIdeal.main_arg3))).2.1 = (fun _ => 1#1)
    ∧ (Cert.Pre_mlp_down_finite.fn (F := Ideal) (m ((c.tc : Thread Cert.MlpDownIdeal.nD Cert.MlpDownIdeal.τ).loc Cert.MlpDownIdeal.main_arg0)) (m ((c.tc : Thread Cert.MlpDownIdeal.nD Cert.MlpDownIdeal.τ).loc Cert.MlpDownIdeal.main_arg1)) (m ((c.tc : Thread Cert.MlpDownIdeal.nD Cert.MlpDownIdeal.τ).loc Cert.MlpDownIdeal.main_arg2)) (m ((c.tc : Thread Cert.MlpDownIdeal.nD Cert.MlpDownIdeal.τ).loc Cert.MlpDownIdeal.main_arg3))).2.2.1 = (fun _ => 1#1)
    ∧ (Cert.Pre_mlp_down_finite.fn (F := Ideal) (m ((c.tc : Thread Cert.MlpDownIdeal.nD Cert.MlpDownIdeal.τ).loc Cert.MlpDownIdeal.main_arg0)) (m ((c.tc : Thread Cert.MlpDownIdeal.nD Cert.MlpDownIdeal.τ).loc Cert.MlpDownIdeal.main_arg1)) (m ((c.tc : Thread Cert.MlpDownIdeal.nD Cert.MlpDownIdeal.τ).loc Cert.MlpDownIdeal.main_arg2)) (m ((c.tc : Thread Cert.MlpDownIdeal.nD Cert.MlpDownIdeal.τ).loc Cert.MlpDownIdeal.main_arg3))).2.2.2 = (fun _ => 1#1)

def Pre_MlpDownRefIdeal (m : (ℓ : Loc Cert.MlpDownRefIdeal.nD Cert.MlpDownRefIdeal.τ Cert.MlpDownRefIdeal.sig) → Buf (Elt Ideal) ℓ) : Prop :=
  True

def Pre_MlpDownRefIdeal_mlp_down_finite [hPre_mlp_down_finite : Cert.Pre_mlp_down_finite.Facts] (m : (ℓ : Loc Cert.MlpDownRefIdeal.nD Cert.MlpDownRefIdeal.τ Cert.MlpDownRefIdeal.sig) → Buf (Elt Ideal) ℓ) : Prop :=
  ∀ c : Dev Cert.MlpDownRefIdeal.nD,
    (Cert.Pre_mlp_down_finite.fn (F := Ideal) (m ((c.tc : Thread Cert.MlpDownRefIdeal.nD Cert.MlpDownRefIdeal.τ).loc Cert.MlpDownRefIdeal.main_arg0)) (m ((c.tc : Thread Cert.MlpDownRefIdeal.nD Cert.MlpDownRefIdeal.τ).loc Cert.MlpDownRefIdeal.main_arg1)) (m ((c.tc : Thread Cert.MlpDownRefIdeal.nD Cert.MlpDownRefIdeal.τ).loc Cert.MlpDownRefIdeal.main_arg2)) (m ((c.tc : Thread Cert.MlpDownRefIdeal.nD Cert.MlpDownRefIdeal.τ).loc Cert.MlpDownRefIdeal.main_arg3))).1 = (fun _ => 1#1)
    ∧ (Cert.Pre_mlp_down_finite.fn (F := Ideal) (m ((c.tc : Thread Cert.MlpDownRefIdeal.nD Cert.MlpDownRefIdeal.τ).loc Cert.MlpDownRefIdeal.main_arg0)) (m ((c.tc : Thread Cert.MlpDownRefIdeal.nD Cert.MlpDownRefIdeal.τ).loc Cert.MlpDownRefIdeal.main_arg1)) (m ((c.tc : Thread Cert.MlpDownRefIdeal.nD Cert.MlpDownRefIdeal.τ).loc Cert.MlpDownRefIdeal.main_arg2)) (m ((c.tc : Thread Cert.MlpDownRefIdeal.nD Cert.MlpDownRefIdeal.τ).loc Cert.MlpDownRefIdeal.main_arg3))).2.1 = (fun _ => 1#1)
    ∧ (Cert.Pre_mlp_down_finite.fn (F := Ideal) (m ((c.tc : Thread Cert.MlpDownRefIdeal.nD Cert.MlpDownRefIdeal.τ).loc Cert.MlpDownRefIdeal.main_arg0)) (m ((c.tc : Thread Cert.MlpDownRefIdeal.nD Cert.MlpDownRefIdeal.τ).loc Cert.MlpDownRefIdeal.main_arg1)) (m ((c.tc : Thread Cert.MlpDownRefIdeal.nD Cert.MlpDownRefIdeal.τ).loc Cert.MlpDownRefIdeal.main_arg2)) (m ((c.tc : Thread Cert.MlpDownRefIdeal.nD Cert.MlpDownRefIdeal.τ).loc Cert.MlpDownRefIdeal.main_arg3))).2.2.1 = (fun _ => 1#1)
    ∧ (Cert.Pre_mlp_down_finite.fn (F := Ideal) (m ((c.tc : Thread Cert.MlpDownRefIdeal.nD Cert.MlpDownRefIdeal.τ).loc Cert.MlpDownRefIdeal.main_arg0)) (m ((c.tc : Thread Cert.MlpDownRefIdeal.nD Cert.MlpDownRefIdeal.τ).loc Cert.MlpDownRefIdeal.main_arg1)) (m ((c.tc : Thread Cert.MlpDownRefIdeal.nD Cert.MlpDownRefIdeal.τ).loc Cert.MlpDownRefIdeal.main_arg2)) (m ((c.tc : Thread Cert.MlpDownRefIdeal.nD Cert.MlpDownRefIdeal.τ).loc Cert.MlpDownRefIdeal.main_arg3))).2.2.2 = (fun _ => 1#1)

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_in_finite [hPre_in_finite : Cert.Pre_in_finite.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.2.2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.2.2.2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.2.2.2.2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.2.2.2.2.2.2.2.1 = (fun _ => 1#1)
    ∧ (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7)) (m ((c.tc : Thread Cert.BwdInIdeal.nD Cert.BwdInIdeal.τ).loc Cert.BwdInIdeal.main_arg8)) (m ((c.tc : Thread Cert.BwdInIdeal.nD Cert.BwdInIdeal.τ).loc Cert.BwdInIdeal.main_arg9)) (m ((c.tc : Thread Cert.BwdInIdeal.nD Cert.BwdInIdeal.τ).loc Cert.BwdInIdeal.main_arg10)) (m ((c.tc : Thread Cert.BwdInIdeal.nD Cert.BwdInIdeal.τ).loc Cert.BwdInIdeal.main_arg11)) (m ((c.tc : Thread Cert.BwdInIdeal.nD Cert.BwdInIdeal.τ).loc Cert.BwdInIdeal.main_arg12))).2.2.2.2.2.2.2.2.2.2.2 = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_in_finite [hPre_in_finite : Cert.Pre_in_finite.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.2.2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.2.2.2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.2.2.2.2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.2.2.2.2.2.2.2.1 = (fun _ => 1#1)
    ∧ (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7)) (m ((c.tc : Thread Cert.BwdInRefIdeal.nD Cert.BwdInRefIdeal.τ).loc Cert.BwdInRefIdeal.main_arg8)) (m ((c.tc : Thread Cert.BwdInRefIdeal.nD Cert.BwdInRefIdeal.τ).loc Cert.BwdInRefIdeal.main_arg9)) (m ((c.tc : Thread Cert.BwdInRefIdeal.nD Cert.BwdInRefIdeal.τ).loc Cert.BwdInRefIdeal.main_arg10)) (m ((c.tc : Thread Cert.BwdInRefIdeal.nD Cert.BwdInRefIdeal.τ).loc Cert.BwdInRefIdeal.main_arg11)) (m ((c.tc : Thread Cert.BwdInRefIdeal.nD Cert.BwdInRefIdeal.τ).loc Cert.BwdInRefIdeal.main_arg12))).2.2.2.2.2.2.2.2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.2.2.2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.2.2 = (fun _ => 1#1)

def Pre_FwdUp (m : (ℓ : Loc Cert.FwdUp.nD Cert.FwdUp.τ Cert.FwdUp.sig) → Buf (Elt Bits) ℓ) : Prop :=
  True

def Pre_FwdUpIdeal (m : (ℓ : Loc Cert.FwdUpIdeal.nD Cert.FwdUpIdeal.τ Cert.FwdUpIdeal.sig) → Buf (Elt Ideal) ℓ) : Prop :=
  True

def Pre_FwdUpRefIdeal (m : (ℓ : Loc Cert.FwdUpRefIdeal.nD Cert.FwdUpRefIdeal.τ Cert.FwdUpRefIdeal.sig) → Buf (Elt Ideal) ℓ) : Prop :=
  True

def Pre_FwdDown (m : (ℓ : Loc Cert.FwdDown.nD Cert.FwdDown.τ Cert.FwdDown.sig) → Buf (Elt Bits) ℓ) : Prop :=
  True

def Pre_FwdDownIdeal (m : (ℓ : Loc Cert.FwdDownIdeal.nD Cert.FwdDownIdeal.τ Cert.FwdDownIdeal.sig) → Buf (Elt Ideal) ℓ) : Prop :=
  True

def Pre_FwdDownRefIdeal (m : (ℓ : Loc Cert.FwdDownRefIdeal.nD Cert.FwdDownRefIdeal.τ Cert.FwdDownRefIdeal.sig) → Buf (Elt Ideal) ℓ) : Prop :=
  True

def Pre_FwdMix (m : (ℓ : Loc Cert.FwdMix.nD Cert.FwdMix.τ Cert.FwdMix.sig) → Buf (Elt Bits) ℓ) : Prop :=
  True

def Pre_FwdMixIdeal (m : (ℓ : Loc Cert.FwdMixIdeal.nD Cert.FwdMixIdeal.τ Cert.FwdMixIdeal.sig) → Buf (Elt Ideal) ℓ) : Prop :=
  True

def Pre_FwdMixRefIdeal (m : (ℓ : Loc Cert.FwdMixRefIdeal.nD Cert.FwdMixRefIdeal.τ Cert.FwdMixRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2)
      ∧ r.2.mem ((c.tc : Thread Cert.MlpUp.nD Cert.MlpUp.τ).loc Cert.MlpUp.main_arg3) = m ((c.tc : Thread Cert.MlpUp.nD Cert.MlpUp.τ).loc Cert.MlpUp.main_arg3)
      ∧ r.2.mem ((c.tc : Thread Cert.MlpUp.nD Cert.MlpUp.τ).loc Cert.MlpUp.main_arg4) = m ((c.tc : Thread Cert.MlpUp.nD Cert.MlpUp.τ).loc Cert.MlpUp.main_arg4))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
      ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ r.2.sem = fun _ => 0)

def quiescent_MlpUpIdeal_pre_mlp_up_finite [hMlpUpIdeal : Cert.MlpUpIdeal.Facts] [hPre_mlp_up_finite : Cert.Pre_mlp_up_finite.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal_mlp_up_finite m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
      ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2)
      ∧ r.2.mem ((c.tc : Thread Cert.MlpUpRefIdeal.nD Cert.MlpUpRefIdeal.τ).loc Cert.MlpUpRefIdeal.main_arg3) = m ((c.tc : Thread Cert.MlpUpRefIdeal.nD Cert.MlpUpRefIdeal.τ).loc Cert.MlpUpRefIdeal.main_arg3)
      ∧ r.2.mem ((c.tc : Thread Cert.MlpUpRefIdeal.nD Cert.MlpUpRefIdeal.τ).loc Cert.MlpUpRefIdeal.main_arg4) = m ((c.tc : Thread Cert.MlpUpRefIdeal.nD Cert.MlpUpRefIdeal.τ).loc Cert.MlpUpRefIdeal.main_arg4))
      ∧ r.2.sem = fun _ => 0)

def quiescent_MlpUpRefIdeal_pre_mlp_up_finite [hMlpUpRefIdeal : Cert.MlpUpRefIdeal.Facts] [hPre_mlp_up_finite : Cert.Pre_mlp_up_finite.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal_mlp_up_finite m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2)
      ∧ r.2.mem ((c.tc : Thread Cert.MlpUpRefIdeal.nD Cert.MlpUpRefIdeal.τ).loc Cert.MlpUpRefIdeal.main_arg3) = m ((c.tc : Thread Cert.MlpUpRefIdeal.nD Cert.MlpUpRefIdeal.τ).loc Cert.MlpUpRefIdeal.main_arg3)
      ∧ r.2.mem ((c.tc : Thread Cert.MlpUpRefIdeal.nD Cert.MlpUpRefIdeal.τ).loc Cert.MlpUpRefIdeal.main_arg4) = m ((c.tc : Thread Cert.MlpUpRefIdeal.nD Cert.MlpUpRefIdeal.τ).loc Cert.MlpUpRefIdeal.main_arg4))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownIdeal_pre_mlp_down_finite [hMlpDownIdeal : Cert.MlpDownIdeal.Facts] [hPre_mlp_down_finite : Cert.Pre_mlp_down_finite.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal_mlp_down_finite m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_MlpDownRefIdeal_pre_mlp_down_finite [hMlpDownRefIdeal : Cert.MlpDownRefIdeal.Facts] [hPre_mlp_down_finite : Cert.Pre_mlp_down_finite.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal_mlp_down_finite m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5)
      ∧ r.2.mem ((c.tc : Thread Cert.BwdIn.nD Cert.BwdIn.τ).loc Cert.BwdIn.main_arg6) = m ((c.tc : Thread Cert.BwdIn.nD Cert.BwdIn.τ).loc Cert.BwdIn.main_arg6)
      ∧ r.2.mem ((c.tc : Thread Cert.BwdIn.nD Cert.BwdIn.τ).loc Cert.BwdIn.main_arg7) = m ((c.tc : Thread Cert.BwdIn.nD Cert.BwdIn.τ).loc Cert.BwdIn.main_arg7)
      ∧ r.2.mem ((c.tc : Thread Cert.BwdIn.nD Cert.BwdIn.τ).loc Cert.BwdIn.main_arg8) = m ((c.tc : Thread Cert.BwdIn.nD Cert.BwdIn.τ).loc Cert.BwdIn.main_arg8)
      ∧ r.2.mem ((c.tc : Thread Cert.BwdIn.nD Cert.BwdIn.τ).loc Cert.BwdIn.main_arg9) = m ((c.tc : Thread Cert.BwdIn.nD Cert.BwdIn.τ).loc Cert.BwdIn.main_arg9)
      ∧ r.2.mem ((c.tc : Thread Cert.BwdIn.nD Cert.BwdIn.τ).loc Cert.BwdIn.main_arg10) = m ((c.tc : Thread Cert.BwdIn.nD Cert.BwdIn.τ).loc Cert.BwdIn.main_arg10)
      ∧ r.2.mem ((c.tc : Thread Cert.BwdIn.nD Cert.BwdIn.τ).loc Cert.BwdIn.main_arg11) = m ((c.tc : Thread Cert.BwdIn.nD Cert.BwdIn.τ).loc Cert.BwdIn.main_arg11)
      ∧ r.2.mem ((c.tc : Thread Cert.BwdIn.nD Cert.BwdIn.τ).loc Cert.BwdIn.main_arg12) = m ((c.tc : Thread Cert.BwdIn.nD Cert.BwdIn.τ).loc Cert.BwdIn.main_arg12))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
      ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
      ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8)
      ∧ r.2.mem ((c.tc : Thread Cert.BwdInIdeal.nD Cert.BwdInIdeal.τ).loc Cert.BwdInIdeal.main_arg9) = m ((c.tc : Thread Cert.BwdInIdeal.nD Cert.BwdInIdeal.τ).loc Cert.BwdInIdeal.main_arg9)
      ∧ r.2.mem ((c.tc : Thread Cert.BwdInIdeal.nD Cert.BwdInIdeal.τ).loc Cert.BwdInIdeal.main_arg10) = m ((c.tc : Thread Cert.BwdInIdeal.nD Cert.BwdInIdeal.τ).loc Cert.BwdInIdeal.main_arg10)
      ∧ r.2.mem ((c.tc : Thread Cert.BwdInIdeal.nD Cert.BwdInIdeal.τ).loc Cert.BwdInIdeal.main_arg11) = m ((c.tc : Thread Cert.BwdInIdeal.nD Cert.BwdInIdeal.τ).loc Cert.BwdInIdeal.main_arg11)
      ∧ r.2.mem ((c.tc : Thread Cert.BwdInIdeal.nD Cert.BwdInIdeal.τ).loc Cert.BwdInIdeal.main_arg12) = m ((c.tc : Thread Cert.BwdInIdeal.nD Cert.BwdInIdeal.τ).loc Cert.BwdInIdeal.main_arg12))
      ∧ r.2.sem = fun _ => 0)

def quiescent_BwdInIdeal_pre_in_finite [hBwdInIdeal : Cert.BwdInIdeal.Facts] [hPre_in_finite : Cert.Pre_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_in_finite m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
      ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
      ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8)
      ∧ r.2.mem ((c.tc : Thread Cert.BwdInIdeal.nD Cert.BwdInIdeal.τ).loc Cert.BwdInIdeal.main_arg9) = m ((c.tc : Thread Cert.BwdInIdeal.nD Cert.BwdInIdeal.τ).loc Cert.BwdInIdeal.main_arg9)
      ∧ r.2.mem ((c.tc : Thread Cert.BwdInIdeal.nD Cert.BwdInIdeal.τ).loc Cert.BwdInIdeal.main_arg10) = m ((c.tc : Thread Cert.BwdInIdeal.nD Cert.BwdInIdeal.τ).loc Cert.BwdInIdeal.main_arg10)
      ∧ r.2.mem ((c.tc : Thread Cert.BwdInIdeal.nD Cert.BwdInIdeal.τ).loc Cert.BwdInIdeal.main_arg11) = m ((c.tc : Thread Cert.BwdInIdeal.nD Cert.BwdInIdeal.τ).loc Cert.BwdInIdeal.main_arg11)
      ∧ r.2.mem ((c.tc : Thread Cert.BwdInIdeal.nD Cert.BwdInIdeal.τ).loc Cert.BwdInIdeal.main_arg12) = m ((c.tc : Thread Cert.BwdInIdeal.nD Cert.BwdInIdeal.τ).loc Cert.BwdInIdeal.main_arg12))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6)
      ∧ r.2.mem ((c.tc : Thread Cert.BwdInRefIdeal.nD Cert.BwdInRefIdeal.τ).loc Cert.BwdInRefIdeal.main_arg7) = m ((c.tc : Thread Cert.BwdInRefIdeal.nD Cert.BwdInRefIdeal.τ).loc Cert.BwdInRefIdeal.main_arg7)
      ∧ r.2.mem ((c.tc : Thread Cert.BwdInRefIdeal.nD Cert.BwdInRefIdeal.τ).loc Cert.BwdInRefIdeal.main_arg8) = m ((c.tc : Thread Cert.BwdInRefIdeal.nD Cert.BwdInRefIdeal.τ).loc Cert.BwdInRefIdeal.main_arg8)
      ∧ r.2.mem ((c.tc : Thread Cert.BwdInRefIdeal.nD Cert.BwdInRefIdeal.τ).loc Cert.BwdInRefIdeal.main_arg9) = m ((c.tc : Thread Cert.BwdInRefIdeal.nD Cert.BwdInRefIdeal.τ).loc Cert.BwdInRefIdeal.main_arg9)
      ∧ r.2.mem ((c.tc : Thread Cert.BwdInRefIdeal.nD Cert.BwdInRefIdeal.τ).loc Cert.BwdInRefIdeal.main_arg10) = m ((c.tc : Thread Cert.BwdInRefIdeal.nD Cert.BwdInRefIdeal.τ).loc Cert.BwdInRefIdeal.main_arg10)
      ∧ r.2.mem ((c.tc : Thread Cert.BwdInRefIdeal.nD Cert.BwdInRefIdeal.τ).loc Cert.BwdInRefIdeal.main_arg11) = m ((c.tc : Thread Cert.BwdInRefIdeal.nD Cert.BwdInRefIdeal.τ).loc Cert.BwdInRefIdeal.main_arg11)
      ∧ r.2.mem ((c.tc : Thread Cert.BwdInRefIdeal.nD Cert.BwdInRefIdeal.τ).loc Cert.BwdInRefIdeal.main_arg12) = m ((c.tc : Thread Cert.BwdInRefIdeal.nD Cert.BwdInRefIdeal.τ).loc Cert.BwdInRefIdeal.main_arg12))
      ∧ r.2.sem = fun _ => 0)

def quiescent_BwdInRefIdeal_pre_in_finite [hBwdInRefIdeal : Cert.BwdInRefIdeal.Facts] [hPre_in_finite : Cert.Pre_in_finite.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_in_finite m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6)
      ∧ r.2.mem ((c.tc : Thread Cert.BwdInRefIdeal.nD Cert.BwdInRefIdeal.τ).loc Cert.BwdInRefIdeal.main_arg7) = m ((c.tc : Thread Cert.BwdInRefIdeal.nD Cert.BwdInRefIdeal.τ).loc Cert.BwdInRefIdeal.main_arg7)
      ∧ r.2.mem ((c.tc : Thread Cert.BwdInRefIdeal.nD Cert.BwdInRefIdeal.τ).loc Cert.BwdInRefIdeal.main_arg8) = m ((c.tc : Thread Cert.BwdInRefIdeal.nD Cert.BwdInRefIdeal.τ).loc Cert.BwdInRefIdeal.main_arg8)
      ∧ r.2.mem ((c.tc : Thread Cert.BwdInRefIdeal.nD Cert.BwdInRefIdeal.τ).loc Cert.BwdInRefIdeal.main_arg9) = m ((c.tc : Thread Cert.BwdInRefIdeal.nD Cert.BwdInRefIdeal.τ).loc Cert.BwdInRefIdeal.main_arg9)
      ∧ r.2.mem ((c.tc : Thread Cert.BwdInRefIdeal.nD Cert.BwdInRefIdeal.τ).loc Cert.BwdInRefIdeal.main_arg10) = m ((c.tc : Thread Cert.BwdInRefIdeal.nD Cert.BwdInRefIdeal.τ).loc Cert.BwdInRefIdeal.main_arg10)
      ∧ r.2.mem ((c.tc : Thread Cert.BwdInRefIdeal.nD Cert.BwdInRefIdeal.τ).loc Cert.BwdInRefIdeal.main_arg11) = m ((c.tc : Thread Cert.BwdInRefIdeal.nD Cert.BwdInRefIdeal.τ).loc Cert.BwdInRefIdeal.main_arg11)
      ∧ r.2.mem ((c.tc : Thread Cert.BwdInRefIdeal.nD Cert.BwdInRefIdeal.τ).loc Cert.BwdInRefIdeal.main_arg12) = m ((c.tc : Thread Cert.BwdInRefIdeal.nD Cert.BwdInRefIdeal.τ).loc Cert.BwdInRefIdeal.main_arg12))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_FwdUp [hFwdUp : Cert.FwdUp.Facts] : Prop :=
  ∀ (m : (ℓ : Loc Cert.FwdUp.nD Cert.FwdUp.τ Cert.FwdUp.sig) → Buf (Elt Bits) ℓ) (g : Dev Cert.FwdUp.nD → PrngReg), Pre_FwdUp m →
    θ_run (Cert.FwdUp.defs (F := Bits)) (onTc (τ := Cert.FwdUp.τ) (Cert.FwdUp.main (F := Bits))) ⟨m, fun _ => 0, g⟩ (fun r => (∀ c : Dev Cert.FwdUp.nD,
      r.2.mem ((c.tc : Thread Cert.FwdUp.nD Cert.FwdUp.τ).loc Cert.FwdUp.main_arg0) = m ((c.tc : Thread Cert.FwdUp.nD Cert.FwdUp.τ).loc Cert.FwdUp.main_arg0)
      ∧ r.2.mem ((c.tc : Thread Cert.FwdUp.nD Cert.FwdUp.τ).loc Cert.FwdUp.main_arg1) = m ((c.tc : Thread Cert.FwdUp.nD Cert.FwdUp.τ).loc Cert.FwdUp.main_arg1)
      ∧ r.2.mem ((c.tc : Thread Cert.FwdUp.nD Cert.FwdUp.τ).loc Cert.FwdUp.main_arg2) = m ((c.tc : Thread Cert.FwdUp.nD Cert.FwdUp.τ).loc Cert.FwdUp.main_arg2))
      ∧ r.2.sem = fun _ => 0)

def quiescent_FwdUpIdeal [hFwdUpIdeal : Cert.FwdUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1)
      ∧ r.2.mem ((c.tc : Thread Cert.FwdUpIdeal.nD Cert.FwdUpIdeal.τ).loc Cert.FwdUpIdeal.main_arg2) = m ((c.tc : Thread Cert.FwdUpIdeal.nD Cert.FwdUpIdeal.τ).loc Cert.FwdUpIdeal.main_arg2))
      ∧ r.2.sem = fun _ => 0)

def quiescent_FwdUpRefIdeal [hFwdUpRefIdeal : Cert.FwdUpRefIdeal.Facts] : Prop :=
  ∀ (m : (ℓ : Loc Cert.FwdUpRefIdeal.nD Cert.FwdUpRefIdeal.τ Cert.FwdUpRefIdeal.sig) → Buf (Elt Ideal) ℓ) (g : Dev Cert.FwdUpRefIdeal.nD → PrngReg), Pre_FwdUpRefIdeal m →
    θ_run (Cert.FwdUpRefIdeal.defs (F := Ideal)) (onTc (τ := Cert.FwdUpRefIdeal.τ) (Cert.FwdUpRefIdeal.main (F := Ideal))) ⟨m, fun _ => 0, g⟩ (fun r => (∀ c : Dev Cert.FwdUpRefIdeal.nD,
      r.2.mem ((c.tc : Thread Cert.FwdUpRefIdeal.nD Cert.FwdUpRefIdeal.τ).loc Cert.FwdUpRefIdeal.main_arg0) = m ((c.tc : Thread Cert.FwdUpRefIdeal.nD Cert.FwdUpRefIdeal.τ).loc Cert.FwdUpRefIdeal.main_arg0)
      ∧ r.2.mem ((c.tc : Thread Cert.FwdUpRefIdeal.nD Cert.FwdUpRefIdeal.τ).loc Cert.FwdUpRefIdeal.main_arg1) = m ((c.tc : Thread Cert.FwdUpRefIdeal.nD Cert.FwdUpRefIdeal.τ).loc Cert.FwdUpRefIdeal.main_arg1)
      ∧ r.2.mem ((c.tc : Thread Cert.FwdUpRefIdeal.nD Cert.FwdUpRefIdeal.τ).loc Cert.FwdUpRefIdeal.main_arg2) = m ((c.tc : Thread Cert.FwdUpRefIdeal.nD Cert.FwdUpRefIdeal.τ).loc Cert.FwdUpRefIdeal.main_arg2))
      ∧ r.2.sem = fun _ => 0)

def quiescent_FwdDown [hFwdDown : Cert.FwdDown.Facts] : Prop :=
  ∀ (m : (ℓ : Loc Cert.FwdDown.nD Cert.FwdDown.τ Cert.FwdDown.sig) → Buf (Elt Bits) ℓ) (g : Dev Cert.FwdDown.nD → PrngReg), Pre_FwdDown m →
    θ_run (Cert.FwdDown.defs (F := Bits)) (onTc (τ := Cert.FwdDown.τ) (Cert.FwdDown.main (F := Bits))) ⟨m, fun _ => 0, g⟩ (fun r => (∀ c : Dev Cert.FwdDown.nD,
      r.2.mem ((c.tc : Thread Cert.FwdDown.nD Cert.FwdDown.τ).loc Cert.FwdDown.main_arg0) = m ((c.tc : Thread Cert.FwdDown.nD Cert.FwdDown.τ).loc Cert.FwdDown.main_arg0)
      ∧ r.2.mem ((c.tc : Thread Cert.FwdDown.nD Cert.FwdDown.τ).loc Cert.FwdDown.main_arg1) = m ((c.tc : Thread Cert.FwdDown.nD Cert.FwdDown.τ).loc Cert.FwdDown.main_arg1)
      ∧ r.2.mem ((c.tc : Thread Cert.FwdDown.nD Cert.FwdDown.τ).loc Cert.FwdDown.main_arg2) = m ((c.tc : Thread Cert.FwdDown.nD Cert.FwdDown.τ).loc Cert.FwdDown.main_arg2)
      ∧ r.2.mem ((c.tc : Thread Cert.FwdDown.nD Cert.FwdDown.τ).loc Cert.FwdDown.main_arg3) = m ((c.tc : Thread Cert.FwdDown.nD Cert.FwdDown.τ).loc Cert.FwdDown.main_arg3))
      ∧ r.2.sem = fun _ => 0)

def quiescent_FwdDownIdeal [hFwdDownIdeal : Cert.FwdDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg), Pre_FwdDownIdeal m →
    θ_run (Cert.FwdDownIdeal.defs (F := Ideal)) (onTc (τ := Cert.FwdDownIdeal.τ) (Cert.FwdDownIdeal.main (F := Ideal))) ⟨m, fun _ => 0, g⟩ (fun r => (∀ c : Dev Cert.FwdDownIdeal.nD,
      r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
      ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
      ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2)
      ∧ r.2.mem ((c.tc : Thread Cert.FwdDownIdeal.nD Cert.FwdDownIdeal.τ).loc Cert.FwdDownIdeal.main_arg3) = m ((c.tc : Thread Cert.FwdDownIdeal.nD Cert.FwdDownIdeal.τ).loc Cert.FwdDownIdeal.main_arg3))
      ∧ r.2.sem = fun _ => 0)

def quiescent_FwdDownRefIdeal [hFwdDownRefIdeal : Cert.FwdDownRefIdeal.Facts] : Prop :=
  ∀ (m : (ℓ : Loc Cert.FwdDownRefIdeal.nD Cert.FwdDownRefIdeal.τ Cert.FwdDownRefIdeal.sig) → Buf (Elt Ideal) ℓ) (g : Dev Cert.FwdDownRefIdeal.nD → PrngReg), Pre_FwdDownRefIdeal m →
    θ_run (Cert.FwdDownRefIdeal.defs (F := Ideal)) (onTc (τ := Cert.FwdDownRefIdeal.τ) (Cert.FwdDownRefIdeal.main (F := Ideal))) ⟨m, fun _ => 0, g⟩ (fun r => (∀ c : Dev Cert.FwdDownRefIdeal.nD,
      r.2.mem ((c.tc : Thread Cert.FwdDownRefIdeal.nD Cert.FwdDownRefIdeal.τ).loc Cert.FwdDownRefIdeal.main_arg0) = m ((c.tc : Thread Cert.FwdDownRefIdeal.nD Cert.FwdDownRefIdeal.τ).loc Cert.FwdDownRefIdeal.main_arg0)
      ∧ r.2.mem ((c.tc : Thread Cert.FwdDownRefIdeal.nD Cert.FwdDownRefIdeal.τ).loc Cert.FwdDownRefIdeal.main_arg1) = m ((c.tc : Thread Cert.FwdDownRefIdeal.nD Cert.FwdDownRefIdeal.τ).loc Cert.FwdDownRefIdeal.main_arg1)
      ∧ r.2.mem ((c.tc : Thread Cert.FwdDownRefIdeal.nD Cert.FwdDownRefIdeal.τ).loc Cert.FwdDownRefIdeal.main_arg2) = m ((c.tc : Thread Cert.FwdDownRefIdeal.nD Cert.FwdDownRefIdeal.τ).loc Cert.FwdDownRefIdeal.main_arg2)
      ∧ r.2.mem ((c.tc : Thread Cert.FwdDownRefIdeal.nD Cert.FwdDownRefIdeal.τ).loc Cert.FwdDownRefIdeal.main_arg3) = m ((c.tc : Thread Cert.FwdDownRefIdeal.nD Cert.FwdDownRefIdeal.τ).loc Cert.FwdDownRefIdeal.main_arg3))
      ∧ r.2.sem = fun _ => 0)

def quiescent_FwdMix [hFwdMix : Cert.FwdMix.Facts] : Prop :=
  ∀ (m : (ℓ : Loc Cert.FwdMix.nD Cert.FwdMix.τ Cert.FwdMix.sig) → Buf (Elt Bits) ℓ) (g : Dev Cert.FwdMix.nD → PrngReg), Pre_FwdMix m →
    θ_run (Cert.FwdMix.defs (F := Bits)) (onTc (τ := Cert.FwdMix.τ) (Cert.FwdMix.main (F := Bits))) ⟨m, fun _ => 0, g⟩ (fun r => (∀ c : Dev Cert.FwdMix.nD,
      r.2.mem ((c.tc : Thread Cert.FwdMix.nD Cert.FwdMix.τ).loc Cert.FwdMix.main_arg0) = m ((c.tc : Thread Cert.FwdMix.nD Cert.FwdMix.τ).loc Cert.FwdMix.main_arg0)
      ∧ r.2.mem ((c.tc : Thread Cert.FwdMix.nD Cert.FwdMix.τ).loc Cert.FwdMix.main_arg1) = m ((c.tc : Thread Cert.FwdMix.nD Cert.FwdMix.τ).loc Cert.FwdMix.main_arg1)
      ∧ r.2.mem ((c.tc : Thread Cert.FwdMix.nD Cert.FwdMix.τ).loc Cert.FwdMix.main_arg2) = m ((c.tc : Thread Cert.FwdMix.nD Cert.FwdMix.τ).loc Cert.FwdMix.main_arg2)
      ∧ r.2.mem ((c.tc : Thread Cert.FwdMix.nD Cert.FwdMix.τ).loc Cert.FwdMix.main_arg3) = m ((c.tc : Thread Cert.FwdMix.nD Cert.FwdMix.τ).loc Cert.FwdMix.main_arg3)
      ∧ r.2.mem ((c.tc : Thread Cert.FwdMix.nD Cert.FwdMix.τ).loc Cert.FwdMix.main_arg4) = m ((c.tc : Thread Cert.FwdMix.nD Cert.FwdMix.τ).loc Cert.FwdMix.main_arg4)
      ∧ r.2.mem ((c.tc : Thread Cert.FwdMix.nD Cert.FwdMix.τ).loc Cert.FwdMix.main_arg5) = m ((c.tc : Thread Cert.FwdMix.nD Cert.FwdMix.τ).loc Cert.FwdMix.main_arg5)
      ∧ r.2.mem ((c.tc : Thread Cert.FwdMix.nD Cert.FwdMix.τ).loc Cert.FwdMix.main_arg6) = m ((c.tc : Thread Cert.FwdMix.nD Cert.FwdMix.τ).loc Cert.FwdMix.main_arg6)
      ∧ r.2.mem ((c.tc : Thread Cert.FwdMix.nD Cert.FwdMix.τ).loc Cert.FwdMix.main_arg7) = m ((c.tc : Thread Cert.FwdMix.nD Cert.FwdMix.τ).loc Cert.FwdMix.main_arg7))
      ∧ r.2.sem = fun _ => 0)

def quiescent_FwdMixIdeal [hFwdMixIdeal : Cert.FwdMixIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7))
      ∧ r.2.sem = fun _ => 0)

def quiescent_FwdMixRefIdeal [hFwdMixRefIdeal : Cert.FwdMixRefIdeal.Facts] : Prop :=
  ∀ (m : (ℓ : Loc Cert.FwdMixRefIdeal.nD Cert.FwdMixRefIdeal.τ Cert.FwdMixRefIdeal.sig) → Buf (Elt Ideal) ℓ) (g : Dev Cert.FwdMixRefIdeal.nD → PrngReg), Pre_FwdMixRefIdeal m →
    θ_run (Cert.FwdMixRefIdeal.defs (F := Ideal)) (onTc (τ := Cert.FwdMixRefIdeal.τ) (Cert.FwdMixRefIdeal.main (F := Ideal))) ⟨m, fun _ => 0, g⟩ (fun r => (∀ c : Dev Cert.FwdMixRefIdeal.nD,
      r.2.mem ((c.tc : Thread Cert.FwdMixRefIdeal.nD Cert.FwdMixRefIdeal.τ).loc Cert.FwdMixRefIdeal.main_arg0) = m ((c.tc : Thread Cert.FwdMixRefIdeal.nD Cert.FwdMixRefIdeal.τ).loc Cert.FwdMixRefIdeal.main_arg0)
      ∧ r.2.mem ((c.tc : Thread Cert.FwdMixRefIdeal.nD Cert.FwdMixRefIdeal.τ).loc Cert.FwdMixRefIdeal.main_arg1) = m ((c.tc : Thread Cert.FwdMixRefIdeal.nD Cert.FwdMixRefIdeal.τ).loc Cert.FwdMixRefIdeal.main_arg1)
      ∧ r.2.mem ((c.tc : Thread Cert.FwdMixRefIdeal.nD Cert.FwdMixRefIdeal.τ).loc Cert.FwdMixRefIdeal.main_arg2) = m ((c.tc : Thread Cert.FwdMixRefIdeal.nD Cert.FwdMixRefIdeal.τ).loc Cert.FwdMixRefIdeal.main_arg2)
      ∧ r.2.mem ((c.tc : Thread Cert.FwdMixRefIdeal.nD Cert.FwdMixRefIdeal.τ).loc Cert.FwdMixRefIdeal.main_arg3) = m ((c.tc : Thread Cert.FwdMixRefIdeal.nD Cert.FwdMixRefIdeal.τ).loc Cert.FwdMixRefIdeal.main_arg3)
      ∧ r.2.mem ((c.tc : Thread Cert.FwdMixRefIdeal.nD Cert.FwdMixRefIdeal.τ).loc Cert.FwdMixRefIdeal.main_arg4) = m ((c.tc : Thread Cert.FwdMixRefIdeal.nD Cert.FwdMixRefIdeal.τ).loc Cert.FwdMixRefIdeal.main_arg4)
      ∧ r.2.mem ((c.tc : Thread Cert.FwdMixRefIdeal.nD Cert.FwdMixRefIdeal.τ).loc Cert.FwdMixRefIdeal.main_arg5) = m ((c.tc : Thread Cert.FwdMixRefIdeal.nD Cert.FwdMixRefIdeal.τ).loc Cert.FwdMixRefIdeal.main_arg5)
      ∧ r.2.mem ((c.tc : Thread Cert.FwdMixRefIdeal.nD Cert.FwdMixRefIdeal.τ).loc Cert.FwdMixRefIdeal.main_arg6) = m ((c.tc : Thread Cert.FwdMixRefIdeal.nD Cert.FwdMixRefIdeal.τ).loc Cert.FwdMixRefIdeal.main_arg6)
      ∧ r.2.mem ((c.tc : Thread Cert.FwdMixRefIdeal.nD Cert.FwdMixRefIdeal.τ).loc Cert.FwdMixRefIdeal.main_arg7) = m ((c.tc : Thread Cert.FwdMixRefIdeal.nD Cert.FwdMixRefIdeal.τ).loc Cert.FwdMixRefIdeal.main_arg7))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def preserves_MlpUp_MlpUpIdeal : Prop :=
  True

def algebraic_MlpUpIdeal_MlpUpRefIdeal_pre_mlp_up_finite [hMlpUpIdeal : Cert.MlpUpIdeal.Facts] [hMlpUpRefIdeal : Cert.MlpUpRefIdeal.Facts] [hPre_mlp_up_finite : Cert.Pre_mlp_up_finite.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal_mlp_up_finite m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)
      ∧ m' ((c.tc : Thread Cert.MlpUpRefIdeal.nD Cert.MlpUpRefIdeal.τ).loc Cert.MlpUpRefIdeal.main_arg3) = m ((c.tc : Thread Cert.MlpUpIdeal.nD Cert.MlpUpIdeal.τ).loc Cert.MlpUpIdeal.main_arg3)
      ∧ m' ((c.tc : Thread Cert.MlpUpRefIdeal.nD Cert.MlpUpRefIdeal.τ).loc Cert.MlpUpRefIdeal.main_arg4) = m ((c.tc : Thread Cert.MlpUpIdeal.nD Cert.MlpUpIdeal.τ).loc Cert.MlpUpIdeal.main_arg4)) →
    ∃ (v0 : (c : Dev Cert.MlpUpIdeal.nD) → Buf (Elt Ideal) ((c.tc : Thread Cert.MlpUpIdeal.nD Cert.MlpUpIdeal.τ).loc Cert.MlpUpIdeal.main_v11_0)) (v1 : (c : Dev Cert.MlpUpIdeal.nD) → Buf (Elt Ideal) ((c.tc : Thread Cert.MlpUpIdeal.nD Cert.MlpUpIdeal.τ).loc Cert.MlpUpIdeal.main_v11_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v11_0) = v0 c
          ∧ r.2.mem ((c.tc : Thread Cert.MlpUpIdeal.nD Cert.MlpUpIdeal.τ).loc Cert.MlpUpIdeal.main_v11_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
          ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
          ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v41) = v0 c
          ∧ r.2.mem ((c.tc : Thread Cert.MlpUpRefIdeal.nD Cert.MlpUpRefIdeal.τ).loc Cert.MlpUpRefIdeal.main_v42) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2)
          ∧ r.2.mem ((c.tc : Thread Cert.MlpUpRefIdeal.nD Cert.MlpUpRefIdeal.τ).loc Cert.MlpUpRefIdeal.main_arg3) = m' ((c.tc : Thread Cert.MlpUpRefIdeal.nD Cert.MlpUpRefIdeal.τ).loc Cert.MlpUpRefIdeal.main_arg3)
          ∧ r.2.mem ((c.tc : Thread Cert.MlpUpRefIdeal.nD Cert.MlpUpRefIdeal.τ).loc Cert.MlpUpRefIdeal.main_arg4) = m' ((c.tc : Thread Cert.MlpUpRefIdeal.nD Cert.MlpUpRefIdeal.τ).loc Cert.MlpUpRefIdeal.main_arg4))

def preserves_MlpDown_MlpDownIdeal : Prop :=
  True

def algebraic_MlpDownIdeal_MlpDownRefIdeal_pre_mlp_down_finite [hMlpDownIdeal : Cert.MlpDownIdeal.Facts] [hMlpDownRefIdeal : Cert.MlpDownRefIdeal.Facts] [hPre_mlp_down_finite : Cert.Pre_mlp_down_finite.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal_mlp_down_finite m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v6_0)) (v1 : (c : Dev Cert.MlpDownIdeal.nD) → Buf (Elt Ideal) ((c.tc : Thread Cert.MlpDownIdeal.nD Cert.MlpDownIdeal.τ).loc Cert.MlpDownIdeal.main_v6_1)) (v2 : (c : Dev Cert.MlpDownIdeal.nD) → Buf (Elt Ideal) ((c.tc : Thread Cert.MlpDownIdeal.nD Cert.MlpDownIdeal.τ).loc Cert.MlpDownIdeal.main_v6_2)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v6_0) = v0 c
          ∧ r.2.mem ((c.tc : Thread Cert.MlpDownIdeal.nD Cert.MlpDownIdeal.τ).loc Cert.MlpDownIdeal.main_v6_1) = v1 c
          ∧ r.2.mem ((c.tc : Thread Cert.MlpDownIdeal.nD Cert.MlpDownIdeal.τ).loc Cert.MlpDownIdeal.main_v6_2) = v2 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v50) = v0 c
          ∧ r.2.mem ((c.tc : Thread Cert.MlpDownRefIdeal.nD Cert.MlpDownRefIdeal.τ).loc Cert.MlpDownRefIdeal.main_v51) = v1 c
          ∧ r.2.mem ((c.tc : Thread Cert.MlpDownRefIdeal.nD Cert.MlpDownRefIdeal.τ).loc Cert.MlpDownRefIdeal.main_v45) = v2 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_BwdIn_BwdInIdeal : Prop :=
  True

def algebraic_BwdInIdeal_BwdInRefIdeal_pre_in_finite [hBwdInIdeal : Cert.BwdInIdeal.Facts] [hBwdInRefIdeal : Cert.BwdInRefIdeal.Facts] [hPre_in_finite : Cert.Pre_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_in_finite m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)
      ∧ m' ((c.tc : Thread Cert.BwdInRefIdeal.nD Cert.BwdInRefIdeal.τ).loc Cert.BwdInRefIdeal.main_arg6) = m ((c.tc : Thread Cert.BwdInIdeal.nD Cert.BwdInIdeal.τ).loc Cert.BwdInIdeal.main_arg6)
      ∧ m' ((c.tc : Thread Cert.BwdInRefIdeal.nD Cert.BwdInRefIdeal.τ).loc Cert.BwdInRefIdeal.main_arg7) = m ((c.tc : Thread Cert.BwdInIdeal.nD Cert.BwdInIdeal.τ).loc Cert.BwdInIdeal.main_arg7)
      ∧ m' ((c.tc : Thread Cert.BwdInRefIdeal.nD Cert.BwdInRefIdeal.τ).loc Cert.BwdInRefIdeal.main_arg8) = m ((c.tc : Thread Cert.BwdInIdeal.nD Cert.BwdInIdeal.τ).loc Cert.BwdInIdeal.main_arg8)
      ∧ m' ((c.tc : Thread Cert.BwdInRefIdeal.nD Cert.BwdInRefIdeal.τ).loc Cert.BwdInRefIdeal.main_arg9) = m ((c.tc : Thread Cert.BwdInIdeal.nD Cert.BwdInIdeal.τ).loc Cert.BwdInIdeal.main_arg9)
      ∧ m' ((c.tc : Thread Cert.BwdInRefIdeal.nD Cert.BwdInRefIdeal.τ).loc Cert.BwdInRefIdeal.main_arg10) = m ((c.tc : Thread Cert.BwdInIdeal.nD Cert.BwdInIdeal.τ).loc Cert.BwdInIdeal.main_arg10)
      ∧ m' ((c.tc : Thread Cert.BwdInRefIdeal.nD Cert.BwdInRefIdeal.τ).loc Cert.BwdInRefIdeal.main_arg11) = m ((c.tc : Thread Cert.BwdInIdeal.nD Cert.BwdInIdeal.τ).loc Cert.BwdInIdeal.main_arg11)
      ∧ m' ((c.tc : Thread Cert.BwdInRefIdeal.nD Cert.BwdInRefIdeal.τ).loc Cert.BwdInRefIdeal.main_arg12) = m ((c.tc : Thread Cert.BwdInIdeal.nD Cert.BwdInIdeal.τ).loc Cert.BwdInIdeal.main_arg12)) →
    ∃ (v0 : (c : Dev Cert.BwdInIdeal.nD) → Buf (Elt Ideal) ((c.tc : Thread Cert.BwdInIdeal.nD Cert.BwdInIdeal.τ).loc Cert.BwdInIdeal.main_v41_0)) (v1 : (c : Dev Cert.BwdInIdeal.nD) → Buf (Elt Ideal) ((c.tc : Thread Cert.BwdInIdeal.nD Cert.BwdInIdeal.τ).loc Cert.BwdInIdeal.main_v41_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v41_0) = v0 c
          ∧ r.2.mem ((c.tc : Thread Cert.BwdInIdeal.nD Cert.BwdInIdeal.τ).loc Cert.BwdInIdeal.main_v41_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
          ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
          ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
          ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8)
          ∧ r.2.mem ((c.tc : Thread Cert.BwdInIdeal.nD Cert.BwdInIdeal.τ).loc Cert.BwdInIdeal.main_arg9) = m ((c.tc : Thread Cert.BwdInIdeal.nD Cert.BwdInIdeal.τ).loc Cert.BwdInIdeal.main_arg9)
          ∧ r.2.mem ((c.tc : Thread Cert.BwdInIdeal.nD Cert.BwdInIdeal.τ).loc Cert.BwdInIdeal.main_arg10) = m ((c.tc : Thread Cert.BwdInIdeal.nD Cert.BwdInIdeal.τ).loc Cert.BwdInIdeal.main_arg10)
          ∧ r.2.mem ((c.tc : Thread Cert.BwdInIdeal.nD Cert.BwdInIdeal.τ).loc Cert.BwdInIdeal.main_arg11) = m ((c.tc : Thread Cert.BwdInIdeal.nD Cert.BwdInIdeal.τ).loc Cert.BwdInIdeal.main_arg11)
          ∧ r.2.mem ((c.tc : Thread Cert.BwdInIdeal.nD Cert.BwdInIdeal.τ).loc Cert.BwdInIdeal.main_arg12) = m ((c.tc : Thread Cert.BwdInIdeal.nD Cert.BwdInIdeal.τ).loc Cert.BwdInIdeal.main_arg12))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v51) = v0 c
          ∧ r.2.mem ((c.tc : Thread Cert.BwdInRefIdeal.nD Cert.BwdInRefIdeal.τ).loc Cert.BwdInRefIdeal.main_v52) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5)
          ∧ r.2.mem ((c.tc : Thread Cert.BwdInRefIdeal.nD Cert.BwdInRefIdeal.τ).loc Cert.BwdInRefIdeal.main_arg6) = m' ((c.tc : Thread Cert.BwdInRefIdeal.nD Cert.BwdInRefIdeal.τ).loc Cert.BwdInRefIdeal.main_arg6)
          ∧ r.2.mem ((c.tc : Thread Cert.BwdInRefIdeal.nD Cert.BwdInRefIdeal.τ).loc Cert.BwdInRefIdeal.main_arg7) = m' ((c.tc : Thread Cert.BwdInRefIdeal.nD Cert.BwdInRefIdeal.τ).loc Cert.BwdInRefIdeal.main_arg7)
          ∧ r.2.mem ((c.tc : Thread Cert.BwdInRefIdeal.nD Cert.BwdInRefIdeal.τ).loc Cert.BwdInRefIdeal.main_arg8) = m' ((c.tc : Thread Cert.BwdInRefIdeal.nD Cert.BwdInRefIdeal.τ).loc Cert.BwdInRefIdeal.main_arg8)
          ∧ r.2.mem ((c.tc : Thread Cert.BwdInRefIdeal.nD Cert.BwdInRefIdeal.τ).loc Cert.BwdInRefIdeal.main_arg9) = m' ((c.tc : Thread Cert.BwdInRefIdeal.nD Cert.BwdInRefIdeal.τ).loc Cert.BwdInRefIdeal.main_arg9)
          ∧ r.2.mem ((c.tc : Thread Cert.BwdInRefIdeal.nD Cert.BwdInRefIdeal.τ).loc Cert.BwdInRefIdeal.main_arg10) = m' ((c.tc : Thread Cert.BwdInRefIdeal.nD Cert.BwdInRefIdeal.τ).loc Cert.BwdInRefIdeal.main_arg10)
          ∧ r.2.mem ((c.tc : Thread Cert.BwdInRefIdeal.nD Cert.BwdInRefIdeal.τ).loc Cert.BwdInRefIdeal.main_arg11) = m' ((c.tc : Thread Cert.BwdInRefIdeal.nD Cert.BwdInRefIdeal.τ).loc Cert.BwdInRefIdeal.main_arg11)
          ∧ r.2.mem ((c.tc : Thread Cert.BwdInRefIdeal.nD Cert.BwdInRefIdeal.τ).loc Cert.BwdInRefIdeal.main_arg12) = m' ((c.tc : Thread Cert.BwdInRefIdeal.nD Cert.BwdInRefIdeal.τ).loc Cert.BwdInRefIdeal.main_arg12))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)) (v4 : (c : Dev Cert.PleIdeal.nD) → Buf (Elt Ideal) ((c.tc : Thread Cert.PleIdeal.nD Cert.PleIdeal.τ).loc Cert.PleIdeal.main_v2_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_v2_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v69) = v0 c
          ∧ r.2.mem ((c.tc : Thread Cert.PleRefIdeal.nD Cert.PleRefIdeal.τ).loc Cert.PleRefIdeal.main_v71) = v1 c
          ∧ r.2.mem ((c.tc : Thread Cert.PleRefIdeal.nD Cert.PleRefIdeal.τ).loc Cert.PleRefIdeal.main_v72) = v2 c
          ∧ r.2.mem ((c.tc : Thread Cert.PleRefIdeal.nD Cert.PleRefIdeal.τ).loc Cert.PleRefIdeal.main_v73) = v3 c
          ∧ r.2.mem ((c.tc : Thread Cert.PleRefIdeal.nD Cert.PleRefIdeal.τ).loc Cert.PleRefIdeal.main_v67) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v26_0)) (v1 : (c : Dev Cert.MixIdeal.nD) → Buf (Elt Ideal) ((c.tc : Thread Cert.MixIdeal.nD Cert.MixIdeal.τ).loc Cert.MixIdeal.main_v26_1)) (v2 : (c : Dev Cert.MixIdeal.nD) → Buf (Elt Ideal) ((c.tc : Thread Cert.MixIdeal.nD Cert.MixIdeal.τ).loc Cert.MixIdeal.main_v26_2)) (v3 : (c : Dev Cert.MixIdeal.nD) → Buf (Elt Ideal) ((c.tc : Thread Cert.MixIdeal.nD Cert.MixIdeal.τ).loc Cert.MixIdeal.main_v26_3)) (v4 : (c : Dev Cert.MixIdeal.nD) → Buf (Elt Ideal) ((c.tc : Thread Cert.MixIdeal.nD Cert.MixIdeal.τ).loc Cert.MixIdeal.main_v26_4)) (v5 : (c : Dev Cert.MixIdeal.nD) → Buf (Elt Ideal) ((c.tc : Thread Cert.MixIdeal.nD Cert.MixIdeal.τ).loc Cert.MixIdeal.main_v26_5)) (v6 : (c : Dev Cert.MixIdeal.nD) → Buf (Elt Ideal) ((c.tc : Thread Cert.MixIdeal.nD Cert.MixIdeal.τ).loc Cert.MixIdeal.main_v26_6)) (v7 : (c : Dev Cert.MixIdeal.nD) → Buf (Elt Ideal) ((c.tc : Thread Cert.MixIdeal.nD Cert.MixIdeal.τ).loc Cert.MixIdeal.main_v26_7)) (v8 : (c : Dev Cert.MixIdeal.nD) → Buf (Elt Ideal) ((c.tc : Thread Cert.MixIdeal.nD Cert.MixIdeal.τ).loc Cert.MixIdeal.main_v26_8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v26_0) = v0 c
          ∧ r.2.mem ((c.tc : Thread Cert.MixIdeal.nD Cert.MixIdeal.τ).loc Cert.MixIdeal.main_v26_1) = v1 c
          ∧ r.2.mem ((c.tc : Thread Cert.MixIdeal.nD Cert.MixIdeal.τ).loc Cert.MixIdeal.main_v26_2) = v2 c
          ∧ r.2.mem ((c.tc : Thread Cert.MixIdeal.nD Cert.MixIdeal.τ).loc Cert.MixIdeal.main_v26_3) = v3 c
          ∧ r.2.mem ((c.tc : Thread Cert.MixIdeal.nD Cert.MixIdeal.τ).loc Cert.MixIdeal.main_v26_4) = v4 c
          ∧ r.2.mem ((c.tc : Thread Cert.MixIdeal.nD Cert.MixIdeal.τ).loc Cert.MixIdeal.main_v26_5) = v5 c
          ∧ r.2.mem ((c.tc : Thread Cert.MixIdeal.nD Cert.MixIdeal.τ).loc Cert.MixIdeal.main_v26_6) = v6 c
          ∧ r.2.mem ((c.tc : Thread Cert.MixIdeal.nD Cert.MixIdeal.τ).loc Cert.MixIdeal.main_v26_7) = v7 c
          ∧ r.2.mem ((c.tc : Thread Cert.MixIdeal.nD Cert.MixIdeal.τ).loc Cert.MixIdeal.main_v26_8) = v8 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v79) = v0 c
          ∧ r.2.mem ((c.tc : Thread Cert.MixRefIdeal.nD Cert.MixRefIdeal.τ).loc Cert.MixRefIdeal.main_v63) = v1 c
          ∧ r.2.mem ((c.tc : Thread Cert.MixRefIdeal.nD Cert.MixRefIdeal.τ).loc Cert.MixRefIdeal.main_v80) = v2 c
          ∧ r.2.mem ((c.tc : Thread Cert.MixRefIdeal.nD Cert.MixRefIdeal.τ).loc Cert.MixRefIdeal.main_v81) = v3 c
          ∧ r.2.mem ((c.tc : Thread Cert.MixRefIdeal.nD Cert.MixRefIdeal.τ).loc Cert.MixRefIdeal.main_v82) = v4 c
          ∧ r.2.mem ((c.tc : Thread Cert.MixRefIdeal.nD Cert.MixRefIdeal.τ).loc Cert.MixRefIdeal.main_v83) = v5 c
          ∧ r.2.mem ((c.tc : Thread Cert.MixRefIdeal.nD Cert.MixRefIdeal.τ).loc Cert.MixRefIdeal.main_v72) = v6 c
          ∧ r.2.mem ((c.tc : Thread Cert.MixRefIdeal.nD Cert.MixRefIdeal.τ).loc Cert.MixRefIdeal.main_v78) = v7 c
          ∧ r.2.mem ((c.tc : Thread Cert.MixRefIdeal.nD Cert.MixRefIdeal.τ).loc Cert.MixRefIdeal.main_v86) = v8 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Mla_MlaIdeal : Prop :=
  IdealRules.named_const.Statement Cert.MlaIdeal.κ "s2" .f32 0x3E16C740#32 (((Real.sqrt 96)⁻¹ * (Real.log 2)⁻¹ : ℝ) : EReal)
  ∧ IdealRules.named_const.Statement Cert.MlaIdeal.κ "s" .f32 0x3DD105EC#32 (((Real.sqrt 96)⁻¹ : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v58_0)) (v1 : (c : Dev Cert.MlaIdeal.nD) → Buf (Elt Ideal) ((c.tc : Thread Cert.MlaIdeal.nD Cert.MlaIdeal.τ).loc Cert.MlaIdeal.main_v58_1)) (v2 : (c : Dev Cert.MlaIdeal.nD) → Buf (Elt Ideal) ((c.tc : Thread Cert.MlaIdeal.nD Cert.MlaIdeal.τ).loc Cert.MlaIdeal.main_v58_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v58_0) = v0 c
          ∧ r.2.mem ((c.tc : Thread Cert.MlaIdeal.nD Cert.MlaIdeal.τ).loc Cert.MlaIdeal.main_v58_1) = v1 c
          ∧ r.2.mem ((c.tc : Thread Cert.MlaIdeal.nD Cert.MlaIdeal.τ).loc Cert.MlaIdeal.main_v58_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v68) = v0 c
          ∧ r.2.mem ((c.tc : Thread Cert.MlaRefIdeal.nD Cert.MlaRefIdeal.τ).loc Cert.MlaRefIdeal.main_v72) = v1 c
          ∧ r.2.mem ((c.tc : Thread Cert.MlaRefIdeal.nD Cert.MlaRefIdeal.τ).loc Cert.MlaRefIdeal.main_v74) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_FwdUp_FwdUpIdeal : Prop :=
  True

def algebraic_FwdUpIdeal_FwdUpRefIdeal [hFwdUpIdeal : Cert.FwdUpIdeal.Facts] [hFwdUpRefIdeal : Cert.FwdUpRefIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg)
    (m' : (ℓ : Loc Cert.FwdUpRefIdeal.nD Cert.FwdUpRefIdeal.τ Cert.FwdUpRefIdeal.sig) → Buf (Elt Ideal) ℓ) (g' : Dev Cert.FwdUpRefIdeal.nD → PrngReg), Pre_FwdUpIdeal m →
    (∀ c : Dev Cert.FwdUpIdeal.nD,
      m' ((c.tc : Thread Cert.FwdUpRefIdeal.nD Cert.FwdUpRefIdeal.τ).loc Cert.FwdUpRefIdeal.main_arg0) = m ((c.tc : Thread Cert.FwdUpIdeal.nD Cert.FwdUpIdeal.τ).loc Cert.FwdUpIdeal.main_arg0)
      ∧ m' ((c.tc : Thread Cert.FwdUpRefIdeal.nD Cert.FwdUpRefIdeal.τ).loc Cert.FwdUpRefIdeal.main_arg1) = m ((c.tc : Thread Cert.FwdUpIdeal.nD Cert.FwdUpIdeal.τ).loc Cert.FwdUpIdeal.main_arg1)
      ∧ m' ((c.tc : Thread Cert.FwdUpRefIdeal.nD Cert.FwdUpRefIdeal.τ).loc Cert.FwdUpRefIdeal.main_arg2) = m ((c.tc : Thread Cert.FwdUpIdeal.nD Cert.FwdUpIdeal.τ).loc Cert.FwdUpIdeal.main_arg2)) →
    ∃ (v0 : (c : Dev Cert.FwdUpIdeal.nD) → Buf (Elt Ideal) ((c.tc : Thread Cert.FwdUpIdeal.nD Cert.FwdUpIdeal.τ).loc Cert.FwdUpIdeal.main_v10_0)) (v1 : (c : Dev Cert.FwdUpIdeal.nD) → Buf (Elt Ideal) ((c.tc : Thread Cert.FwdUpIdeal.nD Cert.FwdUpIdeal.τ).loc Cert.FwdUpIdeal.main_v10_1)),
      θ_run (Cert.FwdUpIdeal.defs (F := Ideal)) (onTc (τ := Cert.FwdUpIdeal.τ) (Cert.FwdUpIdeal.main (F := Ideal))) ⟨m, fun _ => 0, g⟩ (fun r => ∀ c : Dev Cert.FwdUpIdeal.nD,
          r.2.mem ((c.tc : Thread Cert.FwdUpIdeal.nD Cert.FwdUpIdeal.τ).loc Cert.FwdUpIdeal.main_v10_0) = v0 c
          ∧ r.2.mem ((c.tc : Thread Cert.FwdUpIdeal.nD Cert.FwdUpIdeal.τ).loc Cert.FwdUpIdeal.main_v10_1) = v1 c
          ∧ r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
          ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1)
          ∧ r.2.mem ((c.tc : Thread Cert.FwdUpIdeal.nD Cert.FwdUpIdeal.τ).loc Cert.FwdUpIdeal.main_arg2) = m ((c.tc : Thread Cert.FwdUpIdeal.nD Cert.FwdUpIdeal.τ).loc Cert.FwdUpIdeal.main_arg2))
      ∧ θ_run (Cert.FwdUpRefIdeal.defs (F := Ideal)) (onTc (τ := Cert.FwdUpRefIdeal.τ) (Cert.FwdUpRefIdeal.main (F := Ideal))) ⟨m', fun _ => 0, g'⟩ (fun r => ∀ c : Dev Cert.FwdUpRefIdeal.nD,
          r.2.mem ((c.tc : Thread Cert.FwdUpRefIdeal.nD Cert.FwdUpRefIdeal.τ).loc Cert.FwdUpRefIdeal.main_v14) = v0 c
          ∧ r.2.mem ((c.tc : Thread Cert.FwdUpRefIdeal.nD Cert.FwdUpRefIdeal.τ).loc Cert.FwdUpRefIdeal.main_v18) = v1 c
          ∧ r.2.mem ((c.tc : Thread Cert.FwdUpRefIdeal.nD Cert.FwdUpRefIdeal.τ).loc Cert.FwdUpRefIdeal.main_arg0) = m' ((c.tc : Thread Cert.FwdUpRefIdeal.nD Cert.FwdUpRefIdeal.τ).loc Cert.FwdUpRefIdeal.main_arg0)
          ∧ r.2.mem ((c.tc : Thread Cert.FwdUpRefIdeal.nD Cert.FwdUpRefIdeal.τ).loc Cert.FwdUpRefIdeal.main_arg1) = m' ((c.tc : Thread Cert.FwdUpRefIdeal.nD Cert.FwdUpRefIdeal.τ).loc Cert.FwdUpRefIdeal.main_arg1)
          ∧ r.2.mem ((c.tc : Thread Cert.FwdUpRefIdeal.nD Cert.FwdUpRefIdeal.τ).loc Cert.FwdUpRefIdeal.main_arg2) = m' ((c.tc : Thread Cert.FwdUpRefIdeal.nD Cert.FwdUpRefIdeal.τ).loc Cert.FwdUpRefIdeal.main_arg2))

def preserves_FwdDown_FwdDownIdeal : Prop :=
  True

def algebraic_FwdDownIdeal_FwdDownRefIdeal [hFwdDownIdeal : Cert.FwdDownIdeal.Facts] [hFwdDownRefIdeal : Cert.FwdDownRefIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg)
    (m' : (ℓ : Loc Cert.FwdDownRefIdeal.nD Cert.FwdDownRefIdeal.τ Cert.FwdDownRefIdeal.sig) → Buf (Elt Ideal) ℓ) (g' : Dev Cert.FwdDownRefIdeal.nD → PrngReg), Pre_FwdDownIdeal m →
    (∀ c : Dev Cert.FwdDownIdeal.nD,
      m' ((c.tc : Thread Cert.FwdDownRefIdeal.nD Cert.FwdDownRefIdeal.τ).loc Cert.FwdDownRefIdeal.main_arg0) = m ((c.tc : Thread Cert.FwdDownIdeal.nD Cert.FwdDownIdeal.τ).loc Cert.FwdDownIdeal.main_arg0)
      ∧ m' ((c.tc : Thread Cert.FwdDownRefIdeal.nD Cert.FwdDownRefIdeal.τ).loc Cert.FwdDownRefIdeal.main_arg1) = m ((c.tc : Thread Cert.FwdDownIdeal.nD Cert.FwdDownIdeal.τ).loc Cert.FwdDownIdeal.main_arg1)
      ∧ m' ((c.tc : Thread Cert.FwdDownRefIdeal.nD Cert.FwdDownRefIdeal.τ).loc Cert.FwdDownRefIdeal.main_arg2) = m ((c.tc : Thread Cert.FwdDownIdeal.nD Cert.FwdDownIdeal.τ).loc Cert.FwdDownIdeal.main_arg2)
      ∧ m' ((c.tc : Thread Cert.FwdDownRefIdeal.nD Cert.FwdDownRefIdeal.τ).loc Cert.FwdDownRefIdeal.main_arg3) = m ((c.tc : Thread Cert.FwdDownIdeal.nD Cert.FwdDownIdeal.τ).loc Cert.FwdDownIdeal.main_arg3)) →
    ∃ (v0 : (c : Dev Cert.FwdDownIdeal.nD) → Buf (Elt Ideal) ((c.tc : Thread Cert.FwdDownIdeal.nD Cert.FwdDownIdeal.τ).loc Cert.FwdDownIdeal.main_v3_0)) (v1 : (c : Dev Cert.FwdDownIdeal.nD) → Buf (Elt Ideal) ((c.tc : Thread Cert.FwdDownIdeal.nD Cert.FwdDownIdeal.τ).loc Cert.FwdDownIdeal.main_v3_1)),
      θ_run (Cert.FwdDownIdeal.defs (F := Ideal)) (onTc (τ := Cert.FwdDownIdeal.τ) (Cert.FwdDownIdeal.main (F := Ideal))) ⟨m, fun _ => 0, g⟩ (fun r => ∀ c : Dev Cert.FwdDownIdeal.nD,
          r.2.mem ((c.tc : Thread Cert.FwdDownIdeal.nD Cert.FwdDownIdeal.τ).loc Cert.FwdDownIdeal.main_v3_0) = v0 c
          ∧ r.2.mem ((c.tc : Thread Cert.FwdDownIdeal.nD Cert.FwdDownIdeal.τ).loc Cert.FwdDownIdeal.main_v3_1) = v1 c
          ∧ r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
          ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
          ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2)
          ∧ r.2.mem ((c.tc : Thread Cert.FwdDownIdeal.nD Cert.FwdDownIdeal.τ).loc Cert.FwdDownIdeal.main_arg3) = m ((c.tc : Thread Cert.FwdDownIdeal.nD Cert.FwdDownIdeal.τ).loc Cert.FwdDownIdeal.main_arg3))
      ∧ θ_run (Cert.FwdDownRefIdeal.defs (F := Ideal)) (onTc (τ := Cert.FwdDownRefIdeal.τ) (Cert.FwdDownRefIdeal.main (F := Ideal))) ⟨m', fun _ => 0, g'⟩ (fun r => ∀ c : Dev Cert.FwdDownRefIdeal.nD,
          r.2.mem ((c.tc : Thread Cert.FwdDownRefIdeal.nD Cert.FwdDownRefIdeal.τ).loc Cert.FwdDownRefIdeal.main_v0) = v0 c
          ∧ r.2.mem ((c.tc : Thread Cert.FwdDownRefIdeal.nD Cert.FwdDownRefIdeal.τ).loc Cert.FwdDownRefIdeal.main_v15) = v1 c
          ∧ r.2.mem ((c.tc : Thread Cert.FwdDownRefIdeal.nD Cert.FwdDownRefIdeal.τ).loc Cert.FwdDownRefIdeal.main_arg0) = m' ((c.tc : Thread Cert.FwdDownRefIdeal.nD Cert.FwdDownRefIdeal.τ).loc Cert.FwdDownRefIdeal.main_arg0)
          ∧ r.2.mem ((c.tc : Thread Cert.FwdDownRefIdeal.nD Cert.FwdDownRefIdeal.τ).loc Cert.FwdDownRefIdeal.main_arg1) = m' ((c.tc : Thread Cert.FwdDownRefIdeal.nD Cert.FwdDownRefIdeal.τ).loc Cert.FwdDownRefIdeal.main_arg1)
          ∧ r.2.mem ((c.tc : Thread Cert.FwdDownRefIdeal.nD Cert.FwdDownRefIdeal.τ).loc Cert.FwdDownRefIdeal.main_arg2) = m' ((c.tc : Thread Cert.FwdDownRefIdeal.nD Cert.FwdDownRefIdeal.τ).loc Cert.FwdDownRefIdeal.main_arg2)
          ∧ r.2.mem ((c.tc : Thread Cert.FwdDownRefIdeal.nD Cert.FwdDownRefIdeal.τ).loc Cert.FwdDownRefIdeal.main_arg3) = m' ((c.tc : Thread Cert.FwdDownRefIdeal.nD Cert.FwdDownRefIdeal.τ).loc Cert.FwdDownRefIdeal.main_arg3))

def preserves_FwdMix_FwdMixIdeal : Prop :=
  True

def algebraic_FwdMixIdeal_FwdMixRefIdeal [hFwdMixIdeal : Cert.FwdMixIdeal.Facts] [hFwdMixRefIdeal : Cert.FwdMixRefIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg)
    (m' : (ℓ : Loc Cert.FwdMixRefIdeal.nD Cert.FwdMixRefIdeal.τ Cert.FwdMixRefIdeal.sig) → Buf (Elt Ideal) ℓ) (g' : Dev Cert.FwdMixRefIdeal.nD → PrngReg), Pre_FwdMixIdeal m →
    (∀ c : Dev Cert.FwdMixIdeal.nD,
      m' ((c.tc : Thread Cert.FwdMixRefIdeal.nD Cert.FwdMixRefIdeal.τ).loc Cert.FwdMixRefIdeal.main_arg0) = m ((c.tc : Thread Cert.FwdMixIdeal.nD Cert.FwdMixIdeal.τ).loc Cert.FwdMixIdeal.main_arg0)
      ∧ m' ((c.tc : Thread Cert.FwdMixRefIdeal.nD Cert.FwdMixRefIdeal.τ).loc Cert.FwdMixRefIdeal.main_arg1) = m ((c.tc : Thread Cert.FwdMixIdeal.nD Cert.FwdMixIdeal.τ).loc Cert.FwdMixIdeal.main_arg1)
      ∧ m' ((c.tc : Thread Cert.FwdMixRefIdeal.nD Cert.FwdMixRefIdeal.τ).loc Cert.FwdMixRefIdeal.main_arg2) = m ((c.tc : Thread Cert.FwdMixIdeal.nD Cert.FwdMixIdeal.τ).loc Cert.FwdMixIdeal.main_arg2)
      ∧ m' ((c.tc : Thread Cert.FwdMixRefIdeal.nD Cert.FwdMixRefIdeal.τ).loc Cert.FwdMixRefIdeal.main_arg3) = m ((c.tc : Thread Cert.FwdMixIdeal.nD Cert.FwdMixIdeal.τ).loc Cert.FwdMixIdeal.main_arg3)
      ∧ m' ((c.tc : Thread Cert.FwdMixRefIdeal.nD Cert.FwdMixRefIdeal.τ).loc Cert.FwdMixRefIdeal.main_arg4) = m ((c.tc : Thread Cert.FwdMixIdeal.nD Cert.FwdMixIdeal.τ).loc Cert.FwdMixIdeal.main_arg4)
      ∧ m' ((c.tc : Thread Cert.FwdMixRefIdeal.nD Cert.FwdMixRefIdeal.τ).loc Cert.FwdMixRefIdeal.main_arg5) = m ((c.tc : Thread Cert.FwdMixIdeal.nD Cert.FwdMixIdeal.τ).loc Cert.FwdMixIdeal.main_arg5)
      ∧ m' ((c.tc : Thread Cert.FwdMixRefIdeal.nD Cert.FwdMixRefIdeal.τ).loc Cert.FwdMixRefIdeal.main_arg6) = m ((c.tc : Thread Cert.FwdMixIdeal.nD Cert.FwdMixIdeal.τ).loc Cert.FwdMixIdeal.main_arg6)
      ∧ m' ((c.tc : Thread Cert.FwdMixRefIdeal.nD Cert.FwdMixRefIdeal.τ).loc Cert.FwdMixRefIdeal.main_arg7) = m ((c.tc : Thread Cert.FwdMixIdeal.nD Cert.FwdMixIdeal.τ).loc Cert.FwdMixIdeal.main_arg7)) →
    ∃ (v0 : (c : Dev Cert.FwdMixIdeal.nD) → Buf (Elt Ideal) ((c.tc : Thread Cert.FwdMixIdeal.nD Cert.FwdMixIdeal.τ).loc Cert.FwdMixIdeal.main_v6_0)) (v1 : (c : Dev Cert.FwdMixIdeal.nD) → Buf (Elt Ideal) ((c.tc : Thread Cert.FwdMixIdeal.nD Cert.FwdMixIdeal.τ).loc Cert.FwdMixIdeal.main_v6_1)) (v2 : (c : Dev Cert.FwdMixIdeal.nD) → Buf (Elt Ideal) ((c.tc : Thread Cert.FwdMixIdeal.nD Cert.FwdMixIdeal.τ).loc Cert.FwdMixIdeal.main_v6_2)) (v3 : (c : Dev Cert.FwdMixIdeal.nD) → Buf (Elt Ideal) ((c.tc : Thread Cert.FwdMixIdeal.nD Cert.FwdMixIdeal.τ).loc Cert.FwdMixIdeal.main_v6_3)) (v4 : (c : Dev Cert.FwdMixIdeal.nD) → Buf (Elt Ideal) ((c.tc : Thread Cert.FwdMixIdeal.nD Cert.FwdMixIdeal.τ).loc Cert.FwdMixIdeal.main_v6_4)),
      θ_run (Cert.FwdMixIdeal.defs (F := Ideal)) (onTc (τ := Cert.FwdMixIdeal.τ) (Cert.FwdMixIdeal.main (F := Ideal))) ⟨m, fun _ => 0, g⟩ (fun r => ∀ c : Dev Cert.FwdMixIdeal.nD,
          r.2.mem ((c.tc : Thread Cert.FwdMixIdeal.nD Cert.FwdMixIdeal.τ).loc Cert.FwdMixIdeal.main_v6_0) = v0 c
          ∧ r.2.mem ((c.tc : Thread Cert.FwdMixIdeal.nD Cert.FwdMixIdeal.τ).loc Cert.FwdMixIdeal.main_v6_1) = v1 c
          ∧ r.2.mem ((c.tc : Thread Cert.FwdMixIdeal.nD Cert.FwdMixIdeal.τ).loc Cert.FwdMixIdeal.main_v6_2) = v2 c
          ∧ r.2.mem ((c.tc : Thread Cert.FwdMixIdeal.nD Cert.FwdMixIdeal.τ).loc Cert.FwdMixIdeal.main_v6_3) = v3 c
          ∧ r.2.mem ((c.tc : Thread Cert.FwdMixIdeal.nD Cert.FwdMixIdeal.τ).loc Cert.FwdMixIdeal.main_v6_4) = v4 c
          ∧ r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
          ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
          ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
          ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
          ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
          ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
          ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
          ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7))
      ∧ θ_run (Cert.FwdMixRefIdeal.defs (F := Ideal)) (onTc (τ := Cert.FwdMixRefIdeal.τ) (Cert.FwdMixRefIdeal.main (F := Ideal))) ⟨m', fun _ => 0, g'⟩ (fun r => ∀ c : Dev Cert.FwdMixRefIdeal.nD,
          r.2.mem ((c.tc : Thread Cert.FwdMixRefIdeal.nD Cert.FwdMixRefIdeal.τ).loc Cert.FwdMixRefIdeal.main_v20) = v0 c
          ∧ r.2.mem ((c.tc : Thread Cert.FwdMixRefIdeal.nD Cert.FwdMixRefIdeal.τ).loc Cert.FwdMixRefIdeal.main_v19) = v1 c
          ∧ r.2.mem ((c.tc : Thread Cert.FwdMixRefIdeal.nD Cert.FwdMixRefIdeal.τ).loc Cert.FwdMixRefIdeal.main_v2) = v2 c
          ∧ r.2.mem ((c.tc : Thread Cert.FwdMixRefIdeal.nD Cert.FwdMixRefIdeal.τ).loc Cert.FwdMixRefIdeal.main_v3) = v3 c
          ∧ r.2.mem ((c.tc : Thread Cert.FwdMixRefIdeal.nD Cert.FwdMixRefIdeal.τ).loc Cert.FwdMixRefIdeal.main_v35) = v4 c
          ∧ r.2.mem ((c.tc : Thread Cert.FwdMixRefIdeal.nD Cert.FwdMixRefIdeal.τ).loc Cert.FwdMixRefIdeal.main_arg0) = m' ((c.tc : Thread Cert.FwdMixRefIdeal.nD Cert.FwdMixRefIdeal.τ).loc Cert.FwdMixRefIdeal.main_arg0)
          ∧ r.2.mem ((c.tc : Thread Cert.FwdMixRefIdeal.nD Cert.FwdMixRefIdeal.τ).loc Cert.FwdMixRefIdeal.main_arg1) = m' ((c.tc : Thread Cert.FwdMixRefIdeal.nD Cert.FwdMixRefIdeal.τ).loc Cert.FwdMixRefIdeal.main_arg1)
          ∧ r.2.mem ((c.tc : Thread Cert.FwdMixRefIdeal.nD Cert.FwdMixRefIdeal.τ).loc Cert.FwdMixRefIdeal.main_arg2) = m' ((c.tc : Thread Cert.FwdMixRefIdeal.nD Cert.FwdMixRefIdeal.τ).loc Cert.FwdMixRefIdeal.main_arg2)
          ∧ r.2.mem ((c.tc : Thread Cert.FwdMixRefIdeal.nD Cert.FwdMixRefIdeal.τ).loc Cert.FwdMixRefIdeal.main_arg3) = m' ((c.tc : Thread Cert.FwdMixRefIdeal.nD Cert.FwdMixRefIdeal.τ).loc Cert.FwdMixRefIdeal.main_arg3)
          ∧ r.2.mem ((c.tc : Thread Cert.FwdMixRefIdeal.nD Cert.FwdMixRefIdeal.τ).loc Cert.FwdMixRefIdeal.main_arg4) = m' ((c.tc : Thread Cert.FwdMixRefIdeal.nD Cert.FwdMixRefIdeal.τ).loc Cert.FwdMixRefIdeal.main_arg4)
          ∧ r.2.mem ((c.tc : Thread Cert.FwdMixRefIdeal.nD Cert.FwdMixRefIdeal.τ).loc Cert.FwdMixRefIdeal.main_arg5) = m' ((c.tc : Thread Cert.FwdMixRefIdeal.nD Cert.FwdMixRefIdeal.τ).loc Cert.FwdMixRefIdeal.main_arg5)
          ∧ r.2.mem ((c.tc : Thread Cert.FwdMixRefIdeal.nD Cert.FwdMixRefIdeal.τ).loc Cert.FwdMixRefIdeal.main_arg6) = m' ((c.tc : Thread Cert.FwdMixRefIdeal.nD Cert.FwdMixRefIdeal.τ).loc Cert.FwdMixRefIdeal.main_arg6)
          ∧ r.2.mem ((c.tc : Thread Cert.FwdMixRefIdeal.nD Cert.FwdMixRefIdeal.τ).loc Cert.FwdMixRefIdeal.main_arg7) = m' ((c.tc : Thread Cert.FwdMixRefIdeal.nD Cert.FwdMixRefIdeal.τ).loc Cert.FwdMixRefIdeal.main_arg7))

def preserves_Swa_SwaIdeal : Prop :=
  IdealRules.named_const.Statement Cert.SwaIdeal.κ "mask" .f32 0xF149F2CA#32 ⊥

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v24_0)) (v1 : (c : Dev Cert.FwdInIdeal.nD) → Buf (Elt Ideal) ((c.tc : Thread Cert.FwdInIdeal.nD Cert.FwdInIdeal.τ).loc Cert.FwdInIdeal.main_v24_1)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v24_0) = v0 c
          ∧ r.2.mem ((c.tc : Thread Cert.FwdInIdeal.nD Cert.FwdInIdeal.τ).loc Cert.FwdInIdeal.main_v24_1) = v1 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v32) = v0 c
          ∧ r.2.mem ((c.tc : Thread Cert.FwdInRefIdeal.nD Cert.FwdInRefIdeal.τ).loc Cert.FwdInRefIdeal.main_v33) = v1 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v3_0)) (v1 : (c : Dev Cert.AdamwIdeal.nD) → Buf (Elt Ideal) ((c.tc : Thread Cert.AdamwIdeal.nD Cert.AdamwIdeal.τ).loc Cert.AdamwIdeal.main_v3_1)) (v2 : (c : Dev Cert.AdamwIdeal.nD) → Buf (Elt Ideal) ((c.tc : Thread Cert.AdamwIdeal.nD Cert.AdamwIdeal.τ).loc Cert.AdamwIdeal.main_v3_2)) (v3 : (c : Dev Cert.AdamwIdeal.nD) → Buf (Elt Ideal) ((c.tc : Thread Cert.AdamwIdeal.nD Cert.AdamwIdeal.τ).loc Cert.AdamwIdeal.main_v3_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v3_0) = v0 c
          ∧ r.2.mem ((c.tc : Thread Cert.AdamwIdeal.nD Cert.AdamwIdeal.τ).loc Cert.AdamwIdeal.main_v3_1) = v1 c
          ∧ r.2.mem ((c.tc : Thread Cert.AdamwIdeal.nD Cert.AdamwIdeal.τ).loc Cert.AdamwIdeal.main_v3_2) = v2 c
          ∧ r.2.mem ((c.tc : Thread Cert.AdamwIdeal.nD Cert.AdamwIdeal.τ).loc Cert.AdamwIdeal.main_v3_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_arg1) = v0 c
          ∧ r.2.mem ((c.tc : Thread Cert.AdamwRefIdeal.nD Cert.AdamwRefIdeal.τ).loc Cert.AdamwRefIdeal.main_v23) = v1 c
          ∧ r.2.mem ((c.tc : Thread Cert.AdamwRefIdeal.nD Cert.AdamwRefIdeal.τ).loc Cert.AdamwRefIdeal.main_v4) = v2 c
          ∧ r.2.mem ((c.tc : Thread Cert.AdamwRefIdeal.nD Cert.AdamwRefIdeal.τ).loc Cert.AdamwRefIdeal.main_v10) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def Claim : Prop :=
  ∃ (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hBwdIn : Cert.BwdIn.Facts) (hBwdInIdeal : Cert.BwdInIdeal.Facts) (hBwdInRefIdeal : Cert.BwdInRefIdeal.Facts) (hPle : Cert.Ple.Facts) (hPleIdeal : Cert.PleIdeal.Facts) (hPleRefIdeal : Cert.PleRefIdeal.Facts) (hMix : Cert.Mix.Facts) (hMixIdeal : Cert.MixIdeal.Facts) (hMixRefIdeal : Cert.MixRefIdeal.Facts) (hMla : Cert.Mla.Facts) (hMlaIdeal : Cert.MlaIdeal.Facts) (hMlaRefIdeal : Cert.MlaRefIdeal.Facts) (hFwdUp : Cert.FwdUp.Facts) (hFwdUpIdeal : Cert.FwdUpIdeal.Facts) (hFwdUpRefIdeal : Cert.FwdUpRefIdeal.Facts) (hFwdDown : Cert.FwdDown.Facts) (hFwdDownIdeal : Cert.FwdDownIdeal.Facts) (hFwdDownRefIdeal : Cert.FwdDownRefIdeal.Facts) (hFwdMix : Cert.FwdMix.Facts) (hFwdMixIdeal : Cert.FwdMixIdeal.Facts) (hFwdMixRefIdeal : Cert.FwdMixRefIdeal.Facts) (hSwa : Cert.Swa.Facts) (hSwaIdeal : Cert.SwaIdeal.Facts) (hSwaRefIdeal : Cert.SwaRefIdeal.Facts) (hFwdIn : Cert.FwdIn.Facts) (hFwdInIdeal : Cert.FwdInIdeal.Facts) (hFwdInRefIdeal : Cert.FwdInRefIdeal.Facts) (hAdamw : Cert.Adamw.Facts) (hAdamwIdeal : Cert.AdamwIdeal.Facts) (hAdamwRefIdeal : Cert.AdamwRefIdeal.Facts) (hPre_mlp_up_finite : Cert.Pre_mlp_up_finite.Facts) (hPre_mlp_down_finite : Cert.Pre_mlp_down_finite.Facts) (hPre_in_finite : Cert.Pre_in_finite.Facts) (hPre_ple_finite : Cert.Pre_ple_finite.Facts) (hPre_mix_finite : Cert.Pre_mix_finite.Facts) (hPre_mla_finite : Cert.Pre_mla_finite.Facts),
    quiescent_MlpUp (hMlpUp := hMlpUp)
    ∧ quiescent_MlpUpIdeal (hMlpUpIdeal := hMlpUpIdeal)
    ∧ quiescent_MlpUpIdeal_pre_mlp_up_finite (hMlpUpIdeal := hMlpUpIdeal) (hPre_mlp_up_finite := hPre_mlp_up_finite)
    ∧ quiescent_MlpUpRefIdeal (hMlpUpRefIdeal := hMlpUpRefIdeal)
    ∧ quiescent_MlpUpRefIdeal_pre_mlp_up_finite (hMlpUpRefIdeal := hMlpUpRefIdeal) (hPre_mlp_up_finite := hPre_mlp_up_finite)
    ∧ quiescent_MlpDown (hMlpDown := hMlpDown)
    ∧ quiescent_MlpDownIdeal (hMlpDownIdeal := hMlpDownIdeal)
    ∧ quiescent_MlpDownIdeal_pre_mlp_down_finite (hMlpDownIdeal := hMlpDownIdeal) (hPre_mlp_down_finite := hPre_mlp_down_finite)
    ∧ quiescent_MlpDownRefIdeal (hMlpDownRefIdeal := hMlpDownRefIdeal)
    ∧ quiescent_MlpDownRefIdeal_pre_mlp_down_finite (hMlpDownRefIdeal := hMlpDownRefIdeal) (hPre_mlp_down_finite := hPre_mlp_down_finite)
    ∧ quiescent_BwdIn (hBwdIn := hBwdIn)
    ∧ quiescent_BwdInIdeal (hBwdInIdeal := hBwdInIdeal)
    ∧ quiescent_BwdInIdeal_pre_in_finite (hBwdInIdeal := hBwdInIdeal) (hPre_in_finite := hPre_in_finite)
    ∧ quiescent_BwdInRefIdeal (hBwdInRefIdeal := hBwdInRefIdeal)
    ∧ quiescent_BwdInRefIdeal_pre_in_finite (hBwdInRefIdeal := hBwdInRefIdeal) (hPre_in_finite := hPre_in_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_FwdUp (hFwdUp := hFwdUp)
    ∧ quiescent_FwdUpIdeal (hFwdUpIdeal := hFwdUpIdeal)
    ∧ quiescent_FwdUpRefIdeal (hFwdUpRefIdeal := hFwdUpRefIdeal)
    ∧ quiescent_FwdDown (hFwdDown := hFwdDown)
    ∧ quiescent_FwdDownIdeal (hFwdDownIdeal := hFwdDownIdeal)
    ∧ quiescent_FwdDownRefIdeal (hFwdDownRefIdeal := hFwdDownRefIdeal)
    ∧ quiescent_FwdMix (hFwdMix := hFwdMix)
    ∧ quiescent_FwdMixIdeal (hFwdMixIdeal := hFwdMixIdeal)
    ∧ quiescent_FwdMixRefIdeal (hFwdMixRefIdeal := hFwdMixRefIdeal)
    ∧ quiescent_Swa (hSwa := hSwa)
    ∧ quiescent_SwaIdeal (hSwaIdeal := hSwaIdeal)
    ∧ quiescent_SwaRefIdeal (hSwaRefIdeal := hSwaRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_MlpUp_MlpUpIdeal
    ∧ algebraic_MlpUpIdeal_MlpUpRefIdeal_pre_mlp_up_finite (hMlpUpIdeal := hMlpUpIdeal) (hMlpUpRefIdeal := hMlpUpRefIdeal) (hPre_mlp_up_finite := hPre_mlp_up_finite)
    ∧ preserves_MlpDown_MlpDownIdeal
    ∧ algebraic_MlpDownIdeal_MlpDownRefIdeal_pre_mlp_down_finite (hMlpDownIdeal := hMlpDownIdeal) (hMlpDownRefIdeal := hMlpDownRefIdeal) (hPre_mlp_down_finite := hPre_mlp_down_finite)
    ∧ preserves_BwdIn_BwdInIdeal
    ∧ algebraic_BwdInIdeal_BwdInRefIdeal_pre_in_finite (hBwdInIdeal := hBwdInIdeal) (hBwdInRefIdeal := hBwdInRefIdeal) (hPre_in_finite := hPre_in_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_FwdUp_FwdUpIdeal
    ∧ algebraic_FwdUpIdeal_FwdUpRefIdeal (hFwdUpIdeal := hFwdUpIdeal) (hFwdUpRefIdeal := hFwdUpRefIdeal)
    ∧ preserves_FwdDown_FwdDownIdeal
    ∧ algebraic_FwdDownIdeal_FwdDownRefIdeal (hFwdDownIdeal := hFwdDownIdeal) (hFwdDownRefIdeal := hFwdDownRefIdeal)
    ∧ preserves_FwdMix_FwdMixIdeal
    ∧ algebraic_FwdMixIdeal_FwdMixRefIdeal (hFwdMixIdeal := hFwdMixIdeal) (hFwdMixRefIdeal := hFwdMixRefIdeal)
    ∧ preserves_Swa_SwaIdeal
    ∧ preserves_FwdIn_FwdInIdeal
    ∧ algebraic_FwdInIdeal_FwdInRefIdeal (hFwdInIdeal := hFwdInIdeal) (hFwdInRefIdeal := hFwdInRefIdeal)
    ∧ preserves_Adamw_AdamwIdeal
    ∧ algebraic_AdamwIdeal_AdamwRefIdeal (hAdamwIdeal := hAdamwIdeal) (hAdamwRefIdeal := hAdamwRefIdeal)
-- ==== Pre_in_finite.lean ====
abbrev S4096x1024 : Shape := ⟨2, ![4096, 1024]⟩
abbrev S1x1024 : Shape := ⟨2, ![1, 1024]⟩
abbrev S1024x3744 : Shape := ⟨2, ![1024, 3744]⟩
abbrev S4096x256 : Shape := ⟨2, ![4096, 256]⟩
abbrev S4096x128 : Shape := ⟨2, ![4096, 128]⟩
abbrev S4096x32 : Shape := ⟨2, ![4096, 32]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3744 : S_.BroadcastsInDim S1024x3744 (![] : Fin 0 → Fin S1024x3744.rank)
  bcast_S_S4096x256 : S_.BroadcastsInDim S4096x256 (![] : Fin 0 → Fin S4096x256.rank)
  bcast_S_S4096x128 : S_.BroadcastsInDim S4096x128 (![] : Fin 0 → Fin S4096x128.rank)
  bcast_S_S4096x32 : S_.BroadcastsInDim S4096x32 (![] : Fin 0 → Fin S4096x32.rank)
  bcast_S_S4096x2048 : S_.BroadcastsInDim S4096x2048 (![] : Fin 0 → Fin S4096x2048.rank)

variable [Facts]

def fn_part1 {F : FTy → Type} [FloatOps F] (main_arg6 : FVec F S4096x1024 .f32) (main_arg7 : FVec F S4096x128 .f32) (main_arg8 : FVec F S4096x128 .f32) (main_arg9 : FVec F S4096x128 .f32) (main_arg10 : FVec F S4096x128 .f32) (main_arg11 : FVec F S4096x2048 .f32) (main_v2 : IVec S4096x1024 1) (main_v5 : IVec S1x1024 1) (main_v8 : IVec S1024x3744 1) (main_v11 : IVec S4096x256 1) (main_v14 : IVec S4096x128 1) (main_v17 : IVec S4096x32 1) : IVec S4096x1024 1 × IVec S1x1024 1 × IVec S1024x3744 1 × IVec S4096x256 1 × IVec S4096x128 1 × IVec S4096x32 1 × IVec S4096x1024 1 × IVec S4096x128 1 × IVec S4096x128 1 × IVec S4096x128 1 × IVec S4096x128 1 × IVec S4096x2048 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x128 .f32 := Host.absf main_arg7
  let main_cst_6 : FVec F S_ .f32 := constant S_ .f32 0x7F800000#32
  let main_v22 : FVec F S4096x128 .f32 := broadcastInDim S4096x128 ![] bcast_S_S4096x128 main_cst_6
  let main_v23 : IVec S4096x128 1 := cmpf .olt main_v21 main_v22
  let main_v24 : FVec F S4096x128 .f32 := Host.absf main_arg8
  let main_cst_7 : FVec F S_ .f32 := constant S_ .f32 0x7F800000#32
  let main_v25 : FVec F S4096x128 .f32 := broadcastInDim S4096x128 ![] bcast_S_S4096x128 main_cst_7
  let main_v26 : IVec S4096x128 1 := cmpf .olt main_v24 main_v25
  let main_v27 : FVec F S4096x128 .f32 := Host.absf main_arg9
  let main_cst_8 : FVec F S_ .f32 := constant S_ .f32 0x7F800000#32
  let main_v28 : FVec F S4096x128 .f32 := broadcastInDim S4096x128 ![] bcast_S_S4096x128 main_cst_8
  let main_v29 : IVec S4096x128 1 := cmpf .olt main_v27 main_v28
  let main_v30 : FVec F S4096x128 .f32 := Host.absf main_arg10
  let main_cst_9 : FVec F S_ .f32 := constant S_ .f32 0x7F800000#32
  let main_v31 : FVec F S4096x128 .f32 := broadcastInDim S4096x128 ![] bcast_S_S4096x128 main_cst_9
  let main_v32 : IVec S4096x128 1 := cmpf .olt main_v30 main_v31
  let main_v33 : FVec F S4096x2048 .f32 := Host.absf main_arg11
  let main_cst_10 : FVec F S_ .f32 := constant S_ .f32 0x7F800000#32
  let main_v34 : FVec F S4096x2048 .f32 := broadcastInDim S4096x2048 ![] bcast_S_S4096x2048 main_cst_10
  let main_v35 : IVec S4096x2048 1 := cmpf .olt main_v33 main_v34
  (main_v2, main_v5, main_v8, main_v11, main_v14, main_v17, main_v20, main_v23, main_v26, main_v29, main_v32, main_v35)

def fn {F : FTy → Type} [FloatOps F] (main_arg0 : FVec F S4096x1024 .f32) (main_arg1 : FVec F S1x1024 .f32) (main_arg2 : FVec F S1024x3744 .f32) (main_arg3 : FVec F S4096x256 .f32) (main_arg4 : FVec F S4096x128 .f32) (main_arg5 : FVec F S4096x32 .f32) (main_arg6 : FVec F S4096x1024 .f32) (main_arg7 : FVec F S4096x128 .f32) (main_arg8 : FVec F S4096x128 .f32) (main_arg9 : FVec F S4096x128 .f32) (main_arg10 : FVec F S4096x128 .f32) (main_arg11 : FVec F S4096x2048 .f32) (main_arg12 : FVec F S4096x1024 .f32) : IVec S4096x1024 1 × IVec S1x1024 1 × IVec S1024x3744 1 × IVec S4096x256 1 × IVec S4096x128 1 × IVec S4096x32 1 × IVec S4096x1024 1 × IVec S4096x128 1 × IVec S4096x128 1 × IVec S4096x128 1 × IVec S4096x128 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3744 .f32 := Host.absf main_arg2
  let main_cst_1 : FVec F S_ .f32 := constant S_ .f32 0x7F800000#32
  let main_v7 : FVec F S1024x3744 .f32 := broadcastInDim S1024x3744 ![] bcast_S_S1024x3744 main_cst_1
  let main_v8 : IVec S1024x3744 1 := cmpf .olt main_v6 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_v12 : FVec F S4096x128 .f32 := Host.absf main_arg4
  let main_cst_3 : FVec F S_ .f32 := constant S_ .f32 0x7F800000#32
  let main_v13 : FVec F S4096x128 .f32 := broadcastInDim S4096x128 ![] bcast_S_S4096x128 main_cst_3
  let main_v14 : IVec S4096x128 1 := cmpf .olt main_v12 main_v13
  let main_v15 : FVec F S4096x32 .f32 := Host.absf main_arg5
  let main_cst_4 : FVec F S_ .f32 := constant S_ .f32 0x7F800000#32
  let main_v16 : FVec F S4096x32 .f32 := broadcastInDim S4096x32 ![] bcast_S_S4096x32 main_cst_4
  let main_v17 : IVec S4096x32 1 := cmpf .olt main_v15 main_v16
  fn_part1 (F := F) main_arg6 main_arg7 main_arg8 main_arg9 main_arg10 main_arg11 main_v2 main_v5 main_v8 main_v11 main_v14 main_v17
-- ==== Pre_mix_finite.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4096x2048 : S_.BroadcastsInDim S4096x2048 (![] : Fin 0 → Fin S4096x2048.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S4096x1024 .f32) (main_v2 : IVec S4096x1024 1) (main_v5 : IVec S4096x1024 1) (main_v8 : IVec S4096x2048 1) (main_v11 : IVec S1024x1024 1) (main_v14 : IVec S1024x1024 1) (main_v17 : IVec S1024x1024 1) : IVec S4096x1024 1 × IVec S4096x1024 1 × IVec S4096x2048 1 × IVec S1024x1024 1 × IVec S1024x1024 1 × IVec S1024x1024 1 × IVec S1x1024 1 × IVec S4096x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S4096x2048 .f32) (main_arg3 : FVec F S1024x1024 .f32) (main_arg4 : FVec F S1024x1024 .f32) (main_arg5 : FVec F S1024x1024 .f32) (main_arg6 : FVec F S1x1024 .f32) (main_arg7 : FVec F S4096x1024 .f32) : IVec S4096x1024 1 × IVec S4096x1024 1 × IVec S4096x2048 1 × IVec S1024x1024 1 × IVec S1024x1024 1 × IVec S1024x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_v2 main_v5 main_v8 main_v11 main_v14 main_v17
-- ==== Pre_mla_finite.lean ====
abbrev S4096x16x96 : Shape := ⟨3, ![4096, 16, 96]⟩
abbrev S4096x16x64 : Shape := ⟨3, ![4096, 16, 64]⟩
abbrev S_ : Shape := ⟨0, ![]⟩

class Facts : Prop where
  bcast_S_S4096x16x96 : S_.BroadcastsInDim S4096x16x96 (![] : Fin 0 → Fin S4096x16x96.rank)
  bcast_S_S4096x16x64 : S_.BroadcastsInDim S4096x16x64 (![] : Fin 0 → Fin S4096x16x64.rank)

variable [Facts]

def fn {F : FTy → Type} [FloatOps F] (main_arg0 : FVec F S4096x16x96 .f32) (main_arg1 : FVec F S4096x16x96 .f32) (main_arg2 : FVec F S4096x16x64 .f32) (main_arg3 : FVec F S4096x16x64 .f32) : IVec S4096x16x96 1 × IVec S4096x16x96 1 × IVec S4096x16x64 1 × IVec S4096x16x64 1 :=
  let main_v0 : FVec F S4096x16x96 .f32 := Host.absf main_arg0
  let main_cst : FVec F S_ .f32 := constant S_ .f32 0x7F800000#32
  let main_v1 : FVec F S4096x16x96 .f32 := broadcastInDim S4096x16x96 ![] bcast_S_S4096x16x96 main_cst
  let main_v2 : IVec S4096x16x96 1 := cmpf .olt main_v0 main_v1
  let main_v3 : FVec F S4096x16x96 .f32 := Host.absf main_arg1
  let main_cst_0 : FVec F S_ .f32 := constant S_ .f32 0x7F800000#32
  let main_v4 : FVec F S4096x16x96 .f32 := broadcastInDim S4096x16x96 ![] bcast_S_S4096x16x96 main_cst_0
  let main_v5 : IVec S4096x16x96 1 := cmpf .olt main_v3 main_v4
  let main_v6 : FVec F S4096x16x64 .f32 := Host.absf main_arg2
  let main_cst_1 : FVec F S_ .f32 := constant S_ .f32 0x7F800000#32
  let main_v7 : FVec F S4096x16x64 .f32 := broadcastInDim S4096x16x64 ![] bcast_S_S4096x16x64 main_cst_1
  let main_v8 : IVec S4096x16x64 1 := cmpf .olt main_v6 main_v7
  let main_v9 : FVec F S4096x16x64 .f32 := Host.absf main_arg3
  let main_cst_2 : FVec F S_ .f32 := constant S_ .f32 0x7F800000#32
  let main_v10 : FVec F S4096x16x64 .f32 := broadcastInDim S4096x16x64 ![] bcast_S_S4096x16x64 main_cst_2
  let main_v11 : IVec S4096x16x64 1 := cmpf .olt main_v9 main_v10
  (main_v2, main_v5, main_v8, main_v11)
-- ==== Pre_mlp_down_finite.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x4096 .f32) (main_arg1 : FVec F S4096x1024 .f32) (main_arg2 : FVec F S1x1024 .f32) (main_arg3 : FVec F S4096x1024 .f32) : IVec S4096x4096 1 × IVec S4096x1024 1 × IVec S1x1024 1 × IVec S4096x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_mlp_up_finite.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x4096 : S_.BroadcastsInDim S4096x4096 (![] : Fin 0 → Fin S4096x4096.rank)

variable [Facts]

def fn {F : FTy → Type} [FloatOps F] (main_arg0 : FVec F S4096x1024 .f32) (main_arg1 : FVec F S1x1024 .f32) (main_arg2 : FVec F S1024x4096 .f32) (main_arg3 : FVec F S4096x4096 .f32) (main_arg4 : FVec F S4096x1024 .f32) : IVec S4096x1024 1 × IVec S1x1024 1 × IVec S1024x4096 1 × IVec S4096x4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  (main_v2, main_v5, main_v8, main_v11)
-- ==== Pre_ple_finite.lean ====
abbrev S4096x1024 : Shape := ⟨2, ![4096, 1024]⟩
abbrev S4096x256 : Shape := ⟨2, ![4096, 256]⟩
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S256x1024 : S_.BroadcastsInDim S256x1024 (![] : Fin 0 → Fin S256x1024.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S4096x256 .f32) (main_arg2 : FVec F S4096x1024 .f32) (main_arg3 : FVec F S256x1024 .f32) (main_arg4 : FVec F S1x1024 .f32) (main_arg5 : FVec F S1024x1024 .f32) : IVec S4096x1024 1 × IVec S4096x256 1 × IVec S4096x1024 1 × IVec S256x1024 1 × IVec S1x1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== MlpUp.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 18
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024x4096, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024x1024, .bf16⟩
  | .hbm, ⟨11, _⟩ => ⟨S1x1024x1024, .bf16⟩
  | .hbm, ⟨12, _⟩ => ⟨S1x1024x1024, .bf16⟩
  | .hbm, ⟨13, _⟩ => ⟨S1x1024x1024, .bf16⟩
  | .hbm, ⟨14, _⟩ => ⟨S4x1024x1024, .bf16⟩
  | .hbm, ⟨15, _⟩ => ⟨S4096x4096, .bf16⟩
  | .hbm, ⟨16, _⟩ => ⟨S4096x1024, .f32⟩
  | .hbm, ⟨17, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4x1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpUpRefIdeal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S4096x1024, .f32⟩
  | .hbm, ⟨28, _⟩ => ⟨S1024x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== MlpDown.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4x1024x1024 : Shape := ⟨3, ![4, 1024, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .bf16⟩
  | .hbm, ⟨9, _⟩ => ⟨S4x1024x1024, .bf16⟩
  | .hbm, ⟨10, _⟩ => ⟨S4096x1024, .f32⟩
  | .hbm, ⟨11, _⟩ => ⟨S4096x4096, .bf16⟩
  | .hbm, ⟨12, _⟩ => ⟨S4096x1024, .bf16⟩
  | .hbm, ⟨13, _⟩ => ⟨S4096x4096, .bf16⟩
  | .hbm, ⟨14, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x1024x1024, .bf16⟩
  | .local _ .vmem, ⟨6, _⟩ => ⟨S256x4096, .bf16⟩
  | .local _ .vmem, ⟨7, _⟩ => ⟨S256x4096, .bf16⟩
  | .local _ .vmem, ⟨8, _⟩ => ⟨S256x1024, .bf16⟩
  | .local _ .vmem, ⟨9, _⟩ => ⟨S256x1024, .bf16⟩
  | .local _ .vmem, ⟨10, _⟩ => ⟨S256x4096, .bf16⟩
  | .local _ .vmem, ⟨11, _⟩ => ⟨S256x4096, .bf16⟩
  | .local _ .vmem, ⟨12, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpDownRefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S4096x1024, .bf16⟩
  | .hbm, ⟨70, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== BwdIn.lean ====
abbrev S4096x1024 : Shape := ⟨2, ![4096, 1024]⟩
abbrev S1x1024 : Shape := ⟨2, ![1, 1024]⟩
abbrev S1024x3744 : Shape := ⟨2, ![1024, 3744]⟩
abbrev S4096x256 : Shape := ⟨2, ![4096, 256]⟩
abbrev S4096x128 : Shape := ⟨2, ![4096, 128]⟩
abbrev S4096x32 : Shape := ⟨2, ![4096, 32]⟩
abbrev S4096x2048 : Shape := ⟨2, ![4096, 2048]⟩
abbrev S1024x936 : Shape := ⟨2, ![1024, 936]⟩
abbrev S1024x256 : Shape := ⟨2, ![1024, 256]⟩
abbrev S1024x128 : Shape := ⟨2, ![1024, 128]⟩
abbrev S1024x32 : Shape := ⟨2, ![1024, 32]⟩
abbrev S1024x520 : Shape := ⟨2, ![1024, 520]⟩
abbrev S1024x504 : Shape := ⟨2, ![1024, 504]⟩
abbrev S1024x64 : Shape := ⟨2, ![1024, 64]⟩
abbrev S1024x176 : Shape := ⟨2, ![1024, 176]⟩
abbrev S_ : Shape := ⟨0, ![]⟩
abbrev S1024x4032 : Shape := ⟨2, ![1024, 4032]⟩
abbrev S1024x4096 : Shape := ⟨2, ![1024, 4096]⟩
abbrev S4096x64 : Shape := ⟨2, ![4096, 64]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 60
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3744, .f32⟩
  | .hbm, ⟨3, _⟩ => ⟨S4096x256, .f32⟩
  | .hbm, ⟨4, _⟩ => ⟨S4096x128, .f32⟩
  | .hbm, ⟨5, _⟩ => ⟨S4096x32, .f32⟩
  | .hbm, ⟨6, _⟩ => ⟨S4096x1024, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x2048, .f32⟩
  | .hbm, ⟨12, _⟩ => ⟨S4096x1024, .f32⟩
  | .hbm, ⟨13, _⟩ => ⟨S1024x3744, .bf16⟩
  | .hbm, ⟨14, _⟩ => ⟨S1024x936, .bf16⟩
  | .hbm, ⟨15, _⟩ => ⟨S1024x936, .bf16⟩
  | .hbm, ⟨16, _⟩ => ⟨S1024x936, .bf16⟩
  | .hbm, ⟨17, _⟩ => ⟨S1024x936, .bf16⟩
  | .hbm, ⟨18, _⟩ => ⟨S1024x256, .bf16⟩
  | .hbm, ⟨19, _⟩ => ⟨S1024x128, .bf16⟩
  | .hbm, ⟨20, _⟩ => ⟨S1024x32, .bf16⟩
  | .hbm, ⟨21, _⟩ => ⟨S1024x520, .bf16⟩
  | .hbm, ⟨22, _⟩ => ⟨S1024x504, .bf16⟩
  | .hbm, ⟨23, _⟩ => ⟨S1024x64, .bf16⟩
  | .hbm, ⟨24, _⟩ => ⟨S1024x64, .bf16⟩
  | .hbm, ⟨25, _⟩ => ⟨S1024x64, .bf16⟩
  | .hbm, ⟨26, _⟩ => ⟨S1024x64, .bf16⟩
  | .hbm, ⟨27, _⟩ => ⟨S1024x64, .bf16⟩
  | .hbm, ⟨28, _⟩ => ⟨S1024x64, .bf16⟩
  | .hbm, ⟨29, _⟩ => ⟨S1024x64, .bf16⟩
  | .hbm, ⟨30, _⟩ => ⟨S1024x64, .bf16⟩
  | .hbm, ⟨31, _⟩ => ⟨S1024x176, .bf16⟩
  | .hbm, ⟨32, _⟩ => ⟨S_, .bf16⟩
  | .hbm, ⟨33, _⟩ => ⟨S1024x64, .bf16⟩
  | .hbm, ⟨34, _⟩ => ⟨S_, .bf16⟩
  | .hbm, ⟨35, _⟩ => ⟨S1024x32, .bf16⟩
  | .hbm, ⟨36, _⟩ => ⟨S1024x4032, .bf16⟩
  | .hbm, ⟨37, _⟩ => ⟨S1024x64, .bf16⟩
  | .hbm, ⟨38, _⟩ => ⟨S1024x4096, .bf16⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S4096x64, .f32⟩
  | .hbm, ⟨46, _⟩ => ⟨S4096x64, .f32⟩
  | .hbm, ⟨47, _⟩ => ⟨S_, .f32⟩
  | .hbm, ⟨48, _⟩ => ⟨S4096x64, .f32⟩
  | .hbm, ⟨49, _⟩ => ⟨S_, .f32⟩
  | .hbm, ⟨50, _⟩ => ⟨S4096x32, .f32⟩
  | .hbm, ⟨51, _⟩ => ⟨S4096x1024, .f32⟩
  | .hbm, ⟨52, _⟩ => ⟨S4096x1024, .bf16⟩
  | .hbm, ⟨53, _⟩ => ⟨S4096x1024, .f32⟩
  | .hbm, ⟨54, _⟩ => ⟨S4096x1024, .bf16⟩
  | .hbm, ⟨55, _⟩ => ⟨S4096x1024, .f32⟩
  | .hbm, ⟨56, _⟩ => ⟨S4096x1024, .bf16⟩
  | .hbm, ⟨57, _⟩ => ⟨S4096x1024, .bf16⟩
  | .hbm, ⟨58, _⟩ => ⟨S4096x1024, .f32⟩
  | .hbm, ⟨59, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x4096, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdInRefIdeal.lean ====
abbrev S4096x1024 : Shape := ⟨2, ![4096, 1024]⟩
abbrev S1x1024 : Shape := ⟨2, ![1, 1024]⟩
abbrev S1024x3744 : Shape := ⟨2, ![1024, 3744]⟩
abbrev S4096x256 : Shape := ⟨2, ![4096, 256]⟩
abbrev S4096x128 : Shape := ⟨2, ![4096, 128]⟩
abbrev S4096x32 : Shape := ⟨2, ![4096, 32]⟩
abbrev S4096x2048 : Shape := ⟨2, ![4096, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3744 : Shape := ⟨2, ![4096, 3744]⟩
abbrev S3744x1024 : Shape := ⟨2, ![3744, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3744, .f32⟩
  | .hbm, ⟨3, _⟩ => ⟨S4096x256, .f32⟩
  | .hbm, ⟨4, _⟩ => ⟨S4096x128, .f32⟩
  | .hbm, ⟨5, _⟩ => ⟨S4096x32, .f32⟩
  | .hbm, ⟨6, _⟩ => ⟨S4096x1024, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x2048, .f32⟩
  | .hbm, ⟨12, _⟩ => ⟨S4096x1024, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x3744, .f32⟩
  | .hbm, ⟨35, _⟩ => ⟨S4096x256, .f32⟩
  | .hbm, ⟨36, _⟩ => ⟨S4096x128, .f32⟩
  | .hbm, ⟨37, _⟩ => ⟨S4096x32, .f32⟩
  | .hbm, ⟨38, _⟩ => ⟨S4096x1024, .f32⟩
  | .hbm, ⟨39, _⟩ => ⟨S4096x128, .f32⟩
  | .hbm, ⟨40, _⟩ => ⟨S4096x128, .f32⟩
  | .hbm, ⟨41, _⟩ => ⟨S4096x2048, .f32⟩
  | .hbm, ⟨42, _⟩ => ⟨S4096x128, .f32⟩
  | .hbm, ⟨43, _⟩ => ⟨S4096x128, .f32⟩
  | .hbm, ⟨44, _⟩ => ⟨S4096x3744, .f32⟩
  | .hbm, ⟨45, _⟩ => ⟨S3744x1024, .f32⟩
  | .hbm, ⟨46, _⟩ => ⟨S1024x3744, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Ple.lean ====
abbrev S4096x1024 : Shape := ⟨2, ![4096, 1024]⟩
abbrev S4096x256 : Shape := ⟨2, ![4096, 256]⟩
abbrev S256x1024 : Shape := ⟨2, ![256, 1024]⟩
abbrev S1x1024 : Shape := ⟨2, ![1, 1024]⟩
abbrev S1024x1024 : Shape := ⟨2, ![1024, 1024]⟩
abbrev S8x128 : Shape := ⟨2, ![8, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S256x1024, .f32⟩
  | .hbm, ⟨4, _⟩ => ⟨S1x1024, .f32⟩
  | .hbm, ⟨5, _⟩ => ⟨S1024x1024, .f32⟩
  | .hbm, ⟨6, _⟩ => ⟨S256x1024, .bf16⟩
  | .hbm, ⟨7, _⟩ => ⟨S1024x1024, .bf16⟩
  | .hbm, ⟨8, _⟩ => ⟨S8x128, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S1x1024, .f32⟩
  | .local _ .vmem, ⟨0, _⟩ => ⟨S256x256, .f32⟩
  | .local _ .vmem, ⟨1, _⟩ => ⟨S256x256, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S1x1024, .f32⟩
  | .local _ .vmem, ⟨8, _⟩ => ⟨S1024x1024, .bf16⟩
  | .local _ .vmem, ⟨9, _⟩ => ⟨S8x128, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleRefIdeal.lean ====
abbrev S4096x1024 : Shape := ⟨2, ![4096, 1024]⟩
abbrev S4096x256 : Shape := ⟨2, ![4096, 256]⟩
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S8x128 : Shape := ⟨2, ![8, 128]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S256x1024, .f32⟩
  | .hbm, ⟨4, _⟩ => ⟨S1x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S1x1024, .f32⟩
  | .hbm, ⟨94, _⟩ => ⟨S4096x1024, .f32⟩
  | .hbm, ⟨95, _⟩ => ⟨S8x128, .f32⟩
  | .hbm, ⟨96, _⟩ => ⟨S4096x1024, .f32⟩
  | .hbm, ⟨97, _⟩ => ⟨S4096x1024, .f32⟩
  | .hbm, ⟨98, _⟩ => ⟨S4096x1024, .bf16⟩
  | .hbm, ⟨99, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Mix.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩
abbrev S4096x4096 : Shape := ⟨2, ![4096, 4096]⟩
abbrev S8x16x8x256 : Shape := ⟨4, ![8, 16, 8, 256]⟩
abbrev S16x1024x256 : Shape := ⟨3, ![16, 1024, 256]⟩
abbrev S256x1024 : Shape := ⟨2, ![256, 1024]⟩
abbrev S8x1x8x256 : Shape := ⟨4, ![8, 1, 8, 256]⟩
abbrev S1x1024x256 : Shape := ⟨3, ![1, 1024, 256]⟩
abbrev S256 : Shape := ⟨1, ![256]⟩
abbrev S256x1 : Shape := ⟨2, ![256, 1]⟩
abbrev S1024 : Shape := ⟨1, ![1024]⟩
abbrev S8x256 : Shape := ⟨2, ![8, 256]⟩
abbrev S256x128 : Shape := ⟨2, ![256, 128]⟩
abbrev S128x256 : Shape := ⟨2, ![128, 256]⟩
abbrev S64x256 : Shape := ⟨2, ![64, 256]⟩
abbrev S1x256 : Shape := ⟨2, ![1, 256]⟩
abbrev S1x1x8x256 : Shape := ⟨4, ![1, 1, 8, 256]⟩
abbrev S1x128x256 : Shape := ⟨3, ![1, 128, 256]⟩

abbrev nBuf : Space → Nat
  | .hbm => 49
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x1024, .bf16⟩
  | .hbm, ⟨38, _⟩ => ⟨S1024x1024, .bf16⟩
  | .hbm, ⟨39, _⟩ => ⟨S1024x1024, .bf16⟩
  | .hbm, ⟨40, _⟩ => ⟨S4096x1024, .bf16⟩
  | .hbm, ⟨41, _⟩ => ⟨S1x1024, .f32⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x1024, .f32⟩
  | .hbm, ⟨47, _⟩ => ⟨S8x16x8x256, .f32⟩
  | .hbm, ⟨48, _⟩ => ⟨S16x1024x256, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S8x1x8x256, .f32⟩
  | .local _ .vmem, ⟨32, _⟩ => ⟨S8x1x8x256, .f32⟩
  | .local _ .vmem, ⟨33, _⟩ => ⟨S1x1024x256, .bf16⟩
  | .local _ .vmem, ⟨34, _⟩ => ⟨S1x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev main_v26_4 : Ref sig .tc := ⟨.hbm, 44, rfl⟩
abbrev main_v26_5 : Ref sig .tc := ⟨.hbm, 45, rfl⟩
abbrev main_v26_6 : Ref sig .tc := ⟨.hbm, 46, rfl⟩
abbrev main_v26_7 : Ref sig .tc := ⟨.hbm, 47, rfl⟩
abbrev main_v26_8 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x1x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixRefIdeal.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S16x256x8x2x64 : Shape := ⟨5, ![16, 256, 8, 2, 64]⟩
abbrev S16x256x8x2 : Shape := ⟨4, ![16, 256, 8, 2]⟩
abbrev S8x16x2x256 : Shape := ⟨4, ![8, 16, 2, 256]⟩
abbrev S8x16x6x256 : Shape := ⟨4, ![8, 16, 6, 256]⟩
abbrev S8x16x8x256 : Shape := ⟨4, ![8, 16, 8, 256]⟩
abbrev S16x256x1024 : Shape := ⟨3, ![16, 256, 1024]⟩
abbrev S16x1024x256 : Shape := ⟨3, ![16, 1024, 256]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S16x256x8x2x64, .f32⟩
  | .hbm, ⟨98, _⟩ => ⟨S_, .f32⟩
  | .hbm, ⟨99, _⟩ => ⟨S16x256x8x2, .f32⟩
  | .hbm, ⟨100, _⟩ => ⟨S8x16x2x256, .f32⟩
  | .hbm, ⟨101, _⟩ => ⟨S_, .f32⟩
  | .hbm, ⟨102, _⟩ => ⟨S8x16x6x256, .f32⟩
  | .hbm, ⟨103, _⟩ => ⟨S8x16x8x256, .f32⟩
  | .hbm, ⟨104, _⟩ => ⟨S4096x1024, .bf16⟩
  | .hbm, ⟨105, _⟩ => ⟨S4096x1024, .bf16⟩
  | .hbm, ⟨106, _⟩ => ⟨S4096x1024, .bf16⟩
  | .hbm, ⟨107, _⟩ => ⟨S4096x1024, .bf16⟩
  | .hbm, ⟨108, _⟩ => ⟨S4096x1024, .bf16⟩
  | .hbm, ⟨109, _⟩ => ⟨S16x256x1024, .f32⟩
  | .hbm, ⟨110, _⟩ => ⟨S16x1024x256, .f32⟩
  | .hbm, ⟨111, _⟩ => ⟨S16x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_14 : Ref sig .tc := ⟨.hbm, 98, rfl⟩
abbrev main_v75 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Mla.lean ====
abbrev S4096x16x96 : Shape := ⟨3, ![4096, 16, 96]⟩
abbrev S4096x16x64 : Shape := ⟨3, ![4096, 16, 64]⟩
abbrev S_ : Shape := ⟨0, ![]⟩
abbrev S4096x16x32 : Shape := ⟨3, ![4096, 16, 32]⟩
abbrev S4096x16x128 : Shape := ⟨3, ![4096, 16, 128]⟩
abbrev S4096x2048 : Shape := ⟨2, ![4096, 2048]⟩
abbrev S4096x1024 : Shape := ⟨2, ![4096, 1024]⟩
abbrev S16x4096x4096 : Shape := ⟨3, ![16, 4096, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S8x2x16x256 : Shape := ⟨4, ![8, 2, 16, 256]⟩
abbrev S8x16x2x256 : Shape := ⟨4, ![8, 16, 2, 256]⟩
abbrev S8x16x6x256 : Shape := ⟨4, ![8, 16, 6, 256]⟩
abbrev S8x16x8x256 : Shape := ⟨4, ![8, 16, 8, 256]⟩
abbrev S4096x16 : Shape := ⟨2, ![4096, 16]⟩
abbrev S16x256x2048 : Shape := ⟨3, ![16, 256, 2048]⟩
abbrev S16x2048x256 : Shape := ⟨3, ![16, 2048, 256]⟩
abbrev S16x256x1024 : Shape := ⟨3, ![16, 256, 1024]⟩
abbrev S16x1024x256 : Shape := ⟨3, ![16, 1024, 256]⟩
abbrev S16x256x256 : Shape := ⟨3, ![16, 256, 256]⟩
abbrev S512x256 : Shape := ⟨2, ![512, 256]⟩
abbrev S2x256x256 : Shape := ⟨3, ![2, 256, 256]⟩
abbrev S512x128 : Shape := ⟨2, ![512, 128]⟩
abbrev S16x128x256 : Shape := ⟨3, ![16, 128, 256]⟩
abbrev S1x16x8x256 : Shape := ⟨4, ![1, 16, 8, 256]⟩
abbrev S2x128x256 : Shape := ⟨3, ![2, 128, 256]⟩
abbrev S2x2x256x256 : Shape := ⟨4, ![2, 2, 256, 256]⟩
abbrev S2x256x128 : Shape := ⟨3, ![2, 256, 128]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S256x256 : Shape := ⟨2, ![256, 256]⟩
abbrev S1x1x256x256 : Shape := ⟨4, ![1, 1, 256, 256]⟩
abbrev S1x1x8x256 : Shape := ⟨4, ![1, 1, 8, 256]⟩
abbrev S8x256 : Shape := ⟨2, ![8, 256]⟩
abbrev S1x1x256x128 : Shape := ⟨4, ![1, 1, 256, 128]⟩
abbrev S1x128 : Shape := ⟨2, ![1, 128]⟩
abbrev S1x64x256 : Shape := ⟨3, ![1, 64, 256]⟩
abbrev S64x256 : Shape := ⟨2, ![64, 256]⟩
abbrev S1x256x256 : Shape := ⟨3, ![1, 256, 256]⟩
abbrev S1x96x256 : Shape := ⟨3, ![1, 96, 256]⟩
abbrev S96x256 : Shape := ⟨2, ![96, 256]⟩

abbrev nBuf : Space → Nat
  | .hbm => 79
  | .vmem => 25
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x16x64, .f32⟩
  | .hbm, ⟨4, _⟩ => ⟨S_, .f32⟩
  | .hbm, ⟨5, _⟩ => ⟨S4096x16x32, .f32⟩
  | .hbm, ⟨6, _⟩ => ⟨S4096x16x128, .f32⟩
  | .hbm, ⟨7, _⟩ => ⟨S4096x16x128, .bf16⟩
  | .hbm, ⟨8, _⟩ => ⟨S4096x2048, .bf16⟩
  | .hbm, ⟨9, _⟩ => ⟨S4096x16x64, .bf16⟩
  | .hbm, ⟨10, _⟩ => ⟨S4096x1024, .bf16⟩
  | .hbm, ⟨11, _⟩ => ⟨S16x4096x4096, .f32⟩
  | .hbm, ⟨12, _⟩ => ⟨S_, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S4096, .i32⟩
  | .hbm, ⟨17, _⟩ => ⟨S1x1x4096, .i32⟩
  | .hbm, ⟨18, _⟩ => ⟨S4096, .i32⟩
  | .hbm, ⟨19, _⟩ => ⟨S1x4096x1, .i32⟩
  | .hbm, ⟨20, _⟩ => ⟨S1x4096x4096, .i32⟩
  | .hbm, ⟨21, _⟩ => ⟨S1x4096x4096, .i32⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S16x4096x4096, .i1⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .f32⟩
  | .hbm, ⟨39, _⟩ => ⟨S16x64x4096, .f32⟩
  | .hbm, ⟨40, _⟩ => ⟨S4096x16x64, .f32⟩
  | .hbm, ⟨41, _⟩ => ⟨S16x4096x1, .f32⟩
  | .hbm, ⟨42, _⟩ => ⟨S16x4096x1, .f32⟩
  | .hbm, ⟨43, _⟩ => ⟨S_, .f32⟩
  | .hbm, ⟨44, _⟩ => ⟨S_, .f32⟩
  | .hbm, ⟨45, _⟩ => ⟨S16x4096x1, .f32⟩
  | .hbm, ⟨46, _⟩ => ⟨S16x4096x1, .f32⟩
  | .hbm, ⟨47, _⟩ => ⟨S8x2x16x256, .f32⟩
  | .hbm, ⟨48, _⟩ => ⟨S8x16x2x256, .f32⟩
  | .hbm, ⟨49, _⟩ => ⟨S_, .f32⟩
  | .hbm, ⟨50, _⟩ => ⟨S8x16x6x256, .f32⟩
  | .hbm, ⟨51, _⟩ => ⟨S8x16x8x256, .f32⟩
  | .hbm, ⟨52, _⟩ => ⟨S4096x16x64, .f32⟩
  | .hbm, ⟨53, _⟩ => ⟨S_, .f32⟩
  | .hbm, ⟨54, _⟩ => ⟨S4096x16, .f32⟩
  | .hbm, ⟨55, _⟩ => ⟨S16x4096, .f32⟩
  | .hbm, ⟨56, _⟩ => ⟨S8x2x16x256, .f32⟩
  | .hbm, ⟨57, _⟩ => ⟨S8x16x2x256, .f32⟩
  | .hbm, ⟨58, _⟩ => ⟨S_, .f32⟩
  | .hbm, ⟨59, _⟩ => ⟨S8x16x6x256, .f32⟩
  | .hbm, ⟨60, _⟩ => ⟨S8x16x8x256, .f32⟩
  | .hbm, ⟨61, _⟩ => ⟨S_, .f32⟩
  | .hbm, ⟨62, _⟩ => ⟨S4096x16x32, .f32⟩
  | .hbm, ⟨63, _⟩ => ⟨S4096x16x128, .f32⟩
  | .hbm, ⟨64, _⟩ => ⟨S4096x16x128, .bf16⟩
  | .hbm, ⟨65, _⟩ => ⟨S16x256x2048, .bf16⟩
  | .hbm, ⟨66, _⟩ => ⟨S16x2048x256, .bf16⟩
  | .hbm, ⟨67, _⟩ => ⟨S_, .f32⟩
  | .hbm, ⟨68, _⟩ => ⟨S4096x16x32, .f32⟩
  | .hbm, ⟨69, _⟩ => ⟨S4096x16x128, .f32⟩
  | .hbm, ⟨70, _⟩ => ⟨S4096x16x128, .bf16⟩
  | .hbm, ⟨71, _⟩ => ⟨S16x256x2048, .bf16⟩
  | .hbm, ⟨72, _⟩ => ⟨S16x2048x256, .bf16⟩
  | .hbm, ⟨73, _⟩ => ⟨S4096x16x64, .bf16⟩
  | .hbm, ⟨74, _⟩ => ⟨S16x256x1024, .bf16⟩
  | .hbm, ⟨75, _⟩ => ⟨S16x1024x256, .bf16⟩
  | .hbm, ⟨76, _⟩ => ⟨S16x2048x256, .f32⟩
  | .hbm, ⟨77, _⟩ => ⟨S16x2048x256, .f32⟩
  | .hbm, ⟨78, _⟩ => ⟨S16x1024x256, .f32⟩
  | .local _ .vmem, ⟨0, _⟩ => ⟨S16x256x256, .bf16⟩
  | .local _ .vmem, ⟨1, _⟩ => ⟨S16x256x256, .bf16⟩
  | .local _ .vmem, ⟨2, _⟩ => ⟨S512x256, .bf16⟩
  | .local _ .vmem, ⟨3, _⟩ => ⟨S512x256, .bf16⟩
  | .local _ .vmem, ⟨4, _⟩ => ⟨S2x256x256, .bf16⟩
  | .local _ .vmem, ⟨5, _⟩ => ⟨S2x256x256, .bf16⟩
  | .local _ .vmem, ⟨6, _⟩ => ⟨S512x128, .bf16⟩
  | .local _ .vmem, ⟨7, _⟩ => ⟨S512x128, .bf16⟩
  | .local _ .vmem, ⟨8, _⟩ => ⟨S16x128x256, .bf16⟩
  | .local _ .vmem, ⟨9, _⟩ => ⟨S16x128x256, .bf16⟩
  | .local _ .vmem, ⟨10, _⟩ => ⟨S1x16x8x256, .f32⟩
  | .local _ .vmem, ⟨11, _⟩ => ⟨S1x16x8x256, .f32⟩
  | .local _ .vmem, ⟨12, _⟩ => ⟨S1x16x8x256, .f32⟩
  | .local _ .vmem, ⟨13, _⟩ => ⟨S1x16x8x256, .f32⟩
  | .local _ .vmem, ⟨14, _⟩ => ⟨S16x256x256, .f32⟩
  | .local _ .vmem, ⟨15, _⟩ => ⟨S16x256x256, .f32⟩
  | .local _ .vmem, ⟨16, _⟩ => ⟨S2x256x256, .f32⟩
  | .local _ .vmem, ⟨17, _⟩ => ⟨S2x256x256, .f32⟩
  | .local _ .vmem, ⟨18, _⟩ => ⟨S2x128x256, .f32⟩
  | .local _ .vmem, ⟨19, _⟩ => ⟨S2x128x256, .f32⟩
  | .local _ .vmem, ⟨20, _⟩ => ⟨S2x2x256x256, .f32⟩
  | .local _ .vmem, ⟨21, _⟩ => ⟨S2x2x256x256, .f32⟩
  | .local _ .vmem, ⟨22, _⟩ => ⟨S2x256x256, .bf16⟩
  | .local _ .vmem, ⟨23, _⟩ => ⟨S2x256x256, .bf16⟩
  | .local _ .vmem, ⟨24, _⟩ => ⟨S2x256x128, .bf16⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58_0 : Ref sig .tc := ⟨.hbm, 76, rfl⟩
abbrev main_v58_1 : Ref sig .tc := ⟨.hbm, 77, rfl⟩
abbrev main_v58_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_off1 (i : grid0.Coords) (c0_i32_7 : BitVec 32) : Fin 3 → Nat :=
  let c15_i32 : BitVec 32 := 15#32
  let c2_i32 : BitVec 32 := 2#32
  let arg1 : BitVec 32 := BitVec.ofNat 32 (i 1).val
  let v7 : BitVec 32 := Scalar.muli c2_i32 arg1
  let v8 : BitVec 32 := Scalar.addi v7 c0_i32_7
  let v26 : BitVec 32 := Scalar.subi c15_i32 v8
  let c0_i32_17 : BitVec 32 := 0#32
  let v27 : BitVec 1 := Scalar.cmpi .sgt v26 c0_i32_17
  let c1_i32 : BitVec 32 := 1#32
  let v28 : BitVec 32 := Scalar.addi v8 c1_i32
  let v29 : BitVec 32 := Scalar.select v27 v28 v8
  let v32 : Index := Scalar.indexCast v29
  let c0_20 : Index := 0#32
  let c0_21 : Index := 0#32
  ![v32.toNat, 0, 0]
def k0_off2 (i : grid0.Coords) (c0_i32_7 : BitVec 32) : Fin 3 → Nat :=
  let c15_i32 : BitVec 32 := 15#32
  let c2_i32 : BitVec 32 := 2#32
  let arg1 : BitVec 32 := BitVec.ofNat 32 (i 1).val
  let v7 : BitVec 32 := Scalar.muli c2_i32 arg1
  let v8 : BitVec 32 := Scalar.addi v7 c0_i32_7
  let v26 : BitVec 32 := Scalar.subi c15_i32 v8
  let c0_i32_17 : BitVec 32 := 0#32
  let v27 : BitVec 1 := Scalar.cmpi .sgt v26 c0_i32_17
  let c1_i32 : BitVec 32 := 1#32
  let v28 : BitVec 32 := Scalar.addi v8 c1_i32
  let v29 : BitVec 32 := Scalar.select v27 v28 v8
  let v41 : Index := Scalar.indexCast v29
  let c0_30 : Index := 0#32
  let c0_31 : Index := 0#32
  ![v41.toNat, 0, 0]
def k0_off3 (i : grid0.Coords) (c0_i32_7 : BitVec 32) : Fin 3 → Nat :=
  let c15_i32 : BitVec 32 := 15#32
  let c2_i32 : BitVec 32 := 2#32
  let arg1 : BitVec 32 := BitVec.ofNat 32 (i 1).val
  let v7 : BitVec 32 := Scalar.muli c2_i32 arg1
  let v8 : BitVec 32 := Scalar.addi v7 c0_i32_7
  let v26 : BitVec 32 := Scalar.subi c15_i32 v8
  let c0_i32_17 : BitVec 32 := 0#32
  let v27 : BitVec 1 := Scalar.cmpi .sgt v26 c0_i32_17
  let c1_i32 : BitVec 32 := 1#32
  let v28 : BitVec 32 := Scalar.addi v8 c1_i32
  let v29 : BitVec 32 := Scalar.select v27 v28 v8
  let v50 : Index := Scalar.indexCast v29
  let c128_38 : Index := 128#32
  let c0_39 : Index := 0#32
  ![v50.toNat, 128, 0]
@[reducible] def k0_t1_loop (i : grid0.Coords) : Scf.Loop 32 :=
  let c0_i32_63 : BitVec 32 := 0#32
  let c15_i32 : BitVec 32 := 15#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_65 : BitVec 32 := 1#32
  ⟨c0_i32_63, v87, c1_i32_65⟩
def k0_off4 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_166 : BitVec 32 := 1#32
  let v224 : BitVec 32 := Scalar.addi v223 c1_i32_166
  let v227 : Index := Scalar.indexCast v224
  let c0_169 : Index := 0#32
  let c0_170 : Index := 0#32
  ![v227.toNat, 0, 0]
def k0_off5 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_166 : BitVec 32 := 1#32
  let v224 : BitVec 32 := Scalar.addi v223 c1_i32_166
  let v236 : Index := Scalar.indexCast v224
  let c0_179 : Index := 0#32
  let c0_180 : Index := 0#32
  ![v236.toNat, 0, 0]
def k0_off6 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_166 : BitVec 32 := 1#32
  let v224 : BitVec 32 := Scalar.addi v223 c1_i32_166
  let v245 : Index := Scalar.indexCast v224
  let c128_188 : Index := 128#32
  let c0_189 : Index := 0#32
  ![v245.toNat, 128, 0]
def k0_off7 (i : grid0.Coords) (k0_t1 : Fin (k0_t1_loop i).trips) : Fin 4 → Nat :=
  let c0_205 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v261 : Index := Scalar.indexCast v223
  let c0_206 : Index := 0#32
  let c0_207 : Index := 0#32
  ![0, v261.toNat, 0, 0]
def k0_off8 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v365 : Index := Scalar.indexCast v223
  let c0_278 : Index := 0#32
  let c0_279 : Index := 0#32
  ![v365.toNat, 0, 0]
def k0_off9 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v377 : Index := Scalar.indexCast v223
  let c0_290 : Index := 0#32
  let c0_291 : Index := 0#32
  ![v377.toNat, 0, 0]
def k0_off10 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v402 : Index := Scalar.indexCast v223
  let c64_312 : Index := 64#32
  let c0_313 : Index := 0#32
  ![v402.toNat, 64, 0]
def k0_off11 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let v414 : Index := Scalar.indexCast v223
  let c128_324 : Index := 128#32
  let c0_325 : Index := 0#32
  ![v414.toNat, 128, 0]
def k0_off12 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v443 : Index := Scalar.indexCast v440
  let c0_348 : Index := 0#32
  let c0_349 : Index := 0#32
  ![v443.toNat, 0, 0]
def k0_off13 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v452 : Index := Scalar.indexCast v440
  let c0_358 : Index := 0#32
  let c0_359 : Index := 0#32
  ![v452.toNat, 0, 0]
def k0_off14 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v461 : Index := Scalar.indexCast v440
  let c128_367 : Index := 128#32
  let c0_368 : Index := 0#32
  ![v461.toNat, 128, 0]
def k0_off15 (i : grid0.Coords) (k0_t1 : Fin (k0_t1_loop i).trips) : Fin 4 → Nat :=
  let c0_385 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v478 : Index := Scalar.indexCast v477
  let c0_386 : Index := 0#32
  let c0_387 : Index := 0#32
  ![0, v478.toNat, 0, 0]
def k0_off16 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v582 : Index := Scalar.indexCast v477
  let c0_458 : Index := 0#32
  let c0_459 : Index := 0#32
  ![v582.toNat, 0, 0]
def k0_off17 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v594 : Index := Scalar.indexCast v477
  let c0_470 : Index := 0#32
  let c0_471 : Index := 0#32
  ![v594.toNat, 0, 0]
def k0_off18 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v619 : Index := Scalar.indexCast v477
  let c64_493 : Index := 64#32
  let c0_494 : Index := 0#32
  ![v619.toNat, 64, 0]
def k0_off19 (i : grid0.Coords) (k0_t1 : Fin (k0_t1_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c1_i32_65 : BitVec 32 := 1#32
  let arg17 : BitVec 32 := Scf.iv c0_i32_63 c1_i32_65 k0_t1
  let v222 : BitVec 32 := Scalar.muli c2_i32_165 arg17
  let v223 : BitVec 32 := Scalar.addi v221 v222
  let c1_i32_384 : BitVec 32 := 1#32
  let v477 : BitVec 32 := Scalar.addi v223 c1_i32_384
  let v631 : Index := Scalar.indexCast v477
  let c128_505 : Index := 128#32
  let c0_506 : Index := 0#32
  ![v631.toNat, 128, 0]
@[reducible] def k0_t2_loop (i : grid0.Coords) : Scf.Loop 32 :=
  let c0_i32_63 : BitVec 32 := 0#32
  let c15_i32 : BitVec 32 := 15#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let v84 : BitVec 32 := Scalar.addi c0_i32_63 v83
  let c1_i32_66 : BitVec 32 := 1#32
  ⟨v87, v84, c1_i32_66⟩
def k0_off20 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_166 : BitVec 32 := 1#32
  let v224 : BitVec 32 := Scalar.addi v223 c1_i32_166
  let v227 : Index := Scalar.indexCast v224
  let c0_169 : Index := 0#32
  let c0_170 : Index := 0#32
  ![v227.toNat, 0, 0]
def k0_off21 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_166 : BitVec 32 := 1#32
  let v224 : BitVec 32 := Scalar.addi v223 c1_i32_166
  let v236 : Index := Scalar.indexCast v224
  let c0_179 : Index := 0#32
  let c0_180 : Index := 0#32
  ![v236.toNat, 0, 0]
def k0_off22 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_166 : BitVec 32 := 1#32
  let v224 : BitVec 32 := Scalar.addi v223 c1_i32_166
  let v245 : Index := Scalar.indexCast v224
  let c128_188 : Index := 128#32
  let c0_189 : Index := 0#32
  ![v245.toNat, 128, 0]
def k0_off23 (i : grid0.Coords) (k0_t2 : Fin (k0_t2_loop i).trips) : Fin 4 → Nat :=
  let c0_205 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v261 : Index := Scalar.indexCast v223
  let c0_206 : Index := 0#32
  let c0_207 : Index := 0#32
  ![0, v261.toNat, 0, 0]
def k0_off24 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v365 : Index := Scalar.indexCast v223
  let c0_278 : Index := 0#32
  let c0_279 : Index := 0#32
  ![v365.toNat, 0, 0]
def k0_off25 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v377 : Index := Scalar.indexCast v223
  let c0_290 : Index := 0#32
  let c0_291 : Index := 0#32
  ![v377.toNat, 0, 0]
def k0_off26 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v402 : Index := Scalar.indexCast v223
  let c64_312 : Index := 64#32
  let c0_313 : Index := 0#32
  ![v402.toNat, 64, 0]
def k0_off27 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let v414 : Index := Scalar.indexCast v223
  let c128_324 : Index := 128#32
  let c0_325 : Index := 0#32
  ![v414.toNat, 128, 0]
def k0_off28 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v443 : Index := Scalar.indexCast v440
  let c0_348 : Index := 0#32
  let c0_349 : Index := 0#32
  ![v443.toNat, 0, 0]
def k0_off29 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v452 : Index := Scalar.indexCast v440
  let c0_358 : Index := 0#32
  let c0_359 : Index := 0#32
  ![v452.toNat, 0, 0]
def k0_off30 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v8
  let v461 : Index := Scalar.indexCast v440
  let c128_367 : Index := 128#32
  let c0_368 : Index := 0#32
  ![v461.toNat, 128, 0]
def k0_off31 (i : grid0.Coords) (k0_t2 : Fin (k0_t2_loop i).trips) : Fin 4 → Nat :=
  let c0_385 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v478 : Index := Scalar.indexCast v477
  let c0_386 : Index := 0#32
  let c0_387 : Index := 0#32
  ![0, v478.toNat, 0, 0]
def k0_off32 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v582 : Index := Scalar.indexCast v477
  let c0_458 : Index := 0#32
  let c0_459 : Index := 0#32
  ![v582.toNat, 0, 0]
def k0_off33 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v594 : Index := Scalar.indexCast v477
  let c0_470 : Index := 0#32
  let c0_471 : Index := 0#32
  ![v594.toNat, 0, 0]
def k0_off34 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v619 : Index := Scalar.indexCast v477
  let c64_493 : Index := 64#32
  let c0_494 : Index := 0#32
  ![v619.toNat, 64, 0]
def k0_off35 (i : grid0.Coords) (k0_t2 : Fin (k0_t2_loop i).trips) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let c1_i32_164 : BitVec 32 := 1#32
  let v221 : BitVec 32 := Scalar.addi v8 c1_i32_164
  let c2_i32_165 : BitVec 32 := 2#32
  let c0_i32_63 : BitVec 32 := 0#32
  let c15_i32 : BitVec 32 := 15#32
  let v26 : BitVec 32 := Scalar.subi c15_i32 v8
  let c0_i32_56 : BitVec 32 := 0#32
  let v67 : BitVec 1 := Scalar.cmpi .sgt v26 c0_i32_56
  let v68 : BitVec 32 := Scalar.extui v67
  let c0_i32_57 : BitVec 32 := 0#32
  let v69 : BitVec 1 := Scalar.cmpi .slt v26 c0_i32_57
  let v70 : BitVec 32 := Scalar.extui v69
  let v71 : BitVec 32 := Scalar.subi v68 v70
  let c2_i32_55 : BitVec 32 := 2#32
  let c0_i32_58 : BitVec 32 := 0#32
  let v72 : BitVec 1 := Scalar.cmpi .sgt c2_i32_55 c0_i32_58
  let v73 : BitVec 32 := Scalar.extui v72
  let c0_i32_59 : BitVec 32 := 0#32
  let v74 : BitVec 1 := Scalar.cmpi .slt c2_i32_55 c0_i32_59
  let v75 : BitVec 32 := Scalar.extui v74
  let v76 : BitVec 32 := Scalar.subi v73 v75
  let v77 : BitVec 1 := Scalar.cmpi .ne v71 v76
  let v78 : BitVec 32 := Scalar.remsi v26 c2_i32_55
  let c0_i32_60 : BitVec 32 := 0#32
  let v79 : BitVec 1 := Scalar.cmpi .ne v78 c0_i32_60
  let v80 : BitVec 1 := Scalar.andi v77 v79
  let v66 : BitVec 32 := Scalar.divsi v26 c2_i32_55
  let c1_i32_61 : BitVec 32 := 1#32
  let v81 : BitVec 32 := Scalar.subi v66 c1_i32_61
  let v82 : BitVec 32 := Scalar.select v80 v81 v66
  let v83 : BitVec 32 := Scalar.subi v82 c0_i32_63
  let c1_i32_64 : BitVec 32 := 1#32
  let v85 : BitVec 32 := Scalar.divsi v83 c1_i32_64
  let v86 : BitVec 32 := Scalar.muli v85 c1_i32_64
  let v87 : BitVec 32 := Scalar.addi c0_i32_63 v86
  let c1_i32_66 : BitVec 32 := 1#32
  let arg17 : BitVec 32 := Scf.iv v87 c1_i32_66 k0_t2
  let v222 : BitVec 32 := Scalar.muli c2_i32_165 arg17
  let v223 : BitVec 32 := Scalar.addi v221 v222
  let c1_i32_384 : BitVec 32 := 1#32
  let v477 : BitVec 32 := Scalar.addi v223 c1_i32_384
  let v631 : Index := Scalar.indexCast v477
  let c128_505 : Index := 128#32
  let c0_506 : Index := 0#32
  ![v631.toNat, 128, 0]
def k0_cond2 (i : grid0.Coords) : BitVec 1 :=
  let c15_i32 : BitVec 32 := 15#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v26 : BitVec 32 := Scalar.subi c15_i32 v8
  let c2_i32_67 : BitVec 32 := 2#32
  let c0_i32_68 : BitVec 32 := 0#32
  let v88 : BitVec 1 := Scalar.cmpi .eq c2_i32_67 c0_i32_68
  let c1_i32_69 : BitVec 32 := 1#32
  let v89 : BitVec 32 := Scalar.select v88 c1_i32_69 c2_i32_67
  let v90 : BitVec 32 := Scalar.remsi v26 v89
  let c0_i32_71 : BitVec 32 := 0#32
  let v92 : BitVec 1 := Scalar.cmpi .slt v90 c0_i32_71
  let c0_i32_72 : BitVec 32 := 0#32
  let v93 : BitVec 1 := Scalar.cmpi .slt v89 c0_i32_72
  let v94 : BitVec 1 := Scalar.xori v92 v93
  let c0_i32_70 : BitVec 32 := 0#32
  let v91 : BitVec 1 := Scalar.cmpi .ne v90 c0_i32_70
  let v95 : BitVec 1 := Scalar.andi v94 v91
  let v96 : BitVec 32 := Scalar.addi v90 v89
  let v97 : BitVec 32 := Scalar.select v95 v96 v90
  let c1_i32_73 : BitVec 32 := 1#32
  let v98 : BitVec 1 := Scalar.cmpi .eq v97 c1_i32_73
  let v99 : BitVec 32 := Scalar.extui v98
  let c0_i32_74 : BitVec 32 := 0#32
  let v100 : BitVec 1 := Scalar.cmpi .ne v99 c0_i32_74
  v100

def k0_off36 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v223 : Index := Scalar.indexCast v8
  let c0_166 : Index := 0#32
  let c0_167 : Index := 0#32
  ![v223.toNat, 0, 0]
def k0_off37 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v232 : Index := Scalar.indexCast v8
  let c0_176 : Index := 0#32
  let c0_177 : Index := 0#32
  ![v232.toNat, 0, 0]
def k0_off38 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v241 : Index := Scalar.indexCast v8
  let c128_185 : Index := 128#32
  let c0_186 : Index := 0#32
  ![v241.toNat, 128, 0]
def k0_off39 (i : grid0.Coords) : Fin 4 → Nat :=
  let c0_350 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v423 : Index := Scalar.indexCast v8
  let c0_351 : Index := 0#32
  let c0_352 : Index := 0#32
  ![0, v423.toNat, 0, 0]
def k0_off40 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v547 : Index := Scalar.indexCast v8
  let c0_430 : Index := 0#32
  let c0_431 : Index := 0#32
  ![v547.toNat, 0, 0]
def k0_off41 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v559 : Index := Scalar.indexCast v8
  let c0_442 : Index := 0#32
  let c0_443 : Index := 0#32
  ![v559.toNat, 0, 0]
def k0_off42 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v584 : Index := Scalar.indexCast v8
  let c64_465 : Index := 64#32
  let c0_466 : Index := 0#32
  ![v584.toNat, 64, 0]
def k0_off43 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v596 : Index := Scalar.indexCast v8
  let c128_477 : Index := 128#32
  let c0_478 : Index := 0#32
  ![v596.toNat, 128, 0]
def k0_cond3 (i : grid0.Coords) : BitVec 1 :=
  let c15_i32 : BitVec 32 := 15#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v26 : BitVec 32 := Scalar.subi c15_i32 v8
  let c2_i32_75 : BitVec 32 := 2#32
  let c0_i32_76 : BitVec 32 := 0#32
  let v101 : BitVec 1 := Scalar.cmpi .eq c2_i32_75 c0_i32_76
  let c1_i32_77 : BitVec 32 := 1#32
  let v102 : BitVec 32 := Scalar.select v101 c1_i32_77 c2_i32_75
  let v103 : BitVec 32 := Scalar.remsi v26 v102
  let c0_i32_79 : BitVec 32 := 0#32
  let v105 : BitVec 1 := Scalar.cmpi .slt v103 c0_i32_79
  let c0_i32_80 : BitVec 32 := 0#32
  let v106 : BitVec 1 := Scalar.cmpi .slt v102 c0_i32_80
  let v107 : BitVec 1 := Scalar.xori v105 v106
  let c0_i32_78 : BitVec 32 := 0#32
  let v104 : BitVec 1 := Scalar.cmpi .ne v103 c0_i32_78
  let v108 : BitVec 1 := Scalar.andi v107 v104
  let v109 : BitVec 32 := Scalar.addi v103 v102
  let v110 : BitVec 32 := Scalar.select v108 v109 v103
  let c0_i32_81 : BitVec 32 := 0#32
  let v111 : BitVec 1 := Scalar.cmpi .eq v110 c0_i32_81
  let v112 : BitVec 32 := Scalar.extui v111
  let c0_i32_82 : BitVec 32 := 0#32
  let v113 : BitVec 1 := Scalar.cmpi .ne v112 c0_i32_82
  v113

def k0_off44 (i : grid0.Coords) : Fin 4 → Nat :=
  let c0_164 : Index := 0#32
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v221 : Index := Scalar.indexCast v8
  let c0_165 : Index := 0#32
  let c0_166 : Index := 0#32
  ![0, v221.toNat, 0, 0]
def k0_off45 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v345 : Index := Scalar.indexCast v8
  let c0_244 : Index := 0#32
  let c0_245 : Index := 0#32
  ![v345.toNat, 0, 0]
def k0_off46 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v357 : Index := Scalar.indexCast v8
  let c0_256 : Index := 0#32
  let c0_257 : Index := 0#32
  ![v357.toNat, 0, 0]
def k0_off47 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v382 : Index := Scalar.indexCast v8
  let c64_278 : Index := 64#32
  let c0_279 : Index := 0#32
  ![v382.toNat, 64, 0]
def k0_off48 (i : grid0.Coords) : Fin 3 → Nat :=
  let c2_i32 : BitVec 32 := 2#32
  let arg1 : BitVec 32 := BitVec.ofNat 32 (i 1).val
  let v7 : BitVec 32 := Scalar.muli c2_i32 arg1
  let c0_i32_7 : BitVec 32 := 0#32
  let v8 : BitVec 32 := Scalar.addi v7 c0_i32_7
  let v394 : Index := Scalar.indexCast v8
  let c128_290 : Index := 128#32
  let c0_291 : Index := 0#32
  ![v394.toNat, 128, 0]
@[reducible] def k0_t3_loop (i : grid0.Coords) : Scf.Loop 32 :=
  let c0_i32_144 : BitVec 32 := 0#32
  let c15_i32_95 : BitVec 32 := 15#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_146 : BitVec 32 := 1#32
  ⟨c0_i32_144, v194, c1_i32_146⟩
def k0_off49 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_166 : BitVec 32 := 1#32
  let v224 : BitVec 32 := Scalar.addi v223 c1_i32_166
  let v227 : Index := Scalar.indexCast v224
  let c0_169 : Index := 0#32
  let c0_170 : Index := 0#32
  ![v227.toNat, 0, 0]
def k0_off50 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_166 : BitVec 32 := 1#32
  let v224 : BitVec 32 := Scalar.addi v223 c1_i32_166
  let v236 : Index := Scalar.indexCast v224
  let c0_179 : Index := 0#32
  let c0_180 : Index := 0#32
  ![v236.toNat, 0, 0]
def k0_off51 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_166 : BitVec 32 := 1#32
  let v224 : BitVec 32 := Scalar.addi v223 c1_i32_166
  let v245 : Index := Scalar.indexCast v224
  let c128_188 : Index := 128#32
  let c0_189 : Index := 0#32
  ![v245.toNat, 128, 0]
def k0_off52 (i : grid0.Coords) (k0_t3 : Fin (k0_t3_loop i).trips) : Fin 4 → Nat :=
  let c0_205 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v261 : Index := Scalar.indexCast v223
  let c0_206 : Index := 0#32
  let c0_207 : Index := 0#32
  ![0, v261.toNat, 0, 0]
def k0_off53 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v365 : Index := Scalar.indexCast v223
  let c0_278 : Index := 0#32
  let c0_279 : Index := 0#32
  ![v365.toNat, 0, 0]
def k0_off54 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v377 : Index := Scalar.indexCast v223
  let c0_290 : Index := 0#32
  let c0_291 : Index := 0#32
  ![v377.toNat, 0, 0]
def k0_off55 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v402 : Index := Scalar.indexCast v223
  let c64_312 : Index := 64#32
  let c0_313 : Index := 0#32
  ![v402.toNat, 64, 0]
def k0_off56 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let v414 : Index := Scalar.indexCast v223
  let c128_324 : Index := 128#32
  let c0_325 : Index := 0#32
  ![v414.toNat, 128, 0]
def k0_off57 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v443 : Index := Scalar.indexCast v440
  let c0_348 : Index := 0#32
  let c0_349 : Index := 0#32
  ![v443.toNat, 0, 0]
def k0_off58 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v452 : Index := Scalar.indexCast v440
  let c0_358 : Index := 0#32
  let c0_359 : Index := 0#32
  ![v452.toNat, 0, 0]
def k0_off59 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v461 : Index := Scalar.indexCast v440
  let c128_367 : Index := 128#32
  let c0_368 : Index := 0#32
  ![v461.toNat, 128, 0]
def k0_off60 (i : grid0.Coords) (k0_t3 : Fin (k0_t3_loop i).trips) : Fin 4 → Nat :=
  let c0_385 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v478 : Index := Scalar.indexCast v477
  let c0_386 : Index := 0#32
  let c0_387 : Index := 0#32
  ![0, v478.toNat, 0, 0]
def k0_off61 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v582 : Index := Scalar.indexCast v477
  let c0_458 : Index := 0#32
  let c0_459 : Index := 0#32
  ![v582.toNat, 0, 0]
def k0_off62 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v594 : Index := Scalar.indexCast v477
  let c0_470 : Index := 0#32
  let c0_471 : Index := 0#32
  ![v594.toNat, 0, 0]
def k0_off63 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v619 : Index := Scalar.indexCast v477
  let c64_493 : Index := 64#32
  let c0_494 : Index := 0#32
  ![v619.toNat, 64, 0]
def k0_off64 (i : grid0.Coords) (k0_t3 : Fin (k0_t3_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c1_i32_146 : BitVec 32 := 1#32
  let arg17 : BitVec 32 := Scf.iv c0_i32_144 c1_i32_146 k0_t3
  let v222 : BitVec 32 := Scalar.muli c2_i32_165 arg17
  let v223 : BitVec 32 := Scalar.addi v221 v222
  let c1_i32_384 : BitVec 32 := 1#32
  let v477 : BitVec 32 := Scalar.addi v223 c1_i32_384
  let v631 : Index := Scalar.indexCast v477
  let c128_505 : Index := 128#32
  let c0_506 : Index := 0#32
  ![v631.toNat, 128, 0]
@[reducible] def k0_t4_loop (i : grid0.Coords) : Scf.Loop 32 :=
  let c0_i32_144 : BitVec 32 := 0#32
  let c15_i32_95 : BitVec 32 := 15#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let v191 : BitVec 32 := Scalar.addi c0_i32_144 v190
  let c1_i32_147 : BitVec 32 := 1#32
  ⟨v194, v191, c1_i32_147⟩
def k0_off65 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_166 : BitVec 32 := 1#32
  let v224 : BitVec 32 := Scalar.addi v223 c1_i32_166
  let v227 : Index := Scalar.indexCast v224
  let c0_169 : Index := 0#32
  let c0_170 : Index := 0#32
  ![v227.toNat, 0, 0]
def k0_off66 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_166 : BitVec 32 := 1#32
  let v224 : BitVec 32 := Scalar.addi v223 c1_i32_166
  let v236 : Index := Scalar.indexCast v224
  let c0_179 : Index := 0#32
  let c0_180 : Index := 0#32
  ![v236.toNat, 0, 0]
def k0_off67 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_166 : BitVec 32 := 1#32
  let v224 : BitVec 32 := Scalar.addi v223 c1_i32_166
  let v245 : Index := Scalar.indexCast v224
  let c128_188 : Index := 128#32
  let c0_189 : Index := 0#32
  ![v245.toNat, 128, 0]
def k0_off68 (i : grid0.Coords) (k0_t4 : Fin (k0_t4_loop i).trips) : Fin 4 → Nat :=
  let c0_205 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v261 : Index := Scalar.indexCast v223
  let c0_206 : Index := 0#32
  let c0_207 : Index := 0#32
  ![0, v261.toNat, 0, 0]
def k0_off69 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v365 : Index := Scalar.indexCast v223
  let c0_278 : Index := 0#32
  let c0_279 : Index := 0#32
  ![v365.toNat, 0, 0]
def k0_off70 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v377 : Index := Scalar.indexCast v223
  let c0_290 : Index := 0#32
  let c0_291 : Index := 0#32
  ![v377.toNat, 0, 0]
def k0_off71 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v402 : Index := Scalar.indexCast v223
  let c64_312 : Index := 64#32
  let c0_313 : Index := 0#32
  ![v402.toNat, 64, 0]
def k0_off72 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let v414 : Index := Scalar.indexCast v223
  let c128_324 : Index := 128#32
  let c0_325 : Index := 0#32
  ![v414.toNat, 128, 0]
def k0_off73 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v443 : Index := Scalar.indexCast v440
  let c0_348 : Index := 0#32
  let c0_349 : Index := 0#32
  ![v443.toNat, 0, 0]
def k0_off74 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v452 : Index := Scalar.indexCast v440
  let c0_358 : Index := 0#32
  let c0_359 : Index := 0#32
  ![v452.toNat, 0, 0]
def k0_off75 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c2_i32_344 : BitVec 32 := 2#32
  let v437 : BitVec 32 := Scalar.addi v223 c2_i32_344
  let c16_i32 : BitVec 32 := 16#32
  let v438 : BitVec 1 := Scalar.cmpi .slt v437 c16_i32
  let c2_i32_345 : BitVec 32 := 2#32
  let v439 : BitVec 32 := Scalar.addi v223 c2_i32_345
  let v440 : BitVec 32 := Scalar.select v438 v439 v115
  let v461 : Index := Scalar.indexCast v440
  let c128_367 : Index := 128#32
  let c0_368 : Index := 0#32
  ![v461.toNat, 128, 0]
def k0_off76 (i : grid0.Coords) (k0_t4 : Fin (k0_t4_loop i).trips) : Fin 4 → Nat :=
  let c0_385 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v478 : Index := Scalar.indexCast v477
  let c0_386 : Index := 0#32
  let c0_387 : Index := 0#32
  ![0, v478.toNat, 0, 0]
def k0_off77 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v582 : Index := Scalar.indexCast v477
  let c0_458 : Index := 0#32
  let c0_459 : Index := 0#32
  ![v582.toNat, 0, 0]
def k0_off78 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v594 : Index := Scalar.indexCast v477
  let c0_470 : Index := 0#32
  let c0_471 : Index := 0#32
  ![v594.toNat, 0, 0]
def k0_off79 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v619 : Index := Scalar.indexCast v477
  let c64_493 : Index := 64#32
  let c0_494 : Index := 0#32
  ![v619.toNat, 64, 0]
def k0_off80 (i : grid0.Coords) (k0_t4 : Fin (k0_t4_loop i).trips) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let c1_i32_164 : BitVec 32 := 1#32
  let v221 : BitVec 32 := Scalar.addi v115 c1_i32_164
  let c2_i32_165 : BitVec 32 := 2#32
  let c0_i32_144 : BitVec 32 := 0#32
  let c15_i32_95 : BitVec 32 := 15#32
  let v133 : BitVec 32 := Scalar.subi c15_i32_95 v115
  let c0_i32_137 : BitVec 32 := 0#32
  let v174 : BitVec 1 := Scalar.cmpi .sgt v133 c0_i32_137
  let v175 : BitVec 32 := Scalar.extui v174
  let c0_i32_138 : BitVec 32 := 0#32
  let v176 : BitVec 1 := Scalar.cmpi .slt v133 c0_i32_138
  let v177 : BitVec 32 := Scalar.extui v176
  let v178 : BitVec 32 := Scalar.subi v175 v177
  let c2_i32_136 : BitVec 32 := 2#32
  let c0_i32_139 : BitVec 32 := 0#32
  let v179 : BitVec 1 := Scalar.cmpi .sgt c2_i32_136 c0_i32_139
  let v180 : BitVec 32 := Scalar.extui v179
  let c0_i32_140 : BitVec 32 := 0#32
  let v181 : BitVec 1 := Scalar.cmpi .slt c2_i32_136 c0_i32_140
  let v182 : BitVec 32 := Scalar.extui v181
  let v183 : BitVec 32 := Scalar.subi v180 v182
  let v184 : BitVec 1 := Scalar.cmpi .ne v178 v183
  let v185 : BitVec 32 := Scalar.remsi v133 c2_i32_136
  let c0_i32_141 : BitVec 32 := 0#32
  let v186 : BitVec 1 := Scalar.cmpi .ne v185 c0_i32_141
  let v187 : BitVec 1 := Scalar.andi v184 v186
  let v173 : BitVec 32 := Scalar.divsi v133 c2_i32_136
  let c1_i32_142 : BitVec 32 := 1#32
  let v188 : BitVec 32 := Scalar.subi v173 c1_i32_142
  let v189 : BitVec 32 := Scalar.select v187 v188 v173
  let v190 : BitVec 32 := Scalar.subi v189 c0_i32_144
  let c1_i32_145 : BitVec 32 := 1#32
  let v192 : BitVec 32 := Scalar.divsi v190 c1_i32_145
  let v193 : BitVec 32 := Scalar.muli v192 c1_i32_145
  let v194 : BitVec 32 := Scalar.addi c0_i32_144 v193
  let c1_i32_147 : BitVec 32 := 1#32
  let arg17 : BitVec 32 := Scf.iv v194 c1_i32_147 k0_t4
  let v222 : BitVec 32 := Scalar.muli c2_i32_165 arg17
  let v223 : BitVec 32 := Scalar.addi v221 v222
  let c1_i32_384 : BitVec 32 := 1#32
  let v477 : BitVec 32 := Scalar.addi v223 c1_i32_384
  let v631 : Index := Scalar.indexCast v477
  let c128_505 : Index := 128#32
  let c0_506 : Index := 0#32
  ![v631.toNat, 128, 0]
def k0_cond4 (i : grid0.Coords) : BitVec 1 :=
  let c15_i32_95 : BitVec 32 := 15#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v133 : BitVec 32 := Scalar.subi c15_i32_95 v115
  let c2_i32_148 : BitVec 32 := 2#32
  let c0_i32_149 : BitVec 32 := 0#32
  let v195 : BitVec 1 := Scalar.cmpi .eq c2_i32_148 c0_i32_149
  let c1_i32_150 : BitVec 32 := 1#32
  let v196 : BitVec 32 := Scalar.select v195 c1_i32_150 c2_i32_148
  let v197 : BitVec 32 := Scalar.remsi v133 v196
  let c0_i32_152 : BitVec 32 := 0#32
  let v199 : BitVec 1 := Scalar.cmpi .slt v197 c0_i32_152
  let c0_i32_153 : BitVec 32 := 0#32
  let v200 : BitVec 1 := Scalar.cmpi .slt v196 c0_i32_153
  let v201 : BitVec 1 := Scalar.xori v199 v200
  let c0_i32_151 : BitVec 32 := 0#32
  let v198 : BitVec 1 := Scalar.cmpi .ne v197 c0_i32_151
  let v202 : BitVec 1 := Scalar.andi v201 v198
  let v203 : BitVec 32 := Scalar.addi v197 v196
  let v204 : BitVec 32 := Scalar.select v202 v203 v197
  let c1_i32_154 : BitVec 32 := 1#32
  let v205 : BitVec 1 := Scalar.cmpi .eq v204 c1_i32_154
  let v206 : BitVec 32 := Scalar.extui v205
  let c0_i32_155 : BitVec 32 := 0#32
  let v207 : BitVec 1 := Scalar.cmpi .ne v206 c0_i32_155
  v207

def k0_off81 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v223 : Index := Scalar.indexCast v115
  let c0_166 : Index := 0#32
  let c0_167 : Index := 0#32
  ![v223.toNat, 0, 0]
def k0_off82 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v232 : Index := Scalar.indexCast v115
  let c0_176 : Index := 0#32
  let c0_177 : Index := 0#32
  ![v232.toNat, 0, 0]
def k0_off83 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v241 : Index := Scalar.indexCast v115
  let c128_185 : Index := 128#32
  let c0_186 : Index := 0#32
  ![v241.toNat, 128, 0]
def k0_off84 (i : grid0.Coords) : Fin 4 → Nat :=
  let c0_350 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v423 : Index := Scalar.indexCast v115
  let c0_351 : Index := 0#32
  let c0_352 : Index := 0#32
  ![0, v423.toNat, 0, 0]
def k0_off85 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v547 : Index := Scalar.indexCast v115
  let c0_430 : Index := 0#32
  let c0_431 : Index := 0#32
  ![v547.toNat, 0, 0]
def k0_off86 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v559 : Index := Scalar.indexCast v115
  let c0_442 : Index := 0#32
  let c0_443 : Index := 0#32
  ![v559.toNat, 0, 0]
def k0_off87 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v584 : Index := Scalar.indexCast v115
  let c64_465 : Index := 64#32
  let c0_466 : Index := 0#32
  ![v584.toNat, 64, 0]
def k0_off88 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v596 : Index := Scalar.indexCast v115
  let c128_477 : Index := 128#32
  let c0_478 : Index := 0#32
  ![v596.toNat, 128, 0]
def k0_cond5 (i : grid0.Coords) : BitVec 1 :=
  let c15_i32_95 : BitVec 32 := 15#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v133 : BitVec 32 := Scalar.subi c15_i32_95 v115
  let c2_i32_156 : BitVec 32 := 2#32
  let c0_i32_157 : BitVec 32 := 0#32
  let v208 : BitVec 1 := Scalar.cmpi .eq c2_i32_156 c0_i32_157
  let c1_i32_158 : BitVec 32 := 1#32
  let v209 : BitVec 32 := Scalar.select v208 c1_i32_158 c2_i32_156
  let v210 : BitVec 32 := Scalar.remsi v133 v209
  let c0_i32_160 : BitVec 32 := 0#32
  let v212 : BitVec 1 := Scalar.cmpi .slt v210 c0_i32_160
  let c0_i32_161 : BitVec 32 := 0#32
  let v213 : BitVec 1 := Scalar.cmpi .slt v209 c0_i32_161
  let v214 : BitVec 1 := Scalar.xori v212 v213
  let c0_i32_159 : BitVec 32 := 0#32
  let v211 : BitVec 1 := Scalar.cmpi .ne v210 c0_i32_159
  let v215 : BitVec 1 := Scalar.andi v214 v211
  let v216 : BitVec 32 := Scalar.addi v210 v209
  let v217 : BitVec 32 := Scalar.select v215 v216 v210
  let c0_i32_162 : BitVec 32 := 0#32
  let v218 : BitVec 1 := Scalar.cmpi .eq v217 c0_i32_162
  let v219 : BitVec 32 := Scalar.extui v218
  let c0_i32_163 : BitVec 32 := 0#32
  let v220 : BitVec 1 := Scalar.cmpi .ne v219 c0_i32_163
  v220

def k0_off89 (i : grid0.Coords) : Fin 4 → Nat :=
  let c0_164 : Index := 0#32
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v221 : Index := Scalar.indexCast v115
  let c0_165 : Index := 0#32
  let c0_166 : Index := 0#32
  ![0, v221.toNat, 0, 0]
def k0_off90 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v345 : Index := Scalar.indexCast v115
  let c0_244 : Index := 0#32
  let c0_245 : Index := 0#32
  ![v345.toNat, 0, 0]
def k0_off91 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v357 : Index := Scalar.indexCast v115
  let c0_256 : Index := 0#32
  let c0_257 : Index := 0#32
  ![v357.toNat, 0, 0]
def k0_off92 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v382 : Index := Scalar.indexCast v115
  let c64_278 : Index := 64#32
  let c0_279 : Index := 0#32
  ![v382.toNat, 64, 0]
def k0_off93 (i : grid0.Coords) : Fin 3 → Nat :=
  let c2_i32_83 : BitVec 32 := 2#32
  let arg1 : BitVec 32 := BitVec.ofNat 32 (i 1).val
  let v114 : BitVec 32 := Scalar.muli c2_i32_83 arg1
  let c1_i32_84 : BitVec 32 := 1#32
  let v115 : BitVec 32 := Scalar.addi v114 c1_i32_84
  let v394 : Index := Scalar.indexCast v115
  let c128_290 : Index := 128#32
  let c0_291 : Index := 0#32
  ![v394.toNat, 128, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MlaIdeal.lean ====
variable {F : FTy → Type} [FloatOps F] [Named F]
def κ : String → Option EReal := fun
  | "s" => some (((Real.sqrt 96)⁻¹ : ℝ) : EReal)
  | "s2" => some (((Real.sqrt 96)⁻¹ * (Real.log 2)⁻¹ : ℝ) : EReal)
  | _ => none
-- ==== MlaRefIdeal.lean ====
abbrev S4096x16x96 : Shape := ⟨3, ![4096, 16, 96]⟩
abbrev S4096x16x64 : Shape := ⟨3, ![4096, 16, 64]⟩
abbrev S16x4096x4096 : Shape := ⟨3, ![16, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x96 : Shape := ⟨3, ![16, 4096, 96]⟩
abbrev S4096x16x32 : Shape := ⟨3, ![4096, 16, 32]⟩
abbrev S4096x16x128 : Shape := ⟨3, ![4096, 16, 128]⟩
abbrev S16x256x2048 : Shape := ⟨3, ![16, 256, 2048]⟩
abbrev S16x2048x256 : Shape := ⟨3, ![16, 2048, 256]⟩
abbrev S16x256x1024 : Shape := ⟨3, ![16, 256, 1024]⟩
abbrev S16x1024x256 : Shape := ⟨3, ![16, 1024, 256]⟩

abbrev nBuf : Space → Nat
  | .hbm => 102
  | .vmem => 0
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x16x64, .f32⟩
  | .hbm, ⟨4, _⟩ => ⟨S16x4096x4096, .f32⟩
  | .hbm, ⟨5, _⟩ => ⟨S_, .f32⟩
  | .hbm, ⟨6, _⟩ => ⟨S_, .f32⟩
  | .hbm, ⟨7, _⟩ => ⟨S16x4096x4096, .f32⟩
  | .hbm, ⟨8, _⟩ => ⟨S16x4096x4096, .f32⟩
  | .hbm, ⟨9, _⟩ => ⟨S4096, .i32⟩
  | .hbm, ⟨10, _⟩ => ⟨S1x1x4096, .i32⟩
  | .hbm, ⟨11, _⟩ => ⟨S4096, .i32⟩
  | .hbm, ⟨12, _⟩ => ⟨S1x4096x1, .i32⟩
  | .hbm, ⟨13, _⟩ => ⟨S1x4096x4096, .i32⟩
  | .hbm, ⟨14, _⟩ => ⟨S1x4096x4096, .i32⟩
  | .hbm, ⟨15, _⟩ => ⟨S1x4096x4096, .i1⟩
  | .hbm, ⟨16, _⟩ => ⟨S_, .f32⟩
  | .hbm, ⟨17, _⟩ => ⟨S_, .f32⟩
  | .hbm, ⟨18, _⟩ => ⟨S16x4096x4096, .i1⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096x4096, .f32⟩
  | .hbm, ⟨23, _⟩ => ⟨S_, .f32⟩
  | .hbm, ⟨24, _⟩ => ⟨S16x4096, .f32⟩
  | .hbm, ⟨25, _⟩ => ⟨S16x4096x1, .f32⟩
  | .hbm, ⟨26, _⟩ => ⟨S16x4096x4096, .f32⟩
  | .hbm, ⟨27, _⟩ => ⟨S16x4096x4096, .i1⟩
  | .hbm, ⟨28, _⟩ => ⟨S16x4096x4096, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S16x4096, .f32⟩
  | .hbm, ⟨33, _⟩ => ⟨S16x4096, .f32⟩
  | .hbm, ⟨34, _⟩ => ⟨S_, .f32⟩
  | .hbm, ⟨35, _⟩ => ⟨S16x4096, .f32⟩
  | .hbm, ⟨36, _⟩ => ⟨S16x4096, .i1⟩
  | .hbm, ⟨37, _⟩ => ⟨S_, .f32⟩
  | .hbm, ⟨38, _⟩ => ⟨S16x4096, .f32⟩
  | .hbm, ⟨39, _⟩ => ⟨S16x4096, .i1⟩
  | .hbm, ⟨40, _⟩ => ⟨S_, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .f32⟩
  | .hbm, ⟨47, _⟩ => ⟨S16x4096, .f32⟩
  | .hbm, ⟨48, _⟩ => ⟨S16x4096x1, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S_, .f32⟩
  | .hbm, ⟨53, _⟩ => ⟨S16x4096, .f32⟩
  | .hbm, ⟨54, _⟩ => ⟨S16x4096x1, .f32⟩
  | .hbm, ⟨55, _⟩ => ⟨S16x4096x4096, .f32⟩
  | .hbm, ⟨56, _⟩ => ⟨S16x4096x4096, .f32⟩
  | .hbm, ⟨57, _⟩ => ⟨S16x4096x1, .f32⟩
  | .hbm, ⟨58, _⟩ => ⟨S_, .f32⟩
  | .hbm, ⟨59, _⟩ => ⟨S16x4096x1, .f32⟩
  | .hbm, ⟨60, _⟩ => ⟨S16x4096x1, .f32⟩
  | .hbm, ⟨61, _⟩ => ⟨S16x64x4096, .f32⟩
  | .hbm, ⟨62, _⟩ => ⟨S4096x16x64, .f32⟩
  | .hbm, ⟨63, _⟩ => ⟨S16x64x4096, .f32⟩
  | .hbm, ⟨64, _⟩ => ⟨S16x4096x4096, .f32⟩
  | .hbm, ⟨65, _⟩ => ⟨S16x64x4096, .f32⟩
  | .hbm, ⟨66, _⟩ => ⟨S4096x16x64, .f32⟩
  | .hbm, ⟨67, _⟩ => ⟨S16x4096x4096, .f32⟩
  | .hbm, ⟨68, _⟩ => ⟨S16x4096x4096, .f32⟩
  | .hbm, ⟨69, _⟩ => ⟨S16x4096x4096, .f32⟩
  | .hbm, ⟨70, _⟩ => ⟨S_, .f32⟩
  | .hbm, ⟨71, _⟩ => ⟨S16x4096, .f32⟩
  | .hbm, ⟨72, _⟩ => ⟨S16x4096x1, .f32⟩
  | .hbm, ⟨73, _⟩ => ⟨S16x4096x1, .f32⟩
  | .hbm, ⟨74, _⟩ => ⟨S16x4096x4096, .f32⟩
  | .hbm, ⟨75, _⟩ => ⟨S16x4096x4096, .f32⟩
  | .hbm, ⟨76, _⟩ => ⟨S_, .f32⟩
  | .hbm, ⟨77, _⟩ => ⟨S16x4096, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S_, .f32⟩
  | .hbm, ⟨82, _⟩ => ⟨S16x4096x4096, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S16x4096x96, .f32⟩
  | .hbm, ⟨87, _⟩ => ⟨S4096x16x96, .f32⟩
  | .hbm, ⟨88, _⟩ => ⟨S16x4096x96, .f32⟩
  | .hbm, ⟨89, _⟩ => ⟨S4096x16x96, .f32⟩
  | .hbm, ⟨90, _⟩ => ⟨S_, .f32⟩
  | .hbm, ⟨91, _⟩ => ⟨S4096x16x32, .f32⟩
  | .hbm, ⟨92, _⟩ => ⟨S4096x16x128, .f32⟩
  | .hbm, ⟨93, _⟩ => ⟨S16x256x2048, .f32⟩
  | .hbm, ⟨94, _⟩ => ⟨S16x2048x256, .f32⟩
  | .hbm, ⟨95, _⟩ => ⟨S_, .f32⟩
  | .hbm, ⟨96, _⟩ => ⟨S4096x16x32, .f32⟩
  | .hbm, ⟨97, _⟩ => ⟨S4096x16x128, .f32⟩
  | .hbm, ⟨98, _⟩ => ⟨S16x256x2048, .f32⟩
  | .hbm, ⟨99, _⟩ => ⟨S16x2048x256, .f32⟩
  | .hbm, ⟨100, _⟩ => ⟨S16x256x1024, .f32⟩
  | .hbm, ⟨101, _⟩ => ⟨S16x1024x256, .f32⟩
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== FwdUp.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024x1024, .bf16⟩
  | .hbm, ⟨9, _⟩ => ⟨S1x1024x1024, .bf16⟩
  | .hbm, ⟨10, _⟩ => ⟨S1x1024x1024, .bf16⟩
  | .hbm, ⟨11, _⟩ => ⟨S1x1024x1024, .bf16⟩
  | .hbm, ⟨12, _⟩ => ⟨S4x1024x1024, .bf16⟩
  | .hbm, ⟨13, _⟩ => ⟨S4096x1024, .bf16⟩
  | .hbm, ⟨14, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x4096, .bf16⟩
  | .local _ .vmem, ⟨7, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdUpRefIdeal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FwdDown.lean ====
abbrev S4096x4096 : Shape := ⟨2, ![4096, 4096]⟩
abbrev S4096x1024 : Shape := ⟨2, ![4096, 1024]⟩
abbrev S1x1024 : Shape := ⟨2, ![1, 1024]⟩
abbrev S4x1024x1024 : Shape := ⟨3, ![4, 1024, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x4096, .bf16⟩
  | .hbm, ⟨5, _⟩ => ⟨S4096x1024, .bf16⟩
  | .hbm, ⟨6, _⟩ => ⟨S4x1024x1024, .bf16⟩
  | .hbm, ⟨7, _⟩ => ⟨S4096x1024, .f32⟩
  | .hbm, ⟨8, _⟩ => ⟨S4096x1024, .f32⟩
  | .local _ .vmem, ⟨0, _⟩ => ⟨S256x4096, .bf16⟩
  | .local _ .vmem, ⟨1, _⟩ => ⟨S256x4096, .bf16⟩
  | .local _ .vmem, ⟨2, _⟩ => ⟨S4x1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdDownRefIdeal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FwdMix.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩
abbrev S4096x4096 : Shape := ⟨2, ![4096, 4096]⟩
abbrev S256x1024 : Shape := ⟨2, ![256, 1024]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x4096, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S4096x1024, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FwdMixRefIdeal.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Swa.lean ====
abbrev S4096x1024 : Shape := ⟨2, ![4096, 1024]⟩
abbrev S4096x128 : Shape := ⟨2, ![4096, 128]⟩
abbrev S1x16 : Shape := ⟨2, ![1, 16]⟩
abbrev S4096x64 : Shape := ⟨2, ![4096, 64]⟩
abbrev S4096x256 : Shape := ⟨2, ![4096, 256]⟩
abbrev S16 : Shape := ⟨1, ![16]⟩
abbrev S32x128x2x8x64 : Shape := ⟨5, ![32, 128, 2, 8, 64]⟩
abbrev S32x128x2x64 : Shape := ⟨4, ![32, 128, 2, 64]⟩
abbrev S_ : Shape := ⟨0, ![]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x8 : Shape := ⟨2, ![2, 8]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩
abbrev S32x128x2x8x1 : Shape := ⟨5, ![32, 128, 2, 8, 1]⟩
abbrev S8x128 : Shape := ⟨2, ![8, 128]⟩
abbrev S128x1024 : Shape := ⟨2, ![128, 1024]⟩
abbrev S2x256x128 : Shape := ⟨3, ![2, 256, 128]⟩
abbrev S16x128x256 : Shape := ⟨3, ![16, 128, 256]⟩
abbrev S128x128 : Shape := ⟨2, ![128, 128]⟩
abbrev S256x128 : Shape := ⟨2, ![256, 128]⟩
abbrev S1x256x128 : Shape := ⟨3, ![1, 256, 128]⟩
abbrev S1 : Shape := ⟨1, ![1]⟩
abbrev S1x1 : Shape := ⟨2, ![1, 1]⟩
abbrev S3968x256 : Shape := ⟨2, ![3968, 256]⟩

abbrev nBuf : Space → Nat
  | .hbm => 134
  | .vmem => 33
  | .smem => 1
  | _ => 0

abbrev hbmTy0_0 (i : Nat) : BufTy := match i % 128 with
  | 0 => ⟨S4096x1024, .f32⟩
  | 1 => ⟨S4096x128, .f32⟩
  | 2 => ⟨S4096x128, .f32⟩
  | 3 => ⟨S1x16, .f32⟩
  | 4 => ⟨S4096x1024, .f32⟩
  | 5 => ⟨S4096x1024, .bf16⟩
  | 6 => ⟨S4096x64, .f32⟩
  | 7 => ⟨S4096x64, .f32⟩
  | 8 => ⟨S4096x64, .f32⟩
  | 9 => ⟨S4096x64, .f32⟩
  | 10 => ⟨S4096x256, .f32⟩
  | 11 => ⟨S4096x256, .bf16⟩
  | 12 => ⟨S4096x64, .f32⟩
  | 13 => ⟨S4096x64, .f32⟩
  | 14 => ⟨S4096x64, .f32⟩
  | 15 => ⟨S4096x64, .f32⟩
  | 16 => ⟨S4096x256, .f32⟩
  | 17 => ⟨S4096x256, .bf16⟩
  | 18 => ⟨S16, .f32⟩
  | 19 => ⟨S32x128x2x8x64, .f32⟩
  | 20 => ⟨S32x128x2x64, .f32⟩
  | 21 => ⟨S_, .f32⟩
  | 22 => ⟨S1x128x2x64, .f32⟩
  | 23 => ⟨S31x128x2x64, .f32⟩
  | 24 => ⟨S32x128x2x64, .f32⟩
  | 25 => ⟨S32x256x2x64, .f32⟩
  | 26 => ⟨S32x128x2x64, .f32⟩
  | 27 => ⟨S_, .f32⟩
  | 28 => ⟨S1x128x2x64, .f32⟩
  | 29 => ⟨S31x128x2x64, .f32⟩
  | 30 => ⟨S32x128x2x64, .f32⟩
  | 31 => ⟨S32x256x2x64, .f32⟩
  | 32 => ⟨S32x2x256x128x8, .f32⟩
  | 33 => ⟨S32x2x8x128x256, .f32⟩
  | 34 => ⟨S_, .f32⟩
  | 35 => ⟨S32x2x8x128x256, .f32⟩
  | 36 => ⟨S32x2x8x128x256, .f32⟩
  | 37 => ⟨S128, .i32⟩
  | 38 => ⟨S128x1, .i32⟩
  | 39 => ⟨S256, .i32⟩
  | 40 => ⟨S1x256, .i32⟩
  | 41 => ⟨S_, .i32⟩
  | 42 => ⟨S1x256, .i32⟩
  | 43 => ⟨S1x256, .i32⟩
  | 44 => ⟨S128x256, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S32, .i32⟩
  | 55 => ⟨S32x1x1, .i32⟩
  | 56 => ⟨S_, .i32⟩
  | 57 => ⟨S32x1x1, .i32⟩
  | 58 => ⟨S32x1x1, .i32⟩
  | 59 => ⟨S1x1x256, .i32⟩
  | 60 => ⟨S32x1x256, .i32⟩
  | 61 => ⟨S32x1x256, .i32⟩
  | 62 => ⟨S32x1x256, .i32⟩
  | 63 => ⟨S_, .i32⟩
  | 64 => ⟨S32x1x256, .i32⟩
  | 65 => ⟨S32x1x256, .i1⟩
  | 66 => ⟨S1x128x256, .i1⟩
  | 67 => ⟨S32x128x256, .i1⟩
  | 68 => ⟨S32x128x256, .i1⟩
  | 69 => ⟨S32x128x256, .i1⟩
  | 70 => ⟨S32x1x1x128x256, .i1⟩
  | 71 => ⟨S_, .f32⟩
  | 72 => ⟨S_, .f32⟩
  | 73 => ⟨S32x2x8x128x256, .i1⟩
  | 74 => ⟨S32x2x8x128x256, .f32⟩
  | 75 => ⟨S32x2x8x128x256, .f32⟩
  | 76 => ⟨S2x8, .f32⟩
  | 77 => ⟨S1x2x8x1x1, .f32⟩
  | 78 => ⟨S_, .f32⟩
  | 79 => ⟨S32x2x8x128, .f32⟩
  | 80 => ⟨S32x2x8x128x1, .f32⟩
  | 81 => ⟨S32x2x8x128x1, .f32⟩
  | 82 => ⟨S32x2x8x128x1, .f32⟩
  | 83 => ⟨S32x2x8x128x256, .f32⟩
  | 84 => ⟨S32x2x8x128x256, .f32⟩
  | 85 => ⟨S32x2x8x128x256, .f32⟩
  | 86 => ⟨S_, .f32⟩
  | 87 => ⟨S32x2x8x128, .f32⟩
  | 88 => ⟨S32x2x8x128x1, .f32⟩
  | 89 => ⟨S32x2x8x128x1, .f32⟩
  | 90 => ⟨S32x2x8x128x1, .f32⟩
  | 91 => ⟨S32x2x8x128x1, .f32⟩
  | 92 => ⟨S32x2x8x128x1, .f32⟩
  | 93 => ⟨S32x2x8x128x256, .f32⟩
  | 94 => ⟨S32x2x8x128x256, .f32⟩
  | 95 => ⟨S32x2x64x8x128, .f32⟩
  | 96 => ⟨S32x128x2x8x64, .f32⟩
  | 97 => ⟨S32x2x8x128x1, .f32⟩
  | 98 => ⟨S32x2x8x128x1, .f32⟩
  | 99 => ⟨S32x128x2x8x1, .f32⟩
  | 100 => ⟨S32x128x2x8x64, .f32⟩
  | 101 => ⟨S4096x1024, .f32⟩
  | 102 => ⟨S4096x1024, .f32⟩
  | 103 => ⟨S4096x1024, .f32⟩
  | 104 => ⟨S4096x256, .f32⟩
  | 105 => ⟨S4096x256, .f32⟩
  | 106 => ⟨S4096x256, .f32⟩
  | 107 => ⟨S4096x256, .f32⟩
  | 108 => ⟨S8x128, .f32⟩
  | 109 => ⟨S3968x256, .f32⟩
  | 110 => ⟨S_, .f32⟩
  | 111 => ⟨S128x256, .f32⟩
  | 112 => ⟨S4096x256, .f32⟩
  | 113 => ⟨S4096x256, .f32⟩
  | 114 => ⟨S4096x64, .f32⟩
  | 115 => ⟨S4096x64, .f32⟩
  | 116 => ⟨S4096x64, .f32⟩
  | 117 => ⟨S4096x64, .f32⟩
  | 118 => ⟨S4096x64, .f32⟩
  | 119 => ⟨S4096x64, .f32⟩
  | 120 => ⟨S4096x128, .f32⟩
  | 121 => ⟨S3968x256, .f32⟩
  | 122 => ⟨S_, .f32⟩
  | 123 => ⟨S128x256, .f32⟩
  | 124 => ⟨S4096x256, .f32⟩
  | 125 => ⟨S4096x256, .f32⟩
  | 126 => ⟨S4096x64, .f32⟩
  | 127 => ⟨S4096x64, .f32⟩
  | _ => ⟨S4096x1024, .f32⟩

abbrev hbmTy0_1 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S4096x128, .f32⟩
  | 5 => ⟨S1x16, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S8x128, .f32⟩
  | .local _ .vmem, ⟨27, _⟩ => ⟨S2x256x128, .bf16⟩
  | .local _ .vmem, ⟨28, _⟩ => ⟨S2x256x128, .bf16⟩
  | .local _ .vmem, ⟨29, _⟩ => ⟨S16x128x256, .f32⟩
  | .local _ .vmem, ⟨30, _⟩ => ⟨S16x128x256, .f32⟩
  | .local _ .vmem, ⟨31, _⟩ => ⟨S16x128x256, .bf16⟩
  | .local _ .vmem, ⟨32, _⟩ => ⟨S16x128x256, .bf16⟩
  | .local _ .smem, ⟨0, _⟩ => ⟨S16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_2 : Ref sig .tc := ⟨.hbm, 47, rfl⟩
abbrev main_v38 : Ref sig .tc := ⟨.hbm, 48, rfl⟩
abbrev main_v39 : Ref sig .tc := ⟨.hbm, 49, rfl⟩
abbrev main_c_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84_0 : Ref sig .tc := ⟨.hbm, 103, rfl⟩
abbrev main_v84_1 : Ref sig .tc := ⟨.hbm, 104, rfl⟩
abbrev main_v84_2 : Ref sig .tc := ⟨.hbm, 105, rfl⟩
abbrev main_v84_3 : Ref sig .tc := ⟨.hbm, 106, rfl⟩
abbrev main_v84_4 : Ref sig .tc := ⟨.hbm, 107, rfl⟩
abbrev main_v84_5 : Ref sig .tc := ⟨.hbm, 108, rfl⟩
abbrev main_v85 : Ref sig .tc := ⟨.hbm, 109, rfl⟩
abbrev main_cst_9 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_10 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SwaIdeal.lean ====
variable {F : FTy → Type} [FloatOps F] [Named F]
def κ : String → Option EReal := fun
  | "mask" => some ⊥
  | _ => none
-- ==== SwaRefIdeal.lean ====
abbrev S4096x1024 : Shape := ⟨2, ![4096, 1024]⟩
abbrev S4096x128 : Shape := ⟨2, ![4096, 128]⟩
abbrev S1x16 : Shape := ⟨2, ![1, 16]⟩
abbrev S4096x16x64 : Shape := ⟨3, ![4096, 16, 64]⟩
abbrev S4096x2x64 : Shape := ⟨3, ![4096, 2, 64]⟩
abbrev S16 : Shape := ⟨1, ![16]⟩
abbrev S32x128x2x8x64 : Shape := ⟨5, ![32, 128, 2, 8, 64]⟩
abbrev S32x128x2x64 : Shape := ⟨4, ![32, 128, 2, 64]⟩
abbrev S_ : Shape := ⟨0, ![]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x8 : Shape := ⟨2, ![2, 8]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩
abbrev S32x2x64x256 : Shape := ⟨4, ![32, 2, 64, 256]⟩
abbrev S2x8x1 : Shape := ⟨3, ![2, 8, 1]⟩
abbrev S32x2x128x8x64 : Shape := ⟨5, ![32, 2, 128, 8, 64]⟩
abbrev S32x2x256x64 : Shape := ⟨4, ![32, 2, 256, 64]⟩

abbrev nBuf : Space → Nat
  | .hbm => 206
  | .vmem => 0
  | .smem => 0
  | _ => 0

abbrev hbmTy0_0 (i : Nat) : BufTy := match i % 128 with
  | 0 => ⟨S4096x1024, .f32⟩
  | 1 => ⟨S4096x128, .f32⟩
  | 2 => ⟨S4096x128, .f32⟩
  | 3 => ⟨S1x16, .f32⟩
  | 4 => ⟨S4096x1024, .f32⟩
  | 5 => ⟨S4096x16x64, .f32⟩
  | 6 => ⟨S4096x2x64, .f32⟩
  | 7 => ⟨S4096x2x64, .f32⟩
  | 8 => ⟨S16, .f32⟩
  | 9 => ⟨S32x128x2x8x64, .f32⟩
  | 10 => ⟨S32x128x2x64, .f32⟩
  | 11 => ⟨S_, .f32⟩
  | 12 => ⟨S1x128x2x64, .f32⟩
  | 13 => ⟨S31x128x2x64, .f32⟩
  | 14 => ⟨S32x128x2x64, .f32⟩
  | 15 => ⟨S_, .f32⟩
  | 16 => ⟨S1x128x2x64, .f32⟩
  | 17 => ⟨S32x256x2x64, .f32⟩
  | 18 => ⟨S32x128x2x64, .f32⟩
  | 19 => ⟨S_, .f32⟩
  | 20 => ⟨S1x128x2x64, .f32⟩
  | 21 => ⟨S31x128x2x64, .f32⟩
  | 22 => ⟨S32x128x2x64, .f32⟩
  | 23 => ⟨S_, .f32⟩
  | 24 => ⟨S1x128x2x64, .f32⟩
  | 25 => ⟨S32x256x2x64, .f32⟩
  | 26 => ⟨S32x2x256x128x8, .f32⟩
  | 27 => ⟨S32x2x8x128x256, .f32⟩
  | 28 => ⟨S_, .f32⟩
  | 29 => ⟨S32x2x8x128x256, .f32⟩
  | 30 => ⟨S32x2x8x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S1x256, .i32⟩
  | 37 => ⟨S1x256, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S32, .i32⟩
  | 49 => ⟨S32x1x1, .i32⟩
  | 50 => ⟨S_, .i32⟩
  | 51 => ⟨S32x1x1, .i32⟩
  | 52 => ⟨S32x1x1, .i32⟩
  | 53 => ⟨S1x1x256, .i32⟩
  | 54 => ⟨S32x1x256, .i32⟩
  | 55 => ⟨S32x1x256, .i32⟩
  | 56 => ⟨S32x1x256, .i32⟩
  | 57 => ⟨S_, .i32⟩
  | 58 => ⟨S32x1x256, .i32⟩
  | 59 => ⟨S32x1x256, .i1⟩
  | 60 => ⟨S1x128x256, .i1⟩
  | 61 => ⟨S32x128x256, .i1⟩
  | 62 => ⟨S32x128x256, .i1⟩
  | 63 => ⟨S32x128x256, .i1⟩
  | 64 => ⟨S32x1x1x128x256, .i1⟩
  | 65 => ⟨S_, .f32⟩
  | 66 => ⟨S_, .f32⟩
  | 67 => ⟨S32x2x8x128x256, .i1⟩
  | 68 => ⟨S32x2x8x128x256, .f32⟩
  | 69 => ⟨S32x2x8x128x256, .f32⟩
  | 70 => ⟨S_, .f32⟩
  | 71 => ⟨S32x2x8x128x256, .f32⟩
  | 72 => ⟨S2x8, .f32⟩
  | 73 => ⟨S1x2x8x1x1, .f32⟩
  | 74 => ⟨S_, .f32⟩
  | 75 => ⟨S32x2x8x128, .f32⟩
  | 76 => ⟨S32x2x8x128x1, .f32⟩
  | 77 => ⟨S32x2x8x128x256, .f32⟩
  | 78 => ⟨S32x2x8x128x256, .i1⟩
  | 79 => ⟨S32x2x8x128x256, .f32⟩
  | 80 => ⟨S_, .f32⟩
  | 81 => ⟨S32x2x8x128, .f32⟩
  | 82 => ⟨S32x2x8x128x1, .f32⟩
  | 83 => ⟨S32x2x8x128x1, .f32⟩
  | 84 => ⟨S32x2x8x128x1, .f32⟩
  | 85 => ⟨S32x2x8x128x1, .f32⟩
  | 86 => ⟨S32x2x8x128x1, .i1⟩
  | 87 => ⟨S32x2x8x128x1, .f32⟩
  | 88 => ⟨S32x2x8x128x1, .i1⟩
  | 89 => ⟨S_, .f32⟩
  | 90 => ⟨S32x2x8x128x1, .f32⟩
  | 91 => ⟨S_, .f32⟩
  | 92 => ⟨S32x2x8x128x1, .f32⟩
  | 93 => ⟨S_, .f32⟩
  | 94 => ⟨S32x2x8x128x1, .f32⟩
  | 95 => ⟨S32x2x8x128x1, .f32⟩
  | 96 => ⟨S32x2x8x128x1, .f32⟩
  | 97 => ⟨S32x2x8x128x1, .f32⟩
  | 98 => ⟨S32x2x8x128x1, .i1⟩
  | 99 => ⟨S32x2x8x128x1, .f32⟩
  | 100 => ⟨S32x2x8x128x1, .i1⟩
  | 101 => ⟨S_, .f32⟩
  | 102 => ⟨S32x2x8x128x1, .f32⟩
  | 103 => ⟨S_, .f32⟩
  | 104 => ⟨S32x2x8x128x1, .f32⟩
  | 105 => ⟨S_, .f32⟩
  | 106 => ⟨S32x2x8x128x1, .f32⟩
  | 107 => ⟨S32x2x8x128x1, .f32⟩
  | 108 => ⟨S32x2x8x128x1, .f32⟩
  | 109 => ⟨S32x2x8x128x256, .f32⟩
  | 110 => ⟨S32x2x8x128x256, .f32⟩
  | 111 => ⟨S32x2x8x128x256, .f32⟩
  | 112 => ⟨S_, .f32⟩
  | 113 => ⟨S32x2x8x128, .f32⟩
  | 114 => ⟨S32x2x8x128x1, .f32⟩
  | 115 => ⟨S32x2x8x128x1, .f32⟩
  | 116 => ⟨S32x2x8x128x1, .f32⟩
  | 117 => ⟨S32x2x8x128x1, .f32⟩
  | 118 => ⟨S32x2x8x128x1, .f32⟩
  | 119 => ⟨S32x2x8x128x256, .f32⟩
  | 120 => ⟨S32x2x8x128x256, .f32⟩
  | 121 => ⟨S32x2x8x128x1, .f32⟩
  | 122 => ⟨S_, .f32⟩
  | 123 => ⟨S32x2x8x128x1, .f32⟩
  | 124 => ⟨S32x2x8x128x1, .f32⟩
  | 125 => ⟨S32x2x64x8x128, .f32⟩
  | 126 => ⟨S32x128x2x8x64, .f32⟩
  | 127 => ⟨S4096x16x64, .f32⟩
  | _ => ⟨S4096x1024, .f32⟩

abbrev hbmTy0_1 (i : Nat) : BufTy := match i % 128 with
  | 0 => ⟨S4096x1024, .f32⟩
  | 1 => ⟨S4096x16x64, .f32⟩
  | 2 => ⟨S32x128x2x8x64, .f32⟩
  | 3 => ⟨S32x2x64x8x128, .f32⟩
  | 4 => ⟨S32x2x8x128x256, .f32⟩
  | 5 => ⟨S32x2x64x256, .f32⟩
  | 6 => ⟨S32x256x2x64, .f32⟩
  | 7 => ⟨S32x2x8x128x256, .f32⟩
  | 8 => ⟨S32x2x8x128x256, .f32⟩
  | 9 => ⟨S32x2x8x128x256, .f32⟩
  | 10 => ⟨S_, .f32⟩
  | 11 => ⟨S32x2x8x128, .f32⟩
  | 12 => ⟨S32x2x8x128x1, .f32⟩
  | 13 => ⟨S32x2x8x128x1, .f32⟩
  | 14 => ⟨S32x2x8x128x256, .f32⟩
  | 15 => ⟨S32x2x8x128x256, .f32⟩
  | 16 => ⟨S32x2x8x128x1, .f32⟩
  | 17 => ⟨S_, .f32⟩
  | 18 => ⟨S2x8x1, .f32⟩
  | 19 => ⟨S1x2x8x1x1, .f32⟩
  | 20 => ⟨S32x2x8x128x1, .f32⟩
  | 21 => ⟨S_, .f32⟩
  | 22 => ⟨S32x2x8x128, .f32⟩
  | 23 => ⟨S32x2x8x128x256, .f32⟩
  | 24 => ⟨S32x2x8x128x256, .f32⟩
  | 25 => ⟨S32x2x8x128x256, .f32⟩
  | 26 => ⟨S32x2x8x128x256, .f32⟩
  | 27 => ⟨S_, .f32⟩
  | 28 => ⟨S32x2x8x128, .f32⟩
  | 29 => ⟨S32x2x8x128x1, .f32⟩
  | 30 => ⟨S32x2x8x128x1, .f32⟩
  | 31 => ⟨S32x2x8x128x1, .f32⟩
  | 32 => ⟨S_, .f32⟩
  | 33 => ⟨S2x8x1, .f32⟩
  | 34 => ⟨S1x2x8x1x1, .f32⟩
  | 35 => ⟨S1x2x8x1x1, .f32⟩
  | 36 => ⟨S32x2x8x128x1, .f32⟩
  | 37 => ⟨S_, .f32⟩
  | 38 => ⟨S32x2x8x128, .f32⟩
  | 39 => ⟨S32x2x8x128, .f32⟩
  | 40 => ⟨S32x2x8x128x256, .f32⟩
  | 41 => ⟨S32x2x8x128x256, .f32⟩
  | 42 => ⟨S32x2x8x128x256, .f32⟩
  | 43 => ⟨S_, .f32⟩
  | 44 => ⟨S2x8, .f32⟩
  | 45 => ⟨S16, .f32⟩
  | 46 => ⟨S_, .f32⟩
  | 47 => ⟨S32x2x8x128x256, .f32⟩
  | 48 => ⟨S32x2x8x128x256, .f32⟩
  | 49 => ⟨S_, .f32⟩
  | 50 => ⟨S32x2x8x128x256, .f32⟩
  | 51 => ⟨S32x2x8x128x256, .f32⟩
  | 52 => ⟨S32x2x256x128x8, .f32⟩
  | 53 => ⟨S32x2x128x8x64, .f32⟩
  | 54 => ⟨S32x128x2x8x64, .f32⟩
  | 55 => ⟨S32x2x256x64, .f32⟩
  | 56 => ⟨S32x256x2x64, .f32⟩
  | 57 => ⟨S32x128x2x64, .f32⟩
  | 58 => ⟨S32x128x2x64, .f32⟩
  | 59 => ⟨S1x128x2x64, .f32⟩
  | 60 => ⟨S31x128x2x64, .f32⟩
  | 61 => ⟨S_, .f32⟩
  | 62 => ⟨S32x128x2x64, .f32⟩
  | 63 => ⟨S32x128x2x64, .f32⟩
  | 64 => ⟨S4096x2x64, .f32⟩
  | 65 => ⟨S32x128x2x64, .f32⟩
  | 66 => ⟨S32x128x2x64, .f32⟩
  | 67 => ⟨S1x128x2x64, .f32⟩
  | 68 => ⟨S31x128x2x64, .f32⟩
  | 69 => ⟨S_, .f32⟩
  | 70 => ⟨S32x128x2x64, .f32⟩
  | 71 => ⟨S32x128x2x64, .f32⟩
  | 72 => ⟨S4096x2x64, .f32⟩
  | 73 => ⟨S4096x16x64, .f32⟩
  | 74 => ⟨S1x16, .f32⟩
  | 75 => ⟨S4096x128, .f32⟩
  | 76 => ⟨S4096x128, .f32⟩
  | 77 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_call0_v0 : Ref sig .tc := ⟨.hbm, 66, rfl⟩
abbrev main_v50_1 : Ref sig .tc := ⟨.hbm, 67, rfl⟩
abbrev main_call0_v2 : Ref sig .tc := ⟨.hbm, 68, rfl⟩
abbrev main_v50_0 : Ref sig .tc := ⟨.hbm, 69, rfl⟩
abbrev main_call0_cst : Ref sig .tc := ⟨.hbm, 70, rfl⟩
abbrev main_v50_2 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_19 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_20 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_21 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_22 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_23 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_24 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_25 : Ref sig .tc := ⟨.hbm, 171, rfl⟩
abbrev main_v134 : Ref sig .tc := ⟨.hbm, 172, rfl⟩
abbrev main_v135 : Ref sig .tc := ⟨.hbm, 173, rfl⟩
abbrev main_call1_cst : Ref sig .tc := ⟨.hbm, 174, rfl⟩
abbrev main_call1_v0 : Ref sig .tc := ⟨.hbm, 175, rfl⟩
abbrev main_v136 : Ref sig .tc := ⟨.hbm, 176, rfl⟩
abbrev main_cst_26 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_27 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_28 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩

abbrev nD : Nat := 1
abbrev τ : Topo := Topo.v7x

variable {F : FTy → Type} [FloatOps F]
-- ==== FwdIn.lean ====
abbrev S4096x1024 : Shape := ⟨2, ![4096, 1024]⟩
abbrev S1x1024 : Shape := ⟨2, ![1, 1024]⟩
abbrev S1024x3744 : Shape := ⟨2, ![1024, 3744]⟩
abbrev S1024x936 : Shape := ⟨2, ![1024, 936]⟩
abbrev S1024x256 : Shape := ⟨2, ![1024, 256]⟩
abbrev S1024x128 : Shape := ⟨2, ![1024, 128]⟩
abbrev S1024x32 : Shape := ⟨2, ![1024, 32]⟩
abbrev S1024x520 : Shape := ⟨2, ![1024, 520]⟩
abbrev S1024x504 : Shape := ⟨2, ![1024, 504]⟩
abbrev S1024x64 : Shape := ⟨2, ![1024, 64]⟩
abbrev S1024x176 : Shape := ⟨2, ![1024, 176]⟩
abbrev S_ : Shape := ⟨0, ![]⟩
abbrev S1024x4032 : Shape := ⟨2, ![1024, 4032]⟩
abbrev S1024x4096 : Shape := ⟨2, ![1024, 4096]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 31
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3744, .f32⟩
  | .hbm, ⟨3, _⟩ => ⟨S1024x3744, .bf16⟩
  | .hbm, ⟨4, _⟩ => ⟨S1024x936, .bf16⟩
  | .hbm, ⟨5, _⟩ => ⟨S1024x936, .bf16⟩
  | .hbm, ⟨6, _⟩ => ⟨S1024x936, .bf16⟩
  | .hbm, ⟨7, _⟩ => ⟨S1024x936, .bf16⟩
  | .hbm, ⟨8, _⟩ => ⟨S1024x256, .bf16⟩
  | .hbm, ⟨9, _⟩ => ⟨S1024x128, .bf16⟩
  | .hbm, ⟨10, _⟩ => ⟨S1024x32, .bf16⟩
  | .hbm, ⟨11, _⟩ => ⟨S1024x520, .bf16⟩
  | .hbm, ⟨12, _⟩ => ⟨S1024x504, .bf16⟩
  | .hbm, ⟨13, _⟩ => ⟨S1024x64, .bf16⟩
  | .hbm, ⟨14, _⟩ => ⟨S1024x64, .bf16⟩
  | .hbm, ⟨15, _⟩ => ⟨S1024x64, .bf16⟩
  | .hbm, ⟨16, _⟩ => ⟨S1024x64, .bf16⟩
  | .hbm, ⟨17, _⟩ => ⟨S1024x64, .bf16⟩
  | .hbm, ⟨18, _⟩ => ⟨S1024x64, .bf16⟩
  | .hbm, ⟨19, _⟩ => ⟨S1024x64, .bf16⟩
  | .hbm, ⟨20, _⟩ => ⟨S1024x64, .bf16⟩
  | .hbm, ⟨21, _⟩ => ⟨S1024x176, .bf16⟩
  | .hbm, ⟨22, _⟩ => ⟨S_, .bf16⟩
  | .hbm, ⟨23, _⟩ => ⟨S1024x64, .bf16⟩
  | .hbm, ⟨24, _⟩ => ⟨S_, .bf16⟩
  | .hbm, ⟨25, _⟩ => ⟨S1024x32, .bf16⟩
  | .hbm, ⟨26, _⟩ => ⟨S1024x4032, .bf16⟩
  | .hbm, ⟨27, _⟩ => ⟨S1024x64, .bf16⟩
  | .hbm, ⟨28, _⟩ => ⟨S1024x4096, .bf16⟩
  | .hbm, ⟨29, _⟩ => ⟨S4096x4096, .f32⟩
  | .hbm, ⟨30, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x4096, .f32⟩
  | .local _ .vmem, ⟨5, _⟩ => ⟨S256x4096, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdInRefIdeal.lean ====
abbrev S4096x1024 : Shape := ⟨2, ![4096, 1024]⟩
abbrev S1x1024 : Shape := ⟨2, ![1, 1024]⟩
abbrev S1024x3744 : Shape := ⟨2, ![1024, 3744]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3744 : Shape := ⟨2, ![4096, 3744]⟩
abbrev S4096x256 : Shape := ⟨2, ![4096, 256]⟩
abbrev S4096x128 : Shape := ⟨2, ![4096, 128]⟩
abbrev S4096x32 : Shape := ⟨2, ![4096, 32]⟩
abbrev S4096x2048 : Shape := ⟨2, ![4096, 2048]⟩
abbrev S4096x64 : Shape := ⟨2, ![4096, 64]⟩
abbrev S4096x4096 : Shape := ⟨2, ![4096, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3744, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3744, .f32⟩
  | .hbm, ⟨21, _⟩ => ⟨S4096x256, .f32⟩
  | .hbm, ⟨22, _⟩ => ⟨S4096x128, .f32⟩
  | .hbm, ⟨23, _⟩ => ⟨S4096x32, .f32⟩
  | .hbm, ⟨24, _⟩ => ⟨S4096x1024, .f32⟩
  | .hbm, ⟨25, _⟩ => ⟨S4096x128, .f32⟩
  | .hbm, ⟨26, _⟩ => ⟨S4096x128, .f32⟩
  | .hbm, ⟨27, _⟩ => ⟨S4096x2048, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S_, .f32⟩
  | .hbm, ⟨37, _⟩ => ⟨S4096x64, .f32⟩
  | .hbm, ⟨38, _⟩ => ⟨S_, .f32⟩
  | .hbm, ⟨39, _⟩ => ⟨S4096x32, .f32⟩
  | .hbm, ⟨40, _⟩ => ⟨S4096x4096, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Adamw.lean ====
abbrev S1x1024x1024 : Shape := ⟨3, ![1, 1024, 1024]⟩
abbrev S_ : Shape := ⟨0, ![]⟩
abbrev S2048x1024 : Shape := ⟨2, ![2048, 1024]⟩
abbrev S1024x1024 : Shape := ⟨2, ![1024, 1024]⟩
abbrev S3072x1024 : Shape := ⟨2, ![3072, 1024]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S_, .f32⟩
  | .hbm, ⟨5, _⟩ => ⟨S2048x1024, .f32⟩
  | .hbm, ⟨6, _⟩ => ⟨S1024x1024, .f32⟩
  | .hbm, ⟨7, _⟩ => ⟨S3072x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1x1024x1024 : Shape := ⟨3, ![1, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S_, .f32⟩
  | .hbm, ⟨5, _⟩ => ⟨S1x1024x1024, .f32⟩
  | .hbm, ⟨6, _⟩ => ⟨S1x1024x1024, .f32⟩
  | .hbm, ⟨7, _⟩ => ⟨S_, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S_, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S_, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S_, .f32⟩
  | .hbm, ⟨23, _⟩ => ⟨S1x1024x1024, .f32⟩
  | .hbm, ⟨24, _⟩ => ⟨S1x1024x1024, .f32⟩
  | .hbm, ⟨25, _⟩ => ⟨S1x1024x1024, .f32⟩
  | .hbm, ⟨26, _⟩ => ⟨S_, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S_, .f32⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S_, .f32⟩
  | .hbm, ⟨35, _⟩ => ⟨S1x1024x1024, .f32⟩
  | .hbm, ⟨36, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.RealEntries.lean ====
/-
  Entries that are real numbers. The ideal values are extended reals; most identities of a gradient hold for real numbers
  alone. `IsReal x` says that `x` is one; sums, products and the like of such entries are such entries, and a family of
  them is a family of reals (`exists_reals`).
-/
module

public import Idealize.ShloMosaic.Lib.IdealHost
public import Idealize.ShloMosaic.Lib.Pointwise

@[expose] public section

noncomputable section

open Idealize.ShloMosaic

namespace RealEntries

/-- `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, rfl⟩

theorem IsReal.neg {x : EReal} (hx : IsReal x) : IsReal (-x) := by
  obtain ⟨a, rfl⟩ := hx; exact ⟨-a, rfl⟩

theorem IsReal.sub {x y : EReal} (hx : IsReal x) (hy : IsReal y) : IsReal (x - y) := by
  obtain ⟨a, rfl⟩ := hx; obtain ⟨b, rfl⟩ := hy; exact ⟨a - b, rfl⟩

theorem IsReal.mul {x y : EReal} (hx : IsReal x) (hy : IsReal y) : IsReal (x * y) := by
  obtain ⟨a, rfl⟩ := hx; obtain ⟨b, rfl⟩ := hy; exact ⟨a * b, rfl⟩

theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

theorem IsReal.div {x : EReal} (hx : IsReal x) {y : ℝ} (hy : y ≠ 0) : IsReal (Ideal.div x (y : EReal)) := by
  rw [Ideal.div_coe hy]; exact hx.mul (.coe _)

/-- An entry whose absolute value is below `⊤` is a real number. -/
theorem IsReal.of_abs_lt {x : EReal} (h : max x (-x) < ⊤) : IsReal x := by
  induction x with
  | bot => simp at h
  | top => simp at h
  | coe r => exact ⟨r, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real entries is a family of reals. -/
theorem exists_reals {ι : Type} {X : ι → EReal} (h : ∀ i, IsReal (X i)) : ∃ x : ι → ℝ, X = fun i => (x i : EReal) := by
  choose x hx using h
  exact ⟨x, funext hx⟩

/-- A real factor goes into a sum of real entries. -/
theorem mul_sum_reals {ι : Type} (s : Finset ι) {a : EReal} {f : ι → EReal} (ha : IsReal a) (hf : ∀ i, IsReal (f i)) :
    a * ∑ i ∈ s, f i = ∑ i ∈ s, a * f i := by
  obtain ⟨a, rfl⟩ := ha
  obtain ⟨f, rfl⟩ := exists_reals hf
  rw [← coe_sum, ← EReal.coe_mul, Finset.mul_sum, coe_sum]
  exact Finset.sum_congr rfl fun i _ => EReal.coe_mul _ _

/-- A real factor goes out of a product with a sum of two real entries. -/
theorem mul_add_reals {a b c : EReal} (ha : IsReal a) (hb : IsReal b) (hc : IsReal c) : a * (b + c) = a * b + a * c := by
  obtain ⟨a, rfl⟩ := ha; obtain ⟨b, rfl⟩ := hb; obtain ⟨c, rfl⟩ := hc
  exact_mod_cast mul_add a b c

/-- The literal `1024.0`. -/
theorem ofBits_1024 : Ideal.ofBits .f32 0x44800000#32 = ((1024 : ℝ) : EReal) := by
  simp [Ideal.ofBits, Ideal.ieee]; rw [← EReal.coe_mul]; norm_num

/-- The literal `-0.5`. -/
theorem ofBits_neg_half : Ideal.ofBits .f32 0xBF000000#32 = ((-(1 / 2) : ℝ) : EReal) := by
  simp [Ideal.ofBits, Ideal.ieee]; rw [← EReal.coe_mul]; norm_num

/-- The norm's `1e-6` is a positive real number. -/
theorem ofBits_eps : ∃ e : ℝ, 0 < e ∧ Ideal.ofBits .f32 0x358637BD#32 = (e : EReal) := by
  refine ⟨_, ?_, by simp [Ideal.ofBits, Ideal.ieee]; rfl⟩
  positivity

/-- The literal `+∞`. -/
theorem ofBits_inf : Ideal.ofBits .f32 0x7F800000#32 = ⊤ := by
  simp [Ideal.ofBits, Ideal.ieee]

/-- What a printed precondition `|x| < +∞` says: every entry is a real number. -/
theorem reals_of_finite {S T : Shape} {dims : Fin T.rank → Fin S.rank} {h : T.BroadcastsInDim S dims} {x : FVec Ideal S .f32}
    (hx : cmpf .olt (Host.absf x) (broadcastInDim S dims h (constant T .f32 0x7F800000#32)) = fun _ => 1#1) (i : S.Idx) :
    IsReal (x i) := by
  have h1 : BitVec.ofBool (decide (max (x i) (-x i) < Ideal.ofBits .f32 0x7F800000#32)) = 1#1 := congrFun hx i
  rw [ofBits_inf] at h1
  refine IsReal.of_abs_lt (of_decide_eq_true ?_)
  cases hb : decide (max (x i) (-x i) < ⊤) with
  | true => rfl
  | false => rw [hb] at h1; exact absurd h1 (by decide)

/-- A sum over grid points, each of which sums its block of rows, is the sum over all rows. -/
theorem sum_fin_eq_blocks {N : ℕ} (S n : ℕ) {L : ℕ} (g : Fin L → EReal) {f : Fin N → EReal} (hN : N = S) (hL : S * n = L)
    (h : ∀ t : Fin N, f t = ∑ p : Fin n, g ⟨t.val * n + p.val, by
      have ht := t.isLt; have hp := p.isLt; subst hN hL; calc t.val * n + p.val < t.val * n + n := by omega
        _ = (t.val + 1) * n := by rw [Nat.add_mul, Nat.one_mul]
        _ ≤ N * n := Nat.mul_le_mul_right _ ht⟩) : ∑ t, f t = ∑ i, g i := by
  subst hN
  rw [Fin.sum_univ_tiles N n hL]
  exact Finset.sum_congr rfl fun t _ => h t

end RealEntries

end
-- ==== Proof.NormGrad.lean ====
/-
  The gradient of the root-mean-square norm, in the two forms that the programs use. With `q = (∑ x²) / N + ε` and
  `r = 1/√q`, the kernels compute `r * (d - x r * mean(d * x r))`, one formula for the whole row; the derivative of the
  forward lines sends the cotangent `d` through the product, through `r` and through the mean of squares, whose square
  contributes twice. On real numbers the two agree.
-/
module

public import proofs.«01_k».proof.Proof.RealEntries

@[expose] public section

noncomputable section

open Idealize.ShloMosaic RealEntries

namespace NormGrad

/-- The number under the norm's root: the mean of squares plus the norm's small constant. -/
def meanSq {n : ℕ} (N e : EReal) (X : Fin n → EReal) : EReal := Ideal.div (∑ k, X k * X k) N + e

/-- The norm's factor. -/
def fac {n : ℕ} (N e : EReal) (X : Fin n → EReal) : EReal := Ideal.rsqrt (meanSq N e X)

/-- What the mean of squares sends back to each of a square's two factors, as the derivative of the forward lines has it. -/
def back {n : ℕ} (N e h : EReal) (X D : Fin n → EReal) : EReal :=
  Ideal.div ((∑ k, X k * D k) * (h * Ideal.div (fac N e X) (meanSq N e X))) N

theorem meanSq_coe {n : ℕ} {N e : ℝ} (hN : 0 < N) (he : 0 < e) (x : Fin n → ℝ) :
    ∃ q : ℝ, 0 < q ∧ meanSq N e (fun k => (x k : EReal)) = (q : EReal) := by
  refine ⟨(∑ k, x k * x k) * (1 / N) + e, ?_, ?_⟩
  · have : 0 ≤ ∑ k, x k * x k := Finset.sum_nonneg fun k _ => mul_self_nonneg _
    positivity
  · rw [meanSq, Ideal.div_coe hN.ne']
    simp only [← EReal.coe_mul, ← coe_sum, ← EReal.coe_add]

theorem fac_coe {n : ℕ} {N e : ℝ} (hN : 0 < N) (he : 0 < e) (x : Fin n → ℝ) :
    ∃ r q : ℝ, 0 < q ∧ r * r * q = 1 ∧ meanSq N e (fun k => (x k : EReal)) = (q : EReal)
      ∧ fac N e (fun k => (x k : EReal)) = (r : EReal) := by
  obtain ⟨q, hq, h⟩ := meanSq_coe hN he x
  refine ⟨(Real.sqrt q)⁻¹, q, hq, ?_, h, ?_⟩
  · have h0 : Real.sqrt q ≠ 0 := (Real.sqrt_pos.mpr hq).ne'
    have h1 := Real.mul_self_sqrt hq.le
    field_simp
    nlinarith [h1]
  · rw [fac, h, Ideal.rsqrt_coe, if_neg hq.not_gt, if_neg hq.ne']

theorem IsReal.fac {n : ℕ} {N e : ℝ} (hN : 0 < N) (he : 0 < e) {X : Fin n → EReal} (hX : ∀ k, IsReal (X k)) :
    IsReal (fac N e X) := by
  obtain ⟨x, rfl⟩ := exists_reals hX
  obtain ⟨r, -, -, -, -, h⟩ := fac_coe hN he x
  exact ⟨r, h⟩

/-- The kernels' one formula is the derivative of the forward lines. -/
theorem grad_row {n : ℕ} {N e : ℝ} (hN : 0 < N) (he : 0 < e) {X D : Fin n → EReal} (hX : ∀ k, IsReal (X k))
    (hD : ∀ k, IsReal (D k)) (j : Fin n) :
    fac N e X * (D j - X j * fac N e X * Ideal.div (∑ k, D k * (X k * fac N e X)) N)
      = D j * fac N e X + (X j * back N e (-(1 / 2) : ℝ) X D + back N e (-(1 / 2) : ℝ) X D * X j) := by
  obtain ⟨x, rfl⟩ := exists_reals hX
  obtain ⟨d, rfl⟩ := exists_reals hD
  obtain ⟨r, q, hq, hr, hms, hf⟩ := fac_coe hN he x
  rw [back, hf, hms, Ideal.div_coe hN.ne', Ideal.div_coe hN.ne', Ideal.div_coe hq.ne']
  simp only [← EReal.coe_mul, ← coe_sum, ← EReal.coe_sub, ← EReal.coe_add]
  congr 1
  have e1 : ∑ k, d k * (x k * r) = (∑ k, x k * d k) * r := by
    rw [Finset.sum_mul]; exact Finset.sum_congr rfl fun k _ => by ring
  have e2 : r * (1 / q) = r * r * r := by
    rw [mul_one_div, div_eq_iff hq.ne', mul_assoc, mul_assoc, ← mul_assoc r r q, hr, mul_one]
  rw [e1, e2]
  ring

/-- The same with what is added in front, as the programs have it. -/
theorem grad_row_add {n : ℕ} {N e : ℝ} (hN : 0 < N) (he : 0 < e) {X D : Fin n → EReal} (hX : ∀ k, IsReal (X k))
    (hD : ∀ k, IsReal (D k)) (j : Fin n) (z : EReal) :
    z + fac N e X * (D j - X j * fac N e X * Ideal.div (∑ k, D k * (X k * fac N e X)) N)
      = z + D j * fac N e X + X j * back N e (-(1 / 2) : ℝ) X D + back N e (-(1 / 2) : ℝ) X D * X j := by
  rw [grad_row hN he hX hD, ← add_assoc, ← add_assoc]

end NormGrad

end
-- ==== Proof.MlpUp.lean ====
module

public import proofs.«01_k».proof.Proof.NormGrad
public import proofs.«01_k».proof.Proof.Gen.MlpUpIdeal.Value
public import proofs.«01_k».proof.Proof.Gen.MlpUpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem RealEntries NormGrad
open Idealize.ShloMosaic.Pipeline (Dat)

namespace Cert.MlpUpIdeal.Value

open Cert.MlpUpIdeal Cert.MlpUpIdeal.Gen

variable (m : (ℓ : Loc nD τ sig) → Buf (Elt Ideal) ℓ) (ρ : Dev nD → PrngReg)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

section Entry
variable {F : FTy → Type} [FloatOps F] (mF : (ℓ : Loc nD τ sig) → Buf (Elt F) ℓ)

/-- The host's stack of the weight's column groups. -/
theorem w_entry (c : Dev nD) : V mF c main_v9
    = concatenate S4x1024x1024 0
      [⟨S1x1024x1024, broadcastInDim S1x1024x1024 ![1, 2] Facts₀.bcast_S1024x1024_S1x1024x1024_1_2 (extractStridedSlice S1024x1024 ![0, 0] (truncf .bf16 (mF ((c.tc : Thread nD τ).loc main_arg2)) Facts₀.bitsLt_bf16_f32) Facts₀.slices_S1024x4096_S1024x1024_0_0)⟩,
       ⟨S1x1024x1024, broadcastInDim S1x1024x1024 ![1, 2] Facts₀.bcast_S1024x1024_S1x1024x1024_1_2 (extractStridedSlice S1024x1024 ![0, 1024] (truncf .bf16 (mF ((c.tc : Thread nD τ).loc main_arg2)) Facts₀.bitsLt_bf16_f32) Facts₀.slices_S1024x4096_S1024x1024_0_1024)⟩,
       ⟨S1x1024x1024, broadcastInDim S1x1024x1024 ![1, 2] Facts₀.bcast_S1024x1024_S1x1024x1024_1_2 (extractStridedSlice S1024x1024 ![0, 2048] (truncf .bf16 (mF ((c.tc : Thread nD τ).loc main_arg2)) Facts₀.bitsLt_bf16_f32) Facts₀.slices_S1024x4096_S1024x1024_0_2048)⟩,
       ⟨S1x1024x1024, broadcastInDim S1x1024x1024 ![1, 2] Facts₀.bcast_S1024x1024_S1x1024x1024_1_2 (extractStridedSlice S1024x1024 ![0, 3072] (truncf .bf16 (mF ((c.tc : Thread nD τ).loc main_arg2)) Facts₀.bitsLt_bf16_f32) Facts₀.slices_S1024x4096_S1024x1024_0_3072)⟩]
      Facts₀.concatenates_S1x1024x1024_S1x1024x1024_S1x1024x1024_S1x1024x1024_S4x1024x1024_d0 := by
  rfl

end Entry

/-- The launch contents of the arguments. -/
abbrev X (c : Dev nD) : Vec Ideal S4096x1024 .f32 := m ((c.tc : Thread nD τ).loc main_arg0)
abbrev G (c : Dev nD) : Vec Ideal S1x1024 .f32 := m ((c.tc : Thread nD τ).loc main_arg1)
abbrev W (c : Dev nD) : Vec Ideal S1024x4096 .f32 := m ((c.tc : Thread nD τ).loc main_arg2)
abbrev DA (c : Dev nD) : Vec Ideal S4096x4096 .f32 := m ((c.tc : Thread nD τ).loc main_arg3)
abbrev DX2 (c : Dev nD) : Vec Ideal S4096x1024 .f32 := m ((c.tc : Thread nD τ).loc main_arg4)

theorem w_apply (c : Dev nD) (a : Fin 4) (b d : Fin 1024) : (V m c main_v9 : Vec Ideal S4x1024x1024 .bf16) (ix3 a b d)
    = W m c (ix2 b ⟨1024 * a.val + d.val, by omega⟩) := by
  rw [w_entry]
  pointwise
  fin_cases a <;> simp

/-- Row `p` of the block at point `t`, in the array. -/
abbrev row (t : Fin cfg0.N) (p : Fin 256) : Fin 4096 :=
  ⟨t.val * 256 + p.val, by have h : t.val < 16 := t.isLt.trans_eq N_0; omega⟩

theorem blk0 (c : Dev nD) (t : Fin cfg0.N) (p : Fin 256) (l : Fin 4096) :
    (iblk m c 0 t : Vec Ideal S256x4096 .bf16) (ix2 p l) = DA m c (ix2 (row t p) l) := by
  blk_simp [iblk]
  rw [show V m c main_v10 = DA m c from rfl]
  blk_ext [(idx t).1]

theorem blk1 (c : Dev nD) (t : Fin cfg0.N) (a : Fin 4) (b d : Fin 1024) :
    (iblk m c 1 t : Vec Ideal S4x1024x1024 .bf16) (ix3 a b d) = W m c (ix2 b ⟨1024 * a.val + d.val, by omega⟩) := by
  rw [← w_apply]
  blk_simp [iblk]
  blk_ext [(idx t).2.1]

theorem blk2 (c : Dev nD) (t : Fin cfg0.N) (p : Fin 256) (l : Fin 1024) :
    (iblk m c 2 t : Vec Ideal S256x1024 .f32) (ix2 p l) = X m c (ix2 (row t p) l) := by
  blk_simp [iblk]
  rw [V_main_arg0]
  blk_ext [(idx t).2.2.1]

theorem blk3 (c : Dev nD) (t : Fin cfg0.N) (l : Fin 1024) :
    (iblk m c 3 t : Vec Ideal S1x1024 .f32) (ix2 0 l) = G m c (ix2 0 l) := by
  blk_simp [iblk]
  rw [V_main_arg1]
  blk_ext [(idx t).2.2.2.1]

theorem blk4 (c : Dev nD) (t : Fin cfg0.N) (p : Fin 256) (l : Fin 1024) :
    (iblk m c 4 t : Vec Ideal S256x1024 .f32) (ix2 p l) = DX2 m c (ix2 (row t p) l) := by
  blk_simp [iblk]
  rw [V_main_arg4]
  blk_ext [(idx t).2.2.2.2.1]

/-- The gradient at the norm's output, row `p`. -/
def dh (c : Dev nD) (p : Fin 4096) (k : Fin 1024) : EReal := ∑ l : Fin 4096, DA m c (ix2 p l) * W m c (ix2 k l)

theorem dh_groups (c : Dev nD) (t : Fin cfg0.N) (p : Fin 256) (k : Fin 1024) :
    k0_pay6 (F := Ideal) (View.ld (iblk m c 0 t) (Rect.unit (s := S256x4096) ![0, 0] S256x1024.size Facts₀.inb_S256x4096_S256x1024_0_0)) (View.ld (iblk m c 1 t) (Rect.unit (s := S4x1024x1024) ![0, 0, 0] S1x1024x1024.size Facts₀.inb_S4x1024x1024_S1x1024x1024_0_0_0))
    (View.ld (iblk m c 0 t) (Rect.unit (s := S256x4096) ![0, 1024] S256x1024.size Facts₀.inb_S256x4096_S256x1024_0_1024)) (View.ld (iblk m c 1 t) (Rect.unit (s := S4x1024x1024) ![1, 0, 0] S1x1024x1024.size Facts₀.inb_S4x1024x1024_S1x1024x1024_1_0_0))
    (View.ld (iblk m c 0 t) (Rect.unit (s := S256x4096) ![0, 2048] S256x1024.size Facts₀.inb_S256x4096_S256x1024_0_2048)) (View.ld (iblk m c 1 t) (Rect.unit (s := S4x1024x1024) ![2, 0, 0] S1x1024x1024.size Facts₀.inb_S4x1024x1024_S1x1024x1024_2_0_0))
    (View.ld (iblk m c 0 t) (Rect.unit (s := S256x4096) ![0, 3072] S256x1024.size Facts₀.inb_S256x4096_S256x1024_0_3072)) (View.ld (iblk m c 1 t) (Rect.unit (s := S4x1024x1024) ![3, 0, 0] S1x1024x1024.size Facts₀.inb_S4x1024x1024_S1x1024x1024_3_0_0)) (ix2 p k) = dh m c (row t p) k := by
  pointwise [k0_pay6, dot_S256x1024_S1024x1024_S256x1024_1_1_0_0_n_n]
  rw [dh, Fin.sum_univ_tiles 4 1024 rfl, Fin.sum_univ_four]
  simp only [blk0, blk1, mul_comm _ 1024]
  rfl

theorem outs5 (c : Dev nD) (t : Fin cfg0.N) :
    (outsAt0 m c t.val t.isLt).1 = k0_pay4 (F := Ideal) (fun y => dh m c (row t (y 0)) (y 1)) (iblk m c 2 t) (iblk m c 3 t) (iblk m c 4 t) := by
  by_cases h0 : t.val % 16 = 0
  · rw [outsAt0_A m c t h0]; frame_out
    congr 1
    funext y
    obtain ⟨p, q, rfl⟩ : ∃ (p : Fin 256) (q : Fin 1024), y = ix2 p q := ⟨y 0, y 1, eq_ix2 y⟩
    exact dh_groups m c t p q
  · rw [outsAt0_B m c t h0]; frame_out
    congr 1
    funext y
    obtain ⟨p, q, rfl⟩ : ∃ (p : Fin 256) (q : Fin 1024), y = ix2 p q := ⟨y 0, y 1, eq_ix2 y⟩
    exact dh_groups m c t p q

local notation "N₀" => Ideal.ofBits FTy.f32 0x44800000#32
local notation "e₀" => Ideal.ofBits FTy.f32 0x358637BD#32
local notation "h₀" => Ideal.ofBits FTy.f32 0xBF000000#32

/-- Row `i` of the input, and of the gradient at the norm's input before the gain is taken in. -/
def xr (c : Dev nD) (i : Fin 4096) (k : Fin 1024) : EReal := X m c (ix2 i k)
def dr (c : Dev nD) (i : Fin 4096) (k : Fin 1024) : EReal := dh m c i k * G m c (ix2 0 k)

/-- The first result's entry, as the kernel computes it. -/
theorem arr5 (c : Dev nD) : ((dats m 0 c).arrAt 5 cfg0.N : Vec Ideal S4096x1024 .f32)
    = fun y => DX2 m c (ix2 (y 0) (y 1)) + fac N₀ e₀ (xr m c (y 0)) * (dr m c (y 0) (y 1) - xr m c (y 0) (y 1) * fac N₀ e₀ (xr m c (y 0))
        * Ideal.div (∑ k, dr m c (y 0) k * (xr m c (y 0) k * fac N₀ e₀ (xr m c (y 0)))) N₀) := by
  refine (dats m 0 c).arrAt_eq_of_covers (w := 5) _ (by decide +kernel) fun t hf y => ?_
  blk_simp
  rw [after0_5, outs5]
  obtain ⟨p, q, rfl⟩ : ∃ (p : Fin 256) (q : Fin 1024), y = ix2 p q := ⟨y 0, y 1, eq_ix2 y⟩
  have hi : ((cfg0.win 5).blk t).view.emb (ix2 p q) = (ix2 (row t p) q : S4096x1024.Idx) := by
    funext d
    apply Fin.ext
    have e := (idx t).2.2.2.2.2
    fin_cases d <;> blk_simp <;> rw [e]
    · rfl
    · show 0 * 1024 + q.val = q.val
      omega
  rw [show (win0_5.blk t).view.emb (ix2 p q) = (ix2 (row t p) q : S4096x1024.Idx) from hi]
  pointwise [k0_pay4, k0_pay2, k0_pay1]
  simp only [blk2, blk3, blk4]
  rfl

theorem ref5 (c : Dev nD) (i : Fin 4096) (q : Fin 1024) : MlpUpRefIdeal.Read.val_main_v41 (X m c) (G m c) (W m c) (DA m c) (DX2 m c) (ix2 i q)
    = DX2 m c (ix2 i q) + dr m c i q * fac N₀ e₀ (xr m c i)
      + xr m c i q * back N₀ e₀ h₀ (xr m c i) (dr m c i) + back N₀ e₀ h₀ (xr m c i) (dr m c i) * xr m c i q := by
  pointwise [MlpUpRefIdeal.Read.val_main_v0, MlpUpRefIdeal.Read.val_main_v1, MlpUpRefIdeal.Read.val_main_cst, MlpUpRefIdeal.Read.val_main_v2, MlpUpRefIdeal.Read.val_main_v3, MlpUpRefIdeal.Read.val_main_cst_0, MlpUpRefIdeal.Read.val_main_v4, MlpUpRefIdeal.Read.val_main_v5, MlpUpRefIdeal.Read.val_main_cst_1, MlpUpRefIdeal.Read.val_main_v6, MlpUpRefIdeal.Read.val_main_v7, MlpUpRefIdeal.Read.val_main_v8, MlpUpRefIdeal.Read.val_main_v9, MlpUpRefIdeal.Read.val_main_cst_2, MlpUpRefIdeal.Read.val_main_v10, MlpUpRefIdeal.Read.val_main_v11, MlpUpRefIdeal.Read.val_main_v12, MlpUpRefIdeal.Read.val_main_v13, MlpUpRefIdeal.Read.val_main_v14, MlpUpRefIdeal.Read.val_main_v15, MlpUpRefIdeal.Read.val_main_v16, MlpUpRefIdeal.Read.val_main_v17, MlpUpRefIdeal.Read.val_main_v18, MlpUpRefIdeal.Read.val_main_v19, MlpUpRefIdeal.Read.val_main_v20, MlpUpRefIdeal.Read.val_main_v21, MlpUpRefIdeal.Read.val_main_cst_3, MlpUpRefIdeal.Read.val_main_v22, MlpUpRefIdeal.Read.val_main_v23, MlpUpRefIdeal.Read.val_main_v24, MlpUpRefIdeal.Read.val_main_v25, MlpUpRefIdeal.Read.val_main_cst_4, MlpUpRefIdeal.Read.val_main_v26, MlpUpRefIdeal.Read.val_main_v27, MlpUpRefIdeal.Read.val_main_cst_5, MlpUpRefIdeal.Read.val_main_v28, MlpUpRefIdeal.Read.val_main_v29, MlpUpRefIdeal.Read.val_main_v30, MlpUpRefIdeal.Read.val_main_v31, MlpUpRefIdeal.Read.val_main_v32, MlpUpRefIdeal.Read.val_main_v33, MlpUpRefIdeal.Read.val_main_cst_6, MlpUpRefIdeal.Read.val_main_v34, MlpUpRefIdeal.Read.val_main_v35, MlpUpRefIdeal.Read.val_main_cst_7, MlpUpRefIdeal.Read.val_main_v36, MlpUpRefIdeal.Read.val_main_v37, MlpUpRefIdeal.Read.val_main_v38, MlpUpRefIdeal.Read.val_main_v39, MlpUpRefIdeal.Read.val_main_v40, MlpUpRefIdeal.Read.val_main_v41, MlpUpRefIdeal.Read.val_main_v42]
  simp only [Ideal.ofBits_zero_f32, zero_add, Finset.univ_unique, Finset.sum_singleton]
  rfl

/-- One point's addend to the gain's gradient. -/
def term6 (c : Dev nD) (t : Fin cfg0.N) (q : Fin 1024) : EReal :=
  ∑ p : Fin 256, dh m c (row t p) q * (xr m c (row t p) q * fac N₀ e₀ (xr m c (row t p)))

theorem xn_apply (c : Dev nD) (t : Fin cfg0.N) (p : Fin 256) (q : Fin 1024) :
    k0_pay2 (F := Ideal) (iblk m c 2 t) (ix2 p q) = xr m c (row t p) q * fac N₀ e₀ (xr m c (row t p)) := by
  pointwise [k0_pay2, k0_pay1]
  simp only [blk2]
  rfl

theorem outs6_A (c : Dev nD) (t : Fin cfg0.N) (h0 : t.val % 16 = 0) (q : Fin 1024) :
    (outsAt0 m c t.val t.isLt).2 (ix2 0 q) = 0 + term6 m c t q := by
  rw [outsAt0_A m c t h0]; frame_out
  pointwise [k0_pay5, k0_pay3]
  exact Finset.sum_congr rfl fun p _ => congrArg₂ (· * ·) (dh_groups m c t p q) (xn_apply m c t p q)

theorem outs6_B (c : Dev nD) (t : Fin cfg0.N) (h0 : ¬t.val % 16 = 0) (q : Fin 1024) :
    (outsAt0 m c t.val t.isLt).2 (ix2 0 q)
      = (outsAt0 m c (t.val - 1) (Nat.lt_of_le_of_lt (Nat.sub_le _ _) t.isLt)).2 (ix2 0 q) + term6 m c t q := by
  rw [outsAt0_B m c t h0]; frame_out
  pointwise [k0_pay5, k0_pay3]
  exact congrArg _ (Finset.sum_congr rfl fun p _ => congrArg₂ (· * ·) (dh_groups m c t p q) (xn_apply m c t p q))

/-- The second result's entry, as the kernel computes it. -/
theorem arr6 (c : Dev nD) : ((dats m 0 c).arrAt 6 cfg0.N : Vec Ideal S1x1024 .f32)
    = fun y => ∑ i : Fin 4096, dh m c i (y 1) * (xr m c i (y 1) * fac N₀ e₀ (xr m c i)) := by
  refine (dats m 0 c).arrAt_eq_of_after_last 6 t0_15 (by decide +kernel) _ fun j => ?_
  blk_simp
  rw [after0_6]
  obtain ⟨z, q, rfl⟩ : ∃ (p : Fin 1) (q : Fin 1024), j = ix2 p q := ⟨j 0, j 1, eq_ix2 j⟩
  obtain rfl : z = 0 := Subsingleton.elim _ _
  have hs := Pipeline.eq_sum_fin_of_reset_step_apply_last (fun n h q => (outsAt0 m c n h).2 (ix2 0 q)) 16 (fun _ => 0) (term6 m c)
    (fun t h q => outs6_A m c t h q) (fun t h q => outs6_B m c t h q) (le_of_eq N_0) t0_15 rfl q
  refine hs.trans ?_
  rw [zero_add]
  refine (sum_fin_eq_blocks 16 256 (fun i : Fin 4096 => dh m c i q * (xr m c i q * fac N₀ e₀ (xr m c i)))
    (f := fun t => term6 m c t q) N_0 rfl fun t => ?_)
  rfl

theorem ref6 (c : Dev nD) (q : Fin 1024) : MlpUpRefIdeal.Read.val_main_v42 (X m c) (W m c) (DA m c) (ix2 0 q)
    = ∑ i : Fin 4096, xr m c i q * fac N₀ e₀ (xr m c i) * dh m c i q := by
  pointwise [MlpUpRefIdeal.Read.val_main_v0, MlpUpRefIdeal.Read.val_main_v1, MlpUpRefIdeal.Read.val_main_cst, MlpUpRefIdeal.Read.val_main_v2, MlpUpRefIdeal.Read.val_main_v3, MlpUpRefIdeal.Read.val_main_cst_0, MlpUpRefIdeal.Read.val_main_v4, MlpUpRefIdeal.Read.val_main_v5, MlpUpRefIdeal.Read.val_main_cst_1, MlpUpRefIdeal.Read.val_main_v6, MlpUpRefIdeal.Read.val_main_v7, MlpUpRefIdeal.Read.val_main_v8, MlpUpRefIdeal.Read.val_main_v9, MlpUpRefIdeal.Read.val_main_cst_2, MlpUpRefIdeal.Read.val_main_v10, MlpUpRefIdeal.Read.val_main_v11, MlpUpRefIdeal.Read.val_main_v12, MlpUpRefIdeal.Read.val_main_v13, MlpUpRefIdeal.Read.val_main_v14, MlpUpRefIdeal.Read.val_main_v15, MlpUpRefIdeal.Read.val_main_v16, MlpUpRefIdeal.Read.val_main_v17, MlpUpRefIdeal.Read.val_main_v18, MlpUpRefIdeal.Read.val_main_v19, MlpUpRefIdeal.Read.val_main_v20, MlpUpRefIdeal.Read.val_main_v21, MlpUpRefIdeal.Read.val_main_cst_3, MlpUpRefIdeal.Read.val_main_v22, MlpUpRefIdeal.Read.val_main_v23, MlpUpRefIdeal.Read.val_main_v24, MlpUpRefIdeal.Read.val_main_v25, MlpUpRefIdeal.Read.val_main_cst_4, MlpUpRefIdeal.Read.val_main_v26, MlpUpRefIdeal.Read.val_main_v27, MlpUpRefIdeal.Read.val_main_cst_5, MlpUpRefIdeal.Read.val_main_v28, MlpUpRefIdeal.Read.val_main_v29, MlpUpRefIdeal.Read.val_main_v30, MlpUpRefIdeal.Read.val_main_v31, MlpUpRefIdeal.Read.val_main_v32, MlpUpRefIdeal.Read.val_main_v33, MlpUpRefIdeal.Read.val_main_cst_6, MlpUpRefIdeal.Read.val_main_v34, MlpUpRefIdeal.Read.val_main_v35, MlpUpRefIdeal.Read.val_main_cst_7, MlpUpRefIdeal.Read.val_main_v36, MlpUpRefIdeal.Read.val_main_v37, MlpUpRefIdeal.Read.val_main_v38, MlpUpRefIdeal.Read.val_main_v39, MlpUpRefIdeal.Read.val_main_v40, MlpUpRefIdeal.Read.val_main_v41, MlpUpRefIdeal.Read.val_main_v42]
  simp only [Ideal.ofBits_zero_f32, zero_add, Finset.univ_unique, Finset.sum_singleton]
  rfl

/-- The claim's two results, the arguments' entries real numbers. -/
theorem results (c : Dev nD) (hx : ∀ i, IsReal (X m c i)) (hg : ∀ i, IsReal (G m c i)) (hw : ∀ i, IsReal (W m c i)) (hda : ∀ i, IsReal (DA m c i)) :
    ((dats m 0 c).arrAt 5 cfg0.N : Vec Ideal S4096x1024 .f32) = MlpUpRefIdeal.Read.val_main_v41 (X m c) (G m c) (W m c) (DA m c) (DX2 m c)
    ∧ ((dats m 0 c).arrAt 6 cfg0.N : Vec Ideal S1x1024 .f32) = MlpUpRefIdeal.Read.val_main_v42 (X m c) (W m c) (DA m c) := by
  have hd : ∀ i k, IsReal (dr m c i k) := fun i k => (IsReal.sum _ _ fun l => (hda _).mul (hw _)).mul (hg _)
  obtain ⟨e, he, hE⟩ := ofBits_eps
  constructor
  · rw [arr5]
    funext y
    obtain ⟨p, q, rfl⟩ : ∃ (p : Fin 4096) (q : Fin 1024), y = ix2 p q := ⟨y 0, y 1, eq_ix2 y⟩
    rw [ref5, ofBits_1024, ofBits_neg_half, hE]
    exact grad_row_add (by norm_num) he (fun k => hx _) (hd p) q _
  · rw [arr6]
    funext y
    obtain ⟨z, q, rfl⟩ : ∃ (p : Fin 1) (q : Fin 1024), y = ix2 p q := ⟨y 0, y 1, eq_ix2 y⟩
    obtain rfl : z = 0 := Subsingleton.elim _ _
    rw [ref6]
    exact Finset.sum_congr rfl fun i _ => mul_comm _ _

end Cert.MlpUpIdeal.Value

end
-- ==== Proof.MlpDown.lean ====
/-
  The gradient of the norm after the MLP, of the product before it and of the squared relu: the kernel's results are the
  derivative of the forward lines. The kernel has the saved square `u = relu(a)²` alone and takes `2 * sqrt(u)` for the
  derivative of the square; on real numbers that is `2 * relu(a)`, and zero where the relu's derivative is.
-/
module

public import proofs.«01_k».proof.Proof.NormGrad
public import proofs.«01_k».proof.Proof.Gen.MlpDownIdeal.Value
public import proofs.«01_k».proof.Proof.Gen.MlpDownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem RealEntries NormGrad
open Idealize.ShloMosaic.Pipeline (Dat)

namespace Cert.MlpDownIdeal.Value

open Cert.MlpDownIdeal Cert.MlpDownIdeal.Gen

variable (m : (ℓ : Loc nD τ sig) → Buf (Elt Ideal) ℓ) (ρ : Dev nD → PrngReg)
theorem idx : ∀ t : Fin cfg0.N, win0_0.index t = ![t.val, 0]
    ∧ win0_1.index t = ![t.val, 0]
    ∧ win0_2.index t = ![0, 0]
    ∧ win0_3.index t = ![0, 0, 0]
    ∧ win0_4.index t = ![t.val, 0]
    ∧ win0_5.index t = ![t.val, 0]
    ∧ win0_6.index t = ![t.val, 0]
    ∧ win0_7.index t = ![0, 0] :=
  (by decide +kernel : ∀ t : Fin grid0.N, _)

/-- The launch contents of the arguments. -/
abbrev A (c : Dev nD) : Vec Ideal S4096x4096 .f32 := m ((c.tc : Thread nD τ).loc main_arg0)
abbrev W (c : Dev nD) : Vec Ideal S4096x1024 .f32 := m ((c.tc : Thread nD τ).loc main_arg1)
abbrev G (c : Dev nD) : Vec Ideal S1x1024 .f32 := m ((c.tc : Thread nD τ).loc main_arg2)
abbrev DX2 (c : Dev nD) : Vec Ideal S4096x1024 .f32 := m ((c.tc : Thread nD τ).loc main_arg3)

/-- Row `p` of the block at point `t`, in the array. -/
abbrev row (t : Fin cfg0.N) (p : Fin 256) : Fin 4096 :=
  ⟨t.val * 256 + p.val, by have h : t.val < 16 := t.isLt.trans_eq N_0; omega⟩

/-- The norm's input: the forward product. -/
abbrev P (c : Dev nD) : Vec Ideal S4096x1024 .f32 := MlpDownRefIdeal.Read.val_main_v7 (A m c) (W m c)

theorem blk0 (c : Dev nD) (t : Fin cfg0.N) (p : Fin 256) (l : Fin 1024) :
    (iblk m c 0 t : Vec Ideal S256x1024 .f32) (ix2 p l) = DX2 m c (ix2 (row t p) l) := by
  blk_simp [iblk]
  rw [V_main_arg3]
  blk_ext [(idx t).1]

theorem blk1 (c : Dev nD) (t : Fin cfg0.N) (p : Fin 256) (l : Fin 1024) :
    (iblk m c 1 t : Vec Ideal S256x1024 .f32) (ix2 p l) = P m c (ix2 (row t p) l) := by
  blk_simp [iblk]
  rw [show V m c main_v4 = P m c from rfl]
  blk_ext [(idx t).2.1]

theorem blk2 (c : Dev nD) (t : Fin cfg0.N) (l : Fin 1024) :
    (iblk m c 2 t : Vec Ideal S1x1024 .f32) (ix2 0 l) = G m c (ix2 0 l) := by
  blk_simp [iblk]
  rw [V_main_arg2]
  blk_ext [(idx t).2.2.1]

section Entry
variable {F : FTy → Type} [FloatOps F] (mF : (ℓ : Loc nD τ sig) → Buf (Elt F) ℓ)

/-- The host's reshape of the weight. -/
theorem w_entry (c : Dev nD) : V mF c main_v3
    = shapeCast S4x1024x1024 (truncf .bf16 (mF ((c.tc : Thread nD τ).loc main_arg1)) Facts₀.bitsLt_bf16_f32) Facts₀.shapeCasts_S4096x1024_S4x1024x1024 := by
  rfl

end Entry

/-- The kernel's reshape undoes the host's. -/
theorem w_block (c : Dev nD) (t : Fin cfg0.N) :
    (shapeCast S4096x1024 (shapeCast S4x1024x1024 (iblk m c 3 t : Vec Ideal S4x1024x1024 .bf16) Facts₀.shapeCasts_S4x1024x1024_S4x1024x1024)
      Facts₀.shapeCasts_S4x1024x1024_S4096x1024 : Vec Ideal S4096x1024 .bf16) = W m c := by
  have h : (iblk m c 3 t : Vec Ideal S4x1024x1024 .bf16) = V m c main_v3 := by
    funext y
    obtain ⟨a, b, d, rfl⟩ : ∃ (a : Fin 4) (b : Fin 1024) (d : Fin 1024), y = ix3 a b d := ⟨y 0, y 1, y 2, eq_ix3 y⟩
    blk_simp [iblk]
    blk_ext [(idx t).2.2.2.1]
  rw [h, w_entry]
  rw [shapeCast_comp]
  exact shapeCast_shapeCast _ _ _

/-- The saved square. -/
def u (c : Dev nD) (p : Fin 4096) (l : Fin 4096) : EReal := max (A m c (ix2 p l)) 0 * max (A m c (ix2 p l)) 0

theorem u_apply (c : Dev nD) (p : Fin 4096) (l : Fin 4096) : MlpDownRefIdeal.Read.val_main_v4 (A m c) (ix2 p l) = u m c p l := by
  pointwise [MlpDownRefIdeal.Read.val_main_v4, MlpDownRefIdeal.Read.val_main_v0, MlpDownRefIdeal.Read.val_main_call0_v0, MlpDownRefIdeal.Read.val_main_call0_cst]
  rfl

theorem blk4 (c : Dev nD) (t : Fin cfg0.N) (p : Fin 256) (l : Fin 4096) :
    (iblk m c 4 t : Vec Ideal S256x4096 .bf16) (ix2 p l) = u m c (row t p) l := by
  rw [← u_apply]
  blk_simp [iblk]
  rw [show V m c main_v5 = (truncf .bf16 (MlpDownRefIdeal.Read.val_main_v4 (A m c)) Facts₀.bitsLt_bf16_f32 : Vec Ideal S4096x4096 .bf16) from rfl]
  blk_ext [(idx t).2.2.2.2.1]

local notation "N₀" => Ideal.ofBits FTy.f32 0x44800000#32
local notation "e₀" => Ideal.ofBits FTy.f32 0x358637BD#32
local notation "h₀" => Ideal.ofBits FTy.f32 0xBF000000#32
local notation "two₀" => Ideal.ofBits FTy.f32 0x40000000#32

/-- Row `i` of the norm's input, and of the cotangent times the gain. -/
def xr (c : Dev nD) (i : Fin 4096) (k : Fin 1024) : EReal := P m c (ix2 i k)
def dr (c : Dev nD) (i : Fin 4096) (k : Fin 1024) : EReal := DX2 m c (ix2 i k) * G m c (ix2 0 k)

/-- The gradient at the norm's input, as the kernel computes it. -/
def dd (c : Dev nD) (i : Fin 4096) (k : Fin 1024) : EReal := fac N₀ e₀ (xr m c i) * (dr m c i k - xr m c i k * fac N₀ e₀ (xr m c i)
        * Ideal.div (∑ k, dr m c i k * (xr m c i k * fac N₀ e₀ (xr m c i))) N₀)

theorem dd_apply (c : Dev nD) (t : Fin cfg0.N) (p : Fin 256) (q : Fin 1024) :
    k0_pay7 (F := Ideal) (iblk m c 0 t) (iblk m c 1 t) (iblk m c 2 t) (ix2 p q) = dd m c (row t p) q := by
  pointwise [k0_pay7, k0_pay5, k0_pay4, k0_pay3]
  simp only [blk0, blk1, blk2]
  rfl

theorem da_apply (c : Dev nD) (t : Fin cfg0.N) (p : Fin 256) (l : Fin 4096) :
    k0_pay1 (F := Ideal) (k0_pay7 (F := Ideal) (iblk m c 0 t) (iblk m c 1 t) (iblk m c 2 t)) (iblk m c 3 t) (iblk m c 4 t) (ix2 p l)
      = (∑ k, dd m c (row t p) k * W m c (ix2 l k)) * (two₀ * Ideal.sqrt (u m c (row t p) l)) := by
  unfold k0_pay1
  rw [w_block]
  pointwise [dot_S256x1024_S4096x1024_S256x4096_1_1_0_0_n_n]
  simp only [dd_apply, blk4]

theorem ref_dd (c : Dev nD) (i : Fin 4096) (q : Fin 1024) : MlpDownRefIdeal.Read.val_main_v44 (A m c) (W m c) (G m c) (DX2 m c) (ix2 i q)
    = dr m c i q * fac N₀ e₀ (xr m c i)
      + xr m c i q * back N₀ e₀ h₀ (xr m c i) (dr m c i) + back N₀ e₀ h₀ (xr m c i) (dr m c i) * xr m c i q := by
  pointwise [MlpDownRefIdeal.Read.val_main_call0_cst, MlpDownRefIdeal.Read.val_main_call0_v0, MlpDownRefIdeal.Read.val_main_v0, MlpDownRefIdeal.Read.val_main_cst, MlpDownRefIdeal.Read.val_main_v1, MlpDownRefIdeal.Read.val_main_v2, MlpDownRefIdeal.Read.val_main_cst_0, MlpDownRefIdeal.Read.val_main_v3, MlpDownRefIdeal.Read.val_main_v4, MlpDownRefIdeal.Read.val_main_cst_1, MlpDownRefIdeal.Read.val_main_v5, MlpDownRefIdeal.Read.val_main_v6, MlpDownRefIdeal.Read.val_main_v8, MlpDownRefIdeal.Read.val_main_v9, MlpDownRefIdeal.Read.val_main_cst_2, MlpDownRefIdeal.Read.val_main_v10, MlpDownRefIdeal.Read.val_main_v11, MlpDownRefIdeal.Read.val_main_cst_3, MlpDownRefIdeal.Read.val_main_v12, MlpDownRefIdeal.Read.val_main_v13, MlpDownRefIdeal.Read.val_main_cst_4, MlpDownRefIdeal.Read.val_main_v14, MlpDownRefIdeal.Read.val_main_v15, MlpDownRefIdeal.Read.val_main_v16, MlpDownRefIdeal.Read.val_main_v17, MlpDownRefIdeal.Read.val_main_cst_5, MlpDownRefIdeal.Read.val_main_v18, MlpDownRefIdeal.Read.val_main_v19, MlpDownRefIdeal.Read.val_main_v20, MlpDownRefIdeal.Read.val_main_v21, MlpDownRefIdeal.Read.val_main_v22, MlpDownRefIdeal.Read.val_main_v23, MlpDownRefIdeal.Read.val_main_v24, MlpDownRefIdeal.Read.val_main_v25, MlpDownRefIdeal.Read.val_main_cst_6, MlpDownRefIdeal.Read.val_main_v26, MlpDownRefIdeal.Read.val_main_v27, MlpDownRefIdeal.Read.val_main_v28, MlpDownRefIdeal.Read.val_main_v29, MlpDownRefIdeal.Read.val_main_cst_7, MlpDownRefIdeal.Read.val_main_v30, MlpDownRefIdeal.Read.val_main_v31, MlpDownRefIdeal.Read.val_main_cst_8, MlpDownRefIdeal.Read.val_main_v32, MlpDownRefIdeal.Read.val_main_v33, MlpDownRefIdeal.Read.val_main_v34, MlpDownRefIdeal.Read.val_main_v35, MlpDownRefIdeal.Read.val_main_v36, MlpDownRefIdeal.Read.val_main_cst_9, MlpDownRefIdeal.Read.val_main_v37, MlpDownRefIdeal.Read.val_main_v38, MlpDownRefIdeal.Read.val_main_cst_10, MlpDownRefIdeal.Read.val_main_v39, MlpDownRefIdeal.Read.val_main_v40, MlpDownRefIdeal.Read.val_main_v41, MlpDownRefIdeal.Read.val_main_v42, MlpDownRefIdeal.Read.val_main_v43, MlpDownRefIdeal.Read.val_main_v44, MlpDownRefIdeal.Read.val_main_v45, MlpDownRefIdeal.Read.val_main_v46, MlpDownRefIdeal.Read.val_main_v47, MlpDownRefIdeal.Read.val_main_cst_11, MlpDownRefIdeal.Read.val_main_v48, MlpDownRefIdeal.Read.val_main_v49, MlpDownRefIdeal.Read.val_main_v50, MlpDownRefIdeal.Read.val_main_v51]
  simp only [Ideal.ofBits_zero_f32, zero_add, Finset.univ_unique, Finset.sum_singleton]
  rfl

theorem ref_da (c : Dev nD) (i l : Fin 4096) : MlpDownRefIdeal.Read.val_main_v51 (A m c) (W m c) (G m c) (DX2 m c) (ix2 i l)
    = if A m c (ix2 i l) > 0 then (∑ k, MlpDownRefIdeal.Read.val_main_v44 (A m c) (W m c) (G m c) (DX2 m c) (ix2 i k) * W m c (ix2 l k)) * (two₀ * max (A m c (ix2 i l)) 0) else 0 := by
  pointwise [MlpDownRefIdeal.Read.val_main_call0_cst, MlpDownRefIdeal.Read.val_main_call0_v0, MlpDownRefIdeal.Read.val_main_v0, MlpDownRefIdeal.Read.val_main_cst, MlpDownRefIdeal.Read.val_main_v1, MlpDownRefIdeal.Read.val_main_v2, MlpDownRefIdeal.Read.val_main_cst_0, MlpDownRefIdeal.Read.val_main_v3, MlpDownRefIdeal.Read.val_main_v4, MlpDownRefIdeal.Read.val_main_cst_1, MlpDownRefIdeal.Read.val_main_v5, MlpDownRefIdeal.Read.val_main_v6, MlpDownRefIdeal.Read.val_main_v7, MlpDownRefIdeal.Read.val_main_v8, MlpDownRefIdeal.Read.val_main_v9, MlpDownRefIdeal.Read.val_main_cst_2, MlpDownRefIdeal.Read.val_main_v10, MlpDownRefIdeal.Read.val_main_v11, MlpDownRefIdeal.Read.val_main_cst_3, MlpDownRefIdeal.Read.val_main_v12, MlpDownRefIdeal.Read.val_main_v13, MlpDownRefIdeal.Read.val_main_cst_4, MlpDownRefIdeal.Read.val_main_v14, MlpDownRefIdeal.Read.val_main_v15, MlpDownRefIdeal.Read.val_main_v16, MlpDownRefIdeal.Read.val_main_v17, MlpDownRefIdeal.Read.val_main_cst_5, MlpDownRefIdeal.Read.val_main_v18, MlpDownRefIdeal.Read.val_main_v19, MlpDownRefIdeal.Read.val_main_v20, MlpDownRefIdeal.Read.val_main_v21, MlpDownRefIdeal.Read.val_main_v22, MlpDownRefIdeal.Read.val_main_v23, MlpDownRefIdeal.Read.val_main_v24, MlpDownRefIdeal.Read.val_main_v25, MlpDownRefIdeal.Read.val_main_cst_6, MlpDownRefIdeal.Read.val_main_v26, MlpDownRefIdeal.Read.val_main_v27, MlpDownRefIdeal.Read.val_main_v28, MlpDownRefIdeal.Read.val_main_v29, MlpDownRefIdeal.Read.val_main_cst_7, MlpDownRefIdeal.Read.val_main_v30, MlpDownRefIdeal.Read.val_main_v31, MlpDownRefIdeal.Read.val_main_cst_8, MlpDownRefIdeal.Read.val_main_v32, MlpDownRefIdeal.Read.val_main_v33, MlpDownRefIdeal.Read.val_main_v34, MlpDownRefIdeal.Read.val_main_v35, MlpDownRefIdeal.Read.val_main_v36, MlpDownRefIdeal.Read.val_main_cst_9, MlpDownRefIdeal.Read.val_main_v37, MlpDownRefIdeal.Read.val_main_v38, MlpDownRefIdeal.Read.val_main_cst_10, MlpDownRefIdeal.Read.val_main_v39, MlpDownRefIdeal.Read.val_main_v40, MlpDownRefIdeal.Read.val_main_v41, MlpDownRefIdeal.Read.val_main_v42, MlpDownRefIdeal.Read.val_main_v43, MlpDownRefIdeal.Read.val_main_v45, MlpDownRefIdeal.Read.val_main_v46, MlpDownRefIdeal.Read.val_main_v47, MlpDownRefIdeal.Read.val_main_cst_11, MlpDownRefIdeal.Read.val_main_v48, MlpDownRefIdeal.Read.val_main_v49, MlpDownRefIdeal.Read.val_main_v50, MlpDownRefIdeal.Read.val_main_v51]

theorem outs5 (c : Dev nD) (t : Fin cfg0.N) (p : Fin 256) (q : Fin 1024) :
    ((outsAt0 m c t.val t.isLt).1 : Vec Ideal S256x1024 .bf16) (ix2 p q) = dd m c (row t p) q := by
  by_cases h0 : t.val % 16 = 0
  · rw [outsAt0_A m c t h0]; frame_out
    exact dd_apply m c t p q
  · rw [outsAt0_B m c t h0]; frame_out
    exact dd_apply m c t p q

theorem arr5 (c : Dev nD) : ((dats m 0 c).arrAt 5 cfg0.N : Vec Ideal S4096x1024 .bf16)
    = fun y => dd m c (y 0) (y 1) := by
  refine (dats m 0 c).arrAt_eq_of_covers (w := 5) _ (by decide +kernel) fun t hf y => ?_
  obtain ⟨p, q, rfl⟩ : ∃ (p : Fin 256) (q : Fin 1024), y = ix2 p q := ⟨y 0, y 1, eq_ix2 y⟩
  blk_simp
  rw [after0_5, outs5]
  have hi : ((cfg0.win 5).blk t).view.emb (ix2 p q) = (ix2 (row t p) q : S4096x1024.Idx) := by
    funext d
    apply Fin.ext
    have e := (idx t).2.2.2.2.2.1
    fin_cases d <;> blk_simp <;> rw [e]
    · rfl
    · show 0 * 1024 + q.val = q.val
      omega
  rw [show (win0_5.blk t).view.emb (ix2 p q) = (ix2 (row t p) q : S4096x1024.Idx) from hi]
  rfl

theorem outs6 (c : Dev nD) (t : Fin cfg0.N) (p : Fin 256) (q : Fin 4096) :
    ((outsAt0 m c t.val t.isLt).2.1 : Vec Ideal S256x4096 .bf16) (ix2 p q) = (∑ k, dd m c (row t p) k * W m c (ix2 q k)) * (two₀ * Ideal.sqrt (u m c (row t p) q)) := by
  by_cases h0 : t.val % 16 = 0
  · rw [outsAt0_A m c t h0]; frame_out
    exact da_apply m c t p q
  · rw [outsAt0_B m c t h0]; frame_out
    exact da_apply m c t p q

theorem arr6 (c : Dev nD) : ((dats m 0 c).arrAt 6 cfg0.N : Vec Ideal S4096x4096 .bf16)
    = fun y => (∑ k, dd m c (y 0) k * W m c (ix2 (y 1) k)) * (two₀ * Ideal.sqrt (u m c (y 0) (y 1))) := by
  refine (dats m 0 c).arrAt_eq_of_covers (w := 6) _ (by decide +kernel) fun t hf y => ?_
  obtain ⟨p, q, rfl⟩ : ∃ (p : Fin 256) (q : Fin 4096), y = ix2 p q := ⟨y 0, y 1, eq_ix2 y⟩
  blk_simp
  rw [after0_6, outs6]
  have hi : ((cfg0.win 6).blk t).view.emb (ix2 p q) = (ix2 (row t p) q : S4096x4096.Idx) := by
    funext d
    apply Fin.ext
    have e := (idx t).2.2.2.2.2.2.1
    fin_cases d <;> blk_simp <;> rw [e]
    · rfl
    · show 0 * 4096 + q.val = q.val
      omega
  rw [show (win0_6.blk t).view.emb (ix2 p q) = (ix2 (row t p) q : S4096x4096.Idx) from hi]
  rfl

/-- One point's addend to the gain's gradient. -/
def term7 (c : Dev nD) (t : Fin cfg0.N) (q : Fin 1024) : EReal :=
  ∑ p : Fin 256, DX2 m c (ix2 (row t p) q) * (xr m c (row t p) q * fac N₀ e₀ (xr m c (row t p)))

theorem outs7_A (c : Dev nD) (t : Fin cfg0.N) (h0 : t.val % 16 = 0) (q : Fin 1024) :
    (outsAt0 m c t.val t.isLt).2.2 (ix2 0 q) = 0 + term7 m c t q := by
  rw [outsAt0_A m c t h0]; frame_out
  pointwise [k0_pay6, k0_pay5, k0_pay4, k0_pay3, k0_pay2]
  simp only [blk0, blk1]
  rfl

theorem outs7_B (c : Dev nD) (t : Fin cfg0.N) (h0 : ¬t.val % 16 = 0) (q : Fin 1024) :
    (outsAt0 m c t.val t.isLt).2.2 (ix2 0 q)
      = (outsAt0 m c (t.val - 1) (Nat.lt_of_le_of_lt (Nat.sub_le _ _) t.isLt)).2.2 (ix2 0 q) + term7 m c t q := by
  rw [outsAt0_B m c t h0]; frame_out
  pointwise [k0_pay6, k0_pay5, k0_pay4, k0_pay3]
  simp only [blk0, blk1]
  rfl

theorem arr7 (c : Dev nD) : ((dats m 0 c).arrAt 7 cfg0.N : Vec Ideal S1x1024 .f32)
    = fun y => ∑ i : Fin 4096, DX2 m c (ix2 i (y 1)) * (xr m c i (y 1) * fac N₀ e₀ (xr m c i)) := by
  refine (dats m 0 c).arrAt_eq_of_after_last 7 t0_15 (by decide +kernel) _ fun j => ?_
  blk_simp
  rw [after0_7]
  obtain ⟨z, q, rfl⟩ : ∃ (p : Fin 1) (q : Fin 1024), j = ix2 p q := ⟨j 0, j 1, eq_ix2 j⟩
  obtain rfl : z = 0 := Subsingleton.elim _ _
  have hs := Pipeline.eq_sum_fin_of_reset_step_apply_last (fun n h q => (outsAt0 m c n h).2.2 (ix2 0 q)) 16 (fun _ => 0) (term7 m c)
    (fun t h q => outs7_A m c t h q) (fun t h q => outs7_B m c t h q) (le_of_eq N_0) t0_15 rfl q
  refine hs.trans ?_
  rw [zero_add]
  refine (sum_fin_eq_blocks 16 256 (fun i : Fin 4096 => DX2 m c (ix2 i q) * (xr m c i q * fac N₀ e₀ (xr m c i)))
    (f := fun t => term7 m c t q) N_0 rfl fun t => ?_)
  rfl

theorem ref_dg (c : Dev nD) (q : Fin 1024) : MlpDownRefIdeal.Read.val_main_v45 (A m c) (W m c) (DX2 m c) (ix2 0 q)
    = ∑ i : Fin 4096, xr m c i q * fac N₀ e₀ (xr m c i) * DX2 m c (ix2 i q) := by
  pointwise [MlpDownRefIdeal.Read.val_main_call0_cst, MlpDownRefIdeal.Read.val_main_call0_v0, MlpDownRefIdeal.Read.val_main_v0, MlpDownRefIdeal.Read.val_main_cst, MlpDownRefIdeal.Read.val_main_v1, MlpDownRefIdeal.Read.val_main_v2, MlpDownRefIdeal.Read.val_main_cst_0, MlpDownRefIdeal.Read.val_main_v3, MlpDownRefIdeal.Read.val_main_v4, MlpDownRefIdeal.Read.val_main_cst_1, MlpDownRefIdeal.Read.val_main_v5, MlpDownRefIdeal.Read.val_main_v6, MlpDownRefIdeal.Read.val_main_v8, MlpDownRefIdeal.Read.val_main_v9, MlpDownRefIdeal.Read.val_main_cst_2, MlpDownRefIdeal.Read.val_main_v10, MlpDownRefIdeal.Read.val_main_v11, MlpDownRefIdeal.Read.val_main_cst_3, MlpDownRefIdeal.Read.val_main_v12, MlpDownRefIdeal.Read.val_main_v13, MlpDownRefIdeal.Read.val_main_cst_4, MlpDownRefIdeal.Read.val_main_v14, MlpDownRefIdeal.Read.val_main_v15, MlpDownRefIdeal.Read.val_main_v16, MlpDownRefIdeal.Read.val_main_v17, MlpDownRefIdeal.Read.val_main_cst_5, MlpDownRefIdeal.Read.val_main_v18, MlpDownRefIdeal.Read.val_main_v19, MlpDownRefIdeal.Read.val_main_v20, MlpDownRefIdeal.Read.val_main_v21, MlpDownRefIdeal.Read.val_main_v22, MlpDownRefIdeal.Read.val_main_v23, MlpDownRefIdeal.Read.val_main_v24, MlpDownRefIdeal.Read.val_main_v25, MlpDownRefIdeal.Read.val_main_cst_6, MlpDownRefIdeal.Read.val_main_v26, MlpDownRefIdeal.Read.val_main_v27, MlpDownRefIdeal.Read.val_main_v28, MlpDownRefIdeal.Read.val_main_v29, MlpDownRefIdeal.Read.val_main_cst_7, MlpDownRefIdeal.Read.val_main_v30, MlpDownRefIdeal.Read.val_main_v31, MlpDownRefIdeal.Read.val_main_cst_8, MlpDownRefIdeal.Read.val_main_v32, MlpDownRefIdeal.Read.val_main_v33, MlpDownRefIdeal.Read.val_main_v34, MlpDownRefIdeal.Read.val_main_v35, MlpDownRefIdeal.Read.val_main_v36, MlpDownRefIdeal.Read.val_main_cst_9, MlpDownRefIdeal.Read.val_main_v37, MlpDownRefIdeal.Read.val_main_v38, MlpDownRefIdeal.Read.val_main_cst_10, MlpDownRefIdeal.Read.val_main_v39, MlpDownRefIdeal.Read.val_main_v40, MlpDownRefIdeal.Read.val_main_v41, MlpDownRefIdeal.Read.val_main_v42, MlpDownRefIdeal.Read.val_main_v43, MlpDownRefIdeal.Read.val_main_v44, MlpDownRefIdeal.Read.val_main_v45, MlpDownRefIdeal.Read.val_main_v46, MlpDownRefIdeal.Read.val_main_v47, MlpDownRefIdeal.Read.val_main_cst_11, MlpDownRefIdeal.Read.val_main_v48, MlpDownRefIdeal.Read.val_main_v49, MlpDownRefIdeal.Read.val_main_v50, MlpDownRefIdeal.Read.val_main_v51]
  simp only [Ideal.ofBits_zero_f32, zero_add, Finset.univ_unique, Finset.sum_singleton]
  rfl

/-- The saved square's root is the relu. -/
theorem sqrt_u (a : EReal) (ha : IsReal a) : Ideal.sqrt (max a 0 * max a 0) = max a 0 := by
  obtain ⟨r, rfl⟩ := ha
  rw [show max (r : EReal) 0 = ((max r 0 : ℝ) : EReal) from (EReal.coe_strictMono.monotone.map_max (a := r) (b := 0)).symm, ← EReal.coe_mul, Ideal.sqrt_coe,
    if_neg (not_lt.mpr (mul_self_nonneg _)), Real.sqrt_mul_self (le_max_right _ _)]

/-- The claim's three results, the arguments' entries real numbers. -/
theorem results (c : Dev nD) (ha : ∀ i, IsReal (A m c i)) (hw : ∀ i, IsReal (W m c i)) (hg : ∀ i, IsReal (G m c i)) (hd : ∀ i, IsReal (DX2 m c i)) :
    ((dats m 0 c).arrAt 5 cfg0.N : Vec Ideal S4096x1024 .bf16) = MlpDownRefIdeal.Read.val_main_v50 (A m c) (W m c) (G m c) (DX2 m c)
    ∧ ((dats m 0 c).arrAt 6 cfg0.N : Vec Ideal S4096x4096 .bf16) = MlpDownRefIdeal.Read.val_main_v51 (A m c) (W m c) (G m c) (DX2 m c)
    ∧ ((dats m 0 c).arrAt 7 cfg0.N : Vec Ideal S1x1024 .f32) = MlpDownRefIdeal.Read.val_main_v45 (A m c) (W m c) (DX2 m c) := by
  have hr : ∀ i k, IsReal (dr m c i k) := fun i k => (hd _).mul (hg _)
  have hmax : ∀ i, IsReal (max (A m c i) 0) := fun i => by
    rcases max_choice (A m c i) 0 with h | h <;> rw [h]
    exacts [ha i, IsReal.zero]
  have hx : ∀ i k, IsReal (xr m c i k) := fun i k => by
    have e : xr m c i k = ∑ l, u m c i l * W m c (ix2 l k) := by
      unfold xr
      pointwise [MlpDownRefIdeal.Read.val_main_v7, MlpDownRefIdeal.Read.val_main_v4, MlpDownRefIdeal.Read.val_main_v0, MlpDownRefIdeal.Read.val_main_call0_v0, MlpDownRefIdeal.Read.val_main_call0_cst]
      rfl
    rw [e]
    exact IsReal.sum _ _ fun l => ((hmax _).mul (hmax _)).mul (hw _)
  obtain ⟨e, he, hE⟩ := ofBits_eps
  have key : ∀ i q, dd m c i q = MlpDownRefIdeal.Read.val_main_v44 (A m c) (W m c) (G m c) (DX2 m c) (ix2 i q) := fun i q => by
    rw [ref_dd, dd, ofBits_1024, ofBits_neg_half, hE, grad_row (by norm_num) he (hx i) (hr i), ← add_assoc]
  refine ⟨?_, ?_, ?_⟩
  · rw [arr5]
    funext y
    obtain ⟨p, q, rfl⟩ : ∃ (p : Fin 4096) (q : Fin 1024), y = ix2 p q := ⟨y 0, y 1, eq_ix2 y⟩
    exact key p q
  · rw [arr6]
    funext y
    obtain ⟨p, q, rfl⟩ : ∃ (p : Fin 4096) (q : Fin 4096), y = ix2 p q := ⟨y 0, y 1, eq_ix2 y⟩
    rw [ref_da]
    simp only [← key]
    show (∑ k, dd m c p k * W m c (ix2 q k)) * (two₀ * Ideal.sqrt (max (A m c (ix2 p q)) 0 * max (A m c (ix2 p q)) 0)) = _
    rw [sqrt_u _ (ha _)]
    split
    · rfl
    · next h => rw [max_eq_right (not_lt.mp h), mul_zero, mul_zero]
  · rw [arr7]
    funext y
    obtain ⟨z, q, rfl⟩ : ∃ (p : Fin 1) (q : Fin 1024), y = ix2 p q := ⟨y 0, y 1, eq_ix2 y⟩
    obtain rfl : z = 0 := Subsingleton.elim _ _
    rw [ref_dg]
    exact Finset.sum_congr rfl fun i _ => mul_comm _ _

end Cert.MlpDownIdeal.Value

end
-- ==== Proof.Columns.lean ====
/-
  Sums over columns that stand side by side: a row of a matrix read at a column's number, a concatenation of column groups
  read at a column, a product's sum as a sum over column numbers.
-/
module

public import proofs.«01_k».proof.Proof.RealEntries
public import Idealize.ShloMosaic.Lib.Pipeline.ValueKit

@[expose] public section

noncomputable section

namespace Columns

open Idealize.ShloMosaic

variable {r n N : ℕ}

/-- The entry of row `i` in column number `j`, zero past the last column. -/
def col (A : (⟨2, ![r, n]⟩ : Shape).Idx → EReal) (i : Fin r) (j : ℕ) : EReal := if h : j < n then A (ix2 i ⟨j, h⟩) else 0

theorem col_of_lt (A : (⟨2, ![r, n]⟩ : Shape).Idx → EReal) (i : Fin r) {j : ℕ} (h : j < n) : col A i j = A (ix2 i ⟨j, h⟩) := dif_pos h

/-- A concatenation of column groups, read in the group numbered `k`, whose columns start at `o`. -/
theorem concatenate_col (xs : List ((s : Shape) × (s.Idx → EReal))) (h : Shape.Concatenates (xs.map (·.1)) ⟨2, ![r, N]⟩ 1) (i : Fin r)
    (k : ℕ) (hk : k < xs.length) (x : (⟨2, ![r, n]⟩ : Shape).Idx → EReal) (hx : xs[k] = ⟨⟨2, ![r, n]⟩, x⟩) (o : ℕ)
    (ho : (((xs.take k).map (·.1)).map fun s => if h : s.rank = (⟨2, ![r, N]⟩ : Shape).rank then s.size ((1 : Fin (⟨2, ![r, N]⟩ : Shape).rank).cast h.symm) else 0).sum = o)
    (hN : o + n ≤ N) {j l : ℕ} (hj : o + l = j) (hl : l < n) : col (concatenate ⟨2, ![r, N]⟩ 1 xs h) i j = col x i l := by
  subst hj
  rw [col_of_lt _ _ (show o + l < N by omega), col_of_lt _ _ hl]
  refine concatenate_apply_piece 1 xs h _ k hk _ x hx rfl o ho _ (fun b hb => ?_) rfl
  fin_cases b
  · rfl
  · exact absurd rfl hb

/-- A slice of columns. -/
theorem slice_col (A : (⟨2, ![r, N]⟩ : Shape).Idx → EReal) (o : ℕ) (h : Shape.Slices ⟨2, ![r, N]⟩ ![0, o] ⟨2, ![r, n]⟩) (hN : o + n ≤ N) (i : Fin r) {l : ℕ} (hl : l < n) :
    col (extractStridedSlice ⟨2, ![r, n]⟩ ![0, o] A h) i l = col A i (o + l) := by
  rw [col_of_lt _ _ hl, col_of_lt _ _ (show o + l < N by omega)]
  refine congrArg A ?_
  funext a
  apply Fin.ext
  fin_cases a
  · exact Nat.zero_add _
  · rfl

/-- A product's sum, over column numbers. -/
theorem sum_col {r' : ℕ} (A : (⟨2, ![r, n]⟩ : Shape).Idx → EReal) (B : (⟨2, ![r', n]⟩ : Shape).Idx → EReal) (i : Fin r) (k : Fin r') :
    ∑ l : Fin n, A (ix2 i l) * B (ix2 k l) = ∑ l ∈ Finset.range n, col A i l * col B k l := by
  rw [← Fin.sum_univ_eq_sum_range]
  exact Finset.sum_congr rfl fun l _ => by rw [col_of_lt _ _ l.isLt, col_of_lt _ _ l.isLt]

end Columns

end
-- ==== Proof.BwdIn.lean ====
/-
  The gradient of the input norm and of the product after it. The kernel multiplies four groups of columns, in the order its
  weight is laid out in; the key and value gradients come in two copies, whose weights stand side by side.
-/
module

public import proofs.«01_k».proof.Proof.NormGrad
public import proofs.«01_k».proof.Proof.Columns
public import proofs.«01_k».proof.Proof.Gen.BwdInIdeal.Value
public import proofs.«01_k».proof.Proof.Gen.BwdInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem RealEntries NormGrad
open Idealize.ShloMosaic.Pipeline (Dat)

namespace Cert.BwdInIdeal.Value

open Cert.BwdInIdeal Cert.BwdInIdeal.Gen

variable (m : (ℓ : Loc nD τ sig) → Buf (Elt Ideal) ℓ) (ρ : Dev nD → PrngReg)
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![t.val, 0]
    ∧ win0_6.index t = ![0, 0]
    ∧ win0_7.index t = ![t.val, 0]
    ∧ win0_8.index t = ![t.val, 0]
    ∧ win0_9.index t = ![0, 0] :=
  (by decide +kernel : ∀ t : Fin grid0.N, _)

section Entry
variable {F : FTy → Type} [FloatOps F] (mF : (ℓ : Loc nD τ sig) → Buf (Elt F) ℓ)
theorem ent5 (c : Dev nD) : V mF c main_v5 = (extractStridedSlice S1024x256 ![0, 0] (extractStridedSlice S1024x936 ![0, 0] (truncf .bf16 (mF ((c.tc : Thread nD τ).loc main_arg2)) Facts₀.bitsLt_bf16_f32) Facts₀.slices_S1024x3744_S1024x936_0_0) Facts₀.slices_S1024x936_S1024x256_0_0) := rfl
theorem ent6 (c : Dev nD) : V mF c main_v6 = (extractStridedSlice S1024x128 ![0, 256] (extractStridedSlice S1024x936 ![0, 0] (truncf .bf16 (mF ((c.tc : Thread nD τ).loc main_arg2)) Facts₀.bitsLt_bf16_f32) Facts₀.slices_S1024x3744_S1024x936_0_0) Facts₀.slices_S1024x936_S1024x128_0_256) := rfl
theorem ent7 (c : Dev nD) : V mF c main_v7 = (extractStridedSlice S1024x32 ![0, 384] (extractStridedSlice S1024x936 ![0, 0] (truncf .bf16 (mF ((c.tc : Thread nD τ).loc main_arg2)) Facts₀.bitsLt_bf16_f32) Facts₀.slices_S1024x3744_S1024x936_0_0) Facts₀.slices_S1024x936_S1024x32_0_384) := rfl
theorem ent8 (c : Dev nD) : V mF c main_v8 = (extractStridedSlice S1024x520 ![0, 416] (extractStridedSlice S1024x936 ![0, 0] (truncf .bf16 (mF ((c.tc : Thread nD τ).loc main_arg2)) Facts₀.bitsLt_bf16_f32) Facts₀.slices_S1024x3744_S1024x936_0_0) Facts₀.slices_S1024x936_S1024x520_0_416) := rfl
theorem ent9 (c : Dev nD) : V mF c main_v9 = (extractStridedSlice S1024x504 ![0, 0] (extractStridedSlice S1024x936 ![0, 936] (truncf .bf16 (mF ((c.tc : Thread nD τ).loc main_arg2)) Facts₀.bitsLt_bf16_f32) Facts₀.slices_S1024x3744_S1024x936_0_936) Facts₀.slices_S1024x936_S1024x504_0_0) := rfl
theorem ent10 (c : Dev nD) : V mF c main_v10 = (extractStridedSlice S1024x64 ![0, 504] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_504) := rfl
theorem ent11 (c : Dev nD) : V mF c main_v11 = (extractStridedSlice S1024x64 ![0, 504] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_504) := rfl
theorem ent12 (c : Dev nD) : V mF c main_v12 = (extractStridedSlice S1024x64 ![0, 568] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_568) := rfl
theorem ent13 (c : Dev nD) : V mF c main_v13 = (extractStridedSlice S1024x64 ![0, 568] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_568) := rfl
theorem ent14 (c : Dev nD) : V mF c main_v14 = (extractStridedSlice S1024x64 ![0, 632] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_632) := rfl
theorem ent15 (c : Dev nD) : V mF c main_v15 = (extractStridedSlice S1024x64 ![0, 632] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_632) := rfl
theorem ent16 (c : Dev nD) : V mF c main_v16 = (extractStridedSlice S1024x64 ![0, 696] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_696) := rfl
theorem ent17 (c : Dev nD) : V mF c main_v17 = (extractStridedSlice S1024x64 ![0, 696] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_696) := rfl
theorem ent18 (c : Dev nD) : V mF c main_v18 = (extractStridedSlice S1024x176 ![0, 760] (extractStridedSlice S1024x936 ![0, 936] (truncf .bf16 (mF ((c.tc : Thread nD τ).loc main_arg2)) Facts₀.bitsLt_bf16_f32) Facts₀.slices_S1024x3744_S1024x936_0_936) Facts₀.slices_S1024x936_S1024x176_0_760) := rfl
theorem ent3 (c : Dev nD) : V mF c main_v3 = (extractStridedSlice S1024x936 ![0, 1872] (truncf .bf16 (mF ((c.tc : Thread nD τ).loc main_arg2)) Facts₀.bitsLt_bf16_f32) Facts₀.slices_S1024x3744_S1024x936_0_1872) := rfl
theorem ent4 (c : Dev nD) : V mF c main_v4 = (extractStridedSlice S1024x936 ![0, 2808] (truncf .bf16 (mF ((c.tc : Thread nD τ).loc main_arg2)) Facts₀.bitsLt_bf16_f32) Facts₀.slices_S1024x3744_S1024x936_0_2808) := rfl
set_option maxHeartbeats 4000000 in
/-- The host's weight: the columns of the four shards in the order the kernel multiplies them. -/
theorem ent21 (c : Dev nD) : V mF c main_v21 = (concatenate S1024x4032 1 [⟨S1024x520, V mF c main_v8⟩, ⟨S1024x504, V mF c main_v9⟩, ⟨S1024x176, V mF c main_v18⟩, ⟨S1024x936, V mF c main_v3⟩, ⟨S1024x936, V mF c main_v4⟩, ⟨S1024x256, V mF c main_v5⟩, ⟨S1024x64, V mF c main_v10⟩, ⟨S1024x64, V mF c main_v11⟩, ⟨S1024x64, V mF c main_v12⟩, ⟨S1024x64, V mF c main_v13⟩, ⟨S1024x64, V mF c main_v14⟩, ⟨S1024x64, V mF c main_v15⟩, ⟨S1024x64, V mF c main_v16⟩, ⟨S1024x64, V mF c main_v17⟩, ⟨S1024x128, V mF c main_v6⟩, ⟨S1024x64, V mF c main_v19⟩] Facts₀.concatenates_S1024x520_S1024x504_S1024x176_S1024x936_S1024x936_S1024x256_S1024x64_S1024x64_S1024x64_S1024x64_S1024x64_S1024x64_S1024x64_S1024x64_S1024x128_S1024x64_S1024x4032_d1) := by sl_kernel_rfl
set_option maxHeartbeats 4000000 in
theorem ent22 (c : Dev nD) : V mF c main_v22 = (concatenate S1024x64 1 [⟨S1024x32, V mF c main_v7⟩, ⟨S1024x32, V mF c main_v20⟩] Facts₀.concatenates_S1024x32_S1024x32_S1024x64_d1) := by sl_kernel_rfl
set_option maxHeartbeats 4000000 in
theorem ent23 (c : Dev nD) : V mF c main_v23 = (concatenate S1024x4096 1 [⟨S1024x4032, V mF c main_v21⟩, ⟨S1024x64, V mF c main_v22⟩] Facts₀.concatenates_S1024x4032_S1024x64_S1024x4096_d1) := by sl_kernel_rfl
set_option maxHeartbeats 4000000 in
/-- The fourth column group of the gradient. -/
theorem ent34 (c : Dev nD) : V mF c main_v34 = (concatenate S4096x1024 1 [⟨S4096x256, mF ((c.tc : Thread nD τ).loc main_arg3)⟩, ⟨S4096x64, V mF c main_v24⟩, ⟨S4096x64, V mF c main_v25⟩, ⟨S4096x64, V mF c main_v26⟩, ⟨S4096x64, V mF c main_v27⟩, ⟨S4096x64, V mF c main_v28⟩, ⟨S4096x64, V mF c main_v29⟩, ⟨S4096x64, V mF c main_v30⟩, ⟨S4096x64, V mF c main_v31⟩, ⟨S4096x128, mF ((c.tc : Thread nD τ).loc main_arg4)⟩, ⟨S4096x64, V mF c main_v32⟩, ⟨S4096x32, mF ((c.tc : Thread nD τ).loc main_arg5)⟩, ⟨S4096x32, V mF c main_v33⟩] Facts₀.concatenates_S4096x256_S4096x64_S4096x64_S4096x64_S4096x64_S4096x64_S4096x64_S4096x64_S4096x64_S4096x128_S4096x64_S4096x32_S4096x32_S4096x1024_d1) := by sl_kernel_rfl
theorem ent24 (c : Dev nD) : V mF c main_v24 = (extractStridedSlice S4096x64 ![0, 0] (mF ((c.tc : Thread nD τ).loc main_arg7)) Facts₀.slices_S4096x128_S4096x64_0_0) := rfl
theorem ent25 (c : Dev nD) : V mF c main_v25 = (extractStridedSlice S4096x64 ![0, 0] (mF ((c.tc : Thread nD τ).loc main_arg8)) Facts₀.slices_S4096x128_S4096x64_0_0) := rfl
theorem ent26 (c : Dev nD) : V mF c main_v26 = (extractStridedSlice S4096x64 ![0, 64] (mF ((c.tc : Thread nD τ).loc main_arg7)) Facts₀.slices_S4096x128_S4096x64_0_64) := rfl
theorem ent27 (c : Dev nD) : V mF c main_v27 = (extractStridedSlice S4096x64 ![0, 64] (mF ((c.tc : Thread nD τ).loc main_arg8)) Facts₀.slices_S4096x128_S4096x64_0_64) := rfl
theorem ent28 (c : Dev nD) : V mF c main_v28 = (extractStridedSlice S4096x64 ![0, 0] (mF ((c.tc : Thread nD τ).loc main_arg9)) Facts₀.slices_S4096x128_S4096x64_0_0) := rfl
theorem ent29 (c : Dev nD) : V mF c main_v29 = (extractStridedSlice S4096x64 ![0, 0] (mF ((c.tc : Thread nD τ).loc main_arg10)) Facts₀.slices_S4096x128_S4096x64_0_0) := rfl
theorem ent30 (c : Dev nD) : V mF c main_v30 = (extractStridedSlice S4096x64 ![0, 64] (mF ((c.tc : Thread nD τ).loc main_arg9)) Facts₀.slices_S4096x128_S4096x64_0_64) := rfl
theorem ent31 (c : Dev nD) : V mF c main_v31 = (extractStridedSlice S4096x64 ![0, 64] (mF ((c.tc : Thread nD τ).loc main_arg10)) Facts₀.slices_S4096x128_S4096x64_0_64) := rfl
theorem ent40 (c : Dev nD) : V mF c main_v40 = truncf .bf16 (V mF c main_v34) Facts₀.bitsLt_bf16_f32 := rfl
theorem ent37 (c : Dev nD) : V mF c main_v37 = truncf .bf16 (extractStridedSlice S4096x1024 ![0, 0] (mF ((c.tc : Thread nD τ).loc main_arg11)) Facts₀.slices_S4096x2048_S4096x1024_0_0) Facts₀.bitsLt_bf16_f32 := rfl
theorem ent39 (c : Dev nD) : V mF c main_v39 = truncf .bf16 (extractStridedSlice S4096x1024 ![0, 1024] (mF ((c.tc : Thread nD τ).loc main_arg11)) Facts₀.slices_S4096x2048_S4096x1024_0_1024) Facts₀.bitsLt_bf16_f32 := rfl

end Entry
/-- The launch contents of the arguments. -/
abbrev X (c : Dev nD) : Vec Ideal S4096x1024 .f32 := m ((c.tc : Thread nD τ).loc main_arg0)
abbrev G (c : Dev nD) : Vec Ideal S1x1024 .f32 := m ((c.tc : Thread nD τ).loc main_arg1)
abbrev W (c : Dev nD) : Vec Ideal S1024x3744 .f32 := m ((c.tc : Thread nD τ).loc main_arg2)
abbrev DQA (c : Dev nD) : Vec Ideal S4096x256 .f32 := m ((c.tc : Thread nD τ).loc main_arg3)
abbrev DKV (c : Dev nD) : Vec Ideal S4096x128 .f32 := m ((c.tc : Thread nD τ).loc main_arg4)
abbrev DKR (c : Dev nD) : Vec Ideal S4096x32 .f32 := m ((c.tc : Thread nD τ).loc main_arg5)
abbrev DSQ (c : Dev nD) : Vec Ideal S4096x1024 .f32 := m ((c.tc : Thread nD τ).loc main_arg6)
abbrev DSK0 (c : Dev nD) : Vec Ideal S4096x128 .f32 := m ((c.tc : Thread nD τ).loc main_arg7)
abbrev DSK1 (c : Dev nD) : Vec Ideal S4096x128 .f32 := m ((c.tc : Thread nD τ).loc main_arg8)
abbrev DSV0 (c : Dev nD) : Vec Ideal S4096x128 .f32 := m ((c.tc : Thread nD τ).loc main_arg9)
abbrev DSV1 (c : Dev nD) : Vec Ideal S4096x128 .f32 := m ((c.tc : Thread nD τ).loc main_arg10)
abbrev DGT (c : Dev nD) : Vec Ideal S4096x2048 .f32 := m ((c.tc : Thread nD τ).loc main_arg11)
abbrev DX1 (c : Dev nD) : Vec Ideal S4096x1024 .f32 := m ((c.tc : Thread nD τ).loc main_arg12)

/-- Row `p` of the block at point `t`, in the array. -/
abbrev row (t : Fin cfg0.N) (p : Fin 256) : Fin 4096 :=
  ⟨t.val * 256 + p.val, by have h : t.val < 16 := t.isLt.trans_eq N_0; omega⟩

/-- The weight and the last column group as the kernel reads them. -/
abbrev WP (c : Dev nD) : Vec Ideal S1024x4096 .bf16 := V m c main_v23
abbrev DR (c : Dev nD) : Vec Ideal S4096x1024 .bf16 := V m c main_v40

theorem blk0 (c : Dev nD) (t : Fin cfg0.N) (p : Fin 256) (l : Fin 1024) :
    (iblk m c 0 t : Vec Ideal S256x1024 .bf16) (ix2 p l) = DSQ m c (ix2 (row t p) l) := by
  blk_simp [iblk]
  rw [show V m c main_v35 = DSQ m c from rfl]
  blk_ext [(idx t).1]

theorem blk1 (c : Dev nD) (t : Fin cfg0.N) (p : Fin 256) (l : Fin 1024) :
    (iblk m c 1 t : Vec Ideal S256x1024 .bf16) (ix2 p l) = DGT m c (ix2 (row t p) ⟨0 + l.val, by omega⟩) := by
  have h : (V m c main_v37 : Vec Ideal S4096x1024 .bf16) (ix2 (row t p) l) = DGT m c (ix2 (row t p) ⟨0 + l.val, by omega⟩) := by
    rw [ent37]
    pointwise
  rw [← h]
  blk_simp [iblk]
  blk_ext [(idx t).2.1]

theorem blk2 (c : Dev nD) (t : Fin cfg0.N) (p : Fin 256) (l : Fin 1024) :
    (iblk m c 2 t : Vec Ideal S256x1024 .bf16) (ix2 p l) = DGT m c (ix2 (row t p) ⟨1024 + l.val, by omega⟩) := by
  have h : (V m c main_v39 : Vec Ideal S4096x1024 .bf16) (ix2 (row t p) l) = DGT m c (ix2 (row t p) ⟨1024 + l.val, by omega⟩) := by
    rw [ent39]
    pointwise
  rw [← h]
  blk_simp [iblk]
  blk_ext [(idx t).2.2.1]

theorem blk3 (c : Dev nD) (t : Fin cfg0.N) (p : Fin 256) (l : Fin 1024) :
    (iblk m c 3 t : Vec Ideal S256x1024 .bf16) (ix2 p l) = DR m c (ix2 (row t p) l) := by
  blk_simp [iblk]
  blk_ext [(idx t).2.2.2.1]

theorem blk4 (c : Dev nD) (t : Fin cfg0.N) (p : Fin 1024) (l : Fin 4096) :
    (iblk m c 4 t : Vec Ideal S1024x4096 .bf16) (ix2 p l) = WP m c (ix2 p l) := by
  blk_simp [iblk]
  blk_ext [(idx t).2.2.2.2.1]

theorem blk5 (c : Dev nD) (t : Fin cfg0.N) (p : Fin 256) (l : Fin 1024) :
    (iblk m c 5 t : Vec Ideal S256x1024 .f32) (ix2 p l) = X m c (ix2 (row t p) l) := by
  blk_simp [iblk]
  rw [V_main_arg0]
  blk_ext [(idx t).2.2.2.2.2.1]

theorem blk6 (c : Dev nD) (t : Fin cfg0.N) (l : Fin 1024) :
    (iblk m c 6 t : Vec Ideal S1x1024 .f32) (ix2 0 l) = G m c (ix2 0 l) := by
  blk_simp [iblk]
  rw [V_main_arg1]
  blk_ext [(idx t).2.2.2.2.2.2.1]

theorem blk7 (c : Dev nD) (t : Fin cfg0.N) (p : Fin 256) (l : Fin 1024) :
    (iblk m c 7 t : Vec Ideal S256x1024 .f32) (ix2 p l) = DX1 m c (ix2 (row t p) l) := by
  blk_simp [iblk]
  rw [V_main_arg12]
  blk_ext [(idx t).2.2.2.2.2.2.2.1]

local notation "N₀" => Ideal.ofBits FTy.f32 0x44800000#32
local notation "e₀" => Ideal.ofBits FTy.f32 0x358637BD#32
local notation "h₀" => Ideal.ofBits FTy.f32 0xBF000000#32

/-- The gradient at the product's input, as the kernel sums it. -/
def dh (c : Dev nD) (i : Fin 4096) (k : Fin 1024) : EReal :=
  ∑ l : Fin 1024, DSQ m c (ix2 i l) * WP m c (ix2 k ⟨l.val, by omega⟩)
    + ∑ l : Fin 1024, DGT m c (ix2 i ⟨l.val, by omega⟩) * WP m c (ix2 k ⟨1024 + l.val, by omega⟩)
    + ∑ l : Fin 1024, DGT m c (ix2 i ⟨1024 + l.val, by omega⟩) * WP m c (ix2 k ⟨2048 + l.val, by omega⟩)
    + ∑ l : Fin 1024, DR m c (ix2 i l) * WP m c (ix2 k ⟨3072 + l.val, by omega⟩)
/-- What the norm gives it at its input. -/
def dx (c : Dev nD) (i : Fin 4096) (k : Fin 1024) : EReal :=
  fac N₀ e₀ (fun k => X m c (ix2 i k)) * (dh m c i k * G m c (ix2 0 k) - X m c (ix2 i k) * fac N₀ e₀ (fun k => X m c (ix2 i k))
    * Ideal.div (∑ k, dh m c i k * G m c (ix2 0 k) * (X m c (ix2 i k) * fac N₀ e₀ (fun k => X m c (ix2 i k)))) N₀)

open Columns

/-- Column number `j` of the weight. -/
def w (c : Dev nD) (k : Fin 1024) (j : ℕ) : EReal := col (W m c) k j

theorem piece5 (c : Dev nD) (k : Fin 1024) {l : ℕ} (hl : l < 256) : col (V m c main_v5 : Vec Ideal S1024x256 .bf16) k l = w m c k (0 + l) := by
  rw [ent5, slice_col _ _ _ (by norm_num) _ hl, slice_col _ _ _ (by norm_num) _ (by omega)]
  exact congrArg (w m c k) (by omega)

theorem piece6 (c : Dev nD) (k : Fin 1024) {l : ℕ} (hl : l < 128) : col (V m c main_v6 : Vec Ideal S1024x128 .bf16) k l = w m c k (256 + l) := by
  rw [ent6, slice_col _ _ _ (by norm_num) _ hl, slice_col _ _ _ (by norm_num) _ (by omega)]
  exact congrArg (w m c k) (by omega)

theorem piece7 (c : Dev nD) (k : Fin 1024) {l : ℕ} (hl : l < 32) : col (V m c main_v7 : Vec Ideal S1024x32 .bf16) k l = w m c k (384 + l) := by
  rw [ent7, slice_col _ _ _ (by norm_num) _ hl, slice_col _ _ _ (by norm_num) _ (by omega)]
  exact congrArg (w m c k) (by omega)

theorem piece8 (c : Dev nD) (k : Fin 1024) {l : ℕ} (hl : l < 520) : col (V m c main_v8 : Vec Ideal S1024x520 .bf16) k l = w m c k (416 + l) := by
  rw [ent8, slice_col _ _ _ (by norm_num) _ hl, slice_col _ _ _ (by norm_num) _ (by omega)]
  exact congrArg (w m c k) (by omega)

theorem piece9 (c : Dev nD) (k : Fin 1024) {l : ℕ} (hl : l < 504) : col (V m c main_v9 : Vec Ideal S1024x504 .bf16) k l = w m c k (936 + l) := by
  rw [ent9, slice_col _ _ _ (by norm_num) _ hl, slice_col _ _ _ (by norm_num) _ (by omega)]
  exact congrArg (w m c k) (by omega)

theorem piece10 (c : Dev nD) (k : Fin 1024) {l : ℕ} (hl : l < 64) : col (V m c main_v10 : Vec Ideal S1024x64 .bf16) k l = w m c k (1440 + l) := by
  rw [ent10, slice_col _ _ _ (by norm_num) _ hl, slice_col _ _ _ (by norm_num) _ (by omega)]
  exact congrArg (w m c k) (by omega)

theorem piece11 (c : Dev nD) (k : Fin 1024) {l : ℕ} (hl : l < 64) : col (V m c main_v11 : Vec Ideal S1024x64 .bf16) k l = w m c k (1440 + l) := by
  rw [ent11, slice_col _ _ _ (by norm_num) _ hl, slice_col _ _ _ (by norm_num) _ (by omega)]
  exact congrArg (w m c k) (by omega)

theorem piece12 (c : Dev nD) (k : Fin 1024) {l : ℕ} (hl : l < 64) : col (V m c main_v12 : Vec Ideal S1024x64 .bf16) k l = w m c k (1504 + l) := by
  rw [ent12, slice_col _ _ _ (by norm_num) _ hl, slice_col _ _ _ (by norm_num) _ (by omega)]
  exact congrArg (w m c k) (by omega)

theorem piece13 (c : Dev nD) (k : Fin 1024) {l : ℕ} (hl : l < 64) : col (V m c main_v13 : Vec Ideal S1024x64 .bf16) k l = w m c k (1504 + l) := by
  rw [ent13, slice_col _ _ _ (by norm_num) _ hl, slice_col _ _ _ (by norm_num) _ (by omega)]
  exact congrArg (w m c k) (by omega)

theorem piece14 (c : Dev nD) (k : Fin 1024) {l : ℕ} (hl : l < 64) : col (V m c main_v14 : Vec Ideal S1024x64 .bf16) k l = w m c k (1568 + l) := by
  rw [ent14, slice_col _ _ _ (by norm_num) _ hl, slice_col _ _ _ (by norm_num) _ (by omega)]
  exact congrArg (w m c k) (by omega)

theorem piece15 (c : Dev nD) (k : Fin 1024) {l : ℕ} (hl : l < 64) : col (V m c main_v15 : Vec Ideal S1024x64 .bf16) k l = w m c k (1568 + l) := by
  rw [ent15, slice_col _ _ _ (by norm_num) _ hl, slice_col _ _ _ (by norm_num) _ (by omega)]
  exact congrArg (w m c k) (by omega)

theorem piece16 (c : Dev nD) (k : Fin 1024) {l : ℕ} (hl : l < 64) : col (V m c main_v16 : Vec Ideal S1024x64 .bf16) k l = w m c k (1632 + l) := by
  rw [ent16, slice_col _ _ _ (by norm_num) _ hl, slice_col _ _ _ (by norm_num) _ (by omega)]
  exact congrArg (w m c k) (by omega)

theorem piece17 (c : Dev nD) (k : Fin 1024) {l : ℕ} (hl : l < 64) : col (V m c main_v17 : Vec Ideal S1024x64 .bf16) k l = w m c k (1632 + l) := by
  rw [ent17, slice_col _ _ _ (by norm_num) _ hl, slice_col _ _ _ (by norm_num) _ (by omega)]
  exact congrArg (w m c k) (by omega)

theorem piece18 (c : Dev nD) (k : Fin 1024) {l : ℕ} (hl : l < 176) : col (V m c main_v18 : Vec Ideal S1024x176 .bf16) k l = w m c k (1696 + l) := by
  rw [ent18, slice_col _ _ _ (by norm_num) _ hl, slice_col _ _ _ (by norm_num) _ (by omega)]
  exact congrArg (w m c k) (by omega)

theorem piece3 (c : Dev nD) (k : Fin 1024) {l : ℕ} (hl : l < 936) : col (V m c main_v3 : Vec Ideal S1024x936 .bf16) k l = w m c k (1872 + l) := by
  rw [ent3, slice_col _ _ _ (by norm_num) _ hl]
  rfl

theorem piece4 (c : Dev nD) (k : Fin 1024) {l : ℕ} (hl : l < 936) : col (V m c main_v4 : Vec Ideal S1024x936 .bf16) k l = w m c k (2808 + l) := by
  rw [ent4, slice_col _ _ _ (by norm_num) _ hl]
  rfl

/-- The kernel's weight, by its column groups. -/
theorem w_sq (c : Dev nD) (k : Fin 1024) {l : ℕ} (hl : l < 1024) : col (WP m c) k l = w m c k (416 + l) := by
  rcases lt_or_ge l 520 with h | h
  · rw [show WP m c = V m c main_v23 from rfl, ent23, concatenate_col _ _ _ 0 (by simp) (V m c main_v21 : Vec Ideal S1024x4032 .bf16) rfl 0 rfl (by norm_num) (l := l) (by omega) (by omega),
      ent21, concatenate_col _ _ _ 0 (by simp) (V m c main_v8 : Vec Ideal S1024x520 .bf16) rfl 0 rfl (by norm_num) (l := l) (by omega) (by omega), piece8 m c k (by omega)]
  · rw [show WP m c = V m c main_v23 from rfl, ent23, concatenate_col _ _ _ 0 (by simp) (V m c main_v21 : Vec Ideal S1024x4032 .bf16) rfl 0 rfl (by norm_num) (l := l) (by omega) (by omega),
      ent21, concatenate_col _ _ _ 1 (by simp) (V m c main_v9 : Vec Ideal S1024x504 .bf16) rfl 520 rfl (by norm_num) (l := l - 520) (by omega) (by omega), piece9 m c k (by omega)]
    exact congrArg (w m c k) (by omega)

theorem w_gate (c : Dev nD) (k : Fin 1024) {l : ℕ} (hl : l < 2048) : col (WP m c) k (1024 + l) = w m c k (1696 + l) := by
  rcases lt_or_ge l 176 with h | h
  · rw [show WP m c = V m c main_v23 from rfl, ent23, concatenate_col _ _ _ 0 (by simp) (V m c main_v21 : Vec Ideal S1024x4032 .bf16) rfl 0 rfl (by norm_num) (l := 1024 + l) (by omega) (by omega),
      ent21, concatenate_col _ _ _ 2 (by simp) (V m c main_v18 : Vec Ideal S1024x176 .bf16) rfl 1024 rfl (by norm_num) (l := l) (by omega) (by omega), piece18 m c k (by omega)]
  rcases lt_or_ge l 1112 with h' | h'
  · rw [show WP m c = V m c main_v23 from rfl, ent23, concatenate_col _ _ _ 0 (by simp) (V m c main_v21 : Vec Ideal S1024x4032 .bf16) rfl 0 rfl (by norm_num) (l := 1024 + l) (by omega) (by omega),
      ent21, concatenate_col _ _ _ 3 (by simp) (V m c main_v3 : Vec Ideal S1024x936 .bf16) rfl 1200 rfl (by norm_num) (l := l - 176) (by omega) (by omega), piece3 m c k (by omega)]
    exact congrArg (w m c k) (by omega)
  · rw [show WP m c = V m c main_v23 from rfl, ent23, concatenate_col _ _ _ 0 (by simp) (V m c main_v21 : Vec Ideal S1024x4032 .bf16) rfl 0 rfl (by norm_num) (l := 1024 + l) (by omega) (by omega),
      ent21, concatenate_col _ _ _ 4 (by simp) (V m c main_v4 : Vec Ideal S1024x936 .bf16) rfl 2136 rfl (by norm_num) (l := l - 1112) (by omega) (by omega), piece4 m c k (by omega)]
    exact congrArg (w m c k) (by omega)

set_option maxHeartbeats 2000000 in
theorem w_5 (c : Dev nD) (k : Fin 1024) {l : ℕ} (hl : l < 256) : col (WP m c) k (3072 + l) = w m c k (0 + l) := by
  rw [show WP m c = V m c main_v23 from rfl, ent23, concatenate_col _ _ _ 0 (by simp) (V m c main_v21 : Vec Ideal S1024x4032 .bf16) rfl 0 rfl (by norm_num) (l := 3072 + l) (by omega) (by omega),
      ent21, concatenate_col _ _ _ 5 (by simp) (V m c main_v5 : Vec Ideal S1024x256 .bf16) rfl 3072 rfl (by norm_num) (l := l) (by omega) (by omega), piece5 m c k (by omega)]

set_option maxHeartbeats 2000000 in
theorem w_10 (c : Dev nD) (k : Fin 1024) {l : ℕ} (hl : l < 64) : col (WP m c) k (3328 + l) = w m c k (1440 + l) := by
  rw [show WP m c = V m c main_v23 from rfl, ent23, concatenate_col _ _ _ 0 (by simp) (V m c main_v21 : Vec Ideal S1024x4032 .bf16) rfl 0 rfl (by norm_num) (l := 3328 + l) (by omega) (by omega),
      ent21, concatenate_col _ _ _ 6 (by simp) (V m c main_v10 : Vec Ideal S1024x64 .bf16) rfl 3328 rfl (by norm_num) (l := l) (by omega) (by omega), piece10 m c k (by omega)]

set_option maxHeartbeats 2000000 in
theorem w_11 (c : Dev nD) (k : Fin 1024) {l : ℕ} (hl : l < 64) : col (WP m c) k (3392 + l) = w m c k (1440 + l) := by
  rw [show WP m c = V m c main_v23 from rfl, ent23, concatenate_col _ _ _ 0 (by simp) (V m c main_v21 : Vec Ideal S1024x4032 .bf16) rfl 0 rfl (by norm_num) (l := 3392 + l) (by omega) (by omega),
      ent21, concatenate_col _ _ _ 7 (by simp) (V m c main_v11 : Vec Ideal S1024x64 .bf16) rfl 3392 rfl (by norm_num) (l := l) (by omega) (by omega), piece11 m c k (by omega)]

set_option maxHeartbeats 2000000 in
theorem w_12 (c : Dev nD) (k : Fin 1024) {l : ℕ} (hl : l < 64) : col (WP m c) k (3456 + l) = w m c k (1504 + l) := by
  rw [show WP m c = V m c main_v23 from rfl, ent23, concatenate_col _ _ _ 0 (by simp) (V m c main_v21 : Vec Ideal S1024x4032 .bf16) rfl 0 rfl (by norm_num) (l := 3456 + l) (by omega) (by omega),
      ent21, concatenate_col _ _ _ 8 (by simp) (V m c main_v12 : Vec Ideal S1024x64 .bf16) rfl 3456 rfl (by norm_num) (l := l) (by omega) (by omega), piece12 m c k (by omega)]

set_option maxHeartbeats 2000000 in
theorem w_13 (c : Dev nD) (k : Fin 1024) {l : ℕ} (hl : l < 64) : col (WP m c) k (3520 + l) = w m c k (1504 + l) := by
  rw [show WP m c = V m c main_v23 from rfl, ent23, concatenate_col _ _ _ 0 (by simp) (V m c main_v21 : Vec Ideal S1024x4032 .bf16) rfl 0 rfl (by norm_num) (l := 3520 + l) (by omega) (by omega),
      ent21, concatenate_col _ _ _ 9 (by simp) (V m c main_v13 : Vec Ideal S1024x64 .bf16) rfl 3520 rfl (by norm_num) (l := l) (by omega) (by omega), piece13 m c k (by omega)]

set_option maxHeartbeats 2000000 in
theorem w_14 (c : Dev nD) (k : Fin 1024) {l : ℕ} (hl : l < 64) : col (WP m c) k (3584 + l) = w m c k (1568 + l) := by
  rw [show WP m c = V m c main_v23 from rfl, ent23, concatenate_col _ _ _ 0 (by simp) (V m c main_v21 : Vec Ideal S1024x4032 .bf16) rfl 0 rfl (by norm_num) (l := 3584 + l) (by omega) (by omega),
      ent21, concatenate_col _ _ _ 10 (by simp) (V m c main_v14 : Vec Ideal S1024x64 .bf16) rfl 3584 rfl (by norm_num) (l := l) (by omega) (by omega), piece14 m c k (by omega)]

set_option maxHeartbeats 2000000 in
theorem w_15 (c : Dev nD) (k : Fin 1024) {l : ℕ} (hl : l < 64) : col (WP m c) k (3648 + l) = w m c k (1568 + l) := by
  rw [show WP m c = V m c main_v23 from rfl, ent23, concatenate_col _ _ _ 0 (by simp) (V m c main_v21 : Vec Ideal S1024x4032 .bf16) rfl 0 rfl (by norm_num) (l := 3648 + l) (by omega) (by omega),
      ent21, concatenate_col _ _ _ 11 (by simp) (V m c main_v15 : Vec Ideal S1024x64 .bf16) rfl 3648 rfl (by norm_num) (l := l) (by omega) (by omega), piece15 m c k (by omega)]

set_option maxHeartbeats 2000000 in
theorem w_16 (c : Dev nD) (k : Fin 1024) {l : ℕ} (hl : l < 64) : col (WP m c) k (3712 + l) = w m c k (1632 + l) := by
  rw [show WP m c = V m c main_v23 from rfl, ent23, concatenate_col _ _ _ 0 (by simp) (V m c main_v21 : Vec Ideal S1024x4032 .bf16) rfl 0 rfl (by norm_num) (l := 3712 + l) (by omega) (by omega),
      ent21, concatenate_col _ _ _ 12 (by simp) (V m c main_v16 : Vec Ideal S1024x64 .bf16) rfl 3712 rfl (by norm_num) (l := l) (by omega) (by omega), piece16 m c k (by omega)]

set_option maxHeartbeats 2000000 in
theorem w_17 (c : Dev nD) (k : Fin 1024) {l : ℕ} (hl : l < 64) : col (WP m c) k (3776 + l) = w m c k (1632 + l) := by
  rw [show WP m c = V m c main_v23 from rfl, ent23, concatenate_col _ _ _ 0 (by simp) (V m c main_v21 : Vec Ideal S1024x4032 .bf16) rfl 0 rfl (by norm_num) (l := 3776 + l) (by omega) (by omega),
      ent21, concatenate_col _ _ _ 13 (by simp) (V m c main_v17 : Vec Ideal S1024x64 .bf16) rfl 3776 rfl (by norm_num) (l := l) (by omega) (by omega), piece17 m c k (by omega)]

set_option maxHeartbeats 2000000 in
theorem w_6 (c : Dev nD) (k : Fin 1024) {l : ℕ} (hl : l < 128) : col (WP m c) k (3840 + l) = w m c k (256 + l) := by
  rw [show WP m c = V m c main_v23 from rfl, ent23, concatenate_col _ _ _ 0 (by simp) (V m c main_v21 : Vec Ideal S1024x4032 .bf16) rfl 0 rfl (by norm_num) (l := 3840 + l) (by omega) (by omega),
      ent21, concatenate_col _ _ _ 14 (by simp) (V m c main_v6 : Vec Ideal S1024x128 .bf16) rfl 3840 rfl (by norm_num) (l := l) (by omega) (by omega), piece6 m c k (by omega)]

theorem w_7 (c : Dev nD) (k : Fin 1024) {l : ℕ} (hl : l < 32) : col (WP m c) k (4032 + l) = w m c k (384 + l) := by
  rw [show WP m c = V m c main_v23 from rfl, ent23, concatenate_col _ _ _ 1 (by simp) (V m c main_v22 : Vec Ideal S1024x64 .bf16) rfl 4032 rfl (by norm_num) (l := l) rfl (by omega),
    ent22, concatenate_col _ _ _ 0 (by simp) (V m c main_v7 : Vec Ideal S1024x32 .bf16) rfl 0 rfl (by norm_num) (l := l) (by omega) (by omega), piece7 m c k hl]

/-- The last column group, by its parts. -/
theorem d_0 (c : Dev nD) (i : Fin 4096) {l : ℕ} (hl : l < 256) : col (DR m c) i (0 + l) = col (DQA m c) i l := by
  rw [show DR m c = V m c main_v34 from (ent40 m c).trans rfl, ent34, concatenate_col _ _ _ 0 (by simp) (DQA m c : Vec Ideal S4096x256 .f32) rfl 0 rfl (by norm_num) (l := l) rfl hl]

theorem d_1 (c : Dev nD) (i : Fin 4096) {l : ℕ} (hl : l < 64) : col (DR m c) i (256 + l) = col (DSK0 m c) i l := by
  rw [show DR m c = V m c main_v34 from (ent40 m c).trans rfl, ent34, concatenate_col _ _ _ 1 (by simp) (V m c main_v24 : Vec Ideal S4096x64 .f32) rfl 256 rfl (by norm_num) (l := l) rfl hl, ent24, slice_col _ _ _ (by norm_num) _ hl]
  exact congrArg _ (by omega)

theorem d_2 (c : Dev nD) (i : Fin 4096) {l : ℕ} (hl : l < 64) : col (DR m c) i (320 + l) = col (DSK1 m c) i l := by
  rw [show DR m c = V m c main_v34 from (ent40 m c).trans rfl, ent34, concatenate_col _ _ _ 2 (by simp) (V m c main_v25 : Vec Ideal S4096x64 .f32) rfl 320 rfl (by norm_num) (l := l) rfl hl, ent25, slice_col _ _ _ (by norm_num) _ hl]
  exact congrArg _ (by omega)

theorem d_3 (c : Dev nD) (i : Fin 4096) {l : ℕ} (hl : l < 64) : col (DR m c) i (384 + l) = col (DSK0 m c) i (64 + l) := by
  rw [show DR m c = V m c main_v34 from (ent40 m c).trans rfl, ent34, concatenate_col _ _ _ 3 (by simp) (V m c main_v26 : Vec Ideal S4096x64 .f32) rfl 384 rfl (by norm_num) (l := l) rfl hl, ent26, slice_col _ _ _ (by norm_num) _ hl]

theorem d_4 (c : Dev nD) (i : Fin 4096) {l : ℕ} (hl : l < 64) : col (DR m c) i (448 + l) = col (DSK1 m c) i (64 + l) := by
  rw [show DR m c = V m c main_v34 from (ent40 m c).trans rfl, ent34, concatenate_col _ _ _ 4 (by simp) (V m c main_v27 : Vec Ideal S4096x64 .f32) rfl 448 rfl (by norm_num) (l := l) rfl hl, ent27, slice_col _ _ _ (by norm_num) _ hl]

theorem d_5 (c : Dev nD) (i : Fin 4096) {l : ℕ} (hl : l < 64) : col (DR m c) i (512 + l) = col (DSV0 m c) i l := by
  rw [show DR m c = V m c main_v34 from (ent40 m c).trans rfl, ent34, concatenate_col _ _ _ 5 (by simp) (V m c main_v28 : Vec Ideal S4096x64 .f32) rfl 512 rfl (by norm_num) (l := l) rfl hl, ent28, slice_col _ _ _ (by norm_num) _ hl]
  exact congrArg _ (by omega)

theorem d_6 (c : Dev nD) (i : Fin 4096) {l : ℕ} (hl : l < 64) : col (DR m c) i (576 + l) = col (DSV1 m c) i l := by
  rw [show DR m c = V m c main_v34 from (ent40 m c).trans rfl, ent34, concatenate_col _ _ _ 6 (by simp) (V m c main_v29 : Vec Ideal S4096x64 .f32) rfl 576 rfl (by norm_num) (l := l) rfl hl, ent29, slice_col _ _ _ (by norm_num) _ hl]
  exact congrArg _ (by omega)

theorem d_7 (c : Dev nD) (i : Fin 4096) {l : ℕ} (hl : l < 64) : col (DR m c) i (640 + l) = col (DSV0 m c) i (64 + l) := by
  rw [show DR m c = V m c main_v34 from (ent40 m c).trans rfl, ent34, concatenate_col _ _ _ 7 (by simp) (V m c main_v30 : Vec Ideal S4096x64 .f32) rfl 640 rfl (by norm_num) (l := l) rfl hl, ent30, slice_col _ _ _ (by norm_num) _ hl]

theorem d_8 (c : Dev nD) (i : Fin 4096) {l : ℕ} (hl : l < 64) : col (DR m c) i (704 + l) = col (DSV1 m c) i (64 + l) := by
  rw [show DR m c = V m c main_v34 from (ent40 m c).trans rfl, ent34, concatenate_col _ _ _ 8 (by simp) (V m c main_v31 : Vec Ideal S4096x64 .f32) rfl 704 rfl (by norm_num) (l := l) rfl hl, ent31, slice_col _ _ _ (by norm_num) _ hl]

theorem d_9 (c : Dev nD) (i : Fin 4096) {l : ℕ} (hl : l < 128) : col (DR m c) i (768 + l) = col (DKV m c) i l := by
  rw [show DR m c = V m c main_v34 from (ent40 m c).trans rfl, ent34, concatenate_col _ _ _ 9 (by simp) (DKV m c : Vec Ideal S4096x128 .f32) rfl 768 rfl (by norm_num) (l := l) rfl hl]

theorem d_10 (c : Dev nD) (i : Fin 4096) {l : ℕ} (hl : l < 64) : col (DR m c) i (896 + l) = 0 := by
  rw [show DR m c = V m c main_v34 from (ent40 m c).trans rfl, ent34, concatenate_col _ _ _ 10 (by simp) (V m c main_v32 : Vec Ideal S4096x64 .f32) rfl 896 rfl (by norm_num) (l := l) rfl hl]
  rw [col_of_lt _ _ hl]
  exact Ideal.ofBits_zero_f32

theorem d_11 (c : Dev nD) (i : Fin 4096) {l : ℕ} (hl : l < 32) : col (DR m c) i (960 + l) = col (DKR m c) i l := by
  rw [show DR m c = V m c main_v34 from (ent40 m c).trans rfl, ent34, concatenate_col _ _ _ 11 (by simp) (DKR m c : Vec Ideal S4096x32 .f32) rfl 960 rfl (by norm_num) (l := l) rfl hl]

theorem d_12 (c : Dev nD) (i : Fin 4096) {l : ℕ} (hl : l < 32) : col (DR m c) i (992 + l) = 0 := by
  rw [show DR m c = V m c main_v34 from (ent40 m c).trans rfl, ent34, concatenate_col _ _ _ 12 (by simp) (V m c main_v33 : Vec Ideal S4096x32 .f32) rfl 992 rfl (by norm_num) (l := l) rfl hl]
  rw [col_of_lt _ _ hl]
  exact Ideal.ofBits_zero_f32

/-- The last group's sum, part by part. -/
theorem sum_parts (f : ℕ → EReal) : ∑ l ∈ Finset.range 1024, f l = ∑ l ∈ Finset.range 256, f (0 + l) + ∑ l ∈ Finset.range 64, f (256 + l) + ∑ l ∈ Finset.range 64, f (320 + l) + ∑ l ∈ Finset.range 64, f (384 + l) + ∑ l ∈ Finset.range 64, f (448 + l) + ∑ l ∈ Finset.range 64, f (512 + l) + ∑ l ∈ Finset.range 64, f (576 + l) + ∑ l ∈ Finset.range 64, f (640 + l) + ∑ l ∈ Finset.range 64, f (704 + l) + ∑ l ∈ Finset.range 128, f (768 + l) + ∑ l ∈ Finset.range 64, f (896 + l) + ∑ l ∈ Finset.range 32, f (960 + l) + ∑ l ∈ Finset.range 32, f (992 + l) := by
  rw [show (1024 : ℕ) = 256 + 64 + 64 + 64 + 64 + 64 + 64 + 64 + 64 + 128 + 64 + 32 + 32 from rfl]
  simp only [Finset.sum_range_add]
  simp only [Nat.zero_add, Nat.reduceAdd]

/-- The derivative's own column groups. -/
theorem sum_groups (f : ℕ → EReal) : ∑ l ∈ Finset.range 3744, f l = ∑ l ∈ Finset.range 256, f (0 + l) + ∑ l ∈ Finset.range 128, f (256 + l) + ∑ l ∈ Finset.range 32, f (384 + l) + ∑ l ∈ Finset.range 1024, f (416 + l) + ∑ l ∈ Finset.range 128, f (1440 + l) + ∑ l ∈ Finset.range 128, f (1568 + l) + ∑ l ∈ Finset.range 2048, f (1696 + l) := by
  rw [show (3744 : ℕ) = 256 + 128 + 32 + 1024 + 128 + 128 + 2048 from rfl]
  simp only [Finset.sum_range_add]
  simp only [Nat.zero_add, Nat.reduceAdd]

theorem z_0 (c : Dev nD) (i : Fin 4096) {l : ℕ} (hl : l < 256) : col (n := 3744) (BwdInRefIdeal.Read.val_main_v27 (DQA m c) (DKV m c) (DKR m c) (DSQ m c) (DSK0 m c) (DSK1 m c) (DSV0 m c) (DSV1 m c) (DGT m c)) i (0 + l) = col (DQA m c) i l := by
  unfold BwdInRefIdeal.Read.val_main_v27
  rw [concatenate_col _ _ _ 0 (by simp) (DQA m c : Vec Ideal S4096x256 .f32) rfl 0 rfl (by norm_num) (l := l) rfl hl]

theorem z_1 (c : Dev nD) (i : Fin 4096) {l : ℕ} (hl : l < 128) : col (n := 3744) (BwdInRefIdeal.Read.val_main_v27 (DQA m c) (DKV m c) (DKR m c) (DSQ m c) (DSK0 m c) (DSK1 m c) (DSV0 m c) (DSV1 m c) (DGT m c)) i (256 + l) = col (DKV m c) i l := by
  unfold BwdInRefIdeal.Read.val_main_v27
  rw [concatenate_col _ _ _ 1 (by simp) (DKV m c : Vec Ideal S4096x128 .f32) rfl 256 rfl (by norm_num) (l := l) rfl hl]

theorem z_2 (c : Dev nD) (i : Fin 4096) {l : ℕ} (hl : l < 32) : col (n := 3744) (BwdInRefIdeal.Read.val_main_v27 (DQA m c) (DKV m c) (DKR m c) (DSQ m c) (DSK0 m c) (DSK1 m c) (DSV0 m c) (DSV1 m c) (DGT m c)) i (384 + l) = col (DKR m c) i l := by
  unfold BwdInRefIdeal.Read.val_main_v27
  rw [concatenate_col _ _ _ 2 (by simp) (DKR m c : Vec Ideal S4096x32 .f32) rfl 384 rfl (by norm_num) (l := l) rfl hl]

theorem z_3 (c : Dev nD) (i : Fin 4096) {l : ℕ} (hl : l < 1024) : col (n := 3744) (BwdInRefIdeal.Read.val_main_v27 (DQA m c) (DKV m c) (DKR m c) (DSQ m c) (DSK0 m c) (DSK1 m c) (DSV0 m c) (DSV1 m c) (DGT m c)) i (416 + l) = col (DSQ m c) i l := by
  unfold BwdInRefIdeal.Read.val_main_v27
  rw [concatenate_col _ _ _ 3 (by simp) (DSQ m c : Vec Ideal S4096x1024 .f32) rfl 416 rfl (by norm_num) (l := l) rfl hl]

theorem z_4 (c : Dev nD) (i : Fin 4096) {l : ℕ} (hl : l < 128) : col (n := 3744) (BwdInRefIdeal.Read.val_main_v27 (DQA m c) (DKV m c) (DKR m c) (DSQ m c) (DSK0 m c) (DSK1 m c) (DSV0 m c) (DSV1 m c) (DGT m c)) i (1440 + l) = col (DSK0 m c) i l + col (DSK1 m c) i l := by
  unfold BwdInRefIdeal.Read.val_main_v27
  rw [concatenate_col _ _ _ 4 (by simp) (BwdInRefIdeal.Read.val_main_v25 (DSK0 m c) (DSK1 m c) : Vec Ideal S4096x128 .f32) rfl 1440 rfl (by norm_num) (l := l) rfl hl, col_of_lt _ _ hl, col_of_lt _ _ hl, col_of_lt _ _ hl]
  rfl

theorem z_5 (c : Dev nD) (i : Fin 4096) {l : ℕ} (hl : l < 128) : col (n := 3744) (BwdInRefIdeal.Read.val_main_v27 (DQA m c) (DKV m c) (DKR m c) (DSQ m c) (DSK0 m c) (DSK1 m c) (DSV0 m c) (DSV1 m c) (DGT m c)) i (1568 + l) = col (DSV0 m c) i l + col (DSV1 m c) i l := by
  unfold BwdInRefIdeal.Read.val_main_v27
  rw [concatenate_col _ _ _ 5 (by simp) (BwdInRefIdeal.Read.val_main_v26 (DSV0 m c) (DSV1 m c) : Vec Ideal S4096x128 .f32) rfl 1568 rfl (by norm_num) (l := l) rfl hl, col_of_lt _ _ hl, col_of_lt _ _ hl, col_of_lt _ _ hl]
  rfl

theorem z_6 (c : Dev nD) (i : Fin 4096) {l : ℕ} (hl : l < 2048) : col (n := 3744) (BwdInRefIdeal.Read.val_main_v27 (DQA m c) (DKV m c) (DKR m c) (DSQ m c) (DSK0 m c) (DSK1 m c) (DSV0 m c) (DSV1 m c) (DGT m c)) i (1696 + l) = col (DGT m c) i l := by
  unfold BwdInRefIdeal.Read.val_main_v27
  rw [concatenate_col _ _ _ 6 (by simp) (DGT m c : Vec Ideal S4096x2048 .f32) rfl 1696 rfl (by norm_num) (l := l) rfl hl]

/-- Two gradients of one column, joined in front of the product with the weight, are its two products. -/
theorem joined {a b f : ℕ → EReal} (ha : ∀ l, IsReal (a l)) (hb : ∀ l, IsReal (b l)) (hf : ∀ l, IsReal (f l)) :
    ∑ l ∈ Finset.range 128, (a l + b l) * f l
      = ∑ l ∈ Finset.range 64, a l * f l + ∑ l ∈ Finset.range 64, b l * f l + ∑ l ∈ Finset.range 64, a (64 + l) * f (64 + l) + ∑ l ∈ Finset.range 64, b (64 + l) * f (64 + l) := by
  have h : ∀ l, (a l + b l) * f l = a l * f l + b l * f l := fun l => by
    rw [mul_comm, mul_add_reals (hf l) (ha l) (hb l), mul_comm (f l), mul_comm (f l)]
  rw [Finset.sum_range_add (fun l => (a l + b l) * f l) 64 64]
  simp only [h, Finset.sum_add_distrib]
  abel

theorem IsReal.col {r n : ℕ} {A : (⟨2, ![r, n]⟩ : Shape).Idx → EReal} (h : ∀ i, IsReal (A i)) (i : Fin r) (j : ℕ) : IsReal (Columns.col A i j) := by
  unfold Columns.col
  split
  · exact h _
  · exact IsReal.zero

/-- The kernel's four products are the derivative's one. -/
theorem dh_eq (c : Dev nD) (hw : ∀ i, IsReal (W m c i)) (h7 : ∀ i, IsReal (DSK0 m c i)) (h8 : ∀ i, IsReal (DSK1 m c i))
    (h9 : ∀ i, IsReal (DSV0 m c i)) (h10 : ∀ i, IsReal (DSV1 m c i)) (i : Fin 4096) (k : Fin 1024) :
    dh m c i k = ∑ l : Fin 3744, BwdInRefIdeal.Read.val_main_v27 (DQA m c) (DKV m c) (DKR m c) (DSQ m c) (DSK0 m c) (DSK1 m c) (DSV0 m c) (DSV1 m c) (DGT m c) (ix2 i l) * W m c (ix2 k l) := by
  have s0 : ∑ l : Fin 1024, DSQ m c (ix2 i l) * WP m c (ix2 k ⟨l.val, by omega⟩) = ∑ l ∈ Finset.range 1024, col (DSQ m c) i l * w m c k (416 + l) := by
    rw [← Fin.sum_univ_eq_sum_range]
    refine Finset.sum_congr rfl fun l _ => ?_
    rw [← w_sq m c k l.isLt, col_of_lt _ _ l.isLt, col_of_lt _ _ (show l.val < 4096 by omega)]
  have s1 : ∑ l : Fin 1024, DGT m c (ix2 i ⟨l.val, by omega⟩) * WP m c (ix2 k ⟨1024 + l.val, by omega⟩) = ∑ l ∈ Finset.range 1024, col (DGT m c) i l * w m c k (1696 + l) := by
    rw [← Fin.sum_univ_eq_sum_range]
    refine Finset.sum_congr rfl fun l _ => ?_
    rw [← w_gate m c k (show l.val < 2048 by omega), col_of_lt _ _ (show l.val < 2048 by omega), col_of_lt _ _ (show 1024 + l.val < 4096 by omega)]
  have s2 : ∑ l : Fin 1024, DGT m c (ix2 i ⟨1024 + l.val, by omega⟩) * WP m c (ix2 k ⟨2048 + l.val, by omega⟩) = ∑ l ∈ Finset.range 1024, col (DGT m c) i (1024 + l) * w m c k (1696 + (1024 + l)) := by
    rw [← Fin.sum_univ_eq_sum_range]
    refine Finset.sum_congr rfl fun l _ => ?_
    rw [← w_gate m c k (show 1024 + l.val < 2048 by omega), col_of_lt _ _ (show 1024 + l.val < 2048 by omega), col_of_lt _ _ (show 1024 + (1024 + l.val) < 4096 by omega)]
    exact congrArg _ (congrArg _ (congrArg (ix2 k) (Fin.ext (show 2048 + l.val = 1024 + (1024 + l.val) by omega))))
  have s3 : ∑ l : Fin 1024, DR m c (ix2 i l) * WP m c (ix2 k ⟨3072 + l.val, by omega⟩) = ∑ l ∈ Finset.range 1024, col (DR m c) i l * col (WP m c) k (3072 + l) := by
    rw [← Fin.sum_univ_eq_sum_range]
    refine Finset.sum_congr rfl fun l _ => ?_
    rw [col_of_lt _ _ l.isLt, col_of_lt _ _ (show 3072 + l.val < 4096 by omega)]
  have g0 : ∑ l ∈ Finset.range 256, col (DR m c) i (0 + l) * col (WP m c) k (3072 + (0 + l)) = ∑ l ∈ Finset.range 256, col (DQA m c) i l * w m c k (0 + l) :=
    Finset.sum_congr rfl fun l hl => by
      have hl := Finset.mem_range.mp hl
      rw [d_0 m c i hl, ← w_5 m c k hl]
      exact congrArg _ (congrArg _ (by omega))
  have g1 : ∑ l ∈ Finset.range 64, col (DR m c) i (256 + l) * col (WP m c) k (3072 + (256 + l)) = ∑ l ∈ Finset.range 64, col (DSK0 m c) i l * w m c k (1440 + l) :=
    Finset.sum_congr rfl fun l hl => by
      have hl := Finset.mem_range.mp hl
      rw [d_1 m c i hl, ← w_10 m c k hl]
      exact congrArg _ (congrArg _ (by omega))
  have g2 : ∑ l ∈ Finset.range 64, col (DR m c) i (320 + l) * col (WP m c) k (3072 + (320 + l)) = ∑ l ∈ Finset.range 64, col (DSK1 m c) i l * w m c k (1440 + l) :=
    Finset.sum_congr rfl fun l hl => by
      have hl := Finset.mem_range.mp hl
      rw [d_2 m c i hl, ← w_11 m c k hl]
      exact congrArg _ (congrArg _ (by omega))
  have g3 : ∑ l ∈ Finset.range 64, col (DR m c) i (384 + l) * col (WP m c) k (3072 + (384 + l)) = ∑ l ∈ Finset.range 64, col (DSK0 m c) i (64 + l) * w m c k (1504 + l) :=
    Finset.sum_congr rfl fun l hl => by
      have hl := Finset.mem_range.mp hl
      rw [d_3 m c i hl, ← w_12 m c k hl]
      exact congrArg _ (congrArg _ (by omega))
  have g4 : ∑ l ∈ Finset.range 64, col (DR m c) i (448 + l) * col (WP m c) k (3072 + (448 + l)) = ∑ l ∈ Finset.range 64, col (DSK1 m c) i (64 + l) * w m c k (1504 + l) :=
    Finset.sum_congr rfl fun l hl => by
      have hl := Finset.mem_range.mp hl
      rw [d_4 m c i hl, ← w_13 m c k hl]
      exact congrArg _ (congrArg _ (by omega))
  have g5 : ∑ l ∈ Finset.range 64, col (DR m c) i (512 + l) * col (WP m c) k (3072 + (512 + l)) = ∑ l ∈ Finset.range 64, col (DSV0 m c) i l * w m c k (1568 + l) :=
    Finset.sum_congr rfl fun l hl => by
      have hl := Finset.mem_range.mp hl
      rw [d_5 m c i hl, ← w_14 m c k hl]
      exact congrArg _ (congrArg _ (by omega))
  have g6 : ∑ l ∈ Finset.range 64, col (DR m c) i (576 + l) * col (WP m c) k (3072 + (576 + l)) = ∑ l ∈ Finset.range 64, col (DSV1 m c) i l * w m c k (1568 + l) :=
    Finset.sum_congr rfl fun l hl => by
      have hl := Finset.mem_range.mp hl
      rw [d_6 m c i hl, ← w_15 m c k hl]
      exact congrArg _ (congrArg _ (by omega))
  have g7 : ∑ l ∈ Finset.range 64, col (DR m c) i (640 + l) * col (WP m c) k (3072 + (640 + l)) = ∑ l ∈ Finset.range 64, col (DSV0 m c) i (64 + l) * w m c k (1632 + l) :=
    Finset.sum_congr rfl fun l hl => by
      have hl := Finset.mem_range.mp hl
      rw [d_7 m c i hl, ← w_16 m c k hl]
      exact congrArg _ (congrArg _ (by omega))
  have g8 : ∑ l ∈ Finset.range 64, col (DR m c) i (704 + l) * col (WP m c) k (3072 + (704 + l)) = ∑ l ∈ Finset.range 64, col (DSV1 m c) i (64 + l) * w m c k (1632 + l) :=
    Finset.sum_congr rfl fun l hl => by
      have hl := Finset.mem_range.mp hl
      rw [d_8 m c i hl, ← w_17 m c k hl]
      exact congrArg _ (congrArg _ (by omega))
  have g9 : ∑ l ∈ Finset.range 128, col (DR m c) i (768 + l) * col (WP m c) k (3072 + (768 + l)) = ∑ l ∈ Finset.range 128, col (DKV m c) i l * w m c k (256 + l) :=
    Finset.sum_congr rfl fun l hl => by
      have hl := Finset.mem_range.mp hl
      rw [d_9 m c i hl, ← w_6 m c k hl]
      exact congrArg _ (congrArg _ (by omega))
  have g10 : ∑ l ∈ Finset.range 64, col (DR m c) i (896 + l) * col (WP m c) k (3072 + (896 + l)) = 0 :=
    Finset.sum_eq_zero fun l hl => by rw [d_10 m c i (Finset.mem_range.mp hl), zero_mul]
  have g11 : ∑ l ∈ Finset.range 32, col (DR m c) i (960 + l) * col (WP m c) k (3072 + (960 + l)) = ∑ l ∈ Finset.range 32, col (DKR m c) i l * w m c k (384 + l) :=
    Finset.sum_congr rfl fun l hl => by
      have hl := Finset.mem_range.mp hl
      rw [d_11 m c i hl, ← w_7 m c k hl]
      exact congrArg _ (congrArg _ (by omega))
  have g12 : ∑ l ∈ Finset.range 32, col (DR m c) i (992 + l) * col (WP m c) k (3072 + (992 + l)) = 0 :=
    Finset.sum_eq_zero fun l hl => by rw [d_12 m c i (Finset.mem_range.mp hl), zero_mul]
  have r0 : ∑ l ∈ Finset.range 256, col (n := 3744) (BwdInRefIdeal.Read.val_main_v27 (DQA m c) (DKV m c) (DKR m c) (DSQ m c) (DSK0 m c) (DSK1 m c) (DSV0 m c) (DSV1 m c) (DGT m c)) i (0 + l) * w m c k (0 + l) = ∑ l ∈ Finset.range 256, col (DQA m c) i l * w m c k (0 + l) :=
    Finset.sum_congr rfl fun l hl => by rw [z_0 m c i (Finset.mem_range.mp hl)]
  have r1 : ∑ l ∈ Finset.range 128, col (n := 3744) (BwdInRefIdeal.Read.val_main_v27 (DQA m c) (DKV m c) (DKR m c) (DSQ m c) (DSK0 m c) (DSK1 m c) (DSV0 m c) (DSV1 m c) (DGT m c)) i (256 + l) * w m c k (256 + l) = ∑ l ∈ Finset.range 128, col (DKV m c) i l * w m c k (256 + l) :=
    Finset.sum_congr rfl fun l hl => by rw [z_1 m c i (Finset.mem_range.mp hl)]
  have r2 : ∑ l ∈ Finset.range 32, col (n := 3744) (BwdInRefIdeal.Read.val_main_v27 (DQA m c) (DKV m c) (DKR m c) (DSQ m c) (DSK0 m c) (DSK1 m c) (DSV0 m c) (DSV1 m c) (DGT m c)) i (384 + l) * w m c k (384 + l) = ∑ l ∈ Finset.range 32, col (DKR m c) i l * w m c k (384 + l) :=
    Finset.sum_congr rfl fun l hl => by rw [z_2 m c i (Finset.mem_range.mp hl)]
  have r3 : ∑ l ∈ Finset.range 1024, col (n := 3744) (BwdInRefIdeal.Read.val_main_v27 (DQA m c) (DKV m c) (DKR m c) (DSQ m c) (DSK0 m c) (DSK1 m c) (DSV0 m c) (DSV1 m c) (DGT m c)) i (416 + l) * w m c k (416 + l) = ∑ l ∈ Finset.range 1024, col (DSQ m c) i l * w m c k (416 + l) :=
    Finset.sum_congr rfl fun l hl => by rw [z_3 m c i (Finset.mem_range.mp hl)]
  have r4 : ∑ l ∈ Finset.range 128, col (n := 3744) (BwdInRefIdeal.Read.val_main_v27 (DQA m c) (DKV m c) (DKR m c) (DSQ m c) (DSK0 m c) (DSK1 m c) (DSV0 m c) (DSV1 m c) (DGT m c)) i (1440 + l) * w m c k (1440 + l) = ∑ l ∈ Finset.range 128, (col (DSK0 m c) i l + col (DSK1 m c) i l) * w m c k (1440 + l) :=
    Finset.sum_congr rfl fun l hl => by rw [z_4 m c i (Finset.mem_range.mp hl)]
  have r5 : ∑ l ∈ Finset.range 128, col (n := 3744) (BwdInRefIdeal.Read.val_main_v27 (DQA m c) (DKV m c) (DKR m c) (DSQ m c) (DSK0 m c) (DSK1 m c) (DSV0 m c) (DSV1 m c) (DGT m c)) i (1568 + l) * w m c k (1568 + l) = ∑ l ∈ Finset.range 128, (col (DSV0 m c) i l + col (DSV1 m c) i l) * w m c k (1568 + l) :=
    Finset.sum_congr rfl fun l hl => by rw [z_5 m c i (Finset.mem_range.mp hl)]
  have r6 : ∑ l ∈ Finset.range 2048, col (n := 3744) (BwdInRefIdeal.Read.val_main_v27 (DQA m c) (DKV m c) (DKR m c) (DSQ m c) (DSK0 m c) (DSK1 m c) (DSV0 m c) (DSV1 m c) (DGT m c)) i (1696 + l) * w m c k (1696 + l) = ∑ l ∈ Finset.range 2048, col (DGT m c) i l * w m c k (1696 + l) :=
    Finset.sum_congr rfl fun l hl => by rw [z_6 m c i (Finset.mem_range.mp hl)]
  have hwr : ∀ j, IsReal (w m c k j) := IsReal.col hw k
  have e4 := joined (f := fun l => w m c k (1440 + l)) (IsReal.col h7 i) (IsReal.col h8 i) (fun l => hwr _)
  have e5 := joined (f := fun l => w m c k (1568 + l)) (IsReal.col h9 i) (IsReal.col h10 i) (fun l => hwr _)
  have e6 : ∑ l ∈ Finset.range 2048, col (DGT m c) i l * w m c k (1696 + l)
      = ∑ l ∈ Finset.range 1024, col (DGT m c) i l * w m c k (1696 + l) + ∑ l ∈ Finset.range 1024, col (DGT m c) i (1024 + l) * w m c k (1696 + (1024 + l)) := by
    exact Finset.sum_range_add (fun l => col (DGT m c) i l * w m c k (1696 + l)) 1024 1024
  have a4 : ∀ l, 1440 + (64 + l) = 1504 + l := fun l => by omega
  have a5 : ∀ l, 1568 + (64 + l) = 1632 + l := fun l => by omega
  simp only [a4] at e4
  simp only [a5] at e5
  have rhs := (sum_col (n := 3744) (BwdInRefIdeal.Read.val_main_v27 (DQA m c) (DKV m c) (DKR m c) (DSQ m c) (DSK0 m c) (DSK1 m c) (DSV0 m c) (DSV1 m c) (DGT m c)) (W m c) i k).trans ((sum_groups fun l => col (n := 3744) (BwdInRefIdeal.Read.val_main_v27 (DQA m c) (DKV m c) (DKR m c) (DSQ m c) (DSK0 m c) (DSK1 m c) (DSV0 m c) (DSV1 m c) (DGT m c)) i l * w m c k l).trans
    (congr (congrArg _ (congr (congrArg _ (congr (congrArg _ (congr (congrArg _ (congr (congrArg _ (congr (congrArg _ r0) r1)) r2)) r3)) (r4.trans e4))) (r5.trans e5))) (r6.trans e6)))
  unfold dh
  have s3' := s3.trans (sum_parts fun l => col (DR m c) i l * col (WP m c) k (3072 + l))
  beta_reduce at s3'
  rw [s0, s1, s2, s3', g0, g1, g2, g3, g4, g5, g6, g7, g8, g9, g10, g11, g12, rhs]
  abel

set_option maxHeartbeats 2000000 in
theorem p6 (c : Dev nD) (t : Fin cfg0.N) (p : Fin 256) (q : Fin 1024) : (k0_pay6 (F := Ideal) (iblk m c 0 t) (View.ld (iblk m c 4 t) (Rect.unit ![0, 0] ![1024, 1024] inb_S1024x4096_S1024x1024_0_0)) (iblk m c 1 t) (View.ld (iblk m c 4 t) (Rect.unit ![0, 1024] ![1024, 1024] inb_S1024x4096_S1024x1024_0_1024)) (iblk m c 2 t) (View.ld (iblk m c 4 t) (Rect.unit ![0, 2048] ![1024, 1024] inb_S1024x4096_S1024x1024_0_2048)) (iblk m c 3 t) (View.ld (iblk m c 4 t) (Rect.unit ![0, 3072] ![1024, 1024] inb_S1024x4096_S1024x1024_0_3072))) (ix2 p q) = dh m c (row t p) q := by
  pointwise [k0_pay6, dot_S256x1024_S1024x1024_S256x1024_1_1_0_0_n_n]
  simp only [blk0, blk1, blk2, blk3, blk4]
  rfl

set_option maxHeartbeats 2000000 in
theorem p4 (c : Dev nD) (t : Fin cfg0.N) (p : Fin 256) (q : Fin 1024) :
    k0_pay4 (k0_pay6 (F := Ideal) (iblk m c 0 t) (View.ld (iblk m c 4 t) (Rect.unit ![0, 0] ![1024, 1024] inb_S1024x4096_S1024x1024_0_0)) (iblk m c 1 t) (View.ld (iblk m c 4 t) (Rect.unit ![0, 1024] ![1024, 1024] inb_S1024x4096_S1024x1024_0_1024)) (iblk m c 2 t) (View.ld (iblk m c 4 t) (Rect.unit ![0, 2048] ![1024, 1024] inb_S1024x4096_S1024x1024_0_2048)) (iblk m c 3 t) (View.ld (iblk m c 4 t) (Rect.unit ![0, 3072] ![1024, 1024] inb_S1024x4096_S1024x1024_0_3072))) (iblk m c 5 t) (iblk m c 6 t) (k0_pay7 (F := Ideal) (iblk m c 5 t)) (iblk m c 7 t) (ix2 p q) = DX1 m c (ix2 (row t p) q) + dx m c (row t p) q := by
  pointwise [k0_pay4, k0_pay2, k0_pay1, k0_pay7]
  simp only [p6, blk5, blk6, blk7]
  rfl

theorem outs8 (c : Dev nD) (t : Fin cfg0.N) (p : Fin 256) (q : Fin 1024) :
    ((outsAt0 m c t.val t.isLt).1 : Vec Ideal S256x1024 .f32) (ix2 p q) = DX1 m c (ix2 (row t p) q) + dx m c (row t p) q := by
  by_cases h0 : t.val % 16 = 0
  · rw [outsAt0_A m c t h0]; frame_out
    exact p4 m c t p q
  · rw [outsAt0_B m c t h0]; frame_out
    exact p4 m c t p q

theorem arr8 (c : Dev nD) : ((dats m 0 c).arrAt 8 cfg0.N : Vec Ideal S4096x1024 .f32) = fun y => DX1 m c y + dx m c (y 0) (y 1) := by
  refine (dats m 0 c).arrAt_eq_of_covers (w := 8) _ (by decide +kernel) fun t hf y => ?_
  obtain ⟨p, q, rfl⟩ : ∃ (p : Fin 256) (q : Fin 1024), y = ix2 p q := ⟨y 0, y 1, eq_ix2 y⟩
  blk_simp
  rw [after0_8, outs8]
  have hi : ((cfg0.win 8).blk t).view.emb (ix2 p q) = (ix2 (row t p) q : S4096x1024.Idx) := by
    funext d
    apply Fin.ext
    have e := (idx t).2.2.2.2.2.2.2.2.1
    fin_cases d <;> blk_simp <;> rw [e]
    · rfl
    · show 0 * 1024 + q.val = q.val
      omega
  rw [show (win0_8.blk t).view.emb (ix2 p q) = (ix2 (row t p) q : S4096x1024.Idx) from hi]
  rfl

/-- One point's addend to the gain's gradient. -/
def term9 (c : Dev nD) (t : Fin cfg0.N) (q : Fin 1024) : EReal :=
  ∑ p : Fin 256, dh m c (row t p) q * (X m c (ix2 (row t p) q) * fac N₀ e₀ (fun k => X m c (ix2 (row t p) k)))

/-- The gain's gradient over a block of rows, on top of what was there. -/
theorem p3 (v : FVec Ideal S256x1024 .f32) (x : Vec Ideal S256x1024 .f32) (z : Vec Ideal S1x1024 .f32) (q : Fin 1024) :
    k0_pay3 v x (k0_pay7 x) z (ix2 0 q) = z (ix2 0 q) + ∑ p : Fin 256, v (ix2 p q) * (x (ix2 p q) * fac N₀ e₀ (fun k => x (ix2 p k))) := by
  pointwise [k0_pay3, k0_pay2, k0_pay1, k0_pay7]
  rfl

theorem outs9_A (c : Dev nD) (t : Fin cfg0.N) (h0 : t.val % 16 = 0) (q : Fin 1024) :
    ((outsAt0 m c t.val t.isLt).2 : Vec Ideal S1x1024 .f32) (ix2 0 q) = 0 + term9 m c t q := by
  rw [outsAt0_A m c t h0]; frame_out
  refine (p3 _ _ _ q).trans (congr (congrArg _ ?_) (Finset.sum_congr rfl fun p _ => ?_))
  · pointwise [k0_pay5]
  · exact congrArg₂ (· * ·) (p6 m c t p q) (by simp only [blk5])

theorem outs9_B (c : Dev nD) (t : Fin cfg0.N) (h0 : ¬t.val % 16 = 0) (q : Fin 1024) :
    ((outsAt0 m c t.val t.isLt).2 : Vec Ideal S1x1024 .f32) (ix2 0 q)
      = ((outsAt0 m c (t.val - 1) (Nat.lt_of_le_of_lt (Nat.sub_le _ _) t.isLt)).2 : Vec Ideal S1x1024 .f32) (ix2 0 q) + term9 m c t q := by
  rw [outsAt0_B m c t h0]; frame_out
  refine (p3 _ _ _ q).trans (congrArg _ (Finset.sum_congr rfl fun p _ => ?_))
  exact congrArg₂ (· * ·) (p6 m c t p q) (by simp only [blk5])

theorem arr9 (c : Dev nD) : ((dats m 0 c).arrAt 9 cfg0.N : Vec Ideal S1x1024 .f32)
    = fun y => ∑ i : Fin 4096, dh m c i (y 1) * (X m c (ix2 i (y 1)) * fac N₀ e₀ (fun k => X m c (ix2 i k))) := by
  refine (dats m 0 c).arrAt_eq_of_after_last 9 t0_15 (by decide +kernel) _ fun j => ?_
  blk_simp
  rw [after0_9]
  obtain ⟨z, q, rfl⟩ : ∃ (p : Fin 1) (q : Fin 1024), j = ix2 p q := ⟨j 0, j 1, eq_ix2 j⟩
  obtain rfl : z = 0 := Subsingleton.elim _ _
  have hs := Pipeline.eq_sum_fin_of_reset_step_apply_last (fun n h q => ((outsAt0 m c n h).2 : Vec Ideal S1x1024 .f32) (ix2 0 q)) 16 (fun _ => 0) (term9 m c)
    (fun t h q => outs9_A m c t h q) (fun t h q => outs9_B m c t h q) (le_of_eq N_0) t0_15 rfl q
  refine hs.trans ?_
  rw [zero_add]
  exact sum_fin_eq_blocks 16 256 (fun i : Fin 4096 => dh m c i q * (X m c (ix2 i q) * fac N₀ e₀ (fun k => X m c (ix2 i k))))
    (f := fun t => term9 m c t q) N_0 rfl fun t => rfl

/-- The gradient at the product's input in the derivative. -/
abbrev rh (c : Dev nD) : Vec Ideal S4096x1024 .f32 := BwdInRefIdeal.Read.val_main_v30 (W m c) (DQA m c) (DKV m c) (DKR m c) (DSQ m c) (DSK0 m c) (DSK1 m c) (DSV0 m c) (DSV1 m c) (DGT m c)
def rd (c : Dev nD) (i : Fin 4096) (k : Fin 1024) : EReal := rh m c (ix2 i k) * G m c (ix2 0 k)

theorem ref_dh (c : Dev nD) (i : Fin 4096) (k : Fin 1024) : rh m c (ix2 i k) = ∑ l : Fin 3744, BwdInRefIdeal.Read.val_main_v27 (DQA m c) (DKV m c) (DKR m c) (DSQ m c) (DSK0 m c) (DSK1 m c) (DSV0 m c) (DSV1 m c) (DGT m c) (ix2 i l) * W m c (ix2 k l) := by
  unfold rh
  pointwise [BwdInRefIdeal.Read.val_main_v30]

theorem ref_dx (c : Dev nD) (i : Fin 4096) (q : Fin 1024) : BwdInRefIdeal.Read.val_main_v51 (X m c) (G m c) (W m c) (DQA m c) (DKV m c) (DKR m c) (DSQ m c) (DSK0 m c) (DSK1 m c) (DSV0 m c) (DSV1 m c) (DGT m c) (DX1 m c) (ix2 i q)
    = DX1 m c (ix2 i q) + rd m c i q * fac N₀ e₀ (fun k => X m c (ix2 i k))
      + X m c (ix2 i q) * back N₀ e₀ h₀ (fun k => X m c (ix2 i k)) (rd m c i) + back N₀ e₀ h₀ (fun k => X m c (ix2 i k)) (rd m c i) * X m c (ix2 i q) := by
  pointwise [BwdInRefIdeal.Read.val_main_v0, BwdInRefIdeal.Read.val_main_v1, BwdInRefIdeal.Read.val_main_cst, BwdInRefIdeal.Read.val_main_v2, BwdInRefIdeal.Read.val_main_v3, BwdInRefIdeal.Read.val_main_cst_0, BwdInRefIdeal.Read.val_main_v4, BwdInRefIdeal.Read.val_main_v5, BwdInRefIdeal.Read.val_main_cst_1, BwdInRefIdeal.Read.val_main_v6, BwdInRefIdeal.Read.val_main_v7, BwdInRefIdeal.Read.val_main_v8, BwdInRefIdeal.Read.val_main_v9, BwdInRefIdeal.Read.val_main_cst_2, BwdInRefIdeal.Read.val_main_v10, BwdInRefIdeal.Read.val_main_v11, BwdInRefIdeal.Read.val_main_v12, BwdInRefIdeal.Read.val_main_v13, BwdInRefIdeal.Read.val_main_v14, BwdInRefIdeal.Read.val_main_v15, BwdInRefIdeal.Read.val_main_v16, BwdInRefIdeal.Read.val_main_v18, BwdInRefIdeal.Read.val_main_v19, BwdInRefIdeal.Read.val_main_v20, BwdInRefIdeal.Read.val_main_v21, BwdInRefIdeal.Read.val_main_v22, BwdInRefIdeal.Read.val_main_v23, BwdInRefIdeal.Read.val_main_v24, BwdInRefIdeal.Read.val_main_v25, BwdInRefIdeal.Read.val_main_v26, BwdInRefIdeal.Read.val_main_v28, BwdInRefIdeal.Read.val_main_v29, BwdInRefIdeal.Read.val_main_v31, BwdInRefIdeal.Read.val_main_cst_3, BwdInRefIdeal.Read.val_main_v32, BwdInRefIdeal.Read.val_main_v33, BwdInRefIdeal.Read.val_main_v34, BwdInRefIdeal.Read.val_main_v35, BwdInRefIdeal.Read.val_main_cst_4, BwdInRefIdeal.Read.val_main_v36, BwdInRefIdeal.Read.val_main_v37, BwdInRefIdeal.Read.val_main_cst_5, BwdInRefIdeal.Read.val_main_v38, BwdInRefIdeal.Read.val_main_v39, BwdInRefIdeal.Read.val_main_v40, BwdInRefIdeal.Read.val_main_v41, BwdInRefIdeal.Read.val_main_v42, BwdInRefIdeal.Read.val_main_v43, BwdInRefIdeal.Read.val_main_cst_6, BwdInRefIdeal.Read.val_main_v44, BwdInRefIdeal.Read.val_main_v45, BwdInRefIdeal.Read.val_main_cst_7, BwdInRefIdeal.Read.val_main_v46, BwdInRefIdeal.Read.val_main_v47, BwdInRefIdeal.Read.val_main_v48, BwdInRefIdeal.Read.val_main_v49, BwdInRefIdeal.Read.val_main_v50, BwdInRefIdeal.Read.val_main_v51, BwdInRefIdeal.Read.val_main_v52]
  simp only [Ideal.ofBits_zero_f32, zero_add, Finset.univ_unique, Finset.sum_singleton]
  rfl

theorem ref_dg (c : Dev nD) (q : Fin 1024) : BwdInRefIdeal.Read.val_main_v52 (X m c) (W m c) (DQA m c) (DKV m c) (DKR m c) (DSQ m c) (DSK0 m c) (DSK1 m c) (DSV0 m c) (DSV1 m c) (DGT m c) (ix2 0 q)
    = ∑ i : Fin 4096, X m c (ix2 i q) * fac N₀ e₀ (fun k => X m c (ix2 i k)) * rh m c (ix2 i q) := by
  pointwise [BwdInRefIdeal.Read.val_main_v0, BwdInRefIdeal.Read.val_main_v1, BwdInRefIdeal.Read.val_main_cst, BwdInRefIdeal.Read.val_main_v2, BwdInRefIdeal.Read.val_main_v3, BwdInRefIdeal.Read.val_main_cst_0, BwdInRefIdeal.Read.val_main_v4, BwdInRefIdeal.Read.val_main_v5, BwdInRefIdeal.Read.val_main_cst_1, BwdInRefIdeal.Read.val_main_v6, BwdInRefIdeal.Read.val_main_v7, BwdInRefIdeal.Read.val_main_v8, BwdInRefIdeal.Read.val_main_v9, BwdInRefIdeal.Read.val_main_cst_2, BwdInRefIdeal.Read.val_main_v10, BwdInRefIdeal.Read.val_main_v11, BwdInRefIdeal.Read.val_main_v12, BwdInRefIdeal.Read.val_main_v13, BwdInRefIdeal.Read.val_main_v14, BwdInRefIdeal.Read.val_main_v15, BwdInRefIdeal.Read.val_main_v16, BwdInRefIdeal.Read.val_main_v18, BwdInRefIdeal.Read.val_main_v19, BwdInRefIdeal.Read.val_main_v20, BwdInRefIdeal.Read.val_main_v21, BwdInRefIdeal.Read.val_main_v22, BwdInRefIdeal.Read.val_main_v23, BwdInRefIdeal.Read.val_main_v24, BwdInRefIdeal.Read.val_main_v25, BwdInRefIdeal.Read.val_main_v26, BwdInRefIdeal.Read.val_main_v28, BwdInRefIdeal.Read.val_main_v29, BwdInRefIdeal.Read.val_main_v31, BwdInRefIdeal.Read.val_main_cst_3, BwdInRefIdeal.Read.val_main_v32, BwdInRefIdeal.Read.val_main_v33, BwdInRefIdeal.Read.val_main_v34, BwdInRefIdeal.Read.val_main_v35, BwdInRefIdeal.Read.val_main_cst_4, BwdInRefIdeal.Read.val_main_v36, BwdInRefIdeal.Read.val_main_v37, BwdInRefIdeal.Read.val_main_cst_5, BwdInRefIdeal.Read.val_main_v38, BwdInRefIdeal.Read.val_main_v39, BwdInRefIdeal.Read.val_main_v40, BwdInRefIdeal.Read.val_main_v41, BwdInRefIdeal.Read.val_main_v42, BwdInRefIdeal.Read.val_main_v43, BwdInRefIdeal.Read.val_main_cst_6, BwdInRefIdeal.Read.val_main_v44, BwdInRefIdeal.Read.val_main_v45, BwdInRefIdeal.Read.val_main_cst_7, BwdInRefIdeal.Read.val_main_v46, BwdInRefIdeal.Read.val_main_v47, BwdInRefIdeal.Read.val_main_v48, BwdInRefIdeal.Read.val_main_v49, BwdInRefIdeal.Read.val_main_v50, BwdInRefIdeal.Read.val_main_v51, BwdInRefIdeal.Read.val_main_v52]
  simp only [Ideal.ofBits_zero_f32, zero_add, Finset.univ_unique, Finset.sum_singleton]
  rfl

/-- The claim's two results, the arguments' entries real numbers. -/
theorem results (c : Dev nD) (hx : ∀ i, IsReal (X m c i)) (hg : ∀ i, IsReal (G m c i)) (hw : ∀ i, IsReal (W m c i)) (h3 : ∀ i, IsReal (DQA m c i)) (h4 : ∀ i, IsReal (DKV m c i))
    (h5 : ∀ i, IsReal (DKR m c i)) (h6 : ∀ i, IsReal (DSQ m c i)) (h7 : ∀ i, IsReal (DSK0 m c i)) (h8 : ∀ i, IsReal (DSK1 m c i)) (h9 : ∀ i, IsReal (DSV0 m c i))
    (h10 : ∀ i, IsReal (DSV1 m c i)) (h11 : ∀ i, IsReal (DGT m c i)) :
    ((dats m 0 c).arrAt 8 cfg0.N : Vec Ideal S4096x1024 .f32) = BwdInRefIdeal.Read.val_main_v51 (X m c) (G m c) (W m c) (DQA m c) (DKV m c) (DKR m c) (DSQ m c) (DSK0 m c) (DSK1 m c) (DSV0 m c) (DSV1 m c) (DGT m c) (DX1 m c)
    ∧ ((dats m 0 c).arrAt 9 cfg0.N : Vec Ideal S1x1024 .f32) = BwdInRefIdeal.Read.val_main_v52 (X m c) (W m c) (DQA m c) (DKV m c) (DKR m c) (DSQ m c) (DSK0 m c) (DSK1 m c) (DSV0 m c) (DSV1 m c) (DGT m c) := by
  have key : ∀ i k, dh m c i k = rh m c (ix2 i k) := fun i k => (dh_eq m c hw h7 h8 h9 h10 i k).trans (ref_dh m c i k).symm
  have hz : ∀ (i : Fin 4096) (l : Fin 3744), IsReal (BwdInRefIdeal.Read.val_main_v27 (DQA m c) (DKV m c) (DKR m c) (DSQ m c) (DSK0 m c) (DSK1 m c) (DSV0 m c) (DSV1 m c) (DGT m c) (ix2 i l)) := fun i l => by
    rw [← col_of_lt (n := 3744) (BwdInRefIdeal.Read.val_main_v27 (DQA m c) (DKV m c) (DKR m c) (DSQ m c) (DSK0 m c) (DSK1 m c) (DSV0 m c) (DSV1 m c) (DGT m c)) i l.isLt]
    have hj := l.isLt
    generalize l.val = j at hj ⊢
    rcases lt_or_ge j 256 with h | h
    · rw [show j = 0 + j by omega, z_0 m c i h]; exact IsReal.col h3 _ _
    rcases lt_or_ge j 384 with h' | h'
    · rw [show j = 256 + (j - 256) by omega, z_1 m c i (by omega)]; exact IsReal.col h4 _ _
    rcases lt_or_ge j 416 with h'' | h''
    · rw [show j = 384 + (j - 384) by omega, z_2 m c i (by omega)]; exact IsReal.col h5 _ _
    rcases lt_or_ge j 1440 with h3q | h3q
    · rw [show j = 416 + (j - 416) by omega, z_3 m c i (by omega)]; exact IsReal.col h6 _ _
    rcases lt_or_ge j 1568 with k0 | k0
    · rw [show j = 1440 + (j - 1440) by omega, z_4 m c i (by omega)]; exact (IsReal.col h7 _ _).add (IsReal.col h8 _ _)
    rcases lt_or_ge j 1696 with k1 | k1
    · rw [show j = 1568 + (j - 1568) by omega, z_5 m c i (by omega)]; exact (IsReal.col h9 _ _).add (IsReal.col h10 _ _)
    · rw [show j = 1696 + (j - 1696) by omega, z_6 m c i (by omega)]; exact IsReal.col h11 _ _
  have hr : ∀ i k, IsReal (rd m c i k) := fun i k => by
    refine IsReal.mul ?_ (hg _)
    rw [ref_dh]
    exact IsReal.sum _ _ fun l => (hz i l).mul (hw _)
  obtain ⟨e, he, hE⟩ := ofBits_eps
  refine ⟨?_, ?_⟩
  · rw [arr8]
    funext y
    obtain ⟨i, q, rfl⟩ : ∃ (p : Fin 4096) (q : Fin 1024), y = ix2 p q := ⟨y 0, y 1, eq_ix2 y⟩
    rw [ref_dx]
    show DX1 m c (ix2 i q) + dx m c i q = _
    simp only [dx, key]
    rw [ofBits_1024, ofBits_neg_half, hE]
    exact grad_row_add (by norm_num) he (fun k => hx _) (hr i) q _
  · rw [arr9]
    funext y
    obtain ⟨z, q, rfl⟩ : ∃ (p : Fin 1) (q : Fin 1024), y = ix2 p q := ⟨y 0, y 1, eq_ix2 y⟩
    obtain rfl : z = 0 := Subsingleton.elim _ _
    rw [ref_dg]
    refine Finset.sum_congr rfl fun i _ => ?_
    show dh m c i q * _ = _
    rw [key]
    exact mul_comm _ _

end Cert.BwdInIdeal.Value

end
-- ==== Proof.Ple.lean ====
/-
  The loss and the gradient of the gated residual before it. The kernel takes `diff / 1024` for the derivative of half the
  mean of squares and writes the sigmoid out; its gradient through the norm is the one formula of `NormGrad`.
-/
module

public import proofs.«01_k».proof.Proof.NormGrad
public import proofs.«01_k».proof.Proof.Gen.PleIdeal.Value
public import proofs.«01_k».proof.Proof.Gen.PleRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem RealEntries NormGrad
open Idealize.ShloMosaic.Pipeline (Dat)

namespace Cert.PleIdeal.Value

open Cert.PleIdeal Cert.PleIdeal.Gen

variable (m : (ℓ : Loc nD τ sig) → Buf (Elt Ideal) ℓ) (ρ : Dev nD → PrngReg)
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![0, 0] :=
  (by decide +kernel : ∀ t : Fin grid0.N, _)

/-- The launch contents of the arguments. -/
abbrev X (c : Dev nD) : Vec Ideal S4096x1024 .f32 := m ((c.tc : Thread nD τ).loc main_arg0)
abbrev PP (c : Dev nD) : Vec Ideal S4096x256 .f32 := m ((c.tc : Thread nD τ).loc main_arg1)
abbrev TG (c : Dev nD) : Vec Ideal S4096x1024 .f32 := m ((c.tc : Thread nD τ).loc main_arg2)
abbrev WP (c : Dev nD) : Vec Ideal S256x1024 .f32 := m ((c.tc : Thread nD τ).loc main_arg3)
abbrev G (c : Dev nD) : Vec Ideal S1x1024 .f32 := m ((c.tc : Thread nD τ).loc main_arg4)
abbrev WG (c : Dev nD) : Vec Ideal S1024x1024 .f32 := m ((c.tc : Thread nD τ).loc main_arg5)

/-- Row `p` of the block at point `t`, in the array. -/
abbrev row (t : Fin cfg0.N) (p : Fin 256) : Fin 4096 :=
  ⟨t.val * 256 + p.val, by have h : t.val < 16 := t.isLt.trans_eq N_0; omega⟩

theorem blk0 (c : Dev nD) (t : Fin cfg0.N) (p : Fin 256) (l : Fin 256) :
    (iblk m c 0 t : Vec Ideal S256x256 .f32) (ix2 p l) = PP m c (ix2 (row t p) l) := by
  blk_simp [iblk]
  rw [V_main_arg1]
  blk_ext [(idx t).1]

theorem blk1 (c : Dev nD) (t : Fin cfg0.N) (p : Fin 256) (l : Fin 1024) :
    (iblk m c 1 t : Vec Ideal S256x1024 .f32) (ix2 p l) = X m c (ix2 (row t p) l) := by
  blk_simp [iblk]
  rw [V_main_arg0]
  blk_ext [(idx t).2.1]

theorem blk2 (c : Dev nD) (t : Fin cfg0.N) (p : Fin 256) (l : Fin 1024) :
    (iblk m c 2 t : Vec Ideal S256x1024 .f32) (ix2 p l) = TG m c (ix2 (row t p) l) := by
  blk_simp [iblk]
  rw [V_main_arg2]
  blk_ext [(idx t).2.2.1]

theorem blk3 (c : Dev nD) (t : Fin cfg0.N) (p : Fin 256) (l : Fin 1024) :
    (iblk m c 3 t : Vec Ideal S256x1024 .bf16) (ix2 p l) = WP m c (ix2 p l) := by
  blk_simp [iblk]
  rw [show V m c main_v0 = WP m c from rfl]
  blk_ext [(idx t).2.2.2.1]

theorem blk4 (c : Dev nD) (t : Fin cfg0.N) (l : Fin 1024) :
    (iblk m c 4 t : Vec Ideal S1x1024 .f32) (ix2 0 l) = G m c (ix2 0 l) := by
  blk_simp [iblk]
  rw [V_main_arg4]
  blk_ext [(idx t).2.2.2.2.1]

theorem blk5 (c : Dev nD) (t : Fin cfg0.N) (p : Fin 1024) (l : Fin 1024) :
    (iblk m c 5 t : Vec Ideal S1024x1024 .bf16) (ix2 p l) = WG m c (ix2 p l) := by
  blk_simp [iblk]
  rw [show V m c main_v1 = WG m c from rfl]
  blk_ext [(idx t).2.2.2.2.2.1]

local notation "N₀" => Ideal.ofBits FTy.f32 0x44800000#32
local notation "e₀" => Ideal.ofBits FTy.f32 0x358637BD#32
local notation "h₀" => Ideal.ofBits FTy.f32 0xBF000000#32

/-- The norm's input, the gate's input and its sigmoid, the normed rows, the difference from the target. -/
def e0 (c : Dev nD) (i : Fin 4096) (k : Fin 1024) : EReal := ∑ l : Fin 256, PP m c (ix2 i l) * WP m c (ix2 l k)
def gt (c : Dev nD) (i : Fin 4096) (k : Fin 1024) : EReal := ∑ l : Fin 1024, X m c (ix2 i l) * WG m c (ix2 l k)
def sg (c : Dev nD) (i : Fin 4096) (k : Fin 1024) : EReal := Ideal.div 1 (1 + Ideal.exp (-gt m c i k))
def en (c : Dev nD) (i : Fin 4096) (k : Fin 1024) : EReal := e0 m c i k * fac N₀ e₀ (e0 m c i)
def diff (c : Dev nD) (i : Fin 4096) (k : Fin 1024) : EReal :=
  X m c (ix2 i k) + sg m c i k * (en m c i k * G m c (ix2 0 k)) - TG m c (ix2 i k)
/-- The loss's derivative, as the kernel has it and as the derivative of the forward lines has it. -/
def dx3 (c : Dev nD) (i : Fin 4096) (k : Fin 1024) : EReal := diff m c i k * Ideal.ofBits FTy.f32 0x3A800000#32
def dy3 (c : Dev nD) (i : Fin 4096) (k : Fin 1024) : EReal :=
  Ideal.div (Ideal.ofBits FTy.f32 0x3F000000#32) N₀ * (Ideal.ofBits FTy.f32 0x40000000#32 * diff m c i k)

theorem pay9 (c : Dev nD) (t : Fin cfg0.N) (p : Fin 256) (q : Fin 1024) :
    k0_pay9 (F := Ideal) (iblk m c 1 t) (iblk m c 5 t) (ix2 p q) = sg m c (row t p) q := by
  pointwise [k0_pay9, dot_S256x1024_S1024x1024_S256x1024_1_0_0_1_n_n]
  simp only [blk1, blk5, Ideal.ofBits_zero_f32, zero_sub]
  rfl

theorem pay5 (c : Dev nD) (t : Fin cfg0.N) (p : Fin 256) (q : Fin 1024) :
    k0_pay5 (F := Ideal) (iblk m c 0 t) (iblk m c 3 t) (ix2 p q) = e0 m c (row t p) q := by
  pointwise [k0_pay5, dot_S256x256_S256x1024_S256x1024_1_0_0_1_n_n]
  simp only [blk0, blk3]
  rfl

theorem pay6 (c : Dev nD) (t : Fin cfg0.N) (p : Fin 256) :
    k0_pay6 (F := Ideal) (iblk m c 0 t) (iblk m c 3 t) (ix2 p 0) = fac N₀ e₀ (e0 m c (row t p)) := by
  pointwise [k0_pay6]
  simp only [pay5]
  rfl

theorem pay7 (c : Dev nD) (t : Fin cfg0.N) (p : Fin 256) (q : Fin 1024) :
    k0_pay7 (F := Ideal) (iblk m c 0 t) (iblk m c 3 t) (ix2 p q) = en m c (row t p) q := by
  pointwise [k0_pay7]
  simp only [pay5, pay6]
  rfl

theorem pay8 (c : Dev nD) (t : Fin cfg0.N) (p : Fin 256) (q : Fin 1024) :
    k0_pay8 (F := Ideal) (iblk m c 0 t) (iblk m c 3 t) (iblk m c 4 t) (ix2 p q) = en m c (row t p) q * G m c (ix2 0 q) := by
  pointwise [k0_pay8]
  simp only [pay7, blk4]

theorem pay11 (c : Dev nD) (t : Fin cfg0.N) (p : Fin 256) (q : Fin 1024) :
    k0_pay11 (F := Ideal) (k0_pay10 (F := Ideal) (iblk m c 0 t) (iblk m c 3 t) (iblk m c 4 t) (iblk m c 1 t) (iblk m c 5 t)) (iblk m c 2 t) (ix2 p q)
      = diff m c (row t p) q := by
  pointwise [k0_pay11, k0_pay10]
  simp only [pay9, pay8, blk1, blk2]
  rfl

theorem pay13 (c : Dev nD) (t : Fin cfg0.N) (p : Fin 256) (q : Fin 1024) :
    k0_pay13 (F := Ideal) (k0_pay10 (F := Ideal) (iblk m c 0 t) (iblk m c 3 t) (iblk m c 4 t) (iblk m c 1 t) (iblk m c 5 t)) (iblk m c 2 t) (ix2 p q)
      = dx3 m c (row t p) q := by
  pointwise [k0_pay13]
  simp only [pay11]
  rfl

/-- The gradient at the gate's input, at the norm's output and at its input. -/
def dgt (c : Dev nD) (i : Fin 4096) (k : Fin 1024) : EReal :=
  dx3 m c i k * (en m c i k * G m c (ix2 0 k)) * sg m c i k * (1 - sg m c i k)
def dn (c : Dev nD) (i : Fin 4096) (k : Fin 1024) : EReal := dx3 m c i k * sg m c i k * G m c (ix2 0 k)
def de0 (c : Dev nD) (i : Fin 4096) (k : Fin 1024) : EReal :=
  fac N₀ e₀ (e0 m c i) * (dn m c i k - e0 m c i k * fac N₀ e₀ (e0 m c i)
    * Ideal.div (∑ k, dn m c i k * (e0 m c i k * fac N₀ e₀ (e0 m c i))) N₀)

theorem pay15 (c : Dev nD) (t : Fin cfg0.N) (p : Fin 256) (q : Fin 1024) :
    k0_pay15 (F := Ideal) (k0_pay8 (F := Ideal) (iblk m c 0 t) (iblk m c 3 t) (iblk m c 4 t)) (k0_pay9 (F := Ideal) (iblk m c 1 t) (iblk m c 5 t)) (k0_pay10 (F := Ideal) (iblk m c 0 t) (iblk m c 3 t) (iblk m c 4 t) (iblk m c 1 t) (iblk m c 5 t)) (iblk m c 2 t) (ix2 p q) = dgt m c (row t p) q := by
  pointwise [k0_pay15]
  simp only [pay13, pay8, pay9]
  rfl

theorem pay16 (c : Dev nD) (t : Fin cfg0.N) (p : Fin 256) (q : Fin 1024) :
    k0_pay16 (F := Ideal) (iblk m c 4 t) (k0_pay6 (F := Ideal) (iblk m c 0 t) (iblk m c 3 t)) (k0_pay7 (F := Ideal) (iblk m c 0 t) (iblk m c 3 t)) (k0_pay9 (F := Ideal) (iblk m c 1 t) (iblk m c 5 t)) (k0_pay10 (F := Ideal) (iblk m c 0 t) (iblk m c 3 t) (iblk m c 4 t) (iblk m c 1 t) (iblk m c 5 t)) (iblk m c 2 t) (ix2 p q) = de0 m c (row t p) q := by
  pointwise [k0_pay16, k0_pay14]
  simp only [pay13, pay6, pay7, pay9, blk4]
  rfl

theorem pay2 (c : Dev nD) (t : Fin cfg0.N) (p : Fin 256) (q : Fin 1024) :
    k0_pay2 (F := Ideal) (k0_pay13 (F := Ideal) (k0_pay10 (F := Ideal) (iblk m c 0 t) (iblk m c 3 t) (iblk m c 4 t) (iblk m c 1 t) (iblk m c 5 t)) (iblk m c 2 t)) (k0_pay15 (F := Ideal) (k0_pay8 (F := Ideal) (iblk m c 0 t) (iblk m c 3 t) (iblk m c 4 t)) (k0_pay9 (F := Ideal) (iblk m c 1 t) (iblk m c 5 t)) (k0_pay10 (F := Ideal) (iblk m c 0 t) (iblk m c 3 t) (iblk m c 4 t) (iblk m c 1 t) (iblk m c 5 t)) (iblk m c 2 t)) (iblk m c 5 t) (ix2 p q) = dx3 m c (row t p) q + ∑ k, dgt m c (row t p) k * WG m c (ix2 q k) := by
  pointwise [k0_pay2, dot_S256x1024_S1024x1024_S256x1024_1_1_0_0_n_n]
  simp only [pay13, pay15, blk5]

theorem outs7 (c : Dev nD) (t : Fin cfg0.N) (p : Fin 256) (q : Fin 1024) :
    ((outsAt0 m c t.val t.isLt).2.1 : Vec Ideal S256x1024 .f32) (ix2 p q) = dx3 m c (row t p) q + ∑ k, dgt m c (row t p) k * WG m c (ix2 q k) := by
  by_cases h0 : t.val % 16 = 0
  · rw [outsAt0_A m c t h0]; frame_out
    exact pay2 m c t p q
  · rw [outsAt0_B m c t h0]; frame_out
    exact pay2 m c t p q

theorem arr7 (c : Dev nD) : ((dats m 0 c).arrAt 7 cfg0.N : Vec Ideal S4096x1024 .f32)
    = fun y => dx3 m c (y 0) (y 1) + ∑ k, dgt m c (y 0) k * WG m c (ix2 (y 1) k) := by
  refine (dats m 0 c).arrAt_eq_of_covers (w := 7) _ (by decide +kernel) fun t hf y => ?_
  obtain ⟨p, q, rfl⟩ : ∃ (p : Fin 256) (q : Fin 1024), y = ix2 p q := ⟨y 0, y 1, eq_ix2 y⟩
  blk_simp
  rw [after0_7, outs7]
  have hi : ((cfg0.win 7).blk t).view.emb (ix2 p q) = (ix2 (row t p) q : S4096x1024.Idx) := by
    funext d
    apply Fin.ext
    have e := (idx t).2.2.2.2.2.2.2.1
    fin_cases d <;> blk_simp <;> rw [e]
    · rfl
    · show 0 * 1024 + q.val = q.val
      omega
  rw [show (win0_7.blk t).view.emb (ix2 p q) = (ix2 (row t p) q : S4096x1024.Idx) from hi]
  rfl

theorem outs8 (c : Dev nD) (t : Fin cfg0.N) (p : Fin 256) (q : Fin 1024) :
    ((outsAt0 m c t.val t.isLt).2.2.1 : Vec Ideal S256x1024 .bf16) (ix2 p q) = dgt m c (row t p) q := by
  by_cases h0 : t.val % 16 = 0
  · rw [outsAt0_A m c t h0]; frame_out
    exact pay15 m c t p q
  · rw [outsAt0_B m c t h0]; frame_out
    exact pay15 m c t p q

theorem arr8 (c : Dev nD) : ((dats m 0 c).arrAt 8 cfg0.N : Vec Ideal S4096x1024 .bf16)
    = fun y => dgt m c (y 0) (y 1) := by
  refine (dats m 0 c).arrAt_eq_of_covers (w := 8) _ (by decide +kernel) fun t hf y => ?_
  obtain ⟨p, q, rfl⟩ : ∃ (p : Fin 256) (q : Fin 1024), y = ix2 p q := ⟨y 0, y 1, eq_ix2 y⟩
  blk_simp
  rw [after0_8, outs8]
  have hi : ((cfg0.win 8).blk t).view.emb (ix2 p q) = (ix2 (row t p) q : S4096x1024.Idx) := by
    funext d
    apply Fin.ext
    have e := (idx t).2.2.2.2.2.2.2.2.1
    fin_cases d <;> blk_simp <;> rw [e]
    · rfl
    · show 0 * 1024 + q.val = q.val
      omega
  rw [show (win0_8.blk t).view.emb (ix2 p q) = (ix2 (row t p) q : S4096x1024.Idx) from hi]
  rfl

theorem outs9 (c : Dev nD) (t : Fin cfg0.N) (p : Fin 256) (q : Fin 1024) :
    ((outsAt0 m c t.val t.isLt).2.2.2.1 : Vec Ideal S256x1024 .bf16) (ix2 p q) = de0 m c (row t p) q := by
  by_cases h0 : t.val % 16 = 0
  · rw [outsAt0_A m c t h0]; frame_out
    exact pay16 m c t p q
  · rw [outsAt0_B m c t h0]; frame_out
    exact pay16 m c t p q

theorem arr9 (c : Dev nD) : ((dats m 0 c).arrAt 9 cfg0.N : Vec Ideal S4096x1024 .bf16)
    = fun y => de0 m c (y 0) (y 1) := by
  refine (dats m 0 c).arrAt_eq_of_covers (w := 9) _ (by decide +kernel) fun t hf y => ?_
  obtain ⟨p, q, rfl⟩ : ∃ (p : Fin 256) (q : Fin 1024), y = ix2 p q := ⟨y 0, y 1, eq_ix2 y⟩
  blk_simp
  rw [after0_9, outs9]
  have hi : ((cfg0.win 9).blk t).view.emb (ix2 p q) = (ix2 (row t p) q : S4096x1024.Idx) := by
    funext d
    apply Fin.ext
    have e := (idx t).2.2.2.2.2.2.2.2.2.1
    fin_cases d <;> blk_simp <;> rw [e]
    · rfl
    · show 0 * 1024 + q.val = q.val
      omega
  rw [show (win0_9.blk t).view.emb (ix2 p q) = (ix2 (row t p) q : S4096x1024.Idx) from hi]
  rfl

/-- One point's addend to the gain's gradient. -/
def term10 (c : Dev nD) (t : Fin cfg0.N) (q : Fin 1024) : EReal :=
  ∑ p : Fin 256, dx3 m c (row t p) q * sg m c (row t p) q * en m c (row t p) q

theorem outs10_A (c : Dev nD) (t : Fin cfg0.N) (h0 : t.val % 16 = 0) (z : Fin 1) (q : Fin 1024) :
    ((outsAt0 m c t.val t.isLt).2.2.2.2 : Vec Ideal S1x1024 .f32) (ix2 z q) = 0 + term10 m c t q := by
  rw [outsAt0_A m c t h0]; frame_out
  obtain rfl : z = 0 := Subsingleton.elim _ _
  pointwise [k0_pay1, k0_pay17, k0_pay14, k0_pay4]
  simp only [pay13, pay7, pay9]
  rfl

theorem outs10_B (c : Dev nD) (t : Fin cfg0.N) (h0 : ¬t.val % 16 = 0) (z : Fin 1) (q : Fin 1024) :
    ((outsAt0 m c t.val t.isLt).2.2.2.2 : Vec Ideal S1x1024 .f32) (ix2 z q)
      = ((outsAt0 m c (t.val - 1) (Nat.lt_of_le_of_lt (Nat.sub_le _ _) t.isLt)).2.2.2.2 : Vec Ideal S1x1024 .f32) (ix2 z q) + term10 m c t q := by
  rw [outsAt0_B m c t h0]; frame_out
  obtain rfl : z = 0 := Subsingleton.elim _ _
  pointwise [k0_pay1, k0_pay17, k0_pay14]
  simp only [pay13, pay7, pay9]
  rfl

theorem arr10 (c : Dev nD) : ((dats m 0 c).arrAt 10 cfg0.N : Vec Ideal S1x1024 .f32) = fun y => ∑ i : Fin 4096, dx3 m c i (y 1) * sg m c i (y 1) * en m c i (y 1) := by
  refine (dats m 0 c).arrAt_eq_of_after_last 10 t0_15 (by decide +kernel) _ fun j => ?_
  blk_simp
  rw [after0_10]
  obtain ⟨z, q, rfl⟩ : ∃ (p : Fin 1) (q : Fin 1024), j = ix2 p q := ⟨j 0, j 1, eq_ix2 j⟩
  have hs := Pipeline.eq_sum_fin_of_reset_step_apply_last (fun n h q => ((outsAt0 m c n h).2.2.2.2 : Vec Ideal S1x1024 .f32) (ix2 z q)) 16 (fun _ => 0) (fun t q => term10 m c t q)
    (fun t h q => outs10_A m c t h z q) (fun t h q => outs10_B m c t h z q) (le_of_eq N_0) t0_15 rfl q
  refine hs.trans ?_
  rw [zero_add]
  exact sum_fin_eq_blocks 16 256 (fun i : Fin 4096 => dx3 m c i q * sg m c i q * en m c i q) (f := fun t => term10 m c t q) N_0 rfl fun t => rfl

/-- One point's addend to the loss. -/
def term6 (c : Dev nD) (t : Fin cfg0.N) : EReal :=
  (∑ p : Fin 256, ∑ k, diff m c (row t p) k * diff m c (row t p) k) * Ideal.ofBits FTy.f32 0x3A000000#32

theorem outs6_A (c : Dev nD) (t : Fin cfg0.N) (h0 : t.val % 16 = 0) (z : Fin 8) (q : Fin 128) :
    ((outsAt0 m c t.val t.isLt).1 : Vec Ideal S8x128 .f32) (ix2 z q) = 0 + term6 m c t := by
  rw [outsAt0_A m c t h0]; frame_out
  pointwise [k0_pay12, k0_pay3]
  simp only [pay11]
  rfl

theorem outs6_B (c : Dev nD) (t : Fin cfg0.N) (h0 : ¬t.val % 16 = 0) (z : Fin 8) (q : Fin 128) :
    ((outsAt0 m c t.val t.isLt).1 : Vec Ideal S8x128 .f32) (ix2 z q)
      = ((outsAt0 m c (t.val - 1) (Nat.lt_of_le_of_lt (Nat.sub_le _ _) t.isLt)).1 : Vec Ideal S8x128 .f32) (ix2 z q) + term6 m c t := by
  rw [outsAt0_B m c t h0]; frame_out
  pointwise [k0_pay12]
  simp only [pay11]
  rfl

theorem arr6 (c : Dev nD) : ((dats m 0 c).arrAt 6 cfg0.N : Vec Ideal S8x128 .f32) = fun y => ∑ t : Fin cfg0.N, term6 m c t := by
  refine (dats m 0 c).arrAt_eq_of_after_last 6 t0_15 (by decide +kernel) _ fun j => ?_
  blk_simp
  rw [after0_6]
  obtain ⟨z, q, rfl⟩ : ∃ (p : Fin 8) (q : Fin 128), j = ix2 p q := ⟨j 0, j 1, eq_ix2 j⟩
  have hs := Pipeline.eq_sum_fin_of_reset_step_apply_last (fun n h q => ((outsAt0 m c n h).1 : Vec Ideal S8x128 .f32) (ix2 z q)) 16 (fun _ => 0) (fun t q => term6 m c t)
    (fun t h q => outs6_A m c t h z q) (fun t h q => outs6_B m c t h z q) (le_of_eq N_0) t0_15 rfl q
  refine hs.trans ?_
  rw [zero_add]

theorem ref_gt (c : Dev nD) (i : Fin 4096) (q : Fin 1024) : PleRefIdeal.Read.val_main_v0 (X m c) (WG m c) (ix2 i q) = gt m c i q := by
  pointwise [PleRefIdeal.Read.val_main_v0]
  rfl

theorem ref_e0 (c : Dev nD) (i : Fin 4096) (q : Fin 1024) : PleRefIdeal.Read.val_main_v1 (PP m c) (WP m c) (ix2 i q) = e0 m c i q := by
  pointwise [PleRefIdeal.Read.val_main_v1]
  rfl

theorem ref_diff (c : Dev nD) (i : Fin 4096) (q : Fin 1024) : PleRefIdeal.Read.val_main_v30 (X m c) (PP m c) (TG m c) (WP m c) (G m c) (WG m c) (ix2 i q) = diff m c i q := by
  pointwise [PleRefIdeal.Read.val_main_v2, PleRefIdeal.Read.val_main_v3, PleRefIdeal.Read.val_main_cst, PleRefIdeal.Read.val_main_v4, PleRefIdeal.Read.val_main_v5, PleRefIdeal.Read.val_main_cst_0, PleRefIdeal.Read.val_main_v6, PleRefIdeal.Read.val_main_v7, PleRefIdeal.Read.val_main_cst_1, PleRefIdeal.Read.val_main_v8, PleRefIdeal.Read.val_main_v9, PleRefIdeal.Read.val_main_v10, PleRefIdeal.Read.val_main_v11, PleRefIdeal.Read.val_main_v12, PleRefIdeal.Read.val_main_cst_2, PleRefIdeal.Read.val_main_v13, PleRefIdeal.Read.val_main_v14, PleRefIdeal.Read.val_main_cst_3, PleRefIdeal.Read.val_main_v15, PleRefIdeal.Read.val_main_v16, PleRefIdeal.Read.val_main_cst_4, PleRefIdeal.Read.val_main_v17, PleRefIdeal.Read.val_main_v18, PleRefIdeal.Read.val_main_v19, PleRefIdeal.Read.val_main_v20, PleRefIdeal.Read.val_main_cst_5, PleRefIdeal.Read.val_main_v21, PleRefIdeal.Read.val_main_v22, PleRefIdeal.Read.val_main_v23, PleRefIdeal.Read.val_main_v24, PleRefIdeal.Read.val_main_v25, PleRefIdeal.Read.val_main_v26, PleRefIdeal.Read.val_main_v27, PleRefIdeal.Read.val_main_v28, PleRefIdeal.Read.val_main_v29, PleRefIdeal.Read.val_main_v30, PleRefIdeal.Read.val_main_v31, PleRefIdeal.Read.val_main_cst_6, PleRefIdeal.Read.val_main_v32, PleRefIdeal.Read.val_main_v33, PleRefIdeal.Read.val_main_cst_7, PleRefIdeal.Read.val_main_v34, PleRefIdeal.Read.val_main_cst_8, PleRefIdeal.Read.val_main_v35, PleRefIdeal.Read.val_main_v36, PleRefIdeal.Read.val_main_cst_9, PleRefIdeal.Read.val_main_v37, PleRefIdeal.Read.val_main_cst_10, PleRefIdeal.Read.val_main_v38, PleRefIdeal.Read.val_main_cst_11, PleRefIdeal.Read.val_main_cst_12, PleRefIdeal.Read.val_main_v39, PleRefIdeal.Read.val_main_v40, PleRefIdeal.Read.val_main_cst_13, PleRefIdeal.Read.val_main_v41, PleRefIdeal.Read.val_main_v42, PleRefIdeal.Read.val_main_v43, PleRefIdeal.Read.val_main_v44, PleRefIdeal.Read.val_main_v45, PleRefIdeal.Read.val_main_v46, PleRefIdeal.Read.val_main_v47, PleRefIdeal.Read.val_main_cst_14, PleRefIdeal.Read.val_main_v48, PleRefIdeal.Read.val_main_v49, PleRefIdeal.Read.val_main_v50, PleRefIdeal.Read.val_main_v51, PleRefIdeal.Read.val_main_cst_15, PleRefIdeal.Read.val_main_v52, PleRefIdeal.Read.val_main_v53, PleRefIdeal.Read.val_main_cst_16, PleRefIdeal.Read.val_main_v54, PleRefIdeal.Read.val_main_v55, PleRefIdeal.Read.val_main_v56, PleRefIdeal.Read.val_main_v57, PleRefIdeal.Read.val_main_v58, PleRefIdeal.Read.val_main_cst_17, PleRefIdeal.Read.val_main_v59, PleRefIdeal.Read.val_main_v60, PleRefIdeal.Read.val_main_cst_18, PleRefIdeal.Read.val_main_v61, PleRefIdeal.Read.val_main_v62, PleRefIdeal.Read.val_main_v63, PleRefIdeal.Read.val_main_v64, PleRefIdeal.Read.val_main_v65, PleRefIdeal.Read.val_main_v66, PleRefIdeal.Read.val_main_v67, PleRefIdeal.Read.val_main_v68, PleRefIdeal.Read.val_main_v69, PleRefIdeal.Read.val_main_v70, PleRefIdeal.Read.val_main_v71, PleRefIdeal.Read.val_main_v72, PleRefIdeal.Read.val_main_v73]
  simp only [ref_gt, ref_e0, Ideal.ofBits_zero_f32, zero_add, Finset.univ_unique, Finset.sum_singleton]
  rfl

theorem ref_dy3 (c : Dev nD) (i : Fin 4096) (q : Fin 1024) : PleRefIdeal.Read.val_main_v44 (X m c) (PP m c) (TG m c) (WP m c) (G m c) (WG m c) (ix2 i q) = dy3 m c i q := by
  pointwise [PleRefIdeal.Read.val_main_v0, PleRefIdeal.Read.val_main_v1, PleRefIdeal.Read.val_main_v2, PleRefIdeal.Read.val_main_v3, PleRefIdeal.Read.val_main_cst, PleRefIdeal.Read.val_main_v4, PleRefIdeal.Read.val_main_v5, PleRefIdeal.Read.val_main_cst_0, PleRefIdeal.Read.val_main_v6, PleRefIdeal.Read.val_main_v7, PleRefIdeal.Read.val_main_cst_1, PleRefIdeal.Read.val_main_v8, PleRefIdeal.Read.val_main_v9, PleRefIdeal.Read.val_main_v10, PleRefIdeal.Read.val_main_v11, PleRefIdeal.Read.val_main_v12, PleRefIdeal.Read.val_main_cst_2, PleRefIdeal.Read.val_main_v13, PleRefIdeal.Read.val_main_v14, PleRefIdeal.Read.val_main_cst_3, PleRefIdeal.Read.val_main_v15, PleRefIdeal.Read.val_main_v16, PleRefIdeal.Read.val_main_cst_4, PleRefIdeal.Read.val_main_v17, PleRefIdeal.Read.val_main_v18, PleRefIdeal.Read.val_main_v19, PleRefIdeal.Read.val_main_v20, PleRefIdeal.Read.val_main_cst_5, PleRefIdeal.Read.val_main_v21, PleRefIdeal.Read.val_main_v22, PleRefIdeal.Read.val_main_v23, PleRefIdeal.Read.val_main_v24, PleRefIdeal.Read.val_main_v25, PleRefIdeal.Read.val_main_v26, PleRefIdeal.Read.val_main_v27, PleRefIdeal.Read.val_main_v28, PleRefIdeal.Read.val_main_v29, PleRefIdeal.Read.val_main_v31, PleRefIdeal.Read.val_main_cst_6, PleRefIdeal.Read.val_main_v32, PleRefIdeal.Read.val_main_v33, PleRefIdeal.Read.val_main_cst_7, PleRefIdeal.Read.val_main_v34, PleRefIdeal.Read.val_main_cst_8, PleRefIdeal.Read.val_main_v35, PleRefIdeal.Read.val_main_v36, PleRefIdeal.Read.val_main_cst_9, PleRefIdeal.Read.val_main_v37, PleRefIdeal.Read.val_main_cst_10, PleRefIdeal.Read.val_main_v38, PleRefIdeal.Read.val_main_cst_11, PleRefIdeal.Read.val_main_cst_12, PleRefIdeal.Read.val_main_v39, PleRefIdeal.Read.val_main_v40, PleRefIdeal.Read.val_main_cst_13, PleRefIdeal.Read.val_main_v41, PleRefIdeal.Read.val_main_v42, PleRefIdeal.Read.val_main_v43, PleRefIdeal.Read.val_main_v44, PleRefIdeal.Read.val_main_v45, PleRefIdeal.Read.val_main_v46, PleRefIdeal.Read.val_main_v47, PleRefIdeal.Read.val_main_cst_14, PleRefIdeal.Read.val_main_v48, PleRefIdeal.Read.val_main_v49, PleRefIdeal.Read.val_main_v50, PleRefIdeal.Read.val_main_v51, PleRefIdeal.Read.val_main_cst_15, PleRefIdeal.Read.val_main_v52, PleRefIdeal.Read.val_main_v53, PleRefIdeal.Read.val_main_cst_16, PleRefIdeal.Read.val_main_v54, PleRefIdeal.Read.val_main_v55, PleRefIdeal.Read.val_main_v56, PleRefIdeal.Read.val_main_v57, PleRefIdeal.Read.val_main_v58, PleRefIdeal.Read.val_main_cst_17, PleRefIdeal.Read.val_main_v59, PleRefIdeal.Read.val_main_v60, PleRefIdeal.Read.val_main_cst_18, PleRefIdeal.Read.val_main_v61, PleRefIdeal.Read.val_main_v62, PleRefIdeal.Read.val_main_v63, PleRefIdeal.Read.val_main_v64, PleRefIdeal.Read.val_main_v65, PleRefIdeal.Read.val_main_v66, PleRefIdeal.Read.val_main_v67, PleRefIdeal.Read.val_main_v68, PleRefIdeal.Read.val_main_v69, PleRefIdeal.Read.val_main_v70, PleRefIdeal.Read.val_main_v71, PleRefIdeal.Read.val_main_v72, PleRefIdeal.Read.val_main_v73]
  simp only [ref_diff]
  rfl

theorem ref_dgt (c : Dev nD) (i : Fin 4096) (q : Fin 1024) : PleRefIdeal.Read.val_main_v68 (X m c) (PP m c) (TG m c) (WP m c) (G m c) (WG m c) (ix2 i q)
    = dy3 m c i q * (en m c i q * G m c (ix2 0 q)) * (sg m c i q * (1 - sg m c i q)) := by
  pointwise [PleRefIdeal.Read.val_main_v2, PleRefIdeal.Read.val_main_v3, PleRefIdeal.Read.val_main_cst, PleRefIdeal.Read.val_main_v4, PleRefIdeal.Read.val_main_v5, PleRefIdeal.Read.val_main_cst_0, PleRefIdeal.Read.val_main_v6, PleRefIdeal.Read.val_main_v7, PleRefIdeal.Read.val_main_cst_1, PleRefIdeal.Read.val_main_v8, PleRefIdeal.Read.val_main_v9, PleRefIdeal.Read.val_main_v10, PleRefIdeal.Read.val_main_v11, PleRefIdeal.Read.val_main_v12, PleRefIdeal.Read.val_main_cst_2, PleRefIdeal.Read.val_main_v13, PleRefIdeal.Read.val_main_v14, PleRefIdeal.Read.val_main_cst_3, PleRefIdeal.Read.val_main_v15, PleRefIdeal.Read.val_main_v16, PleRefIdeal.Read.val_main_cst_4, PleRefIdeal.Read.val_main_v17, PleRefIdeal.Read.val_main_v18, PleRefIdeal.Read.val_main_v19, PleRefIdeal.Read.val_main_v20, PleRefIdeal.Read.val_main_cst_5, PleRefIdeal.Read.val_main_v21, PleRefIdeal.Read.val_main_v22, PleRefIdeal.Read.val_main_v23, PleRefIdeal.Read.val_main_v24, PleRefIdeal.Read.val_main_v25, PleRefIdeal.Read.val_main_v26, PleRefIdeal.Read.val_main_v27, PleRefIdeal.Read.val_main_v28, PleRefIdeal.Read.val_main_v29, PleRefIdeal.Read.val_main_v30, PleRefIdeal.Read.val_main_v31, PleRefIdeal.Read.val_main_cst_6, PleRefIdeal.Read.val_main_v32, PleRefIdeal.Read.val_main_v33, PleRefIdeal.Read.val_main_cst_7, PleRefIdeal.Read.val_main_v34, PleRefIdeal.Read.val_main_cst_8, PleRefIdeal.Read.val_main_v35, PleRefIdeal.Read.val_main_v36, PleRefIdeal.Read.val_main_cst_9, PleRefIdeal.Read.val_main_v37, PleRefIdeal.Read.val_main_cst_10, PleRefIdeal.Read.val_main_v38, PleRefIdeal.Read.val_main_cst_11, PleRefIdeal.Read.val_main_cst_12, PleRefIdeal.Read.val_main_v39, PleRefIdeal.Read.val_main_v40, PleRefIdeal.Read.val_main_cst_13, PleRefIdeal.Read.val_main_v41, PleRefIdeal.Read.val_main_v42, PleRefIdeal.Read.val_main_v43, PleRefIdeal.Read.val_main_v45, PleRefIdeal.Read.val_main_v46, PleRefIdeal.Read.val_main_v47, PleRefIdeal.Read.val_main_cst_14, PleRefIdeal.Read.val_main_v48, PleRefIdeal.Read.val_main_v49, PleRefIdeal.Read.val_main_v50, PleRefIdeal.Read.val_main_v51, PleRefIdeal.Read.val_main_cst_15, PleRefIdeal.Read.val_main_v52, PleRefIdeal.Read.val_main_v53, PleRefIdeal.Read.val_main_cst_16, PleRefIdeal.Read.val_main_v54, PleRefIdeal.Read.val_main_v55, PleRefIdeal.Read.val_main_v56, PleRefIdeal.Read.val_main_v57, PleRefIdeal.Read.val_main_v58, PleRefIdeal.Read.val_main_cst_17, PleRefIdeal.Read.val_main_v59, PleRefIdeal.Read.val_main_v60, PleRefIdeal.Read.val_main_cst_18, PleRefIdeal.Read.val_main_v61, PleRefIdeal.Read.val_main_v62, PleRefIdeal.Read.val_main_v63, PleRefIdeal.Read.val_main_v64, PleRefIdeal.Read.val_main_v65, PleRefIdeal.Read.val_main_v66, PleRefIdeal.Read.val_main_v67, PleRefIdeal.Read.val_main_v68, PleRefIdeal.Read.val_main_v69, PleRefIdeal.Read.val_main_v70, PleRefIdeal.Read.val_main_v71, PleRefIdeal.Read.val_main_v72, PleRefIdeal.Read.val_main_v73]
  simp only [ref_gt, ref_e0, ref_dy3, Ideal.ofBits_zero_f32, zero_add, Finset.univ_unique, Finset.sum_singleton]
  rfl

theorem ref_de0 (c : Dev nD) (i : Fin 4096) (q : Fin 1024) : PleRefIdeal.Read.val_main_v66 (X m c) (PP m c) (TG m c) (WP m c) (G m c) (WG m c) (ix2 i q)
    = sg m c i q * dy3 m c i q * G m c (ix2 0 q) * fac N₀ e₀ (e0 m c i)
      + e0 m c i q * back N₀ e₀ h₀ (e0 m c i) (fun k => sg m c i k * dy3 m c i k * G m c (ix2 0 k))
      + back N₀ e₀ h₀ (e0 m c i) (fun k => sg m c i k * dy3 m c i k * G m c (ix2 0 k)) * e0 m c i q := by
  pointwise [PleRefIdeal.Read.val_main_v2, PleRefIdeal.Read.val_main_v3, PleRefIdeal.Read.val_main_cst, PleRefIdeal.Read.val_main_v4, PleRefIdeal.Read.val_main_v5, PleRefIdeal.Read.val_main_cst_0, PleRefIdeal.Read.val_main_v6, PleRefIdeal.Read.val_main_v7, PleRefIdeal.Read.val_main_cst_1, PleRefIdeal.Read.val_main_v8, PleRefIdeal.Read.val_main_v9, PleRefIdeal.Read.val_main_v10, PleRefIdeal.Read.val_main_v11, PleRefIdeal.Read.val_main_v12, PleRefIdeal.Read.val_main_cst_2, PleRefIdeal.Read.val_main_v13, PleRefIdeal.Read.val_main_v14, PleRefIdeal.Read.val_main_cst_3, PleRefIdeal.Read.val_main_v15, PleRefIdeal.Read.val_main_v16, PleRefIdeal.Read.val_main_cst_4, PleRefIdeal.Read.val_main_v17, PleRefIdeal.Read.val_main_v18, PleRefIdeal.Read.val_main_v19, PleRefIdeal.Read.val_main_v20, PleRefIdeal.Read.val_main_cst_5, PleRefIdeal.Read.val_main_v21, PleRefIdeal.Read.val_main_v22, PleRefIdeal.Read.val_main_v23, PleRefIdeal.Read.val_main_v24, PleRefIdeal.Read.val_main_v25, PleRefIdeal.Read.val_main_v26, PleRefIdeal.Read.val_main_v27, PleRefIdeal.Read.val_main_v28, PleRefIdeal.Read.val_main_v29, PleRefIdeal.Read.val_main_v30, PleRefIdeal.Read.val_main_v31, PleRefIdeal.Read.val_main_cst_6, PleRefIdeal.Read.val_main_v32, PleRefIdeal.Read.val_main_v33, PleRefIdeal.Read.val_main_cst_7, PleRefIdeal.Read.val_main_v34, PleRefIdeal.Read.val_main_cst_8, PleRefIdeal.Read.val_main_v35, PleRefIdeal.Read.val_main_v36, PleRefIdeal.Read.val_main_cst_9, PleRefIdeal.Read.val_main_v37, PleRefIdeal.Read.val_main_cst_10, PleRefIdeal.Read.val_main_v38, PleRefIdeal.Read.val_main_cst_11, PleRefIdeal.Read.val_main_cst_12, PleRefIdeal.Read.val_main_v39, PleRefIdeal.Read.val_main_v40, PleRefIdeal.Read.val_main_cst_13, PleRefIdeal.Read.val_main_v41, PleRefIdeal.Read.val_main_v42, PleRefIdeal.Read.val_main_v43, PleRefIdeal.Read.val_main_v45, PleRefIdeal.Read.val_main_v46, PleRefIdeal.Read.val_main_v47, PleRefIdeal.Read.val_main_cst_14, PleRefIdeal.Read.val_main_v48, PleRefIdeal.Read.val_main_v49, PleRefIdeal.Read.val_main_v50, PleRefIdeal.Read.val_main_v51, PleRefIdeal.Read.val_main_cst_15, PleRefIdeal.Read.val_main_v52, PleRefIdeal.Read.val_main_v53, PleRefIdeal.Read.val_main_cst_16, PleRefIdeal.Read.val_main_v54, PleRefIdeal.Read.val_main_v55, PleRefIdeal.Read.val_main_v56, PleRefIdeal.Read.val_main_v57, PleRefIdeal.Read.val_main_v58, PleRefIdeal.Read.val_main_cst_17, PleRefIdeal.Read.val_main_v59, PleRefIdeal.Read.val_main_v60, PleRefIdeal.Read.val_main_cst_18, PleRefIdeal.Read.val_main_v61, PleRefIdeal.Read.val_main_v62, PleRefIdeal.Read.val_main_v63, PleRefIdeal.Read.val_main_v64, PleRefIdeal.Read.val_main_v65, PleRefIdeal.Read.val_main_v66, PleRefIdeal.Read.val_main_v67, PleRefIdeal.Read.val_main_v68, PleRefIdeal.Read.val_main_v69, PleRefIdeal.Read.val_main_v70, PleRefIdeal.Read.val_main_v71, PleRefIdeal.Read.val_main_v72, PleRefIdeal.Read.val_main_v73]
  simp only [ref_gt, ref_e0, ref_dy3, Ideal.ofBits_zero_f32, zero_add, Finset.univ_unique, Finset.sum_singleton]
  rfl

theorem ref_dg (c : Dev nD) (q : Fin 1024) : PleRefIdeal.Read.val_main_v67 (X m c) (PP m c) (TG m c) (WP m c) (G m c) (WG m c) (ix2 0 q)
    = ∑ i : Fin 4096, en m c i q * (sg m c i q * dy3 m c i q) := by
  pointwise [PleRefIdeal.Read.val_main_v2, PleRefIdeal.Read.val_main_v3, PleRefIdeal.Read.val_main_cst, PleRefIdeal.Read.val_main_v4, PleRefIdeal.Read.val_main_v5, PleRefIdeal.Read.val_main_cst_0, PleRefIdeal.Read.val_main_v6, PleRefIdeal.Read.val_main_v7, PleRefIdeal.Read.val_main_cst_1, PleRefIdeal.Read.val_main_v8, PleRefIdeal.Read.val_main_v9, PleRefIdeal.Read.val_main_v10, PleRefIdeal.Read.val_main_v11, PleRefIdeal.Read.val_main_v12, PleRefIdeal.Read.val_main_cst_2, PleRefIdeal.Read.val_main_v13, PleRefIdeal.Read.val_main_v14, PleRefIdeal.Read.val_main_cst_3, PleRefIdeal.Read.val_main_v15, PleRefIdeal.Read.val_main_v16, PleRefIdeal.Read.val_main_cst_4, PleRefIdeal.Read.val_main_v17, PleRefIdeal.Read.val_main_v18, PleRefIdeal.Read.val_main_v19, PleRefIdeal.Read.val_main_v20, PleRefIdeal.Read.val_main_cst_5, PleRefIdeal.Read.val_main_v21, PleRefIdeal.Read.val_main_v22, PleRefIdeal.Read.val_main_v23, PleRefIdeal.Read.val_main_v24, PleRefIdeal.Read.val_main_v25, PleRefIdeal.Read.val_main_v26, PleRefIdeal.Read.val_main_v27, PleRefIdeal.Read.val_main_v28, PleRefIdeal.Read.val_main_v29, PleRefIdeal.Read.val_main_v30, PleRefIdeal.Read.val_main_v31, PleRefIdeal.Read.val_main_cst_6, PleRefIdeal.Read.val_main_v32, PleRefIdeal.Read.val_main_v33, PleRefIdeal.Read.val_main_cst_7, PleRefIdeal.Read.val_main_v34, PleRefIdeal.Read.val_main_cst_8, PleRefIdeal.Read.val_main_v35, PleRefIdeal.Read.val_main_v36, PleRefIdeal.Read.val_main_cst_9, PleRefIdeal.Read.val_main_v37, PleRefIdeal.Read.val_main_cst_10, PleRefIdeal.Read.val_main_v38, PleRefIdeal.Read.val_main_cst_11, PleRefIdeal.Read.val_main_cst_12, PleRefIdeal.Read.val_main_v39, PleRefIdeal.Read.val_main_v40, PleRefIdeal.Read.val_main_cst_13, PleRefIdeal.Read.val_main_v41, PleRefIdeal.Read.val_main_v42, PleRefIdeal.Read.val_main_v43, PleRefIdeal.Read.val_main_v45, PleRefIdeal.Read.val_main_v46, PleRefIdeal.Read.val_main_v47, PleRefIdeal.Read.val_main_cst_14, PleRefIdeal.Read.val_main_v48, PleRefIdeal.Read.val_main_v49, PleRefIdeal.Read.val_main_v50, PleRefIdeal.Read.val_main_v51, PleRefIdeal.Read.val_main_cst_15, PleRefIdeal.Read.val_main_v52, PleRefIdeal.Read.val_main_v53, PleRefIdeal.Read.val_main_cst_16, PleRefIdeal.Read.val_main_v54, PleRefIdeal.Read.val_main_v55, PleRefIdeal.Read.val_main_v56, PleRefIdeal.Read.val_main_v57, PleRefIdeal.Read.val_main_v58, PleRefIdeal.Read.val_main_cst_17, PleRefIdeal.Read.val_main_v59, PleRefIdeal.Read.val_main_v60, PleRefIdeal.Read.val_main_cst_18, PleRefIdeal.Read.val_main_v61, PleRefIdeal.Read.val_main_v62, PleRefIdeal.Read.val_main_v63, PleRefIdeal.Read.val_main_v64, PleRefIdeal.Read.val_main_v65, PleRefIdeal.Read.val_main_v66, PleRefIdeal.Read.val_main_v67, PleRefIdeal.Read.val_main_v68, PleRefIdeal.Read.val_main_v69, PleRefIdeal.Read.val_main_v70, PleRefIdeal.Read.val_main_v71, PleRefIdeal.Read.val_main_v72, PleRefIdeal.Read.val_main_v73]
  simp only [ref_gt, ref_e0, ref_dy3, Ideal.ofBits_zero_f32, zero_add, Finset.univ_unique, Finset.sum_singleton]
  rfl

theorem ref_loss (c : Dev nD) (y : S8x128.Idx) : PleRefIdeal.Read.val_main_v69 (X m c) (PP m c) (TG m c) (WP m c) (G m c) (WG m c) y
    = Ideal.ofBits FTy.f32 0x3F000000#32 * ∑ i : Fin 4096, Ideal.div (∑ k, diff m c i k * diff m c i k) N₀ := by
  pointwise [PleRefIdeal.Read.val_main_v0, PleRefIdeal.Read.val_main_v1, PleRefIdeal.Read.val_main_v2, PleRefIdeal.Read.val_main_v3, PleRefIdeal.Read.val_main_cst, PleRefIdeal.Read.val_main_v4, PleRefIdeal.Read.val_main_v5, PleRefIdeal.Read.val_main_cst_0, PleRefIdeal.Read.val_main_v6, PleRefIdeal.Read.val_main_v7, PleRefIdeal.Read.val_main_cst_1, PleRefIdeal.Read.val_main_v8, PleRefIdeal.Read.val_main_v9, PleRefIdeal.Read.val_main_v10, PleRefIdeal.Read.val_main_v11, PleRefIdeal.Read.val_main_v12, PleRefIdeal.Read.val_main_cst_2, PleRefIdeal.Read.val_main_v13, PleRefIdeal.Read.val_main_v14, PleRefIdeal.Read.val_main_cst_3, PleRefIdeal.Read.val_main_v15, PleRefIdeal.Read.val_main_v16, PleRefIdeal.Read.val_main_cst_4, PleRefIdeal.Read.val_main_v17, PleRefIdeal.Read.val_main_v18, PleRefIdeal.Read.val_main_v19, PleRefIdeal.Read.val_main_v20, PleRefIdeal.Read.val_main_cst_5, PleRefIdeal.Read.val_main_v21, PleRefIdeal.Read.val_main_v22, PleRefIdeal.Read.val_main_v23, PleRefIdeal.Read.val_main_v24, PleRefIdeal.Read.val_main_v25, PleRefIdeal.Read.val_main_v26, PleRefIdeal.Read.val_main_v27, PleRefIdeal.Read.val_main_v28, PleRefIdeal.Read.val_main_v29, PleRefIdeal.Read.val_main_v31, PleRefIdeal.Read.val_main_cst_6, PleRefIdeal.Read.val_main_v32, PleRefIdeal.Read.val_main_v33, PleRefIdeal.Read.val_main_cst_7, PleRefIdeal.Read.val_main_v34, PleRefIdeal.Read.val_main_cst_8, PleRefIdeal.Read.val_main_v35, PleRefIdeal.Read.val_main_v36, PleRefIdeal.Read.val_main_cst_9, PleRefIdeal.Read.val_main_v37, PleRefIdeal.Read.val_main_cst_10, PleRefIdeal.Read.val_main_v38, PleRefIdeal.Read.val_main_cst_11, PleRefIdeal.Read.val_main_cst_12, PleRefIdeal.Read.val_main_v39, PleRefIdeal.Read.val_main_v40, PleRefIdeal.Read.val_main_cst_13, PleRefIdeal.Read.val_main_v41, PleRefIdeal.Read.val_main_v42, PleRefIdeal.Read.val_main_v43, PleRefIdeal.Read.val_main_v44, PleRefIdeal.Read.val_main_v45, PleRefIdeal.Read.val_main_v46, PleRefIdeal.Read.val_main_v47, PleRefIdeal.Read.val_main_cst_14, PleRefIdeal.Read.val_main_v48, PleRefIdeal.Read.val_main_v49, PleRefIdeal.Read.val_main_v50, PleRefIdeal.Read.val_main_v51, PleRefIdeal.Read.val_main_cst_15, PleRefIdeal.Read.val_main_v52, PleRefIdeal.Read.val_main_v53, PleRefIdeal.Read.val_main_cst_16, PleRefIdeal.Read.val_main_v54, PleRefIdeal.Read.val_main_v55, PleRefIdeal.Read.val_main_v56, PleRefIdeal.Read.val_main_v57, PleRefIdeal.Read.val_main_v58, PleRefIdeal.Read.val_main_cst_17, PleRefIdeal.Read.val_main_v59, PleRefIdeal.Read.val_main_v60, PleRefIdeal.Read.val_main_cst_18, PleRefIdeal.Read.val_main_v61, PleRefIdeal.Read.val_main_v62, PleRefIdeal.Read.val_main_v63, PleRefIdeal.Read.val_main_v64, PleRefIdeal.Read.val_main_v65, PleRefIdeal.Read.val_main_v66, PleRefIdeal.Read.val_main_v67, PleRefIdeal.Read.val_main_v68, PleRefIdeal.Read.val_main_v69, PleRefIdeal.Read.val_main_v70, PleRefIdeal.Read.val_main_v71, PleRefIdeal.Read.val_main_v72, PleRefIdeal.Read.val_main_v73]
  simp only [ref_diff, Ideal.ofBits_zero_f32, zero_add]

theorem ref_dx2 (c : Dev nD) (i : Fin 4096) (q : Fin 1024) : PleRefIdeal.Read.val_main_v71 (X m c) (PP m c) (TG m c) (WP m c) (G m c) (WG m c) (ix2 i q)
    = dy3 m c i q + ∑ k, (PleRefIdeal.Read.val_main_v68 (X m c) (PP m c) (TG m c) (WP m c) (G m c) (WG m c) (ix2 i k)) * WG m c (ix2 q k) := by
  pointwise [PleRefIdeal.Read.val_main_v71, PleRefIdeal.Read.val_main_v70]
  simp only [ref_dy3]

/-- The two words for the scales, and the halves. -/
theorem ofBits_half : Ideal.ofBits .f32 0x3F000000#32 = ((1 / 2 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num
theorem ofBits_1024th : Ideal.ofBits .f32 0x3A800000#32 = ((1 / 1024 : ℝ) : EReal) := by
  simp [Ideal.ofBits, Ideal.ieee]; rw [← EReal.coe_mul]; norm_num
theorem ofBits_2048th : Ideal.ofBits .f32 0x3A000000#32 = ((1 / 2048 : ℝ) : EReal) := by
  simp [Ideal.ofBits, Ideal.ieee]; rw [← EReal.coe_mul]; norm_num

theorem dy3_eq (c : Dev nD) (i : Fin 4096) (k : Fin 1024) : IsReal (diff m c i k) → dy3 m c i k = dx3 m c i k := by
  rintro ⟨d, hd⟩
  rw [dy3, dx3, hd, ofBits_half, ofBits_two, ofBits_1024th, ofBits_1024, Ideal.div_coe (by norm_num), ← EReal.coe_mul, ← EReal.coe_mul, ← EReal.coe_mul, ← EReal.coe_mul]
  congr 1; ring

theorem sg_real (c : Dev nD) (i : Fin 4096) (k : Fin 1024) : IsReal (gt m c i k) → IsReal (sg m c i k) := by
  rintro ⟨g, hg⟩
  rw [sg, hg, ← EReal.coe_neg, Ideal.exp_coe, ← EReal.coe_one, ← EReal.coe_add]
  exact (IsReal.coe 1).div (by positivity)

/-- The claim's five results, the arguments' entries real numbers. -/
theorem results (c : Dev nD) (hx : ∀ i, IsReal (X m c i)) (hp : ∀ i, IsReal (PP m c i)) (ht : ∀ i, IsReal (TG m c i)) (hw : ∀ i, IsReal (WP m c i))
    (hg : ∀ i, IsReal (G m c i)) (hv : ∀ i, IsReal (WG m c i)) :
    ((dats m 0 c).arrAt 6 cfg0.N : Vec Ideal S8x128 .f32) = PleRefIdeal.Read.val_main_v69 (X m c) (PP m c) (TG m c) (WP m c) (G m c) (WG m c)
    ∧ ((dats m 0 c).arrAt 7 cfg0.N : Vec Ideal S4096x1024 .f32) = PleRefIdeal.Read.val_main_v71 (X m c) (PP m c) (TG m c) (WP m c) (G m c) (WG m c)
    ∧ ((dats m 0 c).arrAt 8 cfg0.N : Vec Ideal S4096x1024 .bf16) = PleRefIdeal.Read.val_main_v72 (X m c) (PP m c) (TG m c) (WP m c) (G m c) (WG m c)
    ∧ ((dats m 0 c).arrAt 9 cfg0.N : Vec Ideal S4096x1024 .bf16) = PleRefIdeal.Read.val_main_v73 (X m c) (PP m c) (TG m c) (WP m c) (G m c) (WG m c)
    ∧ ((dats m 0 c).arrAt 10 cfg0.N : Vec Ideal S1x1024 .f32) = PleRefIdeal.Read.val_main_v67 (X m c) (PP m c) (TG m c) (WP m c) (G m c) (WG m c) := by
  obtain ⟨e, he, he'⟩ := ofBits_eps
  have hN : (0 : ℝ) < 1024 := by norm_num
  have h0 : ∀ i k, IsReal (e0 m c i k) := fun i k => IsReal.sum _ _ fun l => (hp _).mul (hw _)
  have hf : ∀ i, IsReal (fac N₀ e₀ (e0 m c i)) := fun i => by rw [ofBits_1024, he']; exact IsReal.fac hN he (h0 i)
  have hn : ∀ i k, IsReal (en m c i k) := fun i k => (h0 i k).mul (hf i)
  have hs : ∀ i k, IsReal (sg m c i k) := fun i k => sg_real m c i k (IsReal.sum _ _ fun l => (hx _).mul (hv _))
  have hd : ∀ i k, IsReal (diff m c i k) := fun i k => ((hx _).add ((hs i k).mul ((hn i k).mul (hg _)))).sub (ht _)
  have hy : ∀ i k, dy3 m c i k = dx3 m c i k := fun i k => dy3_eq m c i k (hd i k)
  have hx3 : ∀ i k, IsReal (dx3 m c i k) := fun i k => (hd i k).mul (by rw [ofBits_1024th]; exact IsReal.coe _)
  have hgt : ∀ i k, dgt m c i k = PleRefIdeal.Read.val_main_v68 (X m c) (PP m c) (TG m c) (WP m c) (G m c) (WG m c) (ix2 i k) := fun i k => by
    rw [ref_dgt, hy, dgt, mul_assoc _ (sg m c i k)]
  refine ⟨?_, ?_, ?_, ?_, ?_⟩
  · rw [arr6]
    funext y
    rw [ref_loss]
    obtain ⟨d, hd'⟩ : ∃ d : Fin 4096 → Fin 1024 → ℝ, ∀ i k, diff m c i k = (d i k : EReal) := ⟨fun i k => (hd i k).choose, fun i k => (hd i k).choose_spec⟩
    have hblk := sum_fin_eq_blocks 16 256 (fun i : Fin 4096 => (∑ k, diff m c i k * diff m c i k) * Ideal.ofBits FTy.f32 0x3A000000#32)
      (f := fun t : Fin cfg0.N => term6 m c t) N_0 rfl fun t => by
        simp only [term6, hd', ofBits_2048th, ← EReal.coe_mul, ← coe_sum, Finset.sum_mul]
    refine hblk.trans ?_
    simp only [hd', ofBits_2048th, ofBits_half, ofBits_1024, Ideal.div_coe hN.ne', ← EReal.coe_mul, ← coe_sum, Finset.mul_sum]
    congr 1
    refine Finset.sum_congr rfl fun i _ => ?_
    ring
  · rw [arr7]
    funext y
    obtain ⟨p, q, rfl⟩ : ∃ (p : Fin 4096) (q : Fin 1024), y = ix2 p q := ⟨y 0, y 1, eq_ix2 y⟩
    rw [ref_dx2, hy]
    refine congrArg (dx3 m c p q + ·) (Finset.sum_congr rfl fun k _ => ?_)
    rw [← hgt]
    rfl
  · rw [arr8]
    funext y
    obtain ⟨p, q, rfl⟩ : ∃ (p : Fin 4096) (q : Fin 1024), y = ix2 p q := ⟨y 0, y 1, eq_ix2 y⟩
    exact hgt p q
  · rw [arr9]
    funext y
    obtain ⟨p, q, rfl⟩ : ∃ (p : Fin 4096) (q : Fin 1024), y = ix2 p q := ⟨y 0, y 1, eq_ix2 y⟩
    refine Eq.trans ?_ (ref_de0 m c p q).symm
    have hdn : (fun k => sg m c p k * dy3 m c p k * G m c (ix2 0 k)) = dn m c p := funext fun k => by rw [hy, dn, mul_comm (sg m c p k)]
    rw [hdn, hy, mul_comm (sg m c p q), ofBits_neg_half]
    show de0 m c p q = dn m c p q * fac N₀ e₀ (e0 m c p) + _ + _
    rw [de0, ofBits_1024, he']
    exact (grad_row hN he (h0 p) (fun k => ((hx3 p k).mul (hs p k)).mul (hg _)) q).trans (add_assoc _ _ _).symm
  · rw [arr10]
    funext y
    obtain ⟨z, q, rfl⟩ : ∃ (p : Fin 1) (q : Fin 1024), y = ix2 p q := ⟨y 0, y 1, eq_ix2 y⟩
    obtain rfl : z = 0 := Subsingleton.elim _ _
    refine Eq.trans ?_ (ref_dg m c q).symm
    refine Finset.sum_congr rfl fun i _ => ?_
    rw [hy, mul_comm (en m c i q), mul_comm (sg m c i q)]
    rfl

end Cert.PleIdeal.Value

end
-- ==== Proof.Mix.lean ====
/-
  The gradients of the block after the mixers: of the norm, of the output product, of the two sigmoid gates and of the two
  up projections, with the row sums the attention's gradient reads.
-/
module

public import proofs.«01_k».proof.Proof.NormGrad
public import proofs.«01_k».proof.Proof.Gen.MixIdeal.Value
public import proofs.«01_k».proof.Proof.Gen.MixRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem RealEntries NormGrad
open Idealize.ShloMosaic.Pipeline (Dat)

namespace Cert.MixIdeal.Value

open Cert.MixIdeal Cert.MixIdeal.Gen

variable (m : (ℓ : Loc nD τ sig) → Buf (Elt Ideal) ℓ) (ρ : Dev nD → PrngReg)
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 1]
    ∧ win0_5.index t = ![t.val, 2]
    ∧ win0_6.index t = ![t.val, 0]
    ∧ win0_7.index t = ![t.val, 0]
    ∧ win0_8.index t = ![0, 0]
    ∧ win0_9.index t = ![0, 0]
    ∧ win0_10.index t = ![t.val, 0]
    ∧ win0_11.index t = ![t.val, 0]
    ∧ win0_12.index t = ![0, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![0, t.val, 0, 0]
    ∧ win0_19.index t = ![t.val, 0, 0] :=
  (by decide +kernel : ∀ t : Fin grid0.N, _)

section Entry
variable {F : FTy → Type} [FloatOps F] (mF : (ℓ : Loc nD τ sig) → Buf (Elt F) ℓ)

/-- The host's gate array, the gates between two columns of zeros. -/
theorem z_entry (c : Dev nD) : V mF c main_v2
    = concatenate S4096x4096 1
      [⟨S4096x1024, broadcastInDim S4096x1024 ![] Facts₀.bcast_S_S4096x1024 (constant S_ .f32 0x00000000#32)⟩,
       ⟨S4096x2048, mF ((c.tc : Thread nD τ).loc main_arg2)⟩,
       ⟨S4096x1024, broadcastInDim S4096x1024 ![] Facts₀.bcast_S_S4096x1024 (constant S_ .f32 0x00000000#32)⟩]
      Facts₀.concatenates_S4096x1024_S4096x2048_S4096x1024_S4096x4096_d1 := by
  rfl

end Entry
/-- The launch contents of the arguments. -/
abbrev OM (c : Dev nD) : Vec Ideal S4096x1024 .f32 := m ((c.tc : Thread nD τ).loc main_arg0)
abbrev OS (c : Dev nD) : Vec Ideal S4096x1024 .f32 := m ((c.tc : Thread nD τ).loc main_arg1)
abbrev GT (c : Dev nD) : Vec Ideal S4096x2048 .f32 := m ((c.tc : Thread nD τ).loc main_arg2)
abbrev WM (c : Dev nD) : Vec Ideal S1024x1024 .f32 := m ((c.tc : Thread nD τ).loc main_arg3)
abbrev WS (c : Dev nD) : Vec Ideal S1024x1024 .f32 := m ((c.tc : Thread nD τ).loc main_arg4)
abbrev WO (c : Dev nD) : Vec Ideal S1024x1024 .f32 := m ((c.tc : Thread nD τ).loc main_arg5)
abbrev G (c : Dev nD) : Vec Ideal S1x1024 .f32 := m ((c.tc : Thread nD τ).loc main_arg6)
abbrev DX (c : Dev nD) : Vec Ideal S4096x1024 .f32 := m ((c.tc : Thread nD τ).loc main_arg7)

/-- Row `p` of the block at point `t`, in the array. -/
abbrev row (t : Fin cfg0.N) (p : Fin 256) : Fin 4096 :=
  ⟨t.val * 256 + p.val, by have h : t.val < 16 := t.isLt.trans_eq N_0; omega⟩

/-- The forward values the kernel reads. -/
abbrev AU (c : Dev nD) : Vec Ideal S4096x1024 .f32 := MixRefIdeal.Read.val_main_v0 (OM m c) (WM m c)
abbrev BU (c : Dev nD) : Vec Ideal S4096x1024 .f32 := MixRefIdeal.Read.val_main_v1 (OS m c) (WS m c)
abbrev GA (c : Dev nD) (i : Fin 4096) (k : Fin 1024) : EReal := GT m c (ix2 i ⟨k.val, by omega⟩)
abbrev GB (c : Dev nD) (i : Fin 4096) (k : Fin 1024) : EReal := GT m c (ix2 i ⟨1024 + k.val, by omega⟩)
abbrev Y (c : Dev nD) : Vec Ideal S4096x1024 .f32 := MixRefIdeal.Read.val_main_v25 (OM m c) (OS m c) (GT m c) (WM m c) (WS m c) (WO m c)

theorem blk0 (c : Dev nD) (t : Fin cfg0.N) (p : Fin 256) (l : Fin 1024) :
    (iblk m c 0 t : Vec Ideal S256x1024 .f32) (ix2 p l) = DX m c (ix2 (row t p) l) := by
  blk_simp [iblk]
  rw [V_main_arg7]
  blk_ext [(idx t).1]

theorem blk1 (c : Dev nD) (t : Fin cfg0.N) (p : Fin 256) (l : Fin 1024) :
    (iblk m c 1 t : Vec Ideal S256x1024 .f32) (ix2 p l) = Y m c (ix2 (row t p) l) := by
  blk_simp [iblk]
  rw [show V m c main_v22 = Y m c from rfl]
  blk_ext [(idx t).2.1]

theorem blk2 (c : Dev nD) (t : Fin cfg0.N) (l : Fin 1024) :
    (iblk m c 2 t : Vec Ideal S1x1024 .f32) (ix2 0 l) = G m c (ix2 0 l) := by
  blk_simp [iblk]
  rw [V_main_arg6]
  blk_ext [(idx t).2.2.1]

theorem blk3 (c : Dev nD) (t : Fin cfg0.N) (p : Fin 1024) (l : Fin 1024) :
    (iblk m c 3 t : Vec Ideal S1024x1024 .bf16) (ix2 p l) = WO m c (ix2 p l) := by
  blk_simp [iblk]
  rw [show V m c main_v23 = WO m c from rfl]
  blk_ext [(idx t).2.2.2.1]

theorem blk6 (c : Dev nD) (t : Fin cfg0.N) (p : Fin 256) (l : Fin 1024) :
    (iblk m c 6 t : Vec Ideal S256x1024 .f32) (ix2 p l) = AU m c (ix2 (row t p) l) := by
  blk_simp [iblk]
  rw [show V m c main_v3 = AU m c from rfl]
  blk_ext [(idx t).2.2.2.2.2.2.1]

theorem blk7 (c : Dev nD) (t : Fin cfg0.N) (p : Fin 256) (l : Fin 1024) :
    (iblk m c 7 t : Vec Ideal S256x1024 .f32) (ix2 p l) = BU m c (ix2 (row t p) l) := by
  blk_simp [iblk]
  rw [show V m c main_v4 = BU m c from rfl]
  blk_ext [(idx t).2.2.2.2.2.2.2.1]

theorem blk8 (c : Dev nD) (t : Fin cfg0.N) (p : Fin 1024) (l : Fin 1024) :
    (iblk m c 8 t : Vec Ideal S1024x1024 .bf16) (ix2 p l) = WM m c (ix2 p l) := by
  blk_simp [iblk]
  rw [show V m c main_v24 = WM m c from rfl]
  blk_ext [(idx t).2.2.2.2.2.2.2.2.1]

theorem blk9 (c : Dev nD) (t : Fin cfg0.N) (p : Fin 1024) (l : Fin 1024) :
    (iblk m c 9 t : Vec Ideal S1024x1024 .bf16) (ix2 p l) = WS m c (ix2 p l) := by
  blk_simp [iblk]
  rw [show V m c main_v25 = WS m c from rfl]
  blk_ext [(idx t).2.2.2.2.2.2.2.2.2.1]

theorem blk10 (c : Dev nD) (t : Fin cfg0.N) (p : Fin 256) (l : Fin 1024) :
    (iblk m c 10 t : Vec Ideal S256x1024 .f32) (ix2 p l) = OM m c (ix2 (row t p) l) := by
  blk_simp [iblk]
  rw [V_main_arg0]
  blk_ext [(idx t).2.2.2.2.2.2.2.2.2.2.1]

theorem z_a (c : Dev nD) (i : Fin 4096) (k : Fin 1024) :
    (V m c main_v2 : Vec Ideal S4096x4096 .f32) (ix2 i ⟨1024 + k.val, by omega⟩) = GA m c i k := by
  rw [z_entry]
  pointwise
  rw [dif_pos (show k.val < 2048 by omega)]

theorem z_b (c : Dev nD) (i : Fin 4096) (k : Fin 1024) :
    (V m c main_v2 : Vec Ideal S4096x4096 .f32) (ix2 i ⟨2048 + k.val, by omega⟩) = GB m c i k := by
  rw [z_entry]
  pointwise
  rw [dif_neg (show ¬(2048 + k.val < 1024) by omega), dif_pos (show 2048 + k.val - 1024 < 2048 by omega)]
  exact congrArg _ (congrArg (ix2 i) (Fin.ext (show 2048 + k.val - 1024 = 1024 + k.val by omega)))

theorem blk4 (c : Dev nD) (t : Fin cfg0.N) (p : Fin 256) (l : Fin 1024) :
    (iblk m c 4 t : Vec Ideal S256x1024 .f32) (ix2 p l) = GA m c (row t p) l := by
  rw [← z_a]
  blk_simp [iblk]
  blk_ext [(idx t).2.2.2.2.1]

theorem blk5 (c : Dev nD) (t : Fin cfg0.N) (p : Fin 256) (l : Fin 1024) :
    (iblk m c 5 t : Vec Ideal S256x1024 .f32) (ix2 p l) = GB m c (row t p) l := by
  rw [← z_b]
  blk_simp [iblk]
  blk_ext [(idx t).2.2.2.2.2.1]

local notation "N₀" => Ideal.ofBits FTy.f32 0x44800000#32
local notation "e₀" => Ideal.ofBits FTy.f32 0x358637BD#32
local notation "h₀" => Ideal.ofBits FTy.f32 0xBF000000#32

/-- Row `i` of the norm's input, and of the cotangent times the gain. -/
def xr (c : Dev nD) (i : Fin 4096) (k : Fin 1024) : EReal := Y m c (ix2 i k)
def dr (c : Dev nD) (i : Fin 4096) (k : Fin 1024) : EReal := DX m c (ix2 i k) * G m c (ix2 0 k)

/-- The gradient at the norm's input, as the kernel computes it, and at the gates' sum. -/
def dd (c : Dev nD) (i : Fin 4096) (k : Fin 1024) : EReal := fac N₀ e₀ (xr m c i) * (dr m c i k - xr m c i k * fac N₀ e₀ (xr m c i)
        * Ideal.div (∑ k, dr m c i k * (xr m c i k * fac N₀ e₀ (xr m c i))) N₀)
def dy (c : Dev nD) (i : Fin 4096) (l : Fin 1024) : EReal := ∑ k, dd m c i k * WO m c (ix2 l k)

/-- A gate. -/
def gate (x : EReal) : EReal := Ideal.div 1 (1 + Ideal.exp (-x))

/-- The gradients at the two products, at the mixers' outputs, and the products the row sums add. -/
def da (c : Dev nD) (i : Fin 4096) (l : Fin 1024) : EReal := dy m c i l * gate (GA m c i l)
def db (c : Dev nD) (i : Fin 4096) (l : Fin 1024) : EReal := dy m c i l * gate (GB m c i l)
def dga (c : Dev nD) (i : Fin 4096) (l : Fin 1024) : EReal := dy m c i l * AU m c (ix2 i l) * gate (GA m c i l) * (1 - gate (GA m c i l))
def dgb (c : Dev nD) (i : Fin 4096) (l : Fin 1024) : EReal := dy m c i l * BU m c (ix2 i l) * gate (GB m c i l) * (1 - gate (GB m c i l))
def dom (c : Dev nD) (i : Fin 4096) (j : Fin 1024) : EReal := ∑ l, da m c i l * WM m c (ix2 j l)
def dos (c : Dev nD) (i : Fin 4096) (j : Fin 1024) : EReal := ∑ l, db m c i l * WS m c (ix2 j l)
def prod (c : Dev nD) (i : Fin 4096) (j : Fin 1024) : EReal := dom m c i j * OM m c (ix2 i j)

theorem p8 (c : Dev nD) (t : Fin cfg0.N) (p : Fin 256) (q : Fin 1024) : (k0_pay8 (F := Ideal) (iblk m c 0 t) (iblk m c 1 t) (iblk m c 2 t)) (ix2 p q) = dd m c (row t p) q := by
  pointwise [k0_pay8, k0_pay6, k0_pay5, k0_pay4]
  simp only [blk0, blk1, blk2]
  rfl

theorem p9 (c : Dev nD) (t : Fin cfg0.N) (p : Fin 256) (q : Fin 1024) : k0_pay9 (k0_pay8 (F := Ideal) (iblk m c 0 t) (iblk m c 1 t) (iblk m c 2 t)) (iblk m c 3 t) (ix2 p q) = dy m c (row t p) q := by
  pointwise [k0_pay9, dot_S256x1024_S1024x1024_S256x1024_1_1_0_0_n_n]
  simp only [p8, blk3]
  rfl

theorem p10 (c : Dev nD) (t : Fin cfg0.N) (p : Fin 256) (q : Fin 1024) : k0_pay10 (F := Ideal) (iblk m c 4 t) (ix2 p q) = gate (GA m c (row t p) q) := by
  pointwise [k0_pay10]
  simp only [blk4, Ideal.ofBits_zero_f32, zero_sub]
  rfl

theorem p11 (c : Dev nD) (t : Fin cfg0.N) (p : Fin 256) (q : Fin 1024) : k0_pay11 (F := Ideal) (iblk m c 5 t) (ix2 p q) = gate (GB m c (row t p) q) := by
  pointwise [k0_pay11]
  simp only [blk5, Ideal.ofBits_zero_f32, zero_sub]
  rfl

theorem p12 (c : Dev nD) (t : Fin cfg0.N) (p : Fin 256) (q : Fin 1024) : k0_pay12 (k0_pay8 (F := Ideal) (iblk m c 0 t) (iblk m c 1 t) (iblk m c 2 t)) (iblk m c 3 t) (iblk m c 4 t) (ix2 p q) = da m c (row t p) q := by
  pointwise [k0_pay12]
  simp only [p9, p10]
  rfl

theorem p13 (c : Dev nD) (t : Fin cfg0.N) (p : Fin 256) (q : Fin 1024) : k0_pay13 (k0_pay8 (F := Ideal) (iblk m c 0 t) (iblk m c 1 t) (iblk m c 2 t)) (iblk m c 3 t) (iblk m c 5 t) (ix2 p q) = db m c (row t p) q := by
  pointwise [k0_pay13]
  simp only [p9, p11]
  rfl

theorem p14 (c : Dev nD) (t : Fin cfg0.N) (p : Fin 256) (q : Fin 1024) : k0_pay14 (k0_pay8 (F := Ideal) (iblk m c 0 t) (iblk m c 1 t) (iblk m c 2 t)) (iblk m c 3 t) (iblk m c 4 t) (iblk m c 6 t) (ix2 p q) = dga m c (row t p) q := by
  pointwise [k0_pay14]
  simp only [p9, p10, blk6]
  rfl

theorem p15 (c : Dev nD) (t : Fin cfg0.N) (p : Fin 256) (q : Fin 1024) : k0_pay15 (k0_pay9 (k0_pay8 (F := Ideal) (iblk m c 0 t) (iblk m c 1 t) (iblk m c 2 t)) (iblk m c 3 t)) (k0_pay11 (F := Ideal) (iblk m c 5 t)) (iblk m c 7 t) (ix2 p q) = dgb m c (row t p) q := by
  pointwise [k0_pay15]
  simp only [p9, p11, blk7]
  rfl

theorem p16 (c : Dev nD) (t : Fin cfg0.N) (p : Fin 256) (q : Fin 1024) : k0_pay16 (k0_pay12 (k0_pay8 (F := Ideal) (iblk m c 0 t) (iblk m c 1 t) (iblk m c 2 t)) (iblk m c 3 t) (iblk m c 4 t)) (iblk m c 8 t) (ix2 p q) = dom m c (row t p) q := by
  pointwise [k0_pay16, dot_S256x1024_S1024x1024_S256x1024_1_1_0_0_n_n]
  simp only [p12, blk8]
  rfl

theorem p17 (c : Dev nD) (t : Fin cfg0.N) (p : Fin 256) (q : Fin 1024) : k0_pay17 (k0_pay13 (k0_pay8 (F := Ideal) (iblk m c 0 t) (iblk m c 1 t) (iblk m c 2 t)) (iblk m c 3 t) (iblk m c 5 t)) (iblk m c 9 t) (ix2 p q) = dos m c (row t p) q := by
  pointwise [k0_pay17, dot_S256x1024_S1024x1024_S256x1024_1_1_0_0_n_n]
  simp only [p13, blk9]
  rfl

theorem p18 (c : Dev nD) (t : Fin cfg0.N) (p : Fin 256) (q : Fin 1024) : k0_pay18 (k0_pay12 (k0_pay8 (F := Ideal) (iblk m c 0 t) (iblk m c 1 t) (iblk m c 2 t)) (iblk m c 3 t) (iblk m c 4 t)) (iblk m c 8 t) (iblk m c 10 t) (ix2 p q) = prod m c (row t p) q := by
  pointwise [k0_pay18]
  simp only [p16, blk10]
  rfl

theorem outs11 (c : Dev nD) (t : Fin cfg0.N) (p : Fin 256) (q : Fin 1024) :
    ((outsAt0 m c t.val t.isLt).1 : Vec Ideal S256x1024 .bf16) (ix2 p q) = dd m c (row t p) q := by
  by_cases h0 : t.val % 16 = 0
  · rw [outsAt0_A m c t h0]; frame_out
    exact p8 m c t p q
  · rw [outsAt0_B m c t h0]; frame_out
    exact p8 m c t p q

theorem arr11 (c : Dev nD) : ((dats m 0 c).arrAt 11 cfg0.N : Vec Ideal S4096x1024 .bf16) = fun y => dd m c (y 0) (y 1) := by
  refine (dats m 0 c).arrAt_eq_of_covers (w := 11) _ (by decide +kernel) fun t hf y => ?_
  obtain ⟨p, q, rfl⟩ : ∃ (p : Fin 256) (q : Fin 1024), y = ix2 p q := ⟨y 0, y 1, eq_ix2 y⟩
  blk_simp
  rw [after0_11, outs11]
  have hi : ((cfg0.win 11).blk t).view.emb (ix2 p q) = (ix2 (row t p) q : S4096x1024.Idx) := by
    funext d
    apply Fin.ext
    have e := (idx t).2.2.2.2.2.2.2.2.2.2.2.1
    fin_cases d <;> blk_simp <;> rw [e]
    · rfl
    · show 0 * 1024 + q.val = q.val
      omega
  rw [show (win0_11.blk t).view.emb (ix2 p q) = (ix2 (row t p) q : S4096x1024.Idx) from hi]
  rfl

theorem outs13 (c : Dev nD) (t : Fin cfg0.N) (p : Fin 256) (q : Fin 1024) :
    ((outsAt0 m c t.val t.isLt).2.2.1 : Vec Ideal S256x1024 .bf16) (ix2 p q) = da m c (row t p) q := by
  by_cases h0 : t.val % 16 = 0
  · rw [outsAt0_A m c t h0]; frame_out
    exact p12 m c t p q
  · rw [outsAt0_B m c t h0]; frame_out
    exact p12 m c t p q

theorem arr13 (c : Dev nD) : ((dats m 0 c).arrAt 13 cfg0.N : Vec Ideal S4096x1024 .bf16) = fun y => da m c (y 0) (y 1) := by
  refine (dats m 0 c).arrAt_eq_of_covers (w := 13) _ (by decide +kernel) fun t hf y => ?_
  obtain ⟨p, q, rfl⟩ : ∃ (p : Fin 256) (q : Fin 1024), y = ix2 p q := ⟨y 0, y 1, eq_ix2 y⟩
  blk_simp
  rw [after0_13, outs13]
  have hi : ((cfg0.win 13).blk t).view.emb (ix2 p q) = (ix2 (row t p) q : S4096x1024.Idx) := by
    funext d
    apply Fin.ext
    have e := (idx t).2.2.2.2.2.2.2.2.2.2.2.2.2.1
    fin_cases d <;> blk_simp <;> rw [e]
    · rfl
    · show 0 * 1024 + q.val = q.val
      omega
  rw [show (win0_13.blk t).view.emb (ix2 p q) = (ix2 (row t p) q : S4096x1024.Idx) from hi]
  rfl

theorem outs14 (c : Dev nD) (t : Fin cfg0.N) (p : Fin 256) (q : Fin 1024) :
    ((outsAt0 m c t.val t.isLt).2.2.2.1 : Vec Ideal S256x1024 .bf16) (ix2 p q) = db m c (row t p) q := by
  by_cases h0 : t.val % 16 = 0
  · rw [outsAt0_A m c t h0]; frame_out
    exact p13 m c t p q
  · rw [outsAt0_B m c t h0]; frame_out
    exact p13 m c t p q

theorem arr14 (c : Dev nD) : ((dats m 0 c).arrAt 14 cfg0.N : Vec Ideal S4096x1024 .bf16) = fun y => db m c (y 0) (y 1) := by
  refine (dats m 0 c).arrAt_eq_of_covers (w := 14) _ (by decide +kernel) fun t hf y => ?_
  obtain ⟨p, q, rfl⟩ : ∃ (p : Fin 256) (q : Fin 1024), y = ix2 p q := ⟨y 0, y 1, eq_ix2 y⟩
  blk_simp
  rw [after0_14, outs14]
  have hi : ((cfg0.win 14).blk t).view.emb (ix2 p q) = (ix2 (row t p) q : S4096x1024.Idx) := by
    funext d
    apply Fin.ext
    have e := (idx t).2.2.2.2.2.2.2.2.2.2.2.2.2.2.1
    fin_cases d <;> blk_simp <;> rw [e]
    · rfl
    · show 0 * 1024 + q.val = q.val
      omega
  rw [show (win0_14.blk t).view.emb (ix2 p q) = (ix2 (row t p) q : S4096x1024.Idx) from hi]
  rfl

theorem outs15 (c : Dev nD) (t : Fin cfg0.N) (p : Fin 256) (q : Fin 1024) :
    ((outsAt0 m c t.val t.isLt).2.2.2.2.1 : Vec Ideal S256x1024 .bf16) (ix2 p q) = dga m c (row t p) q := by
  by_cases h0 : t.val % 16 = 0
  · rw [outsAt0_A m c t h0]; frame_out
    exact p14 m c t p q
  · rw [outsAt0_B m c t h0]; frame_out
    exact p14 m c t p q

theorem arr15 (c : Dev nD) : ((dats m 0 c).arrAt 15 cfg0.N : Vec Ideal S4096x1024 .bf16) = fun y => dga m c (y 0) (y 1) := by
  refine (dats m 0 c).arrAt_eq_of_covers (w := 15) _ (by decide +kernel) fun t hf y => ?_
  obtain ⟨p, q, rfl⟩ : ∃ (p : Fin 256) (q : Fin 1024), y = ix2 p q := ⟨y 0, y 1, eq_ix2 y⟩
  blk_simp
  rw [after0_15, outs15]
  have hi : ((cfg0.win 15).blk t).view.emb (ix2 p q) = (ix2 (row t p) q : S4096x1024.Idx) := by
    funext d
    apply Fin.ext
    have e := (idx t).2.2.2.2.2.2.2.2.2.2.2.2.2.2.2.1
    fin_cases d <;> blk_simp <;> rw [e]
    · rfl
    · show 0 * 1024 + q.val = q.val
      omega
  rw [show (win0_15.blk t).view.emb (ix2 p q) = (ix2 (row t p) q : S4096x1024.Idx) from hi]
  rfl

theorem outs16 (c : Dev nD) (t : Fin cfg0.N) (p : Fin 256) (q : Fin 1024) :
    ((outsAt0 m c t.val t.isLt).2.2.2.2.2.1 : Vec Ideal S256x1024 .bf16) (ix2 p q) = dgb m c (row t p) q := by
  by_cases h0 : t.val % 16 = 0
  · rw [outsAt0_A m c t h0]; frame_out
    exact p15 m c t p q
  · rw [outsAt0_B m c t h0]; frame_out
    exact p15 m c t p q

theorem arr16 (c : Dev nD) : ((dats m 0 c).arrAt 16 cfg0.N : Vec Ideal S4096x1024 .bf16) = fun y => dgb m c (y 0) (y 1) := by
  refine (dats m 0 c).arrAt_eq_of_covers (w := 16) _ (by decide +kernel) fun t hf y => ?_
  obtain ⟨p, q, rfl⟩ : ∃ (p : Fin 256) (q : Fin 1024), y = ix2 p q := ⟨y 0, y 1, eq_ix2 y⟩
  blk_simp
  rw [after0_16, outs16]
  have hi : ((cfg0.win 16).blk t).view.emb (ix2 p q) = (ix2 (row t p) q : S4096x1024.Idx) := by
    funext d
    apply Fin.ext
    have e := (idx t).2.2.2.2.2.2.2.2.2.2.2.2.2.2.2.2.1
    fin_cases d <;> blk_simp <;> rw [e]
    · rfl
    · show 0 * 1024 + q.val = q.val
      omega
  rw [show (win0_16.blk t).view.emb (ix2 p q) = (ix2 (row t p) q : S4096x1024.Idx) from hi]
  rfl

theorem outs17 (c : Dev nD) (t : Fin cfg0.N) (p : Fin 256) (q : Fin 1024) :
    ((outsAt0 m c t.val t.isLt).2.2.2.2.2.2.1 : Vec Ideal S256x1024 .f32) (ix2 p q) = dos m c (row t p) q := by
  by_cases h0 : t.val % 16 = 0
  · rw [outsAt0_A m c t h0]; frame_out
    exact p17 m c t p q
  · rw [outsAt0_B m c t h0]; frame_out
    exact p17 m c t p q

theorem arr17 (c : Dev nD) : ((dats m 0 c).arrAt 17 cfg0.N : Vec Ideal S4096x1024 .f32) = fun y => dos m c (y 0) (y 1) := by
  refine (dats m 0 c).arrAt_eq_of_covers (w := 17) _ (by decide +kernel) fun t hf y => ?_
  obtain ⟨p, q, rfl⟩ : ∃ (p : Fin 256) (q : Fin 1024), y = ix2 p q := ⟨y 0, y 1, eq_ix2 y⟩
  blk_simp
  rw [after0_17, outs17]
  have hi : ((cfg0.win 17).blk t).view.emb (ix2 p q) = (ix2 (row t p) q : S4096x1024.Idx) := by
    funext d
    apply Fin.ext
    have e := (idx t).2.2.2.2.2.2.2.2.2.2.2.2.2.2.2.2.2.1
    fin_cases d <;> blk_simp <;> rw [e]
    · rfl
    · show 0 * 1024 + q.val = q.val
      omega
  rw [show (win0_17.blk t).view.emb (ix2 p q) = (ix2 (row t p) q : S4096x1024.Idx) from hi]
  rfl

/-- One point's addend to the gain's gradient. -/
def term12 (c : Dev nD) (t : Fin cfg0.N) (q : Fin 1024) : EReal :=
  ∑ p : Fin 256, DX m c (ix2 (row t p) q) * (xr m c (row t p) q * fac N₀ e₀ (xr m c (row t p)))

theorem outs12_A (c : Dev nD) (t : Fin cfg0.N) (h0 : t.val % 16 = 0) (q : Fin 1024) :
    ((outsAt0 m c t.val t.isLt).2.1 : Vec Ideal S1x1024 .f32) (ix2 0 q) = 0 + term12 m c t q := by
  rw [outsAt0_A m c t h0]; frame_out
  pointwise [k0_pay7, k0_pay6, k0_pay5, k0_pay4, k0_pay3]
  simp only [blk0, blk1]
  rfl

theorem outs12_B (c : Dev nD) (t : Fin cfg0.N) (h0 : ¬t.val % 16 = 0) (q : Fin 1024) :
    ((outsAt0 m c t.val t.isLt).2.1 : Vec Ideal S1x1024 .f32) (ix2 0 q)
      = ((outsAt0 m c (t.val - 1) (Nat.lt_of_le_of_lt (Nat.sub_le _ _) t.isLt)).2.1 : Vec Ideal S1x1024 .f32) (ix2 0 q) + term12 m c t q := by
  rw [outsAt0_B m c t h0]; frame_out
  pointwise [k0_pay7, k0_pay6, k0_pay5, k0_pay4]
  simp only [blk0, blk1]
  rfl

theorem arr12 (c : Dev nD) : ((dats m 0 c).arrAt 12 cfg0.N : Vec Ideal S1x1024 .f32)
    = fun y => ∑ i : Fin 4096, DX m c (ix2 i (y 1)) * (xr m c i (y 1) * fac N₀ e₀ (xr m c i)) := by
  refine (dats m 0 c).arrAt_eq_of_after_last 12 t0_15 (by decide +kernel) _ fun j => ?_
  blk_simp
  rw [after0_12]
  obtain ⟨z, q, rfl⟩ : ∃ (p : Fin 1) (q : Fin 1024), j = ix2 p q := ⟨j 0, j 1, eq_ix2 j⟩
  obtain rfl : z = 0 := Subsingleton.elim _ _
  have hs := Pipeline.eq_sum_fin_of_reset_step_apply_last (fun n h q => ((outsAt0 m c n h).2.1 : Vec Ideal S1x1024 .f32) (ix2 0 q)) 16 (fun _ => 0) (term12 m c)
    (fun t h q => outs12_A m c t h q) (fun t h q => outs12_B m c t h q) (le_of_eq N_0) t0_15 rfl q
  refine hs.trans ?_
  rw [zero_add]
  exact sum_fin_eq_blocks 16 256 (fun i : Fin 4096 => DX m c (ix2 i q) * (xr m c i q * fac N₀ e₀ (xr m c i)))
    (f := fun t => term12 m c t q) N_0 rfl fun t => rfl

/-- The row sums a point stores for one head pair: two rows of sums over 64 columns, then rows of zeros. -/
def sums (v : FVec Ideal S256x1024 .f32) (o : ℕ) (ho : o + 128 ≤ 1024) (s : Fin 8) (p : Fin 256) : EReal :=
  if s.val = 0 then ∑ l : Fin 64, v (ix2 p ⟨o + l.val, by omega⟩) else if s.val = 1 then ∑ l : Fin 64, v (ix2 p ⟨o + (64 + l.val), by omega⟩) else 0

theorem pick (a b : EReal) (s : Fin 8) : Scalar.select (IntOp.cmpi .eq (BitVec.ofNat 32 s.val) 0#32) a (Scalar.select (IntOp.cmpi .eq (BitVec.ofNat 32 s.val) 1#32) b 0)
    = if s.val = 0 then a else if s.val = 1 then b else 0 := by
  fin_cases s <;> rfl

/-- The rows of sums in the claim's result. -/
def dl (c : Dev nD) (g : Fin 8) (i : Fin 4096) (s : Fin 8) : EReal :=
  if s.val = 0 then ∑ l : Fin 64, prod m c i ⟨128 * g.val + l.val, by omega⟩ else if s.val = 1 then ∑ l : Fin 64, prod m c i ⟨128 * g.val + (64 + l.val), by omega⟩ else 0

theorem dl_0 (v60 : FVec Ideal S256x1024 .bf16) (v83 : Vec Ideal S1024x1024 .bf16) (v90 : Vec Ideal S256x1024 .f32) (s : Fin 8) (p : Fin 256) :
    k0_pay23 (k0_pay20 v60 v83 v90) k0_pay21 (k0_pay22 v60 v83 v90) (ix4 0 0 s p) = sums (k0_pay18 v60 v83 v90) 0 (by norm_num) s p := by
  pointwise [k0_pay23, k0_pay20, k0_pay19, k0_pay21, k0_pay22]
  refine (pick _ _ s).trans ?_
  simp only [sums, Nat.zero_add]

theorem dl_1 (v : FVec Ideal S256x1024 .f32) (s : Fin 8) (p : Fin 256) : k0_pay25 v (iota .tc S8x256 32 [0] iota_S8x256_d0_w32) (ix4 0 0 s p) = sums v 128 (by norm_num) s p := by
  pointwise [k0_pay25]
  exact pick _ _ s

theorem dl_2 (v : FVec Ideal S256x1024 .f32) (s : Fin 8) (p : Fin 256) : k0_pay28 v (iota .tc S8x256 32 [0] iota_S8x256_d0_w32) (ix4 0 0 s p) = sums v 256 (by norm_num) s p := by
  pointwise [k0_pay28]
  exact pick _ _ s

theorem dl_3 (v : FVec Ideal S256x1024 .f32) (s : Fin 8) (p : Fin 256) : k0_pay35 (iota .tc S8x256 32 [0] iota_S8x256_d0_w32) (k0_pay31 v) (k0_pay32 v) (k0_pay33 (iota .tc S8x256 32 [0] iota_S8x256_d0_w32)) k0_pay34 (ix4 0 0 s p) = sums v 384 (by norm_num) s p := by
  pointwise [k0_pay35, k0_pay31, k0_pay32, k0_pay30, k0_pay33, k0_pay34]
  exact pick _ _ s

theorem dl_4 (v : FVec Ideal S256x1024 .f32) (s : Fin 8) (p : Fin 256) : k0_pay37 v (iota .tc S8x256 32 [0] iota_S8x256_d0_w32) (ix4 0 0 s p) = sums v 512 (by norm_num) s p := by
  pointwise [k0_pay37]
  exact pick _ _ s

theorem dl_5 (v : FVec Ideal S256x1024 .f32) (s : Fin 8) (p : Fin 256) : k0_pay40 v (iota .tc S8x256 32 [0] iota_S8x256_d0_w32) (ix4 0 0 s p) = sums v 640 (by norm_num) s p := by
  pointwise [k0_pay40]
  exact pick _ _ s

theorem dl_6 (v : FVec Ideal S256x1024 .f32) (s : Fin 8) (p : Fin 256) : k0_pay45 (iota .tc S8x256 32 [0] iota_S8x256_d0_w32) (k0_pay43 v) (k0_pay44 v) (ix4 0 0 s p) = sums v 768 (by norm_num) s p := by
  pointwise [k0_pay45, k0_pay43, k0_pay42, k0_pay44]
  exact pick _ _ s

theorem dl_7 (v : FVec Ideal S256x1024 .f32) (s : Fin 8) (p : Fin 256) : k0_pay1 (k0_pay47 v (iota .tc S8x256 32 [0] iota_S8x256_d0_w32)) (ix4 0 0 s p) = sums v 896 (by norm_num) s p := by
  pointwise [k0_pay1, k0_pay47]
  exact pick _ _ s

theorem dt_0 (v : FVec Ideal S256x1024 .f32) (l : Fin 128) (p : Fin 256) : k0_pay24 v (ix3 0 l p) = v (ix2 p ⟨0 + l.val, by omega⟩) := by
  pointwise [k0_pay24]

theorem dt_1 (v : FVec Ideal S256x1024 .f32) (l : Fin 128) (p : Fin 256) : k0_pay27 (k0_pay26 v) (ix3 0 l p) = v (ix2 p ⟨128 + l.val, by omega⟩) := by
  pointwise [k0_pay27, k0_pay26]

theorem dt_2 (v : FVec Ideal S256x1024 .f32) (l : Fin 128) (p : Fin 256) : k0_pay29 v (ix3 0 l p) = v (ix2 p ⟨256 + l.val, by omega⟩) := by
  pointwise [k0_pay29]

theorem dt_3 (v : FVec Ideal S256x1024 .f32) (l : Fin 128) (p : Fin 256) : k0_pay36 v (ix3 0 l p) = v (ix2 p ⟨384 + l.val, by omega⟩) := by
  pointwise [k0_pay36]

theorem dt_4 (v : FVec Ideal S256x1024 .f32) (l : Fin 128) (p : Fin 256) : k0_pay39 (k0_pay38 v) (ix3 0 l p) = v (ix2 p ⟨512 + l.val, by omega⟩) := by
  pointwise [k0_pay39, k0_pay38]

theorem dt_5 (v : FVec Ideal S256x1024 .f32) (l : Fin 128) (p : Fin 256) : k0_pay41 v (ix3 0 l p) = v (ix2 p ⟨640 + l.val, by omega⟩) := by
  pointwise [k0_pay41]

theorem dt_6 (v : FVec Ideal S256x1024 .f32) (l : Fin 128) (p : Fin 256) : k0_pay46 v (ix3 0 l p) = v (ix2 p ⟨768 + l.val, by omega⟩) := by
  pointwise [k0_pay46]

theorem dt_7 (v : FVec Ideal S256x1024 .f32) (l : Fin 128) (p : Fin 256) : k0_pay2 v (ix3 0 l p) = v (ix2 p ⟨896 + l.val, by omega⟩) := by
  pointwise [k0_pay2]

theorem sums_eq (c : Dev nD) (t : Fin cfg0.N) (g s : Fin 8) (p : Fin 256) (n : ℕ) (hn : n + 128 ≤ 1024) (h : n = 128 * g.val) :
    sums (k0_pay18 (k0_pay12 (k0_pay8 (F := Ideal) (iblk m c 0 t) (iblk m c 1 t) (iblk m c 2 t)) (iblk m c 3 t) (iblk m c 4 t)) (iblk m c 8 t) (iblk m c 10 t)) n hn s p = dl m c g (row t p) s := by
  subst h
  simp only [sums, p18]
  rfl

theorem at4 (x : S1x1x8x256.Idx) (s : Fin 8) (p : Fin 256) (h2 : s.val = (x 2).val) (h3 : p.val = (x 3).val) : x = ix4 0 0 s p := by
  funext a
  apply Fin.ext
  fin_cases a
  · have h : (x 0).val < 1 := (x 0).isLt
    exact Nat.lt_one_iff.mp h
  · have h : (x 1).val < 1 := (x 1).isLt
    exact Nat.lt_one_iff.mp h
  · exact h2.symm
  · exact h3.symm

theorem at3 (x : S1x128x256.Idx) (l : Fin 128) (p : Fin 256) (h1 : l.val = (x 1).val) (h2 : p.val = (x 2).val) : x = ix3 0 l p := by
  funext a
  apply Fin.ext
  fin_cases a
  · have h : (x 0).val < 1 := (x 0).isLt
    exact Nat.lt_one_iff.mp h
  · exact h1.symm
  · exact h2.symm

theorem outs18 (c : Dev nD) (t : Fin cfg0.N) (g s : Fin 8) (p : Fin 256) :
    ((outsAt0 m c t.val t.isLt).2.2.2.2.2.2.2.1 : Vec Ideal S8x1x8x256 .f32) (ix4 g 0 s p) = dl m c g (row t p) s := by
  by_cases hc : t.val % 16 = 0
  · rw [outsAt0_A m c t hc]; frame_out
    canon_tiles x h
    · rw [at4 x s p h2 h3]
      exact (dl_7 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 896 (by norm_num) (by have e : g.val = 7 + (x 0).val := h0; omega))
    · rw [at4 x s p h2 h3]
      exact (dl_6 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 768 (by norm_num) (by have e : g.val = 6 + (x 0).val := h0; omega))
    · rw [at4 x s p h2 h3]
      exact (dl_5 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 640 (by norm_num) (by have e : g.val = 5 + (x 0).val := h0; omega))
    · rw [at4 x s p h2 h3]
      exact (dl_4 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 512 (by norm_num) (by have e : g.val = 4 + (x 0).val := h0; omega))
    · rw [at4 x s p h2 h3]
      exact (dl_3 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 384 (by norm_num) (by have e : g.val = 3 + (x 0).val := h0; omega))
    · rw [at4 x s p h2 h3]
      exact (dl_2 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 256 (by norm_num) (by have e : g.val = 2 + (x 0).val := h0; omega))
    · rw [at4 x s p h2 h3]
      exact (dl_1 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 128 (by norm_num) (by have e : g.val = 1 + (x 0).val := h0; omega))
    · rw [at4 x s p h2 h3]
      exact (dl_0 (k0_pay12 (k0_pay8 (F := Ideal) (iblk m c 0 t) (iblk m c 1 t) (iblk m c 2 t)) (iblk m c 3 t) (iblk m c 4 t)) (iblk m c 8 t) (iblk m c 10 t) s p).trans (sums_eq m c t g s p 0 (by norm_num) (by have e : g.val = (x 0).val := h0; omega))
  · rw [outsAt0_B m c t hc]; frame_out
    canon_tiles x h
    · rw [at4 x s p h2 h3]
      exact (dl_7 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 896 (by norm_num) (by have e : g.val = 7 + (x 0).val := h0; omega))
    · rw [at4 x s p h2 h3]
      exact (dl_6 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 768 (by norm_num) (by have e : g.val = 6 + (x 0).val := h0; omega))
    · rw [at4 x s p h2 h3]
      exact (dl_5 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 640 (by norm_num) (by have e : g.val = 5 + (x 0).val := h0; omega))
    · rw [at4 x s p h2 h3]
      exact (dl_4 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 512 (by norm_num) (by have e : g.val = 4 + (x 0).val := h0; omega))
    · rw [at4 x s p h2 h3]
      exact (dl_3 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 384 (by norm_num) (by have e : g.val = 3 + (x 0).val := h0; omega))
    · rw [at4 x s p h2 h3]
      exact (dl_2 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 256 (by norm_num) (by have e : g.val = 2 + (x 0).val := h0; omega))
    · rw [at4 x s p h2 h3]
      exact (dl_1 (k0_pay18 (k0_pay12 (k0_pay8 (F := Ideal) (iblk m c 0 t) (iblk m c 1 t) (iblk m c 2 t)) (iblk m c 3 t) (iblk m c 4 t)) (iblk m c 8 t) (iblk m c 10 t)) s p).trans (sums_eq m c t g s p 128 (by norm_num) (by have e : g.val = 1 + (x 0).val := h0; omega))
    · rw [at4 x s p h2 h3]
      exact (dl_0 (k0_pay12 (k0_pay8 (F := Ideal) (iblk m c 0 t) (iblk m c 1 t) (iblk m c 2 t)) (iblk m c 3 t) (iblk m c 4 t)) (iblk m c 8 t) (iblk m c 10 t) s p).trans (sums_eq m c t g s p 0 (by norm_num) (by have e : g.val = (x 0).val := h0; omega))

theorem outs19 (c : Dev nD) (t : Fin cfg0.N) (q : Fin 1024) (p : Fin 256) :
    ((outsAt0 m c t.val t.isLt).2.2.2.2.2.2.2.2 : Vec Ideal S1x1024x256 .bf16) (ix3 0 q p) = dom m c (row t p) q := by
  by_cases hc : t.val % 16 = 0
  · rw [outsAt0_A m c t hc]; frame_out
    canon_tiles x h
    · have e : q.val = 896 + (x 1).val := h1
      rw [at3 x ⟨(x 1).val, x1_lt⟩ p rfl h2]
      refine (dt_7 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 896 + (x 1).val = q.val; omega))
    · have e : q.val = 768 + (x 1).val := h1
      rw [at3 x ⟨(x 1).val, x1_lt⟩ p rfl h2]
      refine (dt_6 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 768 + (x 1).val = q.val; omega))
    · have e : q.val = 640 + (x 1).val := h1
      rw [at3 x ⟨(x 1).val, x1_lt⟩ p rfl h2]
      refine (dt_5 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 640 + (x 1).val = q.val; omega))
    · have e : q.val = 512 + (x 1).val := h1
      rw [at3 x ⟨(x 1).val, x1_lt⟩ p rfl h2]
      refine (dt_4 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 512 + (x 1).val = q.val; omega))
    · have e : q.val = 384 + (x 1).val := h1
      rw [at3 x ⟨(x 1).val, x1_lt⟩ p rfl h2]
      refine (dt_3 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 384 + (x 1).val = q.val; omega))
    · have e : q.val = 256 + (x 1).val := h1
      rw [at3 x ⟨(x 1).val, x1_lt⟩ p rfl h2]
      refine (dt_2 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 256 + (x 1).val = q.val; omega))
    · have e : q.val = 128 + (x 1).val := h1
      rw [at3 x ⟨(x 1).val, x1_lt⟩ p rfl h2]
      refine (dt_1 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 128 + (x 1).val = q.val; omega))
    · have e : q.val = (x 1).val := h1
      rw [at3 x ⟨(x 1).val, x1_lt⟩ p rfl h2]
      refine (dt_0 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 0 + (x 1).val = q.val; omega))
  · rw [outsAt0_B m c t hc]; frame_out
    canon_tiles x h
    · have e : q.val = 896 + (x 1).val := h1
      rw [at3 x ⟨(x 1).val, x1_lt⟩ p rfl h2]
      refine (dt_7 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 896 + (x 1).val = q.val; omega))
    · have e : q.val = 768 + (x 1).val := h1
      rw [at3 x ⟨(x 1).val, x1_lt⟩ p rfl h2]
      refine (dt_6 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 768 + (x 1).val = q.val; omega))
    · have e : q.val = 640 + (x 1).val := h1
      rw [at3 x ⟨(x 1).val, x1_lt⟩ p rfl h2]
      refine (dt_5 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 640 + (x 1).val = q.val; omega))
    · have e : q.val = 512 + (x 1).val := h1
      rw [at3 x ⟨(x 1).val, x1_lt⟩ p rfl h2]
      refine (dt_4 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 512 + (x 1).val = q.val; omega))
    · have e : q.val = 384 + (x 1).val := h1
      rw [at3 x ⟨(x 1).val, x1_lt⟩ p rfl h2]
      refine (dt_3 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 384 + (x 1).val = q.val; omega))
    · have e : q.val = 256 + (x 1).val := h1
      rw [at3 x ⟨(x 1).val, x1_lt⟩ p rfl h2]
      refine (dt_2 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 256 + (x 1).val = q.val; omega))
    · have e : q.val = 128 + (x 1).val := h1
      rw [at3 x ⟨(x 1).val, x1_lt⟩ p rfl h2]
      refine (dt_1 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 128 + (x 1).val = q.val; omega))
    · have e : q.val = (x 1).val := h1
      rw [at3 x ⟨(x 1).val, x1_lt⟩ p rfl h2]
      refine (dt_0 (k0_pay16 (k0_pay12 (k0_pay8 (F := Ideal) (iblk m c 0 t) (iblk m c 1 t) (iblk m c 2 t)) (iblk m c 3 t) (iblk m c 4 t)) (iblk m c 8 t)) _ p).trans ?_
      rw [p16]
      exact congrArg _ (Fin.ext (by show 0 + (x 1).val = q.val; omega))

/-- Row `p` of row block `t`. -/
abbrev rowOf (t : Fin 16) (p : Fin 256) : Fin 4096 := ⟨t.val * 256 + p.val, by omega⟩

theorem arr18 (c : Dev nD) : ((dats m 0 c).arrAt 18 cfg0.N : Vec Ideal S8x16x8x256 .f32) = fun y => dl m c (y 0) (rowOf (y 1) (y 3)) (y 2) := by
  refine (dats m 0 c).arrAt_eq_of_covers (w := 18) _ (by decide +kernel) fun t hf y => ?_
  obtain ⟨g, z, s, p, rfl⟩ : ∃ (g : Fin 8) (z : Fin 1) (s : Fin 8) (p : Fin 256), y = ix4 g z s p := ⟨y 0, y 1, y 2, y 3, eq_ix4 y⟩
  obtain rfl : z = 0 := Subsingleton.elim _ _
  blk_simp
  rw [after0_18, outs18]
  have hi : (win0_18.blk t).view.emb (ix4 g 0 s p) = (ix4 g ⟨t.val, t.isLt.trans_eq N_0⟩ s p : S8x16x8x256.Idx) := by
    funext d
    apply Fin.ext
    have e := (idx t).2.2.2.2.2.2.2.2.2.2.2.2.2.2.2.2.2.2.1
    fin_cases d <;> blk_simp <;> rw [e]
    · show 0 * 8 + g.val = g.val
      omega
    · rfl
    · show 0 * 8 + s.val = s.val
      omega
    · show 0 * 256 + p.val = p.val
      omega
  rw [hi]
  rfl

theorem arr19 (c : Dev nD) : ((dats m 0 c).arrAt 19 cfg0.N : Vec Ideal S16x1024x256 .bf16) = fun y => dom m c (rowOf (y 0) (y 2)) (y 1) := by
  refine (dats m 0 c).arrAt_eq_of_covers (w := 19) _ (by decide +kernel) fun t hf y => ?_
  obtain ⟨z, q, p, rfl⟩ : ∃ (z : Fin 1) (q : Fin 1024) (p : Fin 256), y = ix3 z q p := ⟨y 0, y 1, y 2, eq_ix3 y⟩
  obtain rfl : z = 0 := Subsingleton.elim _ _
  blk_simp
  rw [after0_19, outs19]
  have hi : (win0_19.blk t).view.emb (ix3 0 q p) = (ix3 ⟨t.val, t.isLt.trans_eq N_0⟩ q p : S16x1024x256.Idx) := by
    funext d
    apply Fin.ext
    have e := (idx t).2.2.2.2.2.2.2.2.2.2.2.2.2.2.2.2.2.2.2
    fin_cases d <;> blk_simp <;> rw [e]
    · rfl
    · show 0 * 1024 + q.val = q.val
      omega
    · show 0 * 256 + p.val = p.val
      omega
  rw [hi]
  rfl

theorem ref_ga (c : Dev nD) (i : Fin 4096) (l : Fin 1024) : MixRefIdeal.Read.val_main_v9 (GT m c) (ix2 i l) = gate (GA m c i l) := by
  pointwise [MixRefIdeal.Read.val_main_v2, MixRefIdeal.Read.val_main_v3, MixRefIdeal.Read.val_main_v4, MixRefIdeal.Read.val_main_v5, MixRefIdeal.Read.val_main_cst, MixRefIdeal.Read.val_main_v6, MixRefIdeal.Read.val_main_v7, MixRefIdeal.Read.val_main_cst_0, MixRefIdeal.Read.val_main_v8, MixRefIdeal.Read.val_main_v9, MixRefIdeal.Read.val_main_cst_1, MixRefIdeal.Read.val_main_v10, MixRefIdeal.Read.val_main_v11, MixRefIdeal.Read.val_main_v12, MixRefIdeal.Read.val_main_v13, MixRefIdeal.Read.val_main_v14, MixRefIdeal.Read.val_main_v15, MixRefIdeal.Read.val_main_cst_2, MixRefIdeal.Read.val_main_v16, MixRefIdeal.Read.val_main_v17, MixRefIdeal.Read.val_main_cst_3, MixRefIdeal.Read.val_main_v18, MixRefIdeal.Read.val_main_v19, MixRefIdeal.Read.val_main_cst_4, MixRefIdeal.Read.val_main_v20, MixRefIdeal.Read.val_main_v21, MixRefIdeal.Read.val_main_v22]
  rfl

theorem ref_gb (c : Dev nD) (i : Fin 4096) (l : Fin 1024) : MixRefIdeal.Read.val_main_v19 (GT m c) (ix2 i l) = gate (GB m c i l) := by
  pointwise [MixRefIdeal.Read.val_main_v2, MixRefIdeal.Read.val_main_v3, MixRefIdeal.Read.val_main_v4, MixRefIdeal.Read.val_main_v5, MixRefIdeal.Read.val_main_cst, MixRefIdeal.Read.val_main_v6, MixRefIdeal.Read.val_main_v7, MixRefIdeal.Read.val_main_cst_0, MixRefIdeal.Read.val_main_v8, MixRefIdeal.Read.val_main_v9, MixRefIdeal.Read.val_main_cst_1, MixRefIdeal.Read.val_main_v10, MixRefIdeal.Read.val_main_v11, MixRefIdeal.Read.val_main_v12, MixRefIdeal.Read.val_main_v13, MixRefIdeal.Read.val_main_v14, MixRefIdeal.Read.val_main_v15, MixRefIdeal.Read.val_main_cst_2, MixRefIdeal.Read.val_main_v16, MixRefIdeal.Read.val_main_v17, MixRefIdeal.Read.val_main_cst_3, MixRefIdeal.Read.val_main_v18, MixRefIdeal.Read.val_main_v19, MixRefIdeal.Read.val_main_cst_4, MixRefIdeal.Read.val_main_v20, MixRefIdeal.Read.val_main_v21, MixRefIdeal.Read.val_main_v22]
  rfl

theorem ref_y (c : Dev nD) (i : Fin 4096) (k : Fin 1024) : Y m c (ix2 i k)
    = ∑ l : Fin 1024, (gate (GA m c i l) * AU m c (ix2 i l) + gate (GB m c i l) * BU m c (ix2 i l)) * WO m c (ix2 l k) := by
  unfold Y
  pointwise [MixRefIdeal.Read.val_main_v25, MixRefIdeal.Read.val_main_v24, MixRefIdeal.Read.val_main_v13, MixRefIdeal.Read.val_main_v23]
  simp only [ref_ga, ref_gb]

theorem ref_dd (c : Dev nD) (i : Fin 4096) (q : Fin 1024) : MixRefIdeal.Read.val_main_v62 (OM m c) (OS m c) (GT m c) (WM m c) (WS m c) (WO m c) (G m c) (DX m c) (ix2 i q)
    = dr m c i q * fac N₀ e₀ (xr m c i) + xr m c i q * back N₀ e₀ h₀ (xr m c i) (dr m c i) + back N₀ e₀ h₀ (xr m c i) (dr m c i) * xr m c i q := by
  pointwise [MixRefIdeal.Read.val_main_v26, MixRefIdeal.Read.val_main_v27, MixRefIdeal.Read.val_main_cst_5, MixRefIdeal.Read.val_main_v28, MixRefIdeal.Read.val_main_v29, MixRefIdeal.Read.val_main_cst_6, MixRefIdeal.Read.val_main_v30, MixRefIdeal.Read.val_main_v31, MixRefIdeal.Read.val_main_cst_7, MixRefIdeal.Read.val_main_v32, MixRefIdeal.Read.val_main_v33, MixRefIdeal.Read.val_main_v34, MixRefIdeal.Read.val_main_v35, MixRefIdeal.Read.val_main_cst_8, MixRefIdeal.Read.val_main_v36, MixRefIdeal.Read.val_main_v37, MixRefIdeal.Read.val_main_v38, MixRefIdeal.Read.val_main_v39, MixRefIdeal.Read.val_main_v40, MixRefIdeal.Read.val_main_v41, MixRefIdeal.Read.val_main_v42, MixRefIdeal.Read.val_main_v43, MixRefIdeal.Read.val_main_cst_9, MixRefIdeal.Read.val_main_v44, MixRefIdeal.Read.val_main_v45, MixRefIdeal.Read.val_main_v46, MixRefIdeal.Read.val_main_v47, MixRefIdeal.Read.val_main_cst_10, MixRefIdeal.Read.val_main_v48, MixRefIdeal.Read.val_main_v49, MixRefIdeal.Read.val_main_cst_11, MixRefIdeal.Read.val_main_v50, MixRefIdeal.Read.val_main_v51, MixRefIdeal.Read.val_main_v52, MixRefIdeal.Read.val_main_v53, MixRefIdeal.Read.val_main_v54, MixRefIdeal.Read.val_main_cst_12, MixRefIdeal.Read.val_main_v55, MixRefIdeal.Read.val_main_v56, MixRefIdeal.Read.val_main_cst_13, MixRefIdeal.Read.val_main_v57, MixRefIdeal.Read.val_main_v58, MixRefIdeal.Read.val_main_v59, MixRefIdeal.Read.val_main_v60, MixRefIdeal.Read.val_main_v61, MixRefIdeal.Read.val_main_v62, MixRefIdeal.Read.val_main_v63]
  simp only [Ideal.ofBits_zero_f32, zero_add, Finset.univ_unique, Finset.sum_singleton]
  rfl

theorem ref_dg (c : Dev nD) (q : Fin 1024) : MixRefIdeal.Read.val_main_v63 (OM m c) (OS m c) (GT m c) (WM m c) (WS m c) (WO m c) (DX m c) (ix2 0 q)
    = ∑ i : Fin 4096, xr m c i q * fac N₀ e₀ (xr m c i) * DX m c (ix2 i q) := by
  pointwise [MixRefIdeal.Read.val_main_v26, MixRefIdeal.Read.val_main_v27, MixRefIdeal.Read.val_main_cst_5, MixRefIdeal.Read.val_main_v28, MixRefIdeal.Read.val_main_v29, MixRefIdeal.Read.val_main_cst_6, MixRefIdeal.Read.val_main_v30, MixRefIdeal.Read.val_main_v31, MixRefIdeal.Read.val_main_cst_7, MixRefIdeal.Read.val_main_v32, MixRefIdeal.Read.val_main_v33, MixRefIdeal.Read.val_main_v34, MixRefIdeal.Read.val_main_v35, MixRefIdeal.Read.val_main_cst_8, MixRefIdeal.Read.val_main_v36, MixRefIdeal.Read.val_main_v37, MixRefIdeal.Read.val_main_v38, MixRefIdeal.Read.val_main_v39, MixRefIdeal.Read.val_main_v40, MixRefIdeal.Read.val_main_v41, MixRefIdeal.Read.val_main_v42, MixRefIdeal.Read.val_main_v43, MixRefIdeal.Read.val_main_cst_9, MixRefIdeal.Read.val_main_v44, MixRefIdeal.Read.val_main_v45, MixRefIdeal.Read.val_main_v46, MixRefIdeal.Read.val_main_v47, MixRefIdeal.Read.val_main_cst_10, MixRefIdeal.Read.val_main_v48, MixRefIdeal.Read.val_main_v49, MixRefIdeal.Read.val_main_cst_11, MixRefIdeal.Read.val_main_v50, MixRefIdeal.Read.val_main_v51, MixRefIdeal.Read.val_main_v52, MixRefIdeal.Read.val_main_v53, MixRefIdeal.Read.val_main_v54, MixRefIdeal.Read.val_main_cst_12, MixRefIdeal.Read.val_main_v55, MixRefIdeal.Read.val_main_v56, MixRefIdeal.Read.val_main_cst_13, MixRefIdeal.Read.val_main_v57, MixRefIdeal.Read.val_main_v58, MixRefIdeal.Read.val_main_v59, MixRefIdeal.Read.val_main_v60, MixRefIdeal.Read.val_main_v61, MixRefIdeal.Read.val_main_v62, MixRefIdeal.Read.val_main_v63]
  simp only [Ideal.ofBits_zero_f32, zero_add, Finset.univ_unique, Finset.sum_singleton]
  rfl

theorem IsReal.gate {x : EReal} (h : IsReal x) : IsReal (gate x) := by
  obtain ⟨r, rfl⟩ := h
  have h1 : (1 : ℝ) + Real.exp (-r) ≠ 0 := (by positivity : (0 : ℝ) < 1 + Real.exp (-r)).ne'
  refine ⟨1 * (1 / (1 + Real.exp (-r))), ?_⟩
  rw [Value.gate, ← EReal.coe_neg, Ideal.exp_coe, ← EReal.coe_one, ← EReal.coe_add, Ideal.div_coe h1]
  rfl

set_option maxHeartbeats 8000000 in
/-- The claim's nine results, the arguments' entries real numbers. -/
theorem results (c : Dev nD) (h0 : ∀ i, IsReal (OM m c i)) (h1 : ∀ i, IsReal (OS m c i)) (h2 : ∀ i, IsReal (GT m c i)) (h3 : ∀ i, IsReal (WM m c i))
    (h4 : ∀ i, IsReal (WS m c i)) (h5 : ∀ i, IsReal (WO m c i)) (h6 : ∀ i, IsReal (G m c i)) (h7 : ∀ i, IsReal (DX m c i)) :
    ((dats m 0 c).arrAt 11 cfg0.N : Vec Ideal S4096x1024 .bf16) = MixRefIdeal.Read.val_main_v79 (OM m c) (OS m c) (GT m c) (WM m c) (WS m c) (WO m c) (G m c) (DX m c)
    ∧ ((dats m 0 c).arrAt 12 cfg0.N : Vec Ideal S1x1024 .f32) = MixRefIdeal.Read.val_main_v63 (OM m c) (OS m c) (GT m c) (WM m c) (WS m c) (WO m c) (DX m c)
    ∧ ((dats m 0 c).arrAt 13 cfg0.N : Vec Ideal S4096x1024 .bf16) = MixRefIdeal.Read.val_main_v80 (OM m c) (OS m c) (GT m c) (WM m c) (WS m c) (WO m c) (G m c) (DX m c)
    ∧ ((dats m 0 c).arrAt 14 cfg0.N : Vec Ideal S4096x1024 .bf16) = MixRefIdeal.Read.val_main_v81 (OM m c) (OS m c) (GT m c) (WM m c) (WS m c) (WO m c) (G m c) (DX m c)
    ∧ ((dats m 0 c).arrAt 15 cfg0.N : Vec Ideal S4096x1024 .bf16) = MixRefIdeal.Read.val_main_v82 (OM m c) (OS m c) (GT m c) (WM m c) (WS m c) (WO m c) (G m c) (DX m c)
    ∧ ((dats m 0 c).arrAt 16 cfg0.N : Vec Ideal S4096x1024 .bf16) = MixRefIdeal.Read.val_main_v83 (OM m c) (OS m c) (GT m c) (WM m c) (WS m c) (WO m c) (G m c) (DX m c)
    ∧ ((dats m 0 c).arrAt 17 cfg0.N : Vec Ideal S4096x1024 .f32) = MixRefIdeal.Read.val_main_v72 (OM m c) (OS m c) (GT m c) (WM m c) (WS m c) (WO m c) (G m c) (DX m c)
    ∧ ((dats m 0 c).arrAt 18 cfg0.N : Vec Ideal S8x16x8x256 .f32) = MixRefIdeal.Read.val_main_v78 (OM m c) (OS m c) (GT m c) (WM m c) (WS m c) (WO m c) (G m c) (DX m c)
    ∧ ((dats m 0 c).arrAt 19 cfg0.N : Vec Ideal S16x1024x256 .bf16) = MixRefIdeal.Read.val_main_v86 (OM m c) (OS m c) (GT m c) (WM m c) (WS m c) (WO m c) (G m c) (DX m c) := by
  have ha : ∀ i l, IsReal (AU m c (ix2 i l)) := fun i l => by
    unfold AU
    pointwise [MixRefIdeal.Read.val_main_v0]
    exact IsReal.sum _ _ fun k => (h0 _).mul (h3 _)
  have hb : ∀ i l, IsReal (BU m c (ix2 i l)) := fun i l => by
    unfold BU
    pointwise [MixRefIdeal.Read.val_main_v1]
    exact IsReal.sum _ _ fun k => (h1 _).mul (h4 _)
  have hx : ∀ i k, IsReal (xr m c i k) := fun i k => by
    unfold xr
    rw [ref_y]
    exact IsReal.sum _ _ fun l => (((IsReal.gate (h2 _)).mul (ha i l)).add ((IsReal.gate (h2 _)).mul (hb i l))).mul (h5 _)
  have hr : ∀ i k, IsReal (dr m c i k) := fun i k => (h7 _).mul (h6 _)
  obtain ⟨e, he, hE⟩ := ofBits_eps
  have e62 : ∀ i q, MixRefIdeal.Read.val_main_v62 (OM m c) (OS m c) (GT m c) (WM m c) (WS m c) (WO m c) (G m c) (DX m c) (ix2 i q) = dd m c i q := fun i q => by
    rw [ref_dd, dd, ofBits_1024, ofBits_neg_half, hE, grad_row (by norm_num) he (hx i) (hr i), ← add_assoc]
  have e64 : ∀ i l, MixRefIdeal.Read.val_main_v64 (OM m c) (OS m c) (GT m c) (WM m c) (WS m c) (WO m c) (G m c) (DX m c) (ix2 i l) = dy m c i l := fun i l => by
    pointwise [MixRefIdeal.Read.val_main_v64]
    simp only [e62]
    rfl
  have e68 : ∀ i l, MixRefIdeal.Read.val_main_v68 (OM m c) (OS m c) (GT m c) (WM m c) (WS m c) (WO m c) (G m c) (DX m c) (ix2 i l) = da m c i l := fun i l => by
    pointwise [MixRefIdeal.Read.val_main_v68]
    rw [e64, ref_ga]
    exact mul_comm _ _
  have e65 : ∀ i l, MixRefIdeal.Read.val_main_v65 (OM m c) (OS m c) (GT m c) (WM m c) (WS m c) (WO m c) (G m c) (DX m c) (ix2 i l) = db m c i l := fun i l => by
    pointwise [MixRefIdeal.Read.val_main_v65]
    rw [e64, ref_gb]
    exact mul_comm _ _
  have e71 : ∀ i j, MixRefIdeal.Read.val_main_v71 (OM m c) (OS m c) (GT m c) (WM m c) (WS m c) (WO m c) (G m c) (DX m c) (ix2 i j) = dom m c i j := fun i j => by
    pointwise [MixRefIdeal.Read.val_main_v71]
    simp only [e68]
    rfl
  have e73 : ∀ i j, MixRefIdeal.Read.val_main_v73 (OM m c) (OS m c) (GT m c) (WM m c) (WS m c) (WO m c) (G m c) (DX m c) (ix2 i j) = prod m c i j := fun i j => by
    pointwise [MixRefIdeal.Read.val_main_v73]
    rw [e71]
    rfl
  refine ⟨?_, ?_, ?_, ?_, ?_, ?_, ?_, ?_, ?_⟩
  · rw [arr11]
    funext y
    obtain ⟨i, q, rfl⟩ : ∃ (i : Fin 4096) (q : Fin 1024), y = ix2 i q := ⟨y 0, y 1, eq_ix2 y⟩
    exact (e62 i q).symm
  · rw [arr12]
    funext y
    obtain ⟨z, q, rfl⟩ : ∃ (p : Fin 1) (q : Fin 1024), y = ix2 p q := ⟨y 0, y 1, eq_ix2 y⟩
    obtain rfl : z = 0 := Subsingleton.elim _ _
    rw [ref_dg]
    exact Finset.sum_congr rfl fun i _ => mul_comm _ _
  · rw [arr13]
    funext y
    obtain ⟨i, q, rfl⟩ : ∃ (i : Fin 4096) (q : Fin 1024), y = ix2 i q := ⟨y 0, y 1, eq_ix2 y⟩
    exact (e68 i q).symm
  · rw [arr14]
    funext y
    obtain ⟨i, q, rfl⟩ : ∃ (i : Fin 4096) (q : Fin 1024), y = ix2 i q := ⟨y 0, y 1, eq_ix2 y⟩
    exact (e65 i q).symm
  · rw [arr15]
    funext y
    obtain ⟨i, q, rfl⟩ : ∃ (i : Fin 4096) (q : Fin 1024), y = ix2 i q := ⟨y 0, y 1, eq_ix2 y⟩
    pointwise [MixRefIdeal.Read.val_main_v82, MixRefIdeal.Read.val_main_v70, MixRefIdeal.Read.val_main_v69, MixRefIdeal.Read.val_main_v12, MixRefIdeal.Read.val_main_v11, MixRefIdeal.Read.val_main_v10, MixRefIdeal.Read.val_main_cst_1]
    rw [e64, ref_ga]
    exact mul_assoc _ _ _
  · rw [arr16]
    funext y
    obtain ⟨i, q, rfl⟩ : ∃ (i : Fin 4096) (q : Fin 1024), y = ix2 i q := ⟨y 0, y 1, eq_ix2 y⟩
    pointwise [MixRefIdeal.Read.val_main_v83, MixRefIdeal.Read.val_main_v67, MixRefIdeal.Read.val_main_v66, MixRefIdeal.Read.val_main_v22, MixRefIdeal.Read.val_main_v21, MixRefIdeal.Read.val_main_v20, MixRefIdeal.Read.val_main_cst_4]
    rw [e64, ref_gb]
    exact mul_assoc _ _ _
  · rw [arr17]
    funext y
    obtain ⟨i, q, rfl⟩ : ∃ (i : Fin 4096) (q : Fin 1024), y = ix2 i q := ⟨y 0, y 1, eq_ix2 y⟩
    pointwise [MixRefIdeal.Read.val_main_v72]
    simp only [e65]
    rfl
  · rw [arr18]
    funext y
    obtain ⟨g, t, s, p, rfl⟩ : ∃ (g : Fin 8) (t : Fin 16) (s : Fin 8) (p : Fin 256), y = ix4 g t s p := ⟨y 0, y 1, y 2, y 3, eq_ix4 y⟩
    show dl m c g (rowOf t p) s = _
    pointwise [MixRefIdeal.Read.val_main_v78, MixRefIdeal.Read.val_main_v76, MixRefIdeal.Read.val_main_v75, MixRefIdeal.Read.val_main_v74, MixRefIdeal.Read.val_main_v77, MixRefIdeal.Read.val_main_cst_14, MixRefIdeal.Read.val_main_cst_15]
    simp only [e73]
    unfold dl
    by_cases h0 : s.val = 0
    · rw [if_pos h0, dif_pos (by omega)]
      refine Finset.sum_congr rfl fun l _ => congrArg (prod m c _) (Fin.ext ?_)
      show 128 * g.val + l.val = g.val * 128 + s.val * 64 + l.val
      omega
    · rw [if_neg h0]
      by_cases h1 : s.val = 1
      · rw [if_pos h1, dif_pos (by omega)]
        refine Finset.sum_congr rfl fun l _ => congrArg (prod m c _) (Fin.ext ?_)
        show 128 * g.val + (64 + l.val) = g.val * 128 + s.val * 64 + l.val
        omega
      · rw [if_neg h1, dif_neg (by omega)]
  · rw [arr19]
    funext y
    obtain ⟨t, q, p, rfl⟩ : ∃ (t : Fin 16) (q : Fin 1024) (p : Fin 256), y = ix3 t q p := ⟨y 0, y 1, y 2, eq_ix3 y⟩
    pointwise [MixRefIdeal.Read.val_main_v86, MixRefIdeal.Read.val_main_v85, MixRefIdeal.Read.val_main_v84]
    exact (e71 _ _).symm

end Cert.MixIdeal.Value

end
-- ==== Proof.MlaLoops.lean ====
module

public import proofs.«01_k».proof.Proof.Gen.MlaIdeal.Loops
public import proofs.«01_k».proof.Proof.Gen.MlaIdeal.Frame
public import Idealize.ShloMosaic.Lib.Tactic

/-!
# The two counted loops of the attention gradient

A trip finds the scores and the products with the values of its first query block in the first slot of two scratch
buffers.  It is run once, at a symbolic trip number: `trip1` and `trip3` find what the three results and the two
slots hold after it, as a function of what they held before.  `st1` and `st3` iterate that function, and the loops'
invariants say that before trip `k` the buffers hold the `k`-th state.  The remainder loops have no trip.
-/

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

/-- One head's score block, as it lies in a slot. -/
abbrev Blk (F : FTy → Type) : Type := Vec F S1x1x256x256 .f32
/-- What the three results hold, and the first slots: the scores of both heads, then the products with the values. -/
abbrev State : Type := arg9.view.ty.Contents (Elt F) × arg10.view.ty.Contents (Elt F) × arg11.view.ty.Contents (Elt F) × Blk F × Blk F × Blk F × Blk F

/-- Of the stores into a buffer the last two are kept; what they were made over no longer matters. -/
theorem last_two (a : Memref sig .tc .vmem S2x2x256x256 .f32) (f : a.view.ty.Contents (Elt F)) (p q : View.Piece (Elt F) S2x2x256x256 .f32) (L : List (View.Piece (Elt F) S2x2x256x256 .f32)) :
    (a.view.loc (c : Thread nD τ) ↦[a.view.set]{fullShare} a.view.writes (Elt F) f (p :: q :: L) : sProp 𝕄) ⊢ iprop(∃ g, a.view.loc (c : Thread nD τ) ↦[a.view.set]{fullShare} a.view.writes (Elt F) g [p, q]) := by
  iintro H; iexists (a.view.writes (Elt F) f L); iexact H

set_option warn.classDefReducibility false

/-- The buffers of a trip: the operands it reads, the three results, the four scratch buffers it writes. -/
abbrev Held (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (s : State (F := F) arg9 arg10 arg11) : sProp 𝕄 :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg16.view.loc (c : Thread nD τ) ↦[arg16.view.set]{fullShare} x16) ∗ (arg9.view.loc (c : Thread nD τ) ↦[arg9.view.set]{fullShare} s.1) ∗ (arg10.view.loc (c : Thread nD τ) ↦[arg10.view.set]{fullShare} s.2.1) ∗ (arg11.view.loc (c : Thread nD τ) ↦[arg11.view.set]{fullShare} s.2.2.1) ∗ (∃ f12, arg12.view.loc (c : Thread nD τ) ↦[arg12.view.set]{fullShare} arg12.view.writes (Elt F) f12 [⟨Rect.unit (s := S2x2x256x256) ![0, 1, 0, 0] S1x1x256x256.size inb_S2x2x256x256_S1x1x256x256_0_1_0_0, s.2.2.2.2.1⟩, ⟨Rect.unit (s := S2x2x256x256) ![0, 0, 0, 0] S1x1x256x256.size inb_S2x2x256x256_S1x1x256x256_0_0_0_0, s.2.2.2.1⟩]) ∗ (∃ f13, arg13.view.loc (c : Thread nD τ) ↦[arg13.view.set]{fullShare} arg13.view.writes (Elt F) f13 [⟨Rect.unit (s := S2x2x256x256) ![0, 1, 0, 0] S1x1x256x256.size inb_S2x2x256x256_S1x1x256x256_0_1_0_0, s.2.2.2.2.2.2⟩, ⟨Rect.unit (s := S2x2x256x256) ![0, 0, 0, 0] S1x1x256x256.size inb_S2x2x256x256_S1x1x256x256_0_0_0_0, s.2.2.2.2.2.1⟩]) ∗ (∃ f14, arg14.view.loc (c : Thread nD τ) ↦[arg14.view.set]{fullShare} f14) ∗ (∃ f15, arg15.view.loc (c : Thread nD τ) ↦[arg15.view.set]{fullShare} f15))

set_option maxHeartbeats 1000000 in
/-- One trip of loop 1, run at a symbolic trip number. -/
@[irreducible] def trip1 (v8 : BitVec 32) (v26 : BitVec 32) (v29 : BitVec 32) (v56 : FVec F S1x1x256x256 .f32) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (k : Fin (k0_t1_loop i).trips) (s : State (F := F) arg9 arg10 arg11) :
    { s' : State (F := F) arg9 arg10 arg11 // ∀ (E : Set ℕ), Held c arg2 arg3 arg4 arg5 arg6 arg7 arg8 arg9 arg10 arg11 arg12 arg13 arg14 arg15 arg16 x2 x3 x4 x5 x6 x7 x8 x16 s ⊢
      wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 k ())
        (fun _ => Held c arg2 arg3 arg4 arg5 arg6 arg7 arg8 arg9 arg10 arg11 arg12 arg13 arg14 arg15 arg16 x2 x3 x4 x5 x6 x7 x8 x16 s') } := by
  obtain ⟨f9, f10, f11, b₀, b₁, d₀, d₁⟩ := s
  refine ⟨⟨?_, ?_, ?_, ?_, ?_, ?_, ?_⟩, fun E => ?run⟩
  case run =>
    unfold k0_t1_body
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    iintro ⟨H2, H3, H4, H5, H6, H7, H8, H16, H9, H10, H11, ⟨%f12, H12⟩, ⟨%f13, H13⟩, ⟨%f14, H14⟩, ⟨%f15, H15⟩⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · delta trip1.sl.H12_6; delta trip1.sl.H12_5; iapply (last_two c arg12 _ _ _ _) $$ H12
    isplitl [H13]; · delta trip1.sl.H13_6; iapply (last_two c arg13 _ _ _ _) $$ H13
    isplitl [H14]; · iexists _; iexact H14
    iexists _; iexact H15

/-- The state before trip `k` of loop 1, from what the buffers hold before the loop. -/
def st1 (v8 : BitVec 32) (v26 : BitVec 32) (v29 : BitVec 32) (v56 : FVec F S1x1x256x256 .f32) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) : ℕ → State (F := F) arg9 arg10 arg11
  | 0 => (g9, g10, g11, b₀, b₁, d₀, d₁)
  | k + 1 => if h : k < (k0_t1_loop i).trips then (trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, h⟩ (st1 v8 v26 v29 v56 x2 x3 x4 x5 x6 x7 x8 x16 g9 g10 g11 b₀ b₁ d₀ d₁ k)).1 else st1 v8 v26 v29 v56 x2 x3 x4 x5 x6 x7 x8 x16 g9 g10 g11 b₀ b₁ d₀ d₁ k

/-- One trip takes the `k`-th state to the next. -/
theorem step1 (E : Set ℕ) (v8 : BitVec 32) (v26 : BitVec 32) (v29 : BitVec 32) (v56 : FVec F S1x1x256x256 .f32) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) (k : Fin (k0_t1_loop i).trips) : Held c arg2 arg3 arg4 arg5 arg6 arg7 arg8 arg9 arg10 arg11 arg12 arg13 arg14 arg15 arg16 x2 x3 x4 x5 x6 x7 x8 x16 (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 g9 g10 g11 b₀ b₁ d₀ d₁ k) ⊢
    wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 k ()) (fun _ => Held c arg2 arg3 arg4 arg5 arg6 arg7 arg8 arg9 arg10 arg11 arg12 arg13 arg14 arg15 arg16 x2 x3 x4 x5 x6 x7 x8 x16 (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 g9 g10 g11 b₀ b₁ d₀ d₁ (k.val + 1))) := by
  refine ((trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 k (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 g9 g10 g11 b₀ b₁ d₀ d₁ k)).2 E).trans ?_
  refine wp_mono _ _ _ fun _ => ?_
  rw [st1, dif_pos k.isLt]

theorem start1 (v8 : BitVec 32) (v26 : BitVec 32) (v29 : BitVec 32) (v56 : FVec F S1x1x256x256 .f32) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) : Held c arg2 arg3 arg4 arg5 arg6 arg7 arg8 arg9 arg10 arg11 arg12 arg13 arg14 arg15 arg16 x2 x3 x4 x5 x6 x7 x8 x16 (g9, g10, g11, b₀, b₁, d₀, d₁) ⊢ Held c arg2 arg3 arg4 arg5 arg6 arg7 arg8 arg9 arg10 arg11 arg12 arg13 arg14 arg15 arg16 x2 x3 x4 x5 x6 x7 x8 x16 (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 g9 g10 g11 b₀ b₁ d₀ d₁ 0) := by rw [st1]

/-- The state after the loop. -/
@[irreducible] def end1 (v8 : BitVec 32) (v26 : BitVec 32) (v29 : BitVec 32) (v56 : FVec F S1x1x256x256 .f32) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) : State (F := F) arg9 arg10 arg11 := st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 g9 g10 g11 b₀ b₁ d₀ d₁ (k0_t1_loop i).trips

/-- The loop, from what the buffers hold before it. -/
theorem wp_loop1 (E : Set ℕ) (v8 : BitVec 32) (v26 : BitVec 32) (v29 : BitVec 32) (v56 : FVec F S1x1x256x256 .f32) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) {β : Type} {kk : Unit → Prog (TpuEff nD τ sig (Elt F) Λ₀ .tc) β} {Q : β → sProp 𝕄} :
    iprop(Held c arg2 arg3 arg4 arg5 arg6 arg7 arg8 arg9 arg10 arg11 arg12 arg13 arg14 arg15 arg16 x2 x3 x4 x5 x6 x7 x8 x16 (g9, g10, g11, b₀, b₁, d₀, d₁) ∗ (Held c arg2 arg3 arg4 arg5 arg6 arg7 arg8 arg9 arg10 arg11 arg12 arg13 arg14 arg15 arg16 x2 x3 x4 x5 x6 x7 x8 x16 (end1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 g9 g10 g11 b₀ b₁ d₀ d₁) -∗ wp frame (wpE (defs₀ (F := F)) Variants.none (c : Thread nD τ) none) E (kk ()) Q)) ⊢
      wp frame (wpE (defs₀ (F := F)) Variants.none (c : Thread nD τ) none) E (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56) >>= kk) Q := by
  unfold end1
  iintro ⟨HI, HK⟩
  iapply (Scf.wp_for_bind _ _ _ _ _ _ _ () _ (fun k _ => Held c arg2 arg3 arg4 arg5 arg6 arg7 arg8 arg9 arg10 arg11 arg12 arg13 arg14 arg15 arg16 x2 x3 x4 x5 x6 x7 x8 x16 (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 g9 g10 g11 b₀ b₁ d₀ d₁ k)) (fun k _ => step1 c i arg2 harg2 arg3 harg3 arg4 harg4 arg5 harg5 arg6 harg6 arg7 harg7 arg8 harg8 arg9 harg9 arg10 harg10 arg11 harg11 arg12 harg12 arg13 harg13 arg14 harg14 arg15 harg15 arg16 harg16 E v8 v26 v29 v56 x2 x3 x4 x5 x6 x7 x8 x16 g9 g10 g11 b₀ b₁ d₀ d₁ k)) $$ [HI]
  · iapply (start1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 g9 g10 g11 b₀ b₁ d₀ d₁) $$ HI
  iintro %acc HI
  iapply HK
  iexact HI

theorem trips2 : ∀ i : grid0.Coords, (k0_t2_loop i).trips = 0 := by decide +kernel
/-- The remainder loop has no trip, so it needs nothing. -/
@[sl_loop] def loop2 (E : Set ℕ) (v8 : BitVec 32) (v26 : BitVec 32) (v29 : BitVec 32) (v56 : FVec F S1x1x256x256 .f32) (v87 : BitVec 32) : LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 v87 where
  inv _ _ := iprop(emp)
  step k _ := absurd (show (k : ℕ) < (k0_t2_loop i).trips from k.isLt) (by rw [trips2]; exact Nat.not_lt_zero _)

set_option maxHeartbeats 1000000 in
/-- One trip of loop 3, run at a symbolic trip number. -/
@[irreducible] def trip3 (v115 : BitVec 32) (v119 : IVec S256x128 32) (v120 : IVec S256x128 32) (v133 : BitVec 32) (v173 : BitVec 32) (v184 : BitVec 1) (v186 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (k : Fin (k0_t3_loop i).trips) (s : State (F := F) arg9 arg10 arg11) :
    { s' : State (F := F) arg9 arg10 arg11 // ∀ (E : Set ℕ), Held c arg2 arg3 arg4 arg5 arg6 arg7 arg8 arg9 arg10 arg11 arg12 arg13 arg14 arg15 arg16 x2 x3 x4 x5 x6 x7 x8 x16 s ⊢
      wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 k ())
        (fun _ => Held c arg2 arg3 arg4 arg5 arg6 arg7 arg8 arg9 arg10 arg11 arg12 arg13 arg14 arg15 arg16 x2 x3 x4 x5 x6 x7 x8 x16 s') } := by
  obtain ⟨f9, f10, f11, b₀, b₁, d₀, d₁⟩ := s
  refine ⟨⟨?_, ?_, ?_, ?_, ?_, ?_, ?_⟩, fun E => ?run⟩
  case run =>
    unfold k0_t3_body
    simp only [k0_part60_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    iintro ⟨H2, H3, H4, H5, H6, H7, H8, H16, H9, H10, H11, ⟨%f12, H12⟩, ⟨%f13, H13⟩, ⟨%f14, H14⟩, ⟨%f15, H15⟩⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · delta trip3.sl.H12_6; delta trip3.sl.H12_5; iapply (last_two c arg12 _ _ _ _) $$ H12
    isplitl [H13]; · delta trip3.sl.H13_6; iapply (last_two c arg13 _ _ _ _) $$ H13
    isplitl [H14]; · iexists _; iexact H14
    iexists _; iexact H15

/-- The state before trip `k` of loop 3, from what the buffers hold before the loop. -/
def st3 (v115 : BitVec 32) (v119 : IVec S256x128 32) (v120 : IVec S256x128 32) (v133 : BitVec 32) (v173 : BitVec 32) (v184 : BitVec 1) (v186 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) : ℕ → State (F := F) arg9 arg10 arg11
  | 0 => (g9, g10, g11, b₀, b₁, d₀, d₁)
  | k + 1 => if h : k < (k0_t3_loop i).trips then (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, h⟩ (st3 v115 v119 v120 v133 v173 v184 v186 x2 x3 x4 x5 x6 x7 x8 x16 g9 g10 g11 b₀ b₁ d₀ d₁ k)).1 else st3 v115 v119 v120 v133 v173 v184 v186 x2 x3 x4 x5 x6 x7 x8 x16 g9 g10 g11 b₀ b₁ d₀ d₁ k

/-- One trip takes the `k`-th state to the next. -/
theorem step3 (E : Set ℕ) (v115 : BitVec 32) (v119 : IVec S256x128 32) (v120 : IVec S256x128 32) (v133 : BitVec 32) (v173 : BitVec 32) (v184 : BitVec 1) (v186 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) (k : Fin (k0_t3_loop i).trips) : Held c arg2 arg3 arg4 arg5 arg6 arg7 arg8 arg9 arg10 arg11 arg12 arg13 arg14 arg15 arg16 x2 x3 x4 x5 x6 x7 x8 x16 (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 g9 g10 g11 b₀ b₁ d₀ d₁ k) ⊢
    wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 k ()) (fun _ => Held c arg2 arg3 arg4 arg5 arg6 arg7 arg8 arg9 arg10 arg11 arg12 arg13 arg14 arg15 arg16 x2 x3 x4 x5 x6 x7 x8 x16 (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 g9 g10 g11 b₀ b₁ d₀ d₁ (k.val + 1))) := by
  refine ((trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 k (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 g9 g10 g11 b₀ b₁ d₀ d₁ k)).2 E).trans ?_
  refine wp_mono _ _ _ fun _ => ?_
  rw [st3, dif_pos k.isLt]

theorem start3 (v115 : BitVec 32) (v119 : IVec S256x128 32) (v120 : IVec S256x128 32) (v133 : BitVec 32) (v173 : BitVec 32) (v184 : BitVec 1) (v186 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) : Held c arg2 arg3 arg4 arg5 arg6 arg7 arg8 arg9 arg10 arg11 arg12 arg13 arg14 arg15 arg16 x2 x3 x4 x5 x6 x7 x8 x16 (g9, g10, g11, b₀, b₁, d₀, d₁) ⊢ Held c arg2 arg3 arg4 arg5 arg6 arg7 arg8 arg9 arg10 arg11 arg12 arg13 arg14 arg15 arg16 x2 x3 x4 x5 x6 x7 x8 x16 (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 g9 g10 g11 b₀ b₁ d₀ d₁ 0) := by rw [st3]

/-- The state after the loop. -/
@[irreducible] def end3 (v115 : BitVec 32) (v119 : IVec S256x128 32) (v120 : IVec S256x128 32) (v133 : BitVec 32) (v173 : BitVec 32) (v184 : BitVec 1) (v186 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) : State (F := F) arg9 arg10 arg11 := st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 g9 g10 g11 b₀ b₁ d₀ d₁ (k0_t3_loop i).trips

/-- The loop, from what the buffers hold before it. -/
theorem wp_loop3 (E : Set ℕ) (v115 : BitVec 32) (v119 : IVec S256x128 32) (v120 : IVec S256x128 32) (v133 : BitVec 32) (v173 : BitVec 32) (v184 : BitVec 1) (v186 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (g9 : arg9.view.ty.Contents (Elt F)) (g10 : arg10.view.ty.Contents (Elt F)) (g11 : arg11.view.ty.Contents (Elt F)) (b₀ b₁ d₀ d₁ : Blk F) {β : Type} {kk : Unit → Prog (TpuEff nD τ sig (Elt F) Λ₀ .tc) β} {Q : β → sProp 𝕄} :
    iprop(Held c arg2 arg3 arg4 arg5 arg6 arg7 arg8 arg9 arg10 arg11 arg12 arg13 arg14 arg15 arg16 x2 x3 x4 x5 x6 x7 x8 x16 (g9, g10, g11, b₀, b₁, d₀, d₁) ∗ (Held c arg2 arg3 arg4 arg5 arg6 arg7 arg8 arg9 arg10 arg11 arg12 arg13 arg14 arg15 arg16 x2 x3 x4 x5 x6 x7 x8 x16 (end3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 g9 g10 g11 b₀ b₁ d₀ d₁) -∗ wp frame (wpE (defs₀ (F := F)) Variants.none (c : Thread nD τ) none) E (kk ()) Q)) ⊢
      wp frame (wpE (defs₀ (F := F)) Variants.none (c : Thread nD τ) none) E (Scf.Loop.for (k0_t3_loop i) (k0_t3_ok i) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186) >>= kk) Q := by
  unfold end3
  iintro ⟨HI, HK⟩
  iapply (Scf.wp_for_bind _ _ _ _ _ _ _ () _ (fun k _ => Held c arg2 arg3 arg4 arg5 arg6 arg7 arg8 arg9 arg10 arg11 arg12 arg13 arg14 arg15 arg16 x2 x3 x4 x5 x6 x7 x8 x16 (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 g9 g10 g11 b₀ b₁ d₀ d₁ k)) (fun k _ => step3 c i arg2 harg2 arg3 harg3 arg4 harg4 arg5 harg5 arg6 harg6 arg7 harg7 arg8 harg8 arg9 harg9 arg10 harg10 arg11 harg11 arg12 harg12 arg13 harg13 arg14 harg14 arg15 harg15 arg16 harg16 E v115 v119 v120 v133 v173 v184 v186 x2 x3 x4 x5 x6 x7 x8 x16 g9 g10 g11 b₀ b₁ d₀ d₁ k)) $$ [HI]
  · iapply (start3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 g9 g10 g11 b₀ b₁ d₀ d₁) $$ HI
  iintro %acc HI
  iapply HK
  iexact HI

theorem trips4 : ∀ i : grid0.Coords, (k0_t4_loop i).trips = 0 := by decide +kernel
/-- The remainder loop has no trip, so it needs nothing. -/
@[sl_loop] def loop4 (E : Set ℕ) (v115 : BitVec 32) (v119 : IVec S256x128 32) (v120 : IVec S256x128 32) (v133 : BitVec 32) (v173 : BitVec 32) (v184 : BitVec 1) (v186 : BitVec 1) (v194 : BitVec 32) : LoopInvTy_k0_t4 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 v194 where
  inv _ _ := iprop(emp)
  step k _ := absurd (show (k : ℕ) < (k0_t4_loop i).trips from k.isLt) (by rw [trips4]; exact Nat.not_lt_zero _)

end Cert.MlaIdeal.Hand

end
-- ==== Proof.MlaTail1.lean ====
module

public import proofs.«01_k».proof.Proof.MlaLoops

/-!
# The last query blocks of the first key block

After the loop an even number of blocks is left: the last one before the diagonal, and the diagonal.
-/

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem always2 : ∀ i : grid0.Coords, k0_cond2 i = 1#1 := by decide +kernel
theorem never3 : ∀ i : grid0.Coords, ¬k0_cond3 i = 1#1 := by decide +kernel
theorem never4 : ∀ i : grid0.Coords, ¬k0_cond4 i = 1#1 := by decide +kernel
theorem always5 : ∀ i : grid0.Coords, k0_cond5 i = 1#1 := by decide +kernel

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

/-- The same buffers once the slots have been used. -/
abbrev Done (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) : sProp 𝕄 :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg16.view.loc (c : Thread nD τ) ↦[arg16.view.set]{fullShare} x16) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))

set_option maxHeartbeats 8000000 in
/-- The first key block's last two query blocks. -/
@[irreducible] def tail1 (arg1 v8 : BitVec 32) (v12 v13 : IVec S256x128 32) (v26 c2 : BitVec 32) (v88 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (s : State (F := F) arg9 arg10 arg11) :
    { s' : arg9.view.ty.Contents (Elt F) × arg10.view.ty.Contents (Elt F) × arg11.view.ty.Contents (Elt F) // ∀ (E : Set ℕ) Q, iprop(Held c arg2 arg3 arg4 arg5 arg6 arg7 arg8 arg9 arg10 arg11 arg12 arg13 arg14 arg15 arg16 x2 x3 x4 x5 x6 x7 x8 x16 s ∗ (Done c arg2 arg3 arg4 arg5 arg6 arg7 arg8 arg9 arg10 arg11 arg12 arg13 arg14 arg15 arg16 x2 x3 x4 x5 x6 x7 x8 x16 s'.1 s'.2.1 s'.2.2 -∗ Q ⟨Scalar.addi (Scalar.muli 2#32 arg1) 1#32, k0_pay397, iota .tc S256x128 32 [0] iota_S256x128_d0_w32, iota .tc S256x128 32 [1] iota_S256x128_d1_w32, k0_pay398 (View.readAt (Elt F) arg5.view (Rect.unit (s := S512x128) ![256, 0] S256x128.size inb_S512x128_S256x128_256_0).toLoadRect x5), k0_pay399 (View.readAt (Elt F) arg5.view (Rect.unit (s := S512x128) ![256, 0] S256x128.size inb_S512x128_S256x128_256_0).toLoadRect x5)⟩)) ⊢
      wp frame (wpE (defs₀ (F := F)) Variants.none (c : Thread nD τ) none) E (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v12 v13 v26 c2 v88) Q } := by
  obtain ⟨f9, f10, f11, b₀, b₁, d₀, d₁⟩ := s
  refine ⟨⟨?_, ?_, ?_⟩, fun E Q => ?run⟩
  case run =>
    simp only [k0_part96_eq_skeleton]; unfold k0_part96_skel
    simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    iintro ⟨⟨H2, H3, H4, H5, H6, H7, H8, H16, H9, H10, H11, ⟨%f12, H12⟩, ⟨%f13, H13⟩, ⟨%f14, H14⟩, ⟨%f15, H15⟩⟩, Hk⟩
    sl_exec (disch := first | sl_exact (always2 i) | sl_exact (never3 i) | sl_exact (never4 i) | sl_exact (always5 i))
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists _; iexact H12
    isplitl [H13]; · iexists _; iexact H13
    isplitl [H14]; · iexists _; iexact H14
    iexists _; iexact H15

end Cert.MlaIdeal.Hand

end
-- ==== Proof.MlaTail3.lean ====
module

public import proofs.«01_k».proof.Proof.MlaTail1

/-!
# The query blocks of the second key block

The loop, then the diagonal.
-/

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

set_option maxHeartbeats 8000000 in
/-- The second key block's query blocks. -/
@[irreducible] def tail3 (v115 : BitVec 32) (v119 v120 : IVec S256x128 32) (v133 v173 : BitVec 32) (v184 v186 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (s : State (F := F) arg9 arg10 arg11) :
    { s' : arg9.view.ty.Contents (Elt F) × arg10.view.ty.Contents (Elt F) × arg11.view.ty.Contents (Elt F) // ∀ (E : Set ℕ) Q, iprop(Held c arg2 arg3 arg4 arg5 arg6 arg7 arg8 arg9 arg10 arg11 arg12 arg13 arg14 arg15 arg16 x2 x3 x4 x5 x6 x7 x8 x16 s ∗ (Done c arg2 arg3 arg4 arg5 arg6 arg7 arg8 arg9 arg10 arg11 arg12 arg13 arg14 arg15 arg16 x2 x3 x4 x5 x6 x7 x8 x16 s'.1 s'.2.1 s'.2.2 -∗ Q ⟨⟩)) ⊢
      wp frame (wpE (defs₀ (F := F)) Variants.none (c : Thread nD τ) none) E (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186) Q } := by
  obtain ⟨f9, f10, f11, b₀, b₁, d₀, d₁⟩ := s
  refine ⟨⟨?_, ?_, ?_⟩, fun E Q => ?run⟩
  case run =>
    simp only [k0_part99_eq_skeleton]; unfold k0_part99_skel
    simp only [k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
    iintro ⟨⟨H2, H3, H4, H5, H6, H7, H8, H16, H9, H10, H11, ⟨%f12, H12⟩, ⟨%f13, H13⟩, ⟨%f14, H14⟩, ⟨%f15, H15⟩⟩, Hk⟩
    iapply (wp_loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 E _ _ _ _ _ _ _ _ _ _ _ _ _ _ _ _ _ _ _ _ _ _)
    isplitl [H2 H3 H4 H5 H6 H7 H8 H9 H10 H11 H12 H13 H14 H15 H16]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H16]; · iexact H16
      isplitl [H9]; · iexact H9
      isplitl [H10]; · iexact H10
      isplitl [H11]; · iexact H11
      isplitl [H12]; · iexists _; iexact H12
      isplitl [H13]; · iexists _; iexact H13
      isplitl [H14]; · iexists _; iexact H14
      iexists _; iexact H15
    iintro ⟨H2, H3, H4, H5, H6, H7, H8, H16, H9, H10, H11, ⟨%e312, H12⟩, ⟨%e313, H13⟩, ⟨%e314, H14⟩, ⟨%e315, H15⟩⟩
    sl_for0 (trips4 i)
    sl_exec (disch := first | sl_exact (always2 i) | sl_exact (never3 i) | sl_exact (never4 i) | sl_exact (always5 i))
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists _; iexact H12
    isplitl [H13]; · iexists _; iexact H13
    isplitl [H14]; · iexists _; iexact H14
    iexists _; iexact H15

end Cert.MlaIdeal.Hand

end
-- ==== Proof.MlaHead.lean ====
module

public import proofs.«01_k».proof.Proof.MlaTail3

/-!
# Filling the slots

The scores and the gradients' products of the first query block of each key block.
-/

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

/-- The buffers once a first head's slots are filled. -/
abbrev First (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) (b d : Blk F) : sProp 𝕄 :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg16.view.loc (c : Thread nD τ) ↦[arg16.view.set]{fullShare} x16) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ g, arg12.view.loc (c : Thread nD τ) ↦[arg12.view.set]{fullShare} arg12.view.writes (Elt F) g [⟨Rect.unit (s := S2x2x256x256) ![0, 0, 0, 0] S1x1x256x256.size inb_S2x2x256x256_S1x1x256x256_0_0_0_0, b⟩]) ∗ (∃ g, arg13.view.loc (c : Thread nD τ) ↦[arg13.view.set]{fullShare} arg13.view.writes (Elt F) g [⟨Rect.unit (s := S2x2x256x256) ![0, 0, 0, 0] S1x1x256x256.size inb_S2x2x256x256_S1x1x256x256_0_0_0_0, d⟩]) ∗ (∃ g, (arg14.view.loc (c : Thread nD τ) ↦[arg14.view.set]{fullShare} g)) ∗ (∃ g, (arg15.view.loc (c : Thread nD τ) ↦[arg15.view.set]{fullShare} g)))

/-- The buffers once a first head's scores are filled. -/
abbrev Half (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) (b : Blk F) : sProp 𝕄 :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg16.view.loc (c : Thread nD τ) ↦[arg16.view.set]{fullShare} x16) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ g, arg12.view.loc (c : Thread nD τ) ↦[arg12.view.set]{fullShare} arg12.view.writes (Elt F) g [⟨Rect.unit (s := S2x2x256x256) ![0, 0, 0, 0] S1x1x256x256.size inb_S2x2x256x256_S1x1x256x256_0_0_0_0, b⟩]) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))

set_option maxHeartbeats 8000000 in
/-- The first head's slots of the first key block. -/
@[irreducible] def head94 (v8 : BitVec 32) (v27 : BitVec 1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) :
    { r : (Σ' (v29 : BitVec 32), FVec F S1x1x256x256 .f32) × Blk F × Blk F // ∀ (E : Set ℕ) Q, iprop(Done c arg2 arg3 arg4 arg5 arg6 arg7 arg8 arg9 arg10 arg11 arg12 arg13 arg14 arg15 arg16 x2 x3 x4 x5 x6 x7 x8 x16 f9 f10 f11 ∗ (First c arg2 arg3 arg4 arg5 arg6 arg7 arg8 arg9 arg10 arg11 arg12 arg13 arg14 arg15 arg16 x2 x3 x4 x5 x6 x7 x8 x16 f9 f10 f11 r.2.1 r.2.2 -∗ Q r.1)) ⊢
      wp frame (wpE (defs₀ (F := F)) Variants.none (c : Thread nD τ) none) E (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v27) Q } := by
  refine ⟨⟨⟨Scalar.select v27 (Scalar.addi v8 1#32) v8, k0_pay390 (View.readAt (Elt F) arg3.view (Rect.unit (s := S512x256) ![0, 128] S256x128.size inb_S512x256_S256x128_0_128).toLoadRect x3) (View.readAt (Elt F) arg2.view (Rect.unit (s := S16x256x256) (k0_off3 i 0#32) S1x128x256.size (k0_off3_inb i 0)).toLoadRect x2)⟩, k0_pay388 (View.readAt (Elt F) arg3.view (Rect.unit (s := S512x256) ![0, 0] S256x128.size inb_S512x256_S256x128_0_0).toLoadRect x3) (View.readAt (Elt F) arg2.view (Rect.unit (s := S16x256x256) (k0_off1 i 0#32) S1x128x256.size (k0_off1_inb i 0)).toLoadRect x2), k0_pay389 (View.readAt (Elt F) arg16.view (Rect.unit (s := S2x256x128) ![0, 0, 0] S1x256x128.size inb_S2x256x128_S1x256x128_0_0_0).toLoadRect x16) (View.readAt (Elt F) arg6.view (Rect.unit (s := S16x128x256) (k0_off2 i 0#32) S1x128x256.size (k0_off2_inb i 0)).toLoadRect x6)⟩, fun E Q => ?run⟩
  case run =>
    simp only [k0_part94_eq_skeleton]; unfold k0_part94_skel
    iintro ⟨⟨H2, H3, H4, H5, H6, H7, H8, H16, H9, H10, H11, ⟨%f12, H12⟩, ⟨%f13, H13⟩, ⟨%f14, H14⟩, ⟨%f15, H15⟩⟩, Hk⟩
    sl_exec (disch := first | sl_exact (always2 i) | sl_exact (never3 i) | sl_exact (never4 i) | sl_exact (always5 i))
    sl_step
    unfold head94.sl.v29 head94.sl.v28
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists _; iexact H12
    isplitl [H13]; · iexists _; iexact H13
    isplitl [H14]; · iexists _; iexact H14
    iexists _; iexact H15

set_option maxHeartbeats 8000000 in
/-- The second head's slots of the first key block, and the loop. -/
@[irreducible] def head95 (v8 v26 v29 : BitVec 32) (v56 : FVec F S1x1x256x256 .f32) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) (b d : Blk F) :
    { r : State (F := F) arg9 arg10 arg11 // ∀ (E : Set ℕ) Q, iprop(First c arg2 arg3 arg4 arg5 arg6 arg7 arg8 arg9 arg10 arg11 arg12 arg13 arg14 arg15 arg16 x2 x3 x4 x5 x6 x7 x8 x16 f9 f10 f11 b d ∗ (Held c arg2 arg3 arg4 arg5 arg6 arg7 arg8 arg9 arg10 arg11 arg12 arg13 arg14 arg15 arg16 x2 x3 x4 x5 x6 x7 x8 x16 r -∗ Q ⟨2#32, 0#1⟩)) ⊢
      wp frame (wpE (defs₀ (F := F)) Variants.none (c : Thread nD τ) none) E (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56) Q } := by
  refine ⟨end1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 f9 f10 f11 b v56 d (k0_pay391 (View.readAt (Elt F) arg16.view (Rect.unit (s := S2x256x128) ![1, 0, 0] S1x256x128.size inb_S2x256x128_S1x256x128_1_0_0).toLoadRect x16) (View.readAt (Elt F) arg6.view (Rect.unit (s := S16x128x256) (k0_off2 i 0#32) S1x128x256.size (k0_off2_inb i 0)).toLoadRect x6)), fun E Q => ?run⟩
  case run =>
    simp only [k0_part95_eq_skeleton]; unfold k0_part95_skel
    iintro ⟨⟨H2, H3, H4, H5, H6, H7, H8, H16, H9, H10, H11, ⟨%f12, H12⟩, ⟨%f13, H13⟩, ⟨%f14, H14⟩, ⟨%f15, H15⟩⟩, Hk⟩
    sl_exec (disch := first | sl_exact (always2 i) | sl_exact (never3 i) | sl_exact (never4 i) | sl_exact (always5 i))
    iapply (wp_loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 E v8 v26 v29 v56 x2 x3 x4 x5 x6 x7 x8 x16 f9 f10 f11 b v56 d (k0_pay391 (View.readAt (Elt F) arg16.view (Rect.unit (s := S2x256x128) ![1, 0, 0] S1x256x128.size inb_S2x256x128_S1x256x128_1_0_0).toLoadRect x16) (View.readAt (Elt F) arg6.view (Rect.unit (s := S16x128x256) (k0_off2 i 0#32) S1x128x256.size (k0_off2_inb i 0)).toLoadRect x6)))
    isplitl [H2 H3 H4 H5 H6 H7 H8 H9 H10 H11 H12 H13 H14 H15 H16]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H16]; · iexact H16
      isplitl [H9]; · iexact H9
      isplitl [H10]; · iexact H10
      isplitl [H11]; · iexact H11
      isplitl [H12]; · iexists f12; iexact H12
      isplitl [H13]; · iexists f13; iexact H13
      isplitl [H14]; · iexists _; iexact H14
      iexists _; iexact H15
    iintro ⟨H2, H3, H4, H5, H6, H7, H8, H16, H9, H10, H11, ⟨%f12, H12⟩, ⟨%f13, H13⟩, ⟨%f14, H14⟩, ⟨%f15, H15⟩⟩
    sl_for0 (trips2 i)
    sl_exec (disch := first | sl_exact (always2 i) | sl_exact (never3 i) | sl_exact (never4 i) | sl_exact (always5 i))
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists _; iexact H14
    iexists _; iexact H15

set_option maxHeartbeats 8000000 in
/-- The second key block's values, and the first head's scores. -/
@[irreducible] def mid97 (v115 : BitVec 32) (v118 : IVec S256x128 1) (v122 v124 : FVec F S256x128 .bf16) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) :
    { r : arg16.view.ty.Contents (Elt F) × Blk F × (Σ' (v133 : BitVec 32) (v136 : BitVec 32), FVec F S1x1x256x256 .f32) // ∀ (E : Set ℕ) Q, iprop(Done c arg2 arg3 arg4 arg5 arg6 arg7 arg8 arg9 arg10 arg11 arg12 arg13 arg14 arg15 arg16 x2 x3 x4 x5 x6 x7 x8 x16 f9 f10 f11 ∗ (Half c arg2 arg3 arg4 arg5 arg6 arg7 arg8 arg9 arg10 arg11 arg12 arg13 arg14 arg15 arg16 x2 x3 x4 x5 x6 x7 x8 r.1 f9 f10 f11 r.2.1 -∗ Q r.2.2)) ⊢
      wp frame (wpE (defs₀ (F := F)) Variants.none (c : Thread nD τ) none) E (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v118 v122 v124) Q } := by
  refine ⟨⟨arg16.view.writes (Elt F) x16 [⟨Rect.unit (s := S2x256x128) ![1, 0, 0] S1x256x128.size inb_S2x256x128_S1x256x128_1_0_0, k0_pay401 v118 v122⟩, ⟨Rect.unit (s := S2x256x128) ![0, 0, 0] S1x256x128.size inb_S2x256x128_S1x256x128_0_0_0, k0_pay400 v124⟩], k0_pay402 (View.readAt (Elt F) arg3.view (Rect.unit (s := S512x256) ![256, 0] S256x128.size inb_S512x256_S256x128_256_0).toLoadRect x3) (View.readAt (Elt F) arg2.view (Rect.unit (s := S16x256x256) (k0_off1 i 1#32) S1x128x256.size (k0_off1_inb i 1)).toLoadRect x2), ⟨Scalar.subi 15#32 v115, ?_, ?_⟩⟩, fun E Q => ?run⟩
  case run =>
    simp only [k0_part97_eq_skeleton]; unfold k0_part97_skel
    iintro ⟨⟨H2, H3, H4, H5, H6, H7, H8, H16, H9, H10, H11, ⟨%f12, H12⟩, ⟨%f13, H13⟩, ⟨%f14, H14⟩, ⟨%f15, H15⟩⟩, Hk⟩
    sl_exec (disch := first | sl_exact (always2 i) | sl_exact (never3 i) | sl_exact (never4 i) | sl_exact (always5 i))
    sl_step
    dsimp only [mid97.sl.v133]
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists _; iexact H12
    isplitl [H13]; · iexists _; iexact H13
    isplitl [H14]; · iexists _; iexact H14
    iexists _; iexact H15

set_option maxHeartbeats 8000000 in
/-- The rest of the second key block's slots. -/
@[irreducible] def mid98 (v133 v136 : BitVec 32) (v154 : FVec F S1x1x256x256 .f32) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) (b : Blk F) :
    { r : State (F := F) arg9 arg10 arg11 × (Σ' (v173 : BitVec 32) (v184 : BitVec 1), BitVec 1) // ∀ (E : Set ℕ) Q, iprop(Half c arg2 arg3 arg4 arg5 arg6 arg7 arg8 arg9 arg10 arg11 arg12 arg13 arg14 arg15 arg16 x2 x3 x4 x5 x6 x7 x8 x16 f9 f10 f11 b ∗ (Held c arg2 arg3 arg4 arg5 arg6 arg7 arg8 arg9 arg10 arg11 arg12 arg13 arg14 arg15 arg16 x2 x3 x4 x5 x6 x7 x8 x16 r.1 -∗ Q r.2)) ⊢
      wp frame (wpE (defs₀ (F := F)) Variants.none (c : Thread nD τ) none) E (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v133 v136 v154) Q } := by
  refine ⟨⟨⟨f9, f10, f11, b, k0_pay404 (View.readAt (Elt F) arg3.view (Rect.unit (s := S512x256) ![256, 128] S256x128.size inb_S512x256_S256x128_256_128).toLoadRect x3) (View.readAt (Elt F) arg2.view (Rect.unit (s := S16x256x256) (k0_off3 i 1#32) S1x128x256.size (k0_off3_inb i 1)).toLoadRect x2), v154, k0_pay405 (View.readAt (Elt F) arg16.view (Rect.unit (s := S2x256x128) ![1, 0, 0] S1x256x128.size inb_S2x256x128_S1x256x128_1_0_0).toLoadRect x16) (View.readAt (Elt F) arg6.view (Rect.unit (s := S16x128x256) (k0_off2 i 1#32) S1x128x256.size (k0_off2_inb i 1)).toLoadRect x6)⟩, ?_⟩, fun E Q => ?run⟩
  case run =>
    simp only [k0_part98_eq_skeleton]; unfold k0_part98_skel
    iintro ⟨⟨H2, H3, H4, H5, H6, H7, H8, H16, H9, H10, H11, ⟨%f12, H12⟩, ⟨%f13, H13⟩, ⟨%f14, H14⟩, ⟨%f15, H15⟩⟩, Hk⟩
    sl_exec (disch := first | sl_exact (always2 i) | sl_exact (never3 i) | sl_exact (never4 i) | sl_exact (always5 i))
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists _; iexact H14
    iexists _; iexact H15

end Cert.MlaIdeal.Hand

end
-- ==== Proof.MlaFront.lean ====
module

public import proofs.«01_k».proof.Proof.MlaTail3

/-!
# The start of a point

The key blocks' gradients start from zero, and the query gradient at a head pair's first point.
-/

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

set_option maxHeartbeats 8000000 in
/-- The start of a point of the first key block. -/
theorem frontA (hc : Scalar.cmpi .ne (Scalar.extui (Scalar.cmpi .eq (BitVec.ofNat 32 (i 1).val) 0#32)) 0#32 = 1#1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) (E : Set ℕ) (Q : (Σ' (arg1 : BitVec 32) (v8 : BitVec 32) (v12 : IVec S256x128 32) (v13 : IVec S256x128 32) (v26 : BitVec 32), BitVec 1) → sProp 𝕄) :
    iprop(Done c arg2 arg3 arg4 arg5 arg6 arg7 arg8 arg9 arg10 arg11 arg12 arg13 arg14 arg15 arg16 x2 x3 x4 x5 x6 x7 x8 x16 f9 f10 f11 ∗ (Done c arg2 arg3 arg4 arg5 arg6 arg7 arg8 arg9 arg10 arg11 arg12 arg13 arg14 arg15 arg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩]) -∗ Q ⟨BitVec.ofNat 32 (i 1).val, (Scalar.addi (Scalar.muli 2#32 (BitVec.ofNat 32 (i 1).val)) 0#32), iota .tc S256x128 32 [0] iota_S256x128_d0_w32, iota .tc S256x128 32 [1] iota_S256x128_d1_w32, Scalar.subi 15#32 (Scalar.addi (Scalar.muli 2#32 (BitVec.ofNat 32 (i 1).val)) 0#32), Scalar.cmpi .sgt (Scalar.subi 15#32 (Scalar.addi (Scalar.muli 2#32 (BitVec.ofNat 32 (i 1).val)) 0#32)) 0#32⟩)) ⊢
      wp frame (wpE (defs₀ (F := F)) Variants.none (c : Thread nD τ) none) E (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  simp only [k0_part93_eq_skeleton]; unfold k0_part93_skel
  iintro ⟨⟨H2, H3, H4, H5, H6, H7, H8, H16, H9, H10, H11, ⟨%f12, H12⟩, ⟨%f13, H13⟩, ⟨%f14, H14⟩, ⟨%f15, H15⟩⟩, Hk⟩
  sl_exec (disch := sl_exact hc)
  sl_step
  unfold frontA.sl.v27 frontA.sl.v26 frontA.sl.v13 frontA.sl.v12 frontA.sl.v8 frontA.sl.v7
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H16]; · iexact H16
  isplitl [H9]; · iexact H9
  isplitl [H10]; · iexact H10
  isplitl [H11]; · iexact H11
  isplitl [H12]; · iexists _; iexact H12
  isplitl [H13]; · iexists _; iexact H13
  isplitl [H14]; · iexists _; iexact H14
  iexists _; iexact H15

set_option maxHeartbeats 8000000 in
/-- The start of a point after the first key block. -/
theorem frontB (hc : ¬(Scalar.cmpi .ne (Scalar.extui (Scalar.cmpi .eq (BitVec.ofNat 32 (i 1).val) 0#32)) 0#32 = 1#1)) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) (E : Set ℕ) (Q : (Σ' (arg1 : BitVec 32) (v8 : BitVec 32) (v12 : IVec S256x128 32) (v13 : IVec S256x128 32) (v26 : BitVec 32), BitVec 1) → sProp 𝕄) :
    iprop(Done c arg2 arg3 arg4 arg5 arg6 arg7 arg8 arg9 arg10 arg11 arg12 arg13 arg14 arg15 arg16 x2 x3 x4 x5 x6 x7 x8 x16 f9 f10 f11 ∗ (Done c arg2 arg3 arg4 arg5 arg6 arg7 arg8 arg9 arg10 arg11 arg12 arg13 arg14 arg15 arg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩]) -∗ Q ⟨BitVec.ofNat 32 (i 1).val, (Scalar.addi (Scalar.muli 2#32 (BitVec.ofNat 32 (i 1).val)) 0#32), iota .tc S256x128 32 [0] iota_S256x128_d0_w32, iota .tc S256x128 32 [1] iota_S256x128_d1_w32, Scalar.subi 15#32 (Scalar.addi (Scalar.muli 2#32 (BitVec.ofNat 32 (i 1).val)) 0#32), Scalar.cmpi .sgt (Scalar.subi 15#32 (Scalar.addi (Scalar.muli 2#32 (BitVec.ofNat 32 (i 1).val)) 0#32)) 0#32⟩)) ⊢
      wp frame (wpE (defs₀ (F := F)) Variants.none (c : Thread nD τ) none) E (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  simp only [k0_part93_eq_skeleton]; unfold k0_part93_skel
  iintro ⟨⟨H2, H3, H4, H5, H6, H7, H8, H16, H9, H10, H11, ⟨%f12, H12⟩, ⟨%f13, H13⟩, ⟨%f14, H14⟩, ⟨%f15, H15⟩⟩, Hk⟩
  sl_exec (disch := sl_exact hc)
  sl_step
  unfold frontB.sl.v27 frontB.sl.v26 frontB.sl.v13 frontB.sl.v12 frontB.sl.v8 frontB.sl.v7
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H16]; · iexact H16
  isplitl [H9]; · iexact H9
  isplitl [H10]; · iexact H10
  isplitl [H11]; · iexact H11
  isplitl [H12]; · iexists _; iexact H12
  isplitl [H13]; · iexists _; iexact H13
  isplitl [H14]; · iexists _; iexact H14
  iexists _; iexact H15

end Cert.MlaIdeal.Hand

end
-- ==== Proof.MlaRun.lean ====
module

public import proofs.«01_k».proof.Proof.MlaHead
public import proofs.«01_k».proof.Proof.MlaFront

/-!
# The body of the attention gradient, run

At a point the two key blocks' gradients start from zero, and the query gradient from zero at a head pair's first
point; then both key blocks go over their query blocks.
-/

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

/-- A program and then another. -/
theorem wp_seq {α : Type} {c : Dev nD} {E : Set ℕ} {K : PUnit → sProp 𝕄} {p : Prog (TpuEff nD τ sig (Elt F) Λ₀ .tc) α} {f : α → Prog (TpuEff nD τ sig (Elt F) Λ₀ .tc) PUnit} :
    wp frame (wpE (defs₀ (F := F)) Variants.none (c : Thread nD τ) none) E p (fun x => wp frame (wpE (defs₀ (F := F)) Variants.none (c : Thread nD τ) none) E (f x) K)
      ⊢ wp frame (wpE (defs₀ (F := F)) Variants.none (c : Thread nD τ) none) E (p >>= f) K := by
  rw [wp_bind]

/-- What the first key block leaves in the three results, from what they held. -/
def half1 (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) : arg9.view.ty.Contents (Elt F) × arg10.view.ty.Contents (Elt F) × arg11.view.ty.Contents (Elt F) :=
  let h := (head94 c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 0#32) (Scalar.cmpi .sgt (Scalar.subi 15#32 (Scalar.addi (Scalar.muli 2#32 (BitVec.ofNat 32 (i 1).val)) 0#32)) 0#32) x2 x3 x4 x5 x6 x7 x8 x16 f9 f10 f11).1
  let s := (head95 c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 0#32) (Scalar.subi 15#32 (Scalar.addi (Scalar.muli 2#32 (BitVec.ofNat 32 (i 1).val)) 0#32)) h.1.1 h.1.2 x2 x3 x4 x5 x6 x7 x8 x16 f9 f10 f11 h.2.1 h.2.2).1
  (tail1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Scalar.addi (Scalar.muli 2#32 (BitVec.ofNat 32 (i 1).val)) 0#32) (iota .tc S256x128 32 [0] iota_S256x128_d0_w32) (iota .tc S256x128 32 [1] iota_S256x128_d1_w32) (Scalar.subi 15#32 (Scalar.addi (Scalar.muli 2#32 (BitVec.ofNat 32 (i 1).val)) 0#32)) 2#32 0#1 x2 x3 x4 x5 x6 x7 x8 x16 s).1

/-- The values the second key block fills in, and its first head's scores. -/
def fill (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) : arg16.view.ty.Contents (Elt F) × Blk F × (Σ' (v133 : BitVec 32) (v136 : BitVec 32), FVec F S1x1x256x256 .f32) :=
  (mid97 c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 1#32) k0_pay397 (k0_pay398 (View.readAt (Elt F) arg5.view (Rect.unit (s := S512x128) ![256, 0] S256x128.size inb_S512x128_S256x128_256_0).toLoadRect x5)) (k0_pay399 (View.readAt (Elt F) arg5.view (Rect.unit (s := S512x128) ![256, 0] S256x128.size inb_S512x128_S256x128_256_0).toLoadRect x5)) x2 x3 x4 x5 x6 x7 x8 x16 f9 f10 f11).1

/-- What the second key block leaves in the three results, from what they held. -/
def half2 (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) : arg9.view.ty.Contents (Elt F) × arg10.view.ty.Contents (Elt F) × arg11.view.ty.Contents (Elt F) :=
  let m := fill c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11
  let s := (mid98 c i arg2 harg2 arg3 harg3 arg4 harg4 arg5 harg5 arg6 harg6 arg7 harg7 arg8 harg8 arg9 harg9 arg10 harg10 arg11 harg11 arg12 harg12 arg13 harg13 arg14 harg14 arg15 harg15 arg16 harg16 m.2.2.1 m.2.2.2.1 m.2.2.2.2 x2 x3 x4 x5 x6 x7 x8 m.1 f9 f10 f11 m.2.1).1
  (tail3 c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 1#32) (iota .tc S256x128 32 [0] iota_S256x128_d0_w32) (iota .tc S256x128 32 [1] iota_S256x128_d1_w32) m.2.2.1 s.2.1 s.2.2.1 s.2.2.2 x2 x3 x4 x5 x6 x7 x8 m.1 s.1).1

set_option maxHeartbeats 8000000 in
/-- The body at a point of the first key block. -/
theorem wp_bodyA (hc : Scalar.cmpi .ne (Scalar.extui (Scalar.cmpi .eq (BitVec.ofNat 32 (i 1).val) 0#32)) 0#32 = 1#1) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) (E : Set ℕ) (K : PUnit → sProp 𝕄) :
    iprop(Done c arg2 arg3 arg4 arg5 arg6 arg7 arg8 arg9 arg10 arg11 arg12 arg13 arg14 arg15 arg16 x2 x3 x4 x5 x6 x7 x8 x16 f9 f10 f11 ∗ (Done c arg2 arg3 arg4 arg5 arg6 arg7 arg8 arg9 arg10 arg11 arg12 arg13 arg14 arg15 arg16 x2 x3 x4 x5 x6 x7 x8 ((fill c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.2).1) (half2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.2).1 (half2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.2).2.1 (half2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.2).2.2 -∗ K ⟨⟩))
      ⊢ wp frame (wpE (defs₀ (F := F)) Variants.none (c : Thread nD τ) none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mla_bwd_eq_skeleton]; unfold cc0_mla_bwd_skel
  iintro ⟨⟨H2, H3, H4, H5, H6, H7, H8, H16, H9, H10, H11, ⟨%f12, H12⟩, ⟨%f13, H13⟩, ⟨%f14, H14⟩, ⟨%f15, H15⟩⟩, Hk⟩
  iapply wp_seq
  iapply (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x2 x3 x4 x5 x6 x7 x8 x16 f9 f10 f11 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((head94 c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 0#32) (Scalar.cmpi .sgt (Scalar.subi 15#32 (Scalar.addi (Scalar.muli 2#32 (BitVec.ofNat 32 (i 1).val)) 0#32)) 0#32) x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (arg9.view.writes (Elt F) f9 [⟨Rect.unit (s := S16x256x256) ![0, 0, 0] S16x256x256.size inb_S16x256x256_S16x256x256_0_0_0, k0_pay381 (F := F)⟩]) (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((head95 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((tail1 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((mid97 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((mid98 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((tail3 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H16]; · iexact H16
  isplitl [H9]; · iexact H9
  isplitl [H10]; · iexact H10
  isplitl [H11]; · iexact H11
  isplitl [H12]; · iexists _; iexact H12
  isplitl [H13]; · iexists _; iexact H13
  isplitl [H14]; · iexists _; iexact H14
  iexists _; iexact H15

set_option maxHeartbeats 8000000 in
/-- The body at a point after the first key block. -/
theorem wp_bodyB (hc : ¬(Scalar.cmpi .ne (Scalar.extui (Scalar.cmpi .eq (BitVec.ofNat 32 (i 1).val) 0#32)) 0#32 = 1#1)) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x16 : arg16.view.ty.Contents (Elt F)) (f9 : arg9.view.ty.Contents (Elt F)) (f10 : arg10.view.ty.Contents (Elt F)) (f11 : arg11.view.ty.Contents (Elt F)) (E : Set ℕ) (K : PUnit → sProp 𝕄) :
    iprop(Done c arg2 arg3 arg4 arg5 arg6 arg7 arg8 arg9 arg10 arg11 arg12 arg13 arg14 arg15 arg16 x2 x3 x4 x5 x6 x7 x8 x16 f9 f10 f11 ∗ (Done c arg2 arg3 arg4 arg5 arg6 arg7 arg8 arg9 arg10 arg11 arg12 arg13 arg14 arg15 arg16 x2 x3 x4 x5 x6 x7 x8 ((fill c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.2).1) (half2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.2).1 (half2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.2).2.1 (half2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.1 (half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2.2).2.2 -∗ K ⟨⟩))
      ⊢ wp frame (wpE (defs₀ (F := F)) Variants.none (c : Thread nD τ) none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mla_bwd_eq_skeleton]; unfold cc0_mla_bwd_skel
  iintro ⟨⟨H2, H3, H4, H5, H6, H7, H8, H16, H9, H10, H11, ⟨%f12, H12⟩, ⟨%f13, H13⟩, ⟨%f14, H14⟩, ⟨%f15, H15⟩⟩, Hk⟩
  iapply wp_seq
  iapply (frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x2 x3 x4 x5 x6 x7 x8 x16 f9 f10 f11 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((head94 c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 0#32) (Scalar.cmpi .sgt (Scalar.subi 15#32 (Scalar.addi (Scalar.muli 2#32 (BitVec.ofNat 32 (i 1).val)) 0#32)) 0#32) x2 x3 x4 x5 x6 x7 x8 (arg16.view.writes (Elt F) x16 [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect x5)⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect x5)⟩]) f9 (arg10.view.writes (Elt F) f10 [⟨Rect.unit (s := S2x256x256) ![0, 0, 0] S2x256x256.size inb_S2x256x256_S2x256x256_0_0_0, k0_pay382 (F := F)⟩]) (arg11.view.writes (Elt F) f11 [⟨Rect.unit (s := S2x128x256) ![0, 0, 0] S2x128x256.size inb_S2x128x256_S2x128x256_0_0_0, k0_pay383 (F := F)⟩])).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((head95 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((tail1 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((mid97 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((mid98 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  iapply wp_seq
  iapply ((tail3 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _).2 E _)
  isplitl [H2 H3 H4 H5 H6 H7 H8 H9 H10 H11 H12 H13 H14 H15 H16]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    isplitl [H9]; · iexact H9
    isplitl [H10]; · iexact H10
    isplitl [H11]; · iexact H11
    isplitl [H12]; · iexists f12; iexact H12
    isplitl [H13]; · iexists f13; iexact H13
    isplitl [H14]; · iexists f14; iexact H14
    iexists f15; iexact H15
  iintro ⟨H2, H3, H4, H5, H6, H7, H8, H16, H9, H10, H11, ⟨%f12, H12⟩, ⟨%f13, H13⟩, ⟨%f14, H14⟩, ⟨%f15, H15⟩⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H16]; · iexact H16
  isplitl [H9]; · iexact H9
  isplitl [H10]; · iexact H10
  isplitl [H11]; · iexact H11
  isplitl [H12]; · iexists _; iexact H12
  isplitl [H13]; · iexists _; iexact H13
  isplitl [H14]; · iexists _; iexact H14
  iexists _; iexact H15

end Cert.MlaIdeal.Hand

end
-- ==== Proof.MlaFrame.lean ====
module

public import proofs.«01_k».proof.Proof.MlaRun
public import proofs.«01_k».proof.Proof.Gen.MlaIdeal.Frame
public import Idealize.ShloMosaic.Lib.WritesUnit
public import Idealize.ShloMosaic.Lib.Claim

/-!
# The attention gradient's blocks, point by point

What a point leaves in the three results' buffers, the data of the pipeline, and the frame: the argument arrays end
unchanged and every counter at zero.
-/

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Given

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

section Point

/-- A store of the whole buffer leaves what is stored. -/
theorem whole9 (arg9 : Memref sig .tc .vmem S16x256x256 .f32) (harg9 : arg9.IsWhole) (f : arg9.view.ty.Contents (Elt F)) (x : Vec F S16x256x256 .f32) :
    arg9.view.writes (Elt F) f [⟨Rect.unit (s := S16x256x256) ![0, 0, 0] S16x256x256.size inb_S16x256x256_S16x256x256_0_0_0, x⟩] = harg9.unread x :=
  harg9.eq_unread (funext fun y => View.read_writes_cons_unit_of_mem arg9.view f _ x [] y y rfl (fun a => by fin_cases a <;> exact (Nat.zero_add _).symm))

/-- A store of the whole buffer leaves what is stored. -/
theorem whole10 (arg10 : Memref sig .tc .vmem S2x256x256 .f32) (harg10 : arg10.IsWhole) (f : arg10.view.ty.Contents (Elt F)) (x : Vec F S2x256x256 .f32) :
    arg10.view.writes (Elt F) f [⟨Rect.unit (s := S2x256x256) ![0, 0, 0] S2x256x256.size inb_S2x256x256_S2x256x256_0_0_0, x⟩] = harg10.unread x :=
  harg10.eq_unread (funext fun y => View.read_writes_cons_unit_of_mem arg10.view f _ x [] y y rfl (fun a => by fin_cases a <;> exact (Nat.zero_add _).symm))

/-- A store of the whole buffer leaves what is stored. -/
theorem whole11 (arg11 : Memref sig .tc .vmem S2x128x256 .f32) (harg11 : arg11.IsWhole) (f : arg11.view.ty.Contents (Elt F)) (x : Vec F S2x128x256 .f32) :
    arg11.view.writes (Elt F) f [⟨Rect.unit (s := S2x128x256) ![0, 0, 0] S2x128x256.size inb_S2x128x256_S2x128x256_0_0_0, x⟩] = harg11.unread x :=
  harg11.eq_unread (funext fun y => View.read_writes_cons_unit_of_mem arg11.view f _ x [] y y rfl (fun a => by fin_cases a <;> exact (Nat.zero_add _).symm))

/-- Storing both heads' values leaves the same whatever the buffer held. -/
theorem both16 (arg16 : Memref sig .tc .vmem S2x256x128 .bf16) (harg16 : arg16.IsWhole) (f g : arg16.view.ty.Contents (Elt F)) (p p' : FVec F S1x256x128 .bf16) :
    arg16.view.writes (Elt F) f [⟨Rect.unit (s := S2x256x128) ![1, 0, 0] S1x256x128.size inb_S2x256x128_S1x256x128_1_0_0, p⟩, ⟨Rect.unit (s := S2x256x128) ![0, 0, 0] S1x256x128.size inb_S2x256x128_S1x256x128_0_0_0, p'⟩]
      = arg16.view.writes (Elt F) g [⟨Rect.unit (s := S2x256x128) ![1, 0, 0] S1x256x128.size inb_S2x256x128_S1x256x128_1_0_0, p⟩, ⟨Rect.unit (s := S2x256x128) ![0, 0, 0] S1x256x128.size inb_S2x256x128_S1x256x128_0_0_0, p'⟩] :=
  (harg16.eq_unread (View.read_writes_of_cover _ _ _ _ _ (View.cover_of_tiledL _ S1x256x128.size (by sl_kernel_rfl)))).trans (harg16.eq_unread rfl).symm

/-- What a point leaves in the three results, from what the query gradient held: both key blocks, one after the other. -/
def point (x2 : Vec F S16x256x256 .bf16) (x3 : Vec F S512x256 .bf16) (x4 : Vec F S2x256x256 .bf16) (x5 : Vec F S512x128 .bf16) (x6 : Vec F S16x128x256 .bf16) (x7 : Vec F S1x16x8x256 .f32) (x8 : Vec F S1x16x8x256 .f32) (s : Vec F S16x256x256 .f32) :
    arg9.view.ty.Contents (Elt F) × arg10.view.ty.Contents (Elt F) × arg11.view.ty.Contents (Elt F) :=
  let w := arg16.view.writes (Elt F) arg16.view.junk [⟨Rect.unit (s := S2x256x128) ![1, 0, 0] S1x256x128.size inb_S2x256x128_S1x256x128_1_0_0, k0_pay387 (View.readAt (Elt F) arg5.view (Rect.unit (s := S512x128) ![0, 0] S256x128.size inb_S512x128_S256x128_0_0).toLoadRect (harg5.unread x5))⟩, ⟨Rect.unit (s := S2x256x128) ![0, 0, 0] S1x256x128.size inb_S2x256x128_S1x256x128_0_0_0, k0_pay386 (View.readAt (Elt F) arg5.view (Rect.unit (s := S512x128) ![0, 0] S256x128.size inb_S512x128_S256x128_0_0).toLoadRect (harg5.unread x5))⟩]
  let a := half1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8) w (harg9.unread s) (harg10.unread (k0_pay382 (F := F))) (harg11.unread (k0_pay383 (F := F)))
  half2 c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8) w a.1 a.2.1 a.2.2

set_option maxHeartbeats 4000000 in
/-- The body at a point, from its buffers to what it leaves. -/
theorem wp_point (x2 : Vec F S16x256x256 .bf16) (x3 : Vec F S512x256 .bf16) (x4 : Vec F S2x256x256 .bf16) (x5 : Vec F S512x128 .bf16) (x6 : Vec F S16x128x256 .bf16) (x7 : Vec F S1x16x8x256 .f32) (x8 : Vec F S1x16x8x256 .f32) (s y : Vec F S16x256x256 .f32)
    (hs : (Scalar.cmpi .ne (Scalar.extui (Scalar.cmpi .eq (BitVec.ofNat 32 (i 1).val) 0#32)) 0#32 = 1#1) ∧ s = k0_pay381 (F := F) ∨ ¬(Scalar.cmpi .ne (Scalar.extui (Scalar.cmpi .eq (BitVec.ofNat 32 (i 1).val) 0#32)) 0#32 = 1#1) ∧ y = s) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare y ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (arg9.view.read (Elt F) (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 s).1) ∗ owns (c : Thread nD τ) arg10 fullShare (arg10.view.read (Elt F) (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 s).2.1) ∗ owns (c : Thread nD τ) arg11 fullShare (arg11.view.read (Elt F) (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 s).2.2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  rcases hs with ⟨hc, rfl⟩ | ⟨hc, rfl⟩
  · iapply (wp_bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg2.unread x2) (harg3.unread x3) (harg4.unread x4) (harg5.unread x5) (harg6.unread x6) (harg7.unread x7) (harg8.unread x8) f16 (harg9.unread y) f10 f11 Set.univ _)
    isplitl [H2 H3 H4 H5 H6 H7 H8 H9 H10 H11 H12 H13 H14 H15 H16]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H16]; · iexact H16
      isplitl [H9]; · iexact H9
      isplitl [H10]; · iexact H10
      isplitl [H11]; · iexact H11
      isplitl [H12]; · iexists f12; iexact H12
      isplitl [H13]; · iexists f13; iexact H13
      isplitl [H14]; · iexists f14; iexact H14
      iexists f15; iexact H15
    rw [whole9 arg9 harg9, whole10 arg10 harg10, whole11 arg11 harg11, both16 arg16 harg16 f16 arg16.view.junk]
    iintro ⟨H2, H3, H4, H5, H6, H7, H8, H16, H9, H10, H11, ⟨%f12, H12⟩, ⟨%f13, H13⟩, ⟨%f14, H14⟩, ⟨%f15, H15⟩⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (k0_pay381 (F := F))).1; isplitr; · ipureintro; rfl
      iexact H9
    isplitl [H10]
    · iexists (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (k0_pay381 (F := F))).2.1; isplitr; · ipureintro; rfl
      iexact H10
    isplitl [H11]
    · iexists (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 (k0_pay381 (F := F))).2.2; isplitr; · ipureintro; rfl
      iexact H11
    isplitl [H12]
    · iexists _, f12; isplitr; · ipureintro; rfl
      iexact H12
    isplitl [H13]
    · iexists _, f13; isplitr; · ipureintro; rfl
      iexact H13
    isplitl [H14]
    · iexists _, f14; isplitr; · ipureintro; rfl
      iexact H14
    isplitl [H15]
    · iexists _, f15; isplitr; · ipureintro; rfl
      iexact H15
    iexists _, _; isplitr; swap
    · iexact H16
    ipureintro; rfl
  · iapply (wp_bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg2.unread x2) (harg3.unread x3) (harg4.unread x4) (harg5.unread x5) (harg6.unread x6) (harg7.unread x7) (harg8.unread x8) f16 (harg9.unread y) f10 f11 Set.univ _)
    isplitl [H2 H3 H4 H5 H6 H7 H8 H9 H10 H11 H12 H13 H14 H15 H16]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H16]; · iexact H16
      isplitl [H9]; · iexact H9
      isplitl [H10]; · iexact H10
      isplitl [H11]; · iexact H11
      isplitl [H12]; · iexists f12; iexact H12
      isplitl [H13]; · iexists f13; iexact H13
      isplitl [H14]; · iexists f14; iexact H14
      iexists f15; iexact H15
    rw [whole10 arg10 harg10, whole11 arg11 harg11, both16 arg16 harg16 f16 arg16.view.junk]
    iintro ⟨H2, H3, H4, H5, H6, H7, H8, H16, H9, H10, H11, ⟨%f12, H12⟩, ⟨%f13, H13⟩, ⟨%f14, H14⟩, ⟨%f15, H15⟩⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 y).1; isplitr; · ipureintro; rfl
      iexact H9
    isplitl [H10]
    · iexists (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 y).2.1; isplitr; · ipureintro; rfl
      iexact H10
    isplitl [H11]
    · iexists (point c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 y).2.2; isplitr; · ipureintro; rfl
      iexact H11
    isplitl [H12]
    · iexists _, f12; isplitr; · ipureintro; rfl
      iexact H12
    isplitl [H13]
    · iexists _, f13; isplitr; · ipureintro; rfl
      iexact H13
    isplitl [H14]
    · iexists _, f14; isplitr; · ipureintro; rfl
      iexact H14
    isplitl [H15]
    · iexists _, f15; isplitr; · ipureintro; rfl
      iexact H15
    iexists _, _; isplitr; swap
    · iexact H16
    ipureintro; rfl

end Point

end Given

section Points

variable (m : (ℓ : Loc nD τ sig) → Buf (Elt F) ℓ) (ρ : Dev nD → PrngReg)

/-- What point `t` leaves in the three results' buffers, from what the query gradient's held. -/
def left (c : Dev nD) (t : Fin cfg0.N) (s : Vec F S16x256x256 .f32) : Vec F S16x256x256 .f32 × Vec F S2x256x256 .f32 × Vec F S2x128x256 .f32 :=
  let p := point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) s
  ((win0_7.stage (cfg0.slots t 7)).view.read (Elt F) p.1, (win0_8.stage (cfg0.slots t 8)).view.read (Elt F) p.2.1, (win0_9.stage (cfg0.slots t 9)).view.read (Elt F) p.2.2)

/-- What the results' buffers hold after each point: the query gradient starts from zero at a head pair's first point. -/
def outsAt (c : Dev nD) : (n : ℕ) → n < cfg0.N → Vec F S16x256x256 .f32 × Vec F S2x256x256 .f32 × Vec F S2x128x256 .f32
  | 0, hn => left m c ⟨0, hn⟩ (k0_pay381 (F := F))
  | n + 1, hn => left m c ⟨n + 1, hn⟩ (if (n + 1) % 8 = 0 then k0_pay381 (F := F) else (outsAt c n (Nat.lt_of_succ_lt hn)).1)

theorem outsAt_first (c : Dev nD) (t : Fin cfg0.N) (h : t.val % 8 = 0) : outsAt m c t.val t.isLt = left m c t (k0_pay381 (F := F)) := by
  obtain ⟨n, hn⟩ := t
  cases n with
  | zero => rfl
  | succ n => exact congrArg (left m c ⟨n + 1, hn⟩) (if_pos h)

theorem outsAt_next (c : Dev nD) (t : Fin cfg0.N) (h : ¬t.val % 8 = 0) :
    outsAt m c t.val t.isLt = left m c t (outsAt m c (t.val - 1) (Nat.lt_of_le_of_lt (Nat.sub_le _ _) t.isLt)).1 := by
  obtain ⟨n, hn⟩ := t
  cases n with
  | zero => exact absurd (Nat.zero_mod _) h
  | succ n => exact congrArg (left m c ⟨n + 1, hn⟩) (if_neg h)

/-- The pipeline's data: the arrays as the region finds them, each input's buffer at its block, the results' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]
theorem after_8 (c : Dev nD) (t : Fin cfg0.N) : (dats m 0 c).after 8 t = (outsAt m c t.val t.isLt).2.1 := by dsimp only [dats]
theorem after_9 (c : Dev nD) (t : Fin cfg0.N) : (dats m 0 c).after 9 t = (outsAt m c t.val t.isLt).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- After a head pair's first point the query gradient's buffer holds what the point before left. -/
theorem before_7 (c : Dev nD) (t : Fin cfg0.N) (h : ¬t.val % 8 = 0) (d) :
    (dats m 0 c).before 7 t d = (outsAt m c (t.val - 1) (Nat.lt_of_le_of_lt (Nat.sub_le _ _) t.isLt)).1 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

/-- A head pair's first points are those the program tests for. -/
theorem first_iff : ∀ t : Fin cfg0.N, Scalar.cmpi .ne (Scalar.extui (Scalar.cmpi .eq (BitVec.ofNat 32 ((grid0.coords t) 1).val) 0#32)) 0#32 = 1#1 ↔ t.val % 8 = 0 := by
  decide +kernel

theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, scratch_eq]
  have key : ∀ d, ∃ s, outsAt m c t.val t.isLt = left m c t s ∧ ((Scalar.cmpi .ne (Scalar.extui (Scalar.cmpi .eq (BitVec.ofNat 32 ((grid0.coords t) 1).val) 0#32)) 0#32 = 1#1) ∧ s = k0_pay381 (F := F) ∨ ¬((Scalar.cmpi .ne (Scalar.extui (Scalar.cmpi .eq (BitVec.ofNat 32 ((grid0.coords t) 1).val) 0#32)) 0#32 = 1#1)) ∧ (dats m 0 c).before 7 t d = s) := fun d => by
    by_cases h : t.val % 8 = 0
    · exact ⟨_, outsAt_first m c t h, .inl ⟨(first_iff t).mpr h, rfl⟩⟩
    · exact ⟨_, outsAt_next m c t h, .inr ⟨fun e => h ((first_iff t).mp e), before_7 m c t h d⟩⟩
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨s, es, hs⟩ := key d7
  rw [es]
  iapply (wp_point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) s _ hs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at what the data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Points

end Cert.MlaIdeal.Hand

end
-- ==== Proof.MlaStep.lean ====
/-
  What one query block adds to the three gradients of a key block, entry by entry: the payloads of the body read at an
  index, and the heads of the two staging buffers put together from their quarters.
-/
module

public import proofs.«01_k».proof.Proof.MlaLoops
public import Idealize.ShloMosaic.Lib.Pipeline.ValueKit
public import Idealize.ShloMosaic.Lib.WritesUnit

@[expose] public section

set_option maxRecDepth 16384

noncomputable section

namespace Cert.MlaIdeal.Hand

open Cert.MlaIdeal Cert.MlaIdeal.Gen
open Idealize.ShloMosaic Idealize.ShloMosaic.TcCoe

/-- The scores' scale times the logarithm's base change, and the scale. -/
def s2 : EReal := (((Real.sqrt 96)⁻¹ * (Real.log 2)⁻¹ : ℝ) : EReal)
def sc : EReal := (((Real.sqrt 96)⁻¹ : ℝ) : EReal)

theorem named_s2 : (Named.named (F := Ideal) (φ := FTy.f32) κ "s2" 0x3E16C740#32 : Ideal .f32) = s2 := IdealRules.named_const.ideal_named_scalar _ _ _ _ rfl
theorem named_s : (Named.named (F := Ideal) (φ := FTy.f32) κ "s" 0x3DD105EC#32 : Ideal .f32) = sc := IdealRules.named_const.ideal_named_scalar _ _ _ _ rfl

theorem score_val (k : Vec Ideal S256x128 .bf16) (q : Vec Ideal S1x128x256 .bf16) (κ₀ ξ : Fin 256) :
    k0_pay1 k q (ix4 0 0 κ₀ ξ) = ∑ l : Fin 128, k (ix2 κ₀ l) * q (ix3 0 l ξ) := by
  pointwise [k0_pay1, dot_S256x128_S128x256_S256x256_1_0_0_1_n_n]

theorem dp_val (v : Vec Ideal S1x256x128 .bf16) (g : Vec Ideal S1x128x256 .bf16) (κ₀ ξ : Fin 256) :
    k0_pay2 v g (ix4 0 0 κ₀ ξ) = ∑ l : Fin 128, v (ix3 0 κ₀ l) * g (ix3 0 l ξ) := by
  pointwise [k0_pay2, dot_S256x128_S128x256_S256x256_1_0_0_1_n_n]

/-- One entry of the weights, from the score and the row's logarithm; one entry of the scores' gradient. -/
def pE (s l : EReal) : EReal := Ideal.exp2 (s * s2 - l)
def dE (p dp d : EReal) : EReal := p * (dp - d) * sc

theorem p_val00 (l : Vec Ideal S1x1x8x256 .f32) (s : Vec Ideal S1x1x256x128 .f32) (κ₀ : Fin 256) (ξ : Fin 128) :
    k0_pay9 l s (ix3 0 κ₀ ξ) = pE (s (ix4 0 0 κ₀ ξ)) (l (ix4 0 0 0 ⟨ξ.val, by omega⟩)) := by
  pointwise [k0_pay9, k0_pay8, k0_pay6]
  rw [named_s2]; rfl

theorem ds_val00 (l d : Vec Ideal S1x1x8x256 .f32) (s dp : Vec Ideal S1x1x256x128 .f32) (κ₀ : Fin 256) (ξ : Fin 128) :
    k0_pay10 (k0_pay7 d) (k0_pay8 l s) dp (ix3 0 κ₀ ξ) = dE (pE (s (ix4 0 0 κ₀ ξ)) (l (ix4 0 0 0 ⟨ξ.val, by omega⟩))) (dp (ix4 0 0 κ₀ ξ)) (d (ix4 0 0 0 ⟨ξ.val, by omega⟩)) := by
  pointwise [k0_pay10, k0_pay8, k0_pay7, k0_pay6]
  rw [named_s2, named_s]; rfl

theorem p_val01 (l : Vec Ideal S1x1x8x256 .f32) (s : Vec Ideal S1x1x256x128 .f32) (κ₀ : Fin 256) (ξ : Fin 128) :
    k0_pay12 (k0_pay6 l) s (ix3 0 κ₀ ξ) = pE (s (ix4 0 0 κ₀ ξ)) (l (ix4 0 0 0 ⟨128 + ξ.val, by omega⟩)) := by
  pointwise [k0_pay12, k0_pay11, k0_pay6]
  rw [named_s2]; rfl

theorem ds_val01 (l d : Vec Ideal S1x1x8x256 .f32) (s dp : Vec Ideal S1x1x256x128 .f32) (κ₀ : Fin 256) (ξ : Fin 128) :
    k0_pay14 (k0_pay13 (k0_pay6 l) (k0_pay7 d) s dp) (ix3 0 κ₀ ξ) = dE (pE (s (ix4 0 0 κ₀ ξ)) (l (ix4 0 0 0 ⟨128 + ξ.val, by omega⟩))) (dp (ix4 0 0 κ₀ ξ)) (d (ix4 0 0 0 ⟨128 + ξ.val, by omega⟩)) := by
  pointwise [k0_pay14, k0_pay13, k0_pay11, k0_pay7, k0_pay6]
  rw [named_s2, named_s]; rfl

theorem p_val10 (l : Vec Ideal S1x1x8x256 .f32) (s : Vec Ideal S1x1x256x128 .f32) (κ₀ : Fin 256) (ξ : Fin 128) :
    k0_pay16 (k0_pay6 l) s (ix3 0 κ₀ ξ) = pE (s (ix4 0 0 κ₀ ξ)) (l (ix4 0 0 1 ⟨ξ.val, by omega⟩)) := by
  pointwise [k0_pay16, k0_pay15, k0_pay6]
  rw [named_s2]; rfl

theorem ds_val10 (l d : Vec Ideal S1x1x8x256 .f32) (s dp : Vec Ideal S1x1x256x128 .f32) (κ₀ : Fin 256) (ξ : Fin 128) :
    k0_pay17 (k0_pay6 l) (k0_pay7 d) s dp (ix3 0 κ₀ ξ) = dE (pE (s (ix4 0 0 κ₀ ξ)) (l (ix4 0 0 1 ⟨ξ.val, by omega⟩))) (dp (ix4 0 0 κ₀ ξ)) (d (ix4 0 0 1 ⟨ξ.val, by omega⟩)) := by
  pointwise [k0_pay17, k0_pay15, k0_pay7, k0_pay6]
  rw [named_s2, named_s]; rfl

theorem p_val11 (l : Vec Ideal S1x1x8x256 .f32) (s : Vec Ideal S1x1x256x128 .f32) (κ₀ : Fin 256) (ξ : Fin 128) :
    k0_pay20 (k0_pay19 (k0_pay6 l) s) (ix3 0 κ₀ ξ) = pE (s (ix4 0 0 κ₀ ξ)) (l (ix4 0 0 1 ⟨128 + ξ.val, by omega⟩)) := by
  pointwise [k0_pay20, k0_pay19, k0_pay18, k0_pay6]
  rw [named_s2]; rfl

theorem ds_val11 (l d : Vec Ideal S1x1x8x256 .f32) (s dp : Vec Ideal S1x1x256x128 .f32) (κ₀ : Fin 256) (ξ : Fin 128) :
    k0_pay21 (k0_pay7 d) (k0_pay18 (k0_pay6 l) s) dp (ix3 0 κ₀ ξ) = dE (pE (s (ix4 0 0 κ₀ ξ)) (l (ix4 0 0 1 ⟨128 + ξ.val, by omega⟩))) (dp (ix4 0 0 κ₀ ξ)) (d (ix4 0 0 1 ⟨128 + ξ.val, by omega⟩)) := by
  pointwise [k0_pay21, k0_pay18, k0_pay7, k0_pay6]
  rw [named_s2, named_s]; rfl

theorem dv_val (cur : Vec Ideal S1x64x256 .f32) (g : Vec Ideal S1x64x256 .bf16) (p : Vec Ideal S1x256x256 .bf16) (r : Fin 64) (κ₀ : Fin 256) :
    k0_pay22 cur g p (ix3 0 r κ₀) = cur (ix3 0 r κ₀) + ∑ ξ : Fin 256, g (ix3 0 r ξ) * p (ix3 0 κ₀ ξ) := by
  pointwise [k0_pay22, dot_S64x256_S256x256_S64x256_1_1_0_0_n_n]

theorem dk_val (cur : Vec Ideal S1x96x256 .f32) (q : Vec Ideal S1x96x256 .bf16) (ds : Vec Ideal S1x256x256 .bf16) (r : Fin 96) (κ₀ : Fin 256) :
    k0_pay28 cur q ds (ix3 0 r κ₀) = cur (ix3 0 r κ₀) + ∑ ξ : Fin 256, q (ix3 0 r ξ) * ds (ix3 0 κ₀ ξ) := by
  pointwise [k0_pay28, dot_S96x256_S256x256_S96x256_1_1_0_0_n_n]

theorem dq_val (cur : Vec Ideal S1x96x256 .f32) (k : Vec Ideal S1x96x256 .bf16) (ds : Vec Ideal S1x256x256 .bf16) (r : Fin 96) (ξ : Fin 256) :
    k0_pay29 cur k ds (ix3 0 r ξ) = cur (ix3 0 r ξ) + ∑ κ₀ : Fin 256, k (ix3 0 r κ₀) * ds (ix3 0 κ₀ ξ) := by
  pointwise [k0_pay29, dot_S96x256_S256x256_S96x256_1_0_0_1_n_n]

section Reads

variable {e : EltTy}

/-- A head of a staging buffer, read after its four quarters were stored: whatever was stored before them. -/
theorem head_read (v : View sig .tc .vmem S2x256x256 e) (L : List (View.Piece (Elt Ideal) S2x256x256 e)) (w₀₀ w₀₁ w₁₀ w₁₁ : Vec Ideal S1x256x128 e)
    (h : Fin 2) (G : Fin 2 → Fin 256 → Fin 256 → Elt Ideal e)
    (h₀₀ : ∀ κ₀ ξ, w₀₀ (ix3 0 κ₀ ξ) = G 0 κ₀ ⟨ξ.val, by omega⟩) (h₀₁ : ∀ κ₀ ξ, w₀₁ (ix3 0 κ₀ ξ) = G 0 κ₀ ⟨128 + ξ.val, by omega⟩)
    (h₁₀ : ∀ κ₀ ξ, w₁₀ (ix3 0 κ₀ ξ) = G 1 κ₀ ⟨ξ.val, by omega⟩) (h₁₁ : ∀ κ₀ ξ, w₁₁ (ix3 0 κ₀ ξ) = G 1 κ₀ ⟨128 + ξ.val, by omega⟩)
    (κ₀ ξ : Fin 256) (i₁ i₂ i₃ i₄) :
    View.read (Elt Ideal) v (v.writes (Elt Ideal) v.junk (⟨Rect.unit (s := S2x256x256) ![1, 0, 128] S1x256x128.size i₁, w₁₁⟩ :: ⟨Rect.unit (s := S2x256x256) ![1, 0, 0] S1x256x128.size i₂, w₁₀⟩
      :: ⟨Rect.unit (s := S2x256x256) ![0, 0, 128] S1x256x128.size i₃, w₀₁⟩ :: ⟨Rect.unit (s := S2x256x256) ![0, 0, 0] S1x256x128.size i₄, w₀₀⟩ :: L)) (ix3 h κ₀ ξ) = G h κ₀ ξ := by
  by_cases hξ : ξ.val < 128
  · match h with
    | 0 =>
      rw [View.read_writes_cons_unit_of_not_mem v _ i₁ w₁₁ _ _ rfl 0 (Or.inl Nat.zero_lt_one), View.read_writes_cons_unit_of_not_mem v _ i₂ w₁₀ _ _ rfl 0 (Or.inl Nat.zero_lt_one),
        View.read_writes_cons_unit_of_not_mem v _ i₃ w₀₁ _ _ rfl 2 (Or.inl hξ), View.read_writes_cons_unit_of_mem v _ i₄ w₀₀ _ _ (ix3 (0 : Fin 1) κ₀ ⟨ξ.val, hξ⟩) rfl
          (by intro a; fin_cases a <;> simp [ix3])]
      exact h₀₀ κ₀ ⟨ξ.val, hξ⟩
    | 1 =>
      rw [View.read_writes_cons_unit_of_not_mem v _ i₁ w₁₁ _ _ rfl 2 (Or.inl hξ), View.read_writes_cons_unit_of_mem v _ i₂ w₁₀ _ _ (ix3 (0 : Fin 1) κ₀ ⟨ξ.val, hξ⟩) rfl
          (by intro a; fin_cases a <;> simp [ix3])]
      exact h₁₀ κ₀ ⟨ξ.val, hξ⟩
  · have hx : ξ.val - 128 < 128 := by omega
    have hG : ∀ h', G h' κ₀ ⟨128 + (⟨ξ.val - 128, hx⟩ : Fin 128).val, by omega⟩ = G h' κ₀ ξ := fun h' => congrArg (G h' κ₀) (Fin.ext (show 128 + (ξ.val - 128) = ξ.val by omega))
    match h with
    | 0 =>
      rw [View.read_writes_cons_unit_of_not_mem v _ i₁ w₁₁ _ _ rfl 0 (Or.inl Nat.zero_lt_one), View.read_writes_cons_unit_of_not_mem v _ i₂ w₁₀ _ _ rfl 0 (Or.inl Nat.zero_lt_one),
        View.read_writes_cons_unit_of_mem v _ i₃ w₀₁ _ _ (ix3 (0 : Fin 1) κ₀ ⟨ξ.val - 128, hx⟩) rfl
          (by intro a; fin_cases a <;> simp [ix3]; omega)]
      exact (h₀₁ κ₀ ⟨ξ.val - 128, hx⟩).trans (hG 0)
    | 1 =>
      rw [View.read_writes_cons_unit_of_mem v _ i₁ w₁₁ _ _ (ix3 (0 : Fin 1) κ₀ ⟨ξ.val - 128, hx⟩) rfl
          (by intro a; fin_cases a <;> simp [ix3]; omega)]
      exact (h₁₁ κ₀ ⟨ξ.val - 128, hx⟩).trans (hG 1)

/-- A load of a box, at an index: the contents at the box's offset. -/
theorem readAt_unit {s : Shape} (v : View sig .tc .vmem s e) (f : v.ty.Contents (Elt Ideal)) {off off' size : Fin s.rank → ℕ} (inb : ∀ a, off a + size a ≤ s.size a)
    (heq : off = off') (x : (Rect.unit off size inb).toLoadRect.shape.Idx) (y : s.Idx) (hy : ∀ a, (y a).val = off' a + (x a).val) :
    View.readAt (Elt Ideal) v (Rect.unit off size inb).toLoadRect f x = View.read (Elt Ideal) v f y := by
  subst heq
  rw [View.readAt_apply]
  refine congrArg _ (funext fun a => Fin.ext ?_)
  show off a + 1 * (x a).val = (y a).val
  rw [hy a, Nat.one_mul]

/-- A plane of the two slots, read after both heads' planes of both slots were stored, slot 1 last. -/
theorem slots_read (v : View sig .tc .vmem S2x2x256x256 e) (L : List (View.Piece (Elt Ideal) S2x2x256x256 e)) (w₀₀ w₀₁ w₁₀ w₁₁ : Vec Ideal S1x1x256x256 e)
    (h : Fin 2) (κ₀ ξ : Fin 256) (i₁ i₂ i₃ i₄) :
    View.read (Elt Ideal) v (v.writes (Elt Ideal) v.junk (⟨Rect.unit (s := S2x2x256x256) ![1, 1, 0, 0] S1x1x256x256.size i₁, w₁₁⟩ :: ⟨Rect.unit (s := S2x2x256x256) ![1, 0, 0, 0] S1x1x256x256.size i₂, w₁₀⟩
      :: ⟨Rect.unit (s := S2x2x256x256) ![0, 1, 0, 0] S1x1x256x256.size i₃, w₀₁⟩ :: ⟨Rect.unit (s := S2x2x256x256) ![0, 0, 0, 0] S1x1x256x256.size i₄, w₀₀⟩ :: L)) (ix4 0 h κ₀ ξ)
      = (if h = 0 then w₀₀ else w₀₁) (ix4 0 0 κ₀ ξ) := by
  match h with
  | 0 =>
    rw [View.read_writes_cons_unit_of_not_mem v _ i₁ w₁₁ _ _ rfl 0 (Or.inl Nat.zero_lt_one), View.read_writes_cons_unit_of_not_mem v _ i₂ w₁₀ _ _ rfl 0 (Or.inl Nat.zero_lt_one),
      View.read_writes_cons_unit_of_not_mem v _ i₃ w₀₁ _ _ rfl 1 (Or.inl Nat.zero_lt_one), View.read_writes_cons_unit_of_mem v _ i₄ w₀₀ _ _ (ix4 (0 : Fin 1) (0 : Fin 1) κ₀ ξ) rfl
        (by intro a; fin_cases a <;> simp [ix4])]
    rfl
  | 1 =>
    rw [View.read_writes_cons_unit_of_not_mem v _ i₁ w₁₁ _ _ rfl 0 (Or.inl Nat.zero_lt_one), View.read_writes_cons_unit_of_not_mem v _ i₂ w₁₀ _ _ rfl 0 (Or.inl Nat.zero_lt_one),
      View.read_writes_cons_unit_of_mem v _ i₃ w₀₁ _ _ (ix4 (0 : Fin 1) (0 : Fin 1) κ₀ ξ) rfl
        (by intro a; fin_cases a <;> simp [ix4])]
    rfl

/-- A plane of a slot whose two planes lie under `k` newer planes of the other slot. -/
theorem slot_read (v : View sig .tc .vmem S2x2x256x256 e) (f : v.ty.Contents (Elt Ideal)) (L : List (View.Piece (Elt Ideal) S2x2x256x256 e)) (b : Fin 2) (w₀ w₁ : Vec Ideal S1x1x256x256 e)
    (h : Fin 2) (κ₀ ξ : Fin 256) (i₁ i₂) :
    View.read (Elt Ideal) v (v.writes (Elt Ideal) f (⟨Rect.unit (s := S2x2x256x256) ![b.val, 1, 0, 0] S1x1x256x256.size i₁, w₁⟩ :: ⟨Rect.unit (s := S2x2x256x256) ![b.val, 0, 0, 0] S1x1x256x256.size i₂, w₀⟩
      :: L)) (ix4 b h κ₀ ξ) = (if h = 0 then w₀ else w₁) (ix4 0 0 κ₀ ξ) := by
  match h with
  | 0 =>
    rw [View.read_writes_cons_unit_of_not_mem v _ i₁ w₁ _ _ rfl 1 (Or.inl Nat.zero_lt_one), View.read_writes_cons_unit_of_mem v _ i₂ w₀ _ _ (ix4 (0 : Fin 1) (0 : Fin 1) κ₀ ξ) rfl
        (by intro a; fin_cases a <;> simp [ix4])]
    rfl
  | 1 =>
    rw [View.read_writes_cons_unit_of_mem v _ i₁ w₁ _ _ (ix4 (0 : Fin 1) (0 : Fin 1) κ₀ ξ) rfl
        (by intro a; fin_cases a <;> simp [ix4])]
    rfl

theorem slot_skip (v : View sig .tc .vmem S2x2x256x256 e) (f : v.ty.Contents (Elt Ideal)) (L : List (View.Piece (Elt Ideal) S2x2x256x256 e)) (b b' h' : ℕ) (w : Vec Ideal S1x1x256x256 e)
    (hb : b < b' ∨ b' < b) (hb2 : b < 2) (h : Fin 2) (κ₀ ξ : Fin 256) (i₁) :
    View.read (Elt Ideal) v (v.writes (Elt Ideal) f (⟨Rect.unit (s := S2x2x256x256) ![b', h', 0, 0] S1x1x256x256.size i₁, w⟩ :: L)) (ix4 ⟨b, hb2⟩ h κ₀ ξ)
      = View.read (Elt Ideal) v (v.writes (Elt Ideal) f L) (ix4 ⟨b, hb2⟩ h κ₀ ξ) :=
  View.read_writes_cons_unit_of_not_mem v f i₁ w L _ rfl 0 (by
    show b < b' ∨ b' + 1 ≤ b
    omega)

end Reads

/-- What a store of `W` rows from row `o` of plane `a` adds, where it adds `A` to what lay there. -/
def bump {N M W : ℕ} (a o : ℕ) (A : Fin W → Fin 256 → EReal) (n : Fin N) (d : Fin M) (ξ : Fin 256) : EReal :=
  if h : n.val = a ∧ o ≤ d.val ∧ d.val < o + W then A ⟨d.val - o, by omega⟩ ξ else 0

section Bumps

variable {N M W : ℕ} (v : View sig .tc .vmem (⟨3, ![N, M, 256]⟩ : Shape) .f32) (f : v.ty.Contents (Elt Ideal)) {off : Fin 3 → ℕ} (a o : ℕ)
  (inb : ∀ x : Fin 3, off x + (![1, W, 256] : Fin 3 → ℕ) x ≤ (![N, M, 256] : Fin 3 → ℕ) x)
  (w : (⟨3, ![1, W, 256]⟩ : Shape).Idx → EReal) (L : List (View.Piece (Elt Ideal) (⟨3, ![N, M, 256]⟩ : Shape) .f32))

/-- A load of those rows. -/
theorem rows_read (hoff : off = ![a, o, 0]) (g : v.ty.Contents (Elt Ideal)) (n : Fin N) (ha : n.val = a) (r : Fin W) (ξ : Fin 256) (d : Fin M) (hd : d.val = o + r.val) :
    View.readAt (Elt Ideal) v (Rect.unit (s := (⟨3, ![N, M, 256]⟩ : Shape)) off ![1, W, 256] inb).toLoadRect g (ix3 (0 : Fin 1) r ξ) = View.read (Elt Ideal) v g (ix3 n d ξ) :=
  readAt_unit v g inb hoff _ _ (by
    intro x; fin_cases x
    · simp [ix3, ha]
    · simp [ix3, hd]
    · simp [ix3])

/-- A store that adds `A` to what the buffer holds in those rows. -/
theorem put_add (hoff : off = ![a, o, 0]) (A : Fin W → Fin 256 → EReal) (hw : ∀ (n : Fin N) (d : Fin M) (r : Fin W) (ξ : Fin 256), n.val = a → d.val = o + r.val → w (ix3 (0 : Fin 1) r ξ) = View.read (Elt Ideal) v (v.writes (Elt Ideal) f L) (ix3 n d ξ) + A r ξ)
    (n : Fin N) (d : Fin M) (ξ : Fin 256) :
    View.read (Elt Ideal) v (v.writes (Elt Ideal) f (⟨Rect.unit (s := (⟨3, ![N, M, 256]⟩ : Shape)) off ![1, W, 256] inb, w⟩ :: L)) (ix3 n d ξ)
      = (View.read (Elt Ideal) v (v.writes (Elt Ideal) f L) (ix3 n d ξ) : EReal) + bump a o A n d ξ := by
  by_cases h : n.val = a ∧ o ≤ d.val ∧ d.val < o + W
  · rw [bump, dif_pos h, ← hw n d ⟨d.val - o, by omega⟩ ξ h.1 (by show d.val = o + (d.val - o); omega)]
    exact View.read_writes_cons_unit_of_mem v f inb w L _ (ix3 (0 : Fin 1) ⟨d.val - o, by omega⟩ ξ) hoff (by
      intro x; fin_cases x
      · simp [ix3, h.1]
      · simp [ix3]; omega
      · simp [ix3])
  · rw [bump, dif_neg h]
    refine (View.read_writes_cons_unit_of_not_mem v f inb w L _ hoff (if n.val = a then 1 else 0) ?_).trans (add_zero _).symm
    by_cases hn : n.val = a
    · rw [if_pos hn]
      show d.val < o ∨ o + W ≤ d.val
      omega
    · rw [if_neg hn]
      show n.val < a ∨ a + 1 ≤ n.val
      omega

/-- What a store elsewhere leaves. -/
theorem bump_of_ne (A : Fin W → Fin 256 → EReal) (n : Fin N) (d : Fin M) (ξ : Fin 256) (h : ¬(n.val = a ∧ o ≤ d.val ∧ d.val < o + W)) : bump a o A n d ξ = 0 := dif_neg h

end Bumps

end Cert.MlaIdeal.Hand

end
-- ==== Proof.MlaOps.lean ====
module

public import proofs.«01_k».proof.Proof.MlaStep

/-!
# What one query block adds to the gradients of a key block

`Ops` holds the operands of one key block as plain arrays; the weights, the scores' gradient and the three products
are written over it.  A pair of heads' stores into a result then adds a contribution of `Ops` to what lay there.
-/

@[expose] public section

set_option maxRecDepth 16384

noncomputable section

namespace Cert.MlaIdeal.Hand

open Cert.MlaIdeal Cert.MlaIdeal.Gen
open Idealize.ShloMosaic Idealize.ShloMosaic.TcCoe

/-- Row `l` of head `h`, of rows 128 a head; row `r` of the 96 used; row `r` of 64 a head. -/
def hd (h : Fin 2) (l : Fin 128) : Fin 256 := ⟨128 * h.val + l.val, by omega⟩
def hd96 (h : Fin 2) (r : Fin 96) : Fin 256 := ⟨128 * h.val + r.val, by omega⟩
def hd64 (h : Fin 2) (r : Fin 64) : Fin 128 := ⟨64 * h.val + r.val, by omega⟩
def h8 (h : Fin 2) : Fin 8 := ⟨h.val, by omega⟩

/-- The operands of one key block: the queries, the block's keys, its keys transposed, its values by head, the results'
gradients, the rows' logarithms and the rows' corrections. -/
structure Ops where
  q : Fin 16 → Fin 256 → Fin 256 → EReal
  k : Fin 256 → Fin 256 → EReal
  kt : Fin 256 → Fin 256 → EReal
  vh : Fin 2 → Fin 256 → Fin 128 → EReal
  g : Fin 16 → Fin 128 → Fin 256 → EReal
  l : Fin 16 → Fin 8 → Fin 256 → EReal
  d : Fin 16 → Fin 8 → Fin 256 → EReal

namespace Ops

variable (O : Ops)

def S (n : Fin 16) (h : Fin 2) (κ₀ ξ : Fin 256) : EReal := ∑ l : Fin 128, O.k κ₀ (hd h l) * O.q n (hd h l) ξ
def G (n : Fin 16) (h : Fin 2) (κ₀ ξ : Fin 256) : EReal := ∑ l : Fin 128, O.vh h κ₀ l * O.g n l ξ
/-- The weights of query block `n`; on the diagonal block a key after the query has none. -/
def P (dg : Bool) (n : Fin 16) (h : Fin 2) (κ₀ ξ : Fin 256) : EReal :=
  if dg = true ∧ ¬ κ₀.val ≤ ξ.val then 0 else pE (O.S n h κ₀ ξ) (O.l n (h8 h) ξ)
def W (dg : Bool) (n : Fin 16) (h : Fin 2) (κ₀ ξ : Fin 256) : EReal := dE (O.P dg n h κ₀ ξ) (O.G n h κ₀ ξ) (O.d n (h8 h) ξ)

def A9 (dg : Bool) (n : Fin 16) (h : Fin 2) (r : Fin 96) (ξ : Fin 256) : EReal := ∑ κ₀ : Fin 256, O.kt (hd96 h r) κ₀ * O.W dg n h κ₀ ξ
def A10 (dg : Bool) (n : Fin 16) (h : Fin 2) (r : Fin 96) (κ₀ : Fin 256) : EReal := ∑ ξ : Fin 256, O.q n (hd96 h r) ξ * O.W dg n h κ₀ ξ
def A11 (dg : Bool) (n : Fin 16) (h : Fin 2) (r : Fin 64) (κ₀ : Fin 256) : EReal := ∑ ξ : Fin 256, O.g n (hd64 h r) ξ * O.P dg n h κ₀ ξ

/-- What query block `n` adds to the three results, by entry; `b` is the key block's place in the last two. -/
def C9 (dg : Bool) (n : Fin 16) (z : Fin 16) (d ξ : Fin 256) : EReal := bump n.val 0 (O.A9 dg n 0) z d ξ + bump n.val 128 (O.A9 dg n 1) z d ξ
def C10 (dg : Bool) (b : ℕ) (n : Fin 16) (z : Fin 2) (d ξ : Fin 256) : EReal := bump b 0 (O.A10 dg n 0) z d ξ + bump b 128 (O.A10 dg n 1) z d ξ
def C11 (dg : Bool) (b : ℕ) (n : Fin 16) (z : Fin 2) (d : Fin 128) (ξ : Fin 256) : EReal := bump b 0 (O.A11 dg n 0) z d ξ + bump b 64 (O.A11 dg n 1) z d ξ

theorem P_of {n : Fin 16} {h : Fin 2} {κ₀ ξ : Fin 256} {s l : EReal} (hs : s = O.S n h κ₀ ξ) (hl : l = O.l n (h8 h) ξ) : pE s l = O.P false n h κ₀ ξ := by
  rw [hs, hl, P, if_neg (fun h => Bool.false_ne_true h.1)]
theorem W_of {n : Fin 16} {h : Fin 2} {κ₀ ξ : Fin 256} {s l p d : EReal} (hs : s = O.S n h κ₀ ξ) (hl : l = O.l n (h8 h) ξ) (hp : p = O.G n h κ₀ ξ) (hd : d = O.d n (h8 h) ξ) :
    dE (pE s l) p d = O.W false n h κ₀ ξ := by
  rw [P_of O hs hl, hp, hd]; rfl

end Ops

section Slots

variable (v : View sig .tc .vmem S2x2x256x256 .f32) (L : List (View.Piece (Elt Ideal) S2x2x256x256 .f32)) (w₀ w₁ u₀ u₁ : Vec Ideal S1x1x256x256 .f32)
  (S : Fin 2 → Fin 256 → Fin 256 → EReal)

/-- Half a plane of a slot, read where the slot's two planes were the last stored. -/
theorem quarter_top (b : Fin 2) (h0 : ∀ κ₀ ξ, w₀ (ix4 0 0 κ₀ ξ) = S 0 κ₀ ξ) (h1 : ∀ κ₀ ξ, w₁ (ix4 0 0 κ₀ ξ) = S 1 κ₀ ξ) (h : Fin 2) (o : ℕ) (κ₀ ξ : Fin 256) (x : Fin 128) (hx : ξ.val = o + x.val) (i₁ i₂ i₃) :
    v.readCov (⟨Rect.unit (s := S2x2x256x256) ![b.val, 1, 0, 0] S1x1x256x256.size i₁, w₁⟩ :: ⟨Rect.unit (s := S2x2x256x256) ![b.val, 0, 0, 0] S1x1x256x256.size i₂, w₀⟩ :: L)
      (Rect.unit (s := S2x2x256x256) ![b.val, h.val, 0, o] S1x1x256x128.size i₃).toLoadRect (ix4 0 0 κ₀ x) = S h κ₀ ξ := by
  refine (readAt_unit v _ i₃ rfl _ (ix4 b h κ₀ ξ) (by intro a; fin_cases a <;> simp [ix4, hx])).trans ?_
  refine (slot_read v _ L b w₀ w₁ h κ₀ ξ i₁ i₂).trans ?_
  match h with
  | 0 => exact h0 κ₀ ξ
  | 1 => exact h1 κ₀ ξ

/-- The same where the other slot's two planes were stored after them. -/
theorem quarter_under (b b' : Fin 2) (hb : b.val < b'.val ∨ b'.val < b.val) (h0 : ∀ κ₀ ξ, w₀ (ix4 0 0 κ₀ ξ) = S 0 κ₀ ξ) (h1 : ∀ κ₀ ξ, w₁ (ix4 0 0 κ₀ ξ) = S 1 κ₀ ξ) (h : Fin 2) (o : ℕ) (κ₀ ξ : Fin 256) (x : Fin 128) (hx : ξ.val = o + x.val) (i₁ i₂ i₃ i₄ i₅) :
    v.readCov (⟨Rect.unit (s := S2x2x256x256) ![b'.val, 1, 0, 0] S1x1x256x256.size i₄, u₁⟩ :: ⟨Rect.unit (s := S2x2x256x256) ![b'.val, 0, 0, 0] S1x1x256x256.size i₅, u₀⟩
      :: ⟨Rect.unit (s := S2x2x256x256) ![b.val, 1, 0, 0] S1x1x256x256.size i₁, w₁⟩ :: ⟨Rect.unit (s := S2x2x256x256) ![b.val, 0, 0, 0] S1x1x256x256.size i₂, w₀⟩ :: L)
      (Rect.unit (s := S2x2x256x256) ![b.val, h.val, 0, o] S1x1x256x128.size i₃).toLoadRect (ix4 0 0 κ₀ x) = S h κ₀ ξ := by
  refine (readAt_unit v _ i₃ rfl _ (ix4 b h κ₀ ξ) (by intro a; fin_cases a <;> simp [ix4, hx])).trans ?_
  refine ((slot_skip v _ _ b.val b'.val 1 u₁ hb b.isLt h κ₀ ξ i₄).trans (slot_skip v _ _ b.val b'.val 0 u₀ hb b.isLt h κ₀ ξ i₅)).trans ?_
  refine (slot_read v _ L b w₀ w₁ h κ₀ ξ i₁ i₂).trans ?_
  match h with
  | 0 => exact h0 κ₀ ξ
  | 1 => exact h1 κ₀ ξ

end Slots

/-- A head of a staging buffer, as a whole plane is read from it. -/
theorem head_cov {e : EltTy} (v : View sig .tc .vmem S2x256x256 e) (L : List (View.Piece (Elt Ideal) S2x256x256 e)) (w₀₀ w₀₁ w₁₀ w₁₁ : Vec Ideal S1x256x128 e)
    (h : Fin 2) (G : Fin 2 → Fin 256 → Fin 256 → Elt Ideal e)
    (h₀₀ : ∀ κ₀ ξ, w₀₀ (ix3 0 κ₀ ξ) = G 0 κ₀ ⟨ξ.val, by omega⟩) (h₀₁ : ∀ κ₀ ξ, w₀₁ (ix3 0 κ₀ ξ) = G 0 κ₀ ⟨128 + ξ.val, by omega⟩)
    (h₁₀ : ∀ κ₀ ξ, w₁₀ (ix3 0 κ₀ ξ) = G 1 κ₀ ⟨ξ.val, by omega⟩) (h₁₁ : ∀ κ₀ ξ, w₁₁ (ix3 0 κ₀ ξ) = G 1 κ₀ ⟨128 + ξ.val, by omega⟩)
    (κ₀ ξ : Fin 256) (i₁ i₂ i₃ i₄ i₅) :
    v.readCov (⟨Rect.unit (s := S2x256x256) ![1, 0, 128] S1x256x128.size i₁, w₁₁⟩ :: ⟨Rect.unit (s := S2x256x256) ![1, 0, 0] S1x256x128.size i₂, w₁₀⟩
      :: ⟨Rect.unit (s := S2x256x256) ![0, 0, 128] S1x256x128.size i₃, w₀₁⟩ :: ⟨Rect.unit (s := S2x256x256) ![0, 0, 0] S1x256x128.size i₄, w₀₀⟩ :: L)
      (Rect.unit (s := S2x256x256) ![h.val, 0, 0] S1x256x256.size i₅).toLoadRect (ix3 0 κ₀ ξ) = G h κ₀ ξ :=
  (readAt_unit v _ i₅ rfl _ (ix3 h κ₀ ξ) (by intro a; fin_cases a <;> simp [ix3])).trans
    (head_read v L w₀₀ w₀₁ w₁₀ w₁₁ h G h₀₀ h₀₁ h₁₀ h₁₁ κ₀ ξ i₁ i₂ i₃ i₄)

/-- The two heads' stores into the queries' gradient. -/
theorem add9 (O : Ops) (dg : Bool) (n : Fin 16) (v : View sig .tc .vmem S16x256x256 .f32) (f : v.ty.Contents (Elt Ideal)) (L : List (View.Piece (Elt Ideal) S16x256x256 .f32))
    {off₀ off₁ : Fin 3 → ℕ} (e₀ : off₀ = ![n.val, 0, 0]) (e₁ : off₁ = ![n.val, 128, 0]) (i₀ : ∀ x : Fin 3, off₀ x + S1x96x256.size x ≤ S16x256x256.size x) (i₁ : ∀ x : Fin 3, off₁ x + S1x96x256.size x ≤ S16x256x256.size x)
    (c₀ c₁ : Vec Ideal S1x96x256 .f32) (k₀ k₁ : Vec Ideal S1x96x256 .bf16) (p₀ p₁ : Vec Ideal S1x256x256 .bf16)
    (hk₀ : ∀ (r : Fin 96) (x : Fin 256), k₀ (ix3 0 r x) = O.kt (hd96 0 r) x) (hk₁ : ∀ (r : Fin 96) (x : Fin 256), k₁ (ix3 0 r x) = O.kt (hd96 1 r) x)
    (hp₀ : ∀ x y : Fin 256, p₀ (ix3 0 x y) = O.W dg n 0 x y) (hp₁ : ∀ x y : Fin 256, p₁ (ix3 0 x y) = O.W dg n 1 x y)
    (hc₀ : ∀ (z : Fin 16) (d : Fin 256) (r : Fin 96) (x : Fin 256), z.val = n.val → d.val = 0 + r.val → c₀ (ix3 0 r x) = View.read (Elt Ideal) v (v.writes (Elt Ideal) f L) (ix3 z d x))
    (hc₁ : ∀ (z : Fin 16) (d : Fin 256) (r : Fin 96) (x : Fin 256), z.val = n.val → d.val = 128 + r.val → c₁ (ix3 0 r x) = View.read (Elt Ideal) v (v.writes (Elt Ideal) f L) (ix3 z d x))
    (z : Fin 16) (d : Fin 256) (ξ : Fin 256) :
    View.read (Elt Ideal) v (v.writes (Elt Ideal) f (⟨Rect.unit (s := S16x256x256) off₁ S1x96x256.size i₁, k0_pay29 c₁ k₁ p₁⟩ :: ⟨Rect.unit (s := S16x256x256) off₀ S1x96x256.size i₀, k0_pay29 c₀ k₀ p₀⟩ :: L)) (ix3 z d ξ)
      = (View.read (Elt Ideal) v (v.writes (Elt Ideal) f L) (ix3 z d ξ) : EReal) + O.C9 dg n z d ξ := by
  have h₀ := put_add (N := 16) (M := 256) (W := 96) v f n.val 0 i₀ (k0_pay29 c₀ k₀ p₀) L e₀ (O.A9 dg n 0) (fun z d r x hz hd => by
    rw [dq_val, hc₀ z d r x hz hd]
    refine congrArg _ (Finset.sum_congr rfl fun y _ => ?_)
    rw [hk₀, hp₀])
  have h₁ := put_add (N := 16) (M := 256) (W := 96) v f n.val 128 i₁ (k0_pay29 c₁ k₁ p₁) (⟨Rect.unit (s := S16x256x256) off₀ S1x96x256.size i₀, k0_pay29 c₀ k₀ p₀⟩ :: L) e₁ (O.A9 dg n 1) (fun z d r x hz hd => by
    rw [dq_val, hc₁ z d r x hz hd]
    refine congrArg₂ _ ?_ (Finset.sum_congr rfl fun y _ => ?_)
    · refine Eq.symm ((h₀ z d x).trans ?_)
      rw [bump_of_ne n.val 0 _ z d x (by omega), add_zero]
    · rw [hk₁, hp₁])
  exact (h₁ z d ξ).trans ((congrArg (· + _) (h₀ z d ξ)).trans (add_assoc _ _ _))

/-- The two heads' stores into the keys' gradient. -/
theorem add10 (O : Ops) (dg : Bool) (n : Fin 16) (b : ℕ) (v : View sig .tc .vmem S2x256x256 .f32) (f : v.ty.Contents (Elt Ideal)) (L : List (View.Piece (Elt Ideal) S2x256x256 .f32))
    {off₀ off₁ : Fin 3 → ℕ} (e₀ : off₀ = ![b, 0, 0]) (e₁ : off₁ = ![b, 128, 0]) (i₀ : ∀ x : Fin 3, off₀ x + S1x96x256.size x ≤ S2x256x256.size x) (i₁ : ∀ x : Fin 3, off₁ x + S1x96x256.size x ≤ S2x256x256.size x)
    (c₀ c₁ : Vec Ideal S1x96x256 .f32) (k₀ k₁ : Vec Ideal S1x96x256 .bf16) (p₀ p₁ : Vec Ideal S1x256x256 .bf16)
    (hk₀ : ∀ (r : Fin 96) (x : Fin 256), k₀ (ix3 0 r x) = O.q n (hd96 0 r) x) (hk₁ : ∀ (r : Fin 96) (x : Fin 256), k₁ (ix3 0 r x) = O.q n (hd96 1 r) x)
    (hp₀ : ∀ x y : Fin 256, p₀ (ix3 0 x y) = O.W dg n 0 x y) (hp₁ : ∀ x y : Fin 256, p₁ (ix3 0 x y) = O.W dg n 1 x y)
    (hc₀ : ∀ (z : Fin 2) (d : Fin 256) (r : Fin 96) (x : Fin 256), z.val = b → d.val = 0 + r.val → c₀ (ix3 0 r x) = View.read (Elt Ideal) v (v.writes (Elt Ideal) f L) (ix3 z d x))
    (hc₁ : ∀ (z : Fin 2) (d : Fin 256) (r : Fin 96) (x : Fin 256), z.val = b → d.val = 128 + r.val → c₁ (ix3 0 r x) = View.read (Elt Ideal) v (v.writes (Elt Ideal) f L) (ix3 z d x))
    (z : Fin 2) (d : Fin 256) (ξ : Fin 256) :
    View.read (Elt Ideal) v (v.writes (Elt Ideal) f (⟨Rect.unit (s := S2x256x256) off₁ S1x96x256.size i₁, k0_pay28 c₁ k₁ p₁⟩ :: ⟨Rect.unit (s := S2x256x256) off₀ S1x96x256.size i₀, k0_pay28 c₀ k₀ p₀⟩ :: L)) (ix3 z d ξ)
      = (View.read (Elt Ideal) v (v.writes (Elt Ideal) f L) (ix3 z d ξ) : EReal) + O.C10 dg b n z d ξ := by
  have h₀ := put_add (N := 2) (M := 256) (W := 96) v f b 0 i₀ (k0_pay28 c₀ k₀ p₀) L e₀ (O.A10 dg n 0) (fun z d r x hz hd => by
    rw [dk_val, hc₀ z d r x hz hd]
    refine congrArg _ (Finset.sum_congr rfl fun y _ => ?_)
    rw [hk₀, hp₀])
  have h₁ := put_add (N := 2) (M := 256) (W := 96) v f b 128 i₁ (k0_pay28 c₁ k₁ p₁) (⟨Rect.unit (s := S2x256x256) off₀ S1x96x256.size i₀, k0_pay28 c₀ k₀ p₀⟩ :: L) e₁ (O.A10 dg n 1) (fun z d r x hz hd => by
    rw [dk_val, hc₁ z d r x hz hd]
    refine congrArg₂ _ ?_ (Finset.sum_congr rfl fun y _ => ?_)
    · refine Eq.symm ((h₀ z d x).trans ?_)
      rw [bump_of_ne b 0 _ z d x (by omega), add_zero]
    · rw [hk₁, hp₁])
  exact (h₁ z d ξ).trans ((congrArg (· + _) (h₀ z d ξ)).trans (add_assoc _ _ _))

/-- The two heads' stores into the values' gradient. -/
theorem add11 (O : Ops) (dg : Bool) (n : Fin 16) (b : ℕ) (v : View sig .tc .vmem S2x128x256 .f32) (f : v.ty.Contents (Elt Ideal)) (L : List (View.Piece (Elt Ideal) S2x128x256 .f32))
    {off₀ off₁ : Fin 3 → ℕ} (e₀ : off₀ = ![b, 0, 0]) (e₁ : off₁ = ![b, 64, 0]) (i₀ : ∀ x : Fin 3, off₀ x + S1x64x256.size x ≤ S2x128x256.size x) (i₁ : ∀ x : Fin 3, off₁ x + S1x64x256.size x ≤ S2x128x256.size x)
    (c₀ c₁ : Vec Ideal S1x64x256 .f32) (k₀ k₁ : Vec Ideal S1x64x256 .bf16) (p₀ p₁ : Vec Ideal S1x256x256 .bf16)
    (hk₀ : ∀ (r : Fin 64) (x : Fin 256), k₀ (ix3 0 r x) = O.g n (hd64 0 r) x) (hk₁ : ∀ (r : Fin 64) (x : Fin 256), k₁ (ix3 0 r x) = O.g n (hd64 1 r) x)
    (hp₀ : ∀ x y : Fin 256, p₀ (ix3 0 x y) = O.P dg n 0 x y) (hp₁ : ∀ x y : Fin 256, p₁ (ix3 0 x y) = O.P dg n 1 x y)
    (hc₀ : ∀ (z : Fin 2) (d : Fin 128) (r : Fin 64) (x : Fin 256), z.val = b → d.val = 0 + r.val → c₀ (ix3 0 r x) = View.read (Elt Ideal) v (v.writes (Elt Ideal) f L) (ix3 z d x))
    (hc₁ : ∀ (z : Fin 2) (d : Fin 128) (r : Fin 64) (x : Fin 256), z.val = b → d.val = 64 + r.val → c₁ (ix3 0 r x) = View.read (Elt Ideal) v (v.writes (Elt Ideal) f L) (ix3 z d x))
    (z : Fin 2) (d : Fin 128) (ξ : Fin 256) :
    View.read (Elt Ideal) v (v.writes (Elt Ideal) f (⟨Rect.unit (s := S2x128x256) off₁ S1x64x256.size i₁, k0_pay22 c₁ k₁ p₁⟩ :: ⟨Rect.unit (s := S2x128x256) off₀ S1x64x256.size i₀, k0_pay22 c₀ k₀ p₀⟩ :: L)) (ix3 z d ξ)
      = (View.read (Elt Ideal) v (v.writes (Elt Ideal) f L) (ix3 z d ξ) : EReal) + O.C11 dg b n z d ξ := by
  have h₀ := put_add (N := 2) (M := 128) (W := 64) v f b 0 i₀ (k0_pay22 c₀ k₀ p₀) L e₀ (O.A11 dg n 0) (fun z d r x hz hd => by
    rw [dv_val, hc₀ z d r x hz hd]
    refine congrArg _ (Finset.sum_congr rfl fun y _ => ?_)
    rw [hk₀, hp₀])
  have h₁ := put_add (N := 2) (M := 128) (W := 64) v f b 64 i₁ (k0_pay22 c₁ k₁ p₁) (⟨Rect.unit (s := S2x128x256) off₀ S1x64x256.size i₀, k0_pay22 c₀ k₀ p₀⟩ :: L) e₁ (O.A11 dg n 1) (fun z d r x hz hd => by
    rw [dv_val, hc₁ z d r x hz hd]
    refine congrArg₂ _ ?_ (Finset.sum_congr rfl fun y _ => ?_)
    · refine Eq.symm ((h₀ z d x).trans ?_)
      rw [bump_of_ne b 0 _ z d x (by omega), add_zero]
    · rw [hk₁, hp₁])
  exact (h₁ z d ξ).trans ((congrArg (· + _) (h₀ z d ξ)).trans (add_assoc _ _ _))

end Cert.MlaIdeal.Hand
-- ==== Proof.MlaMath.lean ====
module

public import proofs.«01_k».proof.Proof.MlaOps
public import Mathlib.Data.Finset.Fold

/-!
# The gradient of causal attention over the reals

The forward pass and its gradient are written over real arrays of 4096 rows and 16 heads, and the operands of one key
block (`Ops`) are compared with them: what all the query blocks add is the gradient's sum, by blocks of 256 rows.
-/

@[expose] public section

set_option maxRecDepth 16384

noncomputable section

namespace Cert.MlaIdeal.Hand

open Cert.MlaIdeal Cert.MlaIdeal.Gen
open Idealize.ShloMosaic Idealize.ShloMosaic.TcCoe

theorem coe_sum {ι : Type} (s : Finset ι) (f : ι → ℝ) : ((∑ i ∈ s, f i : ℝ) : EReal) = ∑ i ∈ s, (f i : EReal) :=
  map_sum (⟨⟨(fun r : ℝ => (r : EReal)), rfl⟩, EReal.coe_add⟩ : ℝ →+ EReal) f s

/-- Row `b` of block `a`. -/
def row (a : Fin 16) (b : Fin 256) : Fin 4096 := ⟨256 * a.val + b.val, by omega⟩

theorem sum_rows {M : Type} [AddCommMonoid M] (f : Fin 4096 → M) : ∑ a : Fin 16, ∑ b : Fin 256, f (row a b) = ∑ t : Fin 4096, f t := by
  refine (Fintype.sum_prod_type' (fun a b => f (row a b))).symm.trans ?_
  refine Fintype.sum_equiv (finProdFinEquiv (m := 16) (n := 256)) _ f fun p => congrArg f (Fin.ext ?_)
  show 256 * p.1.val + p.2.val = _
  rw [finProdFinEquiv_apply_val]; omega

/-- A head of 96 entries, padded to 128 by zeros. -/
def pad (Q : Fin 4096 → Fin 16 → Fin 96 → ℝ) (t : Fin 4096) (H : Fin 16) (l : Fin 128) : ℝ := if h : l.val < 96 then Q t H ⟨l.val, h⟩ else 0

theorem sum_pad (f : Fin 128 → ℝ) (h : ∀ l, 96 ≤ l.val → f l = 0) : ∑ l : Fin 128, f l = ∑ r : Fin 96, f ⟨r.val, by omega⟩ := by
  refine (Fin.sum_univ_add (a := 96) (b := 32) f).trans ?_
  rw [Finset.sum_eq_zero (s := (Finset.univ : Finset (Fin 32))) (fun i _ => h _ (by simp)), add_zero]
  rfl

section Forward

variable (Q K : Fin 4096 → Fin 16 → Fin 96 → ℝ) (V G : Fin 4096 → Fin 16 → Fin 64 → ℝ)

def score (H : Fin 16) (t j : Fin 4096) : ℝ := (∑ d : Fin 96, Q t H d * K j H d) * (Real.sqrt 96)⁻¹
def masked (H : Fin 16) (t j : Fin 4096) : EReal := if j.val ≤ t.val then (score Q K H t j : EReal) else ⊥
def rowMax (H : Fin 16) (t : Fin 4096) : EReal := (Finset.univ : Finset (Fin 4096)).fold max ⊥ (masked Q K H t)
def rowMaxR (H : Fin 16) (t : Fin 4096) : ℝ := (rowMax Q K H t).toReal

theorem rowMax_coe (H : Fin 16) (t : Fin 4096) : rowMax Q K H t = (rowMaxR Q K H t : EReal) := by
  refine (EReal.coe_toReal ?_ ?_).symm
  · refine ne_of_lt ((Finset.fold_max_lt _).mpr ⟨bot_lt_top, fun j _ => ?_⟩)
    unfold masked; split
    · exact EReal.coe_lt_top _
    · exact bot_lt_top
  · refine ne_of_gt ((Finset.lt_fold_max _).mpr (Or.inr ⟨t, Finset.mem_univ _, ?_⟩))
    unfold masked; rw [if_pos le_rfl]; exact EReal.bot_lt_coe _

def ex (H : Fin 16) (t j : Fin 4096) : ℝ := if j.val ≤ t.val then Real.exp (score Q K H t j - rowMaxR Q K H t) else 0
def den (H : Fin 16) (t : Fin 4096) : ℝ := ∑ j : Fin 4096, ex Q K H t j
def wt (H : Fin 16) (t j : Fin 4096) : ℝ := ex Q K H t j / den Q K H t
def dwt (H : Fin 16) (t j : Fin 4096) : ℝ := ∑ r : Fin 64, G t H r * V j H r
def corr (H : Fin 16) (t : Fin 4096) : ℝ := ∑ j : Fin 4096, wt Q K H t j * dwt V G H t j
def dsc (H : Fin 16) (t j : Fin 4096) : ℝ := wt Q K H t j * (dwt V G H t j - corr Q K V G H t) * (Real.sqrt 96)⁻¹
def lse (H : Fin 16) (t : Fin 4096) : ℝ := (rowMaxR Q K H t + Real.log (den Q K H t)) / Real.log 2

theorem den_pos (H : Fin 16) (t : Fin 4096) : 0 < den Q K H t := by
  refine Finset.sum_pos' (fun j _ => ?_) ⟨t, Finset.mem_univ _, ?_⟩
  · unfold ex; split
    · exact (Real.exp_pos _).le
    · exact le_rfl
  · unfold ex; rw [if_pos le_rfl]; exact Real.exp_pos _

theorem exp_masked (H : Fin 16) (t j : Fin 4096) : Ideal.exp (masked Q K H t j - rowMax Q K H t) = (ex Q K H t j : EReal) := by
  rw [rowMax_coe, masked, ex]; split
  · rw [← EReal.coe_sub, Ideal.exp_coe]
  · rw [EReal.bot_sub, Ideal.exp_bot, EReal.coe_zero]

/-- The weight by the row's logarithm. -/
theorem exp2_lse (H : Fin 16) (t j : Fin 4096) :
    (2 : ℝ) ^ ((∑ d : Fin 96, Q t H d * K j H d) * ((Real.sqrt 96)⁻¹ * (Real.log 2)⁻¹) - lse Q K H t) = Real.exp (score Q K H t j - rowMaxR Q K H t) / den Q K H t := by
  have h2 : Real.log 2 ≠ 0 := ne_of_gt (Real.log_pos (by norm_num))
  rw [Real.rpow_def_of_pos (by norm_num)]
  conv_rhs => rw [← Real.exp_log (den_pos Q K H t), ← Real.exp_sub]
  refine congrArg Real.exp ?_
  unfold lse score
  field_simp
  ring

theorem wt_zero {H : Fin 16} {t j : Fin 4096} (h : t.val < j.val) : wt Q K H t j = 0 := by
  unfold wt ex; rw [if_neg (by omega), zero_div]
theorem dsc_zero {H : Fin 16} {t j : Fin 4096} (h : t.val < j.val) : dsc Q K V G H t j = 0 := by
  unfold dsc; rw [wt_zero Q K h, zero_mul, zero_mul]

/-- The correction as the result's product with its gradient. -/
theorem corr_out (H : Fin 16) (t : Fin 4096) : ∑ r : Fin 64, (∑ j : Fin 4096, V j H r * wt Q K H t j) * G t H r = corr Q K V G H t := by
  unfold corr dwt
  simp only [Finset.sum_mul, Finset.mul_sum]
  rw [Finset.sum_comm]
  refine Finset.sum_congr rfl fun j _ => Finset.sum_congr rfl fun r _ => ?_
  ring

/-- The scores' gradient as the derivative of the quotient gives it. -/
theorem dsc_quot (H : Fin 16) (t j : Fin 4096) :
    (dwt V G H t j / den Q K H t + -(∑ i : Fin 4096, dwt V G H t i * (1 / (den Q K H t * den Q K H t)) * ex Q K H t i)) * ex Q K H t j * (Real.sqrt 96)⁻¹ = dsc Q K V G H t j := by
  have hL := (den_pos Q K H t).ne'
  have e : ∑ i : Fin 4096, dwt V G H t i * (1 / (den Q K H t * den Q K H t)) * ex Q K H t i = corr Q K V G H t / den Q K H t := by
    unfold corr wt
    rw [Finset.sum_div]
    refine Finset.sum_congr rfl fun i _ => ?_
    field_simp
  rw [e]
  unfold dsc wt
  field_simp
  ring

end Forward

/-- Head `h` of pair `hp`; the head and the lane of a row, of 128 or of 64 a head. -/
def hh (hp : Fin 8) (h : Fin 2) : Fin 16 := ⟨2 * hp.val + h.val, by omega⟩
def headOf (d : Fin 256) : Fin 2 := ⟨d.val / 128, by omega⟩
def laneOf (d : Fin 256) : Fin 128 := ⟨d.val % 128, by omega⟩
def headOf64 (d : Fin 128) : Fin 2 := ⟨d.val / 64, by omega⟩
def laneOf64 (d : Fin 128) : Fin 64 := ⟨d.val % 64, by omega⟩

/-- Operands that hold real arrays: pair `hp` of heads, key block `j`. -/
structure Ops.Real (O : Ops) (Q K : Fin 4096 → Fin 16 → Fin 96 → ℝ) (V G : Fin 4096 → Fin 16 → Fin 64 → ℝ) (hp : Fin 8) (j : Fin 16) : Prop where
  q : ∀ n h l ξ, O.q n (hd h l) ξ = (pad Q (row n ξ) (hh hp h) l : EReal)
  k : ∀ κ₀ h l, O.k κ₀ (hd h l) = (pad K (row j κ₀) (hh hp h) l : EReal)
  kt : ∀ h l κ₀, O.kt (hd h l) κ₀ = (pad K (row j κ₀) (hh hp h) l : EReal)
  vh : ∀ h κ₀ l, O.vh h κ₀ l = if l.val / 64 = h.val then (V (row j κ₀) (hh hp h) (laneOf64 l) : EReal) else 0
  g : ∀ n h r ξ, O.g n (hd64 h r) ξ = (G (row n ξ) (hh hp h) r : EReal)
  l : ∀ n h ξ, O.l n (h8 h) ξ = (lse Q K (hh hp h) (row n ξ) : EReal)
  d : ∀ n h ξ, O.d n (h8 h) ξ = (corr Q K V G (hh hp h) (row n ξ) : EReal)

namespace Ops

variable {O : Ops} {Q K : Fin 4096 → Fin 16 → Fin 96 → ℝ} {V G : Fin 4096 → Fin 16 → Fin 64 → ℝ} {hp : Fin 8} {j : Fin 16}
  (R : O.Real Q K V G hp j)
include R

theorem S_real (n : Fin 16) (h : Fin 2) (κ₀ ξ : Fin 256) : O.S n h κ₀ ξ = ((∑ d : Fin 96, Q (row n ξ) (hh hp h) d * K (row j κ₀) (hh hp h) d : ℝ) : EReal) := by
  unfold S
  simp only [R.k, R.q, ← EReal.coe_mul]
  rw [← coe_sum, sum_pad _ (fun l hl => by unfold pad; rw [dif_neg (by omega), zero_mul])]
  refine congrArg _ (Finset.sum_congr rfl fun d _ => ?_)
  unfold pad
  rw [dif_pos d.isLt, dif_pos d.isLt, mul_comm]

theorem G_real (n : Fin 16) (h : Fin 2) (κ₀ ξ : Fin 256) : O.G n h κ₀ ξ = (dwt V G (hh hp h) (row n ξ) (row j κ₀) : EReal) := by
  have e : ∀ l : Fin 128, O.vh h κ₀ l * O.g n l ξ = ((if l.val / 64 = h.val then V (row j κ₀) (hh hp h) (laneOf64 l) * G (row n ξ) (hh hp h) (laneOf64 l) else 0 : ℝ) : EReal) := fun l => by
    rw [R.vh]
    split
    · next hl =>
        rw [show l = hd64 h (laneOf64 l) from Fin.ext (by show l.val = 64 * h.val + l.val % 64; omega), R.g, ← EReal.coe_mul]
        rw [← show l = hd64 h (laneOf64 l) from Fin.ext (by show l.val = 64 * h.val + l.val % 64; omega)]
    · rw [zero_mul, EReal.coe_zero]
  unfold Ops.G dwt
  rw [Finset.sum_congr rfl fun l _ => e l, ← coe_sum]
  refine congrArg _ ((Fin.sum_univ_add (a := 64) (b := 64) _).trans ?_)
  have hc : ∀ i : Fin 64, laneOf64 (Fin.castAdd 64 i) = i := fun i => Fin.ext (by show i.val % 64 = _; omega)
  have hn : ∀ i : Fin 64, laneOf64 (Fin.natAdd 64 i) = i := fun i => Fin.ext (by show (64 + i.val) % 64 = _; omega)
  match h with
  | 0 =>
    refine (congrArg (_ + ·) (Finset.sum_eq_zero fun i _ => if_neg (by show ¬ (64 + i.val) / 64 = 0; omega))).trans ?_
    rw [add_zero]
    refine Finset.sum_congr rfl fun i _ => ?_
    rw [if_pos (by show i.val / 64 = 0; omega), hc, mul_comm]
  | 1 =>
    refine (congrArg (· + _) (Finset.sum_eq_zero fun i _ => if_neg (by show ¬ i.val / 64 = 1; omega))).trans ?_
    rw [zero_add]
    refine Finset.sum_congr rfl fun i _ => ?_
    rw [if_pos (by show (64 + i.val) / 64 = 1; omega), hn, mul_comm]

theorem P_real (dg : Bool) (n : Fin 16) (h : Fin 2) (κ₀ ξ : Fin 256) (hv : (dg = true ∧ n = j) ∨ (dg = false ∧ j.val < n.val)) :
    O.P dg n h κ₀ ξ = (wt Q K (hh hp h) (row n ξ) (row j κ₀) : EReal) := by
  have key : pE (O.S n h κ₀ ξ) (O.l n (h8 h) ξ) = ((Real.exp (score Q K (hh hp h) (row n ξ) (row j κ₀) - rowMaxR Q K (hh hp h) (row n ξ)) / den Q K (hh hp h) (row n ξ) : ℝ) : EReal) := by
    rw [S_real R, R.l, ← exp2_lse]
    unfold pE s2
    rw [← EReal.coe_mul, ← EReal.coe_sub, Ideal.exp2_coe]; rfl
  unfold P
  rcases hv with ⟨rfl, rfl⟩ | ⟨rfl, hn⟩
  · by_cases hk : κ₀.val ≤ ξ.val
    · rw [if_neg (fun c => c.2 hk), key]; unfold wt ex
      rw [if_pos (show (row n κ₀).val ≤ (row n ξ).val from (show 256 * n.val + κ₀.val ≤ 256 * n.val + ξ.val by omega))]
    · rw [if_pos ⟨rfl, hk⟩, wt_zero Q K (show 256 * n.val + ξ.val < 256 * n.val + κ₀.val by omega), EReal.coe_zero]
  · rw [if_neg (fun c => Bool.false_ne_true c.1), key]; unfold wt ex
    rw [if_pos (show (row j κ₀).val ≤ (row n ξ).val from (show 256 * j.val + κ₀.val ≤ 256 * n.val + ξ.val by omega))]

theorem W_real (dg : Bool) (n : Fin 16) (h : Fin 2) (κ₀ ξ : Fin 256) (hv : (dg = true ∧ n = j) ∨ (dg = false ∧ j.val < n.val)) :
    O.W dg n h κ₀ ξ = (dsc Q K V G (hh hp h) (row n ξ) (row j κ₀) : EReal) := by
  unfold W dE sc dsc
  rw [P_real R dg n h κ₀ ξ hv, G_real R, R.d]
  norm_cast

/-- The diagonal block, a block below it or nothing, against a value that vanishes above. -/
theorem pick_eq (n : Fin 16) {D T z : EReal} (h1 : n = j → D = z) (h2 : j.val < n.val → T = z) (h3 : n.val < j.val → z = 0) : (if n.val = j.val then D else if j.val < n.val then T else 0) = z := by
  by_cases h : n.val = j.val
  · rw [if_pos h]; exact h1 (Fin.ext h)
  · rw [if_neg h]
    by_cases h' : j.val < n.val
    · rw [if_pos h']; exact h2 h'
    · rw [if_neg h']; exact (h3 (by omega)).symm

theorem A9_real (dg : Bool) (n : Fin 16) (h : Fin 2) (r : Fin 96) (ξ : Fin 256) (hv : (dg = true ∧ n = j) ∨ (dg = false ∧ j.val < n.val)) :
    O.A9 dg n h r ξ = ((∑ κ₀ : Fin 256, K (row j κ₀) (hh hp h) r * dsc Q K V G (hh hp h) (row n ξ) (row j κ₀) : ℝ) : EReal) := by
  unfold A9
  rw [coe_sum]
  refine Finset.sum_congr rfl fun κ₀ _ => ?_
  rw [W_real R dg n h κ₀ ξ hv, show hd96 h r = hd h ⟨r.val, by omega⟩ from rfl, R.kt, EReal.coe_mul]
  unfold pad; rw [dif_pos r.isLt]

theorem A10_real (dg : Bool) (n : Fin 16) (h : Fin 2) (r : Fin 96) (κ₀ : Fin 256) (hv : (dg = true ∧ n = j) ∨ (dg = false ∧ j.val < n.val)) :
    O.A10 dg n h r κ₀ = ((∑ ξ : Fin 256, Q (row n ξ) (hh hp h) r * dsc Q K V G (hh hp h) (row n ξ) (row j κ₀) : ℝ) : EReal) := by
  unfold A10
  rw [coe_sum]
  refine Finset.sum_congr rfl fun ξ _ => ?_
  rw [W_real R dg n h κ₀ ξ hv, show hd96 h r = hd h ⟨r.val, by omega⟩ from rfl, R.q, EReal.coe_mul]
  unfold pad; rw [dif_pos r.isLt]

theorem A11_real (dg : Bool) (n : Fin 16) (h : Fin 2) (r : Fin 64) (κ₀ : Fin 256) (hv : (dg = true ∧ n = j) ∨ (dg = false ∧ j.val < n.val)) :
    O.A11 dg n h r κ₀ = ((∑ ξ : Fin 256, G (row n ξ) (hh hp h) r * wt Q K (hh hp h) (row n ξ) (row j κ₀) : ℝ) : EReal) := by
  unfold A11
  rw [coe_sum]
  refine Finset.sum_congr rfl fun ξ _ => ?_
  rw [P_real R dg n h κ₀ ξ hv, R.g, EReal.coe_mul]

end Ops

/-- Two heads' bumps at one entry. -/
theorem bump_two {N : ℕ} (a : ℕ) (A : Fin 2 → Fin 96 → Fin 256 → EReal) (z : Fin N) (d ξ : Fin 256) :
    bump a 0 (A 0) z d ξ + bump a 128 (A 1) z d ξ = if h : z.val = a ∧ (laneOf d).val < 96 then A (headOf d) ⟨(laneOf d).val, h.2⟩ ξ else 0 := by
  have hl : (laneOf d).val = d.val % 128 := rfl
  unfold bump
  by_cases hz : z.val = a
  · by_cases hd : d.val < 128
    · rw [dif_neg (c := z.val = a ∧ 128 ≤ d.val ∧ _) (by omega), add_zero]
      by_cases hr : (laneOf d).val < 96
      · rw [dif_pos ⟨hz, by omega, by omega⟩, dif_pos ⟨hz, hr⟩, show headOf d = 0 from Fin.ext (by show d.val / 128 = 0; omega)]
        exact congrArg (A 0 · ξ) (Fin.ext (by show d.val - 0 = d.val % 128; omega))
      · rw [dif_neg (by omega), dif_neg (by omega)]
    · rw [dif_neg (c := z.val = a ∧ 0 ≤ d.val ∧ _) (by omega), zero_add]
      by_cases hr : (laneOf d).val < 96
      · rw [dif_pos ⟨hz, by omega, by omega⟩, dif_pos ⟨hz, hr⟩, show headOf d = 1 from Fin.ext (by show d.val / 128 = 1; omega)]
        exact congrArg (A 1 · ξ) (Fin.ext (by show d.val - 128 = d.val % 128; omega))
      · rw [dif_neg (by omega), dif_neg (by omega)]
  · rw [dif_neg (fun c => hz c.1), dif_neg (fun c => hz c.1), dif_neg (fun c => hz c.1), add_zero]

theorem bump_two64 {N : ℕ} (a : ℕ) (A : Fin 2 → Fin 64 → Fin 256 → EReal) (z : Fin N) (d : Fin 128) (ξ : Fin 256) :
    bump a 0 (A 0) z d ξ + bump a 64 (A 1) z d ξ = if z.val = a then A (headOf64 d) (laneOf64 d) ξ else 0 := by
  unfold bump
  by_cases hz : z.val = a
  · rw [if_pos hz]
    by_cases hd : d.val < 64
    · rw [dif_neg (c := z.val = a ∧ 64 ≤ d.val ∧ _) (by omega), add_zero, dif_pos ⟨hz, by omega, by omega⟩, show headOf64 d = 0 from Fin.ext (by show d.val / 64 = 0; omega)]
      exact congrArg (A 0 · ξ) (Fin.ext (by show d.val - 0 = d.val % 64; omega))
    · rw [dif_neg (c := z.val = a ∧ 0 ≤ d.val ∧ _) (by omega), zero_add, dif_pos ⟨hz, by omega, by omega⟩, show headOf64 d = 1 from Fin.ext (by show d.val / 64 = 1; omega)]
      exact congrArg (A 1 · ξ) (Fin.ext (by show d.val - 64 = d.val % 64; omega))
  · rw [dif_neg (fun c => hz c.1), dif_neg (fun c => hz c.1), if_neg hz, add_zero]

section Totals

variable (Q K : Fin 4096 → Fin 16 → Fin 96 → ℝ) (V G : Fin 4096 → Fin 16 → Fin 64 → ℝ) (hp : Fin 8) (j : Fin 16)

/-- What key block `j` adds to the queries' gradient; the keys' and the values' gradients. -/
def partQ (z : Fin 16) (d ξ : Fin 256) : ℝ := ∑ κ₀ : Fin 256, pad K (row j κ₀) (hh hp (headOf d)) (laneOf d) * dsc Q K V G (hh hp (headOf d)) (row z ξ) (row j κ₀)
def gradQ (t : Fin 4096) (H : Fin 16) (l : Fin 128) : ℝ := ∑ κ₀ : Fin 4096, pad K κ₀ H l * dsc Q K V G H t κ₀
def gradK (t : Fin 4096) (H : Fin 16) (l : Fin 128) : ℝ := ∑ ξ : Fin 4096, pad Q ξ H l * dsc Q K V G H ξ t
def gradV (t : Fin 4096) (H : Fin 16) (l : Fin 64) : ℝ := ∑ ξ : Fin 4096, G ξ H l * wt Q K H ξ t

theorem sum_partQ (z : Fin 16) (d ξ : Fin 256) : ∑ j : Fin 16, partQ Q K V G hp j z d ξ = gradQ Q K V G (row z ξ) (hh hp (headOf d)) (laneOf d) :=
  sum_rows (fun κ => pad K κ (hh hp (headOf d)) (laneOf d) * dsc Q K V G (hh hp (headOf d)) (row z ξ) κ)

variable {Q K V G hp j} {O : Ops} (R : O.Real Q K V G hp j)
include R

theorem total9 (z : Fin 16) (d ξ : Fin 256) :
    ∑ n : Fin 16, (if n.val = j.val then O.C9 true n z d ξ else if j.val < n.val then O.C9 false n z d ξ else 0) = (partQ Q K V G hp j z d ξ : EReal) := by
  have c : ∀ (dg : Bool) (n : Fin 16), O.C9 dg n z d ξ = _ := fun dg n => bump_two n.val (fun h => O.A9 dg n h) z d ξ
  rw [Finset.sum_eq_single z (fun n _ hn => by rw [c, c, dif_neg (fun e => hn (Fin.ext e.1.symm)), dif_neg (fun e => hn (Fin.ext e.1.symm)), ite_self, ite_self]) (fun h => absurd (Finset.mem_univ _) h)]
  rw [c, c]
  unfold partQ pad
  by_cases hl : (laneOf d).val < 96
  · rw [dif_pos ⟨rfl, hl⟩, dif_pos ⟨rfl, hl⟩]
    simp only [dif_pos hl]
    refine Ops.pick_eq R z (fun e => Ops.A9_real R _ _ _ _ _ (.inl ⟨rfl, e⟩)) (fun e => Ops.A9_real R _ _ _ _ _ (.inr ⟨rfl, e⟩)) (fun e => ?_)
    rw [Finset.sum_eq_zero (fun κ₀ _ => by rw [dsc_zero Q K V G (show 256 * z.val + ξ.val < 256 * j.val + κ₀.val by omega), mul_zero]), EReal.coe_zero]
  · rw [dif_neg (fun e => hl e.2), dif_neg (fun e => hl e.2), ite_self, ite_self]
    simp only [dif_neg hl, zero_mul, Finset.sum_const_zero, EReal.coe_zero]

theorem total10 (b : Fin 2) (z : Fin 2) (d κ₀ : Fin 256) :
    ∑ n : Fin 16, (if n.val = j.val then O.C10 true b.val n z d κ₀ else if j.val < n.val then O.C10 false b.val n z d κ₀ else 0)
      = if z = b then (gradK Q K V G (row j κ₀) (hh hp (headOf d)) (laneOf d) : EReal) else 0 := by
  have c : ∀ (dg : Bool) (n : Fin 16), O.C10 dg b.val n z d κ₀ = _ := fun dg n => bump_two b.val (fun h => O.A10 dg n h) z d κ₀
  by_cases hz : z = b
  · rw [if_pos hz]
    unfold gradK
    rw [← sum_rows, coe_sum]
    refine Finset.sum_congr rfl fun n _ => ?_
    rw [c, c]
    unfold pad
    by_cases hl : (laneOf d).val < 96
    · rw [dif_pos ⟨congrArg Fin.val hz, hl⟩, dif_pos ⟨congrArg Fin.val hz, hl⟩]
      simp only [dif_pos hl]
      refine Ops.pick_eq R n (fun e => Ops.A10_real R _ _ _ _ _ (.inl ⟨rfl, e⟩)) (fun e => Ops.A10_real R _ _ _ _ _ (.inr ⟨rfl, e⟩)) (fun e => ?_)
      rw [Finset.sum_eq_zero (fun ξ _ => by rw [dsc_zero Q K V G (show 256 * n.val + ξ.val < 256 * j.val + κ₀.val by omega), mul_zero]), EReal.coe_zero]
    · rw [dif_neg (fun e => hl e.2), dif_neg (fun e => hl e.2), ite_self, ite_self]
      simp only [dif_neg hl, zero_mul, Finset.sum_const_zero, EReal.coe_zero]
  · rw [if_neg hz]
    refine Finset.sum_eq_zero fun n _ => ?_
    rw [c, c, dif_neg (fun e => hz (Fin.ext e.1)), dif_neg (fun e => hz (Fin.ext e.1)), ite_self, ite_self]

theorem total11 (b : Fin 2) (z : Fin 2) (d : Fin 128) (κ₀ : Fin 256) :
    ∑ n : Fin 16, (if n.val = j.val then O.C11 true b.val n z d κ₀ else if j.val < n.val then O.C11 false b.val n z d κ₀ else 0)
      = if z = b then (gradV Q K G (row j κ₀) (hh hp (headOf64 d)) (laneOf64 d) : EReal) else 0 := by
  have c : ∀ (dg : Bool) (n : Fin 16), O.C11 dg b.val n z d κ₀ = _ := fun dg n => bump_two64 b.val (fun h => O.A11 dg n h) z d κ₀
  by_cases hz : z = b
  · rw [if_pos hz]
    unfold gradV
    rw [← sum_rows, coe_sum]
    refine Finset.sum_congr rfl fun n _ => ?_
    rw [c, c, if_pos (congrArg Fin.val hz), if_pos (congrArg Fin.val hz)]
    refine Ops.pick_eq R n (fun e => Ops.A11_real R _ _ _ _ _ (.inl ⟨rfl, e⟩)) (fun e => Ops.A11_real R _ _ _ _ _ (.inr ⟨rfl, e⟩)) (fun e => ?_)
    rw [Finset.sum_eq_zero (fun ξ _ => by rw [wt_zero Q K (show 256 * n.val + ξ.val < 256 * j.val + κ₀.val by omega), mul_zero]), EReal.coe_zero]
  · rw [if_neg hz]
    refine Finset.sum_eq_zero fun n _ => ?_
    rw [c, c, if_neg (fun e => hz (Fin.ext e)), if_neg (fun e => hz (Fin.ext e)), ite_self, ite_self]

end Totals

end Cert.MlaIdeal.Hand

end
-- ==== Proof.MlaHost.lean ====
module

public import proofs.«01_k».proof.Proof.MlaFrame
public import proofs.«01_k».proof.Proof.MlaMath
public import proofs.«01_k».proof.Proof.Gen.MlaRefIdeal.Read
public import Idealize.ShloMosaic.Lib.Pointwise.Tactic

/-!
# What the host hands the attention's gradient

The host pads each head's lanes to 128 and lays the arguments out by blocks; and it computes the rows' logarithms and
corrections from the forward lines. Each is a function of arrays, read here at coordinates.
-/

@[expose] public section

set_option maxRecDepth 16384

noncomputable section

namespace Cert.MlaIdeal.Host

open Cert.MlaIdeal Cert.MlaIdeal.Gen Cert.MlaIdeal.Hand
open Idealize.ShloMosaic Idealize.ShloMosaic.TcCoe Idealize.SL.Sem

section Functions

/-- A head's 96 lanes with 32 zeros after them. -/
def padded (x : Vec Ideal S4096x16x96 .f32) : Vec Ideal S4096x16x128 .bf16 :=
  (truncf .bf16 (concatenate S4096x16x128 2 [⟨S4096x16x96, x⟩, ⟨S4096x16x32, broadcastInDim S4096x16x32 ![] Facts₀.bcast_S_S4096x16x32 (constant (F := Ideal) S_ .f32 0x00000000#32)⟩] Facts₀.concatenates_S4096x16x96_S4096x16x32_S4096x16x128_d2 : FVec Ideal S4096x16x128 .f32) Facts₀.bitsLt_bf16_f32 : FVec Ideal S4096x16x128 .bf16)

def padRows (x : Vec Ideal S4096x16x96 .f32) : Vec Ideal S4096x2048 .bf16 := shapeCast _ (padded x) Facts₀.shapeCasts_S4096x16x128_S4096x2048
def padCols (x : Vec Ideal S4096x16x96 .f32) : Vec Ideal S16x2048x256 .bf16 :=
  transpose S16x2048x256 [0, 2, 1] (shapeCast _ (padded x) Facts₀.shapeCasts_S4096x16x128_S16x256x2048 : Vec Ideal S16x256x2048 .bf16) Facts₀.transposes_S16x256x2048_S16x2048x256_0_2_1
def rows64 (x : Vec Ideal S4096x16x64 .f32) : Vec Ideal S4096x1024 .bf16 := shapeCast _ (truncf .bf16 x Facts₀.bitsLt_bf16_f32 : FVec Ideal S4096x16x64 .bf16) Facts₀.shapeCasts_S4096x16x64_S4096x1024
def cols64 (x : Vec Ideal S4096x16x64 .f32) : Vec Ideal S16x1024x256 .bf16 :=
  transpose S16x1024x256 [0, 2, 1] (shapeCast _ (truncf .bf16 x Facts₀.bitsLt_bf16_f32 : FVec Ideal S4096x16x64 .bf16) Facts₀.shapeCasts_S4096x16x64_S16x256x1024 : Vec Ideal S16x256x1024 .bf16) Facts₀.transposes_S16x256x1024_S16x1024x256_0_2_1
/-- A row's entry in its row. -/
def spread (M : Vec Ideal S16x4096 .f32) : Vec Ideal S16x4096x4096 .f32 :=
  broadcastInDim S16x4096x4096 ![0, 1, 2] Facts₀.bcast_S16x4096x1_S16x4096x4096_0_1_2 (broadcastInDim S16x4096x1 ![0, 1] Facts₀.bcast_S16x4096_S16x4096x1_0_1 M : Vec Ideal S16x4096x1 .f32)
def exps (X : Vec Ideal S16x4096x4096 .f32) (M : Vec Ideal S16x4096 .f32) : Vec Ideal S16x4096x4096 .f32 := Host.exp (F := Ideal) (φ := .f32) (subf X (spread M))
def dens (E : Vec Ideal S16x4096x4096 .f32) : Vec Ideal S16x4096 .f32 := Host.reduceAdd (F := Ideal) (φ := .f32) E (constant S_ .f32 0x00000000#32) Facts₀.reducesTo_S16x4096x4096_S16x4096_d2 Facts₀.h_S_
def wts (E : Vec Ideal S16x4096x4096 .f32) (D : Vec Ideal S16x4096 .f32) : Vec Ideal S16x4096x4096 .f32 := Host.divf (F := Ideal) (φ := .f32) E (spread D)
def outp (x : Vec Ideal S4096x16x64 .f32) (W : Vec Ideal S16x4096x4096 .f32) : Vec Ideal S4096x16x64 .f32 :=
  transpose S4096x16x64 [2, 0, 1] (Host.dotGeneral (F := Ideal) (φ₁ := .f32) (φ₂ := .f32) dot_S4096x16x64_S16x4096x4096_S16x64x4096_0_2_2_1_1_0 none x W : Vec Ideal S16x64x4096 .f32) Facts₀.transposes_S16x64x4096_S4096x16x64_2_0_1
def lses (M D : Vec Ideal S16x4096 .f32) : Vec Ideal S8x16x8x256 .f32 :=
  concatenate S8x16x8x256 2 [⟨S8x16x2x256, transpose S8x16x2x256 [0, 2, 1, 3] (shapeCast _
    (Host.divf (F := Ideal) (φ := .f32) (addf (broadcastInDim S16x4096x1 ![0, 1] Facts₀.bcast_S16x4096_S16x4096x1_0_1 M : Vec Ideal S16x4096x1 .f32) (Host.log (F := Ideal) (φ := .f32) (broadcastInDim S16x4096x1 ![0, 1] Facts₀.bcast_S16x4096_S16x4096x1_0_1 D : Vec Ideal S16x4096x1 .f32)))
      (broadcastInDim S16x4096x1 ![] Facts₀.bcast_S_S16x4096x1 (Host.log (F := Ideal) (φ := .f32) (constant S_ .f32 0x40000000#32))) : Vec Ideal S16x4096x1 .f32)
    Facts₀.shapeCasts_S16x4096x1_S8x2x16x256 : Vec Ideal S8x2x16x256 .f32) Facts₀.transposes_S8x2x16x256_S8x16x2x256_0_2_1_3⟩,
    ⟨S8x16x6x256, broadcastInDim S8x16x6x256 ![] Facts₀.bcast_S_S8x16x6x256 (constant (F := Ideal) S_ .f32 0x00000000#32)⟩] Facts₀.concatenates_S8x16x2x256_S8x16x6x256_S8x16x8x256_d2
def deltas (O G : Vec Ideal S4096x16x64 .f32) : Vec Ideal S8x16x8x256 .f32 :=
  concatenate S8x16x8x256 2 [⟨S8x16x2x256, transpose S8x16x2x256 [0, 2, 1, 3] (shapeCast _
    (transpose S16x4096 [1, 0] (Host.reduceAdd (F := Ideal) (φ := .f32) (mulf O G) (constant S_ .f32 0x00000000#32) Facts₀.reducesTo_S4096x16x64_S4096x16_d2 Facts₀.h_S_ : Vec Ideal S4096x16 .f32) Facts₀.transposes_S4096x16_S16x4096_1_0 : Vec Ideal S16x4096 .f32)
    Facts₀.shapeCasts_S16x4096_S8x2x16x256 : Vec Ideal S8x2x16x256 .f32) Facts₀.transposes_S8x2x16x256_S8x16x2x256_0_2_1_3⟩,
    ⟨S8x16x6x256, broadcastInDim S8x16x6x256 ![] Facts₀.bcast_S_S8x16x6x256 (constant (F := Ideal) S_ .f32 0x00000000#32)⟩] Facts₀.concatenates_S8x16x2x256_S8x16x6x256_S8x16x8x256_d2

theorem row_of (n : Fin 16) (ξ : Fin 256) (h) : (⟨n.val * 256 + ξ.val, h⟩ : Fin 4096) = row n ξ := Fin.ext (by show n.val * 256 + ξ.val = 256 * n.val + ξ.val; omega)

theorem hh_of (hp : Fin 8) (h : Fin 2) (p) : (⟨hp.val * 2 + (h8 h).val, p⟩ : Fin 16) = hh hp h := Fin.ext (by show hp.val * 2 + h.val = 2 * hp.val + h.val; omega)

theorem padded_apply (x : Vec Ideal S4096x16x96 .f32) (t : Fin 4096) (H : Fin 16) (l : Fin 128) :
    padded x (ix3 t H l) = if h : l.val < 96 then x (ix3 t H ⟨l.val, h⟩) else 0 := by
  pointwise [padded]
theorem padRows_apply (x : Vec Ideal S4096x16x96 .f32) (t : Fin 4096) (D : Fin 2048) : padRows x (ix2 t D) = padded x (ix3 t ⟨D.val / 128, by omega⟩ ⟨D.val % 128, by omega⟩) := by
  unfold padRows
  generalize padded x = X
  pointwise
theorem padCols_apply (x : Vec Ideal S4096x16x96 .f32) (n : Fin 16) (D : Fin 2048) (ξ : Fin 256) : padCols x (ix3 n D ξ) = padded x (ix3 (row n ξ) ⟨D.val / 128, by omega⟩ ⟨D.val % 128, by omega⟩) := by
  rw [← row_of n ξ (by omega)]
  unfold padCols
  generalize padded x = X
  pointwise
theorem rows64_apply (x : Vec Ideal S4096x16x64 .f32) (t : Fin 4096) (D : Fin 1024) : rows64 x (ix2 t D) = x (ix3 t ⟨D.val / 64, by omega⟩ ⟨D.val % 64, by omega⟩) := by
  pointwise [rows64]
theorem cols64_apply (x : Vec Ideal S4096x16x64 .f32) (n : Fin 16) (D : Fin 1024) (ξ : Fin 256) : cols64 x (ix3 n D ξ) = x (ix3 (row n ξ) ⟨D.val / 64, by omega⟩ ⟨D.val % 64, by omega⟩) := by
  rw [← row_of n ξ (by omega)]
  pointwise [cols64]
theorem exps_apply (X : Vec Ideal S16x4096x4096 .f32) (M : Vec Ideal S16x4096 .f32) (H : Fin 16) (t j : Fin 4096) : exps X M (ix3 H t j) = Ideal.exp (X (ix3 H t j) - M (ix2 H t)) := by
  pointwise [exps, spread]
theorem dens_apply (E : Vec Ideal S16x4096x4096 .f32) (H : Fin 16) (t : Fin 4096) : dens E (ix2 H t) = ∑ j : Fin 4096, E (ix3 H t j) := by
  pointwise [dens]
theorem wts_apply (E : Vec Ideal S16x4096x4096 .f32) (D : Vec Ideal S16x4096 .f32) (H : Fin 16) (t j : Fin 4096) : wts E D (ix3 H t j) = Ideal.div (E (ix3 H t j)) (D (ix2 H t)) := by
  pointwise [wts, spread]
theorem outp_apply (x : Vec Ideal S4096x16x64 .f32) (W : Vec Ideal S16x4096x4096 .f32) (t : Fin 4096) (H : Fin 16) (r : Fin 64) : outp x W (ix3 t H r) = ∑ j : Fin 4096, x (ix3 j H r) * W (ix3 H t j) := by
  pointwise [outp, dot_S4096x16x64_S16x4096x4096_S16x64x4096_0_2_2_1_1_0]
theorem lses_apply (M D : Vec Ideal S16x4096 .f32) (hp : Fin 8) (n : Fin 16) (h : Fin 2) (ξ : Fin 256) :
    lses M D (ix4 hp n (h8 h) ξ) = Ideal.div (M (ix2 (hh hp h) (row n ξ)) + Ideal.log (D (ix2 (hh hp h) (row n ξ)))) (Ideal.log (Ideal.ofBits .f32 0x40000000#32)) := by
  pointwise [lses]
  refine (dif_pos (h.isLt : (h8 h).val < 2)).trans ?_
  simp only [hh_of, row_of]
theorem deltas_apply (O G : Vec Ideal S4096x16x64 .f32) (hp : Fin 8) (n : Fin 16) (h : Fin 2) (ξ : Fin 256) :
    deltas O G (ix4 hp n (h8 h) ξ) = ∑ r : Fin 64, O (ix3 (row n ξ) (hh hp h) r) * G (ix3 (row n ξ) (hh hp h) r) := by
  pointwise [deltas]
  refine (dif_pos (h.isLt : (h8 h).val < 2)).trans ?_
  simp only [hh_of, row_of]

end Functions

end Cert.MlaIdeal.Host

end
-- ==== Proof.MlaRefVal.lean ====
module

public import proofs.«01_k».proof.Proof.MlaMath
public import proofs.«01_k».proof.Proof.Gen.MlaRefIdeal.Read
public import Idealize.ShloMosaic.Lib.Pointwise.Tactic
public import Idealize.ShloMosaic.Lib.WordCmp

/-!
# The reference's gradient of causal attention, read at its entries

Where the arguments hold real numbers every step of the reference holds the real array of the same meaning.
-/

@[expose] public section

set_option maxRecDepth 16384

noncomputable section

namespace Cert.MlaIdeal.Hand

open Idealize.ShloMosaic Idealize.ShloMosaic.TcCoe
open Cert.MlaRefIdeal.Read Cert.MlaRefIdeal.Gen Cert.MlaRefIdeal.Facts₀

/-- The words of the host's constants. -/
theorem word96 : Ideal.ofBits .f32 0x42C00000#32 = ((96 : ℝ) : EReal) := by
  simp [Ideal.ofBits, Ideal.ieee]; rw [← EReal.coe_mul]; norm_num
theorem word2 : Ideal.ofBits .f32 0x40000000#32 = ((2 : ℝ) : EReal) := by
  simp [Ideal.ofBits, Ideal.ieee]; rw [← EReal.coe_mul]; norm_num
theorem wordInf : Ideal.ofBits .f32 0xFF800000#32 = ⊥ := by
  simp [Ideal.ofBits, Ideal.ieee]

theorem root96 : Ideal.sqrt (Ideal.ofBits .f32 0x42C00000#32) = ((Real.sqrt 96 : ℝ) : EReal) := by
  rw [word96, Ideal.sqrt_coe, if_neg (by norm_num)]

theorem root96_ne : Real.sqrt 96 ≠ 0 := (Real.sqrt_pos.mpr (by norm_num)).ne'

theorem div_real {y : ℝ} (h : y ≠ 0) (x : ℝ) : Ideal.div (x : EReal) (y : EReal) = ((x / y : ℝ) : EReal) := by
  rw [Ideal.div_coe h, ← EReal.coe_mul, mul_one_div]

section Reference

variable (x0 x1 : Cert.MlaRefIdeal.S4096x16x96.Idx → EReal) (x2 x3 : Cert.MlaRefIdeal.S4096x16x64.Idx → EReal)
  {Q K : Fin 4096 → Fin 16 → Fin 96 → ℝ} {V G : Fin 4096 → Fin 16 → Fin 64 → ℝ}
  (h0 : ∀ t H d, x0 (ix3 t H d) = (Q t H d : EReal)) (h1 : ∀ t H d, x1 (ix3 t H d) = (K t H d : EReal))
  (h2 : ∀ t H d, x2 (ix3 t H d) = (V t H d : EReal)) (h3 : ∀ t H d, x3 (ix3 t H d) = (G t H d : EReal))

include h0 h1 in
theorem ref_score (H : Fin 16) (t j : Fin 4096) : val_main_v3 (F := Ideal) x0 x1 (ix3 H t j) = (score Q K H t j : EReal) := by
  have e : val_main_v3 (F := Ideal) x0 x1 (ix3 H t j) = Ideal.div (∑ d : Fin 96, x0 (ix3 t H d) * x1 (ix3 j H d)) (Ideal.sqrt (Ideal.ofBits .f32 0x42C00000#32)) := by
    pointwise [val_main_v3, val_main_v0, dot_S4096x16x96_S4096x16x96_S16x4096x4096_2_2_0_0_1_1, val_main_v2, val_main_v1, val_main_cst]
  rw [e, root96]
  simp only [h0, h1, ← EReal.coe_mul]
  rw [← coe_sum, div_real root96_ne]; rfl

theorem ref_mask (H : Fin 16) (t j : Fin 4096) : val_main_v11_1 (F := Ideal) (ix3 H t j) = if j.val ≤ t.val then 1#1 else 0#1 := by
  have e : val_main_v11_1 (F := Ideal) (ix3 H t j) = IntOp.cmpi .sle (BitVec.ofNat 32 j.val) (BitVec.ofNat 32 t.val) := by
    pointwise [val_main_v11_1, val_main_v10, val_main_v9, val_main_v8, val_main_v7, val_main_v6, val_main_v5, val_main_v4]
  rw [e]
  split
  · next h => exact (WordCmp.cmpi_sle_ofNat_eq_one_iff (by omega) (by omega)).mpr h
  · next h => exact (WordCmp.cmpi_sle_ofNat_eq_zero_iff (by omega) (by omega)).mpr h

theorem select_ite {α : Type} (p : Prop) [Decidable p] (x y : α) : Scalar.select (if p then 1#1 else 0#1) x y = if p then x else y := by
  split <;> rfl

include h0 h1 in
theorem ref_masked (H : Fin 16) (t j : Fin 4096) : val_main_v11_0 (F := Ideal) x0 x1 (ix3 H t j) = masked Q K H t j := by
  have e : val_main_v11_0 (F := Ideal) x0 x1 (ix3 H t j) = Scalar.select (val_main_v11_1 (F := Ideal) (ix3 H t j)) (val_main_v3 (F := Ideal) x0 x1 (ix3 H t j)) (Ideal.ofBits .f32 0xFF800000#32) := rfl
  rw [e, ref_mask, select_ite, ref_score x0 x1 h0 h1, wordInf]; rfl

/-- The greatest of a row, started from `-∞`. -/
theorem reduce_max (x : (⟨Cert.MlaRefIdeal.S16x4096x4096, .f32⟩ : BufTy).Contents (Elt Ideal)) (z : (⟨Cert.MlaRefIdeal.S_, .f32⟩ : BufTy).Contents (Elt Ideal)) (hz : ∀ i, z i = ⊥) (H : Fin 16) (t : Fin 4096) :
    Host.reduce (FloatOps.maximumf (F := Ideal) (φ := .f32)) x z Cert.MlaRefIdeal.Facts₀.reducesTo_S16x4096x4096_S16x4096_d2 Cert.MlaRefIdeal.Facts₀.h_S_ (ix2 H t) = (Finset.univ : Finset (Fin 4096)).fold max ⊥ (fun j => x (ix3 H t j)) := by
  rw [Host.reduce_eq_fold_single (a := 2) _ _ _ _ (by decide), hz]
  refine congrArg (Finset.fold max ⊥ · _) (funext fun j => congrArg x (funext fun a => ?_))
  fin_cases a <;> rfl

include h0 h1 in
theorem ref_max (H : Fin 16) (t : Fin 4096) : val_main_v12 (F := Ideal) x0 x1 (ix2 H t) = rowMax Q K H t := by
  refine (reduce_max _ _ (fun _ => wordInf) H t).trans ?_
  exact congrArg (Finset.fold max ⊥ · _) (funext fun j => ref_masked x0 x1 h0 h1 H t j)

include h0 h1 in
theorem ref_ex (H : Fin 16) (t j : Fin 4096) : val_main_v32 (F := Ideal) x0 x1 (ix3 H t j) = (ex Q K H t j : EReal) := by
  have hi : idx_main_v29 (idx_main_v30 (ix3 H t j)) = ix2 H t := funext fun a => by fin_cases a <;> rfl
  rw [val_main_v32_apply, val_main_v31_apply, val_main_v30_apply, val_main_v29_apply, val_main_v19_apply, val_main_v18_apply, hi,
    ref_masked x0 x1 h0 h1, ref_max x0 x1 h0 h1]
  have e : FloatOps.maximumf (F := Ideal) (φ := .f32) (val_main_cst_3 (F := Ideal) (idx_main_v18 (ix2 H t))) (rowMax Q K H t) = rowMax Q K H t :=
    (congrArg (max · _) wordInf).trans (max_eq_right bot_le)
  rw [e]
  exact exp_masked Q K H t j

include h0 h1 in
theorem ref_den (H : Fin 16) (t : Fin 4096) : val_main_v33 (F := Ideal) x0 x1 (ix2 H t) = (den Q K H t : EReal) := by
  have e : val_main_v33 (F := Ideal) x0 x1 (ix2 H t) = ∑ j : Fin 4096, val_main_v32 (F := Ideal) x0 x1 (ix3 H t j) := by
    unfold val_main_v33 val_main_cst_9
    generalize val_main_v32 (F := Ideal) x0 x1 = X
    pointwise
  rw [e, Finset.sum_congr rfl fun j _ => ref_ex x0 x1 h0 h1 H t j, ← coe_sum]; rfl

include h0 h1 in
theorem ref_wt (H : Fin 16) (t j : Fin 4096) : val_main_v36 (F := Ideal) x0 x1 (ix3 H t j) = (wt Q K H t j : EReal) := by
  have e : val_main_v36 (F := Ideal) x0 x1 (ix3 H t j) = Ideal.div (val_main_v32 (F := Ideal) x0 x1 (ix3 H t j)) (val_main_v33 (F := Ideal) x0 x1 (ix2 H t)) := by
    unfold val_main_v36 val_main_v35 val_main_v34
    generalize val_main_v32 (F := Ideal) x0 x1 = X
    generalize val_main_v33 (F := Ideal) x0 x1 = Y
    pointwise
  rw [e, ref_ex x0 x1 h0 h1, ref_den x0 x1 h0 h1, div_real (den_pos Q K H t).ne']; rfl

include h2 h3 in
theorem ref_dwt (H : Fin 16) (t j : Fin 4096) : val_main_v43 (F := Ideal) x2 x3 (ix3 H t j) = (dwt V G H t j : EReal) := by
  have e : val_main_v43 (F := Ideal) x2 x3 (ix3 H t j) = ∑ r : Fin 64, x3 (ix3 t H r) * x2 (ix3 j H r) := by
    pointwise [val_main_v43, val_main_v42, Cert.MlaRefIdeal.dot_S16x64x4096_S4096x16x64_S16x4096x4096_1_2_2_0_0_1]
  rw [e]
  simp only [h2, h3, ← EReal.coe_mul]
  rw [← coe_sum]; rfl

include h0 h1 h2 h3 in
theorem ref_corr (H : Fin 16) (t : Fin 4096) : val_main_v49 (F := Ideal) x0 x1 x2 x3 (ix2 H t) = ((∑ i : Fin 4096, dwt V G H t i * (1 / (den Q K H t * den Q K H t)) * ex Q K H t i : ℝ) : EReal) := by
  have e : val_main_v49 (F := Ideal) x0 x1 x2 x3 (ix2 H t) = ∑ i : Fin 4096, val_main_v43 (F := Ideal) x2 x3 (ix3 H t i) * Ideal.div 1 (val_main_v33 (F := Ideal) x0 x1 (ix2 H t) * val_main_v33 (F := Ideal) x0 x1 (ix2 H t)) * val_main_v32 (F := Ideal) x0 x1 (ix3 H t i) := by
    unfold val_main_v49 val_main_v48 val_main_v47 val_main_v46 val_main_v39 val_main_v38 val_main_v37 val_main_v34 val_main_cst_10 val_main_cst_11
    generalize val_main_v32 (F := Ideal) x0 x1 = X
    generalize val_main_v33 (F := Ideal) x0 x1 = Y
    generalize val_main_v43 (F := Ideal) x2 x3 = Z
    pointwise
  have hL := mul_ne_zero (den_pos Q K H t).ne' (den_pos Q K H t).ne'
  rw [e, coe_sum]
  refine Finset.sum_congr rfl fun i _ => ?_
  rw [ref_dwt x2 x3 h2 h3, ref_den x0 x1 h0 h1, ref_ex x0 x1 h0 h1, ← EReal.coe_mul, show (1 : EReal) = ((1 : ℝ) : EReal) from rfl, div_real hL, ← EReal.coe_mul, ← EReal.coe_mul]

include h0 h1 h2 h3 in
theorem ref_dsc (H : Fin 16) (t j : Fin 4096) : val_main_v60 (F := Ideal) x0 x1 x2 x3 (ix3 H t j) = (dsc Q K V G H t j : EReal) := by
  have e : val_main_v60 (F := Ideal) x0 x1 x2 x3 (ix3 H t j) = Ideal.div (Scalar.select (val_main_v11_1 (F := Ideal) (ix3 H t j))
      ((Ideal.div (val_main_v43 (F := Ideal) x2 x3 (ix3 H t j)) (val_main_v33 (F := Ideal) x0 x1 (ix2 H t)) + ∑ x : Fin 1, -val_main_v49 (F := Ideal) x0 x1 x2 x3 (ix2 H t)) * val_main_v32 (F := Ideal) x0 x1 (ix3 H t j)) 0)
      (Ideal.sqrt (Ideal.ofBits .f32 0x42C00000#32)) := by
    unfold val_main_v60 val_main_v59 val_main_v58 val_main_v57 val_main_v56 val_main_v55 val_main_v54 val_main_v53 val_main_v52 val_main_v51 val_main_v50 val_main_v34 val_main_v1 val_main_cst val_main_cst_12 val_main_call1_v0 val_main_call1_cst
    generalize val_main_v32 (F := Ideal) x0 x1 = X
    generalize val_main_v33 (F := Ideal) x0 x1 = Y
    generalize val_main_v43 (F := Ideal) x2 x3 = Z
    generalize val_main_v49 (F := Ideal) x0 x1 x2 x3 = A
    generalize val_main_v11_1 (F := Ideal) = B
    pointwise
  rw [e, ref_mask, select_ite, root96, ref_dwt x2 x3 h2 h3, ref_den x0 x1 h0 h1, ref_corr x0 x1 x2 x3 h0 h1 h2 h3, ref_ex x0 x1 h0 h1, div_real (den_pos Q K H t).ne',
    Finset.sum_const, Finset.card_univ, Fintype.card_fin, one_smul, ← EReal.coe_neg, ← EReal.coe_add, ← EReal.coe_mul]
  split
  · rw [div_real root96_ne, ← dsc_quot, div_eq_mul_inv _ (Real.sqrt 96)]
  · next h => rw [← EReal.coe_zero, div_real root96_ne, zero_div, dsc_zero Q K V G (by omega)]

include h0 h1 h2 h3 in
theorem ref_dq (z : Fin 16) (D : Fin 2048) (ξ : Fin 256) : val_main_v68 (F := Ideal) x0 x1 x2 x3 (ix3 z D ξ) = (gradQ Q K V G (row z ξ) ⟨D.val / 128, by omega⟩ ⟨D.val % 128, by omega⟩ : EReal) := by
  have e : val_main_v68 (F := Ideal) x0 x1 x2 x3 (ix3 z D ξ) = if h : D.val % 128 < 96 then val_main_v64 (F := Ideal) x0 x1 x2 x3 (ix3 ⟨z.val * 256 + ξ.val, by omega⟩ ⟨D.val / 128, by omega⟩ ⟨D.val % 128, h⟩) else 0 := by
    unfold val_main_v68 val_main_v67 val_main_v66 val_main_v65 val_main_cst_13
    generalize val_main_v64 (F := Ideal) x0 x1 x2 x3 = X
    pointwise
  rw [e, show (⟨z.val * 256 + ξ.val, by omega⟩ : Fin 4096) = row z ξ from Fin.ext (by show z.val * 256 + ξ.val = 256 * z.val + ξ.val; omega)]
  unfold gradQ pad
  split
  · next h =>
    generalize (⟨D.val / 128, by omega⟩ : Fin 16) = H
    generalize row z ξ = t
    have e' : ∀ r : Fin 96, val_main_v64 (F := Ideal) x0 x1 x2 x3 (ix3 t H r) = ∑ k : Fin 4096, val_main_v60 (F := Ideal) x0 x1 x2 x3 (ix3 H t k) * x1 (ix3 k H r) := fun r => by
      unfold val_main_v64 val_main_v63
      generalize val_main_v60 (F := Ideal) x0 x1 x2 x3 = X
      pointwise [Cert.MlaRefIdeal.dot_S16x4096x4096_S4096x16x96_S16x4096x96_2_0_1_2_0_1]
    rw [e', coe_sum]
    refine Finset.sum_congr rfl fun k _ => ?_
    rw [ref_dsc x0 x1 x2 x3 h0 h1 h2 h3, h1, ← EReal.coe_mul, mul_comm]
  · simp only [zero_mul, Finset.sum_const_zero, EReal.coe_zero]

include h0 h1 h2 h3 in
theorem ref_dk (z : Fin 16) (D : Fin 2048) (ξ : Fin 256) : val_main_v72 (F := Ideal) x0 x1 x2 x3 (ix3 z D ξ) = (gradK Q K V G (row z ξ) ⟨D.val / 128, by omega⟩ ⟨D.val % 128, by omega⟩ : EReal) := by
  have e : val_main_v72 (F := Ideal) x0 x1 x2 x3 (ix3 z D ξ) = if h : D.val % 128 < 96 then val_main_v62 (F := Ideal) x0 x1 x2 x3 (ix3 ⟨z.val * 256 + ξ.val, by omega⟩ ⟨D.val / 128, by omega⟩ ⟨D.val % 128, h⟩) else 0 := by
    unfold val_main_v72 val_main_v71 val_main_v70 val_main_v69 val_main_cst_14
    generalize val_main_v62 (F := Ideal) x0 x1 x2 x3 = X
    pointwise
  rw [e, show (⟨z.val * 256 + ξ.val, by omega⟩ : Fin 4096) = row z ξ from Fin.ext (by show z.val * 256 + ξ.val = 256 * z.val + ξ.val; omega)]
  unfold gradK pad
  split
  · next h =>
    generalize (⟨D.val / 128, by omega⟩ : Fin 16) = H
    generalize row z ξ = t
    have e' : ∀ r : Fin 96, val_main_v62 (F := Ideal) x0 x1 x2 x3 (ix3 t H r) = ∑ k : Fin 4096, val_main_v60 (F := Ideal) x0 x1 x2 x3 (ix3 H k t) * x0 (ix3 k H r) := fun r => by
      unfold val_main_v62 val_main_v61
      generalize val_main_v60 (F := Ideal) x0 x1 x2 x3 = X
      pointwise [Cert.MlaRefIdeal.dot_S16x4096x4096_S4096x16x96_S16x4096x96_1_0_2_2_0_1]
    rw [e', coe_sum]
    refine Finset.sum_congr rfl fun k _ => ?_
    rw [ref_dsc x0 x1 x2 x3 h0 h1 h2 h3, h0, ← EReal.coe_mul, mul_comm]
  · simp only [zero_mul, Finset.sum_const_zero, EReal.coe_zero]

include h0 h1 h3 in
theorem ref_dv (z : Fin 16) (D : Fin 1024) (ξ : Fin 256) : val_main_v74 (F := Ideal) x0 x1 x3 (ix3 z D ξ) = (gradV Q K G (row z ξ) ⟨D.val / 64, by omega⟩ ⟨D.val % 64, by omega⟩ : EReal) := by
  have e : val_main_v74 (F := Ideal) x0 x1 x3 (ix3 z D ξ) = ∑ k : Fin 4096, x3 (ix3 k ⟨D.val / 64, by omega⟩ ⟨D.val % 64, by omega⟩) * val_main_v36 (F := Ideal) x0 x1 (ix3 ⟨D.val / 64, by omega⟩ k ⟨z.val * 256 + ξ.val, by omega⟩) := by
    unfold val_main_v74 val_main_v73 val_main_v45 val_main_v44 val_main_v42
    generalize val_main_v36 (F := Ideal) x0 x1 = X
    pointwise [Cert.MlaRefIdeal.dot_S16x64x4096_S16x4096x4096_S16x64x4096_2_1_1_2_0_0]
  rw [e, show (⟨z.val * 256 + ξ.val, by omega⟩ : Fin 4096) = row z ξ from Fin.ext (by show z.val * 256 + ξ.val = 256 * z.val + ξ.val; omega)]
  unfold gradV
  rw [coe_sum]
  refine Finset.sum_congr rfl fun k _ => ?_
  rw [ref_wt x0 x1 h0 h1, h3, ← EReal.coe_mul]

end Reference

end Cert.MlaIdeal.Hand

end
-- ==== Proof.MlaEnt.lean ====
module

public import proofs.«01_k».proof.Proof.MlaHost
public import proofs.«01_k».proof.Proof.MlaRefVal
public import Idealize.ShloMosaic.Lib.Claim

/-!
# What the region finds in the buffers the host fills
-/

@[expose] public section

set_option maxRecDepth 16384

noncomputable section

namespace Cert.MlaIdeal.Host

open Cert.MlaIdeal Cert.MlaIdeal.Gen Cert.MlaIdeal.Hand
open Idealize.ShloMosaic Idealize.ShloMosaic.TcCoe Idealize.SL.Sem

section Entries

variable (m : (ℓ : Loc nD τ sig) → Buf (Elt Ideal) ℓ)

/-- The arguments. -/
abbrev q₀ (c : Dev nD) : Vec Ideal S4096x16x96 .f32 := m ((c.tc : Thread nD τ).loc main_arg0)
abbrev k₀ (c : Dev nD) : Vec Ideal S4096x16x96 .f32 := m ((c.tc : Thread nD τ).loc main_arg1)
abbrev v₀ (c : Dev nD) : Vec Ideal S4096x16x64 .f32 := m ((c.tc : Thread nD τ).loc main_arg2)
abbrev g₀ (c : Dev nD) : Vec Ideal S4096x16x64 .f32 := m ((c.tc : Thread nD τ).loc main_arg3)

/-- The buffers before the last stretch of host operations. -/
def before (c : Dev nD) : Valuation τ sig (Elt Ideal) := StableHlo.after hostOps0_1 (StableHlo.after hostOps0 (fun b => m (c, b)))

theorem after_three (a b d : List (HloOp τ sig (Elt Ideal))) (W : Valuation τ sig (Elt Ideal)) :
    StableHlo.after (List.flatten [a, b, d]) W = StableHlo.after d (StableHlo.after b (StableHlo.after a W)) := by
  rw [List.flatten_cons, List.flatten_cons, List.flatten_cons, List.flatten_nil, List.append_nil, StableHlo.after_append, StableHlo.after_append]

theorem split (c : Dev nD) (b : Ref sig .tc) : V m c b = StableHlo.after hostOps0_2 (before m c) b :=
  congrFun (after_three hostOps0 hostOps0_1 hostOps0_2 _) _

theorem lastQ (W : Valuation τ sig (Elt Ideal)) : StableHlo.after hostOps0_2 W (Proc.tc.devRef main_arg2) = W (Proc.tc.devRef main_arg2) := by
  after_results_simp

theorem lastG (W : Valuation τ sig (Elt Ideal)) : StableHlo.after hostOps0_2 W (Proc.tc.devRef main_arg3) = W (Proc.tc.devRef main_arg3) := by
  after_results_simp

theorem last17 (W : Valuation τ sig (Elt Ideal)) : StableHlo.after hostOps0_2 W (Proc.tc.devRef main_v17) = W (Proc.tc.devRef main_v17) := by
  after_results_simp

theorem last18 (W : Valuation τ sig (Elt Ideal)) : StableHlo.after hostOps0_2 W (Proc.tc.devRef main_v18) = (Host.reduce (FloatOps.maximumf (F := Ideal) (φ := .f32)) (W (Proc.tc.devRef main_v17) : Vec Ideal S16x4096x4096 .f32) (constant (F := Ideal) S_ .f32 0xFF800000#32) Facts₀.reducesTo_S16x4096x4096_S16x4096_d2 Facts₀.h_S_ : Vec Ideal S16x4096 .f32) := by
  after_results_simp

theorem last22 (W : Valuation τ sig (Elt Ideal)) : StableHlo.after hostOps0_2 W (Proc.tc.devRef main_v22) = exps (StableHlo.after hostOps0_2 W (Proc.tc.devRef main_v17)) (StableHlo.after hostOps0_2 W (Proc.tc.devRef main_v18)) := by
  simp only [exps, spread]
  after_results_simp

theorem last23 (W : Valuation τ sig (Elt Ideal)) : StableHlo.after hostOps0_2 W (Proc.tc.devRef main_v23) = dens (StableHlo.after hostOps0_2 W (Proc.tc.devRef main_v22)) := by
  simp only [dens]
  after_results_simp

theorem last26 (W : Valuation τ sig (Elt Ideal)) : StableHlo.after hostOps0_2 W (Proc.tc.devRef main_v26) = wts (StableHlo.after hostOps0_2 W (Proc.tc.devRef main_v22)) (StableHlo.after hostOps0_2 W (Proc.tc.devRef main_v23)) := by
  simp only [wts, spread]
  after_results_simp

theorem last28 (W : Valuation τ sig (Elt Ideal)) : StableHlo.after hostOps0_2 W (Proc.tc.devRef main_v28) = outp (W (Proc.tc.devRef main_arg2)) (StableHlo.after hostOps0_2 W (Proc.tc.devRef main_v26)) := by
  simp only [outp]
  after_results_simp

theorem last37 (W : Valuation τ sig (Elt Ideal)) : StableHlo.after hostOps0_2 W (Proc.tc.devRef main_v37) = lses (StableHlo.after hostOps0_2 W (Proc.tc.devRef main_v18)) (StableHlo.after hostOps0_2 W (Proc.tc.devRef main_v23)) := by
  simp only [lses]
  after_results_simp
  refine congrArg₂ (fun (a : Vec Ideal S8x16x2x256 .f32) (b : Vec Ideal S8x16x6x256 .f32) => (concatenate S8x16x8x256 2 [⟨S8x16x2x256, a⟩, ⟨S8x16x6x256, b⟩] Facts₀.concatenates_S8x16x2x256_S8x16x6x256_S8x16x8x256_d2 : Vec Ideal S8x16x8x256 .f32)) ?_ ?_
  · after_results_simp
    rfl
  · after_results_simp

theorem last44 (W : Valuation τ sig (Elt Ideal)) : StableHlo.after hostOps0_2 W (Proc.tc.devRef main_v44) = deltas (StableHlo.after hostOps0_2 W (Proc.tc.devRef main_v28)) (W (Proc.tc.devRef main_arg3)) := by
  simp only [deltas]
  after_results_simp
  refine congrArg₂ (fun (a : Vec Ideal S8x16x2x256 .f32) (b : Vec Ideal S8x16x6x256 .f32) => (concatenate S8x16x8x256 2 [⟨S8x16x2x256, a⟩, ⟨S8x16x6x256, b⟩] Facts₀.concatenates_S8x16x2x256_S8x16x6x256_S8x16x8x256_d2 : Vec Ideal S8x16x8x256 .f32)) ?_ ?_
  · after_results_simp
    rfl
  · after_results_simp

theorem ent17 (c : Dev nD) : V m c main_v17 = MlaRefIdeal.Read.val_main_v11_0 (F := Ideal) (q₀ m c) (k₀ m c) := rfl
theorem arg2 (c : Dev nD) : before m c (Proc.tc.devRef main_arg2) = v₀ m c := by
  rw [← lastQ (before m c), ← split]; exact V_main_arg2 m c
theorem arg3 (c : Dev nD) : before m c (Proc.tc.devRef main_arg3) = g₀ m c := by
  rw [← lastG (before m c), ← split]; exact V_main_arg3 m c
theorem ent18 (c : Dev nD) : V m c main_v18 = MlaRefIdeal.Read.val_main_v12 (F := Ideal) (q₀ m c) (k₀ m c) := by
  have e := (split m c main_v17).symm.trans (ent17 m c)
  rw [last17] at e
  rw [split m c main_v18, last18, e]
  unfold MlaRefIdeal.Read.val_main_v12
  rfl
theorem ent22 (c : Dev nD) : V m c main_v22 = exps (V m c main_v17) (V m c main_v18) := by
  rw [split m c main_v22, split m c main_v17, split m c main_v18, last17]; exact last22 _
theorem ent23 (c : Dev nD) : V m c main_v23 = dens (V m c main_v22) := by
  rw [split m c main_v22, split m c main_v23]; exact last23 _
theorem ent26 (c : Dev nD) : V m c main_v26 = wts (V m c main_v22) (V m c main_v23) := by
  rw [split m c main_v22, split m c main_v23, split m c main_v26]; exact last26 _
theorem ent28 (c : Dev nD) : V m c main_v28 = outp (v₀ m c) (V m c main_v26) := by
  rw [split m c main_v28, split m c main_v26, ← arg2]; exact last28 _
theorem ent37 (c : Dev nD) : V m c main_v37 = lses (V m c main_v18) (V m c main_v23) := by
  rw [split m c main_v37, split m c main_v18, split m c main_v23]; exact last37 _
theorem ent44 (c : Dev nD) : V m c main_v44 = deltas (V m c main_v28) (g₀ m c) := by
  rw [split m c main_v44, split m c main_v28, ← arg3]; exact last44 _
theorem ent3 (c : Dev nD) : V m c main_v3 = padRows (k₀ m c) := rfl
theorem ent5 (c : Dev nD) : V m c main_v5 = rows64 (v₀ m c) := rfl
theorem ent49 (c : Dev nD) : V m c main_v49 = padCols (q₀ m c) := rfl
theorem ent54 (c : Dev nD) : V m c main_v54 = padCols (k₀ m c) := rfl
theorem ent57 (c : Dev nD) : V m c main_v57 = cols64 (g₀ m c) := rfl

end Entries

end Cert.MlaIdeal.Host

end
-- ==== Proof.MlaOffs.lean ====
module

public import proofs.«01_k».proof.Proof.MlaOps

/-!
# What the kernel loads, entry by entry

The offsets of the loads and stores, and the entries of what is loaded there.
-/

@[expose] public section

set_option maxRecDepth 16384

noncomputable section

namespace Cert.MlaIdeal.Hand

open Cert.MlaIdeal Cert.MlaIdeal.Gen
open Idealize.ShloMosaic Idealize.ShloMosaic.TcCoe

/-- Where each load and store of a trip lies: the first query block, the second, or the next trip's first. -/
theorem off4 : ∀ (i : grid0.Coords) (k : Fin (k0_t1_loop i).trips), k0_off4 i k = ![(2 * (i 1).val + 0 + 2 + 2 * k.val), 0, 0] := by decide +kernel
theorem off5 : ∀ (i : grid0.Coords) (k : Fin (k0_t1_loop i).trips), k0_off5 i k = ![(2 * (i 1).val + 0 + 2 + 2 * k.val), 0, 0] := by decide +kernel
theorem off6 : ∀ (i : grid0.Coords) (k : Fin (k0_t1_loop i).trips), k0_off6 i k = ![(2 * (i 1).val + 0 + 2 + 2 * k.val), 128, 0] := by decide +kernel
theorem off7 : ∀ (i : grid0.Coords) (k : Fin (k0_t1_loop i).trips), k0_off7 i k = ![0, (2 * (i 1).val + 0 + 1 + 2 * k.val), 0, 0] := by decide +kernel
theorem off8 : ∀ (i : grid0.Coords) (k : Fin (k0_t1_loop i).trips), k0_off8 i k = ![(2 * (i 1).val + 0 + 1 + 2 * k.val), 0, 0] := by decide +kernel
theorem off9 : ∀ (i : grid0.Coords) (k : Fin (k0_t1_loop i).trips), k0_off9 i k = ![(2 * (i 1).val + 0 + 1 + 2 * k.val), 0, 0] := by decide +kernel
theorem off10 : ∀ (i : grid0.Coords) (k : Fin (k0_t1_loop i).trips), k0_off10 i k = ![(2 * (i 1).val + 0 + 1 + 2 * k.val), 64, 0] := by decide +kernel
theorem off11 : ∀ (i : grid0.Coords) (k : Fin (k0_t1_loop i).trips), k0_off11 i k = ![(2 * (i 1).val + 0 + 1 + 2 * k.val), 128, 0] := by decide +kernel
theorem off12 : ∀ (i : grid0.Coords) (k : Fin (k0_t1_loop i).trips), k0_off12 i k = ![(if 2 * (i 1).val + 0 + 3 + 2 * k.val < 16 then 2 * (i 1).val + 0 + 3 + 2 * k.val else 2 * (i 1).val + 0), 0, 0] := by decide +kernel
theorem off13 : ∀ (i : grid0.Coords) (k : Fin (k0_t1_loop i).trips), k0_off13 i k = ![(if 2 * (i 1).val + 0 + 3 + 2 * k.val < 16 then 2 * (i 1).val + 0 + 3 + 2 * k.val else 2 * (i 1).val + 0), 0, 0] := by decide +kernel
theorem off14 : ∀ (i : grid0.Coords) (k : Fin (k0_t1_loop i).trips), k0_off14 i k = ![(if 2 * (i 1).val + 0 + 3 + 2 * k.val < 16 then 2 * (i 1).val + 0 + 3 + 2 * k.val else 2 * (i 1).val + 0), 128, 0] := by decide +kernel
theorem off15 : ∀ (i : grid0.Coords) (k : Fin (k0_t1_loop i).trips), k0_off15 i k = ![0, (2 * (i 1).val + 0 + 2 + 2 * k.val), 0, 0] := by decide +kernel
theorem off16 : ∀ (i : grid0.Coords) (k : Fin (k0_t1_loop i).trips), k0_off16 i k = ![(2 * (i 1).val + 0 + 2 + 2 * k.val), 0, 0] := by decide +kernel
theorem off17 : ∀ (i : grid0.Coords) (k : Fin (k0_t1_loop i).trips), k0_off17 i k = ![(2 * (i 1).val + 0 + 2 + 2 * k.val), 0, 0] := by decide +kernel
theorem off18 : ∀ (i : grid0.Coords) (k : Fin (k0_t1_loop i).trips), k0_off18 i k = ![(2 * (i 1).val + 0 + 2 + 2 * k.val), 64, 0] := by decide +kernel
theorem off19 : ∀ (i : grid0.Coords) (k : Fin (k0_t1_loop i).trips), k0_off19 i k = ![(2 * (i 1).val + 0 + 2 + 2 * k.val), 128, 0] := by decide +kernel
theorem trips1 : ∀ i : grid0.Coords, (k0_t1_loop i).trips = 7 - (i 1).val := by decide +kernel
theorem off49 : ∀ (i : grid0.Coords) (k : Fin (k0_t3_loop i).trips), k0_off49 i k = ![(2 * (i 1).val + 1 + 2 + 2 * k.val), 0, 0] := by decide +kernel
theorem off50 : ∀ (i : grid0.Coords) (k : Fin (k0_t3_loop i).trips), k0_off50 i k = ![(2 * (i 1).val + 1 + 2 + 2 * k.val), 0, 0] := by decide +kernel
theorem off51 : ∀ (i : grid0.Coords) (k : Fin (k0_t3_loop i).trips), k0_off51 i k = ![(2 * (i 1).val + 1 + 2 + 2 * k.val), 128, 0] := by decide +kernel
theorem off52 : ∀ (i : grid0.Coords) (k : Fin (k0_t3_loop i).trips), k0_off52 i k = ![0, (2 * (i 1).val + 1 + 1 + 2 * k.val), 0, 0] := by decide +kernel
theorem off53 : ∀ (i : grid0.Coords) (k : Fin (k0_t3_loop i).trips), k0_off53 i k = ![(2 * (i 1).val + 1 + 1 + 2 * k.val), 0, 0] := by decide +kernel
theorem off54 : ∀ (i : grid0.Coords) (k : Fin (k0_t3_loop i).trips), k0_off54 i k = ![(2 * (i 1).val + 1 + 1 + 2 * k.val), 0, 0] := by decide +kernel
theorem off55 : ∀ (i : grid0.Coords) (k : Fin (k0_t3_loop i).trips), k0_off55 i k = ![(2 * (i 1).val + 1 + 1 + 2 * k.val), 64, 0] := by decide +kernel
theorem off56 : ∀ (i : grid0.Coords) (k : Fin (k0_t3_loop i).trips), k0_off56 i k = ![(2 * (i 1).val + 1 + 1 + 2 * k.val), 128, 0] := by decide +kernel
theorem off57 : ∀ (i : grid0.Coords) (k : Fin (k0_t3_loop i).trips), k0_off57 i k = ![(if 2 * (i 1).val + 1 + 3 + 2 * k.val < 16 then 2 * (i 1).val + 1 + 3 + 2 * k.val else 2 * (i 1).val + 1), 0, 0] := by decide +kernel
theorem off58 : ∀ (i : grid0.Coords) (k : Fin (k0_t3_loop i).trips), k0_off58 i k = ![(if 2 * (i 1).val + 1 + 3 + 2 * k.val < 16 then 2 * (i 1).val + 1 + 3 + 2 * k.val else 2 * (i 1).val + 1), 0, 0] := by decide +kernel
theorem off59 : ∀ (i : grid0.Coords) (k : Fin (k0_t3_loop i).trips), k0_off59 i k = ![(if 2 * (i 1).val + 1 + 3 + 2 * k.val < 16 then 2 * (i 1).val + 1 + 3 + 2 * k.val else 2 * (i 1).val + 1), 128, 0] := by decide +kernel
theorem off60 : ∀ (i : grid0.Coords) (k : Fin (k0_t3_loop i).trips), k0_off60 i k = ![0, (2 * (i 1).val + 1 + 2 + 2 * k.val), 0, 0] := by decide +kernel
theorem off61 : ∀ (i : grid0.Coords) (k : Fin (k0_t3_loop i).trips), k0_off61 i k = ![(2 * (i 1).val + 1 + 2 + 2 * k.val), 0, 0] := by decide +kernel
theorem off62 : ∀ (i : grid0.Coords) (k : Fin (k0_t3_loop i).trips), k0_off62 i k = ![(2 * (i 1).val + 1 + 2 + 2 * k.val), 0, 0] := by decide +kernel
theorem off63 : ∀ (i : grid0.Coords) (k : Fin (k0_t3_loop i).trips), k0_off63 i k = ![(2 * (i 1).val + 1 + 2 + 2 * k.val), 64, 0] := by decide +kernel
theorem off64 : ∀ (i : grid0.Coords) (k : Fin (k0_t3_loop i).trips), k0_off64 i k = ![(2 * (i 1).val + 1 + 2 + 2 * k.val), 128, 0] := by decide +kernel
theorem trips3 : ∀ i : grid0.Coords, (k0_t3_loop i).trips = 7 - (i 1).val := by decide +kernel

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

section Rows

variable {N M W : ℕ} (v : View sig .tc .vmem (⟨3, ![N, M, 256]⟩ : Shape) .f32) (f : v.ty.Contents (Elt Ideal)) {off : Fin 3 → ℕ} (a o : ℕ)
  (inb : ∀ x : Fin 3, off x + (![1, W, 256] : Fin 3 → ℕ) x ≤ (![N, M, 256] : Fin 3 → ℕ) x)
  (w : (⟨3, ![1, W, 256]⟩ : Shape).Idx → EReal) (L : List (View.Piece (Elt Ideal) (⟨3, ![N, M, 256]⟩ : Shape) .f32))

/-- Rows read where the last store put them, and where it did not. -/
theorem rows_hit (hoff : off = ![a, o, 0]) (n : Fin N) (d : Fin M) (r : Fin W) (ξ : Fin 256) (hn : n.val = a) (hd : d.val = o + r.val) :
    View.read (Elt Ideal) v (v.writes (Elt Ideal) f (⟨Rect.unit (s := (⟨3, ![N, M, 256]⟩ : Shape)) off ![1, W, 256] inb, w⟩ :: L)) (ix3 n d ξ) = w (ix3 (0 : Fin 1) r ξ) :=
  View.read_writes_cons_unit_of_mem v f inb w L _ (ix3 (0 : Fin 1) r ξ) hoff (by
    intro x; fin_cases x
    · simp [ix3, hn]
    · simp [ix3, hd]
    · simp [ix3])

theorem rows_miss (hoff : off = ![a, o, 0]) (n : Fin N) (d : Fin M) (ξ : Fin 256) (h : ¬(n.val = a ∧ o ≤ d.val ∧ d.val < o + W)) :
    View.read (Elt Ideal) v (v.writes (Elt Ideal) f (⟨Rect.unit (s := (⟨3, ![N, M, 256]⟩ : Shape)) off ![1, W, 256] inb, w⟩ :: L)) (ix3 n d ξ) = View.read (Elt Ideal) v (v.writes (Elt Ideal) f L) (ix3 n d ξ) := by
  refine View.read_writes_cons_unit_of_not_mem v f inb w L _ hoff (if n.val = a then 1 else 0) ?_
  by_cases hn : n.val = a
  · rw [if_pos hn]
    show d.val < o ∨ o + W ≤ d.val
    omega
  · rw [if_neg hn]
    show n.val < a ∨ a + 1 ≤ n.val
    omega

end Rows

/-- The buffers hold the operands of `O`, the key block being the `b`-th of the two. -/
structure Ops.Reads (O : Ops) (b : Fin 2) (x2 : arg2.view.ty.Contents (Elt Ideal)) (x3 : arg3.view.ty.Contents (Elt Ideal)) (x4 : arg4.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) : Prop where
  q : ∀ (n : Fin 16) (d ξ : Fin 256), View.read (Elt Ideal) arg2.view x2 (ix3 n d ξ) = O.q n d ξ
  k : ∀ κ₀ d : Fin 256, View.read (Elt Ideal) arg3.view x3 (ix2 ⟨256 * b.val + κ₀.val, by omega⟩ d) = O.k κ₀ d
  kt : ∀ d κ₀ : Fin 256, View.read (Elt Ideal) arg4.view x4 (ix3 b d κ₀) = O.kt d κ₀
  vh : ∀ (h : Fin 2) (κ₀ : Fin 256) (l : Fin 128), View.read (Elt Ideal) arg16.view x16 (ix3 h κ₀ l) = O.vh h κ₀ l
  g : ∀ (n : Fin 16) (e : Fin 128) (ξ : Fin 256), View.read (Elt Ideal) arg6.view x6 (ix3 n e ξ) = O.g n e ξ
  l : ∀ (n : Fin 16) (r : Fin 8) (ξ : Fin 256), View.read (Elt Ideal) arg7.view x7 (ix4 0 n r ξ) = O.l n r ξ
  d : ∀ (n : Fin 16) (r : Fin 8) (ξ : Fin 256), View.read (Elt Ideal) arg8.view x8 (ix4 0 n r ξ) = O.d n r ξ

section Loads

variable {arg2 arg3 arg4 arg6 arg7 arg8 arg16}
variable {O : Ops} {b : Fin 2} {x2 : arg2.view.ty.Contents (Elt Ideal)} {x3 : arg3.view.ty.Contents (Elt Ideal)} {x4 : arg4.view.ty.Contents (Elt Ideal)} {x6 : arg6.view.ty.Contents (Elt Ideal)} {x7 : arg7.view.ty.Contents (Elt Ideal)} {x8 : arg8.view.ty.Contents (Elt Ideal)} {x16 : arg16.view.ty.Contents (Elt Ideal)}
  (R : O.Reads arg2 arg3 arg4 arg6 arg7 arg8 arg16 b x2 x3 x4 x6 x7 x8 x16)
include R

theorem Ops.Reads.q96 {off : Fin 3 → ℕ} (n : Fin 16) (h : Fin 2) (e : off = ![n.val, 128 * h.val, 0]) (inb) (r : Fin 96) (ξ : Fin 256) :
    View.readAt (Elt Ideal) arg2.view (Rect.unit (s := S16x256x256) off S1x96x256.size inb).toLoadRect x2 (ix3 0 r ξ) = O.q n (hd96 h r) ξ :=
  (readAt_unit _ _ inb e _ (ix3 n (hd96 h r) ξ) (by intro x; fin_cases x <;> simp [ix3, hd96])).trans (R.q _ _ _)

theorem Ops.Reads.kt96 {off : Fin 3 → ℕ} (h : Fin 2) (e : off = ![b.val, 128 * h.val, 0]) (inb) (r : Fin 96) (ξ : Fin 256) :
    View.readAt (Elt Ideal) arg4.view (Rect.unit (s := S2x256x256) off S1x96x256.size inb).toLoadRect x4 (ix3 0 r ξ) = O.kt (hd96 h r) ξ :=
  (readAt_unit _ _ inb e _ (ix3 b (hd96 h r) ξ) (by intro x; fin_cases x <;> simp [ix3, hd96])).trans (R.kt _ _)

theorem Ops.Reads.g64 {off : Fin 3 → ℕ} (n : Fin 16) (h : Fin 2) (e : off = ![n.val, 64 * h.val, 0]) (inb) (r : Fin 64) (ξ : Fin 256) :
    View.readAt (Elt Ideal) arg6.view (Rect.unit (s := S16x128x256) off S1x64x256.size inb).toLoadRect x6 (ix3 0 r ξ) = O.g n (hd64 h r) ξ :=
  (readAt_unit _ _ inb e _ (ix3 n (hd64 h r) ξ) (by intro x; fin_cases x <;> simp [ix3, hd64])).trans (R.g _ _ _)

theorem Ops.Reads.l8 {off : Fin 4 → ℕ} (n : Fin 16) (e : off = ![0, n.val, 0, 0]) (inb) (r : Fin 8) (ξ : Fin 256) :
    View.readAt (Elt Ideal) arg7.view (Rect.unit (s := S1x16x8x256) off S1x1x8x256.size inb).toLoadRect x7 (ix4 0 0 r ξ) = O.l n r ξ :=
  (readAt_unit _ _ inb e _ (ix4 0 n r ξ) (by intro x; fin_cases x <;> simp [ix4])).trans (R.l _ _ _)

theorem Ops.Reads.d8 {off : Fin 4 → ℕ} (n : Fin 16) (e : off = ![0, n.val, 0, 0]) (inb) (r : Fin 8) (ξ : Fin 256) :
    View.readAt (Elt Ideal) arg8.view (Rect.unit (s := S1x16x8x256) off S1x1x8x256.size inb).toLoadRect x8 (ix4 0 0 r ξ) = O.d n r ξ :=
  (readAt_unit _ _ inb e _ (ix4 0 n r ξ) (by intro x; fin_cases x <;> simp [ix4])).trans (R.d _ _ _)

/-- A head's scores, and its products with the values. -/
theorem Ops.Reads.score (n : Fin 16) (h : Fin 2) {off : Fin 3 → ℕ} {off' : Fin 2 → ℕ} (e : off = ![n.val, 128 * h.val, 0]) (e' : off' = ![256 * b.val, 128 * h.val]) (inb inb') (κ₀ ξ : Fin 256) :
    k0_pay1 (View.readAt (Elt Ideal) arg3.view (Rect.unit (s := S512x256) off' S256x128.size inb').toLoadRect x3)
      (View.readAt (Elt Ideal) arg2.view (Rect.unit (s := S16x256x256) off S1x128x256.size inb).toLoadRect x2) (ix4 0 0 κ₀ ξ) = O.S n h κ₀ ξ := by
  rw [score_val]
  refine Finset.sum_congr rfl fun l _ => congrArg₂ _ ?_ ?_
  · exact (readAt_unit _ _ inb' e' _ (ix2 ⟨256 * b.val + κ₀.val, by omega⟩ (hd h l)) (by intro x; fin_cases x <;> simp [ix2, hd])).trans (R.k _ _)
  · exact (readAt_unit _ _ inb e _ (ix3 n (hd h l) ξ) (by intro x; fin_cases x <;> simp [ix3, hd])).trans (R.q _ _ _)

theorem Ops.Reads.prod (n : Fin 16) (h : Fin 2) {off off' : Fin 3 → ℕ} (e : off = ![n.val, 0, 0]) (e' : off' = ![h.val, 0, 0]) (inb inb') (κ₀ ξ : Fin 256) :
    k0_pay2 (View.readAt (Elt Ideal) arg16.view (Rect.unit (s := S2x256x128) off' S1x256x128.size inb').toLoadRect x16)
      (View.readAt (Elt Ideal) arg6.view (Rect.unit (s := S16x128x256) off S1x128x256.size inb).toLoadRect x6) (ix4 0 0 κ₀ ξ) = O.G n h κ₀ ξ := by
  rw [dp_val]
  refine Finset.sum_congr rfl fun l _ => congrArg₂ _ ?_ ?_
  · exact (readAt_unit _ _ inb' e' _ (ix3 h κ₀ l) (by intro x; fin_cases x <;> simp [ix3])).trans (R.vh _ _ _)
  · exact (readAt_unit _ _ inb e _ (ix3 n l ξ) (by intro x; fin_cases x <;> simp [ix3])).trans (R.g _ _ _)

end Loads

end Cert.MlaIdeal.Hand
-- ==== Proof.MlaTrip1.lean ====
module

public import proofs.«01_k».proof.Proof.MlaOffs

/-!
# One trip of the first loop, entry by entry

A trip adds the contributions of two query blocks to the three results and leaves the scores of the next block in the
first slots.
-/

@[expose] public section

set_option maxRecDepth 16384

noncomputable section

namespace Cert.MlaIdeal.Hand

open Cert.MlaIdeal Cert.MlaIdeal.Gen
open Idealize.ShloMosaic Idealize.ShloMosaic.TcCoe

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

section Trip1

variable (v8 v26 v29 : BitVec 32) (v56 : FVec Ideal S1x1x256x256 .f32) (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (k : Fin (k0_t1_loop i).trips)
  (f9 : arg9.view.ty.Contents (Elt Ideal)) (f10 : arg10.view.ty.Contents (Elt Ideal)) (f11 : arg11.view.ty.Contents (Elt Ideal)) (b₀ b₁ d₀ d₁ : Blk Ideal)
  (O : Ops) (R : O.Reads arg2 arg3 arg4 arg6 arg7 arg8 arg16 0 x2 x3 x4 x6 x7 x8 x16)
  (n₀ n₁ n₂ : Fin 16) (e₀ : n₀.val = 2 * (i 1).val + 0 + 1 + 2 * k.val) (e₁ : n₁.val = 2 * (i 1).val + 0 + 2 + 2 * k.val)
  (e₂ : n₂.val = if 2 * (i 1).val + 0 + 3 + 2 * k.val < 16 then 2 * (i 1).val + 0 + 3 + 2 * k.val else 2 * (i 1).val + 0)
  (hb₀ : ∀ κ₀ ξ, b₀ (ix4 0 0 κ₀ ξ) = O.S n₀ 0 κ₀ ξ) (hb₁ : ∀ κ₀ ξ, b₁ (ix4 0 0 κ₀ ξ) = O.S n₀ 1 κ₀ ξ)
  (hd₀ : ∀ κ₀ ξ, d₀ (ix4 0 0 κ₀ ξ) = O.G n₀ 0 κ₀ ξ) (hd₁ : ∀ κ₀ ξ, d₁ (ix4 0 0 κ₀ ξ) = O.G n₀ 1 κ₀ ξ)

include R e₂

theorem trip1_b₀ (κ₀ ξ : Fin 256) : (trip1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 k (f9, f10, f11, b₀, b₁, d₀, d₁)).1.2.2.2.1 (ix4 0 0 κ₀ ξ) = O.S n₂ 0 κ₀ ξ := by
  unfold trip1
  exact R.score n₂ 0 ((off12 i k).trans (by rw [e₂]; try rfl)) rfl _ _ κ₀ ξ

theorem trip1_b₁ (κ₀ ξ : Fin 256) : (trip1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 k (f9, f10, f11, b₀, b₁, d₀, d₁)).1.2.2.2.2.1 (ix4 0 0 κ₀ ξ) = O.S n₂ 1 κ₀ ξ := by
  unfold trip1
  exact R.score n₂ 1 ((off14 i k).trans (by rw [e₂]; try rfl)) rfl _ _ κ₀ ξ

theorem trip1_d₀ (κ₀ ξ : Fin 256) : (trip1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 k (f9, f10, f11, b₀, b₁, d₀, d₁)).1.2.2.2.2.2.1 (ix4 0 0 κ₀ ξ) = O.G n₂ 0 κ₀ ξ := by
  unfold trip1
  exact R.prod n₂ 0 ((off13 i k).trans (by rw [e₂]; try rfl)) rfl _ _ κ₀ ξ

theorem trip1_d₁ (κ₀ ξ : Fin 256) : (trip1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 k (f9, f10, f11, b₀, b₁, d₀, d₁)).1.2.2.2.2.2.2 (ix4 0 0 κ₀ ξ) = O.G n₂ 1 κ₀ ξ := by
  unfold trip1
  exact R.prod n₂ 1 ((off13 i k).trans (by rw [e₂]; try rfl)) rfl _ _ κ₀ ξ

include e₀ e₁ hb₀ hb₁ hd₀ hd₁

set_option maxHeartbeats 4000000 in
theorem trip1_dv (z : Fin 2) (d : Fin 128) (ξ : Fin 256) :
    View.read (Elt Ideal) arg11.view (trip1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 k (f9, f10, f11, b₀, b₁, d₀, d₁)).1.2.2.1 (ix3 z d ξ) = (View.read (Elt Ideal) arg11.view f11 (ix3 z d ξ) : EReal) + O.C11 false 0 n₀ z d ξ + O.C11 false 0 n₁ z d ξ := by
  unfold trip1
  dsimp only [trip1.sl.H10_2, trip1.sl.H10_3, trip1.sl.H11_2, trip1.sl.H11_3, trip1.sl.H12_4, trip1.sl.H12_5, trip1.sl.H12_6, trip1.sl.H13_4, trip1.sl.H13_6, trip1.sl.H14_4, trip1.sl.H14_8, trip1.sl.H15_4, trip1.sl.H15_8, trip1.sl.arg17, trip1.sl.cst_171, trip1.sl.cst_295, trip1.sl.cst_317, trip1.sl.r, trip1.sl.r_1, trip1.sl.r_10, trip1.sl.r_11, trip1.sl.r_12, trip1.sl.r_13, trip1.sl.r_14, trip1.sl.r_15, trip1.sl.r_2, trip1.sl.r_3, trip1.sl.r_4, trip1.sl.r_5, trip1.sl.r_6, trip1.sl.r_7, trip1.sl.r_8, trip1.sl.r_9, trip1.sl.v221, trip1.sl.v222, trip1.sl.v223, trip1.sl.v224, trip1.sl.v226, trip1.sl.v227, trip1.sl.v229, trip1.sl.v230, trip1.sl.v231, trip1.sl.v232, trip1.sl.v233, trip1.sl.v235, trip1.sl.v238, trip1.sl.v239, trip1.sl.v240, trip1.sl.v241, trip1.sl.v242, trip1.sl.v244, trip1.sl.v247, trip1.sl.v248, trip1.sl.v267, trip1.sl.v279, trip1.sl.v291, trip1.sl.v303, trip1.sl.v315, trip1.sl.v327, trip1.sl.v339, trip1.sl.v351, trip1.sl.v368, trip1.sl.v379, trip1.sl.v380, trip1.sl.v381, trip1.sl.v382, trip1.sl.v383, trip1.sl.v385, trip1.sl.v386, trip1.sl.v387, trip1.sl.v389, trip1.sl.v391, trip1.sl.v394, trip1.sl.v395, trip1.sl.v399, trip1.sl.v400, trip1.sl.v401, trip1.sl.v404, trip1.sl.v405, trip1.sl.v406, trip1.sl.v407, trip1.sl.v408, trip1.sl.v411, trip1.sl.v412, trip1.sl.v413, trip1.sl.v416, trip1.sl.v417, trip1.sl.v418, trip1.sl.v419, trip1.sl.v420, trip1.sl.v423, trip1.sl.v425, trip1.sl.v426, trip1.sl.v428, trip1.sl.v431, trip1.sl.v432, trip1.sl.v436, trip1.sl.v437, trip1.sl.v438, trip1.sl.v440, trip1.sl.v443, trip1.sl.v445, trip1.sl.v446, trip1.sl.v447, trip1.sl.v448, trip1.sl.v449, trip1.sl.v454, trip1.sl.v455, trip1.sl.v456, trip1.sl.v457, trip1.sl.v458, trip1.sl.v463, trip1.sl.v464, trip1.sl.v465, trip1.sl.v466, trip1.sl.v467, trip1.sl.v484, trip1.sl.v496, trip1.sl.v508, trip1.sl.v520, trip1.sl.v532, trip1.sl.v544, trip1.sl.v556, trip1.sl.v568, trip1.sl.v580, trip1.sl.v585, trip1.sl.v592, trip1.sl.v597, trip1.sl.v598, trip1.sl.v599, trip1.sl.v600, trip1.sl.v601, trip1.sl.v602, trip1.sl.v603, trip1.sl.v605, trip1.sl.v606, trip1.sl.v611, trip1.sl.v612, trip1.sl.v616, trip1.sl.v617, trip1.sl.v618, trip1.sl.v621, trip1.sl.v622, trip1.sl.v623, trip1.sl.v624, trip1.sl.v625, trip1.sl.v629, trip1.sl.v634, trip1.sl.v642]
  refine (add11 O false n₁ 0 _ _ _ rfl rfl _ _ _ _ _ _ _ _ ?_ ?_ ?_ ?_ ?_ ?_ z d ξ).trans (congrArg (· + _) (add11 O false n₀ 0 _ _ _ rfl rfl _ _ _ _ _ _ _ _ ?_ ?_ ?_ ?_ ?_ ?_ z d ξ))
  · exact (fun r x => R.g64 n₁ 0 ((off16 i k).trans (by rw [e₁]; try rfl)) _ r x)
  · exact (fun r x => R.g64 n₁ 1 ((off18 i k).trans (by rw [e₁]; try rfl)) _ r x)
  · exact (fun x y => head_cov (e := .bf16) _ _ _ _ _ _ 0 (O.P false n₁) (fun κ₀ ξ => (p_val00 _ _ κ₀ ξ).trans (O.P_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 0 κ₀ _ _ (by simp) _ _ _ _ _) (R.l8 n₁ ((off15 i k).trans (by rw [e₁]; try rfl)) _ 0 _))) (fun κ₀ ξ => (p_val01 _ _ κ₀ ξ).trans (O.P_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 128 κ₀ _ _ (by simp) _ _ _ _ _) (R.l8 n₁ ((off15 i k).trans (by rw [e₁]; try rfl)) _ 0 _))) (fun κ₀ ξ => (p_val10 _ _ κ₀ ξ).trans (O.P_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 0 κ₀ _ _ (by simp) _ _ _ _ _) (R.l8 n₁ ((off15 i k).trans (by rw [e₁]; try rfl)) _ 1 _))) (fun κ₀ ξ => (p_val11 _ _ κ₀ ξ).trans (O.P_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 128 κ₀ _ _ (by simp) _ _ _ _ _) (R.l8 n₁ ((off15 i k).trans (by rw [e₁]; try rfl)) _ 1 _))) x y _ _ _ _ _)
  · exact (fun x y => head_cov (e := .bf16) _ _ _ _ _ _ 1 (O.P false n₁) (fun κ₀ ξ => (p_val00 _ _ κ₀ ξ).trans (O.P_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 0 κ₀ _ _ (by simp) _ _ _ _ _) (R.l8 n₁ ((off15 i k).trans (by rw [e₁]; try rfl)) _ 0 _))) (fun κ₀ ξ => (p_val01 _ _ κ₀ ξ).trans (O.P_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 128 κ₀ _ _ (by simp) _ _ _ _ _) (R.l8 n₁ ((off15 i k).trans (by rw [e₁]; try rfl)) _ 0 _))) (fun κ₀ ξ => (p_val10 _ _ κ₀ ξ).trans (O.P_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 0 κ₀ _ _ (by simp) _ _ _ _ _) (R.l8 n₁ ((off15 i k).trans (by rw [e₁]; try rfl)) _ 1 _))) (fun κ₀ ξ => (p_val11 _ _ κ₀ ξ).trans (O.P_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 128 κ₀ _ _ (by simp) _ _ _ _ _) (R.l8 n₁ ((off15 i k).trans (by rw [e₁]; try rfl)) _ 1 _))) x y _ _ _ _ _)
  · intro z d r x hz hd
    refine (rows_read (N := 2) (M := 128) (W := 64) _ 0 0 _ rfl _ z hz r x d hd).trans ?_
    refine ((rows_miss (N := 2) (M := 128) (W := 64) _ _ 0 64 _ _ _ rfl z d x (by omega)).trans (rows_hit (N := 2) (M := 128) (W := 64) _ _ 0 0 _ _ _ rfl z d r x hz hd)).trans ?_
    exact ((rows_miss (N := 2) (M := 128) (W := 64) _ _ 0 64 _ _ _ rfl z d x (by omega)).trans (rows_hit (N := 2) (M := 128) (W := 64) _ _ 0 0 _ _ _ rfl z d r x hz hd)).symm
  · intro z d r x hz hd
    refine (rows_read (N := 2) (M := 128) (W := 64) _ 0 64 _ rfl _ z hz r x d hd).trans ?_
    refine ((rows_miss (N := 2) (M := 128) (W := 64) _ _ 0 0 _ _ _ rfl z d x (by omega)).trans (rows_hit (N := 2) (M := 128) (W := 64) _ _ 0 64 _ _ _ rfl z d r x hz hd)).trans ?_
    exact (rows_hit (N := 2) (M := 128) (W := 64) _ _ 0 64 _ _ _ rfl z d r x hz hd).symm
  · exact (fun r x => R.g64 n₀ 0 ((off8 i k).trans (by rw [e₀]; try rfl)) _ r x)
  · exact (fun r x => R.g64 n₀ 1 ((off10 i k).trans (by rw [e₀]; try rfl)) _ r x)
  · exact (fun x y => head_cov (e := .bf16) _ _ _ _ _ _ 0 (O.P false n₀) (fun κ₀ ξ => (p_val00 _ _ κ₀ ξ).trans (O.P_of (quarter_under _ _ _ _ _ _ (O.S n₀) 0 1 (Or.inl Nat.zero_lt_one) hb₀ hb₁ 0 0 κ₀ _ _ (by simp) _ _ _ _ _) (R.l8 n₀ ((off7 i k).trans (by rw [e₀]; try rfl)) _ 0 _))) (fun κ₀ ξ => (p_val01 _ _ κ₀ ξ).trans (O.P_of (quarter_under _ _ _ _ _ _ (O.S n₀) 0 1 (Or.inl Nat.zero_lt_one) hb₀ hb₁ 0 128 κ₀ _ _ (by simp) _ _ _ _ _) (R.l8 n₀ ((off7 i k).trans (by rw [e₀]; try rfl)) _ 0 _))) (fun κ₀ ξ => (p_val10 _ _ κ₀ ξ).trans (O.P_of (quarter_under _ _ _ _ _ _ (O.S n₀) 0 1 (Or.inl Nat.zero_lt_one) hb₀ hb₁ 1 0 κ₀ _ _ (by simp) _ _ _ _ _) (R.l8 n₀ ((off7 i k).trans (by rw [e₀]; try rfl)) _ 1 _))) (fun κ₀ ξ => (p_val11 _ _ κ₀ ξ).trans (O.P_of (quarter_under _ _ _ _ _ _ (O.S n₀) 0 1 (Or.inl Nat.zero_lt_one) hb₀ hb₁ 1 128 κ₀ _ _ (by simp) _ _ _ _ _) (R.l8 n₀ ((off7 i k).trans (by rw [e₀]; try rfl)) _ 1 _))) x y _ _ _ _ _)
  · exact (fun x y => head_cov (e := .bf16) _ _ _ _ _ _ 1 (O.P false n₀) (fun κ₀ ξ => (p_val00 _ _ κ₀ ξ).trans (O.P_of (quarter_under _ _ _ _ _ _ (O.S n₀) 0 1 (Or.inl Nat.zero_lt_one) hb₀ hb₁ 0 0 κ₀ _ _ (by simp) _ _ _ _ _) (R.l8 n₀ ((off7 i k).trans (by rw [e₀]; try rfl)) _ 0 _))) (fun κ₀ ξ => (p_val01 _ _ κ₀ ξ).trans (O.P_of (quarter_under _ _ _ _ _ _ (O.S n₀) 0 1 (Or.inl Nat.zero_lt_one) hb₀ hb₁ 0 128 κ₀ _ _ (by simp) _ _ _ _ _) (R.l8 n₀ ((off7 i k).trans (by rw [e₀]; try rfl)) _ 0 _))) (fun κ₀ ξ => (p_val10 _ _ κ₀ ξ).trans (O.P_of (quarter_under _ _ _ _ _ _ (O.S n₀) 0 1 (Or.inl Nat.zero_lt_one) hb₀ hb₁ 1 0 κ₀ _ _ (by simp) _ _ _ _ _) (R.l8 n₀ ((off7 i k).trans (by rw [e₀]; try rfl)) _ 1 _))) (fun κ₀ ξ => (p_val11 _ _ κ₀ ξ).trans (O.P_of (quarter_under _ _ _ _ _ _ (O.S n₀) 0 1 (Or.inl Nat.zero_lt_one) hb₀ hb₁ 1 128 κ₀ _ _ (by simp) _ _ _ _ _) (R.l8 n₀ ((off7 i k).trans (by rw [e₀]; try rfl)) _ 1 _))) x y _ _ _ _ _)
  · exact fun z d r x hz hd => rows_read (N := 2) (M := 128) (W := 64) _ 0 0 _ rfl _ z hz r x d hd
  · exact fun z d r x hz hd => rows_read (N := 2) (M := 128) (W := 64) _ 0 64 _ rfl _ z hz r x d hd

set_option maxHeartbeats 4000000 in
theorem trip1_dk (z : Fin 2) (d ξ : Fin 256) :
    View.read (Elt Ideal) arg10.view (trip1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 k (f9, f10, f11, b₀, b₁, d₀, d₁)).1.2.1 (ix3 z d ξ) = (View.read (Elt Ideal) arg10.view f10 (ix3 z d ξ) : EReal) + O.C10 false 0 n₀ z d ξ + O.C10 false 0 n₁ z d ξ := by
  unfold trip1
  dsimp only [trip1.sl.H10_2, trip1.sl.H10_3, trip1.sl.H11_2, trip1.sl.H11_3, trip1.sl.H12_4, trip1.sl.H12_5, trip1.sl.H12_6, trip1.sl.H13_4, trip1.sl.H13_6, trip1.sl.H14_4, trip1.sl.H14_8, trip1.sl.H15_4, trip1.sl.H15_8, trip1.sl.arg17, trip1.sl.cst_171, trip1.sl.cst_295, trip1.sl.cst_317, trip1.sl.r, trip1.sl.r_1, trip1.sl.r_10, trip1.sl.r_11, trip1.sl.r_12, trip1.sl.r_13, trip1.sl.r_14, trip1.sl.r_15, trip1.sl.r_2, trip1.sl.r_3, trip1.sl.r_4, trip1.sl.r_5, trip1.sl.r_6, trip1.sl.r_7, trip1.sl.r_8, trip1.sl.r_9, trip1.sl.v221, trip1.sl.v222, trip1.sl.v223, trip1.sl.v224, trip1.sl.v226, trip1.sl.v227, trip1.sl.v229, trip1.sl.v230, trip1.sl.v231, trip1.sl.v232, trip1.sl.v233, trip1.sl.v235, trip1.sl.v238, trip1.sl.v239, trip1.sl.v240, trip1.sl.v241, trip1.sl.v242, trip1.sl.v244, trip1.sl.v247, trip1.sl.v248, trip1.sl.v267, trip1.sl.v279, trip1.sl.v291, trip1.sl.v303, trip1.sl.v315, trip1.sl.v327, trip1.sl.v339, trip1.sl.v351, trip1.sl.v368, trip1.sl.v379, trip1.sl.v380, trip1.sl.v381, trip1.sl.v382, trip1.sl.v383, trip1.sl.v385, trip1.sl.v386, trip1.sl.v387, trip1.sl.v389, trip1.sl.v391, trip1.sl.v394, trip1.sl.v395, trip1.sl.v399, trip1.sl.v400, trip1.sl.v401, trip1.sl.v404, trip1.sl.v405, trip1.sl.v406, trip1.sl.v407, trip1.sl.v408, trip1.sl.v411, trip1.sl.v412, trip1.sl.v413, trip1.sl.v416, trip1.sl.v417, trip1.sl.v418, trip1.sl.v419, trip1.sl.v420, trip1.sl.v423, trip1.sl.v425, trip1.sl.v426, trip1.sl.v428, trip1.sl.v431, trip1.sl.v432, trip1.sl.v436, trip1.sl.v437, trip1.sl.v438, trip1.sl.v440, trip1.sl.v443, trip1.sl.v445, trip1.sl.v446, trip1.sl.v447, trip1.sl.v448, trip1.sl.v449, trip1.sl.v454, trip1.sl.v455, trip1.sl.v456, trip1.sl.v457, trip1.sl.v458, trip1.sl.v463, trip1.sl.v464, trip1.sl.v465, trip1.sl.v466, trip1.sl.v467, trip1.sl.v484, trip1.sl.v496, trip1.sl.v508, trip1.sl.v520, trip1.sl.v532, trip1.sl.v544, trip1.sl.v556, trip1.sl.v568, trip1.sl.v580, trip1.sl.v585, trip1.sl.v592, trip1.sl.v597, trip1.sl.v598, trip1.sl.v599, trip1.sl.v600, trip1.sl.v601, trip1.sl.v602, trip1.sl.v603, trip1.sl.v605, trip1.sl.v606, trip1.sl.v611, trip1.sl.v612, trip1.sl.v616, trip1.sl.v617, trip1.sl.v618, trip1.sl.v621, trip1.sl.v622, trip1.sl.v623, trip1.sl.v624, trip1.sl.v625, trip1.sl.v629, trip1.sl.v634, trip1.sl.v642]
  refine (add10 O false n₁ 0 _ _ _ rfl rfl _ _ _ _ _ _ _ _ ?_ ?_ ?_ ?_ ?_ ?_ z d ξ).trans (congrArg (· + _) (add10 O false n₀ 0 _ _ _ rfl rfl _ _ _ _ _ _ _ _ ?_ ?_ ?_ ?_ ?_ ?_ z d ξ))
  · exact (fun r x => R.q96 n₁ 0 ((off17 i k).trans (by rw [e₁]; try rfl)) _ r x)
  · exact (fun r x => R.q96 n₁ 1 ((off19 i k).trans (by rw [e₁]; try rfl)) _ r x)
  · exact (fun x y => head_cov (e := .bf16) _ _ _ _ _ _ 0 (O.W false n₁) (fun κ₀ ξ => (ds_val00 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 0 κ₀ _ _ (by simp) _ _ _ _ _) (R.l8 n₁ ((off15 i k).trans (by rw [e₁]; try rfl)) _ 0 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 0 0 κ₀ _ _ (by simp) _ _ _ _ _) (R.d8 n₁ ((off15 i k).trans (by rw [e₁]; try rfl)) _ 0 _))) (fun κ₀ ξ => (ds_val01 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 128 κ₀ _ _ (by simp) _ _ _ _ _) (R.l8 n₁ ((off15 i k).trans (by rw [e₁]; try rfl)) _ 0 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 0 128 κ₀ _ _ (by simp) _ _ _ _ _) (R.d8 n₁ ((off15 i k).trans (by rw [e₁]; try rfl)) _ 0 _))) (fun κ₀ ξ => (ds_val10 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 0 κ₀ _ _ (by simp) _ _ _ _ _) (R.l8 n₁ ((off15 i k).trans (by rw [e₁]; try rfl)) _ 1 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 1 0 κ₀ _ _ (by simp) _ _ _ _ _) (R.d8 n₁ ((off15 i k).trans (by rw [e₁]; try rfl)) _ 1 _))) (fun κ₀ ξ => (ds_val11 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 128 κ₀ _ _ (by simp) _ _ _ _ _) (R.l8 n₁ ((off15 i k).trans (by rw [e₁]; try rfl)) _ 1 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 1 128 κ₀ _ _ (by simp) _ _ _ _ _) (R.d8 n₁ ((off15 i k).trans (by rw [e₁]; try rfl)) _ 1 _))) x y _ _ _ _ _)
  · exact (fun x y => head_cov (e := .bf16) _ _ _ _ _ _ 1 (O.W false n₁) (fun κ₀ ξ => (ds_val00 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 0 κ₀ _ _ (by simp) _ _ _ _ _) (R.l8 n₁ ((off15 i k).trans (by rw [e₁]; try rfl)) _ 0 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 0 0 κ₀ _ _ (by simp) _ _ _ _ _) (R.d8 n₁ ((off15 i k).trans (by rw [e₁]; try rfl)) _ 0 _))) (fun κ₀ ξ => (ds_val01 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 128 κ₀ _ _ (by simp) _ _ _ _ _) (R.l8 n₁ ((off15 i k).trans (by rw [e₁]; try rfl)) _ 0 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 0 128 κ₀ _ _ (by simp) _ _ _ _ _) (R.d8 n₁ ((off15 i k).trans (by rw [e₁]; try rfl)) _ 0 _))) (fun κ₀ ξ => (ds_val10 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 0 κ₀ _ _ (by simp) _ _ _ _ _) (R.l8 n₁ ((off15 i k).trans (by rw [e₁]; try rfl)) _ 1 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 1 0 κ₀ _ _ (by simp) _ _ _ _ _) (R.d8 n₁ ((off15 i k).trans (by rw [e₁]; try rfl)) _ 1 _))) (fun κ₀ ξ => (ds_val11 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 128 κ₀ _ _ (by simp) _ _ _ _ _) (R.l8 n₁ ((off15 i k).trans (by rw [e₁]; try rfl)) _ 1 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 1 128 κ₀ _ _ (by simp) _ _ _ _ _) (R.d8 n₁ ((off15 i k).trans (by rw [e₁]; try rfl)) _ 1 _))) x y _ _ _ _ _)
  · intro z d r x hz hd
    refine (rows_read (N := 2) (M := 256) (W := 96) _ 0 0 _ rfl _ z hz r x d hd).trans ?_
    refine ((rows_miss (N := 2) (M := 256) (W := 96) _ _ 0 128 _ _ _ rfl z d x (by omega)).trans (rows_hit (N := 2) (M := 256) (W := 96) _ _ 0 0 _ _ _ rfl z d r x hz hd)).trans ?_
    exact ((rows_miss (N := 2) (M := 256) (W := 96) _ _ 0 128 _ _ _ rfl z d x (by omega)).trans (rows_hit (N := 2) (M := 256) (W := 96) _ _ 0 0 _ _ _ rfl z d r x hz hd)).symm
  · intro z d r x hz hd
    refine (rows_read (N := 2) (M := 256) (W := 96) _ 0 128 _ rfl _ z hz r x d hd).trans ?_
    refine ((rows_miss (N := 2) (M := 256) (W := 96) _ _ 0 0 _ _ _ rfl z d x (by omega)).trans (rows_hit (N := 2) (M := 256) (W := 96) _ _ 0 128 _ _ _ rfl z d r x hz hd)).trans ?_
    exact (rows_hit (N := 2) (M := 256) (W := 96) _ _ 0 128 _ _ _ rfl z d r x hz hd).symm
  · exact (fun r x => R.q96 n₀ 0 ((off9 i k).trans (by rw [e₀]; try rfl)) _ r x)
  · exact (fun r x => R.q96 n₀ 1 ((off11 i k).trans (by rw [e₀]; try rfl)) _ r x)
  · exact (fun x y => head_cov (e := .bf16) _ _ _ _ _ _ 0 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ ((off7 i k).trans (by rw [e₀]; try rfl)) _ 0 _) (quarter_under _ _ _ _ _ _ (O.G n₀) 0 1 (Or.inl Nat.zero_lt_one) hd₀ hd₁ 0 0 κ₀ _ _ (by simp) _ _ _ _ _) (R.d8 n₀ ((off7 i k).trans (by rw [e₀]; try rfl)) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ ((off7 i k).trans (by rw [e₀]; try rfl)) _ 0 _) (quarter_under _ _ _ _ _ _ (O.G n₀) 0 1 (Or.inl Nat.zero_lt_one) hd₀ hd₁ 0 128 κ₀ _ _ (by simp) _ _ _ _ _) (R.d8 n₀ ((off7 i k).trans (by rw [e₀]; try rfl)) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ ((off7 i k).trans (by rw [e₀]; try rfl)) _ 1 _) (quarter_under _ _ _ _ _ _ (O.G n₀) 0 1 (Or.inl Nat.zero_lt_one) hd₀ hd₁ 1 0 κ₀ _ _ (by simp) _ _ _ _ _) (R.d8 n₀ ((off7 i k).trans (by rw [e₀]; try rfl)) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ ((off7 i k).trans (by rw [e₀]; try rfl)) _ 1 _) (quarter_under _ _ _ _ _ _ (O.G n₀) 0 1 (Or.inl Nat.zero_lt_one) hd₀ hd₁ 1 128 κ₀ _ _ (by simp) _ _ _ _ _) (R.d8 n₀ ((off7 i k).trans (by rw [e₀]; try rfl)) _ 1 _))) x y _ _ _ _ _)
  · exact (fun x y => head_cov (e := .bf16) _ _ _ _ _ _ 1 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ ((off7 i k).trans (by rw [e₀]; try rfl)) _ 0 _) (quarter_under _ _ _ _ _ _ (O.G n₀) 0 1 (Or.inl Nat.zero_lt_one) hd₀ hd₁ 0 0 κ₀ _ _ (by simp) _ _ _ _ _) (R.d8 n₀ ((off7 i k).trans (by rw [e₀]; try rfl)) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ ((off7 i k).trans (by rw [e₀]; try rfl)) _ 0 _) (quarter_under _ _ _ _ _ _ (O.G n₀) 0 1 (Or.inl Nat.zero_lt_one) hd₀ hd₁ 0 128 κ₀ _ _ (by simp) _ _ _ _ _) (R.d8 n₀ ((off7 i k).trans (by rw [e₀]; try rfl)) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ ((off7 i k).trans (by rw [e₀]; try rfl)) _ 1 _) (quarter_under _ _ _ _ _ _ (O.G n₀) 0 1 (Or.inl Nat.zero_lt_one) hd₀ hd₁ 1 0 κ₀ _ _ (by simp) _ _ _ _ _) (R.d8 n₀ ((off7 i k).trans (by rw [e₀]; try rfl)) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ ((off7 i k).trans (by rw [e₀]; try rfl)) _ 1 _) (quarter_under _ _ _ _ _ _ (O.G n₀) 0 1 (Or.inl Nat.zero_lt_one) hd₀ hd₁ 1 128 κ₀ _ _ (by simp) _ _ _ _ _) (R.d8 n₀ ((off7 i k).trans (by rw [e₀]; try rfl)) _ 1 _))) x y _ _ _ _ _)
  · exact fun z d r x hz hd => rows_read (N := 2) (M := 256) (W := 96) _ 0 0 _ rfl _ z hz r x d hd
  · exact fun z d r x hz hd => rows_read (N := 2) (M := 256) (W := 96) _ 0 128 _ rfl _ z hz r x d hd

set_option maxHeartbeats 4000000 in
theorem trip1_dq (z : Fin 16) (d ξ : Fin 256) :
    View.read (Elt Ideal) arg9.view (trip1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 k (f9, f10, f11, b₀, b₁, d₀, d₁)).1.1 (ix3 z d ξ) = (View.read (Elt Ideal) arg9.view f9 (ix3 z d ξ) : EReal) + O.C9 false n₀ z d ξ + O.C9 false n₁ z d ξ := by
  unfold trip1
  dsimp only [trip1.sl.H10_2, trip1.sl.H10_3, trip1.sl.H11_2, trip1.sl.H11_3, trip1.sl.H12_4, trip1.sl.H12_5, trip1.sl.H12_6, trip1.sl.H13_4, trip1.sl.H13_6, trip1.sl.H14_4, trip1.sl.H14_8, trip1.sl.H15_4, trip1.sl.H15_8, trip1.sl.arg17, trip1.sl.cst_171, trip1.sl.cst_295, trip1.sl.cst_317, trip1.sl.r, trip1.sl.r_1, trip1.sl.r_10, trip1.sl.r_11, trip1.sl.r_12, trip1.sl.r_13, trip1.sl.r_14, trip1.sl.r_15, trip1.sl.r_2, trip1.sl.r_3, trip1.sl.r_4, trip1.sl.r_5, trip1.sl.r_6, trip1.sl.r_7, trip1.sl.r_8, trip1.sl.r_9, trip1.sl.v221, trip1.sl.v222, trip1.sl.v223, trip1.sl.v224, trip1.sl.v226, trip1.sl.v227, trip1.sl.v229, trip1.sl.v230, trip1.sl.v231, trip1.sl.v232, trip1.sl.v233, trip1.sl.v235, trip1.sl.v238, trip1.sl.v239, trip1.sl.v240, trip1.sl.v241, trip1.sl.v242, trip1.sl.v244, trip1.sl.v247, trip1.sl.v248, trip1.sl.v267, trip1.sl.v279, trip1.sl.v291, trip1.sl.v303, trip1.sl.v315, trip1.sl.v327, trip1.sl.v339, trip1.sl.v351, trip1.sl.v368, trip1.sl.v379, trip1.sl.v380, trip1.sl.v381, trip1.sl.v382, trip1.sl.v383, trip1.sl.v385, trip1.sl.v386, trip1.sl.v387, trip1.sl.v389, trip1.sl.v391, trip1.sl.v394, trip1.sl.v395, trip1.sl.v399, trip1.sl.v400, trip1.sl.v401, trip1.sl.v404, trip1.sl.v405, trip1.sl.v406, trip1.sl.v407, trip1.sl.v408, trip1.sl.v411, trip1.sl.v412, trip1.sl.v413, trip1.sl.v416, trip1.sl.v417, trip1.sl.v418, trip1.sl.v419, trip1.sl.v420, trip1.sl.v423, trip1.sl.v425, trip1.sl.v426, trip1.sl.v428, trip1.sl.v431, trip1.sl.v432, trip1.sl.v436, trip1.sl.v437, trip1.sl.v438, trip1.sl.v440, trip1.sl.v443, trip1.sl.v445, trip1.sl.v446, trip1.sl.v447, trip1.sl.v448, trip1.sl.v449, trip1.sl.v454, trip1.sl.v455, trip1.sl.v456, trip1.sl.v457, trip1.sl.v458, trip1.sl.v463, trip1.sl.v464, trip1.sl.v465, trip1.sl.v466, trip1.sl.v467, trip1.sl.v484, trip1.sl.v496, trip1.sl.v508, trip1.sl.v520, trip1.sl.v532, trip1.sl.v544, trip1.sl.v556, trip1.sl.v568, trip1.sl.v580, trip1.sl.v585, trip1.sl.v592, trip1.sl.v597, trip1.sl.v598, trip1.sl.v599, trip1.sl.v600, trip1.sl.v601, trip1.sl.v602, trip1.sl.v603, trip1.sl.v605, trip1.sl.v606, trip1.sl.v611, trip1.sl.v612, trip1.sl.v616, trip1.sl.v617, trip1.sl.v618, trip1.sl.v621, trip1.sl.v622, trip1.sl.v623, trip1.sl.v624, trip1.sl.v625, trip1.sl.v629, trip1.sl.v634, trip1.sl.v642]
  refine (add9 O false n₁ _ _ _ ((off17 i k).trans (by rw [e₁]; try rfl)) ((off19 i k).trans (by rw [e₁]; try rfl)) _ _ _ _ _ _ _ _ ?_ ?_ ?_ ?_ ?_ ?_ z d ξ).trans (congrArg (· + _) (add9 O false n₀ _ _ _ ((off9 i k).trans (by rw [e₀]; try rfl)) ((off11 i k).trans (by rw [e₀]; try rfl)) _ _ _ _ _ _ _ _ ?_ ?_ ?_ ?_ ?_ ?_ z d ξ))
  · exact (fun r x => R.kt96 0 rfl _ r x)
  · exact (fun r x => R.kt96 1 rfl _ r x)
  · exact (fun x y => head_cov (e := .bf16) _ _ _ _ _ _ 0 (O.W false n₁) (fun κ₀ ξ => (ds_val00 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 0 κ₀ _ _ (by simp) _ _ _ _ _) (R.l8 n₁ ((off15 i k).trans (by rw [e₁]; try rfl)) _ 0 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 0 0 κ₀ _ _ (by simp) _ _ _ _ _) (R.d8 n₁ ((off15 i k).trans (by rw [e₁]; try rfl)) _ 0 _))) (fun κ₀ ξ => (ds_val01 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 128 κ₀ _ _ (by simp) _ _ _ _ _) (R.l8 n₁ ((off15 i k).trans (by rw [e₁]; try rfl)) _ 0 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 0 128 κ₀ _ _ (by simp) _ _ _ _ _) (R.d8 n₁ ((off15 i k).trans (by rw [e₁]; try rfl)) _ 0 _))) (fun κ₀ ξ => (ds_val10 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 0 κ₀ _ _ (by simp) _ _ _ _ _) (R.l8 n₁ ((off15 i k).trans (by rw [e₁]; try rfl)) _ 1 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 1 0 κ₀ _ _ (by simp) _ _ _ _ _) (R.d8 n₁ ((off15 i k).trans (by rw [e₁]; try rfl)) _ 1 _))) (fun κ₀ ξ => (ds_val11 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 128 κ₀ _ _ (by simp) _ _ _ _ _) (R.l8 n₁ ((off15 i k).trans (by rw [e₁]; try rfl)) _ 1 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 1 128 κ₀ _ _ (by simp) _ _ _ _ _) (R.d8 n₁ ((off15 i k).trans (by rw [e₁]; try rfl)) _ 1 _))) x y _ _ _ _ _)
  · exact (fun x y => head_cov (e := .bf16) _ _ _ _ _ _ 1 (O.W false n₁) (fun κ₀ ξ => (ds_val00 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 0 κ₀ _ _ (by simp) _ _ _ _ _) (R.l8 n₁ ((off15 i k).trans (by rw [e₁]; try rfl)) _ 0 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 0 0 κ₀ _ _ (by simp) _ _ _ _ _) (R.d8 n₁ ((off15 i k).trans (by rw [e₁]; try rfl)) _ 0 _))) (fun κ₀ ξ => (ds_val01 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 0 128 κ₀ _ _ (by simp) _ _ _ _ _) (R.l8 n₁ ((off15 i k).trans (by rw [e₁]; try rfl)) _ 0 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 0 128 κ₀ _ _ (by simp) _ _ _ _ _) (R.d8 n₁ ((off15 i k).trans (by rw [e₁]; try rfl)) _ 0 _))) (fun κ₀ ξ => (ds_val10 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 0 κ₀ _ _ (by simp) _ _ _ _ _) (R.l8 n₁ ((off15 i k).trans (by rw [e₁]; try rfl)) _ 1 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 1 0 κ₀ _ _ (by simp) _ _ _ _ _) (R.d8 n₁ ((off15 i k).trans (by rw [e₁]; try rfl)) _ 1 _))) (fun κ₀ ξ => (ds_val11 _ _ _ _ κ₀ ξ).trans (O.W_of (quarter_under _ _ _ _ _ _ (O.S n₁) 1 0 (Or.inr Nat.zero_lt_one) (fun κ₀ ξ => R.score n₁ 0 ((off4 i k).trans (by rw [e₁]; try rfl)) rfl _ _ κ₀ ξ) (fun κ₀ ξ => R.score n₁ 1 ((off6 i k).trans (by rw [e₁]; try rfl)) rfl _ _ κ₀ ξ) 1 128 κ₀ _ _ (by simp) _ _ _ _ _) (R.l8 n₁ ((off15 i k).trans (by rw [e₁]; try rfl)) _ 1 _) (quarter_under _ _ _ _ _ _ (O.G n₁) 1 0 (Or.inr Nat.zero_lt_one) (fun κ₀ ξ => R.prod n₁ 0 ((off5 i k).trans (by rw [e₁]; try rfl)) rfl _ _ κ₀ ξ) (fun κ₀ ξ => R.prod n₁ 1 ((off5 i k).trans (by rw [e₁]; try rfl)) rfl _ _ κ₀ ξ) 1 128 κ₀ _ _ (by simp) _ _ _ _ _) (R.d8 n₁ ((off15 i k).trans (by rw [e₁]; try rfl)) _ 1 _))) x y _ _ _ _ _)
  · intro z d r x hz hd
    refine (rows_read (N := 16) (M := 256) (W := 96) _ n₁.val 0 _ ((off17 i k).trans (by rw [e₁]; try rfl)) _ z hz r x d hd).trans (Eq.symm ?_)
    exact ((rows_miss (N := 16) (M := 256) (W := 96) _ _ n₀.val 128 _ _ _ ((off11 i k).trans (by rw [e₀]; try rfl)) z d x (by omega)).trans (rows_miss (N := 16) (M := 256) (W := 96) _ _ n₀.val 0 _ _ _ ((off9 i k).trans (by rw [e₀]; try rfl)) z d x (by omega)))
  · intro z d r x hz hd
    refine (rows_read (N := 16) (M := 256) (W := 96) _ n₁.val 128 _ ((off19 i k).trans (by rw [e₁]; try rfl)) _ z hz r x d hd).trans (Eq.symm ?_)
    exact ((rows_miss (N := 16) (M := 256) (W := 96) _ _ n₀.val 128 _ _ _ ((off11 i k).trans (by rw [e₀]; try rfl)) z d x (by omega)).trans (rows_miss (N := 16) (M := 256) (W := 96) _ _ n₀.val 0 _ _ _ ((off9 i k).trans (by rw [e₀]; try rfl)) z d x (by omega)))
  · exact (fun r x => R.kt96 0 rfl _ r x)
  · exact (fun r x => R.kt96 1 rfl _ r x)
  · exact (fun x y => head_cov (e := .bf16) _ _ _ _ _ _ 0 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ ((off7 i k).trans (by rw [e₀]; try rfl)) _ 0 _) (quarter_under _ _ _ _ _ _ (O.G n₀) 0 1 (Or.inl Nat.zero_lt_one) hd₀ hd₁ 0 0 κ₀ _ _ (by simp) _ _ _ _ _) (R.d8 n₀ ((off7 i k).trans (by rw [e₀]; try rfl)) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ ((off7 i k).trans (by rw [e₀]; try rfl)) _ 0 _) (quarter_under _ _ _ _ _ _ (O.G n₀) 0 1 (Or.inl Nat.zero_lt_one) hd₀ hd₁ 0 128 κ₀ _ _ (by simp) _ _ _ _ _) (R.d8 n₀ ((off7 i k).trans (by rw [e₀]; try rfl)) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ ((off7 i k).trans (by rw [e₀]; try rfl)) _ 1 _) (quarter_under _ _ _ _ _ _ (O.G n₀) 0 1 (Or.inl Nat.zero_lt_one) hd₀ hd₁ 1 0 κ₀ _ _ (by simp) _ _ _ _ _) (R.d8 n₀ ((off7 i k).trans (by rw [e₀]; try rfl)) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ ((off7 i k).trans (by rw [e₀]; try rfl)) _ 1 _) (quarter_under _ _ _ _ _ _ (O.G n₀) 0 1 (Or.inl Nat.zero_lt_one) hd₀ hd₁ 1 128 κ₀ _ _ (by simp) _ _ _ _ _) (R.d8 n₀ ((off7 i k).trans (by rw [e₀]; try rfl)) _ 1 _))) x y _ _ _ _ _)
  · exact (fun x y => head_cov (e := .bf16) _ _ _ _ _ _ 1 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ ((off7 i k).trans (by rw [e₀]; try rfl)) _ 0 _) (quarter_under _ _ _ _ _ _ (O.G n₀) 0 1 (Or.inl Nat.zero_lt_one) hd₀ hd₁ 0 0 κ₀ _ _ (by simp) _ _ _ _ _) (R.d8 n₀ ((off7 i k).trans (by rw [e₀]; try rfl)) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ ((off7 i k).trans (by rw [e₀]; try rfl)) _ 0 _) (quarter_under _ _ _ _ _ _ (O.G n₀) 0 1 (Or.inl Nat.zero_lt_one) hd₀ hd₁ 0 128 κ₀ _ _ (by simp) _ _ _ _ _) (R.d8 n₀ ((off7 i k).trans (by rw [e₀]; try rfl)) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ ((off7 i k).trans (by rw [e₀]; try rfl)) _ 1 _) (quarter_under _ _ _ _ _ _ (O.G n₀) 0 1 (Or.inl Nat.zero_lt_one) hd₀ hd₁ 1 0 κ₀ _ _ (by simp) _ _ _ _ _) (R.d8 n₀ ((off7 i k).trans (by rw [e₀]; try rfl)) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ ((off7 i k).trans (by rw [e₀]; try rfl)) _ 1 _) (quarter_under _ _ _ _ _ _ (O.G n₀) 0 1 (Or.inl Nat.zero_lt_one) hd₀ hd₁ 1 128 κ₀ _ _ (by simp) _ _ _ _ _) (R.d8 n₀ ((off7 i k).trans (by rw [e₀]; try rfl)) _ 1 _))) x y _ _ _ _ _)
  · exact fun z d r x hz hd => rows_read (N := 16) (M := 256) (W := 96) _ n₀.val 0 _ ((off9 i k).trans (by rw [e₀]; try rfl)) _ z hz r x d hd
  · exact fun z d r x hz hd => rows_read (N := 16) (M := 256) (W := 96) _ n₀.val 128 _ ((off11 i k).trans (by rw [e₀]; try rfl)) _ z hz r x d hd

end Trip1

end Cert.MlaIdeal.Hand
-- ==== Proof.MlaTrip3.lean ====
module

public import proofs.«01_k».proof.Proof.MlaOffs

/-!
# One trip of the second loop, entry by entry

A trip adds the contributions of two query blocks to the three results and leaves the scores of the next block in the
first slots.
-/

@[expose] public section

set_option maxRecDepth 16384

noncomputable section

namespace Cert.MlaIdeal.Hand

open Cert.MlaIdeal Cert.MlaIdeal.Gen
open Idealize.ShloMosaic Idealize.ShloMosaic.TcCoe

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

section Trip3

variable (v115 : BitVec 32) (v119 v120 : IVec S256x128 32) (v133 v173 : BitVec 32) (v184 v186 : BitVec 1) (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (k : Fin (k0_t3_loop i).trips)
  (f9 : arg9.view.ty.Contents (Elt Ideal)) (f10 : arg10.view.ty.Contents (Elt Ideal)) (f11 : arg11.view.ty.Contents (Elt Ideal)) (b₀ b₁ d₀ d₁ : Blk Ideal)
  (O : Ops) (R : O.Reads arg2 arg3 arg4 arg6 arg7 arg8 arg16 1 x2 x3 x4 x6 x7 x8 x16)
  (n₀ n₁ n₂ : Fin 16) (e₀ : n₀.val = 2 * (i 1).val + 1 + 1 + 2 * k.val) (e₁ : n₁.val = 2 * (i 1).val + 1 + 2 + 2 * k.val)
  (e₂ : n₂.val = if 2 * (i 1).val + 1 + 3 + 2 * k.val < 16 then 2 * (i 1).val + 1 + 3 + 2 * k.val else 2 * (i 1).val + 1)
  (hb₀ : ∀ κ₀ ξ, b₀ (ix4 0 0 κ₀ ξ) = O.S n₀ 0 κ₀ ξ) (hb₁ : ∀ κ₀ ξ, b₁ (ix4 0 0 κ₀ ξ) = O.S n₀ 1 κ₀ ξ)
  (hd₀ : ∀ κ₀ ξ, d₀ (ix4 0 0 κ₀ ξ) = O.G n₀ 0 κ₀ ξ) (hd₁ : ∀ κ₀ ξ, d₁ (ix4 0 0 κ₀ ξ) = O.G n₀ 1 κ₀ ξ)

include R e₂

theorem trip3_b₀ (κ₀ ξ : Fin 256) : (trip3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 k (f9, f10, f11, b₀, b₁, d₀, d₁)).1.2.2.2.1 (ix4 0 0 κ₀ ξ) = O.S n₂ 0 κ₀ ξ := by
  unfold trip3
  exact R.score n₂ 0 ((off57 i k).trans (by rw [e₂]; try rfl)) rfl _ _ κ₀ ξ

theorem trip3_b₁ (κ₀ ξ : Fin 256) : (trip3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 k (f9, f10, f11, b₀, b₁, d₀, d₁)).1.2.2.2.2.1 (ix4 0 0 κ₀ ξ) = O.S n₂ 1 κ₀ ξ := by
  unfold trip3
  exact R.score n₂ 1 ((off59 i k).trans (by rw [e₂]; try rfl)) rfl _ _ κ₀ ξ

theorem trip3_d₀ (κ₀ ξ : Fin 256) : (trip3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 k (f9, f10, f11, b₀, b₁, d₀, d₁)).1.2.2.2.2.2.1 (ix4 0 0 κ₀ ξ) = O.G n₂ 0 κ₀ ξ := by
  unfold trip3
  exact R.prod n₂ 0 ((off58 i k).trans (by rw [e₂]; try rfl)) rfl _ _ κ₀ ξ

theorem trip3_d₁ (κ₀ ξ : Fin 256) : (trip3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 k (f9, f10, f11, b₀, b₁, d₀, d₁)).1.2.2.2.2.2.2 (ix4 0 0 κ₀ ξ) = O.G n₂ 1 κ₀ ξ := by
  unfold trip3
  exact R.prod n₂ 1 ((off58 i k).trans (by rw [e₂]; try rfl)) rfl _ _ κ₀ ξ

include e₀ e₁ hb₀ hb₁ hd₀ hd₁

set_option maxHeartbeats 4000000 in
theorem trip3_dv (z : Fin 2) (d : Fin 128) (ξ : Fin 256) :
    View.read (Elt Ideal) arg11.view (trip3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 k (f9, f10, f11, b₀, b₁, d₀, d₁)).1.2.2.1 (ix3 z d ξ) = (View.read (Elt Ideal) arg11.view f11 (ix3 z d ξ) : EReal) + O.C11 false 1 n₀ z d ξ + O.C11 false 1 n₁ z d ξ := by
  unfold trip3
  dsimp only [trip3.sl.H10_2, trip3.sl.H10_3, trip3.sl.H11_2, trip3.sl.H11_3, trip3.sl.H12_4, trip3.sl.H12_5, trip3.sl.H12_6, trip3.sl.H13_4, trip3.sl.H13_6, trip3.sl.H14_4, trip3.sl.H14_8, trip3.sl.H15_4, trip3.sl.H15_8, trip3.sl.arg17, trip3.sl.cst_171, trip3.sl.cst_295, trip3.sl.cst_317, trip3.sl.r, trip3.sl.r_1, trip3.sl.r_10, trip3.sl.r_11, trip3.sl.r_12, trip3.sl.r_13, trip3.sl.r_14, trip3.sl.r_15, trip3.sl.r_2, trip3.sl.r_3, trip3.sl.r_4, trip3.sl.r_5, trip3.sl.r_6, trip3.sl.r_7, trip3.sl.r_8, trip3.sl.r_9, trip3.sl.v221, trip3.sl.v222, trip3.sl.v223, trip3.sl.v224, trip3.sl.v226, trip3.sl.v227, trip3.sl.v229, trip3.sl.v230, trip3.sl.v231, trip3.sl.v232, trip3.sl.v233, trip3.sl.v235, trip3.sl.v238, trip3.sl.v239, trip3.sl.v240, trip3.sl.v241, trip3.sl.v242, trip3.sl.v244, trip3.sl.v247, trip3.sl.v248, trip3.sl.v267, trip3.sl.v279, trip3.sl.v291, trip3.sl.v303, trip3.sl.v315, trip3.sl.v327, trip3.sl.v339, trip3.sl.v351, trip3.sl.v368, trip3.sl.v379, trip3.sl.v380, trip3.sl.v381, trip3.sl.v382, trip3.sl.v383, trip3.sl.v385, trip3.sl.v386, trip3.sl.v387, trip3.sl.v389, trip3.sl.v391, trip3.sl.v394, trip3.sl.v395, trip3.sl.v399, trip3.sl.v400, trip3.sl.v401, trip3.sl.v404, trip3.sl.v405, trip3.sl.v406, trip3.sl.v407, trip3.sl.v408, trip3.sl.v411, trip3.sl.v412, trip3.sl.v413, trip3.sl.v416, trip3.sl.v417, trip3.sl.v418, trip3.sl.v419, trip3.sl.v420, trip3.sl.v423, trip3.sl.v425, trip3.sl.v426, trip3.sl.v428, trip3.sl.v431, trip3.sl.v432, trip3.sl.v436, trip3.sl.v437, trip3.sl.v438, trip3.sl.v440, trip3.sl.v443, trip3.sl.v445, trip3.sl.v446, trip3.sl.v447, trip3.sl.v448, trip3.sl.v449, trip3.sl.v454, trip3.sl.v455, trip3.sl.v456, trip3.sl.v457, trip3.sl.v458, trip3.sl.v463, trip3.sl.v464, trip3.sl.v465, trip3.sl.v466, trip3.sl.v467, trip3.sl.v484, trip3.sl.v496, trip3.sl.v508, trip3.sl.v520, trip3.sl.v532, trip3.sl.v544, trip3.sl.v556, trip3.sl.v568, trip3.sl.v580, trip3.sl.v585, trip3.sl.v592, trip3.sl.v597, trip3.sl.v598, trip3.sl.v599, trip3.sl.v600, trip3.sl.v601, trip3.sl.v602, trip3.sl.v603, trip3.sl.v605, trip3.sl.v606, trip3.sl.v611]
  refine (add11 O false n₁ 1 _ _ _ rfl rfl _ _ _ _ _ _ _ _ ?_ ?_ ?_ ?_ ?_ ?_ z d ξ).trans (congrArg (· + _) (add11 O false n₀ 1 _ _ _ rfl rfl _ _ _ _ _ _ _ _ ?_ ?_ ?_ ?_ ?_ ?_ z d ξ))
  · exact (fun r x => R.g64 n₁ 0 ((off61 i k).trans (by rw [e₁]; try rfl)) _ r x)
  · exact (fun r x => R.g64 n₁ 1 ((off63 i k).trans (by rw [e₁]; try rfl)) _ r x)
  · exact (fun x y => head_cov (e := .bf16) _ _ _ _ _ _ 0 (O.P false n₁) (fun κ₀ ξ => (p_val00 _ _ κ₀ ξ).trans (O.P_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 0 κ₀ _ _ (by simp) _ _ _ _ _) (R.l8 n₁ ((off60 i k).trans (by rw [e₁]; try rfl)) _ 0 _))) (fun κ₀ ξ => (p_val01 _ _ κ₀ ξ).trans (O.P_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 128 κ₀ _ _ (by simp) _ _ _ _ _) (R.l8 n₁ ((off60 i k).trans (by rw [e₁]; try rfl)) _ 0 _))) (fun κ₀ ξ => (p_val10 _ _ κ₀ ξ).trans (O.P_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 0 κ₀ _ _ (by simp) _ _ _ _ _) (R.l8 n₁ ((off60 i k).trans (by rw [e₁]; try rfl)) _ 1 _))) (fun κ₀ ξ => (p_val11 _ _ κ₀ ξ).trans (O.P_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 128 κ₀ _ _ (by simp) _ _ _ _ _) (R.l8 n₁ ((off60 i k).trans (by rw [e₁]; try rfl)) _ 1 _))) x y _ _ _ _ _)
  · exact (fun x y => head_cov (e := .bf16) _ _ _ _ _ _ 1 (O.P false n₁) (fun κ₀ ξ => (p_val00 _ _ κ₀ ξ).trans (O.P_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 0 κ₀ _ _ (by simp) _ _ _ _ _) (R.l8 n₁ ((off60 i k).trans (by rw [e₁]; try rfl)) _ 0 _))) (fun κ₀ ξ => (p_val01 _ _ κ₀ ξ).trans (O.P_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 128 κ₀ _ _ (by simp) _ _ _ _ _) (R.l8 n₁ ((off60 i k).trans (by rw [e₁]; try rfl)) _ 0 _))) (fun κ₀ ξ => (p_val10 _ _ κ₀ ξ).trans (O.P_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 0 κ₀ _ _ (by simp) _ _ _ _ _) (R.l8 n₁ ((off60 i k).trans (by rw [e₁]; try rfl)) _ 1 _))) (fun κ₀ ξ => (p_val11 _ _ κ₀ ξ).trans (O.P_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 128 κ₀ _ _ (by simp) _ _ _ _ _) (R.l8 n₁ ((off60 i k).trans (by rw [e₁]; try rfl)) _ 1 _))) x y _ _ _ _ _)
  · intro z d r x hz hd
    refine (rows_read (N := 2) (M := 128) (W := 64) _ 1 0 _ rfl _ z hz r x d hd).trans ?_
    refine ((rows_miss (N := 2) (M := 128) (W := 64) _ _ 1 64 _ _ _ rfl z d x (by omega)).trans (rows_hit (N := 2) (M := 128) (W := 64) _ _ 1 0 _ _ _ rfl z d r x hz hd)).trans ?_
    exact ((rows_miss (N := 2) (M := 128) (W := 64) _ _ 1 64 _ _ _ rfl z d x (by omega)).trans (rows_hit (N := 2) (M := 128) (W := 64) _ _ 1 0 _ _ _ rfl z d r x hz hd)).symm
  · intro z d r x hz hd
    refine (rows_read (N := 2) (M := 128) (W := 64) _ 1 64 _ rfl _ z hz r x d hd).trans ?_
    refine ((rows_miss (N := 2) (M := 128) (W := 64) _ _ 1 0 _ _ _ rfl z d x (by omega)).trans (rows_hit (N := 2) (M := 128) (W := 64) _ _ 1 64 _ _ _ rfl z d r x hz hd)).trans ?_
    exact (rows_hit (N := 2) (M := 128) (W := 64) _ _ 1 64 _ _ _ rfl z d r x hz hd).symm
  · exact (fun r x => R.g64 n₀ 0 ((off53 i k).trans (by rw [e₀]; try rfl)) _ r x)
  · exact (fun r x => R.g64 n₀ 1 ((off55 i k).trans (by rw [e₀]; try rfl)) _ r x)
  · exact (fun x y => head_cov (e := .bf16) _ _ _ _ _ _ 0 (O.P false n₀) (fun κ₀ ξ => (p_val00 _ _ κ₀ ξ).trans (O.P_of (quarter_under _ _ _ _ _ _ (O.S n₀) 0 1 (Or.inl Nat.zero_lt_one) hb₀ hb₁ 0 0 κ₀ _ _ (by simp) _ _ _ _ _) (R.l8 n₀ ((off52 i k).trans (by rw [e₀]; try rfl)) _ 0 _))) (fun κ₀ ξ => (p_val01 _ _ κ₀ ξ).trans (O.P_of (quarter_under _ _ _ _ _ _ (O.S n₀) 0 1 (Or.inl Nat.zero_lt_one) hb₀ hb₁ 0 128 κ₀ _ _ (by simp) _ _ _ _ _) (R.l8 n₀ ((off52 i k).trans (by rw [e₀]; try rfl)) _ 0 _))) (fun κ₀ ξ => (p_val10 _ _ κ₀ ξ).trans (O.P_of (quarter_under _ _ _ _ _ _ (O.S n₀) 0 1 (Or.inl Nat.zero_lt_one) hb₀ hb₁ 1 0 κ₀ _ _ (by simp) _ _ _ _ _) (R.l8 n₀ ((off52 i k).trans (by rw [e₀]; try rfl)) _ 1 _))) (fun κ₀ ξ => (p_val11 _ _ κ₀ ξ).trans (O.P_of (quarter_under _ _ _ _ _ _ (O.S n₀) 0 1 (Or.inl Nat.zero_lt_one) hb₀ hb₁ 1 128 κ₀ _ _ (by simp) _ _ _ _ _) (R.l8 n₀ ((off52 i k).trans (by rw [e₀]; try rfl)) _ 1 _))) x y _ _ _ _ _)
  · exact (fun x y => head_cov (e := .bf16) _ _ _ _ _ _ 1 (O.P false n₀) (fun κ₀ ξ => (p_val00 _ _ κ₀ ξ).trans (O.P_of (quarter_under _ _ _ _ _ _ (O.S n₀) 0 1 (Or.inl Nat.zero_lt_one) hb₀ hb₁ 0 0 κ₀ _ _ (by simp) _ _ _ _ _) (R.l8 n₀ ((off52 i k).trans (by rw [e₀]; try rfl)) _ 0 _))) (fun κ₀ ξ => (p_val01 _ _ κ₀ ξ).trans (O.P_of (quarter_under _ _ _ _ _ _ (O.S n₀) 0 1 (Or.inl Nat.zero_lt_one) hb₀ hb₁ 0 128 κ₀ _ _ (by simp) _ _ _ _ _) (R.l8 n₀ ((off52 i k).trans (by rw [e₀]; try rfl)) _ 0 _))) (fun κ₀ ξ => (p_val10 _ _ κ₀ ξ).trans (O.P_of (quarter_under _ _ _ _ _ _ (O.S n₀) 0 1 (Or.inl Nat.zero_lt_one) hb₀ hb₁ 1 0 κ₀ _ _ (by simp) _ _ _ _ _) (R.l8 n₀ ((off52 i k).trans (by rw [e₀]; try rfl)) _ 1 _))) (fun κ₀ ξ => (p_val11 _ _ κ₀ ξ).trans (O.P_of (quarter_under _ _ _ _ _ _ (O.S n₀) 0 1 (Or.inl Nat.zero_lt_one) hb₀ hb₁ 1 128 κ₀ _ _ (by simp) _ _ _ _ _) (R.l8 n₀ ((off52 i k).trans (by rw [e₀]; try rfl)) _ 1 _))) x y _ _ _ _ _)
  · exact fun z d r x hz hd => rows_read (N := 2) (M := 128) (W := 64) _ 1 0 _ rfl _ z hz r x d hd
  · exact fun z d r x hz hd => rows_read (N := 2) (M := 128) (W := 64) _ 1 64 _ rfl _ z hz r x d hd

set_option maxHeartbeats 4000000 in
theorem trip3_dk (z : Fin 2) (d ξ : Fin 256) :
    View.read (Elt Ideal) arg10.view (trip3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 k (f9, f10, f11, b₀, b₁, d₀, d₁)).1.2.1 (ix3 z d ξ) = (View.read (Elt Ideal) arg10.view f10 (ix3 z d ξ) : EReal) + O.C10 false 1 n₀ z d ξ + O.C10 false 1 n₁ z d ξ := by
  unfold trip3
  dsimp only [trip3.sl.H10_2, trip3.sl.H10_3, trip3.sl.H11_2, trip3.sl.H11_3, trip3.sl.H12_4, trip3.sl.H12_5, trip3.sl.H12_6, trip3.sl.H13_4, trip3.sl.H13_6, trip3.sl.H14_4, trip3.sl.H14_8, trip3.sl.H15_4, trip3.sl.H15_8, trip3.sl.arg17, trip3.sl.cst_171, trip3.sl.cst_295, trip3.sl.cst_317, trip3.sl.r, trip3.sl.r_1, trip3.sl.r_10, trip3.sl.r_11, trip3.sl.r_12, trip3.sl.r_13, trip3.sl.r_14, trip3.sl.r_15, trip3.sl.r_2, trip3.sl.r_3, trip3.sl.r_4, trip3.sl.r_5, trip3.sl.r_6, trip3.sl.r_7, trip3.sl.r_8, trip3.sl.r_9, trip3.sl.v221, trip3.sl.v222, trip3.sl.v223, trip3.sl.v224, trip3.sl.v226, trip3.sl.v227, trip3.sl.v229, trip3.sl.v230, trip3.sl.v231, trip3.sl.v232, trip3.sl.v233, trip3.sl.v235, trip3.sl.v238, trip3.sl.v239, trip3.sl.v240, trip3.sl.v241, trip3.sl.v242, trip3.sl.v244, trip3.sl.v247, trip3.sl.v248, trip3.sl.v267, trip3.sl.v279, trip3.sl.v291, trip3.sl.v303, trip3.sl.v315, trip3.sl.v327, trip3.sl.v339, trip3.sl.v351, trip3.sl.v368, trip3.sl.v379, trip3.sl.v380, trip3.sl.v381, trip3.sl.v382, trip3.sl.v383, trip3.sl.v385, trip3.sl.v386, trip3.sl.v387, trip3.sl.v389, trip3.sl.v391, trip3.sl.v394, trip3.sl.v395, trip3.sl.v399, trip3.sl.v400, trip3.sl.v401, trip3.sl.v404, trip3.sl.v405, trip3.sl.v406, trip3.sl.v407, trip3.sl.v408, trip3.sl.v411, trip3.sl.v412, trip3.sl.v413, trip3.sl.v416, trip3.sl.v417, trip3.sl.v418, trip3.sl.v419, trip3.sl.v420, trip3.sl.v423, trip3.sl.v425, trip3.sl.v426, trip3.sl.v428, trip3.sl.v431, trip3.sl.v432, trip3.sl.v436, trip3.sl.v437, trip3.sl.v438, trip3.sl.v440, trip3.sl.v443, trip3.sl.v445, trip3.sl.v446, trip3.sl.v447, trip3.sl.v448, trip3.sl.v449, trip3.sl.v454, trip3.sl.v455, trip3.sl.v456, trip3.sl.v457, trip3.sl.v458, trip3.sl.v463, trip3.sl.v464, trip3.sl.v465, trip3.sl.v466, trip3.sl.v467, trip3.sl.v484, trip3.sl.v496, trip3.sl.v508, trip3.sl.v520, trip3.sl.v532, trip3.sl.v544, trip3.sl.v556, trip3.sl.v568, trip3.sl.v580, trip3.sl.v585, trip3.sl.v592, trip3.sl.v597, trip3.sl.v598, trip3.sl.v599, trip3.sl.v600, trip3.sl.v601, trip3.sl.v602, trip3.sl.v603, trip3.sl.v605, trip3.sl.v606, trip3.sl.v611]
  refine (add10 O false n₁ 1 _ _ _ rfl rfl _ _ _ _ _ _ _ _ ?_ ?_ ?_ ?_ ?_ ?_ z d ξ).trans (congrArg (· + _) (add10 O false n₀ 1 _ _ _ rfl rfl _ _ _ _ _ _ _ _ ?_ ?_ ?_ ?_ ?_ ?_ z d ξ))
  · exact (fun r x => R.q96 n₁ 0 ((off62 i k).trans (by rw [e₁]; try rfl)) _ r x)
  · exact (fun r x => R.q96 n₁ 1 ((off64 i k).trans (by rw [e₁]; try rfl)) _ r x)
  · exact (fun x y => head_cov (e := .bf16) _ _ _ _ _ _ 0 (O.W false n₁) (fun κ₀ ξ => (ds_val00 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 0 κ₀ _ _ (by simp) _ _ _ _ _) (R.l8 n₁ ((off60 i k).trans (by rw [e₁]; try rfl)) _ 0 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 0 0 κ₀ _ _ (by simp) _ _ _ _ _) (R.d8 n₁ ((off60 i k).trans (by rw [e₁]; try rfl)) _ 0 _))) (fun κ₀ ξ => (ds_val01 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 128 κ₀ _ _ (by simp) _ _ _ _ _) (R.l8 n₁ ((off60 i k).trans (by rw [e₁]; try rfl)) _ 0 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 0 128 κ₀ _ _ (by simp) _ _ _ _ _) (R.d8 n₁ ((off60 i k).trans (by rw [e₁]; try rfl)) _ 0 _))) (fun κ₀ ξ => (ds_val10 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 0 κ₀ _ _ (by simp) _ _ _ _ _) (R.l8 n₁ ((off60 i k).trans (by rw [e₁]; try rfl)) _ 1 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 1 0 κ₀ _ _ (by simp) _ _ _ _ _) (R.d8 n₁ ((off60 i k).trans (by rw [e₁]; try rfl)) _ 1 _))) (fun κ₀ ξ => (ds_val11 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 128 κ₀ _ _ (by simp) _ _ _ _ _) (R.l8 n₁ ((off60 i k).trans (by rw [e₁]; try rfl)) _ 1 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 1 128 κ₀ _ _ (by simp) _ _ _ _ _) (R.d8 n₁ ((off60 i k).trans (by rw [e₁]; try rfl)) _ 1 _))) x y _ _ _ _ _)
  · exact (fun x y => head_cov (e := .bf16) _ _ _ _ _ _ 1 (O.W false n₁) (fun κ₀ ξ => (ds_val00 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 0 κ₀ _ _ (by simp) _ _ _ _ _) (R.l8 n₁ ((off60 i k).trans (by rw [e₁]; try rfl)) _ 0 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 0 0 κ₀ _ _ (by simp) _ _ _ _ _) (R.d8 n₁ ((off60 i k).trans (by rw [e₁]; try rfl)) _ 0 _))) (fun κ₀ ξ => (ds_val01 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 128 κ₀ _ _ (by simp) _ _ _ _ _) (R.l8 n₁ ((off60 i k).trans (by rw [e₁]; try rfl)) _ 0 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 0 128 κ₀ _ _ (by simp) _ _ _ _ _) (R.d8 n₁ ((off60 i k).trans (by rw [e₁]; try rfl)) _ 0 _))) (fun κ₀ ξ => (ds_val10 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 0 κ₀ _ _ (by simp) _ _ _ _ _) (R.l8 n₁ ((off60 i k).trans (by rw [e₁]; try rfl)) _ 1 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 1 0 κ₀ _ _ (by simp) _ _ _ _ _) (R.d8 n₁ ((off60 i k).trans (by rw [e₁]; try rfl)) _ 1 _))) (fun κ₀ ξ => (ds_val11 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 128 κ₀ _ _ (by simp) _ _ _ _ _) (R.l8 n₁ ((off60 i k).trans (by rw [e₁]; try rfl)) _ 1 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 1 128 κ₀ _ _ (by simp) _ _ _ _ _) (R.d8 n₁ ((off60 i k).trans (by rw [e₁]; try rfl)) _ 1 _))) x y _ _ _ _ _)
  · intro z d r x hz hd
    refine (rows_read (N := 2) (M := 256) (W := 96) _ 1 0 _ rfl _ z hz r x d hd).trans ?_
    refine ((rows_miss (N := 2) (M := 256) (W := 96) _ _ 1 128 _ _ _ rfl z d x (by omega)).trans (rows_hit (N := 2) (M := 256) (W := 96) _ _ 1 0 _ _ _ rfl z d r x hz hd)).trans ?_
    exact ((rows_miss (N := 2) (M := 256) (W := 96) _ _ 1 128 _ _ _ rfl z d x (by omega)).trans (rows_hit (N := 2) (M := 256) (W := 96) _ _ 1 0 _ _ _ rfl z d r x hz hd)).symm
  · intro z d r x hz hd
    refine (rows_read (N := 2) (M := 256) (W := 96) _ 1 128 _ rfl _ z hz r x d hd).trans ?_
    refine ((rows_miss (N := 2) (M := 256) (W := 96) _ _ 1 0 _ _ _ rfl z d x (by omega)).trans (rows_hit (N := 2) (M := 256) (W := 96) _ _ 1 128 _ _ _ rfl z d r x hz hd)).trans ?_
    exact (rows_hit (N := 2) (M := 256) (W := 96) _ _ 1 128 _ _ _ rfl z d r x hz hd).symm
  · exact (fun r x => R.q96 n₀ 0 ((off54 i k).trans (by rw [e₀]; try rfl)) _ r x)
  · exact (fun r x => R.q96 n₀ 1 ((off56 i k).trans (by rw [e₀]; try rfl)) _ r x)
  · exact (fun x y => head_cov (e := .bf16) _ _ _ _ _ _ 0 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ ((off52 i k).trans (by rw [e₀]; try rfl)) _ 0 _) (quarter_under _ _ _ _ _ _ (O.G n₀) 0 1 (Or.inl Nat.zero_lt_one) hd₀ hd₁ 0 0 κ₀ _ _ (by simp) _ _ _ _ _) (R.d8 n₀ ((off52 i k).trans (by rw [e₀]; try rfl)) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ ((off52 i k).trans (by rw [e₀]; try rfl)) _ 0 _) (quarter_under _ _ _ _ _ _ (O.G n₀) 0 1 (Or.inl Nat.zero_lt_one) hd₀ hd₁ 0 128 κ₀ _ _ (by simp) _ _ _ _ _) (R.d8 n₀ ((off52 i k).trans (by rw [e₀]; try rfl)) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ ((off52 i k).trans (by rw [e₀]; try rfl)) _ 1 _) (quarter_under _ _ _ _ _ _ (O.G n₀) 0 1 (Or.inl Nat.zero_lt_one) hd₀ hd₁ 1 0 κ₀ _ _ (by simp) _ _ _ _ _) (R.d8 n₀ ((off52 i k).trans (by rw [e₀]; try rfl)) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ ((off52 i k).trans (by rw [e₀]; try rfl)) _ 1 _) (quarter_under _ _ _ _ _ _ (O.G n₀) 0 1 (Or.inl Nat.zero_lt_one) hd₀ hd₁ 1 128 κ₀ _ _ (by simp) _ _ _ _ _) (R.d8 n₀ ((off52 i k).trans (by rw [e₀]; try rfl)) _ 1 _))) x y _ _ _ _ _)
  · exact (fun x y => head_cov (e := .bf16) _ _ _ _ _ _ 1 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ ((off52 i k).trans (by rw [e₀]; try rfl)) _ 0 _) (quarter_under _ _ _ _ _ _ (O.G n₀) 0 1 (Or.inl Nat.zero_lt_one) hd₀ hd₁ 0 0 κ₀ _ _ (by simp) _ _ _ _ _) (R.d8 n₀ ((off52 i k).trans (by rw [e₀]; try rfl)) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ ((off52 i k).trans (by rw [e₀]; try rfl)) _ 0 _) (quarter_under _ _ _ _ _ _ (O.G n₀) 0 1 (Or.inl Nat.zero_lt_one) hd₀ hd₁ 0 128 κ₀ _ _ (by simp) _ _ _ _ _) (R.d8 n₀ ((off52 i k).trans (by rw [e₀]; try rfl)) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ ((off52 i k).trans (by rw [e₀]; try rfl)) _ 1 _) (quarter_under _ _ _ _ _ _ (O.G n₀) 0 1 (Or.inl Nat.zero_lt_one) hd₀ hd₁ 1 0 κ₀ _ _ (by simp) _ _ _ _ _) (R.d8 n₀ ((off52 i k).trans (by rw [e₀]; try rfl)) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ ((off52 i k).trans (by rw [e₀]; try rfl)) _ 1 _) (quarter_under _ _ _ _ _ _ (O.G n₀) 0 1 (Or.inl Nat.zero_lt_one) hd₀ hd₁ 1 128 κ₀ _ _ (by simp) _ _ _ _ _) (R.d8 n₀ ((off52 i k).trans (by rw [e₀]; try rfl)) _ 1 _))) x y _ _ _ _ _)
  · exact fun z d r x hz hd => rows_read (N := 2) (M := 256) (W := 96) _ 1 0 _ rfl _ z hz r x d hd
  · exact fun z d r x hz hd => rows_read (N := 2) (M := 256) (W := 96) _ 1 128 _ rfl _ z hz r x d hd

set_option maxHeartbeats 4000000 in
theorem trip3_dq (z : Fin 16) (d ξ : Fin 256) :
    View.read (Elt Ideal) arg9.view (trip3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 k (f9, f10, f11, b₀, b₁, d₀, d₁)).1.1 (ix3 z d ξ) = (View.read (Elt Ideal) arg9.view f9 (ix3 z d ξ) : EReal) + O.C9 false n₀ z d ξ + O.C9 false n₁ z d ξ := by
  unfold trip3
  dsimp only [trip3.sl.H10_2, trip3.sl.H10_3, trip3.sl.H11_2, trip3.sl.H11_3, trip3.sl.H12_4, trip3.sl.H12_5, trip3.sl.H12_6, trip3.sl.H13_4, trip3.sl.H13_6, trip3.sl.H14_4, trip3.sl.H14_8, trip3.sl.H15_4, trip3.sl.H15_8, trip3.sl.arg17, trip3.sl.cst_171, trip3.sl.cst_295, trip3.sl.cst_317, trip3.sl.r, trip3.sl.r_1, trip3.sl.r_10, trip3.sl.r_11, trip3.sl.r_12, trip3.sl.r_13, trip3.sl.r_14, trip3.sl.r_15, trip3.sl.r_2, trip3.sl.r_3, trip3.sl.r_4, trip3.sl.r_5, trip3.sl.r_6, trip3.sl.r_7, trip3.sl.r_8, trip3.sl.r_9, trip3.sl.v221, trip3.sl.v222, trip3.sl.v223, trip3.sl.v224, trip3.sl.v226, trip3.sl.v227, trip3.sl.v229, trip3.sl.v230, trip3.sl.v231, trip3.sl.v232, trip3.sl.v233, trip3.sl.v235, trip3.sl.v238, trip3.sl.v239, trip3.sl.v240, trip3.sl.v241, trip3.sl.v242, trip3.sl.v244, trip3.sl.v247, trip3.sl.v248, trip3.sl.v267, trip3.sl.v279, trip3.sl.v291, trip3.sl.v303, trip3.sl.v315, trip3.sl.v327, trip3.sl.v339, trip3.sl.v351, trip3.sl.v368, trip3.sl.v379, trip3.sl.v380, trip3.sl.v381, trip3.sl.v382, trip3.sl.v383, trip3.sl.v385, trip3.sl.v386, trip3.sl.v387, trip3.sl.v389, trip3.sl.v391, trip3.sl.v394, trip3.sl.v395, trip3.sl.v399, trip3.sl.v400, trip3.sl.v401, trip3.sl.v404, trip3.sl.v405, trip3.sl.v406, trip3.sl.v407, trip3.sl.v408, trip3.sl.v411, trip3.sl.v412, trip3.sl.v413, trip3.sl.v416, trip3.sl.v417, trip3.sl.v418, trip3.sl.v419, trip3.sl.v420, trip3.sl.v423, trip3.sl.v425, trip3.sl.v426, trip3.sl.v428, trip3.sl.v431, trip3.sl.v432, trip3.sl.v436, trip3.sl.v437, trip3.sl.v438, trip3.sl.v440, trip3.sl.v443, trip3.sl.v445, trip3.sl.v446, trip3.sl.v447, trip3.sl.v448, trip3.sl.v449, trip3.sl.v454, trip3.sl.v455, trip3.sl.v456, trip3.sl.v457, trip3.sl.v458, trip3.sl.v463, trip3.sl.v464, trip3.sl.v465, trip3.sl.v466, trip3.sl.v467, trip3.sl.v484, trip3.sl.v496, trip3.sl.v508, trip3.sl.v520, trip3.sl.v532, trip3.sl.v544, trip3.sl.v556, trip3.sl.v568, trip3.sl.v580, trip3.sl.v585, trip3.sl.v592, trip3.sl.v597, trip3.sl.v598, trip3.sl.v599, trip3.sl.v600, trip3.sl.v601, trip3.sl.v602, trip3.sl.v603, trip3.sl.v605, trip3.sl.v606, trip3.sl.v611]
  refine (add9 O false n₁ _ _ _ ((off62 i k).trans (by rw [e₁]; try rfl)) ((off64 i k).trans (by rw [e₁]; try rfl)) _ _ _ _ _ _ _ _ ?_ ?_ ?_ ?_ ?_ ?_ z d ξ).trans (congrArg (· + _) (add9 O false n₀ _ _ _ ((off54 i k).trans (by rw [e₀]; try rfl)) ((off56 i k).trans (by rw [e₀]; try rfl)) _ _ _ _ _ _ _ _ ?_ ?_ ?_ ?_ ?_ ?_ z d ξ))
  · exact (fun r x => R.kt96 0 rfl _ r x)
  · exact (fun r x => R.kt96 1 rfl _ r x)
  · exact (fun x y => head_cov (e := .bf16) _ _ _ _ _ _ 0 (O.W false n₁) (fun κ₀ ξ => (ds_val00 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 0 κ₀ _ _ (by simp) _ _ _ _ _) (R.l8 n₁ ((off60 i k).trans (by rw [e₁]; try rfl)) _ 0 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 0 0 κ₀ _ _ (by simp) _ _ _ _ _) (R.d8 n₁ ((off60 i k).trans (by rw [e₁]; try rfl)) _ 0 _))) (fun κ₀ ξ => (ds_val01 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 128 κ₀ _ _ (by simp) _ _ _ _ _) (R.l8 n₁ ((off60 i k).trans (by rw [e₁]; try rfl)) _ 0 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 0 128 κ₀ _ _ (by simp) _ _ _ _ _) (R.d8 n₁ ((off60 i k).trans (by rw [e₁]; try rfl)) _ 0 _))) (fun κ₀ ξ => (ds_val10 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 0 κ₀ _ _ (by simp) _ _ _ _ _) (R.l8 n₁ ((off60 i k).trans (by rw [e₁]; try rfl)) _ 1 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 1 0 κ₀ _ _ (by simp) _ _ _ _ _) (R.d8 n₁ ((off60 i k).trans (by rw [e₁]; try rfl)) _ 1 _))) (fun κ₀ ξ => (ds_val11 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 128 κ₀ _ _ (by simp) _ _ _ _ _) (R.l8 n₁ ((off60 i k).trans (by rw [e₁]; try rfl)) _ 1 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 1 128 κ₀ _ _ (by simp) _ _ _ _ _) (R.d8 n₁ ((off60 i k).trans (by rw [e₁]; try rfl)) _ 1 _))) x y _ _ _ _ _)
  · exact (fun x y => head_cov (e := .bf16) _ _ _ _ _ _ 1 (O.W false n₁) (fun κ₀ ξ => (ds_val00 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 0 κ₀ _ _ (by simp) _ _ _ _ _) (R.l8 n₁ ((off60 i k).trans (by rw [e₁]; try rfl)) _ 0 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 0 0 κ₀ _ _ (by simp) _ _ _ _ _) (R.d8 n₁ ((off60 i k).trans (by rw [e₁]; try rfl)) _ 0 _))) (fun κ₀ ξ => (ds_val01 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 0 128 κ₀ _ _ (by simp) _ _ _ _ _) (R.l8 n₁ ((off60 i k).trans (by rw [e₁]; try rfl)) _ 0 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 0 128 κ₀ _ _ (by simp) _ _ _ _ _) (R.d8 n₁ ((off60 i k).trans (by rw [e₁]; try rfl)) _ 0 _))) (fun κ₀ ξ => (ds_val10 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 0 κ₀ _ _ (by simp) _ _ _ _ _) (R.l8 n₁ ((off60 i k).trans (by rw [e₁]; try rfl)) _ 1 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 1 0 κ₀ _ _ (by simp) _ _ _ _ _) (R.d8 n₁ ((off60 i k).trans (by rw [e₁]; try rfl)) _ 1 _))) (fun κ₀ ξ => (ds_val11 _ _ _ _ κ₀ ξ).trans (O.W_of (quarter_under _ _ _ _ _ _ (O.S n₁) 1 0 (Or.inr Nat.zero_lt_one) (fun κ₀ ξ => R.score n₁ 0 ((off49 i k).trans (by rw [e₁]; try rfl)) rfl _ _ κ₀ ξ) (fun κ₀ ξ => R.score n₁ 1 ((off51 i k).trans (by rw [e₁]; try rfl)) rfl _ _ κ₀ ξ) 1 128 κ₀ _ _ (by simp) _ _ _ _ _) (R.l8 n₁ ((off60 i k).trans (by rw [e₁]; try rfl)) _ 1 _) (quarter_under _ _ _ _ _ _ (O.G n₁) 1 0 (Or.inr Nat.zero_lt_one) (fun κ₀ ξ => R.prod n₁ 0 ((off50 i k).trans (by rw [e₁]; try rfl)) rfl _ _ κ₀ ξ) (fun κ₀ ξ => R.prod n₁ 1 ((off50 i k).trans (by rw [e₁]; try rfl)) rfl _ _ κ₀ ξ) 1 128 κ₀ _ _ (by simp) _ _ _ _ _) (R.d8 n₁ ((off60 i k).trans (by rw [e₁]; try rfl)) _ 1 _))) x y _ _ _ _ _)
  · intro z d r x hz hd
    refine (rows_read (N := 16) (M := 256) (W := 96) _ n₁.val 0 _ ((off62 i k).trans (by rw [e₁]; try rfl)) _ z hz r x d hd).trans (Eq.symm ?_)
    exact ((rows_miss (N := 16) (M := 256) (W := 96) _ _ n₀.val 128 _ _ _ ((off56 i k).trans (by rw [e₀]; try rfl)) z d x (by omega)).trans (rows_miss (N := 16) (M := 256) (W := 96) _ _ n₀.val 0 _ _ _ ((off54 i k).trans (by rw [e₀]; try rfl)) z d x (by omega)))
  · intro z d r x hz hd
    refine (rows_read (N := 16) (M := 256) (W := 96) _ n₁.val 128 _ ((off64 i k).trans (by rw [e₁]; try rfl)) _ z hz r x d hd).trans (Eq.symm ?_)
    exact ((rows_miss (N := 16) (M := 256) (W := 96) _ _ n₀.val 128 _ _ _ ((off56 i k).trans (by rw [e₀]; try rfl)) z d x (by omega)).trans (rows_miss (N := 16) (M := 256) (W := 96) _ _ n₀.val 0 _ _ _ ((off54 i k).trans (by rw [e₀]; try rfl)) z d x (by omega)))
  · exact (fun r x => R.kt96 0 rfl _ r x)
  · exact (fun r x => R.kt96 1 rfl _ r x)
  · exact (fun x y => head_cov (e := .bf16) _ _ _ _ _ _ 0 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ ((off52 i k).trans (by rw [e₀]; try rfl)) _ 0 _) (quarter_under _ _ _ _ _ _ (O.G n₀) 0 1 (Or.inl Nat.zero_lt_one) hd₀ hd₁ 0 0 κ₀ _ _ (by simp) _ _ _ _ _) (R.d8 n₀ ((off52 i k).trans (by rw [e₀]; try rfl)) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ ((off52 i k).trans (by rw [e₀]; try rfl)) _ 0 _) (quarter_under _ _ _ _ _ _ (O.G n₀) 0 1 (Or.inl Nat.zero_lt_one) hd₀ hd₁ 0 128 κ₀ _ _ (by simp) _ _ _ _ _) (R.d8 n₀ ((off52 i k).trans (by rw [e₀]; try rfl)) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ ((off52 i k).trans (by rw [e₀]; try rfl)) _ 1 _) (quarter_under _ _ _ _ _ _ (O.G n₀) 0 1 (Or.inl Nat.zero_lt_one) hd₀ hd₁ 1 0 κ₀ _ _ (by simp) _ _ _ _ _) (R.d8 n₀ ((off52 i k).trans (by rw [e₀]; try rfl)) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ ((off52 i k).trans (by rw [e₀]; try rfl)) _ 1 _) (quarter_under _ _ _ _ _ _ (O.G n₀) 0 1 (Or.inl Nat.zero_lt_one) hd₀ hd₁ 1 128 κ₀ _ _ (by simp) _ _ _ _ _) (R.d8 n₀ ((off52 i k).trans (by rw [e₀]; try rfl)) _ 1 _))) x y _ _ _ _ _)
  · exact (fun x y => head_cov (e := .bf16) _ _ _ _ _ _ 1 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ ((off52 i k).trans (by rw [e₀]; try rfl)) _ 0 _) (quarter_under _ _ _ _ _ _ (O.G n₀) 0 1 (Or.inl Nat.zero_lt_one) hd₀ hd₁ 0 0 κ₀ _ _ (by simp) _ _ _ _ _) (R.d8 n₀ ((off52 i k).trans (by rw [e₀]; try rfl)) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ ((off52 i k).trans (by rw [e₀]; try rfl)) _ 0 _) (quarter_under _ _ _ _ _ _ (O.G n₀) 0 1 (Or.inl Nat.zero_lt_one) hd₀ hd₁ 0 128 κ₀ _ _ (by simp) _ _ _ _ _) (R.d8 n₀ ((off52 i k).trans (by rw [e₀]; try rfl)) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ ((off52 i k).trans (by rw [e₀]; try rfl)) _ 1 _) (quarter_under _ _ _ _ _ _ (O.G n₀) 0 1 (Or.inl Nat.zero_lt_one) hd₀ hd₁ 1 0 κ₀ _ _ (by simp) _ _ _ _ _) (R.d8 n₀ ((off52 i k).trans (by rw [e₀]; try rfl)) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ ((off52 i k).trans (by rw [e₀]; try rfl)) _ 1 _) (quarter_under _ _ _ _ _ _ (O.G n₀) 0 1 (Or.inl Nat.zero_lt_one) hd₀ hd₁ 1 128 κ₀ _ _ (by simp) _ _ _ _ _) (R.d8 n₀ ((off52 i k).trans (by rw [e₀]; try rfl)) _ 1 _))) x y _ _ _ _ _)
  · exact fun z d r x hz hd => rows_read (N := 16) (M := 256) (W := 96) _ n₀.val 0 _ ((off54 i k).trans (by rw [e₀]; try rfl)) _ z hz r x d hd
  · exact fun z d r x hz hd => rows_read (N := 16) (M := 256) (W := 96) _ n₀.val 128 _ ((off56 i k).trans (by rw [e₀]; try rfl)) _ z hz r x d hd

end Trip3

end Cert.MlaIdeal.Hand
-- ==== Proof.MlaLoopVal.lean ====
module

public import proofs.«01_k».proof.Proof.MlaTrip1
public import proofs.«01_k».proof.Proof.MlaTrip3

/-!
# The loops, entry by entry

After `k` trips the three results hold the contributions of `2 k` query blocks, and the first slots hold the next block.
-/

@[expose] public section

set_option maxRecDepth 16384

noncomputable section

namespace Cert.MlaIdeal.Hand

open Cert.MlaIdeal Cert.MlaIdeal.Gen
open Idealize.ShloMosaic Idealize.ShloMosaic.TcCoe

theorem i1_lt : ∀ i : grid0.Coords, (i 1).val < 8 := by decide +kernel

/-- What query block `m` adds, for a block number that may lie past the last. -/
def Ops.T9 (O : Ops) (m : ℕ) (z : Fin 16) (d ξ : Fin 256) : EReal := if h : m < 16 then O.C9 false ⟨m, h⟩ z d ξ else 0
def Ops.T10 (O : Ops) (b m : ℕ) (z : Fin 2) (d ξ : Fin 256) : EReal := if h : m < 16 then O.C10 false b ⟨m, h⟩ z d ξ else 0
def Ops.T11 (O : Ops) (b m : ℕ) (z : Fin 2) (d : Fin 128) (ξ : Fin 256) : EReal := if h : m < 16 then O.C11 false b ⟨m, h⟩ z d ξ else 0

theorem Ops.T9_of (O : Ops) (n : Fin 16) (m : ℕ) (e : n.val = m) (z d ξ) : O.T9 m z d ξ = O.C9 false n z d ξ := by
  subst e; exact dif_pos n.isLt
theorem Ops.T10_of (O : Ops) (b : ℕ) (n : Fin 16) (m : ℕ) (e : n.val = m) (z d ξ) : O.T10 b m z d ξ = O.C10 false b n z d ξ := by
  subst e; exact dif_pos n.isLt
theorem Ops.T11_of (O : Ops) (b : ℕ) (n : Fin 16) (m : ℕ) (e : n.val = m) (z d ξ) : O.T11 b m z d ξ = O.C11 false b n z d ξ := by
  subst e; exact dif_pos n.isLt

/-- Two more terms of a sum. -/
theorem two_more {a r c₀ c₁ : EReal} (t : ℕ → EReal) (M : ℕ) (h : r = a + ∑ m ∈ Finset.range M, t m) (h₀ : t M = c₀) (h₁ : t (M + 1) = c₁) :
    r + c₀ + c₁ = a + ∑ m ∈ Finset.range (M + 1 + 1), t m := by
  rw [Finset.sum_range_succ, Finset.sum_range_succ, h, h₀, h₁, add_assoc, add_assoc, add_assoc]

/-- The slots hold the scores and products of query block `n`. -/
structure Slots (O : Ops) (n : Fin 16) (b₀ b₁ d₀ d₁ : Blk Ideal) : Prop where
  b₀ : ∀ κ₀ ξ, b₀ (ix4 0 0 κ₀ ξ) = O.S n 0 κ₀ ξ
  b₁ : ∀ κ₀ ξ, b₁ (ix4 0 0 κ₀ ξ) = O.S n 1 κ₀ ξ
  d₀ : ∀ κ₀ ξ, d₀ (ix4 0 0 κ₀ ξ) = O.G n 0 κ₀ ξ
  d₁ : ∀ κ₀ ξ, d₁ (ix4 0 0 κ₀ ξ) = O.G n 1 κ₀ ξ

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

/-- What the buffers hold after `M` query blocks of key block `j`. -/
structure Made (O : Ops) (b j M : ℕ) (f9 : arg9.view.ty.Contents (Elt Ideal)) (f10 : arg10.view.ty.Contents (Elt Ideal)) (f11 : arg11.view.ty.Contents (Elt Ideal)) (s : State (F := Ideal) arg9 arg10 arg11) : Prop where
  slots : ∀ n : Fin 16, n.val = (if j + 1 + M < 16 then j + 1 + M else j) → Slots O n s.2.2.2.1 s.2.2.2.2.1 s.2.2.2.2.2.1 s.2.2.2.2.2.2
  dq : ∀ z d ξ, View.read (Elt Ideal) arg9.view s.1 (ix3 z d ξ) = (View.read (Elt Ideal) arg9.view f9 (ix3 z d ξ) : EReal) + ∑ m ∈ Finset.range M, O.T9 (j + 1 + m) z d ξ
  dk : ∀ z d ξ, View.read (Elt Ideal) arg10.view s.2.1 (ix3 z d ξ) = (View.read (Elt Ideal) arg10.view f10 (ix3 z d ξ) : EReal) + ∑ m ∈ Finset.range M, O.T10 b (j + 1 + m) z d ξ
  dv : ∀ z d ξ, View.read (Elt Ideal) arg11.view s.2.2.1 (ix3 z d ξ) = (View.read (Elt Ideal) arg11.view f11 (ix3 z d ξ) : EReal) + ∑ m ∈ Finset.range M, O.T11 b (j + 1 + m) z d ξ

section Loop1

variable (v8 v26 v29 : BitVec 32) (v56 : FVec Ideal S1x1x256x256 .f32) (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal))
  (f9 : arg9.view.ty.Contents (Elt Ideal)) (f10 : arg10.view.ty.Contents (Elt Ideal)) (f11 : arg11.view.ty.Contents (Elt Ideal)) (b₀ b₁ d₀ d₁ : Blk Ideal)
  (O : Ops) (R : O.Reads arg2 arg3 arg4 arg6 arg7 arg8 arg16 0 x2 x3 x4 x6 x7 x8 x16)
  (hs : ∀ n : Fin 16, n.val = (if 2 * (i 1).val + 0 + 1 + 0 < 16 then 2 * (i 1).val + 0 + 1 + 0 else 2 * (i 1).val + 0) → Slots O n b₀ b₁ d₀ d₁)
include R hs

theorem made1 (k : ℕ) (hk : k ≤ (k0_t1_loop i).trips) : Made arg9 arg10 arg11 O 0 (2 * (i 1).val + 0) (2 * k) f9 f10 f11 (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 f9 f10 f11 b₀ b₁ d₀ d₁ k) := by
  induction k with
  | zero => exact ⟨hs, fun z d ξ => (add_zero _).symm, fun z d ξ => (add_zero _).symm, fun z d ξ => (add_zero _).symm⟩
  | succ k ih =>
    have ih := ih (Nat.le_of_succ_le hk)
    have hk : k < (k0_t1_loop i).trips := hk
    have ht := trips1 i
    have hi := i1_lt i
    have step : (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 f9 f10 f11 b₀ b₁ d₀ d₁ (k + 1)) = (trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, hk⟩ (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 f9 f10 f11 b₀ b₁ d₀ d₁ k)).1 := by
      rw [st1, dif_pos hk]
    rw [step]
    let n₀ : Fin 16 := ⟨2 * (i 1).val + 0 + 1 + 2 * k, by omega⟩
    let n₁ : Fin 16 := ⟨2 * (i 1).val + 0 + 1 + (2 * k + 1), by omega⟩
    have e₁ : n₁.val = 2 * (i 1).val + 0 + 2 + 2 * k := by show 2 * (i 1).val + 0 + 1 + (2 * k + 1) = _; omega
    have hs := ih.slots n₀ (by rw [if_pos n₀.isLt])
    have hn : 2 * (i 1).val + 0 + 1 + 2 * (k + 1) = 2 * (i 1).val + 0 + 3 + 2 * k := by omega
    obtain ⟨n₂, e₂⟩ : ∃ n₂ : Fin 16, n₂.val = if 2 * (i 1).val + 0 + 3 + 2 * k < 16 then 2 * (i 1).val + 0 + 3 + 2 * k else 2 * (i 1).val + 0 :=
      ⟨⟨if 2 * (i 1).val + 0 + 3 + 2 * k < 16 then 2 * (i 1).val + 0 + 3 + 2 * k else 2 * (i 1).val + 0, by split <;> omega⟩, rfl⟩
    refine ⟨fun n e => ?_, fun z d ξ => ?_, fun z d ξ => ?_, fun z d ξ => ?_⟩
    · rw [hn] at e
      exact ⟨fun κ₀ ξ => trip1_b₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, hk⟩ _ _ _ _ _ _ _ O R n e κ₀ ξ, fun κ₀ ξ => trip1_b₁ c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, hk⟩ _ _ _ _ _ _ _ O R n e κ₀ ξ, fun κ₀ ξ => trip1_d₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, hk⟩ _ _ _ _ _ _ _ O R n e κ₀ ξ, fun κ₀ ξ => trip1_d₁ c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, hk⟩ _ _ _ _ _ _ _ O R n e κ₀ ξ⟩
    · exact (trip1_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, hk⟩ _ _ _ _ _ _ _ O R n₀ n₁ n₂ rfl e₁ e₂ hs.b₀ hs.b₁ hs.d₀ hs.d₁ z d ξ).trans (two_more (fun m => O.T9 (2 * (i 1).val + 0 + 1 + m) z d ξ) _ (ih.dq z d ξ) (O.T9_of n₀ _ rfl z d ξ) (O.T9_of n₁ _ rfl z d ξ))
    · exact (trip1_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, hk⟩ _ _ _ _ _ _ _ O R n₀ n₁ n₂ rfl e₁ e₂ hs.b₀ hs.b₁ hs.d₀ hs.d₁ z d ξ).trans (two_more (fun m => O.T10 0 (2 * (i 1).val + 0 + 1 + m) z d ξ) _ (ih.dk z d ξ) (O.T10_of 0 n₀ _ rfl z d ξ) (O.T10_of 0 n₁ _ rfl z d ξ))
    · exact (trip1_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 ⟨k, hk⟩ _ _ _ _ _ _ _ O R n₀ n₁ n₂ rfl e₁ e₂ hs.b₀ hs.b₁ hs.d₀ hs.d₁ z d ξ).trans (two_more (fun m => O.T11 0 (2 * (i 1).val + 0 + 1 + m) z d ξ) _ (ih.dv z d ξ) (O.T11_of 0 n₀ _ rfl z d ξ) (O.T11_of 0 n₁ _ rfl z d ξ))

/-- The state after the loop. -/
theorem made_end1 : Made arg9 arg10 arg11 O 0 (2 * (i 1).val + 0) (2 * (7 - (i 1).val)) f9 f10 f11 (end1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 f9 f10 f11 b₀ b₁ d₀ d₁) := by
  unfold end1
  have h := made1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 f9 f10 f11 b₀ b₁ d₀ d₁ O R hs (k0_t1_loop i).trips le_rfl
  exact (congrArg (fun t => Made arg9 arg10 arg11 O 0 (2 * (i 1).val + 0) (2 * t) f9 f10 f11 (st1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v26 v29 v56 x2 x3 x4 x5 x6 x7 x8 x16 f9 f10 f11 b₀ b₁ d₀ d₁ (k0_t1_loop i).trips)) (trips1 i)).mp h

end Loop1

section Loop3

variable (v115 : BitVec 32) (v119 v120 : IVec S256x128 32) (v133 v173 : BitVec 32) (v184 v186 : BitVec 1) (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal))
  (f9 : arg9.view.ty.Contents (Elt Ideal)) (f10 : arg10.view.ty.Contents (Elt Ideal)) (f11 : arg11.view.ty.Contents (Elt Ideal)) (b₀ b₁ d₀ d₁ : Blk Ideal)
  (O : Ops) (R : O.Reads arg2 arg3 arg4 arg6 arg7 arg8 arg16 1 x2 x3 x4 x6 x7 x8 x16)
  (hs : ∀ n : Fin 16, n.val = (if 2 * (i 1).val + 1 + 1 + 0 < 16 then 2 * (i 1).val + 1 + 1 + 0 else 2 * (i 1).val + 1) → Slots O n b₀ b₁ d₀ d₁)
include R hs

theorem made3 (k : ℕ) (hk : k ≤ (k0_t3_loop i).trips) : Made arg9 arg10 arg11 O 1 (2 * (i 1).val + 1) (2 * k) f9 f10 f11 (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁ k) := by
  induction k with
  | zero => exact ⟨hs, fun z d ξ => (add_zero _).symm, fun z d ξ => (add_zero _).symm, fun z d ξ => (add_zero _).symm⟩
  | succ k ih =>
    have ih := ih (Nat.le_of_succ_le hk)
    have hk : k < (k0_t3_loop i).trips := hk
    have ht := trips3 i
    have hi := i1_lt i
    have step : (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁ (k + 1)) = (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, hk⟩ (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁ k)).1 := by
      rw [st3, dif_pos hk]
    rw [step]
    let n₀ : Fin 16 := ⟨2 * (i 1).val + 1 + 1 + 2 * k, by omega⟩
    let n₁ : Fin 16 := ⟨2 * (i 1).val + 1 + 1 + (2 * k + 1), by omega⟩
    have e₁ : n₁.val = 2 * (i 1).val + 1 + 2 + 2 * k := by show 2 * (i 1).val + 1 + 1 + (2 * k + 1) = _; omega
    have hs := ih.slots n₀ (by rw [if_pos n₀.isLt])
    have hn : 2 * (i 1).val + 1 + 1 + 2 * (k + 1) = 2 * (i 1).val + 1 + 3 + 2 * k := by omega
    obtain ⟨n₂, e₂⟩ : ∃ n₂ : Fin 16, n₂.val = if 2 * (i 1).val + 1 + 3 + 2 * k < 16 then 2 * (i 1).val + 1 + 3 + 2 * k else 2 * (i 1).val + 1 :=
      ⟨⟨if 2 * (i 1).val + 1 + 3 + 2 * k < 16 then 2 * (i 1).val + 1 + 3 + 2 * k else 2 * (i 1).val + 1, by split <;> omega⟩, rfl⟩
    refine ⟨fun n e => ?_, fun z d ξ => ?_, fun z d ξ => ?_, fun z d ξ => ?_⟩
    · rw [hn] at e
      exact ⟨fun κ₀ ξ => trip3_b₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, hk⟩ _ _ _ _ _ _ _ O R n e κ₀ ξ, fun κ₀ ξ => trip3_b₁ c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, hk⟩ _ _ _ _ _ _ _ O R n e κ₀ ξ, fun κ₀ ξ => trip3_d₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, hk⟩ _ _ _ _ _ _ _ O R n e κ₀ ξ, fun κ₀ ξ => trip3_d₁ c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, hk⟩ _ _ _ _ _ _ _ O R n e κ₀ ξ⟩
    · exact (trip3_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, hk⟩ _ _ _ _ _ _ _ O R n₀ n₁ n₂ rfl e₁ e₂ hs.b₀ hs.b₁ hs.d₀ hs.d₁ z d ξ).trans (two_more (fun m => O.T9 (2 * (i 1).val + 1 + 1 + m) z d ξ) _ (ih.dq z d ξ) (O.T9_of n₀ _ rfl z d ξ) (O.T9_of n₁ _ rfl z d ξ))
    · exact (trip3_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, hk⟩ _ _ _ _ _ _ _ O R n₀ n₁ n₂ rfl e₁ e₂ hs.b₀ hs.b₁ hs.d₀ hs.d₁ z d ξ).trans (two_more (fun m => O.T10 1 (2 * (i 1).val + 1 + 1 + m) z d ξ) _ (ih.dk z d ξ) (O.T10_of 1 n₀ _ rfl z d ξ) (O.T10_of 1 n₁ _ rfl z d ξ))
    · exact (trip3_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 ⟨k, hk⟩ _ _ _ _ _ _ _ O R n₀ n₁ n₂ rfl e₁ e₂ hs.b₀ hs.b₁ hs.d₀ hs.d₁ z d ξ).trans (two_more (fun m => O.T11 1 (2 * (i 1).val + 1 + 1 + m) z d ξ) _ (ih.dv z d ξ) (O.T11_of 1 n₀ _ rfl z d ξ) (O.T11_of 1 n₁ _ rfl z d ξ))

/-- The state after the loop. -/
theorem made_end3 : Made arg9 arg10 arg11 O 1 (2 * (i 1).val + 1) (2 * (7 - (i 1).val)) f9 f10 f11 (end3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁) := by
  unfold end3
  have h := made3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁ O R hs (k0_t3_loop i).trips le_rfl
  exact (congrArg (fun t => Made arg9 arg10 arg11 O 1 (2 * (i 1).val + 1) (2 * t) f9 f10 f11 (st3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁ (k0_t3_loop i).trips)) (trips3 i)).mp h

end Loop3

end Cert.MlaIdeal.Hand

end
-- ==== Proof.MlaDiag.lean ====
module

public import proofs.«01_k».proof.Proof.MlaOps
public import Idealize.ShloMosaic.Lib.WordCmp

/-!
# The diagonal block

A key after the query has weight zero.
-/

@[expose] public section

set_option maxRecDepth 16384

noncomputable section

namespace Cert.MlaIdeal.Hand

open Cert.MlaIdeal Cert.MlaIdeal.Gen
open Idealize.ShloMosaic Idealize.ShloMosaic.TcCoe

/-- The weight where the key is not after the query. -/
def pD (b : Prop) [Decidable b] (s l : EReal) : EReal := if b then pE s l else 0

theorem Ops.PD_of (O : Ops) {n : Fin 16} {h : Fin 2} {κ₀ ξ : Fin 256} {s l : EReal} {b : Prop} [Decidable b] (hb : b ↔ κ₀.val ≤ ξ.val) (hs : s = O.S n h κ₀ ξ) (hl : l = O.l n (h8 h) ξ) :
    pD b s l = O.P true n h κ₀ ξ := by
  rw [hs, hl, Ops.P, pD]
  by_cases hx : b
  · rw [if_pos hx, if_neg (fun h => h.2 (hb.mp hx))]
  · rw [if_neg hx, if_pos ⟨rfl, fun h => hx (hb.mpr h)⟩]
theorem Ops.WD_of (O : Ops) {n : Fin 16} {h : Fin 2} {κ₀ ξ : Fin 256} {s l p d : EReal} {b : Prop} [Decidable b] (hb : b ↔ κ₀.val ≤ ξ.val) (hs : s = O.S n h κ₀ ξ) (hl : l = O.l n (h8 h) ξ)
    (hp : p = O.G n h κ₀ ξ) (hd : d = O.d n (h8 h) ξ) : dE (pD b s l) p d = O.W true n h κ₀ ξ := by
  rw [Ops.PD_of O hb hs hl, hp, hd]; rfl

theorem keep {o : ℕ} (ho : o ≤ 128) (κ₀ : Fin 256) (ξ : Fin 128) (s l : EReal) :
    Scalar.select (IntOp.cmpi .sle (BitVec.ofNat 32 κ₀.val) (IntOp.addi (BitVec.ofNat 32 ξ.val) (BitVec.ofNat 32 o))) (pE s l) (0 : EReal) = pD (κ₀.val ≤ o + ξ.val) s l := by
  have h1 := κ₀.isLt; have h2 := ξ.isLt
  rw [WordCmp.addi_ofNat, pD]
  by_cases h : κ₀.val ≤ o + ξ.val
  · rw [if_pos h, WordCmp.select_of_eq_one ((WordCmp.cmpi_sle_ofNat_eq_one_iff (by norm_num; omega) (by norm_num; omega)).mpr (by omega))]
  · rw [if_neg h, WordCmp.select_of_eq_zero ((WordCmp.cmpi_sle_ofNat_eq_zero_iff (by norm_num; omega) (by norm_num; omega)).mpr (by omega))]

theorem dE_select (b : BitVec 1) (p x y : EReal) : Scalar.select b (dE p x y) 0 = dE (Scalar.select b p 0) x y := by
  by_cases h : b = 1#1
  · rw [WordCmp.select_of_eq_one h, WordCmp.select_of_eq_one h]
  · have h : b = 0#1 := by revert h; revert b; decide
    rw [WordCmp.select_of_eq_zero h, WordCmp.select_of_eq_zero h, dE, zero_mul, zero_mul]

variable (v12 v13 : IVec S256x128 32) (h12 : ∀ κ₀ ξ, v12 (ix2 κ₀ ξ) = BitVec.ofNat 32 κ₀.val) (h13 : ∀ κ₀ ξ, v13 (ix2 κ₀ ξ) = BitVec.ofNat 32 ξ.val)

include h12 h13

theorem p_diag00 (l : Vec Ideal S1x1x8x256 .f32) (s : Vec Ideal S1x1x256x128 .f32) (κ₀ : Fin 256) (ξ : Fin 128) :
    k0_pay146 v12 v13 (k0_pay143 l) s (ix3 0 κ₀ ξ) = pD (κ₀.val ≤ 0 + ξ.val) (s (ix4 0 0 κ₀ ξ)) (l (ix4 0 0 0 ⟨ξ.val, by omega⟩)) := by
  refine Eq.trans ?_ (keep (o := 0) (by norm_num) κ₀ ξ _ _)
  rw [← h12 κ₀ ξ, ← h13 κ₀ ξ]
  pointwise [k0_pay146, k0_pay145, k0_pay143]
  rw [named_s2]; rfl

theorem ds_diag00 (l d : Vec Ideal S1x1x8x256 .f32) (s dp : Vec Ideal S1x1x256x128 .f32) (κ₀ : Fin 256) (ξ : Fin 128) :
    k0_pay147 v12 v13 (k0_pay143 l) (k0_pay144 d) s dp (ix3 0 κ₀ ξ) = dE (pD (κ₀.val ≤ 0 + ξ.val) (s (ix4 0 0 κ₀ ξ)) (l (ix4 0 0 0 ⟨ξ.val, by omega⟩))) (dp (ix4 0 0 κ₀ ξ)) (d (ix4 0 0 0 ⟨ξ.val, by omega⟩)) := by
  refine Eq.trans ?_ (congrArg (dE · _ _) (keep (o := 0) (by norm_num) κ₀ ξ _ _))
  rw [← h12 κ₀ ξ, ← h13 κ₀ ξ]
  pointwise [k0_pay147, k0_pay145, k0_pay143, k0_pay144]
  rw [named_s2, named_s]; exact dE_select _ _ _ _

theorem p_diag01 (l : Vec Ideal S1x1x8x256 .f32) (s : Vec Ideal S1x1x256x128 .f32) (κ₀ : Fin 256) (ξ : Fin 128) :
    k0_pay151 v12 v13 (k0_pay148 s) (k0_pay149 (k0_pay143 l)) (ix3 0 κ₀ ξ) = pD (κ₀.val ≤ 128 + ξ.val) (s (ix4 0 0 κ₀ ξ)) (l (ix4 0 0 0 ⟨128 + ξ.val, by omega⟩)) := by
  refine Eq.trans ?_ (keep (o := 128) (by norm_num) κ₀ ξ _ _)
  rw [← h12 κ₀ ξ, ← h13 κ₀ ξ]
  pointwise [k0_pay151, k0_pay150, k0_pay148, k0_pay149, k0_pay143]
  rw [named_s2]; rfl

theorem ds_diag01 (l d : Vec Ideal S1x1x8x256 .f32) (s dp : Vec Ideal S1x1x256x128 .f32) (κ₀ : Fin 256) (ξ : Fin 128) :
    k0_pay152 v12 v13 (k0_pay144 d) (k0_pay148 s) (k0_pay149 (k0_pay143 l)) dp (ix3 0 κ₀ ξ) = dE (pD (κ₀.val ≤ 128 + ξ.val) (s (ix4 0 0 κ₀ ξ)) (l (ix4 0 0 0 ⟨128 + ξ.val, by omega⟩))) (dp (ix4 0 0 κ₀ ξ)) (d (ix4 0 0 0 ⟨128 + ξ.val, by omega⟩)) := by
  refine Eq.trans ?_ (congrArg (dE · _ _) (keep (o := 128) (by norm_num) κ₀ ξ _ _))
  rw [← h12 κ₀ ξ, ← h13 κ₀ ξ]
  pointwise [k0_pay152, k0_pay150, k0_pay148, k0_pay149, k0_pay143, k0_pay144]
  rw [named_s2, named_s]; exact dE_select _ _ _ _

theorem p_diag10 (l : Vec Ideal S1x1x8x256 .f32) (s : Vec Ideal S1x1x256x128 .f32) (κ₀ : Fin 256) (ξ : Fin 128) :
    k0_pay155 (k0_pay154 v12 v13 (k0_pay143 l) s) (ix3 0 κ₀ ξ) = pD (κ₀.val ≤ 0 + ξ.val) (s (ix4 0 0 κ₀ ξ)) (l (ix4 0 0 1 ⟨ξ.val, by omega⟩)) := by
  refine Eq.trans ?_ (keep (o := 0) (by norm_num) κ₀ ξ _ _)
  rw [← h12 κ₀ ξ, ← h13 κ₀ ξ]
  pointwise [k0_pay155, k0_pay154, k0_pay153, k0_pay143]
  rw [named_s2]; rfl

theorem ds_diag10 (l d : Vec Ideal S1x1x8x256 .f32) (s dp : Vec Ideal S1x1x256x128 .f32) (κ₀ : Fin 256) (ξ : Fin 128) :
    k0_pay156 (k0_pay144 d) (k0_pay153 v12 v13 (k0_pay143 l) s) dp (ix3 0 κ₀ ξ) = dE (pD (κ₀.val ≤ 0 + ξ.val) (s (ix4 0 0 κ₀ ξ)) (l (ix4 0 0 1 ⟨ξ.val, by omega⟩))) (dp (ix4 0 0 κ₀ ξ)) (d (ix4 0 0 1 ⟨ξ.val, by omega⟩)) := by
  refine Eq.trans ?_ (congrArg (dE · _ _) (keep (o := 0) (by norm_num) κ₀ ξ _ _))
  rw [← h12 κ₀ ξ, ← h13 κ₀ ξ]
  pointwise [k0_pay156, k0_pay153, k0_pay143, k0_pay144]
  rw [named_s2, named_s]; exact dE_select _ _ _ _

theorem p_diag11 (l : Vec Ideal S1x1x8x256 .f32) (s : Vec Ideal S1x1x256x128 .f32) (κ₀ : Fin 256) (ξ : Fin 128) :
    k0_pay158 v12 v13 (k0_pay143 l) s (ix3 0 κ₀ ξ) = pD (κ₀.val ≤ 128 + ξ.val) (s (ix4 0 0 κ₀ ξ)) (l (ix4 0 0 1 ⟨128 + ξ.val, by omega⟩)) := by
  refine Eq.trans ?_ (keep (o := 128) (by norm_num) κ₀ ξ _ _)
  rw [← h12 κ₀ ξ, ← h13 κ₀ ξ]
  pointwise [k0_pay158, k0_pay157, k0_pay143]
  rw [named_s2]; rfl

theorem ds_diag11 (l d : Vec Ideal S1x1x8x256 .f32) (s dp : Vec Ideal S1x1x256x128 .f32) (κ₀ : Fin 256) (ξ : Fin 128) :
    k0_pay159 (k0_pay144 d) (k0_pay157 v12 v13 (k0_pay143 l) s) dp (ix3 0 κ₀ ξ) = dE (pD (κ₀.val ≤ 128 + ξ.val) (s (ix4 0 0 κ₀ ξ)) (l (ix4 0 0 1 ⟨128 + ξ.val, by omega⟩))) (dp (ix4 0 0 κ₀ ξ)) (d (ix4 0 0 1 ⟨128 + ξ.val, by omega⟩)) := by
  refine Eq.trans ?_ (congrArg (dE · _ _) (keep (o := 128) (by norm_num) κ₀ ξ _ _))
  rw [← h12 κ₀ ξ, ← h13 κ₀ ξ]
  pointwise [k0_pay159, k0_pay157, k0_pay143, k0_pay144]
  rw [named_s2, named_s]; exact dE_select _ _ _ _

end Cert.MlaIdeal.Hand

end
-- ==== Proof.MlaTail1Val.lean ====
module

public import proofs.«01_k».proof.Proof.MlaOffs
public import proofs.«01_k».proof.Proof.MlaDiag
public import proofs.«01_k».proof.Proof.MlaTail3

/-!
# The blocks after the loops, entry by entry

What the last query blocks and the diagonal add to the three results.
-/

@[expose] public section

set_option maxRecDepth 16384

noncomputable section

namespace Cert.MlaIdeal.Hand

open Cert.MlaIdeal Cert.MlaIdeal.Gen
open Idealize.ShloMosaic Idealize.ShloMosaic.TcCoe

theorem off36 : ∀ i : grid0.Coords, k0_off36 i = ![2 * (i 1).val + 0, 0, 0] := by decide +kernel
theorem off37 : ∀ i : grid0.Coords, k0_off37 i = ![2 * (i 1).val + 0, 0, 0] := by decide +kernel
theorem off38 : ∀ i : grid0.Coords, k0_off38 i = ![2 * (i 1).val + 0, 128, 0] := by decide +kernel
theorem off39 : ∀ i : grid0.Coords, k0_off39 i = ![0, 2 * (i 1).val + 0, 0, 0] := by decide +kernel
theorem off40 : ∀ i : grid0.Coords, k0_off40 i = ![2 * (i 1).val + 0, 0, 0] := by decide +kernel
theorem off41 : ∀ i : grid0.Coords, k0_off41 i = ![2 * (i 1).val + 0, 0, 0] := by decide +kernel
theorem off42 : ∀ i : grid0.Coords, k0_off42 i = ![2 * (i 1).val + 0, 64, 0] := by decide +kernel
theorem off43 : ∀ i : grid0.Coords, k0_off43 i = ![2 * (i 1).val + 0, 128, 0] := by decide +kernel

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

section Tail1

variable (arg1 v8 : BitVec 32) (v12 v13 : IVec S256x128 32) (v26 c2 : BitVec 32) (v88 : BitVec 1) (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal))
  (f9 : arg9.view.ty.Contents (Elt Ideal)) (f10 : arg10.view.ty.Contents (Elt Ideal)) (f11 : arg11.view.ty.Contents (Elt Ideal)) (b₀ b₁ d₀ d₁ : Blk Ideal)
  (O : Ops) (R : O.Reads arg2 arg3 arg4 arg6 arg7 arg8 arg16 0 x2 x3 x4 x6 x7 x8 x16)
  (n₀ : Fin 16) (e₀ : n₀.val = 15) (n₁ : Fin 16) (e₁ : n₁.val = 2 * (i 1).val + 0)
  (hb₀ : ∀ κ₀ ξ, b₀ (ix4 0 0 κ₀ ξ) = O.S n₀ 0 κ₀ ξ) (hb₁ : ∀ κ₀ ξ, b₁ (ix4 0 0 κ₀ ξ) = O.S n₀ 1 κ₀ ξ)
  (hd₀ : ∀ κ₀ ξ, d₀ (ix4 0 0 κ₀ ξ) = O.G n₀ 0 κ₀ ξ) (hd₁ : ∀ κ₀ ξ, d₁ (ix4 0 0 κ₀ ξ) = O.G n₀ 1 κ₀ ξ)
  (h12 : ∀ κ₀ ξ, v12 (ix2 κ₀ ξ) = BitVec.ofNat 32 κ₀.val) (h13 : ∀ κ₀ ξ, v13 (ix2 κ₀ ξ) = BitVec.ofNat 32 ξ.val)

include R e₁ e₀ hb₀ hb₁ hd₀ hd₁ h12 h13

set_option maxHeartbeats 4000000 in
theorem tail1_dv (z : Fin 2) (d : Fin 128) (ξ : Fin 256) :
    View.read (Elt Ideal) arg11.view (tail1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v12 v13 v26 c2 v88 x2 x3 x4 x5 x6 x7 x8 x16 (f9, f10, f11, b₀, b₁, d₀, d₁)).1.2.2 (ix3 z d ξ) = (View.read (Elt Ideal) arg11.view f11 (ix3 z d ξ) : EReal) + O.C11 false 0 n₀ z d ξ + O.C11 true 0 n₁ z d ξ := by
  unfold tail1
  dsimp only [tail1.sl.H10_2, tail1.sl.H10_3, tail1.sl.H11_2, tail1.sl.H11_3, tail1.sl.H12_4, tail1.sl.H13_4, tail1.sl.H14_4, tail1.sl.H14_8, tail1.sl.H15_4, tail1.sl.H15_8, tail1.sl.H9_2, tail1.sl.H9_3, tail1.sl.r, tail1.sl.r_1, tail1.sl.r_10, tail1.sl.r_11, tail1.sl.r_12, tail1.sl.r_13, tail1.sl.r_14, tail1.sl.r_15, tail1.sl.r_2, tail1.sl.r_3, tail1.sl.r_4, tail1.sl.r_5, tail1.sl.r_6, tail1.sl.r_7, tail1.sl.r_8, tail1.sl.r_9, tail1.sl.v, tail1.sl.v261, tail1.sl.v273, tail1.sl.v285, tail1.sl.v297, tail1.sl.v309, tail1.sl.v321, tail1.sl.v333, tail1.sl.v345, tail1.sl.v361, tail1.sl.v372, tail1.sl.v390, tail1.sl.v394, tail1.sl.v401, tail1.sl.v405, tail1.sl.v412, tail1.sl.v429, tail1.sl.v446, tail1.sl.v458, tail1.sl.v475, tail1.sl.v487, tail1.sl.v504, tail1.sl.v516, tail1.sl.v533, tail1.sl.v545, tail1.sl.v550, tail1.sl.v557, tail1.sl.v562, tail1.sl.v582, tail1.sl.v587, tail1.sl.v599]
  refine (add11 O true n₁ 0 _ _ _ rfl rfl _ _ _ _ _ _ _ _ ?_ ?_ ?_ ?_ ?_ ?_ z d ξ).trans (congrArg (· + _) (add11 O false n₀ 0 _ _ _ rfl rfl _ _ _ _ _ _ _ _ ?_ ?_ ?_ ?_ ?_ ?_ z d ξ))
  · exact (fun r x => R.g64 n₁ 0 ((off40 i).trans (by rw [e₁]; try rfl)) _ r x)
  · exact (fun r x => R.g64 n₁ 1 ((off42 i).trans (by rw [e₁]; try rfl)) _ r x)
  · exact (fun x y => head_cov (e := .bf16) _ _ _ _ _ _ 0 (O.P true n₁) (fun κ₀ ξ => (p_diag00 _ _ h12 h13 _ _ κ₀ ξ).trans (O.PD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 0 κ₀ _ _ (by simp) _ _ _) (R.l8 n₁ ((off39 i).trans (by rw [e₁]; try rfl)) _ 0 _))) (fun κ₀ ξ => (p_diag01 _ _ h12 h13 _ _ κ₀ ξ).trans (O.PD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 128 κ₀ _ _ (by simp) _ _ _) (R.l8 n₁ ((off39 i).trans (by rw [e₁]; try rfl)) _ 0 _))) (fun κ₀ ξ => (p_diag10 _ _ h12 h13 _ _ κ₀ ξ).trans (O.PD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 0 κ₀ _ _ (by simp) _ _ _) (R.l8 n₁ ((off39 i).trans (by rw [e₁]; try rfl)) _ 1 _))) (fun κ₀ ξ => (p_diag11 _ _ h12 h13 _ _ κ₀ ξ).trans (O.PD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 128 κ₀ _ _ (by simp) _ _ _) (R.l8 n₁ ((off39 i).trans (by rw [e₁]; try rfl)) _ 1 _))) x y _ _ _ _ _)
  · exact (fun x y => head_cov (e := .bf16) _ _ _ _ _ _ 1 (O.P true n₁) (fun κ₀ ξ => (p_diag00 _ _ h12 h13 _ _ κ₀ ξ).trans (O.PD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 0 κ₀ _ _ (by simp) _ _ _) (R.l8 n₁ ((off39 i).trans (by rw [e₁]; try rfl)) _ 0 _))) (fun κ₀ ξ => (p_diag01 _ _ h12 h13 _ _ κ₀ ξ).trans (O.PD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 128 κ₀ _ _ (by simp) _ _ _) (R.l8 n₁ ((off39 i).trans (by rw [e₁]; try rfl)) _ 0 _))) (fun κ₀ ξ => (p_diag10 _ _ h12 h13 _ _ κ₀ ξ).trans (O.PD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 0 κ₀ _ _ (by simp) _ _ _) (R.l8 n₁ ((off39 i).trans (by rw [e₁]; try rfl)) _ 1 _))) (fun κ₀ ξ => (p_diag11 _ _ h12 h13 _ _ κ₀ ξ).trans (O.PD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 128 κ₀ _ _ (by simp) _ _ _) (R.l8 n₁ ((off39 i).trans (by rw [e₁]; try rfl)) _ 1 _))) x y _ _ _ _ _)
  · intro z d r x hz hd
    refine (rows_read (N := 2) (M := 128) (W := 64) _ 0 0 _ rfl _ z hz r x d hd).trans ?_
    refine ((rows_miss (N := 2) (M := 128) (W := 64) _ _ 0 64 _ _ _ rfl z d x (by omega)).trans (rows_hit (N := 2) (M := 128) (W := 64) _ _ 0 0 _ _ _ rfl z d r x hz hd)).trans ?_
    exact ((rows_miss (N := 2) (M := 128) (W := 64) _ _ 0 64 _ _ _ rfl z d x (by omega)).trans (rows_hit (N := 2) (M := 128) (W := 64) _ _ 0 0 _ _ _ rfl z d r x hz hd)).symm
  · intro z d r x hz hd
    refine (rows_read (N := 2) (M := 128) (W := 64) _ 0 64 _ rfl _ z hz r x d hd).trans ?_
    refine ((rows_miss (N := 2) (M := 128) (W := 64) _ _ 0 0 _ _ _ rfl z d x (by omega)).trans (rows_hit (N := 2) (M := 128) (W := 64) _ _ 0 64 _ _ _ rfl z d r x hz hd)).trans ?_
    exact (rows_hit (N := 2) (M := 128) (W := 64) _ _ 0 64 _ _ _ rfl z d r x hz hd).symm
  · exact (fun r x => R.g64 n₀ 0 (by rw [e₀]; try rfl) _ r x)
  · exact (fun r x => R.g64 n₀ 1 (by rw [e₀]; try rfl) _ r x)
  · exact (fun x y => head_cov (e := .bf16) _ _ _ _ _ _ 0 (O.P false n₀) (fun κ₀ ξ => (p_val00 _ _ κ₀ ξ).trans (O.P_of (quarter_under _ _ _ _ _ _ (O.S n₀) 0 1 (Or.inl Nat.zero_lt_one) hb₀ hb₁ 0 0 κ₀ _ _ (by simp) _ _ _ _ _) (R.l8 n₀ (by rw [e₀]; try rfl) _ 0 _))) (fun κ₀ ξ => (p_val01 _ _ κ₀ ξ).trans (O.P_of (quarter_under _ _ _ _ _ _ (O.S n₀) 0 1 (Or.inl Nat.zero_lt_one) hb₀ hb₁ 0 128 κ₀ _ _ (by simp) _ _ _ _ _) (R.l8 n₀ (by rw [e₀]; try rfl) _ 0 _))) (fun κ₀ ξ => (p_val10 _ _ κ₀ ξ).trans (O.P_of (quarter_under _ _ _ _ _ _ (O.S n₀) 0 1 (Or.inl Nat.zero_lt_one) hb₀ hb₁ 1 0 κ₀ _ _ (by simp) _ _ _ _ _) (R.l8 n₀ (by rw [e₀]; try rfl) _ 1 _))) (fun κ₀ ξ => (p_val11 _ _ κ₀ ξ).trans (O.P_of (quarter_under _ _ _ _ _ _ (O.S n₀) 0 1 (Or.inl Nat.zero_lt_one) hb₀ hb₁ 1 128 κ₀ _ _ (by simp) _ _ _ _ _) (R.l8 n₀ (by rw [e₀]; try rfl) _ 1 _))) x y _ _ _ _ _)
  · exact (fun x y => head_cov (e := .bf16) _ _ _ _ _ _ 1 (O.P false n₀) (fun κ₀ ξ => (p_val00 _ _ κ₀ ξ).trans (O.P_of (quarter_under _ _ _ _ _ _ (O.S n₀) 0 1 (Or.inl Nat.zero_lt_one) hb₀ hb₁ 0 0 κ₀ _ _ (by simp) _ _ _ _ _) (R.l8 n₀ (by rw [e₀]; try rfl) _ 0 _))) (fun κ₀ ξ => (p_val01 _ _ κ₀ ξ).trans (O.P_of (quarter_under _ _ _ _ _ _ (O.S n₀) 0 1 (Or.inl Nat.zero_lt_one) hb₀ hb₁ 0 128 κ₀ _ _ (by simp) _ _ _ _ _) (R.l8 n₀ (by rw [e₀]; try rfl) _ 0 _))) (fun κ₀ ξ => (p_val10 _ _ κ₀ ξ).trans (O.P_of (quarter_under _ _ _ _ _ _ (O.S n₀) 0 1 (Or.inl Nat.zero_lt_one) hb₀ hb₁ 1 0 κ₀ _ _ (by simp) _ _ _ _ _) (R.l8 n₀ (by rw [e₀]; try rfl) _ 1 _))) (fun κ₀ ξ => (p_val11 _ _ κ₀ ξ).trans (O.P_of (quarter_under _ _ _ _ _ _ (O.S n₀) 0 1 (Or.inl Nat.zero_lt_one) hb₀ hb₁ 1 128 κ₀ _ _ (by simp) _ _ _ _ _) (R.l8 n₀ (by rw [e₀]; try rfl) _ 1 _))) x y _ _ _ _ _)
  · exact fun z d r x hz hd => rows_read (N := 2) (M := 128) (W := 64) _ 0 0 _ rfl _ z hz r x d hd
  · exact fun z d r x hz hd => rows_read (N := 2) (M := 128) (W := 64) _ 0 64 _ rfl _ z hz r x d hd

set_option maxHeartbeats 4000000 in
theorem tail1_dk (z : Fin 2) (d : Fin 256) (ξ : Fin 256) :
    View.read (Elt Ideal) arg10.view (tail1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v12 v13 v26 c2 v88 x2 x3 x4 x5 x6 x7 x8 x16 (f9, f10, f11, b₀, b₁, d₀, d₁)).1.2.1 (ix3 z d ξ) = (View.read (Elt Ideal) arg10.view f10 (ix3 z d ξ) : EReal) + O.C10 false 0 n₀ z d ξ + O.C10 true 0 n₁ z d ξ := by
  unfold tail1
  dsimp only [tail1.sl.H10_2, tail1.sl.H10_3, tail1.sl.H11_2, tail1.sl.H11_3, tail1.sl.H12_4, tail1.sl.H13_4, tail1.sl.H14_4, tail1.sl.H14_8, tail1.sl.H15_4, tail1.sl.H15_8, tail1.sl.H9_2, tail1.sl.H9_3, tail1.sl.r, tail1.sl.r_1, tail1.sl.r_10, tail1.sl.r_11, tail1.sl.r_12, tail1.sl.r_13, tail1.sl.r_14, tail1.sl.r_15, tail1.sl.r_2, tail1.sl.r_3, tail1.sl.r_4, tail1.sl.r_5, tail1.sl.r_6, tail1.sl.r_7, tail1.sl.r_8, tail1.sl.r_9, tail1.sl.v, tail1.sl.v261, tail1.sl.v273, tail1.sl.v285, tail1.sl.v297, tail1.sl.v309, tail1.sl.v321, tail1.sl.v333, tail1.sl.v345, tail1.sl.v361, tail1.sl.v372, tail1.sl.v390, tail1.sl.v394, tail1.sl.v401, tail1.sl.v405, tail1.sl.v412, tail1.sl.v429, tail1.sl.v446, tail1.sl.v458, tail1.sl.v475, tail1.sl.v487, tail1.sl.v504, tail1.sl.v516, tail1.sl.v533, tail1.sl.v545, tail1.sl.v550, tail1.sl.v557, tail1.sl.v562, tail1.sl.v582, tail1.sl.v587, tail1.sl.v599]
  refine (add10 O true n₁ 0 _ _ _ rfl rfl _ _ _ _ _ _ _ _ ?_ ?_ ?_ ?_ ?_ ?_ z d ξ).trans (congrArg (· + _) (add10 O false n₀ 0 _ _ _ rfl rfl _ _ _ _ _ _ _ _ ?_ ?_ ?_ ?_ ?_ ?_ z d ξ))
  · exact (fun r x => R.q96 n₁ 0 ((off41 i).trans (by rw [e₁]; try rfl)) _ r x)
  · exact (fun r x => R.q96 n₁ 1 ((off43 i).trans (by rw [e₁]; try rfl)) _ r x)
  · exact (fun x y => head_cov (e := .bf16) _ _ _ _ _ _ 0 (O.W true n₁) (fun κ₀ ξ => (ds_diag00 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 0 κ₀ _ _ (by simp) _ _ _) (R.l8 n₁ ((off39 i).trans (by rw [e₁]; try rfl)) _ 0 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 0 0 κ₀ _ _ (by simp) _ _ _) (R.d8 n₁ ((off39 i).trans (by rw [e₁]; try rfl)) _ 0 _))) (fun κ₀ ξ => (ds_diag01 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 128 κ₀ _ _ (by simp) _ _ _) (R.l8 n₁ ((off39 i).trans (by rw [e₁]; try rfl)) _ 0 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 0 128 κ₀ _ _ (by simp) _ _ _) (R.d8 n₁ ((off39 i).trans (by rw [e₁]; try rfl)) _ 0 _))) (fun κ₀ ξ => (ds_diag10 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 0 κ₀ _ _ (by simp) _ _ _) (R.l8 n₁ ((off39 i).trans (by rw [e₁]; try rfl)) _ 1 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 1 0 κ₀ _ _ (by simp) _ _ _) (R.d8 n₁ ((off39 i).trans (by rw [e₁]; try rfl)) _ 1 _))) (fun κ₀ ξ => (ds_diag11 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 128 κ₀ _ _ (by simp) _ _ _) (R.l8 n₁ ((off39 i).trans (by rw [e₁]; try rfl)) _ 1 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 1 128 κ₀ _ _ (by simp) _ _ _) (R.d8 n₁ ((off39 i).trans (by rw [e₁]; try rfl)) _ 1 _))) x y _ _ _ _ _)
  · exact (fun x y => head_cov (e := .bf16) _ _ _ _ _ _ 1 (O.W true n₁) (fun κ₀ ξ => (ds_diag00 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 0 κ₀ _ _ (by simp) _ _ _) (R.l8 n₁ ((off39 i).trans (by rw [e₁]; try rfl)) _ 0 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 0 0 κ₀ _ _ (by simp) _ _ _) (R.d8 n₁ ((off39 i).trans (by rw [e₁]; try rfl)) _ 0 _))) (fun κ₀ ξ => (ds_diag01 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 128 κ₀ _ _ (by simp) _ _ _) (R.l8 n₁ ((off39 i).trans (by rw [e₁]; try rfl)) _ 0 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 0 128 κ₀ _ _ (by simp) _ _ _) (R.d8 n₁ ((off39 i).trans (by rw [e₁]; try rfl)) _ 0 _))) (fun κ₀ ξ => (ds_diag10 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 0 κ₀ _ _ (by simp) _ _ _) (R.l8 n₁ ((off39 i).trans (by rw [e₁]; try rfl)) _ 1 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 1 0 κ₀ _ _ (by simp) _ _ _) (R.d8 n₁ ((off39 i).trans (by rw [e₁]; try rfl)) _ 1 _))) (fun κ₀ ξ => (ds_diag11 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 128 κ₀ _ _ (by simp) _ _ _) (R.l8 n₁ ((off39 i).trans (by rw [e₁]; try rfl)) _ 1 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 1 128 κ₀ _ _ (by simp) _ _ _) (R.d8 n₁ ((off39 i).trans (by rw [e₁]; try rfl)) _ 1 _))) x y _ _ _ _ _)
  · intro z d r x hz hd
    refine (rows_read (N := 2) (M := 256) (W := 96) _ 0 0 _ rfl _ z hz r x d hd).trans ?_
    refine ((rows_miss (N := 2) (M := 256) (W := 96) _ _ 0 128 _ _ _ rfl z d x (by omega)).trans (rows_hit (N := 2) (M := 256) (W := 96) _ _ 0 0 _ _ _ rfl z d r x hz hd)).trans ?_
    exact ((rows_miss (N := 2) (M := 256) (W := 96) _ _ 0 128 _ _ _ rfl z d x (by omega)).trans (rows_hit (N := 2) (M := 256) (W := 96) _ _ 0 0 _ _ _ rfl z d r x hz hd)).symm
  · intro z d r x hz hd
    refine (rows_read (N := 2) (M := 256) (W := 96) _ 0 128 _ rfl _ z hz r x d hd).trans ?_
    refine ((rows_miss (N := 2) (M := 256) (W := 96) _ _ 0 0 _ _ _ rfl z d x (by omega)).trans (rows_hit (N := 2) (M := 256) (W := 96) _ _ 0 128 _ _ _ rfl z d r x hz hd)).trans ?_
    exact (rows_hit (N := 2) (M := 256) (W := 96) _ _ 0 128 _ _ _ rfl z d r x hz hd).symm
  · exact (fun r x => R.q96 n₀ 0 (by rw [e₀]; try rfl) _ r x)
  · exact (fun r x => R.q96 n₀ 1 (by rw [e₀]; try rfl) _ r x)
  · exact (fun x y => head_cov (e := .bf16) _ _ _ _ _ _ 0 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ (by rw [e₀]; try rfl) _ 0 _) (quarter_under _ _ _ _ _ _ (O.G n₀) 0 1 (Or.inl Nat.zero_lt_one) hd₀ hd₁ 0 0 κ₀ _ _ (by simp) _ _ _ _ _) (R.d8 n₀ (by rw [e₀]; try rfl) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ (by rw [e₀]; try rfl) _ 0 _) (quarter_under _ _ _ _ _ _ (O.G n₀) 0 1 (Or.inl Nat.zero_lt_one) hd₀ hd₁ 0 128 κ₀ _ _ (by simp) _ _ _ _ _) (R.d8 n₀ (by rw [e₀]; try rfl) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ (by rw [e₀]; try rfl) _ 1 _) (quarter_under _ _ _ _ _ _ (O.G n₀) 0 1 (Or.inl Nat.zero_lt_one) hd₀ hd₁ 1 0 κ₀ _ _ (by simp) _ _ _ _ _) (R.d8 n₀ (by rw [e₀]; try rfl) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ (by rw [e₀]; try rfl) _ 1 _) (quarter_under _ _ _ _ _ _ (O.G n₀) 0 1 (Or.inl Nat.zero_lt_one) hd₀ hd₁ 1 128 κ₀ _ _ (by simp) _ _ _ _ _) (R.d8 n₀ (by rw [e₀]; try rfl) _ 1 _))) x y _ _ _ _ _)
  · exact (fun x y => head_cov (e := .bf16) _ _ _ _ _ _ 1 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ (by rw [e₀]; try rfl) _ 0 _) (quarter_under _ _ _ _ _ _ (O.G n₀) 0 1 (Or.inl Nat.zero_lt_one) hd₀ hd₁ 0 0 κ₀ _ _ (by simp) _ _ _ _ _) (R.d8 n₀ (by rw [e₀]; try rfl) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ (by rw [e₀]; try rfl) _ 0 _) (quarter_under _ _ _ _ _ _ (O.G n₀) 0 1 (Or.inl Nat.zero_lt_one) hd₀ hd₁ 0 128 κ₀ _ _ (by simp) _ _ _ _ _) (R.d8 n₀ (by rw [e₀]; try rfl) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ (by rw [e₀]; try rfl) _ 1 _) (quarter_under _ _ _ _ _ _ (O.G n₀) 0 1 (Or.inl Nat.zero_lt_one) hd₀ hd₁ 1 0 κ₀ _ _ (by simp) _ _ _ _ _) (R.d8 n₀ (by rw [e₀]; try rfl) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ (by rw [e₀]; try rfl) _ 1 _) (quarter_under _ _ _ _ _ _ (O.G n₀) 0 1 (Or.inl Nat.zero_lt_one) hd₀ hd₁ 1 128 κ₀ _ _ (by simp) _ _ _ _ _) (R.d8 n₀ (by rw [e₀]; try rfl) _ 1 _))) x y _ _ _ _ _)
  · exact fun z d r x hz hd => rows_read (N := 2) (M := 256) (W := 96) _ 0 0 _ rfl _ z hz r x d hd
  · exact fun z d r x hz hd => rows_read (N := 2) (M := 256) (W := 96) _ 0 128 _ rfl _ z hz r x d hd

set_option maxHeartbeats 4000000 in
theorem tail1_dq (z : Fin 16) (d : Fin 256) (ξ : Fin 256) :
    View.read (Elt Ideal) arg9.view (tail1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v12 v13 v26 c2 v88 x2 x3 x4 x5 x6 x7 x8 x16 (f9, f10, f11, b₀, b₁, d₀, d₁)).1.1 (ix3 z d ξ) = (View.read (Elt Ideal) arg9.view f9 (ix3 z d ξ) : EReal) + O.C9 false n₀ z d ξ + O.C9 true n₁ z d ξ := by
  unfold tail1
  dsimp only [tail1.sl.H10_2, tail1.sl.H10_3, tail1.sl.H11_2, tail1.sl.H11_3, tail1.sl.H12_4, tail1.sl.H13_4, tail1.sl.H14_4, tail1.sl.H14_8, tail1.sl.H15_4, tail1.sl.H15_8, tail1.sl.H9_2, tail1.sl.H9_3, tail1.sl.r, tail1.sl.r_1, tail1.sl.r_10, tail1.sl.r_11, tail1.sl.r_12, tail1.sl.r_13, tail1.sl.r_14, tail1.sl.r_15, tail1.sl.r_2, tail1.sl.r_3, tail1.sl.r_4, tail1.sl.r_5, tail1.sl.r_6, tail1.sl.r_7, tail1.sl.r_8, tail1.sl.r_9, tail1.sl.v, tail1.sl.v261, tail1.sl.v273, tail1.sl.v285, tail1.sl.v297, tail1.sl.v309, tail1.sl.v321, tail1.sl.v333, tail1.sl.v345, tail1.sl.v361, tail1.sl.v372, tail1.sl.v390, tail1.sl.v394, tail1.sl.v401, tail1.sl.v405, tail1.sl.v412, tail1.sl.v429, tail1.sl.v446, tail1.sl.v458, tail1.sl.v475, tail1.sl.v487, tail1.sl.v504, tail1.sl.v516, tail1.sl.v533, tail1.sl.v545, tail1.sl.v550, tail1.sl.v557, tail1.sl.v562, tail1.sl.v582, tail1.sl.v587, tail1.sl.v599]
  refine (add9 O true n₁ _ _ _ ((off41 i).trans (by rw [e₁]; try rfl)) ((off43 i).trans (by rw [e₁]; try rfl)) _ _ _ _ _ _ _ _ ?_ ?_ ?_ ?_ ?_ ?_ z d ξ).trans (congrArg (· + _) (add9 O false n₀ _ _ _ (by rw [e₀]; try rfl) (by rw [e₀]; try rfl) _ _ _ _ _ _ _ _ ?_ ?_ ?_ ?_ ?_ ?_ z d ξ))
  · exact (fun r x => R.kt96 0 rfl _ r x)
  · exact (fun r x => R.kt96 1 rfl _ r x)
  · exact (fun x y => head_cov (e := .bf16) _ _ _ _ _ _ 0 (O.W true n₁) (fun κ₀ ξ => (ds_diag00 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 0 κ₀ _ _ (by simp) _ _ _) (R.l8 n₁ ((off39 i).trans (by rw [e₁]; try rfl)) _ 0 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 0 0 κ₀ _ _ (by simp) _ _ _) (R.d8 n₁ ((off39 i).trans (by rw [e₁]; try rfl)) _ 0 _))) (fun κ₀ ξ => (ds_diag01 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 128 κ₀ _ _ (by simp) _ _ _) (R.l8 n₁ ((off39 i).trans (by rw [e₁]; try rfl)) _ 0 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 0 128 κ₀ _ _ (by simp) _ _ _) (R.d8 n₁ ((off39 i).trans (by rw [e₁]; try rfl)) _ 0 _))) (fun κ₀ ξ => (ds_diag10 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 0 κ₀ _ _ (by simp) _ _ _) (R.l8 n₁ ((off39 i).trans (by rw [e₁]; try rfl)) _ 1 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 1 0 κ₀ _ _ (by simp) _ _ _) (R.d8 n₁ ((off39 i).trans (by rw [e₁]; try rfl)) _ 1 _))) (fun κ₀ ξ => (ds_diag11 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 128 κ₀ _ _ (by simp) _ _ _) (R.l8 n₁ ((off39 i).trans (by rw [e₁]; try rfl)) _ 1 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 1 128 κ₀ _ _ (by simp) _ _ _) (R.d8 n₁ ((off39 i).trans (by rw [e₁]; try rfl)) _ 1 _))) x y _ _ _ _ _)
  · exact (fun x y => head_cov (e := .bf16) _ _ _ _ _ _ 1 (O.W true n₁) (fun κ₀ ξ => (ds_diag00 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 0 κ₀ _ _ (by simp) _ _ _) (R.l8 n₁ ((off39 i).trans (by rw [e₁]; try rfl)) _ 0 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 0 0 κ₀ _ _ (by simp) _ _ _) (R.d8 n₁ ((off39 i).trans (by rw [e₁]; try rfl)) _ 0 _))) (fun κ₀ ξ => (ds_diag01 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 0 128 κ₀ _ _ (by simp) _ _ _) (R.l8 n₁ ((off39 i).trans (by rw [e₁]; try rfl)) _ 0 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 0 128 κ₀ _ _ (by simp) _ _ _) (R.d8 n₁ ((off39 i).trans (by rw [e₁]; try rfl)) _ 0 _))) (fun κ₀ ξ => (ds_diag10 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 0 κ₀ _ _ (by simp) _ _ _) (R.l8 n₁ ((off39 i).trans (by rw [e₁]; try rfl)) _ 1 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 1 0 κ₀ _ _ (by simp) _ _ _) (R.d8 n₁ ((off39 i).trans (by rw [e₁]; try rfl)) _ 1 _))) (fun κ₀ ξ => (ds_diag11 _ _ h12 h13 _ _ _ _ κ₀ ξ).trans (O.WD_of (by simp) (quarter_top _ _ _ _ (O.S n₁) 1 (fun κ₀ ξ => R.score n₁ 0 ((off36 i).trans (by rw [e₁]; try rfl)) rfl _ _ κ₀ ξ) (fun κ₀ ξ => R.score n₁ 1 ((off38 i).trans (by rw [e₁]; try rfl)) rfl _ _ κ₀ ξ) 1 128 κ₀ _ _ (by simp) _ _ _) (R.l8 n₁ ((off39 i).trans (by rw [e₁]; try rfl)) _ 1 _) (quarter_top _ _ _ _ (O.G n₁) 1 (fun κ₀ ξ => R.prod n₁ 0 ((off37 i).trans (by rw [e₁]; try rfl)) rfl _ _ κ₀ ξ) (fun κ₀ ξ => R.prod n₁ 1 ((off37 i).trans (by rw [e₁]; try rfl)) rfl _ _ κ₀ ξ) 1 128 κ₀ _ _ (by simp) _ _ _) (R.d8 n₁ ((off39 i).trans (by rw [e₁]; try rfl)) _ 1 _))) x y _ _ _ _ _)
  · intro z d r x hz hd
    exact rows_read (N := 16) (M := 256) (W := 96) _ n₁.val 0 _ ((off41 i).trans (by rw [e₁]; try rfl)) _ z hz r x d hd
  · intro z d r x hz hd
    exact (rows_read (N := 16) (M := 256) (W := 96) _ n₁.val 128 _ ((off43 i).trans (by rw [e₁]; try rfl)) _ z hz r x d hd).trans (rows_miss (N := 16) (M := 256) (W := 96) _ _ n₁.val 0 _ _ _ ((off41 i).trans (by rw [e₁]; try rfl)) z d x (by omega))
  · exact (fun r x => R.kt96 0 rfl _ r x)
  · exact (fun r x => R.kt96 1 rfl _ r x)
  · exact (fun x y => head_cov (e := .bf16) _ _ _ _ _ _ 0 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ (by rw [e₀]; try rfl) _ 0 _) (quarter_under _ _ _ _ _ _ (O.G n₀) 0 1 (Or.inl Nat.zero_lt_one) hd₀ hd₁ 0 0 κ₀ _ _ (by simp) _ _ _ _ _) (R.d8 n₀ (by rw [e₀]; try rfl) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ (by rw [e₀]; try rfl) _ 0 _) (quarter_under _ _ _ _ _ _ (O.G n₀) 0 1 (Or.inl Nat.zero_lt_one) hd₀ hd₁ 0 128 κ₀ _ _ (by simp) _ _ _ _ _) (R.d8 n₀ (by rw [e₀]; try rfl) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ (by rw [e₀]; try rfl) _ 1 _) (quarter_under _ _ _ _ _ _ (O.G n₀) 0 1 (Or.inl Nat.zero_lt_one) hd₀ hd₁ 1 0 κ₀ _ _ (by simp) _ _ _ _ _) (R.d8 n₀ (by rw [e₀]; try rfl) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ (by rw [e₀]; try rfl) _ 1 _) (quarter_under _ _ _ _ _ _ (O.G n₀) 0 1 (Or.inl Nat.zero_lt_one) hd₀ hd₁ 1 128 κ₀ _ _ (by simp) _ _ _ _ _) (R.d8 n₀ (by rw [e₀]; try rfl) _ 1 _))) x y _ _ _ _ _)
  · exact (fun x y => head_cov (e := .bf16) _ _ _ _ _ _ 1 (O.W false n₀) (fun κ₀ ξ => (ds_val00 _ _ _ _ κ₀ ξ).trans (O.W_of (quarter_under _ _ _ _ _ _ (O.S n₀) 0 1 (Or.inl Nat.zero_lt_one) hb₀ hb₁ 0 0 κ₀ _ _ (by simp) _ _ _ _ _) (R.l8 n₀ (by rw [e₀]; try rfl) _ 0 _) (quarter_under _ _ _ _ _ _ (O.G n₀) 0 1 (Or.inl Nat.zero_lt_one) hd₀ hd₁ 0 0 κ₀ _ _ (by simp) _ _ _ _ _) (R.d8 n₀ (by rw [e₀]; try rfl) _ 0 _))) (fun κ₀ ξ => (ds_val01 _ _ _ _ κ₀ ξ).trans (O.W_of (quarter_under _ _ _ _ _ _ (O.S n₀) 0 1 (Or.inl Nat.zero_lt_one) hb₀ hb₁ 0 128 κ₀ _ _ (by simp) _ _ _ _ _) (R.l8 n₀ (by rw [e₀]; try rfl) _ 0 _) (quarter_under _ _ _ _ _ _ (O.G n₀) 0 1 (Or.inl Nat.zero_lt_one) hd₀ hd₁ 0 128 κ₀ _ _ (by simp) _ _ _ _ _) (R.d8 n₀ (by rw [e₀]; try rfl) _ 0 _))) (fun κ₀ ξ => (ds_val10 _ _ _ _ κ₀ ξ).trans (O.W_of (quarter_under _ _ _ _ _ _ (O.S n₀) 0 1 (Or.inl Nat.zero_lt_one) hb₀ hb₁ 1 0 κ₀ _ _ (by simp) _ _ _ _ _) (R.l8 n₀ (by rw [e₀]; try rfl) _ 1 _) (quarter_under _ _ _ _ _ _ (O.G n₀) 0 1 (Or.inl Nat.zero_lt_one) hd₀ hd₁ 1 0 κ₀ _ _ (by simp) _ _ _ _ _) (R.d8 n₀ (by rw [e₀]; try rfl) _ 1 _))) (fun κ₀ ξ => (ds_val11 _ _ _ _ κ₀ ξ).trans (O.W_of (quarter_under _ _ _ _ _ _ (O.S n₀) 0 1 (Or.inl Nat.zero_lt_one) hb₀ hb₁ 1 128 κ₀ _ _ (by simp) _ _ _ _ _) (R.l8 n₀ (by rw [e₀]; try rfl) _ 1 _) (quarter_under _ _ _ _ _ _ (O.G n₀) 0 1 (Or.inl Nat.zero_lt_one) hd₀ hd₁ 1 128 κ₀ _ _ (by simp) _ _ _ _ _) (R.d8 n₀ (by rw [e₀]; try rfl) _ 1 _))) x y _ _ _ _ _)
  · exact fun z d r x hz hd => rows_read (N := 16) (M := 256) (W := 96) _ n₀.val 0 _ (by rw [e₀]; try rfl) _ z hz r x d hd
  · exact fun z d r x hz hd => rows_read (N := 16) (M := 256) (W := 96) _ n₀.val 128 _ (by rw [e₀]; try rfl) _ z hz r x d hd

end Tail1

end Cert.MlaIdeal.Hand
-- ==== Proof.MlaTail3Val.lean ====
module

public import proofs.«01_k».proof.Proof.MlaOffs
public import proofs.«01_k».proof.Proof.MlaDiag
public import proofs.«01_k».proof.Proof.MlaTail3

/-!
# The blocks after the loops, entry by entry

What the last query blocks and the diagonal add to the three results.
-/

@[expose] public section

set_option maxRecDepth 16384

noncomputable section

namespace Cert.MlaIdeal.Hand

open Cert.MlaIdeal Cert.MlaIdeal.Gen
open Idealize.ShloMosaic Idealize.ShloMosaic.TcCoe

theorem off89 : ∀ i : grid0.Coords, k0_off89 i = ![0, 2 * (i 1).val + 1, 0, 0] := by decide +kernel
theorem off90 : ∀ i : grid0.Coords, k0_off90 i = ![2 * (i 1).val + 1, 0, 0] := by decide +kernel
theorem off91 : ∀ i : grid0.Coords, k0_off91 i = ![2 * (i 1).val + 1, 0, 0] := by decide +kernel
theorem off92 : ∀ i : grid0.Coords, k0_off92 i = ![2 * (i 1).val + 1, 64, 0] := by decide +kernel
theorem off93 : ∀ i : grid0.Coords, k0_off93 i = ![2 * (i 1).val + 1, 128, 0] := by decide +kernel

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

section Tail3

variable (v115 : BitVec 32) (v119 v120 : IVec S256x128 32) (v133 v173 : BitVec 32) (v184 v186 : BitVec 1) (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal))
  (f9 : arg9.view.ty.Contents (Elt Ideal)) (f10 : arg10.view.ty.Contents (Elt Ideal)) (f11 : arg11.view.ty.Contents (Elt Ideal)) (b₀ b₁ d₀ d₁ : Blk Ideal)
  (O : Ops) (R : O.Reads arg2 arg3 arg4 arg6 arg7 arg8 arg16 1 x2 x3 x4 x6 x7 x8 x16)
  (n₁ : Fin 16) (e₁ : n₁.val = 2 * (i 1).val + 1)
  (hb₀ : ∀ κ₀ ξ, (end3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁).2.2.2.1 (ix4 0 0 κ₀ ξ) = O.S n₁ 0 κ₀ ξ) (hb₁ : ∀ κ₀ ξ, (end3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁).2.2.2.2.1 (ix4 0 0 κ₀ ξ) = O.S n₁ 1 κ₀ ξ)
  (hd₀ : ∀ κ₀ ξ, (end3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁).2.2.2.2.2.1 (ix4 0 0 κ₀ ξ) = O.G n₁ 0 κ₀ ξ) (hd₁ : ∀ κ₀ ξ, (end3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁).2.2.2.2.2.2 (ix4 0 0 κ₀ ξ) = O.G n₁ 1 κ₀ ξ)
  (h12 : ∀ κ₀ ξ, v119 (ix2 κ₀ ξ) = BitVec.ofNat 32 κ₀.val) (h13 : ∀ κ₀ ξ, v120 (ix2 κ₀ ξ) = BitVec.ofNat 32 ξ.val)

include R e₁ hb₀ hb₁ hd₀ hd₁ h12 h13

set_option maxHeartbeats 4000000 in
theorem tail3_dv (z : Fin 2) (d : Fin 128) (ξ : Fin 256) :
    View.read (Elt Ideal) arg11.view (tail3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 (f9, f10, f11, b₀, b₁, d₀, d₁)).1.2.2 (ix3 z d ξ) = (View.read (Elt Ideal) arg11.view (end3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁).2.2.1 (ix3 z d ξ) : EReal) + O.C11 true 1 n₁ z d ξ := by
  unfold tail3
  dsimp only [tail3.sl.H14_4, tail3.sl.H15_4, tail3.sl.cst_261, tail3.sl.cst_283, tail3.sl.prog.body_1, tail3.sl.prog.cont_1, tail3.sl.r, tail3.sl.r_1, tail3.sl.r_2, tail3.sl.r_3, tail3.sl.r_4, tail3.sl.r_5, tail3.sl.r_6, tail3.sl.r_7, tail3.sl.r_8, tail3.sl.v227, tail3.sl.v244, tail3.sl.v256, tail3.sl.v273, tail3.sl.v285, tail3.sl.v302, tail3.sl.v314, tail3.sl.v331, tail3.sl.v343, tail3.sl.v348, tail3.sl.v355, tail3.sl.v359, tail3.sl.v360, tail3.sl.v361, tail3.sl.v362, tail3.sl.v363, tail3.sl.v364, tail3.sl.v365, tail3.sl.v366, tail3.sl.v369, tail3.sl.v371, tail3.sl.v374, tail3.sl.v375, tail3.sl.v379, tail3.sl.v380, tail3.sl.v381, tail3.sl.v384, tail3.sl.v385, tail3.sl.v386, tail3.sl.v387, tail3.sl.v392, tail3.sl.v397, tail3.sl.v405]
  refine add11 O true n₁ 1 _ _ _ rfl rfl _ _ _ _ _ _ _ _ ?_ ?_ ?_ ?_ ?_ ?_ z d ξ
  · exact (fun r x => R.g64 n₁ 0 ((off90 i).trans (by rw [e₁]; try rfl)) _ r x)
  · exact (fun r x => R.g64 n₁ 1 ((off92 i).trans (by rw [e₁]; try rfl)) _ r x)
  · exact (fun x y => head_cov (e := .bf16) _ _ _ _ _ _ 0 (O.P true n₁) (fun κ₀ ξ => (p_diag00 _ _ h12 h13 _ _ κ₀ ξ).trans (O.PD_of (by simp) (quarter_top _ _ _ _ (O.S n₁) 0 hb₀ hb₁ 0 0 κ₀ _ _ (by simp) _ _ _) (R.l8 n₁ ((off89 i).trans (by rw [e₁]; try rfl)) _ 0 _))) (fun κ₀ ξ => (p_diag01 _ _ h12 h13 _ _ κ₀ ξ).trans (O.PD_of (by simp) (quarter_top _ _ _ _ (O.S n₁) 0 hb₀ hb₁ 0 128 κ₀ _ _ (by simp) _ _ _) (R.l8 n₁ ((off89 i).trans (by rw [e₁]; try rfl)) _ 0 _))) (fun κ₀ ξ => (p_diag10 _ _ h12 h13 _ _ κ₀ ξ).trans (O.PD_of (by simp) (quarter_top _ _ _ _ (O.S n₁) 0 hb₀ hb₁ 1 0 κ₀ _ _ (by simp) _ _ _) (R.l8 n₁ ((off89 i).trans (by rw [e₁]; try rfl)) _ 1 _))) (fun κ₀ ξ => (p_diag11 _ _ h12 h13 _ _ κ₀ ξ).trans (O.PD_of (by simp) (quarter_top _ _ _ _ (O.S n₁) 0 hb₀ hb₁ 1 128 κ₀ _ _ (by simp) _ _ _) (R.l8 n₁ ((off89 i).trans (by rw [e₁]; try rfl)) _ 1 _))) x y _ _ _ _ _)
  · exact (fun x y => head_cov (e := .bf16) _ _ _ _ _ _ 1 (O.P true n₁) (fun κ₀ ξ => (p_diag00 _ _ h12 h13 _ _ κ₀ ξ).trans (O.PD_of (by simp) (quarter_top _ _ _ _ (O.S n₁) 0 hb₀ hb₁ 0 0 κ₀ _ _ (by simp) _ _ _) (R.l8 n₁ ((off89 i).trans (by rw [e₁]; try rfl)) _ 0 _))) (fun κ₀ ξ => (p_diag01 _ _ h12 h13 _ _ κ₀ ξ).trans (O.PD_of (by simp) (quarter_top _ _ _ _ (O.S n₁) 0 hb₀ hb₁ 0 128 κ₀ _ _ (by simp) _ _ _) (R.l8 n₁ ((off89 i).trans (by rw [e₁]; try rfl)) _ 0 _))) (fun κ₀ ξ => (p_diag10 _ _ h12 h13 _ _ κ₀ ξ).trans (O.PD_of (by simp) (quarter_top _ _ _ _ (O.S n₁) 0 hb₀ hb₁ 1 0 κ₀ _ _ (by simp) _ _ _) (R.l8 n₁ ((off89 i).trans (by rw [e₁]; try rfl)) _ 1 _))) (fun κ₀ ξ => (p_diag11 _ _ h12 h13 _ _ κ₀ ξ).trans (O.PD_of (by simp) (quarter_top _ _ _ _ (O.S n₁) 0 hb₀ hb₁ 1 128 κ₀ _ _ (by simp) _ _ _) (R.l8 n₁ ((off89 i).trans (by rw [e₁]; try rfl)) _ 1 _))) x y _ _ _ _ _)
  · exact fun z d r x hz hd => rows_read (N := 2) (M := 128) (W := 64) _ 1 0 _ rfl _ z hz r x d hd
  · exact fun z d r x hz hd => rows_read (N := 2) (M := 128) (W := 64) _ 1 64 _ rfl _ z hz r x d hd

set_option maxHeartbeats 4000000 in
theorem tail3_dk (z : Fin 2) (d : Fin 256) (ξ : Fin 256) :
    View.read (Elt Ideal) arg10.view (tail3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 (f9, f10, f11, b₀, b₁, d₀, d₁)).1.2.1 (ix3 z d ξ) = (View.read (Elt Ideal) arg10.view (end3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁).2.1 (ix3 z d ξ) : EReal) + O.C10 true 1 n₁ z d ξ := by
  unfold tail3
  dsimp only [tail3.sl.H14_4, tail3.sl.H15_4, tail3.sl.cst_261, tail3.sl.cst_283, tail3.sl.prog.body_1, tail3.sl.prog.cont_1, tail3.sl.r, tail3.sl.r_1, tail3.sl.r_2, tail3.sl.r_3, tail3.sl.r_4, tail3.sl.r_5, tail3.sl.r_6, tail3.sl.r_7, tail3.sl.r_8, tail3.sl.v227, tail3.sl.v244, tail3.sl.v256, tail3.sl.v273, tail3.sl.v285, tail3.sl.v302, tail3.sl.v314, tail3.sl.v331, tail3.sl.v343, tail3.sl.v348, tail3.sl.v355, tail3.sl.v359, tail3.sl.v360, tail3.sl.v361, tail3.sl.v362, tail3.sl.v363, tail3.sl.v364, tail3.sl.v365, tail3.sl.v366, tail3.sl.v369, tail3.sl.v371, tail3.sl.v374, tail3.sl.v375, tail3.sl.v379, tail3.sl.v380, tail3.sl.v381, tail3.sl.v384, tail3.sl.v385, tail3.sl.v386, tail3.sl.v387, tail3.sl.v392, tail3.sl.v397, tail3.sl.v405]
  refine add10 O true n₁ 1 _ _ _ rfl rfl _ _ _ _ _ _ _ _ ?_ ?_ ?_ ?_ ?_ ?_ z d ξ
  · exact (fun r x => R.q96 n₁ 0 ((off91 i).trans (by rw [e₁]; try rfl)) _ r x)
  · exact (fun r x => R.q96 n₁ 1 ((off93 i).trans (by rw [e₁]; try rfl)) _ r x)
  · exact (fun x y => head_cov (e := .bf16) _ _ _ _ _ _ 0 (O.W true n₁) (fun κ₀ ξ => (ds_diag00 _ _ h12 h13 _ _ _ _ κ₀ ξ).trans (O.WD_of (by simp) (quarter_top _ _ _ _ (O.S n₁) 0 hb₀ hb₁ 0 0 κ₀ _ _ (by simp) _ _ _) (R.l8 n₁ ((off89 i).trans (by rw [e₁]; try rfl)) _ 0 _) (quarter_top _ _ _ _ (O.G n₁) 0 hd₀ hd₁ 0 0 κ₀ _ _ (by simp) _ _ _) (R.d8 n₁ ((off89 i).trans (by rw [e₁]; try rfl)) _ 0 _))) (fun κ₀ ξ => (ds_diag01 _ _ h12 h13 _ _ _ _ κ₀ ξ).trans (O.WD_of (by simp) (quarter_top _ _ _ _ (O.S n₁) 0 hb₀ hb₁ 0 128 κ₀ _ _ (by simp) _ _ _) (R.l8 n₁ ((off89 i).trans (by rw [e₁]; try rfl)) _ 0 _) (quarter_top _ _ _ _ (O.G n₁) 0 hd₀ hd₁ 0 128 κ₀ _ _ (by simp) _ _ _) (R.d8 n₁ ((off89 i).trans (by rw [e₁]; try rfl)) _ 0 _))) (fun κ₀ ξ => (ds_diag10 _ _ h12 h13 _ _ _ _ κ₀ ξ).trans (O.WD_of (by simp) (quarter_top _ _ _ _ (O.S n₁) 0 hb₀ hb₁ 1 0 κ₀ _ _ (by simp) _ _ _) (R.l8 n₁ ((off89 i).trans (by rw [e₁]; try rfl)) _ 1 _) (quarter_top _ _ _ _ (O.G n₁) 0 hd₀ hd₁ 1 0 κ₀ _ _ (by simp) _ _ _) (R.d8 n₁ ((off89 i).trans (by rw [e₁]; try rfl)) _ 1 _))) (fun κ₀ ξ => (ds_diag11 _ _ h12 h13 _ _ _ _ κ₀ ξ).trans (O.WD_of (by simp) (quarter_top _ _ _ _ (O.S n₁) 0 hb₀ hb₁ 1 128 κ₀ _ _ (by simp) _ _ _) (R.l8 n₁ ((off89 i).trans (by rw [e₁]; try rfl)) _ 1 _) (quarter_top _ _ _ _ (O.G n₁) 0 hd₀ hd₁ 1 128 κ₀ _ _ (by simp) _ _ _) (R.d8 n₁ ((off89 i).trans (by rw [e₁]; try rfl)) _ 1 _))) x y _ _ _ _ _)
  · exact (fun x y => head_cov (e := .bf16) _ _ _ _ _ _ 1 (O.W true n₁) (fun κ₀ ξ => (ds_diag00 _ _ h12 h13 _ _ _ _ κ₀ ξ).trans (O.WD_of (by simp) (quarter_top _ _ _ _ (O.S n₁) 0 hb₀ hb₁ 0 0 κ₀ _ _ (by simp) _ _ _) (R.l8 n₁ ((off89 i).trans (by rw [e₁]; try rfl)) _ 0 _) (quarter_top _ _ _ _ (O.G n₁) 0 hd₀ hd₁ 0 0 κ₀ _ _ (by simp) _ _ _) (R.d8 n₁ ((off89 i).trans (by rw [e₁]; try rfl)) _ 0 _))) (fun κ₀ ξ => (ds_diag01 _ _ h12 h13 _ _ _ _ κ₀ ξ).trans (O.WD_of (by simp) (quarter_top _ _ _ _ (O.S n₁) 0 hb₀ hb₁ 0 128 κ₀ _ _ (by simp) _ _ _) (R.l8 n₁ ((off89 i).trans (by rw [e₁]; try rfl)) _ 0 _) (quarter_top _ _ _ _ (O.G n₁) 0 hd₀ hd₁ 0 128 κ₀ _ _ (by simp) _ _ _) (R.d8 n₁ ((off89 i).trans (by rw [e₁]; try rfl)) _ 0 _))) (fun κ₀ ξ => (ds_diag10 _ _ h12 h13 _ _ _ _ κ₀ ξ).trans (O.WD_of (by simp) (quarter_top _ _ _ _ (O.S n₁) 0 hb₀ hb₁ 1 0 κ₀ _ _ (by simp) _ _ _) (R.l8 n₁ ((off89 i).trans (by rw [e₁]; try rfl)) _ 1 _) (quarter_top _ _ _ _ (O.G n₁) 0 hd₀ hd₁ 1 0 κ₀ _ _ (by simp) _ _ _) (R.d8 n₁ ((off89 i).trans (by rw [e₁]; try rfl)) _ 1 _))) (fun κ₀ ξ => (ds_diag11 _ _ h12 h13 _ _ _ _ κ₀ ξ).trans (O.WD_of (by simp) (quarter_top _ _ _ _ (O.S n₁) 0 hb₀ hb₁ 1 128 κ₀ _ _ (by simp) _ _ _) (R.l8 n₁ ((off89 i).trans (by rw [e₁]; try rfl)) _ 1 _) (quarter_top _ _ _ _ (O.G n₁) 0 hd₀ hd₁ 1 128 κ₀ _ _ (by simp) _ _ _) (R.d8 n₁ ((off89 i).trans (by rw [e₁]; try rfl)) _ 1 _))) x y _ _ _ _ _)
  · exact fun z d r x hz hd => rows_read (N := 2) (M := 256) (W := 96) _ 1 0 _ rfl _ z hz r x d hd
  · exact fun z d r x hz hd => rows_read (N := 2) (M := 256) (W := 96) _ 1 128 _ rfl _ z hz r x d hd

set_option maxHeartbeats 4000000 in
theorem tail3_dq (z : Fin 16) (d : Fin 256) (ξ : Fin 256) :
    View.read (Elt Ideal) arg9.view (tail3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 (f9, f10, f11, b₀, b₁, d₀, d₁)).1.1 (ix3 z d ξ) = (View.read (Elt Ideal) arg9.view (end3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v115 v119 v120 v133 v173 v184 v186 x2 x3 x4 x5 x6 x7 x8 x16 f9 f10 f11 b₀ b₁ d₀ d₁).1 (ix3 z d ξ) : EReal) + O.C9 true n₁ z d ξ := by
  unfold tail3
  dsimp only [tail3.sl.H14_4, tail3.sl.H15_4, tail3.sl.cst_261, tail3.sl.cst_283, tail3.sl.prog.body_1, tail3.sl.prog.cont_1, tail3.sl.r, tail3.sl.r_1, tail3.sl.r_2, tail3.sl.r_3, tail3.sl.r_4, tail3.sl.r_5, tail3.sl.r_6, tail3.sl.r_7, tail3.sl.r_8, tail3.sl.v227, tail3.sl.v244, tail3.sl.v256, tail3.sl.v273, tail3.sl.v285, tail3.sl.v302, tail3.sl.v314, tail3.sl.v331, tail3.sl.v343, tail3.sl.v348, tail3.sl.v355, tail3.sl.v359, tail3.sl.v360, tail3.sl.v361, tail3.sl.v362, tail3.sl.v363, tail3.sl.v364, tail3.sl.v365, tail3.sl.v366, tail3.sl.v369, tail3.sl.v371, tail3.sl.v374, tail3.sl.v375, tail3.sl.v379, tail3.sl.v380, tail3.sl.v381, tail3.sl.v384, tail3.sl.v385, tail3.sl.v386, tail3.sl.v387, tail3.sl.v392, tail3.sl.v397, tail3.sl.v405]
  refine add9 O true n₁ _ _ _ ((off91 i).trans (by rw [e₁]; try rfl)) ((off93 i).trans (by rw [e₁]; try rfl)) _ _ _ _ _ _ _ _ ?_ ?_ ?_ ?_ ?_ ?_ z d ξ
  · exact (fun r x => R.kt96 0 rfl _ r x)
  · exact (fun r x => R.kt96 1 rfl _ r x)
  · exact (fun x y => head_cov (e := .bf16) _ _ _ _ _ _ 0 (O.W true n₁) (fun κ₀ ξ => (ds_diag00 _ _ h12 h13 _ _ _ _ κ₀ ξ).trans (O.WD_of (by simp) (quarter_top _ _ _ _ (O.S n₁) 0 hb₀ hb₁ 0 0 κ₀ _ _ (by simp) _ _ _) (R.l8 n₁ ((off89 i).trans (by rw [e₁]; try rfl)) _ 0 _) (quarter_top _ _ _ _ (O.G n₁) 0 hd₀ hd₁ 0 0 κ₀ _ _ (by simp) _ _ _) (R.d8 n₁ ((off89 i).trans (by rw [e₁]; try rfl)) _ 0 _))) (fun κ₀ ξ => (ds_diag01 _ _ h12 h13 _ _ _ _ κ₀ ξ).trans (O.WD_of (by simp) (quarter_top _ _ _ _ (O.S n₁) 0 hb₀ hb₁ 0 128 κ₀ _ _ (by simp) _ _ _) (R.l8 n₁ ((off89 i).trans (by rw [e₁]; try rfl)) _ 0 _) (quarter_top _ _ _ _ (O.G n₁) 0 hd₀ hd₁ 0 128 κ₀ _ _ (by simp) _ _ _) (R.d8 n₁ ((off89 i).trans (by rw [e₁]; try rfl)) _ 0 _))) (fun κ₀ ξ => (ds_diag10 _ _ h12 h13 _ _ _ _ κ₀ ξ).trans (O.WD_of (by simp) (quarter_top _ _ _ _ (O.S n₁) 0 hb₀ hb₁ 1 0 κ₀ _ _ (by simp) _ _ _) (R.l8 n₁ ((off89 i).trans (by rw [e₁]; try rfl)) _ 1 _) (quarter_top _ _ _ _ (O.G n₁) 0 hd₀ hd₁ 1 0 κ₀ _ _ (by simp) _ _ _) (R.d8 n₁ ((off89 i).trans (by rw [e₁]; try rfl)) _ 1 _))) (fun κ₀ ξ => (ds_diag11 _ _ h12 h13 _ _ _ _ κ₀ ξ).trans (O.WD_of (by simp) (quarter_top _ _ _ _ (O.S n₁) 0 hb₀ hb₁ 1 128 κ₀ _ _ (by simp) _ _ _) (R.l8 n₁ ((off89 i).trans (by rw [e₁]; try rfl)) _ 1 _) (quarter_top _ _ _ _ (O.G n₁) 0 hd₀ hd₁ 1 128 κ₀ _ _ (by simp) _ _ _) (R.d8 n₁ ((off89 i).trans (by rw [e₁]; try rfl)) _ 1 _))) x y _ _ _ _ _)
  · exact (fun x y => head_cov (e := .bf16) _ _ _ _ _ _ 1 (O.W true n₁) (fun κ₀ ξ => (ds_diag00 _ _ h12 h13 _ _ _ _ κ₀ ξ).trans (O.WD_of (by simp) (quarter_top _ _ _ _ (O.S n₁) 0 hb₀ hb₁ 0 0 κ₀ _ _ (by simp) _ _ _) (R.l8 n₁ ((off89 i).trans (by rw [e₁]; try rfl)) _ 0 _) (quarter_top _ _ _ _ (O.G n₁) 0 hd₀ hd₁ 0 0 κ₀ _ _ (by simp) _ _ _) (R.d8 n₁ ((off89 i).trans (by rw [e₁]; try rfl)) _ 0 _))) (fun κ₀ ξ => (ds_diag01 _ _ h12 h13 _ _ _ _ κ₀ ξ).trans (O.WD_of (by simp) (quarter_top _ _ _ _ (O.S n₁) 0 hb₀ hb₁ 0 128 κ₀ _ _ (by simp) _ _ _) (R.l8 n₁ ((off89 i).trans (by rw [e₁]; try rfl)) _ 0 _) (quarter_top _ _ _ _ (O.G n₁) 0 hd₀ hd₁ 0 128 κ₀ _ _ (by simp) _ _ _) (R.d8 n₁ ((off89 i).trans (by rw [e₁]; try rfl)) _ 0 _))) (fun κ₀ ξ => (ds_diag10 _ _ h12 h13 _ _ _ _ κ₀ ξ).trans (O.WD_of (by simp) (quarter_top _ _ _ _ (O.S n₁) 0 hb₀ hb₁ 1 0 κ₀ _ _ (by simp) _ _ _) (R.l8 n₁ ((off89 i).trans (by rw [e₁]; try rfl)) _ 1 _) (quarter_top _ _ _ _ (O.G n₁) 0 hd₀ hd₁ 1 0 κ₀ _ _ (by simp) _ _ _) (R.d8 n₁ ((off89 i).trans (by rw [e₁]; try rfl)) _ 1 _))) (fun κ₀ ξ => (ds_diag11 _ _ h12 h13 _ _ _ _ κ₀ ξ).trans (O.WD_of (by simp) (quarter_top _ _ _ _ (O.S n₁) 0 hb₀ hb₁ 1 128 κ₀ _ _ (by simp) _ _ _) (R.l8 n₁ ((off89 i).trans (by rw [e₁]; try rfl)) _ 1 _) (quarter_top _ _ _ _ (O.G n₁) 0 hd₀ hd₁ 1 128 κ₀ _ _ (by simp) _ _ _) (R.d8 n₁ ((off89 i).trans (by rw [e₁]; try rfl)) _ 1 _))) x y _ _ _ _ _)
  · exact fun z d r x hz hd => rows_read (N := 16) (M := 256) (W := 96) _ n₁.val 0 _ ((off91 i).trans (by rw [e₁]; try rfl)) _ z hz r x d hd
  · exact fun z d r x hz hd => rows_read (N := 16) (M := 256) (W := 96) _ n₁.val 128 _ ((off93 i).trans (by rw [e₁]; try rfl)) _ z hz r x d hd

end Tail3

end Cert.MlaIdeal.Hand
-- ==== Proof.MlaPoint.lean ====
module

public import proofs.«01_k».proof.Proof.MlaFrame
public import proofs.«01_k».proof.Proof.MlaLoopVal
public import proofs.«01_k».proof.Proof.MlaTail1Val
public import proofs.«01_k».proof.Proof.MlaTail3Val

/-!
# What a point adds to the attention's gradients

The first slots hold the first query block's scores and products; so each key block adds, for each query block not
before it, that block's share, the diagonal one masked.
-/

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem off1_0 : ∀ i : grid0.Coords, k0_off1 i 0#32 = ![2 * (i 1).val + 0 + 1 + 0, 0, 0] := by decide +kernel
theorem off2_0 : ∀ i : grid0.Coords, k0_off2 i 0#32 = ![2 * (i 1).val + 0 + 1 + 0, 0, 0] := by decide +kernel
theorem off3_0 : ∀ i : grid0.Coords, k0_off3 i 0#32 = ![2 * (i 1).val + 0 + 1 + 0, 128, 0] := by decide +kernel
theorem off1_1 : ∀ i : grid0.Coords, k0_off1 i 1#32 = ![if 2 * (i 1).val + 1 + 1 + 0 < 16 then 2 * (i 1).val + 1 + 1 + 0 else 2 * (i 1).val + 1, 0, 0] := by decide +kernel
theorem off2_1 : ∀ i : grid0.Coords, k0_off2 i 1#32 = ![if 2 * (i 1).val + 1 + 1 + 0 < 16 then 2 * (i 1).val + 1 + 1 + 0 else 2 * (i 1).val + 1, 0, 0] := by decide +kernel
theorem off3_1 : ∀ i : grid0.Coords, k0_off3 i 1#32 = ![if 2 * (i 1).val + 1 + 1 + 0 < 16 then 2 * (i 1).val + 1 + 1 + 0 else 2 * (i 1).val + 1, 128, 0] := by decide +kernel

/-- A head's lanes. -/
theorem lanes : ∀ l : Fin 128, IntOp.cmpi .slt (BitVec.ofNat 32 l.val) 64#32 = if l.val / 64 = 0 then 1#1 else 0#1 := by decide +kernel

theorem sel0 (l : Fin 128) (x : EReal) : Scalar.select (IntOp.cmpi .slt (BitVec.ofNat 32 l.val) 64#32) x (0 : EReal) = if l.val / 64 = (0 : Fin 2).val then x else 0 := by
  rw [lanes]
  by_cases h : l.val / 64 = 0
  · rw [if_pos h, WordCmp.select_of_eq_one rfl]; exact (if_pos h).symm
  · rw [if_neg h, WordCmp.select_of_eq_zero rfl]; exact (if_neg h).symm
theorem sel1 (l : Fin 128) (x : EReal) : Scalar.select (IntOp.cmpi .slt (BitVec.ofNat 32 l.val) 64#32) (0 : EReal) x = if l.val / 64 = (1 : Fin 2).val then x else 0 := by
  have hl := l.isLt
  rw [lanes]
  by_cases h : l.val / 64 = 0
  · rw [if_pos h, WordCmp.select_of_eq_one rfl]; exact (if_neg (show ¬l.val / 64 = 1 by omega)).symm
  · rw [if_neg h, WordCmp.select_of_eq_zero rfl]; exact (if_pos (show l.val / 64 = 1 by omega)).symm

theorem val386 (V : Vec Ideal S256x128 .bf16) (κ₀ : Fin 256) (l : Fin 128) : k0_pay386 V (ix3 0 κ₀ l) = if l.val / 64 = (0 : Fin 2).val then V (ix2 κ₀ l) else (0 : EReal) := by
  refine Eq.trans ?_ (sel0 l _)
  pointwise [k0_pay386, k0_pay385, k0_pay384]
theorem val387 (V : Vec Ideal S256x128 .bf16) (κ₀ : Fin 256) (l : Fin 128) : k0_pay387 V (ix3 0 κ₀ l) = if l.val / 64 = (1 : Fin 2).val then V (ix2 κ₀ l) else (0 : EReal) := by
  refine Eq.trans ?_ (sel1 l _)
  pointwise [k0_pay387, k0_pay385, k0_pay384]
theorem zero381 (y) : k0_pay381 (F := Ideal) y = (0 : EReal) := by pointwise [k0_pay381]
theorem zero382 (y) : k0_pay382 (F := Ideal) y = (0 : EReal) := by pointwise [k0_pay382]
theorem zero383 (y) : k0_pay383 (F := Ideal) y = (0 : EReal) := by pointwise [k0_pay383]

/-- The two heads' values, as they are stored. -/
theorem vh_read (v : View sig .tc .vmem S2x256x128 .bf16) (f : v.ty.Contents (Elt Ideal)) (p p' : Vec Ideal S1x256x128 .bf16) (V : Fin 2 → Fin 256 → Fin 128 → EReal)
    (h0 : ∀ κ₀ l, p' (ix3 0 κ₀ l) = V 0 κ₀ l) (h1 : ∀ κ₀ l, p (ix3 0 κ₀ l) = V 1 κ₀ l) (h : Fin 2) (κ₀ : Fin 256) (l : Fin 128) (i₁ i₀) :
    View.read (Elt Ideal) v (v.writes (Elt Ideal) f [⟨Rect.unit (s := S2x256x128) ![1, 0, 0] S1x256x128.size i₁, p⟩, ⟨Rect.unit (s := S2x256x128) ![0, 0, 0] S1x256x128.size i₀, p'⟩]) (ix3 h κ₀ l) = V h κ₀ l := by
  match h with
  | 0 =>
    refine (View.read_writes_cons_unit_of_not_mem v f i₁ p _ _ rfl 0 (.inl ?_)).trans ((View.read_writes_cons_unit_of_mem v f i₀ p' [] _ (ix3 (0 : Fin 1) κ₀ l) rfl ?_).trans (h0 κ₀ l))
    · show (0 : ℕ) < 1; omega
    · intro a; fin_cases a <;> simp [ix3]
  | 1 =>
    refine (View.read_writes_cons_unit_of_mem v f i₁ p _ _ (ix3 (0 : Fin 1) κ₀ l) rfl ?_).trans (h1 κ₀ l)
    intro a; fin_cases a <;> simp [ix3]

/-- The operands at a point, for its key block `b`. -/
def ops (b : Fin 2) (y2 : Vec Ideal S16x256x256 .bf16) (y3 : Vec Ideal S512x256 .bf16) (y4 : Vec Ideal S2x256x256 .bf16) (y5 : Vec Ideal S512x128 .bf16) (y6 : Vec Ideal S16x128x256 .bf16) (y7 : Vec Ideal S1x16x8x256 .f32) (y8 : Vec Ideal S1x16x8x256 .f32) : Ops where
  q n d ξ := y2 (ix3 n d ξ)
  k κ₀ d := y3 (ix2 ⟨256 * b.val + κ₀.val, by omega⟩ d)
  kt d κ₀ := y4 (ix3 b d κ₀)
  vh h κ₀ l := if l.val / 64 = h.val then y5 (ix2 ⟨256 * b.val + κ₀.val, by omega⟩ l) else 0
  g n e ξ := y6 (ix3 n e ξ)
  l n r ξ := y7 (ix4 0 n r ξ)
  d n r ξ := y8 (ix4 0 n r ξ)

/-- What query block `n` adds for the key block `j`: nothing before it, the masked share on the diagonal. -/
def pick (j : ℕ) (n : Fin 16) (D T : EReal) : EReal := if n.val = j then D else if j < n.val then T else 0

theorem sum_pick (j : ℕ) (hj : j < 16) (C : Bool → Fin 16 → EReal) (T : ℕ → EReal) (hT : ∀ (n : Fin 16) (m : ℕ), n.val = m → T m = C false n) :
    ∑ m ∈ Finset.range (15 - j), T (j + 1 + m) + C true ⟨j, hj⟩ = ∑ n : Fin 16, pick j n (C true n) (C false n) := by
  have e : ∀ n : Fin 16, pick j n (C true n) (C false n) = (fun m => if m = j then C true ⟨j, hj⟩ else if j < m then T m else 0) n.val := fun n => by
    unfold pick; dsimp only
    by_cases h : n.val = j
    · rw [if_pos h, if_pos h]; congr 1; exact Fin.ext h
    · rw [if_neg h, if_neg h]
      by_cases h' : j < n.val
      · rw [if_pos h', if_pos h', hT n _ rfl]
      · rw [if_neg h', if_neg h']
  have key : ∀ f : ℕ → EReal, ∑ m ∈ Finset.range 16, f m = (∑ m ∈ Finset.range j, f m + f j) + ∑ m ∈ Finset.range (15 - j), f (j + 1 + m) := fun f => by
    rw [show (16 : ℕ) = (j + 1) + (15 - j) by omega, Finset.sum_range_add, Finset.sum_range_succ]
  rw [Finset.sum_congr rfl fun n _ => e n, Fin.sum_univ_eq_sum_range (fun m => if m = j then C true ⟨j, hj⟩ else if j < m then T m else 0) 16,
    key, Finset.sum_eq_zero (s := Finset.range j)]
  · rw [zero_add, if_pos rfl, add_comm]
    refine congrArg _ (Finset.sum_congr rfl fun m _ => ?_)
    rw [if_neg (by omega), if_pos (by omega)]
  · intro m hm
    have := Finset.mem_range.mp hm
    rw [if_neg (by omega), if_neg (by omega)]

variable (c : Dev nD) (i : grid0.Coords) (arg2 : Memref sig .tc .vmem S16x256x256 .bf16) (harg2 : arg2.IsWhole) (arg3 : Memref sig .tc .vmem S512x256 .bf16) (harg3 : arg3.IsWhole) (arg4 : Memref sig .tc .vmem S2x256x256 .bf16) (harg4 : arg4.IsWhole) (arg5 : Memref sig .tc .vmem S512x128 .bf16) (harg5 : arg5.IsWhole) (arg6 : Memref sig .tc .vmem S16x128x256 .bf16) (harg6 : arg6.IsWhole) (arg7 : Memref sig .tc .vmem S1x16x8x256 .f32) (harg7 : arg7.IsWhole) (arg8 : Memref sig .tc .vmem S1x16x8x256 .f32) (harg8 : arg8.IsWhole) (arg9 : Memref sig .tc .vmem S16x256x256 .f32) (harg9 : arg9.IsWhole) (arg10 : Memref sig .tc .vmem S2x256x256 .f32) (harg10 : arg10.IsWhole) (arg11 : Memref sig .tc .vmem S2x128x256 .f32) (harg11 : arg11.IsWhole) (arg12 : Memref sig .tc .vmem S2x2x256x256 .f32) (harg12 : arg12.IsWhole) (arg13 : Memref sig .tc .vmem S2x2x256x256 .f32) (harg13 : arg13.IsWhole) (arg14 : Memref sig .tc .vmem S2x256x256 .bf16) (harg14 : arg14.IsWhole) (arg15 : Memref sig .tc .vmem S2x256x256 .bf16) (harg15 : arg15.IsWhole) (arg16 : Memref sig .tc .vmem S2x256x128 .bf16) (harg16 : arg16.IsWhole)

theorem values0 (y5 : Vec Ideal S512x128 .bf16) (κ₀ : Fin 256) (l : Fin 128) :
    View.readAt (Elt Ideal) arg5.view (Rect.unit (s := S512x128) ![0, 0] S256x128.size inb_S512x128_S256x128_0_0).toLoadRect (harg5.unread y5) (ix2 κ₀ l)
      = y5 (ix2 ⟨256 * (0 : Fin 2).val + κ₀.val, by omega⟩ l) :=
  (readAt_unit _ _ _ rfl _ (ix2 ⟨256 * (0 : Fin 2).val + κ₀.val, by omega⟩ l) (by intro x; fin_cases x <;> simp [ix2])).trans (congrFun (harg5.read_unread y5) _)

theorem values1 (y5 : Vec Ideal S512x128 .bf16) (κ₀ : Fin 256) (l : Fin 128) :
    View.readAt (Elt Ideal) arg5.view (Rect.unit (s := S512x128) ![256, 0] S256x128.size inb_S512x128_S256x128_256_0).toLoadRect (harg5.unread y5) (ix2 κ₀ l)
      = y5 (ix2 ⟨256 * (1 : Fin 2).val + κ₀.val, by omega⟩ l) :=
  (readAt_unit _ _ _ rfl _ (ix2 ⟨256 * (1 : Fin 2).val + κ₀.val, by omega⟩ l) (by intro x; fin_cases x <;> simp [ix2])).trans (congrFun (harg5.read_unread y5) _)

theorem reads0 (y2 : Vec Ideal S16x256x256 .bf16) (y3 : Vec Ideal S512x256 .bf16) (y4 : Vec Ideal S2x256x256 .bf16) (y5 : Vec Ideal S512x128 .bf16) (y6 : Vec Ideal S16x128x256 .bf16) (y7 : Vec Ideal S1x16x8x256 .f32) (y8 : Vec Ideal S1x16x8x256 .f32) (g : arg16.view.ty.Contents (Elt Ideal)) : (ops 0 y2 y3 y4 y5 y6 y7 y8).Reads arg2 arg3 arg4 arg6 arg7 arg8 arg16 0 (harg2.unread y2) (harg3.unread y3) (harg4.unread y4) (harg6.unread y6) (harg7.unread y7) (harg8.unread y8) (arg16.view.writes (Elt Ideal) g [⟨Rect.unit (s := S2x256x128) ![1, 0, 0] S1x256x128.size inb_S2x256x128_S1x256x128_1_0_0, k0_pay387 (View.readAt (Elt Ideal) arg5.view (Rect.unit (s := S512x128) ![0, 0] S256x128.size inb_S512x128_S256x128_0_0).toLoadRect (harg5.unread y5))⟩, ⟨Rect.unit (s := S2x256x128) ![0, 0, 0] S1x256x128.size inb_S2x256x128_S1x256x128_0_0_0, k0_pay386 (View.readAt (Elt Ideal) arg5.view (Rect.unit (s := S512x128) ![0, 0] S256x128.size inb_S512x128_S256x128_0_0).toLoadRect (harg5.unread y5))⟩]) where
  q n d ξ := congrFun (harg2.read_unread y2) _
  k κ₀ d := congrFun (harg3.read_unread y3) _
  kt d κ₀ := congrFun (harg4.read_unread y4) _
  g n e ξ := congrFun (harg6.read_unread y6) _
  l n r ξ := congrFun (harg7.read_unread y7) _
  d n r ξ := congrFun (harg8.read_unread y8) _
  vh h κ₀ l := (vh_read arg16.view _ _ _ (fun h κ₀ l => if l.val / 64 = h.val then y5 (ix2 ⟨256 * (0 : Fin 2).val + κ₀.val, by omega⟩ l) else 0)
    (fun κ₀ l => (val386 _ κ₀ l).trans (congrArg (fun x : EReal => if l.val / 64 = (0 : Fin 2).val then x else 0) (values0 arg5 harg5 y5 κ₀ l)))
    (fun κ₀ l => (val387 _ κ₀ l).trans (congrArg (fun x : EReal => if l.val / 64 = (1 : Fin 2).val then x else 0) (values0 arg5 harg5 y5 κ₀ l))) h κ₀ l _ _)

theorem reads1 (y2 : Vec Ideal S16x256x256 .bf16) (y3 : Vec Ideal S512x256 .bf16) (y4 : Vec Ideal S2x256x256 .bf16) (y5 : Vec Ideal S512x128 .bf16) (y6 : Vec Ideal S16x128x256 .bf16) (y7 : Vec Ideal S1x16x8x256 .f32) (y8 : Vec Ideal S1x16x8x256 .f32) (x16 : arg16.view.ty.Contents (Elt Ideal)) (f9 : arg9.view.ty.Contents (Elt Ideal)) (f10 : arg10.view.ty.Contents (Elt Ideal)) (f11 : arg11.view.ty.Contents (Elt Ideal)) : (ops 1 y2 y3 y4 y5 y6 y7 y8).Reads arg2 arg3 arg4 arg6 arg7 arg8 arg16 1 (harg2.unread y2) (harg3.unread y3) (harg4.unread y4) (harg6.unread y6) (harg7.unread y7) (harg8.unread y8) (fill (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread y2) (harg3.unread y3) (harg4.unread y4) (harg5.unread y5) (harg6.unread y6) (harg7.unread y7) (harg8.unread y8) x16 f9 f10 f11).1 where
  q n d ξ := congrFun (harg2.read_unread y2) _
  k κ₀ d := congrFun (harg3.read_unread y3) _
  kt d κ₀ := congrFun (harg4.read_unread y4) _
  g n e ξ := congrFun (harg6.read_unread y6) _
  l n r ξ := congrFun (harg7.read_unread y7) _
  d n r ξ := congrFun (harg8.read_unread y8) _
  vh h κ₀ l := by
    unfold fill mid97
    exact (vh_read arg16.view _ _ _ (fun h κ₀ l => if l.val / 64 = h.val then y5 (ix2 ⟨256 * (1 : Fin 2).val + κ₀.val, by omega⟩ l) else 0)
    (fun κ₀ l => (val386 _ κ₀ l).trans (congrArg (fun x : EReal => if l.val / 64 = (0 : Fin 2).val then x else 0) (values1 arg5 harg5 y5 κ₀ l)))
    (fun κ₀ l => (val387 _ κ₀ l).trans (congrArg (fun x : EReal => if l.val / 64 = (1 : Fin 2).val then x else 0) (values1 arg5 harg5 y5 κ₀ l))) h κ₀ l _ _)

/-- The first key block's state where its loop has ended. -/
theorem at_end1 (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (f9 : arg9.view.ty.Contents (Elt Ideal)) (f10 : arg10.view.ty.Contents (Elt Ideal)) (f11 : arg11.view.ty.Contents (Elt Ideal)) (O : Ops) (R : O.Reads arg2 arg3 arg4 arg6 arg7 arg8 arg16 0 x2 x3 x4 x6 x7 x8 x16) :
    let h := (head94 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 0#32) (Scalar.cmpi .sgt (Scalar.subi 15#32 (Scalar.addi (Scalar.muli 2#32 (BitVec.ofNat 32 (i 1).val)) 0#32)) 0#32) x2 x3 x4 x5 x6 x7 x8 x16 f9 f10 f11).1
    Made arg9 arg10 arg11 O 0 (2 * (i 1).val + 0) (2 * (7 - (i 1).val)) f9 f10 f11 (head95 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 0#32) (Scalar.subi 15#32 (Scalar.addi (Scalar.muli 2#32 (BitVec.ofNat 32 (i 1).val)) 0#32)) h.1.1 h.1.2 x2 x3 x4 x5 x6 x7 x8 x16 f9 f10 f11 h.2.1 h.2.2).1 := by
  intro h
  have e : (head95 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 0#32) (Scalar.subi 15#32 (Scalar.addi (Scalar.muli 2#32 (BitVec.ofNat 32 (i 1).val)) 0#32)) h.1.1 h.1.2 x2 x3 x4 x5 x6 x7 x8 x16 f9 f10 f11 h.2.1 h.2.2).1 = end1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 0#32) (Scalar.subi 15#32 (Scalar.addi (Scalar.muli 2#32 (BitVec.ofNat 32 (i 1).val)) 0#32)) h.1.1 h.1.2 x2 x3 x4 x5 x6 x7 x8 x16 f9 f10 f11 h.2.1 h.1.2 h.2.2 (k0_pay391 (View.readAt (Elt Ideal) arg16.view (Rect.unit (s := S2x256x128) ![1, 0, 0] S1x256x128.size inb_S2x256x128_S1x256x128_1_0_0).toLoadRect x16) (View.readAt (Elt Ideal) arg6.view (Rect.unit (s := S16x128x256) (k0_off2 i 0#32) S1x128x256.size (k0_off2_inb i 0)).toLoadRect x6)) := by
    unfold head95; rfl
  rw [e]
  refine made_end1 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ x2 x3 x4 x5 x6 x7 x8 x16 f9 f10 f11 _ _ _ _ O R fun n hn => ?_
  have hi := i1_lt i
  have hn : n.val = 2 * (i 1).val + 0 + 1 + 0 := by rw [hn, if_pos (by omega)]
  have o1 : k0_off1 i 0#32 = ![n.val, 128 * (0 : Fin 2).val, 0] := by rw [hn]; exact off1_0 i
  have o2 : k0_off2 i 0#32 = ![n.val, 0, 0] := by rw [hn]; exact off2_0 i
  have o3 : k0_off3 i 0#32 = ![n.val, 128 * (1 : Fin 2).val, 0] := by rw [hn]; exact off3_0 i
  refine ⟨fun κ₀ ξ => ?_, fun κ₀ ξ => ?_, fun κ₀ ξ => ?_, fun κ₀ ξ => R.prod n 1 o2 rfl _ _ κ₀ ξ⟩
  · simp only [h]; unfold head94; exact R.score n 0 o1 rfl _ _ κ₀ ξ
  · simp only [h]; unfold head94; exact R.score n 1 o3 rfl _ _ κ₀ ξ
  · simp only [h]; unfold head94; exact R.prod n 0 o2 rfl _ _ κ₀ ξ

theorem iota_row (κ₀ ξ) (h : ξ = ξ) : iota .tc S256x128 32 [0] iota_S256x128_d0_w32 (ix2 κ₀ ξ) = BitVec.ofNat 32 κ₀.val := by pointwise
theorem iota_col (κ₀ ξ) (h : ξ = ξ) : iota .tc S256x128 32 [1] iota_S256x128_d1_w32 (ix2 κ₀ ξ) = BitVec.ofNat 32 ξ.val := by pointwise

theorem half1_dq (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (f9 : arg9.view.ty.Contents (Elt Ideal)) (f10 : arg10.view.ty.Contents (Elt Ideal)) (f11 : arg11.view.ty.Contents (Elt Ideal)) (O : Ops) (R : O.Reads arg2 arg3 arg4 arg6 arg7 arg8 arg16 0 x2 x3 x4 x6 x7 x8 x16) (z : Fin 16) (d ξ : Fin 256) :
    View.read (Elt Ideal) arg9.view (half1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).1 (ix3 z d ξ) = (View.read (Elt Ideal) arg9.view f9 (ix3 z d ξ) : EReal) + ∑ n : Fin 16, pick (2 * (i 1).val + 0) n (O.C9 true n z d ξ) (O.C9 false n z d ξ) := by
  have hi := i1_lt i
  have M := at_end1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11 O R
  dsimp only at M
  have Sl := M.slots ⟨15, by omega⟩ (by rw [if_pos (by omega)]; show 15 = _; omega)
  unfold half1; dsimp only
  refine (tail1_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x2 x3 x4 x5 x6 x7 x8 x16 _ _ _ _ _ _ _ O R ⟨15, by omega⟩ rfl ⟨2 * (i 1).val + 0, by omega⟩ rfl Sl.b₀ Sl.b₁ Sl.d₀ Sl.d₁
    (fun κ₀ ξ => iota_row κ₀ ξ rfl) (fun κ₀ ξ => iota_col κ₀ ξ rfl) z d ξ).trans ?_
  rw [M.dq, ← sum_pick (2 * (i 1).val + 0) (by omega) (fun g n => O.C9 g n z d ξ) (fun m => O.T9 m z d ξ) (fun n m e => O.T9_of n m e z d ξ),
    show 15 - (2 * (i 1).val + 0) = 2 * (7 - (i 1).val) + 1 by omega, Finset.sum_range_succ, O.T9_of ⟨15, by omega⟩ _ (show 15 = _ by omega) z d ξ, add_assoc]
  simp only [add_assoc]

theorem half1_dk (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (f9 : arg9.view.ty.Contents (Elt Ideal)) (f10 : arg10.view.ty.Contents (Elt Ideal)) (f11 : arg11.view.ty.Contents (Elt Ideal)) (O : Ops) (R : O.Reads arg2 arg3 arg4 arg6 arg7 arg8 arg16 0 x2 x3 x4 x6 x7 x8 x16) (z : Fin 2) (d ξ : Fin 256) :
    View.read (Elt Ideal) arg10.view (half1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).2.1 (ix3 z d ξ) = (View.read (Elt Ideal) arg10.view f10 (ix3 z d ξ) : EReal) + ∑ n : Fin 16, pick (2 * (i 1).val + 0) n (O.C10 true 0 n z d ξ) (O.C10 false 0 n z d ξ) := by
  have hi := i1_lt i
  have M := at_end1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11 O R
  dsimp only at M
  have Sl := M.slots ⟨15, by omega⟩ (by rw [if_pos (by omega)]; show 15 = _; omega)
  unfold half1; dsimp only
  refine (tail1_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x2 x3 x4 x5 x6 x7 x8 x16 _ _ _ _ _ _ _ O R ⟨15, by omega⟩ rfl ⟨2 * (i 1).val + 0, by omega⟩ rfl Sl.b₀ Sl.b₁ Sl.d₀ Sl.d₁
    (fun κ₀ ξ => iota_row κ₀ ξ rfl) (fun κ₀ ξ => iota_col κ₀ ξ rfl) z d ξ).trans ?_
  rw [M.dk, ← sum_pick (2 * (i 1).val + 0) (by omega) (fun g n => O.C10 g 0 n z d ξ) (fun m => O.T10 0 m z d ξ) (fun n m e => O.T10_of 0 n m e z d ξ),
    show 15 - (2 * (i 1).val + 0) = 2 * (7 - (i 1).val) + 1 by omega, Finset.sum_range_succ, O.T10_of 0 ⟨15, by omega⟩ _ (show 15 = _ by omega) z d ξ, add_assoc]
  simp only [add_assoc]

theorem half1_dv (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (f9 : arg9.view.ty.Contents (Elt Ideal)) (f10 : arg10.view.ty.Contents (Elt Ideal)) (f11 : arg11.view.ty.Contents (Elt Ideal)) (O : Ops) (R : O.Reads arg2 arg3 arg4 arg6 arg7 arg8 arg16 0 x2 x3 x4 x6 x7 x8 x16) (z : Fin 2) (d : Fin 128) (ξ : Fin 256) :
    View.read (Elt Ideal) arg11.view (half1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).2.2 (ix3 z d ξ) = (View.read (Elt Ideal) arg11.view f11 (ix3 z d ξ) : EReal) + ∑ n : Fin 16, pick (2 * (i 1).val + 0) n (O.C11 true 0 n z d ξ) (O.C11 false 0 n z d ξ) := by
  have hi := i1_lt i
  have M := at_end1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11 O R
  dsimp only at M
  have Sl := M.slots ⟨15, by omega⟩ (by rw [if_pos (by omega)]; show 15 = _; omega)
  unfold half1; dsimp only
  refine (tail1_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x2 x3 x4 x5 x6 x7 x8 x16 _ _ _ _ _ _ _ O R ⟨15, by omega⟩ rfl ⟨2 * (i 1).val + 0, by omega⟩ rfl Sl.b₀ Sl.b₁ Sl.d₀ Sl.d₁
    (fun κ₀ ξ => iota_row κ₀ ξ rfl) (fun κ₀ ξ => iota_col κ₀ ξ rfl) z d ξ).trans ?_
  rw [M.dv, ← sum_pick (2 * (i 1).val + 0) (by omega) (fun g n => O.C11 g 0 n z d ξ) (fun m => O.T11 0 m z d ξ) (fun n m e => O.T11_of 0 n m e z d ξ),
    show 15 - (2 * (i 1).val + 0) = 2 * (7 - (i 1).val) + 1 by omega, Finset.sum_range_succ, O.T11_of 0 ⟨15, by omega⟩ _ (show 15 = _ by omega) z d ξ, add_assoc]
  simp only [add_assoc]

/-- The second key block's state where its loop has ended. -/
theorem at_end3 (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (f9 : arg9.view.ty.Contents (Elt Ideal)) (f10 : arg10.view.ty.Contents (Elt Ideal)) (f11 : arg11.view.ty.Contents (Elt Ideal)) (O : Ops) (R : O.Reads arg2 arg3 arg4 arg6 arg7 arg8 arg16 1 x2 x3 x4 x6 x7 x8 (fill (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).1) :
    let m := (fill (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11)
    let s := (mid98 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 m.2.2.1 m.2.2.2.1 m.2.2.2.2 x2 x3 x4 x5 x6 x7 x8 m.1 f9 f10 f11 m.2.1).1
    Made arg9 arg10 arg11 O 1 (2 * (i 1).val + 1) (2 * (7 - (i 1).val)) f9 f10 f11 (end3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi (Scalar.muli 2#32 (BitVec.ofNat 32 (i 1).val)) 1#32) (iota .tc S256x128 32 [0] iota_S256x128_d0_w32) (iota .tc S256x128 32 [1] iota_S256x128_d1_w32) m.2.2.1 s.2.1 s.2.2.1 s.2.2.2 x2 x3 x4 x5 x6 x7 x8 m.1 s.1.1 s.1.2.1 s.1.2.2.1 s.1.2.2.2.1 s.1.2.2.2.2.1 s.1.2.2.2.2.2.1 s.1.2.2.2.2.2.2) := by
  intro m s
  have hs : s.1.1 = f9 ∧ s.1.2.1 = f10 ∧ s.1.2.2.1 = f11 := by simp only [s]; unfold mid98; exact ⟨rfl, rfl, rfl⟩
  rw [hs.1, hs.2.1, hs.2.2]
  refine made_end3 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x2 x3 x4 x5 x6 x7 x8 m.1 f9 f10 f11 _ _ _ _ O R fun n hn => ?_
  have hi := i1_lt i
  have o1 : k0_off1 i 1#32 = ![n.val, 128 * (0 : Fin 2).val, 0] := by rw [hn]; exact off1_1 i
  have o2 : k0_off2 i 1#32 = ![n.val, 0, 0] := by rw [hn]; exact off2_1 i
  have o3 : k0_off3 i 1#32 = ![n.val, 128 * (1 : Fin 2).val, 0] := by rw [hn]; exact off3_1 i
  refine ⟨fun κ₀ ξ => ?_, fun κ₀ ξ => ?_, fun κ₀ ξ => ?_, fun κ₀ ξ => ?_⟩
  · have q := R.score n 0 o1 (e' := rfl) (k0_off1_inb i 1) inb_S512x256_S256x128_256_0 κ₀ ξ
    simp only [s, m]; unfold mid98 fill mid97; exact q
  · have q := R.score n 1 o3 (e' := rfl) (k0_off3_inb i 1) inb_S512x256_S256x128_256_128 κ₀ ξ
    simp only [s, m]; unfold mid98; exact q
  · have q := R.prod n 0 o2 (e' := rfl) (k0_off2_inb i 1) inb_S2x256x128_S1x256x128_0_0_0 κ₀ ξ
    unfold fill mid97 at q
    dsimp only at q
    rw [both16 arg16 harg16 x16 arg16.view.junk] at q
    simp only [s, m]; unfold mid98 fill mid97; dsimp only [mid97.sl.v146, mid97.sl.H16_2, View.readCov] at q ⊢; exact q
  · have q := R.prod n 1 o2 (e' := rfl) (k0_off2_inb i 1) inb_S2x256x128_S1x256x128_1_0_0 κ₀ ξ
    simp only [s, m]; unfold mid98; exact q

theorem half2_dq (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (f9 : arg9.view.ty.Contents (Elt Ideal)) (f10 : arg10.view.ty.Contents (Elt Ideal)) (f11 : arg11.view.ty.Contents (Elt Ideal)) (O : Ops) (R : O.Reads arg2 arg3 arg4 arg6 arg7 arg8 arg16 1 x2 x3 x4 x6 x7 x8 (fill (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).1) (z : Fin 16) (d ξ : Fin 256) :
    View.read (Elt Ideal) arg9.view (half2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).1 (ix3 z d ξ) = (View.read (Elt Ideal) arg9.view f9 (ix3 z d ξ) : EReal) + ∑ n : Fin 16, pick (2 * (i 1).val + 1) n (O.C9 true n z d ξ) (O.C9 false n z d ξ) := by
  have hi := i1_lt i
  have M := at_end3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11 O R
  dsimp only at M
  have Sl := M.slots ⟨2 * (i 1).val + 1, by omega⟩ (by rw [if_neg (by omega)])
  unfold half2; dsimp only
  refine (tail3_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x2 x3 x4 x5 x6 x7 x8 _ _ _ _ _ _ _ _ O R ⟨2 * (i 1).val + 1, by omega⟩ rfl Sl.b₀ Sl.b₁ Sl.d₀ Sl.d₁
    (fun κ₀ ξ => iota_row κ₀ ξ rfl) (fun κ₀ ξ => iota_col κ₀ ξ rfl) z d ξ).trans ?_
  rw [M.dq, ← sum_pick (2 * (i 1).val + 1) (by omega) (fun g n => O.C9 g n z d ξ) (fun m => O.T9 m z d ξ) (fun n m e => O.T9_of n m e z d ξ),
    show 15 - (2 * (i 1).val + 1) = 2 * (7 - (i 1).val) by omega, add_assoc]

/-- What a point adds. -/
theorem point_dq (y2 : Vec Ideal S16x256x256 .bf16) (y3 : Vec Ideal S512x256 .bf16) (y4 : Vec Ideal S2x256x256 .bf16) (y5 : Vec Ideal S512x128 .bf16) (y6 : Vec Ideal S16x128x256 .bf16) (y7 : Vec Ideal S1x16x8x256 .f32) (y8 : Vec Ideal S1x16x8x256 .f32) (s : Vec Ideal S16x256x256 .f32) (z : Fin 16) (d ξ : Fin 256) :
    View.read (Elt Ideal) arg9.view (point (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 y2 y3 y4 y5 y6 y7 y8 s).1 (ix3 z d ξ) = (s (ix3 z d ξ) : EReal) + ∑ n : Fin 16, pick (2 * (i 1).val + 0) n ((ops 0 y2 y3 y4 y5 y6 y7 y8).C9 true n z d ξ) ((ops 0 y2 y3 y4 y5 y6 y7 y8).C9 false n z d ξ) + ∑ n : Fin 16, pick (2 * (i 1).val + 1) n ((ops 1 y2 y3 y4 y5 y6 y7 y8).C9 true n z d ξ) ((ops 1 y2 y3 y4 y5 y6 y7 y8).C9 false n z d ξ) := by
  unfold point; dsimp only
  refine (half2_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread y2) (harg3.unread y3) (harg4.unread y4) (harg5.unread y5) (harg6.unread y6) (harg7.unread y7) (harg8.unread y8) _ _ _ _ (ops 1 y2 y3 y4 y5 y6 y7 y8) (reads1 c i arg2 harg2 arg3 harg3 arg4 harg4 arg5 harg5 arg6 harg6 arg7 harg7 arg8 harg8 arg9 harg9 arg10 harg10 arg11 harg11 arg12 harg12 arg13 harg13 arg14 harg14 arg15 harg15 arg16 harg16 y2 y3 y4 y5 y6 y7 y8 _ _ _ _) z d ξ).trans ?_
  rw [half1_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread y2) (harg3.unread y3) (harg4.unread y4) (harg5.unread y5) (harg6.unread y6) (harg7.unread y7) (harg8.unread y8) _ _ _ _ (ops 0 y2 y3 y4 y5 y6 y7 y8) (by apply reads0) z d ξ]
  rw [congrFun (harg9.read_unread s) _]

theorem half2_dk (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (f9 : arg9.view.ty.Contents (Elt Ideal)) (f10 : arg10.view.ty.Contents (Elt Ideal)) (f11 : arg11.view.ty.Contents (Elt Ideal)) (O : Ops) (R : O.Reads arg2 arg3 arg4 arg6 arg7 arg8 arg16 1 x2 x3 x4 x6 x7 x8 (fill (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).1) (z : Fin 2) (d ξ : Fin 256) :
    View.read (Elt Ideal) arg10.view (half2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).2.1 (ix3 z d ξ) = (View.read (Elt Ideal) arg10.view f10 (ix3 z d ξ) : EReal) + ∑ n : Fin 16, pick (2 * (i 1).val + 1) n (O.C10 true 1 n z d ξ) (O.C10 false 1 n z d ξ) := by
  have hi := i1_lt i
  have M := at_end3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11 O R
  dsimp only at M
  have Sl := M.slots ⟨2 * (i 1).val + 1, by omega⟩ (by rw [if_neg (by omega)])
  unfold half2; dsimp only
  refine (tail3_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x2 x3 x4 x5 x6 x7 x8 _ _ _ _ _ _ _ _ O R ⟨2 * (i 1).val + 1, by omega⟩ rfl Sl.b₀ Sl.b₁ Sl.d₀ Sl.d₁
    (fun κ₀ ξ => iota_row κ₀ ξ rfl) (fun κ₀ ξ => iota_col κ₀ ξ rfl) z d ξ).trans ?_
  rw [M.dk, ← sum_pick (2 * (i 1).val + 1) (by omega) (fun g n => O.C10 g 1 n z d ξ) (fun m => O.T10 1 m z d ξ) (fun n m e => O.T10_of 1 n m e z d ξ),
    show 15 - (2 * (i 1).val + 1) = 2 * (7 - (i 1).val) by omega, add_assoc]

/-- What a point adds. -/
theorem point_dk (y2 : Vec Ideal S16x256x256 .bf16) (y3 : Vec Ideal S512x256 .bf16) (y4 : Vec Ideal S2x256x256 .bf16) (y5 : Vec Ideal S512x128 .bf16) (y6 : Vec Ideal S16x128x256 .bf16) (y7 : Vec Ideal S1x16x8x256 .f32) (y8 : Vec Ideal S1x16x8x256 .f32) (s : Vec Ideal S16x256x256 .f32) (z : Fin 2) (d ξ : Fin 256) :
    View.read (Elt Ideal) arg10.view (point (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 y2 y3 y4 y5 y6 y7 y8 s).2.1 (ix3 z d ξ) = ∑ n : Fin 16, pick (2 * (i 1).val + 0) n ((ops 0 y2 y3 y4 y5 y6 y7 y8).C10 true 0 n z d ξ) ((ops 0 y2 y3 y4 y5 y6 y7 y8).C10 false 0 n z d ξ) + ∑ n : Fin 16, pick (2 * (i 1).val + 1) n ((ops 1 y2 y3 y4 y5 y6 y7 y8).C10 true 1 n z d ξ) ((ops 1 y2 y3 y4 y5 y6 y7 y8).C10 false 1 n z d ξ) := by
  unfold point; dsimp only
  refine (half2_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread y2) (harg3.unread y3) (harg4.unread y4) (harg5.unread y5) (harg6.unread y6) (harg7.unread y7) (harg8.unread y8) _ _ _ _ (ops 1 y2 y3 y4 y5 y6 y7 y8) (reads1 c i arg2 harg2 arg3 harg3 arg4 harg4 arg5 harg5 arg6 harg6 arg7 harg7 arg8 harg8 arg9 harg9 arg10 harg10 arg11 harg11 arg12 harg12 arg13 harg13 arg14 harg14 arg15 harg15 arg16 harg16 y2 y3 y4 y5 y6 y7 y8 _ _ _ _) z d ξ).trans ?_
  rw [half1_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread y2) (harg3.unread y3) (harg4.unread y4) (harg5.unread y5) (harg6.unread y6) (harg7.unread y7) (harg8.unread y8) _ _ _ _ (ops 0 y2 y3 y4 y5 y6 y7 y8) (by apply reads0) z d ξ]
  rw [show View.read (Elt Ideal) arg10.view (harg10.unread (k0_pay382 (F := Ideal))) (ix3 z d ξ) = (0 : EReal) from (congrFun (harg10.read_unread (Val := Elt Ideal) (k0_pay382 (F := Ideal))) (ix3 z d ξ)).trans (zero382 _)]; exact congrArg (· + _) (zero_add _)

theorem half2_dv (x2 : arg2.view.ty.Contents (Elt Ideal)) (x3 : arg3.view.ty.Contents (Elt Ideal)) (x4 : arg4.view.ty.Contents (Elt Ideal)) (x5 : arg5.view.ty.Contents (Elt Ideal)) (x6 : arg6.view.ty.Contents (Elt Ideal)) (x7 : arg7.view.ty.Contents (Elt Ideal)) (x8 : arg8.view.ty.Contents (Elt Ideal)) (x16 : arg16.view.ty.Contents (Elt Ideal)) (f9 : arg9.view.ty.Contents (Elt Ideal)) (f10 : arg10.view.ty.Contents (Elt Ideal)) (f11 : arg11.view.ty.Contents (Elt Ideal)) (O : Ops) (R : O.Reads arg2 arg3 arg4 arg6 arg7 arg8 arg16 1 x2 x3 x4 x6 x7 x8 (fill (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).1) (z : Fin 2) (d : Fin 128) (ξ : Fin 256) :
    View.read (Elt Ideal) arg11.view (half2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11).2.2 (ix3 z d ξ) = (View.read (Elt Ideal) arg11.view f11 (ix3 z d ξ) : EReal) + ∑ n : Fin 16, pick (2 * (i 1).val + 1) n (O.C11 true 1 n z d ξ) (O.C11 false 1 n z d ξ) := by
  have hi := i1_lt i
  have M := at_end3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x16 f9 f10 f11 O R
  dsimp only at M
  have Sl := M.slots ⟨2 * (i 1).val + 1, by omega⟩ (by rw [if_neg (by omega)])
  unfold half2; dsimp only
  refine (tail3_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x2 x3 x4 x5 x6 x7 x8 _ _ _ _ _ _ _ _ O R ⟨2 * (i 1).val + 1, by omega⟩ rfl Sl.b₀ Sl.b₁ Sl.d₀ Sl.d₁
    (fun κ₀ ξ => iota_row κ₀ ξ rfl) (fun κ₀ ξ => iota_col κ₀ ξ rfl) z d ξ).trans ?_
  rw [M.dv, ← sum_pick (2 * (i 1).val + 1) (by omega) (fun g n => O.C11 g 1 n z d ξ) (fun m => O.T11 1 m z d ξ) (fun n m e => O.T11_of 1 n m e z d ξ),
    show 15 - (2 * (i 1).val + 1) = 2 * (7 - (i 1).val) by omega, add_assoc]

/-- What a point adds. -/
theorem point_dv (y2 : Vec Ideal S16x256x256 .bf16) (y3 : Vec Ideal S512x256 .bf16) (y4 : Vec Ideal S2x256x256 .bf16) (y5 : Vec Ideal S512x128 .bf16) (y6 : Vec Ideal S16x128x256 .bf16) (y7 : Vec Ideal S1x16x8x256 .f32) (y8 : Vec Ideal S1x16x8x256 .f32) (s : Vec Ideal S16x256x256 .f32) (z : Fin 2) (d : Fin 128) (ξ : Fin 256) :
    View.read (Elt Ideal) arg11.view (point (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 y2 y3 y4 y5 y6 y7 y8 s).2.2 (ix3 z d ξ) = ∑ n : Fin 16, pick (2 * (i 1).val + 0) n ((ops 0 y2 y3 y4 y5 y6 y7 y8).C11 true 0 n z d ξ) ((ops 0 y2 y3 y4 y5 y6 y7 y8).C11 false 0 n z d ξ) + ∑ n : Fin 16, pick (2 * (i 1).val + 1) n ((ops 1 y2 y3 y4 y5 y6 y7 y8).C11 true 1 n z d ξ) ((ops 1 y2 y3 y4 y5 y6 y7 y8).C11 false 1 n z d ξ) := by
  unfold point; dsimp only
  refine (half2_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread y2) (harg3.unread y3) (harg4.unread y4) (harg5.unread y5) (harg6.unread y6) (harg7.unread y7) (harg8.unread y8) _ _ _ _ (ops 1 y2 y3 y4 y5 y6 y7 y8) (reads1 c i arg2 harg2 arg3 harg3 arg4 harg4 arg5 harg5 arg6 harg6 arg7 harg7 arg8 harg8 arg9 harg9 arg10 harg10 arg11 harg11 arg12 harg12 arg13 harg13 arg14 harg14 arg15 harg15 arg16 harg16 y2 y3 y4 y5 y6 y7 y8 _ _ _ _) z d ξ).trans ?_
  rw [half1_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread y2) (harg3.unread y3) (harg4.unread y4) (harg5.unread y5) (harg6.unread y6) (harg7.unread y7) (harg8.unread y8) _ _ _ _ (ops 0 y2 y3 y4 y5 y6 y7 y8) (by apply reads0) z d ξ]
  rw [show View.read (Elt Ideal) arg11.view (harg11.unread (k0_pay383 (F := Ideal))) (ix3 z d ξ) = (0 : EReal) from (congrFun (harg11.read_unread (Val := Elt Ideal) (k0_pay383 (F := Ideal))) (ix3 z d ξ)).trans (zero383 _)]; exact congrArg (· + _) (zero_add _)

end Cert.MlaIdeal.Hand

end
-- ==== Proof.MlaArr.lean ====
module

public import proofs.«01_k».proof.Proof.MlaPoint
public import proofs.«01_k».proof.Proof.MlaMath
public import Idealize.ShloMosaic.Lib.Pipeline.ValueKit
public import Idealize.ShloMosaic.Lib.Claim

/-!
# The arrays the attention's gradient leaves

Point `8·hp + i` runs for the heads `2·hp` and `2·hp + 1` over the key blocks `2·i` and `2·i + 1`. The keys' and the
values' gradients of those blocks are whole after the point; the queries' gradient of the two heads is summed over the
eight points of a pair.
-/

@[expose] public section

set_option maxRecDepth 16384

noncomputable section

namespace Cert.MlaIdeal.Hand

open Cert.MlaIdeal Cert.MlaIdeal.Gen
open Idealize.ShloMosaic Idealize.ShloMosaic.TcCoe Idealize.SL.Sem
open Idealize.ShloMosaic.Pipeline (Dat)

theorem idx : ∀ t : Fin cfg0.N, win0_0.index t = ![0, t.val / 8, 0]
    ∧ win0_1.index t = ![t.val % 8, t.val / 8]
    ∧ win0_2.index t = ![t.val % 8, t.val / 8, 0]
    ∧ win0_3.index t = ![t.val % 8, t.val / 8]
    ∧ win0_4.index t = ![0, t.val / 8, 0]
    ∧ win0_5.index t = ![t.val / 8, 0, 0, 0]
    ∧ win0_6.index t = ![t.val / 8, 0, 0, 0]
    ∧ win0_7.index t = ![0, t.val / 8, 0]
    ∧ win0_8.index t = ![t.val % 8, t.val / 8, 0]
    ∧ win0_9.index t = ![t.val % 8, t.val / 8, 0] :=
  (by decide +kernel : ∀ t : Fin grid0.N, _)

/-- A point's second coordinate. -/
theorem coord1 : ∀ t : Fin cfg0.N, ((grid0.coords t) 1).val = t.val % 8 :=
  (by decide +kernel : ∀ t : Fin grid0.N, _)

theorem lt64 (t : Fin cfg0.N) : t.val < 64 := lt_of_lt_of_eq t.isLt N_0

/-- A point's pair of heads, and the two key blocks of its step. -/
def pair (t : Fin cfg0.N) : Fin 8 := ⟨t.val / 8, by have := lt64 t; omega⟩
def kblk (t : Fin cfg0.N) (b : Fin 2) : Fin 16 := ⟨2 * (t.val % 8) + b.val, by omega⟩

variable (m : (ℓ : Loc nD τ sig) → Buf (Elt Ideal) ℓ)

/-- What the region finds, where the arguments are real. -/
structure Found (c : Dev nD) (Q K : Fin 4096 → Fin 16 → Fin 96 → ℝ) (V₀ G : Fin 4096 → Fin 16 → Fin 64 → ℝ) : Prop where
  q : ∀ (n : Fin 16) (D : Fin 2048) (ξ : Fin 256), (V m c main_v49 : Vec Ideal S16x2048x256 .bf16) (ix3 n D ξ) = (pad Q (row n ξ) ⟨D.val / 128, by omega⟩ ⟨D.val % 128, by omega⟩ : EReal)
  k : ∀ (t : Fin 4096) (D : Fin 2048), (V m c main_v3 : Vec Ideal S4096x2048 .bf16) (ix2 t D) = (pad K t ⟨D.val / 128, by omega⟩ ⟨D.val % 128, by omega⟩ : EReal)
  kt : ∀ (n : Fin 16) (D : Fin 2048) (ξ : Fin 256), (V m c main_v54 : Vec Ideal S16x2048x256 .bf16) (ix3 n D ξ) = (pad K (row n ξ) ⟨D.val / 128, by omega⟩ ⟨D.val % 128, by omega⟩ : EReal)
  v : ∀ (t : Fin 4096) (D : Fin 1024), (V m c main_v5 : Vec Ideal S4096x1024 .bf16) (ix2 t D) = (V₀ t ⟨D.val / 64, by omega⟩ ⟨D.val % 64, by omega⟩ : EReal)
  g : ∀ (n : Fin 16) (D : Fin 1024) (ξ : Fin 256), (V m c main_v57 : Vec Ideal S16x1024x256 .bf16) (ix3 n D ξ) = (G (row n ξ) ⟨D.val / 64, by omega⟩ ⟨D.val % 64, by omega⟩ : EReal)
  l : ∀ (hp : Fin 8) (n : Fin 16) (h : Fin 2) (ξ : Fin 256), (V m c main_v37 : Vec Ideal S8x16x8x256 .f32) (ix4 hp n (h8 h) ξ) = (lse Q K (hh hp h) (row n ξ) : EReal)
  d : ∀ (hp : Fin 8) (n : Fin 16) (h : Fin 2) (ξ : Fin 256), (V m c main_v44 : Vec Ideal S8x16x8x256 .f32) (ix4 hp n (h8 h) ξ) = (corr Q K V₀ G (hh hp h) (row n ξ) : EReal)

theorem blk0 (c : Dev nD) (t : Fin cfg0.N) (n : Fin 16) (d ξ : Fin 256) :
    (iblk m c 0 t : Vec Ideal S16x256x256 .bf16) (ix3 n d ξ) = (V m c main_v49 : Vec Ideal S16x2048x256 .bf16) (ix3 n ⟨256 * (t.val / 8) + d.val, by have := lt64 t; omega⟩ ξ) := by
  have hi : ((cfg0.win 0).blk t).view.emb (ix3 n d ξ) = (ix3 n ⟨256 * (t.val / 8) + d.val, by have := lt64 t; omega⟩ ξ : S16x2048x256.Idx) := by
    funext a
    apply Fin.ext
    have e := (idx t).1
    fin_cases a <;> blk_simp <;> rw [e]
    · show 0 * 16 + n.val = n.val
      omega
    · show t.val / 8 * 256 + d.val = 256 * (t.val / 8) + d.val
      omega
    · show 0 * 256 + ξ.val = ξ.val
      omega
  exact congrArg (V m c main_v49 : Vec Ideal S16x2048x256 .bf16) hi

theorem blk1 (c : Dev nD) (t : Fin cfg0.N) (κ : Fin 512) (d : Fin 256) :
    (iblk m c 1 t : Vec Ideal S512x256 .bf16) (ix2 κ d) = (V m c main_v3 : Vec Ideal S4096x2048 .bf16) (ix2 ⟨512 * (t.val % 8) + κ.val, by omega⟩ ⟨256 * (t.val / 8) + d.val, by have := lt64 t; omega⟩) := by
  have hi : ((cfg0.win 1).blk t).view.emb (ix2 κ d) = (ix2 ⟨512 * (t.val % 8) + κ.val, by omega⟩ ⟨256 * (t.val / 8) + d.val, by have := lt64 t; omega⟩ : S4096x2048.Idx) := by
    funext a
    apply Fin.ext
    have e := (idx t).2.1
    fin_cases a <;> blk_simp <;> rw [e]
    · show t.val % 8 * 512 + κ.val = 512 * (t.val % 8) + κ.val
      omega
    · show t.val / 8 * 256 + d.val = 256 * (t.val / 8) + d.val
      omega
  exact congrArg (V m c main_v3 : Vec Ideal S4096x2048 .bf16) hi

theorem blk2 (c : Dev nD) (t : Fin cfg0.N) (b : Fin 2) (d ξ : Fin 256) :
    (iblk m c 2 t : Vec Ideal S2x256x256 .bf16) (ix3 b d ξ) = (V m c main_v54 : Vec Ideal S16x2048x256 .bf16) (ix3 (kblk t b) ⟨256 * (t.val / 8) + d.val, by have := lt64 t; omega⟩ ξ) := by
  have hi : ((cfg0.win 2).blk t).view.emb (ix3 b d ξ) = (ix3 (kblk t b) ⟨256 * (t.val / 8) + d.val, by have := lt64 t; omega⟩ ξ : S16x2048x256.Idx) := by
    funext a
    apply Fin.ext
    have e := (idx t).2.2.1
    fin_cases a <;> blk_simp <;> rw [e]
    · show t.val % 8 * 2 + b.val = 2 * (t.val % 8) + b.val
      omega
    · show t.val / 8 * 256 + d.val = 256 * (t.val / 8) + d.val
      omega
    · show 0 * 256 + ξ.val = ξ.val
      omega
  exact congrArg (V m c main_v54 : Vec Ideal S16x2048x256 .bf16) hi

theorem blk3 (c : Dev nD) (t : Fin cfg0.N) (κ : Fin 512) (d : Fin 128) :
    (iblk m c 3 t : Vec Ideal S512x128 .bf16) (ix2 κ d) = (V m c main_v5 : Vec Ideal S4096x1024 .bf16) (ix2 ⟨512 * (t.val % 8) + κ.val, by omega⟩ ⟨128 * (t.val / 8) + d.val, by have := lt64 t; omega⟩) := by
  have hi : ((cfg0.win 3).blk t).view.emb (ix2 κ d) = (ix2 ⟨512 * (t.val % 8) + κ.val, by omega⟩ ⟨128 * (t.val / 8) + d.val, by have := lt64 t; omega⟩ : S4096x1024.Idx) := by
    funext a
    apply Fin.ext
    have e := (idx t).2.2.2.1
    fin_cases a <;> blk_simp <;> rw [e]
    · show t.val % 8 * 512 + κ.val = 512 * (t.val % 8) + κ.val
      omega
    · show t.val / 8 * 128 + d.val = 128 * (t.val / 8) + d.val
      omega
  exact congrArg (V m c main_v5 : Vec Ideal S4096x1024 .bf16) hi

theorem blk4 (c : Dev nD) (t : Fin cfg0.N) (n : Fin 16) (d : Fin 128) (ξ : Fin 256) :
    (iblk m c 4 t : Vec Ideal S16x128x256 .bf16) (ix3 n d ξ) = (V m c main_v57 : Vec Ideal S16x1024x256 .bf16) (ix3 n ⟨128 * (t.val / 8) + d.val, by have := lt64 t; omega⟩ ξ) := by
  have hi : ((cfg0.win 4).blk t).view.emb (ix3 n d ξ) = (ix3 n ⟨128 * (t.val / 8) + d.val, by have := lt64 t; omega⟩ ξ : S16x1024x256.Idx) := by
    funext a
    apply Fin.ext
    have e := (idx t).2.2.2.2.1
    fin_cases a <;> blk_simp <;> rw [e]
    · show 0 * 16 + n.val = n.val
      omega
    · show t.val / 8 * 128 + d.val = 128 * (t.val / 8) + d.val
      omega
    · show 0 * 256 + ξ.val = ξ.val
      omega
  exact congrArg (V m c main_v57 : Vec Ideal S16x1024x256 .bf16) hi

theorem blk5 (c : Dev nD) (t : Fin cfg0.N) (n : Fin 16) (r : Fin 8) (ξ : Fin 256) :
    (iblk m c 5 t : Vec Ideal S1x16x8x256 .f32) (ix4 0 n r ξ) = (V m c main_v37 : Vec Ideal S8x16x8x256 .f32) (ix4 (pair t) n r ξ) := by
  have hi : ((cfg0.win 5).blk t).view.emb (ix4 0 n r ξ) = (ix4 (pair t) n r ξ : S8x16x8x256.Idx) := by
    funext a
    apply Fin.ext
    have e := (idx t).2.2.2.2.2.1
    fin_cases a <;> blk_simp <;> rw [e]
    · show t.val / 8 = t.val / 8
      omega
    · show 0 * 16 + n.val = n.val
      omega
    · show 0 * 8 + r.val = r.val
      omega
    · show 0 * 256 + ξ.val = ξ.val
      omega
  exact congrArg (V m c main_v37 : Vec Ideal S8x16x8x256 .f32) hi

theorem blk6 (c : Dev nD) (t : Fin cfg0.N) (n : Fin 16) (r : Fin 8) (ξ : Fin 256) :
    (iblk m c 6 t : Vec Ideal S1x16x8x256 .f32) (ix4 0 n r ξ) = (V m c main_v44 : Vec Ideal S8x16x8x256 .f32) (ix4 (pair t) n r ξ) := by
  have hi : ((cfg0.win 6).blk t).view.emb (ix4 0 n r ξ) = (ix4 (pair t) n r ξ : S8x16x8x256.Idx) := by
    funext a
    apply Fin.ext
    have e := (idx t).2.2.2.2.2.2.1
    fin_cases a <;> blk_simp <;> rw [e]
    · show t.val / 8 = t.val / 8
      omega
    · show 0 * 16 + n.val = n.val
      omega
    · show 0 * 8 + r.val = r.val
      omega
    · show 0 * 256 + ξ.val = ξ.val
      omega
  exact congrArg (V m c main_v44 : Vec Ideal S8x16x8x256 .f32) hi

/-- The gradients in the kernel's layout: by blocks of rows, heads and lanes, rows in a block. -/
def dqArr (Q K : Fin 4096 → Fin 16 → Fin 96 → ℝ) (V₀ G : Fin 4096 → Fin 16 → Fin 64 → ℝ) : Vec Ideal S16x2048x256 .f32 := fun y =>
  (gradQ Q K V₀ G (row (y 0) (y 2)) ⟨(y 1).val / 128, by have : (y 1).val < 2048 := (y 1).isLt; omega⟩ ⟨(y 1).val % 128, by omega⟩ : EReal)
def dkArr (Q K : Fin 4096 → Fin 16 → Fin 96 → ℝ) (V₀ G : Fin 4096 → Fin 16 → Fin 64 → ℝ) : Vec Ideal S16x2048x256 .f32 := fun y =>
  (gradK Q K V₀ G (row (y 0) (y 2)) ⟨(y 1).val / 128, by have : (y 1).val < 2048 := (y 1).isLt; omega⟩ ⟨(y 1).val % 128, by omega⟩ : EReal)
def dvArr (Q K : Fin 4096 → Fin 16 → Fin 96 → ℝ) (G : Fin 4096 → Fin 16 → Fin 64 → ℝ) : Vec Ideal S16x1024x256 .f32 := fun y =>
  (gradV Q K G (row (y 0) (y 2)) ⟨(y 1).val / 64, by have : (y 1).val < 1024 := (y 1).isLt; omega⟩ ⟨(y 1).val % 64, by omega⟩ : EReal)

theorem outsAt_congr {c : Dev nD} {n n' : ℕ} (h : n = n') (hn : n < cfg0.N) (hn' : n' < cfg0.N) : outsAt m c n hn = outsAt m c n' hn' := by
  subst h; rfl

section Real

variable {c : Dev nD} {Q K : Fin 4096 → Fin 16 → Fin 96 → ℝ} {V₀ G : Fin 4096 → Fin 16 → Fin 64 → ℝ} (F : Found m c Q K V₀ G)
include F

set_option maxHeartbeats 1000000 in
/-- A point's blocks hold the real arrays of its heads and key blocks. -/
theorem ops_real (t : Fin cfg0.N) (b : Fin 2) : Ops.Real (ops b (iblk m c 0 t) (iblk m c 1 t) (iblk m c 2 t) (iblk m c 3 t) (iblk m c 4 t) (iblk m c 5 t) (iblk m c 6 t)) Q K V₀ G (pair t) (kblk t b) where
  q n h l ξ := by
    refine (blk0 m c t n (hd h l) ξ).trans ((F.q _ _ _).trans (congrArg _ ?_))
    congr 1 <;> exact Fin.ext (by simp only [hd, hh, pair]; omega)
  k κ₀ h l := by
    refine (blk1 m c t _ (hd h l)).trans ((F.k _ _).trans (congrArg _ ?_))
    congr 1 <;> exact Fin.ext (by simp only [hd, hh, pair, row, kblk]; omega)
  kt h l κ₀ := by
    refine (blk2 m c t b (hd h l) κ₀).trans ((F.kt _ _ _).trans (congrArg _ ?_))
    congr 1 <;> exact Fin.ext (by simp only [hd, hh, pair]; omega)
  vh h κ₀ l := by
    refine ite_congr rfl (fun e => ?_) fun _ => rfl
    refine (blk3 m c t _ l).trans ((F.v _ _).trans (congrArg _ ?_))
    congr 1 <;> exact Fin.ext (by simp only [hh, pair, row, kblk, laneOf64]; omega)
  g n h r ξ := by
    refine (blk4 m c t n (hd64 h r) ξ).trans ((F.g _ _ _).trans (congrArg _ ?_))
    congr 1 <;> exact Fin.ext (by simp only [hd64, hh, pair]; omega)
  l n h ξ := (blk5 m c t n (h8 h) ξ).trans (F.l _ _ _ _)
  d n h ξ := (blk6 m c t n (h8 h) ξ).trans (F.d _ _ _ _)

theorem left_dq (t : Fin cfg0.N) (s : Vec Ideal S16x256x256 .f32) (z : Fin 16) (d ξ : Fin 256) : (left m c t s).1 (ix3 z d ξ) = s (ix3 z d ξ) + (partQ Q K V₀ G (pair t) (kblk t 0) z d ξ : EReal) + (partQ Q K V₀ G (pair t) (kblk t 1) z d ξ : EReal) := by
  have e0 := total9 (ops_real m F t 0) z d ξ
  have e1 := total9 (ops_real m F t 1) z d ξ
  have P := point_dq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) s z d ξ
  refine P.trans ?_
  simp only [pick, coord1]
  exact congrArg₂ (· + ·) (congrArg (s (ix3 z d ξ) + ·) e0) e1

theorem left_dk (t : Fin cfg0.N) (s : Vec Ideal S16x256x256 .f32) (z : Fin 2) (d ξ : Fin 256) : (left m c t s).2.1 (ix3 z d ξ) = (gradK Q K V₀ G (row (kblk t z) ξ) (hh (pair t) (headOf d)) (laneOf d) : EReal) := by
  have e0 := total10 (ops_real m F t 0) 0 z d ξ
  have e1 := total10 (ops_real m F t 1) 1 z d ξ
  have P := point_dk c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) s z d ξ
  refine P.trans ?_
  simp only [pick, coord1]
  refine (congrArg₂ (· + ·) e0 e1).trans ?_
  match z with
  | 0 => rw [if_pos rfl, if_neg (by decide), add_zero]
  | 1 => rw [if_neg (by decide), if_pos rfl, zero_add]

theorem left_dv (t : Fin cfg0.N) (s : Vec Ideal S16x256x256 .f32) (z : Fin 2) (d : Fin 128) (ξ : Fin 256) : (left m c t s).2.2 (ix3 z d ξ) = (gradV Q K G (row (kblk t z) ξ) (hh (pair t) (headOf64 d)) (laneOf64 d) : EReal) := by
  have e0 := total11 (ops_real m F t 0) 0 z d ξ
  have e1 := total11 (ops_real m F t 1) 1 z d ξ
  have P := point_dv c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) s z d ξ
  refine P.trans ?_
  simp only [pick, coord1]
  refine (congrArg₂ (· + ·) e0 e1).trans ?_
  match z with
  | 0 => rw [if_pos rfl, if_neg (by decide), add_zero]
  | 1 => rw [if_neg (by decide), if_pos rfl, zero_add]

/-- The queries' gradient after step `i` of pair `hp`. -/
theorem outs_dq (hp : Fin 8) (z : Fin 16) (d ξ : Fin 256) : ∀ (i : ℕ) (hi : i < 8) (hN : 8 * hp.val + i < cfg0.N),
    (outsAt m c (8 * hp.val + i) hN).1 (ix3 z d ξ) = ((∑ j ∈ Finset.univ.filter (fun j : Fin 16 => j.val < 2 * (i + 1)), partQ Q K V₀ G hp j z d ξ : ℝ) : EReal) := by
  have step : ∀ (i : ℕ) (hi : i < 8), ∑ j ∈ Finset.univ.filter (fun j : Fin 16 => j.val < 2 * (i + 1)), partQ Q K V₀ G hp j z d ξ
      = ∑ j ∈ Finset.univ.filter (fun j : Fin 16 => j.val < 2 * i), partQ Q K V₀ G hp j z d ξ + partQ Q K V₀ G hp ⟨2 * i, by omega⟩ z d ξ + partQ Q K V₀ G hp ⟨2 * i + 1, by omega⟩ z d ξ := fun i hi => by
    rw [show Finset.univ.filter (fun j : Fin 16 => j.val < 2 * (i + 1)) = insert ⟨2 * i + 1, by omega⟩ (insert ⟨2 * i, by omega⟩ (Finset.univ.filter (fun j : Fin 16 => j.val < 2 * i))) from by
      ext j; simp only [Finset.mem_filter, Finset.mem_univ, true_and, Finset.mem_insert, Fin.ext_iff]; omega]
    rw [Finset.sum_insert (by simp only [Finset.mem_filter, Finset.mem_univ, true_and, Finset.mem_insert, Fin.ext_iff]; omega),
      Finset.sum_insert (by simp only [Finset.mem_filter, Finset.mem_univ, true_and]; omega)]
    ring
  intro i
  induction i with
  | zero =>
    intro hi hN
    rw [outsAt_first m c ⟨8 * hp.val + 0, hN⟩ (by show (8 * hp.val + 0) % 8 = 0; omega), left_dq m F, zero381, step 0 hi,
      show pair ⟨8 * hp.val + 0, hN⟩ = hp from Fin.ext (by simp only [pair]; omega),
      show kblk ⟨8 * hp.val + 0, hN⟩ 0 = ⟨2 * 0, by omega⟩ from Fin.ext (by simp only [kblk, Fin.val_zero]; omega),
      show kblk ⟨8 * hp.val + 0, hN⟩ 1 = ⟨2 * 0 + 1, by omega⟩ from Fin.ext (by simp only [kblk, Fin.val_one]; omega),
      EReal.coe_add, EReal.coe_add]
    rfl
  | succ i ih =>
    intro hi hN
    rw [outsAt_next m c ⟨8 * hp.val + (i + 1), hN⟩ (by show ¬(8 * hp.val + (i + 1)) % 8 = 0; omega), left_dq m F]
    have e := ih (by omega) (by omega)
    rw [step (i + 1) hi,
      show pair ⟨8 * hp.val + (i + 1), hN⟩ = hp from Fin.ext (by simp only [pair]; omega),
      show kblk ⟨8 * hp.val + (i + 1), hN⟩ 0 = ⟨2 * (i + 1), by omega⟩ from Fin.ext (by simp only [kblk, Fin.val_zero]; omega),
      show kblk ⟨8 * hp.val + (i + 1), hN⟩ 1 = ⟨2 * (i + 1) + 1, by omega⟩ from Fin.ext (by simp only [kblk, Fin.val_one]; omega),
      EReal.coe_add, EReal.coe_add]
    exact congrArg (· + _ + _) e

theorem arr_dq : ((dats m 0 c).arrAt 7 cfg0.N : Vec Ideal S16x2048x256 .f32) = dqArr Q K V₀ G := by
  refine (dats m 0 c).arrAt_eq_of_covers (w := 7) _ (by decide +kernel) fun t hf y => ?_
  obtain ⟨n, d, ξ, rfl⟩ : ∃ (n : Fin 16) (d : Fin 256) (ξ : Fin 256), y = ix3 n d ξ := ⟨y 0, y 1, y 2, eq_ix3 y⟩
  blk_simp
  have hi : ((cfg0.win 7).blk t).view.emb (ix3 n d ξ) = (ix3 n ⟨256 * (t.val / 8) + d.val, by have := lt64 t; omega⟩ ξ : S16x2048x256.Idx) := by
    funext a
    apply Fin.ext
    have e := (idx t).2.2.2.2.2.2.2.1
    fin_cases a <;> blk_simp <;> rw [e]
    · show 0 * 16 + n.val = n.val
      omega
    · show t.val / 8 * 256 + d.val = 256 * (t.val / 8) + d.val
      omega
    · show 0 * 256 + ξ.val = ξ.val
      omega
  have h7 : t.val % 8 = 7 := (flush0_7 t).mp hf
  have hN := lt64 t
  rw [after_7]
  have ht : t.val = 8 * (pair t).val + 7 := by simp only [pair]; omega
  have hN' : 8 * (pair t).val + 7 < cfg0.N := ht ▸ t.isLt
  have e := outs_dq m F (pair t) n d ξ 7 (by omega) hN'
  rw [outsAt_congr m ht t.isLt hN']
  refine e.trans ?_
  rw [show Finset.univ.filter (fun j : Fin 16 => j.val < 2 * (7 + 1)) = Finset.univ from Finset.filter_true_of_mem fun j _ => by omega, sum_partQ]
  rw [show (win0_7.blk t).view.emb (ix3 n d ξ) = (ix3 n ⟨256 * (t.val / 8) + d.val, by have := lt64 t; omega⟩ ξ : S16x2048x256.Idx) from hi]
  refine congrArg _ ?_
  show _ = gradQ _ _ _ _ (row _ _) ⟨_, _⟩ ⟨_, _⟩
  congr 1 <;> exact Fin.ext (by simp only [hh, pair, headOf, laneOf, ix3]; omega)

theorem arr_dk : ((dats m 0 c).arrAt 8 cfg0.N : Vec Ideal S16x2048x256 .f32) = dkArr Q K V₀ G := by
  refine (dats m 0 c).arrAt_eq_of_covers (w := 8) _ (by decide +kernel) fun t hf y => ?_
  obtain ⟨b, d, ξ, rfl⟩ : ∃ (b : Fin 2) (d : Fin 256) (ξ : Fin 256), y = ix3 b d ξ := ⟨y 0, y 1, y 2, eq_ix3 y⟩
  blk_simp
  have hi : ((cfg0.win 8).blk t).view.emb (ix3 b d ξ) = (ix3 (kblk t b) ⟨256 * (t.val / 8) + d.val, by have := lt64 t; omega⟩ ξ : S16x2048x256.Idx) := by
    funext a
    apply Fin.ext
    have e := (idx t).2.2.2.2.2.2.2.2.1
    fin_cases a <;> blk_simp <;> rw [e]
    · show t.val % 8 * 2 + b.val = 2 * (t.val % 8) + b.val
      omega
    · show t.val / 8 * 256 + d.val = 256 * (t.val / 8) + d.val
      omega
    · show 0 * 256 + ξ.val = ξ.val
      omega
  rw [after_8]
  have e : (outsAt m c t.val t.isLt).2.1 (ix3 b d ξ) = (gradK Q K V₀ G (row (kblk t b) ξ) (hh (pair t) (headOf d)) (laneOf d) : EReal) := by
    by_cases h0 : t.val % 8 = 0
    · rw [outsAt_first m c t h0]; exact left_dk m F t _ b d ξ
    · rw [outsAt_next m c t h0]; exact left_dk m F t _ b d ξ
  refine e.trans ?_
  rw [show (win0_8.blk t).view.emb (ix3 b d ξ) = (ix3 (kblk t b) ⟨256 * (t.val / 8) + d.val, by have := lt64 t; omega⟩ ξ : S16x2048x256.Idx) from hi]
  refine congrArg _ ?_
  show _ = gradK _ _ _ _ (row _ _) ⟨_, _⟩ ⟨_, _⟩
  congr 1 <;> exact Fin.ext (by simp only [hh, pair, headOf, laneOf, ix3]; omega)

theorem arr_dv : ((dats m 0 c).arrAt 9 cfg0.N : Vec Ideal S16x1024x256 .f32) = dvArr Q K G := by
  refine (dats m 0 c).arrAt_eq_of_covers (w := 9) _ (by decide +kernel) fun t hf y => ?_
  obtain ⟨b, d, ξ, rfl⟩ : ∃ (b : Fin 2) (d : Fin 128) (ξ : Fin 256), y = ix3 b d ξ := ⟨y 0, y 1, y 2, eq_ix3 y⟩
  blk_simp
  have hi : ((cfg0.win 9).blk t).view.emb (ix3 b d ξ) = (ix3 (kblk t b) ⟨128 * (t.val / 8) + d.val, by have := lt64 t; omega⟩ ξ : S16x1024x256.Idx) := by
    funext a
    apply Fin.ext
    have e := (idx t).2.2.2.2.2.2.2.2.2
    fin_cases a <;> blk_simp <;> rw [e]
    · show t.val % 8 * 2 + b.val = 2 * (t.val % 8) + b.val
      omega
    · show t.val / 8 * 128 + d.val = 128 * (t.val / 8) + d.val
      omega
    · show 0 * 256 + ξ.val = ξ.val
      omega
  rw [after_9]
  have e : (outsAt m c t.val t.isLt).2.2 (ix3 b d ξ) = (gradV Q K G (row (kblk t b) ξ) (hh (pair t) (headOf64 d)) (laneOf64 d) : EReal) := by
    by_cases h0 : t.val % 8 = 0
    · rw [outsAt_first m c t h0]; exact left_dv m F t _ b d ξ
    · rw [outsAt_next m c t h0]; exact left_dv m F t _ b d ξ
  refine e.trans ?_
  rw [show (win0_9.blk t).view.emb (ix3 b d ξ) = (ix3 (kblk t b) ⟨128 * (t.val / 8) + d.val, by have := lt64 t; omega⟩ ξ : S16x1024x256.Idx) from hi]
  refine congrArg _ ?_
  show _ = gradV _ _ _ (row _ _) ⟨_, _⟩ ⟨_, _⟩
  congr 1 <;> exact Fin.ext (by simp only [hh, pair, headOf64, laneOf64, ix3]; omega)

end Real

end Cert.MlaIdeal.Hand

end
-- ==== Proof.MlaReal.lean ====
module

public import proofs.«01_k».proof.Proof.MlaEnt
public import proofs.«01_k».proof.Proof.MlaArr

/-!
# What the region finds, for real arguments
-/

@[expose] public section

set_option maxRecDepth 16384

noncomputable section

namespace Cert.MlaIdeal.Host

open Cert.MlaIdeal Cert.MlaIdeal.Gen Cert.MlaIdeal.Hand
open Idealize.ShloMosaic Idealize.ShloMosaic.TcCoe Idealize.SL.Sem

theorem padded_real (x : Vec Ideal S4096x16x96 .f32) (Q : Fin 4096 → Fin 16 → Fin 96 → ℝ) (h : ∀ t H d, x (ix3 t H d) = (Q t H d : EReal)) (t : Fin 4096) (H : Fin 16) (l : Fin 128) :
    padded x (ix3 t H l) = (Hand.pad Q t H l : EReal) := by
  rw [padded_apply]
  unfold Hand.pad
  split
  · exact h _ _ _
  · exact EReal.coe_zero.symm

variable (m : (ℓ : Loc nD τ sig) → Buf (Elt Ideal) ℓ) (c : Dev nD)
  (Q K : Fin 4096 → Fin 16 → Fin 96 → ℝ) (U G : Fin 4096 → Fin 16 → Fin 64 → ℝ)
  (h0 : ∀ t H d, q₀ m c (ix3 t H d) = (Q t H d : EReal)) (h1 : ∀ t H d, k₀ m c (ix3 t H d) = (K t H d : EReal))
  (h2 : ∀ t H d, v₀ m c (ix3 t H d) = (U t H d : EReal)) (h3 : ∀ t H d, g₀ m c (ix3 t H d) = (G t H d : EReal))

include h0 h1 in
theorem max_real (H : Fin 16) (t : Fin 4096) : (V m c main_v18 : Vec Ideal S16x4096 .f32) (ix2 H t) = (rowMaxR Q K H t : EReal) := by
  rw [ent18, ← rowMax_coe]
  exact ref_max _ _ h0 h1 H t

include h0 h1 in
theorem ex_real (H : Fin 16) (t j : Fin 4096) : (V m c main_v22 : Vec Ideal S16x4096x4096 .f32) (ix3 H t j) = (ex Q K H t j : EReal) := by
  rw [ent22, exps_apply, max_real m c Q K h0 h1, ← rowMax_coe, ← exp_masked, ent17]
  exact congrArg (fun y => Ideal.exp (y - _)) (ref_masked _ _ h0 h1 H t j)

include h0 h1 in
theorem den_real (H : Fin 16) (t : Fin 4096) : (V m c main_v23 : Vec Ideal S16x4096 .f32) (ix2 H t) = (den Q K H t : EReal) := by
  rw [ent23, dens_apply]
  simp only [ex_real m c Q K h0 h1]
  rw [den, coe_sum]

include h0 h1 in
theorem wt_real (H : Fin 16) (t j : Fin 4096) : (V m c main_v26 : Vec Ideal S16x4096x4096 .f32) (ix3 H t j) = (wt Q K H t j : EReal) := by
  rw [ent26, wts_apply, ex_real m c Q K h0 h1, den_real m c Q K h0 h1, div_real (den_pos Q K H t).ne']
  rfl

include h0 h1 h2 in
theorem out_real (t : Fin 4096) (H : Fin 16) (r : Fin 64) : (V m c main_v28 : Vec Ideal S4096x16x64 .f32) (ix3 t H r) = ((∑ j : Fin 4096, U j H r * wt Q K H t j : ℝ) : EReal) := by
  rw [ent28, outp_apply]
  simp only [wt_real m c Q K h0 h1, h2, ← EReal.coe_mul]
  rw [coe_sum]

include h0 h1 h2 h3 in
theorem found : Found m c Q K U G where
  q n D ξ := by
    rw [ent49, padCols_apply]; exact padded_real _ Q h0 _ _ _
  k t D := by
    rw [ent3, padRows_apply]; exact padded_real _ K h1 _ _ _
  kt n D ξ := by
    rw [ent54, padCols_apply]; exact padded_real _ K h1 _ _ _
  v t D := by
    rw [ent5, rows64_apply]; exact h2 _ _ _
  g n D ξ := by
    rw [ent57, cols64_apply]; exact h3 _ _ _
  l hp n h ξ := by
    rw [ent37, lses_apply, max_real m c Q K h0 h1, den_real m c Q K h0 h1, Ideal.log_coe, if_neg (not_le.mpr (den_pos Q K _ _)), ← EReal.coe_add,
      word2, Ideal.log_coe, if_neg (by norm_num), div_real (ne_of_gt (Real.log_pos (by norm_num)))]
    rfl
  d hp n h ξ := by
    rw [ent44, deltas_apply]
    simp only [out_real m c Q K U h0 h1 h2, h3, ← EReal.coe_mul]
    rw [← coe_sum, corr_out]

end Cert.MlaIdeal.Host

end
-- ==== Proof.MlaBits.lean ====
module

public import proofs.«01_k».proof.Mla
public import proofs.«01_k».proof.Proof.MlaFrame
public import Idealize.ShloMosaic.PureOps.BitExact

/-!
# The attention gradient as it is printed, on machine words

The idealized text differs from the printed one only where a constant is named.  On machine words a name is read here
as the word itself, and then the two programs are one, so that the frame proved over every reading serves both.
-/

@[expose] public section

set_option maxRecDepth 16384

noncomputable section

namespace Cert.MlaWords

open Idealize.ShloMosaic Idealize.ShloMosaic.TcCoe

/-- On machine words a named constant is the word in the text. -/
@[reducible] def words : Named Bits := ⟨fun _ _ {φ} b => FloatOps.ofBits φ b⟩

section Idealized
open Cert.MlaIdeal Cert.MlaIdeal.Gen

attribute [local instance] words

/-- The frame of the idealized text on machine words. -/
def Named_frame : Prop := ∀ (m : (ℓ : Loc nD τ sig) → Buf (Elt Bits) ℓ) (ρ : Dev nD → PrngReg),
  θ_run (defs (F := Bits)) (onTc (τ := τ) (main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0)

theorem named_frame : Named_frame := fun m ρ => Cert.MlaIdeal.Hand.frame_all m ρ

end Idealized

section Printed
open Cert.Mla

variable [Cert.Mla.Facts]

/-- The frame of the printed text. -/
def Frame : Prop := ∀ (m : (ℓ : Loc nD τ sig) → Buf (Elt Bits) ℓ) (ρ : Dev nD → PrngReg),
  θ_run (defs (F := Bits)) (onTc (τ := τ) (main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0)

theorem same : Named_frame = Frame := by sl_kernel_rfl

theorem frame_all : Frame := same ▸ named_frame

end Printed

end Cert.MlaWords
-- ==== Proof.Mla.lean ====
/-
  The gradient of the causal attention: the kernel's results are the derivative of the forward lines. The kernel has
  each row's logarithm and correction from the forward lines and recomputes the weights from them; on real numbers the
  weights are the softmax's, and the correction is the derivative of its division.
-/
module

public import proofs.«01_k».proof.Proof.MlaReal
public import proofs.«01_k».proof.Proof.MlaBits
public import proofs.«01_k».proof.Proof.RealEntries

@[expose] public section

set_option maxRecDepth 16384

noncomputable section

open Idealize.ShloMosaic Idealize.ShloMosaic.TcCoe Idealize.SL.Sem

namespace Cert.MlaIdeal.Value

open Cert.MlaIdeal Cert.MlaIdeal.Gen Cert.MlaIdeal.Hand Cert.MlaIdeal.Host RealEntries

variable (m : (ℓ : Loc nD τ sig) → Buf (Elt Ideal) ℓ) (ρ : Dev nD → PrngReg)

/-- The kernel's run: its three results are the arrays of the data, its arguments are kept. -/
theorem run_blocks : θ_run defs (onTc (τ := τ) (main (F := Ideal))) ⟨m, fun _ => 0, ρ⟩ fun r => ∀ c : Dev nD,
      r.2.mem ((c.tc : Thread nD τ).loc main_v58_0) = (dats m 0 c).arrAt 7 cfg0.N
      ∧ r.2.mem ((c.tc : Thread nD τ).loc main_v58_1) = (dats m 0 c).arrAt 8 cfg0.N
      ∧ r.2.mem ((c.tc : Thread nD τ).loc main_v58_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 7, (h.1 c).1 8, (h.1 c).1 9,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main_quiescent m ρ)

theorem results (c : Dev nD) (h0 : ∀ i, IsReal (q₀ m c i)) (h1 : ∀ i, IsReal (k₀ m c i)) (h2 : ∀ i, IsReal (v₀ m c i)) (h3 : ∀ i, IsReal (g₀ m c i)) :
    ((dats m 0 c).arrAt 7 cfg0.N : Vec Ideal S16x2048x256 .f32) = MlaRefIdeal.Read.val_main_v68 (q₀ m c) (k₀ m c) (v₀ m c) (g₀ m c)
    ∧ ((dats m 0 c).arrAt 8 cfg0.N : Vec Ideal S16x2048x256 .f32) = MlaRefIdeal.Read.val_main_v72 (q₀ m c) (k₀ m c) (v₀ m c) (g₀ m c)
    ∧ ((dats m 0 c).arrAt 9 cfg0.N : Vec Ideal S16x1024x256 .f32) = MlaRefIdeal.Read.val_main_v74 (q₀ m c) (k₀ m c) (g₀ m c) := by
  obtain ⟨Q, e0⟩ := RealEntries.exists_reals h0
  obtain ⟨K, e1⟩ := RealEntries.exists_reals h1
  obtain ⟨U, e2⟩ := RealEntries.exists_reals h2
  obtain ⟨G, e3⟩ := RealEntries.exists_reals h3
  have r0 : ∀ t H d, q₀ m c (ix3 t H d) = ((fun t H d => Q (ix3 t H d) : Fin 4096 → Fin 16 → Fin 96 → ℝ) t H d : EReal) := fun t H d => congrFun e0 _
  have r1 : ∀ t H d, k₀ m c (ix3 t H d) = ((fun t H d => K (ix3 t H d) : Fin 4096 → Fin 16 → Fin 96 → ℝ) t H d : EReal) := fun t H d => congrFun e1 _
  have r2 : ∀ t H d, v₀ m c (ix3 t H d) = ((fun t H d => U (ix3 t H d) : Fin 4096 → Fin 16 → Fin 64 → ℝ) t H d : EReal) := fun t H d => congrFun e2 _
  have r3 : ∀ t H d, g₀ m c (ix3 t H d) = ((fun t H d => G (ix3 t H d) : Fin 4096 → Fin 16 → Fin 64 → ℝ) t H d : EReal) := fun t H d => congrFun e3 _
  have F := found m c _ _ _ _ r0 r1 r2 r3
  refine ⟨(arr_dq m F).trans (funext fun y => ?_), (arr_dk m F).trans (funext fun y => ?_), (arr_dv m F).trans (funext fun y => ?_)⟩
  · obtain ⟨z, D, ξ, rfl⟩ : ∃ (z : Fin 16) (D : Fin 2048) (ξ : Fin 256), y = ix3 z D ξ := ⟨y 0, y 1, y 2, eq_ix3 y⟩
    exact (ref_dq _ _ _ _ r0 r1 r2 r3 z D ξ).symm
  · obtain ⟨z, D, ξ, rfl⟩ : ∃ (z : Fin 16) (D : Fin 2048) (ξ : Fin 256), y = ix3 z D ξ := ⟨y 0, y 1, y 2, eq_ix3 y⟩
    exact (ref_dk _ _ _ _ r0 r1 r2 r3 z D ξ).symm
  · obtain ⟨z, D, ξ, rfl⟩ : ∃ (z : Fin 16) (D : Fin 1024) (ξ : Fin 256), y = ix3 z D ξ := ⟨y 0, y 1, y 2, eq_ix3 y⟩
    exact (ref_dv _ _ _ r0 r1 r3 z D ξ).symm

end Cert.MlaIdeal.Value

end
-- ==== Proof.FwdUp.lean ====
/-
  The norm before the MLP, the product and the squared relu: block by block of 256 rows the kernel's results are those of
  the forward lines. No hypothesis: both sides are the same sums of the same products. The kernel takes the product in four
  groups of 1024 columns, each from its slice of the weight, which the host has stacked.
-/
module

public import proofs.«01_k».proof.Proof.NormGrad
public import proofs.«01_k».proof.Proof.Gen.FwdUpIdeal.Value
public import proofs.«01_k».proof.Proof.Gen.FwdUpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem NormGrad
open Idealize.ShloMosaic.Pipeline (Dat)

namespace Cert.FwdUpIdeal.Value

open Cert.FwdUpIdeal Cert.FwdUpIdeal.Gen

variable (m : (ℓ : Loc nD τ sig) → Buf (Elt Ideal) ℓ)

local notation "N₀" => Ideal.ofBits FTy.f32 0x44800000#32
local notation "e₀" => Ideal.ofBits FTy.f32 0x358637BD#32

theorem idx : ∀ t : Fin cfg0.N, win0_0.index t = ![t.val, 0]
    ∧ win0_1.index t = ![0, 0]
    ∧ win0_2.index t = ![0, 0, 0]
    ∧ win0_3.index t = ![t.val, 0]
    ∧ win0_4.index t = ![t.val, 0] :=
  (by decide +kernel : ∀ t : Fin grid0.N, _)

/-- The launch contents of the arguments. -/
abbrev X (c : Dev nD) : Vec Ideal S4096x1024 .f32 := m ((c.tc : Thread nD τ).loc main_arg0)
abbrev G (c : Dev nD) : Vec Ideal S1x1024 .f32 := m ((c.tc : Thread nD τ).loc main_arg1)
abbrev W (c : Dev nD) : Vec Ideal S1024x4096 .f32 := m ((c.tc : Thread nD τ).loc main_arg2)

/-- Row `p` of the block at point `t`, in the array. -/
abbrev row (t : Fin cfg0.N) (p : Fin 256) : Fin 4096 :=
  ⟨t.val * 256 + p.val, by have h : t.val < 16 := t.isLt.trans_eq N_0; omega⟩

section Entry
variable {F : FTy → Type} [FloatOps F] (mF : (ℓ : Loc nD τ sig) → Buf (Elt F) ℓ)

/-- The stacked weight: its four groups of columns. -/
theorem w_entry (c : Dev nD) : V mF c main_v9
    = concatenate S4x1024x1024 0
      [⟨S1x1024x1024, broadcastInDim S1x1024x1024 ![1, 2] Facts₀.bcast_S1024x1024_S1x1024x1024_1_2 (extractStridedSlice S1024x1024 ![0, 0] (truncf .bf16 (mF ((c.tc : Thread nD τ).loc main_arg2)) Facts₀.bitsLt_bf16_f32) Facts₀.slices_S1024x4096_S1024x1024_0_0)⟩,
       ⟨S1x1024x1024, broadcastInDim S1x1024x1024 ![1, 2] Facts₀.bcast_S1024x1024_S1x1024x1024_1_2 (extractStridedSlice S1024x1024 ![0, 1024] (truncf .bf16 (mF ((c.tc : Thread nD τ).loc main_arg2)) Facts₀.bitsLt_bf16_f32) Facts₀.slices_S1024x4096_S1024x1024_0_1024)⟩,
       ⟨S1x1024x1024, broadcastInDim S1x1024x1024 ![1, 2] Facts₀.bcast_S1024x1024_S1x1024x1024_1_2 (extractStridedSlice S1024x1024 ![0, 2048] (truncf .bf16 (mF ((c.tc : Thread nD τ).loc main_arg2)) Facts₀.bitsLt_bf16_f32) Facts₀.slices_S1024x4096_S1024x1024_0_2048)⟩,
       ⟨S1x1024x1024, broadcastInDim S1x1024x1024 ![1, 2] Facts₀.bcast_S1024x1024_S1x1024x1024_1_2 (extractStridedSlice S1024x1024 ![0, 3072] (truncf .bf16 (mF ((c.tc : Thread nD τ).loc main_arg2)) Facts₀.bitsLt_bf16_f32) Facts₀.slices_S1024x4096_S1024x1024_0_3072)⟩]
      Facts₀.concatenates_S1x1024x1024_S1x1024x1024_S1x1024x1024_S1x1024x1024_S4x1024x1024_d0 := by
  rfl

end Entry

theorem w_apply (c : Dev nD) (a : Fin 4) (b d : Fin 1024) : (V m c main_v9 : Vec Ideal S4x1024x1024 .bf16) (ix3 a b d)
    = W m c (ix2 b ⟨1024 * a.val + d.val, by omega⟩) := by
  rw [w_entry]
  pointwise
  fin_cases a <;> simp

theorem blk0 (c : Dev nD) (t : Fin cfg0.N) (p : Fin 256) (l : Fin 1024) :
    (iblk m c 0 t : Vec Ideal S256x1024 .f32) (ix2 p l) = X m c (ix2 (row t p) l) := by
  blk_simp [iblk]
  rw [V_main_arg0]
  blk_ext [(idx t).1]

theorem blk1 (c : Dev nD) (t : Fin cfg0.N) (l : Fin 1024) :
    (iblk m c 1 t : Vec Ideal S1x1024 .f32) (ix2 0 l) = G m c (ix2 0 l) := by
  blk_simp [iblk]
  rw [V_main_arg1]
  blk_ext [(idx t).2.1]

theorem blk2 (c : Dev nD) (t : Fin cfg0.N) (a : Fin 4) (b d : Fin 1024) :
    (iblk m c 2 t : Vec Ideal S4x1024x1024 .bf16) (ix3 a b d) = W m c (ix2 b ⟨1024 * a.val + d.val, by omega⟩) := by
  rw [← w_apply]
  blk_simp [iblk]
  blk_ext [(idx t).2.2.1]

/-- The normed row, and the squared relu of its product. -/
def h (c : Dev nD) (i : Fin 4096) (q : Fin 1024) : EReal := X m c (ix2 i q) * fac N₀ e₀ (fun k => X m c (ix2 i k)) * G m c (ix2 0 q)
def u (c : Dev nD) (i : Fin 4096) (q : Fin 4096) : EReal :=
  max (∑ k, h m c i k * W m c (ix2 k q)) 0 * max (∑ k, h m c i k * W m c (ix2 k q)) 0

/-- The normed rows of the block at point `t`. -/
abbrev hb (c : Dev nD) (t : Fin cfg0.N) : FVec Ideal S256x1024 .bf16 := k0_pay3 (F := Ideal) (iblk m c 0 t) (iblk m c 1 t)

theorem h_apply (c : Dev nD) (t : Fin cfg0.N) (p : Fin 256) (q : Fin 1024) : hb m c t (ix2 p q) = h m c (row t p) q := by
  unfold hb
  pointwise [k0_pay3]
  simp only [blk0, blk1]
  rfl

/-- One group of columns: the four stores differ in the slice of the weight alone. -/
theorem u_apply (c : Dev nD) (t : Fin cfg0.N) (a : Fin 4) (p : Fin 256) (q : Fin 1024) (w : Vec Ideal S1x1024x1024 .bf16)
    (hw : ∀ k, w (ix3 0 k q) = (iblk m c 2 t : Vec Ideal S4x1024x1024 .bf16) (ix3 a k q)) :
    k0_pay1 (F := Ideal) (hb m c t) w (ix2 p q) = u m c (row t p) ⟨1024 * a.val + q.val, by omega⟩ := by
  pointwise [k0_pay1]
  simp only [h_apply, hw, blk2, Ideal.ofBits_zero_f32]
  rfl

theorem out3 (c : Dev nD) (t : Fin cfg0.N) (p : Fin 256) (q : Fin 1024) :
    out0_3 (iblk m c 0 t) (iblk m c 1 t) (iblk m c 2 t) (ix2 p q) = h m c (row t p) q := by
  unfold out0_3; frame_out
  exact h_apply m c t p q

/-- The block of 1024 columns from column `n` on. -/
theorem cols (n : Nat) (h : ∀ a, ![0, n] a + S256x1024.size a ≤ S256x4096.size a) (p : Fin 256) (q : Fin 1024) (l : Fin 4096) (hl : l.val = n + q.val) :
    (ix2 p l : S256x4096.Idx) = (Rect.unit (s := S256x4096) ![0, n] S256x1024.size h).emb (ix2 p q) := by
  funext d
  apply Fin.ext
  fin_cases d
  · exact ((Nat.zero_add _).trans (Nat.one_mul _)).symm
  · exact hl.trans (congrArg (n + ·) (Nat.one_mul _)).symm

theorem whole (c : Dev nD) (t : Fin cfg0.N) : k0_pay6 (F := Ideal) (iblk m c 0 t) (iblk m c 1 t) (iblk m c 2 t) = hb m c t := by
  unfold k0_pay6 hb; frame_out

theorem out4 (c : Dev nD) (t : Fin cfg0.N) (p : Fin 256) (q : Fin 4096) :
    out0_4 (iblk m c 0 t) (iblk m c 1 t) (iblk m c 2 t) (ix2 p q) = u m c (row t p) q := by
  unfold out0_4
  refine View.canon_apply_of_pieces (Val := Elt Ideal) (fun j => (u m c (row t (j 0)) (j 1) : Elt Ideal EltTy.bf16)) _ ?_ _ (cover0_4 _ _ _ _ _)
  simp only [List.forall_mem_cons, List.not_mem_nil, false_imp_iff, implies_true, and_true]
  refine ⟨?_, ?_, ?_, ?_⟩ <;> intro x <;> obtain ⟨p, q, rfl⟩ : ∃ (p : Fin 256) (q : Fin 1024), x = ix2 p q := ⟨x 0, x 1, eq_ix2 x⟩
  · rw [whole]
    refine (u_apply m c t 3 p q _ fun k => ?_).trans ?_
    · exact congrArg (iblk m c 2 t : Vec Ideal S4x1024x1024 .bf16) (funext fun d => Fin.ext (by fin_cases d <;> first | rfl | exact (Nat.zero_add _).trans (Nat.one_mul _)))
    · exact congrArg (fun j : S256x4096.Idx => u m c (row t (j 0)) (j 1)) (a₁ := ix2 p ⟨1024 * 3 + q.val, by omega⟩) (cols 3072 _ p q _ (by simp))
  · rw [whole]
    refine (u_apply m c t 2 p q _ fun k => ?_).trans ?_
    · exact congrArg (iblk m c 2 t : Vec Ideal S4x1024x1024 .bf16) (funext fun d => Fin.ext (by fin_cases d <;> first | rfl | exact (Nat.zero_add _).trans (Nat.one_mul _)))
    · exact congrArg (fun j : S256x4096.Idx => u m c (row t (j 0)) (j 1)) (a₁ := ix2 p ⟨1024 * 2 + q.val, by omega⟩) (cols 2048 _ p q _ (by simp))
  · refine (congrArg (fun b => k0_pay1 (F := Ideal) b _ (ix2 p q)) (whole m c t)).trans ((u_apply m c t 1 p q _ fun k => ?_).trans ?_)
    · exact congrArg (iblk m c 2 t : Vec Ideal S4x1024x1024 .bf16) (funext fun d => Fin.ext (by fin_cases d <;> first | rfl | exact (Nat.zero_add _).trans (Nat.one_mul _)))
    · exact congrArg (fun j : S256x4096.Idx => u m c (row t (j 0)) (j 1)) (a₁ := ix2 p ⟨1024 * 1 + q.val, by omega⟩) (cols 1024 _ p q _ (by simp))
  · refine (congrArg (fun b => k0_pay1 (F := Ideal) b _ (ix2 p q)) (whole m c t)).trans ((u_apply m c t 0 p q _ fun k => ?_).trans ?_)
    · exact congrArg (iblk m c 2 t : Vec Ideal S4x1024x1024 .bf16) (funext fun d => Fin.ext (by fin_cases d <;> first | rfl | exact (Nat.zero_add _).trans (Nat.one_mul _)))
    · exact congrArg (fun j : S256x4096.Idx => u m c (row t (j 0)) (j 1)) (a₁ := ix2 p ⟨1024 * 0 + q.val, by omega⟩) (cols 0 _ p q _ (by simp))

theorem arr3 (c : Dev nD) : ((dats m 0 c).arrAt 3 cfg0.N : Vec Ideal S4096x1024 .bf16)
    = fun y => h m c (y 0) (y 1) := by
  refine (dats m 0 c).arrAt_eq_of_covers (w := 3) _ (by decide +kernel) fun t hf y => ?_
  obtain ⟨p, q, rfl⟩ : ∃ (p : Fin 256) (q : Fin 1024), y = ix2 p q := ⟨y 0, y 1, eq_ix2 y⟩
  blk_simp
  rw [after0_3, out3]
  have hi : ((cfg0.win 3).blk t).view.emb (ix2 p q) = (ix2 (row t p) q : S4096x1024.Idx) := by
    funext d
    apply Fin.ext
    have e := (idx t).2.2.2.1
    fin_cases d <;> blk_simp <;> rw [e]
    · rfl
    · show 0 * 1024 + q.val = q.val
      omega
  rw [show (win0_3.blk t).view.emb (ix2 p q) = (ix2 (row t p) q : S4096x1024.Idx) from hi]
  rfl

theorem arr4 (c : Dev nD) : ((dats m 0 c).arrAt 4 cfg0.N : Vec Ideal S4096x4096 .bf16)
    = fun y => u m c (y 0) (y 1) := by
  refine (dats m 0 c).arrAt_eq_of_covers (w := 4) _ (by decide +kernel) fun t hf y => ?_
  obtain ⟨p, q, rfl⟩ : ∃ (p : Fin 256) (q : Fin 4096), y = ix2 p q := ⟨y 0, y 1, eq_ix2 y⟩
  blk_simp
  rw [after0_4, out4]
  have hi : ((cfg0.win 4).blk t).view.emb (ix2 p q) = (ix2 (row t p) q : S4096x4096.Idx) := by
    funext d
    apply Fin.ext
    have e := (idx t).2.2.2.2
    fin_cases d <;> blk_simp <;> rw [e]
    · rfl
    · show 0 * 4096 + q.val = q.val
      omega
  rw [show (win0_4.blk t).view.emb (ix2 p q) = (ix2 (row t p) q : S4096x4096.Idx) from hi]
  rfl

theorem ref_h (c : Dev nD) (i : Fin 4096) (q : Fin 1024) : FwdUpRefIdeal.Read.val_main_v13 (X m c) (G m c) (ix2 i q) = h m c i q := by
  pointwise [FwdUpRefIdeal.Read.val_main_v0, FwdUpRefIdeal.Read.val_main_v1, FwdUpRefIdeal.Read.val_main_cst, FwdUpRefIdeal.Read.val_main_v2, FwdUpRefIdeal.Read.val_main_v3, FwdUpRefIdeal.Read.val_main_cst_0, FwdUpRefIdeal.Read.val_main_v4, FwdUpRefIdeal.Read.val_main_v5, FwdUpRefIdeal.Read.val_main_cst_1, FwdUpRefIdeal.Read.val_main_v6, FwdUpRefIdeal.Read.val_main_v7, FwdUpRefIdeal.Read.val_main_v8, FwdUpRefIdeal.Read.val_main_v9, FwdUpRefIdeal.Read.val_main_v10, FwdUpRefIdeal.Read.val_main_v11, FwdUpRefIdeal.Read.val_main_v12, FwdUpRefIdeal.Read.val_main_v13]
  rfl

theorem ref_u (c : Dev nD) (i q : Fin 4096) : FwdUpRefIdeal.Read.val_main_v17 (X m c) (G m c) (W m c) (ix2 i q) = u m c i q := by
  pointwise [FwdUpRefIdeal.Read.val_main_v15, FwdUpRefIdeal.Read.val_main_call0_cst, FwdUpRefIdeal.Read.val_main_call0_v0, FwdUpRefIdeal.Read.val_main_v16, FwdUpRefIdeal.Read.val_main_v17]
  simp only [ref_h]
  rfl

/-- The claim's two results. -/
theorem results (c : Dev nD) :
    ((dats m 0 c).arrAt 3 cfg0.N : Vec Ideal S4096x1024 .bf16) = FwdUpRefIdeal.Read.val_main_v14 (X m c) (G m c)
    ∧ ((dats m 0 c).arrAt 4 cfg0.N : Vec Ideal S4096x4096 .bf16) = FwdUpRefIdeal.Read.val_main_v18 (X m c) (G m c) (W m c) := by
  refine ⟨?_, ?_⟩
  · rw [arr3]
    funext j
    rw [eq_ix2 j]
    exact (ref_h m c _ _).symm
  · rw [arr4]
    funext j
    rw [eq_ix2 j]
    exact (ref_u m c _ _).symm

end Cert.FwdUpIdeal.Value

end
-- ==== Proof.FwdDown.lean ====
/-
  The product after the squared relu, with the norm after the MLP and the residual added: block by block of 256 rows the
  kernel's results are those of the forward lines. No hypothesis: both sides are the same sums of the same products.
-/
module

public import proofs.«01_k».proof.Proof.NormGrad
public import proofs.«01_k».proof.Proof.Gen.FwdDownIdeal.Value
public import proofs.«01_k».proof.Proof.Gen.FwdDownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem NormGrad
open Idealize.ShloMosaic.Pipeline (Dat)

namespace Cert.FwdDownIdeal.Value

open Cert.FwdDownIdeal Cert.FwdDownIdeal.Gen

variable (m : (ℓ : Loc nD τ sig) → Buf (Elt Ideal) ℓ)

local notation "N₀" => Ideal.ofBits FTy.f32 0x44800000#32
local notation "e₀" => Ideal.ofBits FTy.f32 0x358637BD#32

theorem idx : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- The launch contents of the arguments. -/
abbrev U (c : Dev nD) : Vec Ideal S4096x4096 .f32 := m ((c.tc : Thread nD τ).loc main_arg0)
abbrev W (c : Dev nD) : Vec Ideal S4096x1024 .f32 := m ((c.tc : Thread nD τ).loc main_arg1)
abbrev X (c : Dev nD) : Vec Ideal S4096x1024 .f32 := m ((c.tc : Thread nD τ).loc main_arg2)
abbrev G (c : Dev nD) : Vec Ideal S1x1024 .f32 := m ((c.tc : Thread nD τ).loc main_arg3)

/-- Row `p` of the block at point `t`, in the array. -/
abbrev row (t : Fin cfg0.N) (p : Fin 256) : Fin 4096 :=
  ⟨t.val * 256 + p.val, by have h : t.val < 16 := t.isLt.trans_eq N_0; omega⟩

theorem blk0 (c : Dev nD) (t : Fin cfg0.N) (p : Fin 256) (l : Fin 4096) :
    (iblk m c 0 t : Vec Ideal S256x4096 .bf16) (ix2 p l) = U m c (ix2 (row t p) l) := by
  blk_simp [iblk]
  rw [show V m c main_v0 = U m c from rfl]
  blk_ext [(idx t).1]

section Entry
variable {F : FTy → Type} [FloatOps F] (mF : (ℓ : Loc nD τ sig) → Buf (Elt F) ℓ)

/-- The host's reshape of the weight. -/
theorem w_entry (c : Dev nD) : V mF c main_v2
    = shapeCast S4x1024x1024 (truncf .bf16 (mF ((c.tc : Thread nD τ).loc main_arg1)) Facts₀.bitsLt_bf16_f32) Facts₀.shapeCasts_S4096x1024_S4x1024x1024 := by
  rfl

end Entry

/-- The kernel's reshape undoes the host's. -/
theorem w_block (c : Dev nD) (t : Fin cfg0.N) :
    (shapeCast S4096x1024 (shapeCast S4x1024x1024 (iblk m c 1 t : Vec Ideal S4x1024x1024 .bf16) Facts₀.shapeCasts_S4x1024x1024_S4x1024x1024)
      Facts₀.shapeCasts_S4x1024x1024_S4096x1024 : Vec Ideal S4096x1024 .bf16) = W m c := by
  have h : (iblk m c 1 t : Vec Ideal S4x1024x1024 .bf16) = V m c main_v2 := by
    funext y
    obtain ⟨a, b, d, rfl⟩ : ∃ (a : Fin 4) (b : Fin 1024) (d : Fin 1024), y = ix3 a b d := ⟨y 0, y 1, y 2, eq_ix3 y⟩
    blk_simp [iblk]
    blk_ext [(idx t).2.1]
  rw [h, w_entry]
  rw [shapeCast_comp]
  exact shapeCast_shapeCast _ _ _

theorem blk2 (c : Dev nD) (t : Fin cfg0.N) (p : Fin 256) (l : Fin 1024) :
    (iblk m c 2 t : Vec Ideal S256x1024 .f32) (ix2 p l) = X m c (ix2 (row t p) l) := by
  blk_simp [iblk]
  rw [V_main_arg2]
  blk_ext [(idx t).2.2.1]

theorem blk3 (c : Dev nD) (t : Fin cfg0.N) (l : Fin 1024) :
    (iblk m c 3 t : Vec Ideal S1x1024 .f32) (ix2 0 l) = G m c (ix2 0 l) := by
  blk_simp [iblk]
  rw [V_main_arg3]
  blk_ext [(idx t).2.2.2.1]

/-- The product, and the residual with the normed product. -/
def d (c : Dev nD) (i : Fin 4096) (q : Fin 1024) : EReal := ∑ k, U m c (ix2 i k) * W m c (ix2 k q)
def y (c : Dev nD) (i : Fin 4096) (q : Fin 1024) : EReal := X m c (ix2 i q) + d m c i q * fac N₀ e₀ (d m c i) * G m c (ix2 0 q)

theorem d_apply (c : Dev nD) (t : Fin cfg0.N) (p : Fin 256) (q : Fin 1024) :
    k0_pay1 (F := Ideal) (iblk m c 0 t) (iblk m c 1 t) (ix2 p q) = d m c (row t p) q := by
  unfold k0_pay1
  rw [w_block]
  pointwise
  simp only [blk0]
  rfl

theorem y_apply (c : Dev nD) (t : Fin cfg0.N) (p : Fin 256) (q : Fin 1024) :
    k0_pay2 (F := Ideal) (iblk m c 0 t) (iblk m c 1 t) (iblk m c 2 t) (iblk m c 3 t) (ix2 p q) = y m c (row t p) q := by
  pointwise [k0_pay2]
  simp only [d_apply, blk2, blk3]
  rfl

theorem out4 (c : Dev nD) (t : Fin cfg0.N) (p : Fin 256) (q : Fin 1024) :
    out0_4 (iblk m c 0 t) (iblk m c 1 t) (iblk m c 2 t) (iblk m c 3 t) (ix2 p q) = d m c (row t p) q := by
  unfold out0_4; frame_out
  exact d_apply m c t p q

theorem out5 (c : Dev nD) (t : Fin cfg0.N) (p : Fin 256) (q : Fin 1024) :
    out0_5 (iblk m c 0 t) (iblk m c 1 t) (iblk m c 2 t) (iblk m c 3 t) (ix2 p q) = y m c (row t p) q := by
  unfold out0_5; frame_out
  exact y_apply m c t p q

theorem arr4 (c : Dev nD) : ((dats m 0 c).arrAt 4 cfg0.N : Vec Ideal S4096x1024 .f32)
    = fun y => d m c (y 0) (y 1) := by
  refine (dats m 0 c).arrAt_eq_of_covers (w := 4) _ (by decide +kernel) fun t hf y => ?_
  obtain ⟨p, q, rfl⟩ : ∃ (p : Fin 256) (q : Fin 1024), y = ix2 p q := ⟨y 0, y 1, eq_ix2 y⟩
  blk_simp
  rw [after0_4, out4]
  have hi : ((cfg0.win 4).blk t).view.emb (ix2 p q) = (ix2 (row t p) q : S4096x1024.Idx) := by
    funext d
    apply Fin.ext
    have e := (idx t).2.2.2.2.1
    fin_cases d <;> blk_simp <;> rw [e]
    · rfl
    · show 0 * 1024 + q.val = q.val
      omega
  rw [show (win0_4.blk t).view.emb (ix2 p q) = (ix2 (row t p) q : S4096x1024.Idx) from hi]
  rfl

theorem arr5 (c : Dev nD) : ((dats m 0 c).arrAt 5 cfg0.N : Vec Ideal S4096x1024 .f32)
    = fun j => y m c (j 0) (j 1) := by
  refine (dats m 0 c).arrAt_eq_of_covers (w := 5) _ (by decide +kernel) fun t hf y => ?_
  obtain ⟨p, q, rfl⟩ : ∃ (p : Fin 256) (q : Fin 1024), y = ix2 p q := ⟨y 0, y 1, eq_ix2 y⟩
  blk_simp
  rw [after0_5, out5]
  have hi : ((cfg0.win 5).blk t).view.emb (ix2 p q) = (ix2 (row t p) q : S4096x1024.Idx) := by
    funext d
    apply Fin.ext
    have e := (idx t).2.2.2.2.2
    fin_cases d <;> blk_simp <;> rw [e]
    · rfl
    · show 0 * 1024 + q.val = q.val
      omega
  rw [show (win0_5.blk t).view.emb (ix2 p q) = (ix2 (row t p) q : S4096x1024.Idx) from hi]
  rfl

theorem ref_d (c : Dev nD) (i : Fin 4096) (q : Fin 1024) : FwdDownRefIdeal.Read.val_main_v0 (U m c) (W m c) (ix2 i q) = d m c i q := by
  pointwise [FwdDownRefIdeal.Read.val_main_v0]
  rfl

theorem ref_y (c : Dev nD) (i : Fin 4096) (q : Fin 1024) : FwdDownRefIdeal.Read.val_main_v15 (U m c) (W m c) (X m c) (G m c) (ix2 i q) = y m c i q := by
  pointwise [FwdDownRefIdeal.Read.val_main_v1, FwdDownRefIdeal.Read.val_main_v2, FwdDownRefIdeal.Read.val_main_cst, FwdDownRefIdeal.Read.val_main_v3, FwdDownRefIdeal.Read.val_main_v4, FwdDownRefIdeal.Read.val_main_cst_0, FwdDownRefIdeal.Read.val_main_v5, FwdDownRefIdeal.Read.val_main_v6, FwdDownRefIdeal.Read.val_main_cst_1, FwdDownRefIdeal.Read.val_main_v7, FwdDownRefIdeal.Read.val_main_v8, FwdDownRefIdeal.Read.val_main_v9, FwdDownRefIdeal.Read.val_main_v10, FwdDownRefIdeal.Read.val_main_v11, FwdDownRefIdeal.Read.val_main_v12, FwdDownRefIdeal.Read.val_main_v13, FwdDownRefIdeal.Read.val_main_v14, FwdDownRefIdeal.Read.val_main_v15]
  simp only [Ideal.ofBits_zero_f32, zero_add, ref_d]
  rfl

/-- The claim's two results. -/
theorem results (c : Dev nD) :
    ((dats m 0 c).arrAt 4 cfg0.N : Vec Ideal S4096x1024 .f32) = FwdDownRefIdeal.Read.val_main_v0 (U m c) (W m c)
    ∧ ((dats m 0 c).arrAt 5 cfg0.N : Vec Ideal S4096x1024 .f32) = FwdDownRefIdeal.Read.val_main_v15 (U m c) (W m c) (X m c) (G m c) := by
  refine ⟨?_, ?_⟩
  · rw [arr4]
    funext j
    rw [eq_ix2 j]
    exact (ref_d m c _ _).symm
  · rw [arr5]
    funext j
    rw [eq_ix2 j]
    exact (ref_y m c _ _).symm

end Cert.FwdDownIdeal.Value

end
-- ==== Proof.FwdMix.lean ====
/-
  The gated merge of the two attentions' products, the output product, and the residual with the norm after the mixers:
  block by block of 256 rows the kernel's results are those of the forward lines. No hypothesis: both sides are the same
  sums of the same products. The gates are read from the padded array the host builds around them.
-/
module

public import proofs.«01_k».proof.Proof.NormGrad
public import proofs.«01_k».proof.Proof.Gen.FwdMixIdeal.Value
public import proofs.«01_k».proof.Proof.Gen.FwdMixRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem NormGrad
open Idealize.ShloMosaic.Pipeline (Dat)

namespace Cert.FwdMixIdeal.Value

open Cert.FwdMixIdeal Cert.FwdMixIdeal.Gen

variable (m : (ℓ : Loc nD τ sig) → Buf (Elt Ideal) ℓ)

local notation "N₀" => Ideal.ofBits FTy.f32 0x44800000#32
local notation "e₀" => Ideal.ofBits FTy.f32 0x358637BD#32

theorem idx : ∀ t : Fin cfg0.N, win0_0.index t = ![t.val, 0]
    ∧ win0_1.index t = ![t.val, 0]
    ∧ win0_2.index t = ![t.val, 1]
    ∧ win0_3.index t = ![t.val, 2]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0] :=
  (by decide +kernel : ∀ t : Fin grid0.N, _)

/-- The launch contents of the arguments. -/
abbrev OA (c : Dev nD) : Vec Ideal S4096x1024 .f32 := m ((c.tc : Thread nD τ).loc main_arg0)
abbrev OB (c : Dev nD) : Vec Ideal S4096x1024 .f32 := m ((c.tc : Thread nD τ).loc main_arg1)
abbrev Z (c : Dev nD) : Vec Ideal S4096x2048 .f32 := m ((c.tc : Thread nD τ).loc main_arg2)
abbrev X (c : Dev nD) : Vec Ideal S4096x1024 .f32 := m ((c.tc : Thread nD τ).loc main_arg3)
abbrev WA (c : Dev nD) : Vec Ideal S1024x1024 .f32 := m ((c.tc : Thread nD τ).loc main_arg4)
abbrev WB (c : Dev nD) : Vec Ideal S1024x1024 .f32 := m ((c.tc : Thread nD τ).loc main_arg5)
abbrev WO (c : Dev nD) : Vec Ideal S1024x1024 .f32 := m ((c.tc : Thread nD τ).loc main_arg6)
abbrev G (c : Dev nD) : Vec Ideal S1x1024 .f32 := m ((c.tc : Thread nD τ).loc main_arg7)

/-- Row `p` of the block at point `t`, in the array. -/
abbrev row (t : Fin cfg0.N) (p : Fin 256) : Fin 4096 :=
  ⟨t.val * 256 + p.val, by have h : t.val < 16 := t.isLt.trans_eq N_0; omega⟩

section Entry
variable {F : FTy → Type} [FloatOps F] (mF : (ℓ : Loc nD τ sig) → Buf (Elt F) ℓ)

/-- The padded gates: zeros, the two gates, zeros. -/
theorem z_entry (c : Dev nD) : V mF c main_v2
    = concatenate S4096x4096 1
      [⟨S4096x1024, broadcastInDim S4096x1024 ![] Facts₀.bcast_S_S4096x1024 (constant S_ .f32 0x00000000#32)⟩,
       ⟨S4096x2048, mF ((c.tc : Thread nD τ).loc main_arg2)⟩,
       ⟨S4096x1024, broadcastInDim S4096x1024 ![] Facts₀.bcast_S_S4096x1024 (constant S_ .f32 0x00000000#32)⟩]
      Facts₀.concatenates_S4096x1024_S4096x2048_S4096x1024_S4096x4096_d1 := by
  rfl

end Entry

theorem z_apply (c : Dev nD) (i : Fin 4096) (l : Fin 2048) : (V m c main_v2 : Vec Ideal S4096x4096 .f32) (ix2 i ⟨1024 + l.val, by omega⟩)
    = Z m c (ix2 i l) := by
  rw [z_entry]
  pointwise

theorem blk0 (c : Dev nD) (t : Fin cfg0.N) (p : Fin 256) (l : Fin 1024) :
    (iblk m c 0 t : Vec Ideal S256x1024 .f32) (ix2 p l) = OA m c (ix2 (row t p) l) := by
  blk_simp [iblk]
  rw [V_main_arg0]
  blk_ext [(idx t).1]

theorem blk1 (c : Dev nD) (t : Fin cfg0.N) (p : Fin 256) (l : Fin 1024) :
    (iblk m c 1 t : Vec Ideal S256x1024 .f32) (ix2 p l) = OB m c (ix2 (row t p) l) := by
  blk_simp [iblk]
  rw [V_main_arg1]
  blk_ext [(idx t).2.1]

theorem blk2 (c : Dev nD) (t : Fin cfg0.N) (p : Fin 256) (l : Fin 1024) :
    (iblk m c 2 t : Vec Ideal S256x1024 .f32) (ix2 p l) = Z m c (ix2 (row t p) ⟨l.val, by omega⟩) := by
  rw [← z_apply]
  blk_simp [iblk]
  blk_ext [(idx t).2.2.1]

theorem blk3 (c : Dev nD) (t : Fin cfg0.N) (p : Fin 256) (l : Fin 1024) :
    (iblk m c 3 t : Vec Ideal S256x1024 .f32) (ix2 p l) = Z m c (ix2 (row t p) ⟨1024 + l.val, by omega⟩) := by
  rw [← z_apply]
  blk_simp [iblk]
  blk_ext [(idx t).2.2.2.1]

theorem blk4 (c : Dev nD) (t : Fin cfg0.N) (p : Fin 256) (l : Fin 1024) :
    (iblk m c 4 t : Vec Ideal S256x1024 .f32) (ix2 p l) = X m c (ix2 (row t p) l) := by
  blk_simp [iblk]
  rw [V_main_arg3]
  blk_ext [(idx t).2.2.2.2.1]

theorem blk5 (c : Dev nD) (t : Fin cfg0.N) (p q : Fin 1024) :
    (iblk m c 5 t : Vec Ideal S1024x1024 .bf16) (ix2 p q) = WA m c (ix2 p q) := by
  blk_simp [iblk]
  rw [show V m c main_v3 = WA m c from rfl]
  blk_ext [(idx t).2.2.2.2.2.1]

theorem blk6 (c : Dev nD) (t : Fin cfg0.N) (p q : Fin 1024) :
    (iblk m c 6 t : Vec Ideal S1024x1024 .bf16) (ix2 p q) = WB m c (ix2 p q) := by
  blk_simp [iblk]
  rw [show V m c main_v4 = WB m c from rfl]
  blk_ext [(idx t).2.2.2.2.2.2.1]

theorem blk7 (c : Dev nD) (t : Fin cfg0.N) (p q : Fin 1024) :
    (iblk m c 7 t : Vec Ideal S1024x1024 .bf16) (ix2 p q) = WO m c (ix2 p q) := by
  blk_simp [iblk]
  rw [show V m c main_v5 = WO m c from rfl]
  blk_ext [(idx t).2.2.2.2.2.2.2.1]

theorem blk8 (c : Dev nD) (t : Fin cfg0.N) (l : Fin 1024) :
    (iblk m c 8 t : Vec Ideal S1x1024 .f32) (ix2 0 l) = G m c (ix2 0 l) := by
  blk_simp [iblk]
  rw [V_main_arg7]
  blk_ext [(idx t).2.2.2.2.2.2.2.2.1]

/-- The logistic function as both programs take it. -/
def sg (z : EReal) : EReal := Ideal.div 1 (1 + Ideal.exp (-z))

/-- The two products, the gated merge, the output product, and the residual with its norm. -/
def a (c : Dev nD) (i : Fin 4096) (q : Fin 1024) : EReal := ∑ k, OA m c (ix2 i k) * WA m c (ix2 k q)
def b (c : Dev nD) (i : Fin 4096) (q : Fin 1024) : EReal := ∑ k, OB m c (ix2 i k) * WB m c (ix2 k q)
def y (c : Dev nD) (i : Fin 4096) (q : Fin 1024) : EReal :=
  sg (Z m c (ix2 i ⟨q.val, by omega⟩)) * a m c i q + sg (Z m c (ix2 i ⟨1024 + q.val, by omega⟩)) * b m c i q
def o (c : Dev nD) (i : Fin 4096) (q : Fin 1024) : EReal := ∑ k, y m c i k * WO m c (ix2 k q)
def x (c : Dev nD) (i : Fin 4096) (q : Fin 1024) : EReal := X m c (ix2 i q) + o m c i q * fac N₀ e₀ (o m c i) * G m c (ix2 0 q)

theorem a_apply (c : Dev nD) (t : Fin cfg0.N) (p : Fin 256) (q : Fin 1024) :
    k0_pay4 (F := Ideal) (iblk m c 0 t) (iblk m c 5 t) (ix2 p q) = a m c (row t p) q := by
  pointwise [k0_pay4]
  simp only [blk0, blk5]
  rfl

theorem b_apply (c : Dev nD) (t : Fin cfg0.N) (p : Fin 256) (q : Fin 1024) :
    k0_pay5 (F := Ideal) (iblk m c 1 t) (iblk m c 6 t) (ix2 p q) = b m c (row t p) q := by
  pointwise [k0_pay5]
  simp only [blk1, blk6]
  rfl

/-- The merge at point `t`. -/
abbrev yb (c : Dev nD) (t : Fin cfg0.N) : FVec Ideal S256x1024 .f32 :=
  k0_pay6 (F := Ideal) (iblk m c 0 t) (iblk m c 5 t) (iblk m c 1 t) (iblk m c 6 t) (iblk m c 2 t) (iblk m c 3 t)

theorem y_apply (c : Dev nD) (t : Fin cfg0.N) (p : Fin 256) (q : Fin 1024) : yb m c t (ix2 p q) = y m c (row t p) q := by
  unfold yb
  pointwise [k0_pay6]
  simp only [a_apply, b_apply, blk2, blk3, Ideal.ofBits_zero_f32, zero_sub]
  rfl

theorem o_apply (c : Dev nD) (t : Fin cfg0.N) (p : Fin 256) (q : Fin 1024) :
    k0_pay2 (F := Ideal) (yb m c t) (iblk m c 7 t) (ix2 p q) = o m c (row t p) q := by
  pointwise [k0_pay2, k0_pay1]
  simp only [y_apply, blk7]
  rfl

theorem x_apply (c : Dev nD) (t : Fin cfg0.N) (p : Fin 256) (q : Fin 1024) :
    k0_pay3 (F := Ideal) (yb m c t) (iblk m c 7 t) (iblk m c 4 t) (iblk m c 8 t) (ix2 p q) = x m c (row t p) q := by
  pointwise [k0_pay3]
  simp only [o_apply, blk4, blk8]
  rfl

theorem out9 (c : Dev nD) (t : Fin cfg0.N) (p : Fin 256) (q : Fin 1024) :
    out0_9 (iblk m c 0 t) (iblk m c 1 t) (iblk m c 2 t) (iblk m c 3 t) (iblk m c 4 t) (iblk m c 5 t) (iblk m c 6 t) (iblk m c 7 t) (iblk m c 8 t) (ix2 p q) = y m c (row t p) q := by
  unfold out0_9 k0_pay7; frame_out
  exact y_apply m c t p q

theorem out10 (c : Dev nD) (t : Fin cfg0.N) (p : Fin 256) (q : Fin 1024) :
    out0_10 (iblk m c 0 t) (iblk m c 1 t) (iblk m c 2 t) (iblk m c 3 t) (iblk m c 4 t) (iblk m c 5 t) (iblk m c 6 t) (iblk m c 7 t) (iblk m c 8 t) (ix2 p q) = o m c (row t p) q := by
  unfold out0_10 k0_pay7; frame_out
  exact o_apply m c t p q

theorem out11 (c : Dev nD) (t : Fin cfg0.N) (p : Fin 256) (q : Fin 1024) :
    out0_11 (iblk m c 0 t) (iblk m c 1 t) (iblk m c 2 t) (iblk m c 3 t) (iblk m c 4 t) (iblk m c 5 t) (iblk m c 6 t) (iblk m c 7 t) (iblk m c 8 t) (ix2 p q) = a m c (row t p) q := by
  unfold out0_11; frame_out
  exact a_apply m c t p q

theorem out12 (c : Dev nD) (t : Fin cfg0.N) (p : Fin 256) (q : Fin 1024) :
    out0_12 (iblk m c 0 t) (iblk m c 1 t) (iblk m c 2 t) (iblk m c 3 t) (iblk m c 4 t) (iblk m c 5 t) (iblk m c 6 t) (iblk m c 7 t) (iblk m c 8 t) (ix2 p q) = b m c (row t p) q := by
  unfold out0_12; frame_out
  exact b_apply m c t p q

theorem out13 (c : Dev nD) (t : Fin cfg0.N) (p : Fin 256) (q : Fin 1024) :
    out0_13 (iblk m c 0 t) (iblk m c 1 t) (iblk m c 2 t) (iblk m c 3 t) (iblk m c 4 t) (iblk m c 5 t) (iblk m c 6 t) (iblk m c 7 t) (iblk m c 8 t) (ix2 p q) = x m c (row t p) q := by
  unfold out0_13 k0_pay7; frame_out
  exact x_apply m c t p q

theorem arr9 (c : Dev nD) : ((dats m 0 c).arrAt 9 cfg0.N : Vec Ideal S4096x1024 .bf16)
    = fun j => y m c (j 0) (j 1) := by
  refine (dats m 0 c).arrAt_eq_of_covers (w := 9) _ (by decide +kernel) fun t hf y => ?_
  obtain ⟨p, q, rfl⟩ : ∃ (p : Fin 256) (q : Fin 1024), y = ix2 p q := ⟨y 0, y 1, eq_ix2 y⟩
  blk_simp
  rw [after0_9, out9]
  have hi : ((cfg0.win 9).blk t).view.emb (ix2 p q) = (ix2 (row t p) q : S4096x1024.Idx) := by
    funext d
    apply Fin.ext
    have e := (idx t).2.2.2.2.2.2.2.2.2.1
    fin_cases d <;> blk_simp <;> rw [e]
    · rfl
    · show 0 * 1024 + q.val = q.val
      omega
  rw [show (win0_9.blk t).view.emb (ix2 p q) = (ix2 (row t p) q : S4096x1024.Idx) from hi]
  rfl

theorem arr10 (c : Dev nD) : ((dats m 0 c).arrAt 10 cfg0.N : Vec Ideal S4096x1024 .f32)
    = fun j => o m c (j 0) (j 1) := by
  refine (dats m 0 c).arrAt_eq_of_covers (w := 10) _ (by decide +kernel) fun t hf y => ?_
  obtain ⟨p, q, rfl⟩ : ∃ (p : Fin 256) (q : Fin 1024), y = ix2 p q := ⟨y 0, y 1, eq_ix2 y⟩
  blk_simp
  rw [after0_10, out10]
  have hi : ((cfg0.win 10).blk t).view.emb (ix2 p q) = (ix2 (row t p) q : S4096x1024.Idx) := by
    funext d
    apply Fin.ext
    have e := (idx t).2.2.2.2.2.2.2.2.2.2.1
    fin_cases d <;> blk_simp <;> rw [e]
    · rfl
    · show 0 * 1024 + q.val = q.val
      omega
  rw [show (win0_10.blk t).view.emb (ix2 p q) = (ix2 (row t p) q : S4096x1024.Idx) from hi]
  rfl

theorem arr11 (c : Dev nD) : ((dats m 0 c).arrAt 11 cfg0.N : Vec Ideal S4096x1024 .f32)
    = fun j => a m c (j 0) (j 1) := by
  refine (dats m 0 c).arrAt_eq_of_covers (w := 11) _ (by decide +kernel) fun t hf y => ?_
  obtain ⟨p, q, rfl⟩ : ∃ (p : Fin 256) (q : Fin 1024), y = ix2 p q := ⟨y 0, y 1, eq_ix2 y⟩
  blk_simp
  rw [after0_11, out11]
  have hi : ((cfg0.win 11).blk t).view.emb (ix2 p q) = (ix2 (row t p) q : S4096x1024.Idx) := by
    funext d
    apply Fin.ext
    have e := (idx t).2.2.2.2.2.2.2.2.2.2.2.1
    fin_cases d <;> blk_simp <;> rw [e]
    · rfl
    · show 0 * 1024 + q.val = q.val
      omega
  rw [show (win0_11.blk t).view.emb (ix2 p q) = (ix2 (row t p) q : S4096x1024.Idx) from hi]
  rfl

theorem arr12 (c : Dev nD) : ((dats m 0 c).arrAt 12 cfg0.N : Vec Ideal S4096x1024 .f32)
    = fun j => b m c (j 0) (j 1) := by
  refine (dats m 0 c).arrAt_eq_of_covers (w := 12) _ (by decide +kernel) fun t hf y => ?_
  obtain ⟨p, q, rfl⟩ : ∃ (p : Fin 256) (q : Fin 1024), y = ix2 p q := ⟨y 0, y 1, eq_ix2 y⟩
  blk_simp
  rw [after0_12, out12]
  have hi : ((cfg0.win 12).blk t).view.emb (ix2 p q) = (ix2 (row t p) q : S4096x1024.Idx) := by
    funext d
    apply Fin.ext
    have e := (idx t).2.2.2.2.2.2.2.2.2.2.2.2.1
    fin_cases d <;> blk_simp <;> rw [e]
    · rfl
    · show 0 * 1024 + q.val = q.val
      omega
  rw [show (win0_12.blk t).view.emb (ix2 p q) = (ix2 (row t p) q : S4096x1024.Idx) from hi]
  rfl

theorem arr13 (c : Dev nD) : ((dats m 0 c).arrAt 13 cfg0.N : Vec Ideal S4096x1024 .f32)
    = fun j => x m c (j 0) (j 1) := by
  refine (dats m 0 c).arrAt_eq_of_covers (w := 13) _ (by decide +kernel) fun t hf y => ?_
  obtain ⟨p, q, rfl⟩ : ∃ (p : Fin 256) (q : Fin 1024), y = ix2 p q := ⟨y 0, y 1, eq_ix2 y⟩
  blk_simp
  rw [after0_13, out13]
  have hi : ((cfg0.win 13).blk t).view.emb (ix2 p q) = (ix2 (row t p) q : S4096x1024.Idx) := by
    funext d
    apply Fin.ext
    have e := (idx t).2.2.2.2.2.2.2.2.2.2.2.2.2
    fin_cases d <;> blk_simp <;> rw [e]
    · rfl
    · show 0 * 1024 + q.val = q.val
      omega
  rw [show (win0_13.blk t).view.emb (ix2 p q) = (ix2 (row t p) q : S4096x1024.Idx) from hi]
  rfl

theorem ref_a (c : Dev nD) (i : Fin 4096) (q : Fin 1024) : FwdMixRefIdeal.Read.val_main_v2 (OA m c) (WA m c) (ix2 i q) = a m c i q := by
  pointwise [FwdMixRefIdeal.Read.val_main_v2]
  rfl

theorem ref_b (c : Dev nD) (i : Fin 4096) (q : Fin 1024) : FwdMixRefIdeal.Read.val_main_v3 (OB m c) (WB m c) (ix2 i q) = b m c i q := by
  pointwise [FwdMixRefIdeal.Read.val_main_v3]
  rfl

theorem ref_y (c : Dev nD) (i : Fin 4096) (q : Fin 1024) : FwdMixRefIdeal.Read.val_main_v18 (OA m c) (OB m c) (Z m c) (WA m c) (WB m c) (ix2 i q) = y m c i q := by
  pointwise [FwdMixRefIdeal.Read.val_main_v0, FwdMixRefIdeal.Read.val_main_v1, FwdMixRefIdeal.Read.val_main_v4, FwdMixRefIdeal.Read.val_main_v5, FwdMixRefIdeal.Read.val_main_cst, FwdMixRefIdeal.Read.val_main_v6, FwdMixRefIdeal.Read.val_main_v7, FwdMixRefIdeal.Read.val_main_cst_0, FwdMixRefIdeal.Read.val_main_v8, FwdMixRefIdeal.Read.val_main_v9, FwdMixRefIdeal.Read.val_main_v10, FwdMixRefIdeal.Read.val_main_v11, FwdMixRefIdeal.Read.val_main_v12, FwdMixRefIdeal.Read.val_main_cst_1, FwdMixRefIdeal.Read.val_main_v13, FwdMixRefIdeal.Read.val_main_v14, FwdMixRefIdeal.Read.val_main_cst_2, FwdMixRefIdeal.Read.val_main_v15, FwdMixRefIdeal.Read.val_main_v16, FwdMixRefIdeal.Read.val_main_v17, FwdMixRefIdeal.Read.val_main_v18]
  simp only [ref_a, ref_b]
  rfl

theorem ref_o (c : Dev nD) (i : Fin 4096) (q : Fin 1024) : FwdMixRefIdeal.Read.val_main_v19 (OA m c) (OB m c) (Z m c) (WA m c) (WB m c) (WO m c) (ix2 i q) = o m c i q := by
  pointwise [FwdMixRefIdeal.Read.val_main_v19]
  simp only [ref_y]
  rfl

theorem ref_x (c : Dev nD) (i : Fin 4096) (q : Fin 1024) : FwdMixRefIdeal.Read.val_main_v35 (OA m c) (OB m c) (Z m c) (X m c) (WA m c) (WB m c) (WO m c) (G m c) (ix2 i q) = x m c i q := by
  pointwise [FwdMixRefIdeal.Read.val_main_v21, FwdMixRefIdeal.Read.val_main_v22, FwdMixRefIdeal.Read.val_main_cst_3, FwdMixRefIdeal.Read.val_main_v23, FwdMixRefIdeal.Read.val_main_v24, FwdMixRefIdeal.Read.val_main_cst_4, FwdMixRefIdeal.Read.val_main_v25, FwdMixRefIdeal.Read.val_main_v26, FwdMixRefIdeal.Read.val_main_cst_5, FwdMixRefIdeal.Read.val_main_v27, FwdMixRefIdeal.Read.val_main_v28, FwdMixRefIdeal.Read.val_main_v29, FwdMixRefIdeal.Read.val_main_v30, FwdMixRefIdeal.Read.val_main_v31, FwdMixRefIdeal.Read.val_main_v32, FwdMixRefIdeal.Read.val_main_v33, FwdMixRefIdeal.Read.val_main_v34, FwdMixRefIdeal.Read.val_main_v35]
  simp only [Ideal.ofBits_zero_f32, zero_add, ref_o]
  rfl

/-- The claim's five results. -/
theorem results (c : Dev nD) :
    ((dats m 0 c).arrAt 9 cfg0.N : Vec Ideal S4096x1024 .bf16) = FwdMixRefIdeal.Read.val_main_v20 (OA m c) (OB m c) (Z m c) (WA m c) (WB m c)
    ∧ ((dats m 0 c).arrAt 10 cfg0.N : Vec Ideal S4096x1024 .f32) = FwdMixRefIdeal.Read.val_main_v19 (OA m c) (OB m c) (Z m c) (WA m c) (WB m c) (WO m c)
    ∧ ((dats m 0 c).arrAt 11 cfg0.N : Vec Ideal S4096x1024 .f32) = FwdMixRefIdeal.Read.val_main_v2 (OA m c) (WA m c)
    ∧ ((dats m 0 c).arrAt 12 cfg0.N : Vec Ideal S4096x1024 .f32) = FwdMixRefIdeal.Read.val_main_v3 (OB m c) (WB m c)
    ∧ ((dats m 0 c).arrAt 13 cfg0.N : Vec Ideal S4096x1024 .f32) = FwdMixRefIdeal.Read.val_main_v35 (OA m c) (OB m c) (Z m c) (X m c) (WA m c) (WB m c) (WO m c) (G m c) := by
  refine ⟨?_, ?_, ?_, ?_, ?_⟩
  · rw [arr9]
    funext j
    rw [eq_ix2 j]
    exact (ref_y m c _ _).symm
  · rw [arr10]
    funext j
    rw [eq_ix2 j]
    exact (ref_o m c _ _).symm
  · rw [arr11]
    funext j
    rw [eq_ix2 j]
    exact (ref_a m c _ _).symm
  · rw [arr12]
    funext j
    rw [eq_ix2 j]
    exact (ref_b m c _ _).symm
  · rw [arr13]
    funext j
    rw [eq_ix2 j]
    exact (ref_x m c _ _).symm

end Cert.FwdMixIdeal.Value

end
-- ==== Proof.FwdInWeight.lean ====
/-
  The weight of the input product as the host lays it out: its columns stand in the order its callers read them, group by
  group columns of the plain weight, and the columns between the groups are zero.
-/
module

public import proofs.«01_k».proof.Proof.Columns
public import proofs.«01_k».proof.Proof.Gen.FwdInIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Columns
open Idealize.ShloMosaic.Pipeline (Dat)

namespace Cert.FwdInIdeal.Value

open Cert.FwdInIdeal Cert.FwdInIdeal.Gen

variable (m : (ℓ : Loc nD τ sig) → Buf (Elt Ideal) ℓ)

section Entry
variable {F : FTy → Type} [FloatOps F] (mF : (ℓ : Loc nD τ sig) → Buf (Elt F) ℓ)
theorem ent5 (c : Dev nD) : V mF c main_v5 = (extractStridedSlice S1024x256 ![0, 0] (extractStridedSlice S1024x936 ![0, 0] (truncf .bf16 (mF ((c.tc : Thread nD τ).loc main_arg2)) Facts₀.bitsLt_bf16_f32) Facts₀.slices_S1024x3744_S1024x936_0_0) Facts₀.slices_S1024x936_S1024x256_0_0) := rfl
theorem ent6 (c : Dev nD) : V mF c main_v6 = (extractStridedSlice S1024x128 ![0, 256] (extractStridedSlice S1024x936 ![0, 0] (truncf .bf16 (mF ((c.tc : Thread nD τ).loc main_arg2)) Facts₀.bitsLt_bf16_f32) Facts₀.slices_S1024x3744_S1024x936_0_0) Facts₀.slices_S1024x936_S1024x128_0_256) := rfl
theorem ent7 (c : Dev nD) : V mF c main_v7 = (extractStridedSlice S1024x32 ![0, 384] (extractStridedSlice S1024x936 ![0, 0] (truncf .bf16 (mF ((c.tc : Thread nD τ).loc main_arg2)) Facts₀.bitsLt_bf16_f32) Facts₀.slices_S1024x3744_S1024x936_0_0) Facts₀.slices_S1024x936_S1024x32_0_384) := rfl
theorem ent8 (c : Dev nD) : V mF c main_v8 = (extractStridedSlice S1024x520 ![0, 416] (extractStridedSlice S1024x936 ![0, 0] (truncf .bf16 (mF ((c.tc : Thread nD τ).loc main_arg2)) Facts₀.bitsLt_bf16_f32) Facts₀.slices_S1024x3744_S1024x936_0_0) Facts₀.slices_S1024x936_S1024x520_0_416) := rfl
theorem ent9 (c : Dev nD) : V mF c main_v9 = (extractStridedSlice S1024x504 ![0, 0] (extractStridedSlice S1024x936 ![0, 936] (truncf .bf16 (mF ((c.tc : Thread nD τ).loc main_arg2)) Facts₀.bitsLt_bf16_f32) Facts₀.slices_S1024x3744_S1024x936_0_936) Facts₀.slices_S1024x936_S1024x504_0_0) := rfl
theorem ent10 (c : Dev nD) : V mF c main_v10 = (extractStridedSlice S1024x64 ![0, 504] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_504) := rfl
theorem ent11 (c : Dev nD) : V mF c main_v11 = (extractStridedSlice S1024x64 ![0, 504] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_504) := rfl
theorem ent12 (c : Dev nD) : V mF c main_v12 = (extractStridedSlice S1024x64 ![0, 568] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_568) := rfl
theorem ent13 (c : Dev nD) : V mF c main_v13 = (extractStridedSlice S1024x64 ![0, 568] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_568) := rfl
theorem ent14 (c : Dev nD) : V mF c main_v14 = (extractStridedSlice S1024x64 ![0, 632] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_632) := rfl
theorem ent15 (c : Dev nD) : V mF c main_v15 = (extractStridedSlice S1024x64 ![0, 632] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_632) := rfl
theorem ent16 (c : Dev nD) : V mF c main_v16 = (extractStridedSlice S1024x64 ![0, 696] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_696) := rfl
theorem ent17 (c : Dev nD) : V mF c main_v17 = (extractStridedSlice S1024x64 ![0, 696] (extractStridedSlice S1024x936 ![0, 936] (truncf .bf16 (mF ((c.tc : Thread nD τ).loc main_arg2)) Facts₀.bitsLt_bf16_f32) Facts₀.slices_S1024x3744_S1024x936_0_936) Facts₀.slices_S1024x936_S1024x64_0_696) := rfl
theorem ent18 (c : Dev nD) : V mF c main_v18 = (extractStridedSlice S1024x176 ![0, 760] (extractStridedSlice S1024x936 ![0, 936] (truncf .bf16 (mF ((c.tc : Thread nD τ).loc main_arg2)) Facts₀.bitsLt_bf16_f32) Facts₀.slices_S1024x3744_S1024x936_0_936) Facts₀.slices_S1024x936_S1024x176_0_760) := rfl
theorem ent3 (c : Dev nD) : V mF c main_v3 = (extractStridedSlice S1024x936 ![0, 1872] (truncf .bf16 (mF ((c.tc : Thread nD τ).loc main_arg2)) Facts₀.bitsLt_bf16_f32) Facts₀.slices_S1024x3744_S1024x936_0_1872) := rfl
theorem ent4 (c : Dev nD) : V mF c main_v4 = (extractStridedSlice S1024x936 ![0, 2808] (truncf .bf16 (mF ((c.tc : Thread nD τ).loc main_arg2)) Facts₀.bitsLt_bf16_f32) Facts₀.slices_S1024x3744_S1024x936_0_2808) := rfl
set_option maxHeartbeats 4000000 in
/-- The host's weight: the columns of the four shards in the order the kernel multiplies them. -/
theorem ent21 (c : Dev nD) : V mF c main_v21 = (concatenate S1024x4032 1 [⟨S1024x520, V mF c main_v8⟩, ⟨S1024x504, V mF c main_v9⟩, ⟨S1024x176, V mF c main_v18⟩, ⟨S1024x936, V mF c main_v3⟩, ⟨S1024x936, V mF c main_v4⟩, ⟨S1024x256, V mF c main_v5⟩, ⟨S1024x64, V mF c main_v10⟩, ⟨S1024x64, V mF c main_v11⟩, ⟨S1024x64, V mF c main_v12⟩, ⟨S1024x64, V mF c main_v13⟩, ⟨S1024x64, V mF c main_v14⟩, ⟨S1024x64, V mF c main_v15⟩, ⟨S1024x64, V mF c main_v16⟩, ⟨S1024x64, V mF c main_v17⟩, ⟨S1024x128, V mF c main_v6⟩, ⟨S1024x64, V mF c main_v19⟩] Facts₀.concatenates_S1024x520_S1024x504_S1024x176_S1024x936_S1024x936_S1024x256_S1024x64_S1024x64_S1024x64_S1024x64_S1024x64_S1024x64_S1024x64_S1024x64_S1024x128_S1024x64_S1024x4032_d1) := by sl_kernel_rfl
set_option maxHeartbeats 4000000 in
theorem ent22 (c : Dev nD) : V mF c main_v22 = (concatenate S1024x64 1 [⟨S1024x32, V mF c main_v7⟩, ⟨S1024x32, V mF c main_v20⟩] Facts₀.concatenates_S1024x32_S1024x32_S1024x64_d1) := by sl_kernel_rfl
set_option maxHeartbeats 4000000 in
theorem ent23 (c : Dev nD) : V mF c main_v23 = (concatenate S1024x4096 1 [⟨S1024x4032, V mF c main_v21⟩, ⟨S1024x64, V mF c main_v22⟩] Facts₀.concatenates_S1024x4032_S1024x64_S1024x4096_d1) := by sl_kernel_rfl
theorem ent19 (c : Dev nD) : V mF c main_v19 = broadcastInDim S1024x64 ![] Facts₀.bcast_S_S1024x64 (constant S_ .bf16 0x0000#16) := rfl
theorem ent20 (c : Dev nD) : V mF c main_v20 = broadcastInDim S1024x32 ![] Facts₀.bcast_S_S1024x32 (constant S_ .bf16 0x0000#16) := rfl

end Entry

/-- The launch contents of the arguments, and the weight the kernel multiplies. -/
abbrev X (c : Dev nD) : Vec Ideal S4096x1024 .f32 := m ((c.tc : Thread nD τ).loc main_arg0)
abbrev G (c : Dev nD) : Vec Ideal S1x1024 .f32 := m ((c.tc : Thread nD τ).loc main_arg1)
abbrev W (c : Dev nD) : Vec Ideal S1024x3744 .f32 := m ((c.tc : Thread nD τ).loc main_arg2)
abbrev WP (c : Dev nD) : Vec Ideal S1024x4096 .bf16 := V m c main_v23

/-- Column number `j` of the weight. -/
def w (c : Dev nD) (k : Fin 1024) (j : ℕ) : EReal := col (W m c) k j

theorem piece5 (c : Dev nD) (k : Fin 1024) {l : ℕ} (hl : l < 256) : col (V m c main_v5 : Vec Ideal S1024x256 .bf16) k l = w m c k (0 + l) := by
  rw [ent5, slice_col _ _ _ (by norm_num) _ hl, slice_col _ _ _ (by norm_num) _ (by omega)]
  exact congrArg (w m c k) (by omega)

theorem piece6 (c : Dev nD) (k : Fin 1024) {l : ℕ} (hl : l < 128) : col (V m c main_v6 : Vec Ideal S1024x128 .bf16) k l = w m c k (256 + l) := by
  rw [ent6, slice_col _ _ _ (by norm_num) _ hl, slice_col _ _ _ (by norm_num) _ (by omega)]
  exact congrArg (w m c k) (by omega)

theorem piece7 (c : Dev nD) (k : Fin 1024) {l : ℕ} (hl : l < 32) : col (V m c main_v7 : Vec Ideal S1024x32 .bf16) k l = w m c k (384 + l) := by
  rw [ent7, slice_col _ _ _ (by norm_num) _ hl, slice_col _ _ _ (by norm_num) _ (by omega)]
  exact congrArg (w m c k) (by omega)

theorem piece8 (c : Dev nD) (k : Fin 1024) {l : ℕ} (hl : l < 520) : col (V m c main_v8 : Vec Ideal S1024x520 .bf16) k l = w m c k (416 + l) := by
  rw [ent8, slice_col _ _ _ (by norm_num) _ hl, slice_col _ _ _ (by norm_num) _ (by omega)]
  exact congrArg (w m c k) (by omega)

theorem piece9 (c : Dev nD) (k : Fin 1024) {l : ℕ} (hl : l < 504) : col (V m c main_v9 : Vec Ideal S1024x504 .bf16) k l = w m c k (936 + l) := by
  rw [ent9, slice_col _ _ _ (by norm_num) _ hl, slice_col _ _ _ (by norm_num) _ (by omega)]
  exact congrArg (w m c k) (by omega)

theorem piece10 (c : Dev nD) (k : Fin 1024) {l : ℕ} (hl : l < 64) : col (V m c main_v10 : Vec Ideal S1024x64 .bf16) k l = w m c k (1440 + l) := by
  rw [ent10, slice_col _ _ _ (by norm_num) _ hl, slice_col _ _ _ (by norm_num) _ (by omega)]
  exact congrArg (w m c k) (by omega)

theorem piece11 (c : Dev nD) (k : Fin 1024) {l : ℕ} (hl : l < 64) : col (V m c main_v11 : Vec Ideal S1024x64 .bf16) k l = w m c k (1440 + l) := by
  rw [ent11, slice_col _ _ _ (by norm_num) _ hl, slice_col _ _ _ (by norm_num) _ (by omega)]
  exact congrArg (w m c k) (by omega)

theorem piece12 (c : Dev nD) (k : Fin 1024) {l : ℕ} (hl : l < 64) : col (V m c main_v12 : Vec Ideal S1024x64 .bf16) k l = w m c k (1504 + l) := by
  rw [ent12, slice_col _ _ _ (by norm_num) _ hl, slice_col _ _ _ (by norm_num) _ (by omega)]
  exact congrArg (w m c k) (by omega)

theorem piece13 (c : Dev nD) (k : Fin 1024) {l : ℕ} (hl : l < 64) : col (V m c main_v13 : Vec Ideal S1024x64 .bf16) k l = w m c k (1504 + l) := by
  rw [ent13, slice_col _ _ _ (by norm_num) _ hl, slice_col _ _ _ (by norm_num) _ (by omega)]
  exact congrArg (w m c k) (by omega)

theorem piece14 (c : Dev nD) (k : Fin 1024) {l : ℕ} (hl : l < 64) : col (V m c main_v14 : Vec Ideal S1024x64 .bf16) k l = w m c k (1568 + l) := by
  rw [ent14, slice_col _ _ _ (by norm_num) _ hl, slice_col _ _ _ (by norm_num) _ (by omega)]
  exact congrArg (w m c k) (by omega)

theorem piece15 (c : Dev nD) (k : Fin 1024) {l : ℕ} (hl : l < 64) : col (V m c main_v15 : Vec Ideal S1024x64 .bf16) k l = w m c k (1568 + l) := by
  rw [ent15, slice_col _ _ _ (by norm_num) _ hl, slice_col _ _ _ (by norm_num) _ (by omega)]
  exact congrArg (w m c k) (by omega)

theorem piece16 (c : Dev nD) (k : Fin 1024) {l : ℕ} (hl : l < 64) : col (V m c main_v16 : Vec Ideal S1024x64 .bf16) k l = w m c k (1632 + l) := by
  rw [ent16, slice_col _ _ _ (by norm_num) _ hl, slice_col _ _ _ (by norm_num) _ (by omega)]
  exact congrArg (w m c k) (by omega)

theorem piece17 (c : Dev nD) (k : Fin 1024) {l : ℕ} (hl : l < 64) : col (V m c main_v17 : Vec Ideal S1024x64 .bf16) k l = w m c k (1632 + l) := by
  rw [ent17, slice_col _ _ _ (by norm_num) _ hl, slice_col _ _ _ (by norm_num) _ (by omega)]
  exact congrArg (w m c k) (by omega)

theorem piece18 (c : Dev nD) (k : Fin 1024) {l : ℕ} (hl : l < 176) : col (V m c main_v18 : Vec Ideal S1024x176 .bf16) k l = w m c k (1696 + l) := by
  rw [ent18, slice_col _ _ _ (by norm_num) _ hl, slice_col _ _ _ (by norm_num) _ (by omega)]
  exact congrArg (w m c k) (by omega)

theorem piece3 (c : Dev nD) (k : Fin 1024) {l : ℕ} (hl : l < 936) : col (V m c main_v3 : Vec Ideal S1024x936 .bf16) k l = w m c k (1872 + l) := by
  rw [ent3, slice_col _ _ _ (by norm_num) _ hl]
  rfl

theorem piece4 (c : Dev nD) (k : Fin 1024) {l : ℕ} (hl : l < 936) : col (V m c main_v4 : Vec Ideal S1024x936 .bf16) k l = w m c k (2808 + l) := by
  rw [ent4, slice_col _ _ _ (by norm_num) _ hl]
  rfl

/-- The kernel's weight, by its column groups. -/
theorem w_sq (c : Dev nD) (k : Fin 1024) {l : ℕ} (hl : l < 1024) : col (WP m c) k l = w m c k (416 + l) := by
  rcases lt_or_ge l 520 with h | h
  · rw [show WP m c = V m c main_v23 from rfl, ent23, concatenate_col _ _ _ 0 (by simp) (V m c main_v21 : Vec Ideal S1024x4032 .bf16) rfl 0 rfl (by norm_num) (l := l) (by omega) (by omega),
      ent21, concatenate_col _ _ _ 0 (by simp) (V m c main_v8 : Vec Ideal S1024x520 .bf16) rfl 0 rfl (by norm_num) (l := l) (by omega) (by omega), piece8 m c k (by omega)]
  · rw [show WP m c = V m c main_v23 from rfl, ent23, concatenate_col _ _ _ 0 (by simp) (V m c main_v21 : Vec Ideal S1024x4032 .bf16) rfl 0 rfl (by norm_num) (l := l) (by omega) (by omega),
      ent21, concatenate_col _ _ _ 1 (by simp) (V m c main_v9 : Vec Ideal S1024x504 .bf16) rfl 520 rfl (by norm_num) (l := l - 520) (by omega) (by omega), piece9 m c k (by omega)]
    exact congrArg (w m c k) (by omega)

theorem w_gate (c : Dev nD) (k : Fin 1024) {l : ℕ} (hl : l < 2048) : col (WP m c) k (1024 + l) = w m c k (1696 + l) := by
  rcases lt_or_ge l 176 with h | h
  · rw [show WP m c = V m c main_v23 from rfl, ent23, concatenate_col _ _ _ 0 (by simp) (V m c main_v21 : Vec Ideal S1024x4032 .bf16) rfl 0 rfl (by norm_num) (l := 1024 + l) (by omega) (by omega),
      ent21, concatenate_col _ _ _ 2 (by simp) (V m c main_v18 : Vec Ideal S1024x176 .bf16) rfl 1024 rfl (by norm_num) (l := l) (by omega) (by omega), piece18 m c k (by omega)]
  rcases lt_or_ge l 1112 with h' | h'
  · rw [show WP m c = V m c main_v23 from rfl, ent23, concatenate_col _ _ _ 0 (by simp) (V m c main_v21 : Vec Ideal S1024x4032 .bf16) rfl 0 rfl (by norm_num) (l := 1024 + l) (by omega) (by omega),
      ent21, concatenate_col _ _ _ 3 (by simp) (V m c main_v3 : Vec Ideal S1024x936 .bf16) rfl 1200 rfl (by norm_num) (l := l - 176) (by omega) (by omega), piece3 m c k (by omega)]
    exact congrArg (w m c k) (by omega)
  · rw [show WP m c = V m c main_v23 from rfl, ent23, concatenate_col _ _ _ 0 (by simp) (V m c main_v21 : Vec Ideal S1024x4032 .bf16) rfl 0 rfl (by norm_num) (l := 1024 + l) (by omega) (by omega),
      ent21, concatenate_col _ _ _ 4 (by simp) (V m c main_v4 : Vec Ideal S1024x936 .bf16) rfl 2136 rfl (by norm_num) (l := l - 1112) (by omega) (by omega), piece4 m c k (by omega)]
    exact congrArg (w m c k) (by omega)

set_option maxHeartbeats 2000000 in
theorem w_5 (c : Dev nD) (k : Fin 1024) {l : ℕ} (hl : l < 256) : col (WP m c) k (3072 + l) = w m c k (0 + l) := by
  rw [show WP m c = V m c main_v23 from rfl, ent23, concatenate_col _ _ _ 0 (by simp) (V m c main_v21 : Vec Ideal S1024x4032 .bf16) rfl 0 rfl (by norm_num) (l := 3072 + l) (by omega) (by omega),
      ent21, concatenate_col _ _ _ 5 (by simp) (V m c main_v5 : Vec Ideal S1024x256 .bf16) rfl 3072 rfl (by norm_num) (l := l) (by omega) (by omega), piece5 m c k (by omega)]

set_option maxHeartbeats 2000000 in
theorem w_10 (c : Dev nD) (k : Fin 1024) {l : ℕ} (hl : l < 64) : col (WP m c) k (3328 + l) = w m c k (1440 + l) := by
  rw [show WP m c = V m c main_v23 from rfl, ent23, concatenate_col _ _ _ 0 (by simp) (V m c main_v21 : Vec Ideal S1024x4032 .bf16) rfl 0 rfl (by norm_num) (l := 3328 + l) (by omega) (by omega),
      ent21, concatenate_col _ _ _ 6 (by simp) (V m c main_v10 : Vec Ideal S1024x64 .bf16) rfl 3328 rfl (by norm_num) (l := l) (by omega) (by omega), piece10 m c k (by omega)]

set_option maxHeartbeats 2000000 in
theorem w_11 (c : Dev nD) (k : Fin 1024) {l : ℕ} (hl : l < 64) : col (WP m c) k (3392 + l) = w m c k (1440 + l) := by
  rw [show WP m c = V m c main_v23 from rfl, ent23, concatenate_col _ _ _ 0 (by simp) (V m c main_v21 : Vec Ideal S1024x4032 .bf16) rfl 0 rfl (by norm_num) (l := 3392 + l) (by omega) (by omega),
      ent21, concatenate_col _ _ _ 7 (by simp) (V m c main_v11 : Vec Ideal S1024x64 .bf16) rfl 3392 rfl (by norm_num) (l := l) (by omega) (by omega), piece11 m c k (by omega)]

set_option maxHeartbeats 2000000 in
theorem w_12 (c : Dev nD) (k : Fin 1024) {l : ℕ} (hl : l < 64) : col (WP m c) k (3456 + l) = w m c k (1504 + l) := by
  rw [show WP m c = V m c main_v23 from rfl, ent23, concatenate_col _ _ _ 0 (by simp) (V m c main_v21 : Vec Ideal S1024x4032 .bf16) rfl 0 rfl (by norm_num) (l := 3456 + l) (by omega) (by omega),
      ent21, concatenate_col _ _ _ 8 (by simp) (V m c main_v12 : Vec Ideal S1024x64 .bf16) rfl 3456 rfl (by norm_num) (l := l) (by omega) (by omega), piece12 m c k (by omega)]

set_option maxHeartbeats 2000000 in
theorem w_13 (c : Dev nD) (k : Fin 1024) {l : ℕ} (hl : l < 64) : col (WP m c) k (3520 + l) = w m c k (1504 + l) := by
  rw [show WP m c = V m c main_v23 from rfl, ent23, concatenate_col _ _ _ 0 (by simp) (V m c main_v21 : Vec Ideal S1024x4032 .bf16) rfl 0 rfl (by norm_num) (l := 3520 + l) (by omega) (by omega),
      ent21, concatenate_col _ _ _ 9 (by simp) (V m c main_v13 : Vec Ideal S1024x64 .bf16) rfl 3520 rfl (by norm_num) (l := l) (by omega) (by omega), piece13 m c k (by omega)]

set_option maxHeartbeats 2000000 in
theorem w_14 (c : Dev nD) (k : Fin 1024) {l : ℕ} (hl : l < 64) : col (WP m c) k (3584 + l) = w m c k (1568 + l) := by
  rw [show WP m c = V m c main_v23 from rfl, ent23, concatenate_col _ _ _ 0 (by simp) (V m c main_v21 : Vec Ideal S1024x4032 .bf16) rfl 0 rfl (by norm_num) (l := 3584 + l) (by omega) (by omega),
      ent21, concatenate_col _ _ _ 10 (by simp) (V m c main_v14 : Vec Ideal S1024x64 .bf16) rfl 3584 rfl (by norm_num) (l := l) (by omega) (by omega), piece14 m c k (by omega)]

set_option maxHeartbeats 2000000 in
theorem w_15 (c : Dev nD) (k : Fin 1024) {l : ℕ} (hl : l < 64) : col (WP m c) k (3648 + l) = w m c k (1568 + l) := by
  rw [show WP m c = V m c main_v23 from rfl, ent23, concatenate_col _ _ _ 0 (by simp) (V m c main_v21 : Vec Ideal S1024x4032 .bf16) rfl 0 rfl (by norm_num) (l := 3648 + l) (by omega) (by omega),
      ent21, concatenate_col _ _ _ 11 (by simp) (V m c main_v15 : Vec Ideal S1024x64 .bf16) rfl 3648 rfl (by norm_num) (l := l) (by omega) (by omega), piece15 m c k (by omega)]

set_option maxHeartbeats 2000000 in
theorem w_16 (c : Dev nD) (k : Fin 1024) {l : ℕ} (hl : l < 64) : col (WP m c) k (3712 + l) = w m c k (1632 + l) := by
  rw [show WP m c = V m c main_v23 from rfl, ent23, concatenate_col _ _ _ 0 (by simp) (V m c main_v21 : Vec Ideal S1024x4032 .bf16) rfl 0 rfl (by norm_num) (l := 3712 + l) (by omega) (by omega),
      ent21, concatenate_col _ _ _ 12 (by simp) (V m c main_v16 : Vec Ideal S1024x64 .bf16) rfl 3712 rfl (by norm_num) (l := l) (by omega) (by omega), piece16 m c k (by omega)]

set_option maxHeartbeats 2000000 in
theorem w_17 (c : Dev nD) (k : Fin 1024) {l : ℕ} (hl : l < 64) : col (WP m c) k (3776 + l) = w m c k (1632 + l) := by
  rw [show WP m c = V m c main_v23 from rfl, ent23, concatenate_col _ _ _ 0 (by simp) (V m c main_v21 : Vec Ideal S1024x4032 .bf16) rfl 0 rfl (by norm_num) (l := 3776 + l) (by omega) (by omega),
      ent21, concatenate_col _ _ _ 13 (by simp) (V m c main_v17 : Vec Ideal S1024x64 .bf16) rfl 3776 rfl (by norm_num) (l := l) (by omega) (by omega), piece17 m c k (by omega)]

set_option maxHeartbeats 2000000 in
theorem w_6 (c : Dev nD) (k : Fin 1024) {l : ℕ} (hl : l < 128) : col (WP m c) k (3840 + l) = w m c k (256 + l) := by
  rw [show WP m c = V m c main_v23 from rfl, ent23, concatenate_col _ _ _ 0 (by simp) (V m c main_v21 : Vec Ideal S1024x4032 .bf16) rfl 0 rfl (by norm_num) (l := 3840 + l) (by omega) (by omega),
      ent21, concatenate_col _ _ _ 14 (by simp) (V m c main_v6 : Vec Ideal S1024x128 .bf16) rfl 3840 rfl (by norm_num) (l := l) (by omega) (by omega), piece6 m c k (by omega)]

theorem w_7 (c : Dev nD) (k : Fin 1024) {l : ℕ} (hl : l < 32) : col (WP m c) k (4032 + l) = w m c k (384 + l) := by
  rw [show WP m c = V m c main_v23 from rfl, ent23, concatenate_col _ _ _ 1 (by simp) (V m c main_v22 : Vec Ideal S1024x64 .bf16) rfl 4032 rfl (by norm_num) (l := l) rfl (by omega),
    ent22, concatenate_col _ _ _ 0 (by simp) (V m c main_v7 : Vec Ideal S1024x32 .bf16) rfl 0 rfl (by norm_num) (l := l) (by omega) (by omega), piece7 m c k hl]

set_option maxHeartbeats 2000000 in
theorem w_19 (c : Dev nD) (k : Fin 1024) {l : ℕ} (hl : l < 64) : col (WP m c) k (3968 + l) = 0 := by
  rw [show WP m c = V m c main_v23 from rfl, ent23, concatenate_col _ _ _ 0 (by simp) (V m c main_v21 : Vec Ideal S1024x4032 .bf16) rfl 0 rfl (by norm_num) (l := 3968 + l) (by omega) (by omega),
      ent21, concatenate_col _ _ _ 15 (by simp) (V m c main_v19 : Vec Ideal S1024x64 .bf16) rfl 3968 rfl (by norm_num) (l := l) (by omega) (by omega), ent19, col_of_lt _ _ hl]
  pointwise

theorem w_20 (c : Dev nD) (k : Fin 1024) {l : ℕ} (hl : l < 32) : col (WP m c) k (4064 + l) = 0 := by
  rw [show WP m c = V m c main_v23 from rfl, ent23, concatenate_col _ _ _ 1 (by simp) (V m c main_v22 : Vec Ideal S1024x64 .bf16) rfl 4032 rfl (by norm_num) (l := 32 + l) (by omega) (by omega),
    ent22, concatenate_col _ _ _ 1 (by simp) (V m c main_v20 : Vec Ideal S1024x32 .bf16) rfl 32 rfl (by norm_num) (l := l) (by omega) (by omega), ent20, col_of_lt _ _ hl]
  pointwise

end Cert.FwdInIdeal.Value

end
-- ==== Proof.FwdIn.lean ====
/-
  The first norm and the input product. The kernel multiplies a weight whose columns stand in the order its callers read them:
  group by group its product is the product of the plain weight's columns, and the columns between the groups are zero.
-/
module

public import proofs.«01_k».proof.Proof.NormGrad
public import proofs.«01_k».proof.Proof.FwdInWeight
public import proofs.«01_k».proof.Proof.Gen.FwdInIdeal.Value
public import proofs.«01_k».proof.Proof.Gen.FwdInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem NormGrad Columns
open Idealize.ShloMosaic.Pipeline (Dat)

namespace Cert.FwdInIdeal.Value

open Cert.FwdInIdeal Cert.FwdInIdeal.Gen

variable (m : (ℓ : Loc nD τ sig) → Buf (Elt Ideal) ℓ)

local notation "N₀" => Ideal.ofBits FTy.f32 0x44800000#32
local notation "e₀" => Ideal.ofBits FTy.f32 0x358637BD#32

theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- Row `p` of the block at point `t`, in the array. -/
abbrev row (t : Fin cfg0.N) (p : Fin 256) : Fin 4096 :=
  ⟨t.val * 256 + p.val, by have h : t.val < 16 := t.isLt.trans_eq N_0; omega⟩

theorem blk0 (c : Dev nD) (t : Fin cfg0.N) (p : Fin 256) (l : Fin 1024) :
    (iblk m c 0 t : Vec Ideal S256x1024 .f32) (ix2 p l) = X m c (ix2 (row t p) l) := by
  blk_simp [iblk]
  rw [V_main_arg0]
  blk_ext [(idx t).1]

theorem blk1 (c : Dev nD) (t : Fin cfg0.N) (l : Fin 1024) :
    (iblk m c 1 t : Vec Ideal S1x1024 .f32) (ix2 0 l) = G m c (ix2 0 l) := by
  blk_simp [iblk]
  rw [V_main_arg1]
  blk_ext [(idx t).2.1]

theorem blk2 (c : Dev nD) (t : Fin cfg0.N) (b : Fin 1024) (d : Fin 4096) :
    (iblk m c 2 t : Vec Ideal S1024x4096 .bf16) (ix2 b d) = WP m c (ix2 b d) := by
  blk_simp [iblk]
  blk_ext [(idx t).2.2.1]

/-- The normed row, and its product with column number `j` of a weight. -/
def h (c : Dev nD) (i : Fin 4096) (q : Fin 1024) : EReal := X m c (ix2 i q) * fac N₀ e₀ (fun k => X m c (ix2 i k)) * G m c (ix2 0 q)
def z (c : Dev nD) (i : Fin 4096) (q : Fin 4096) : EReal := ∑ k, h m c i k * WP m c (ix2 k q)

theorem h_apply (c : Dev nD) (t : Fin cfg0.N) (p : Fin 256) (q : Fin 1024) :
    k0_pay1 (F := Ideal) (iblk m c 0 t) (iblk m c 1 t) (ix2 p q) = h m c (row t p) q := by
  pointwise [k0_pay1]
  simp only [blk0, blk1]
  rfl

theorem out3 (c : Dev nD) (t : Fin cfg0.N) (p : Fin 256) (q : Fin 4096) :
    out0_3 (iblk m c 0 t) (iblk m c 1 t) (iblk m c 2 t) (ix2 p q) = z m c (row t p) q := by
  unfold out0_3; frame_out
  pointwise [k0_pay2]
  simp only [h_apply, blk2]
  rfl

theorem out4 (c : Dev nD) (t : Fin cfg0.N) (p : Fin 256) (q : Fin 1024) :
    out0_4 (iblk m c 0 t) (iblk m c 1 t) (iblk m c 2 t) (ix2 p q) = h m c (row t p) q := by
  unfold out0_4; frame_out
  exact h_apply m c t p q

theorem arr3 (c : Dev nD) : ((dats m 0 c).arrAt 3 cfg0.N : Vec Ideal S4096x4096 .f32)
    = fun y => z m c (y 0) (y 1) := by
  refine (dats m 0 c).arrAt_eq_of_covers (w := 3) _ (by decide +kernel) fun t hf y => ?_
  obtain ⟨p, q, rfl⟩ : ∃ (p : Fin 256) (q : Fin 4096), y = ix2 p q := ⟨y 0, y 1, eq_ix2 y⟩
  blk_simp
  rw [after0_3, out3]
  have hi : ((cfg0.win 3).blk t).view.emb (ix2 p q) = (ix2 (row t p) q : S4096x4096.Idx) := by
    funext d
    apply Fin.ext
    have e := (idx t).2.2.2.1
    fin_cases d <;> blk_simp <;> rw [e]
    · rfl
    · show 0 * 4096 + q.val = q.val
      omega
  rw [show (win0_3.blk t).view.emb (ix2 p q) = (ix2 (row t p) q : S4096x4096.Idx) from hi]
  rfl

theorem arr4 (c : Dev nD) : ((dats m 0 c).arrAt 4 cfg0.N : Vec Ideal S4096x1024 .bf16)
    = fun y => h m c (y 0) (y 1) := by
  refine (dats m 0 c).arrAt_eq_of_covers (w := 4) _ (by decide +kernel) fun t hf y => ?_
  obtain ⟨p, q, rfl⟩ : ∃ (p : Fin 256) (q : Fin 1024), y = ix2 p q := ⟨y 0, y 1, eq_ix2 y⟩
  blk_simp
  rw [after0_4, out4]
  have hi : ((cfg0.win 4).blk t).view.emb (ix2 p q) = (ix2 (row t p) q : S4096x1024.Idx) := by
    funext d
    apply Fin.ext
    have e := (idx t).2.2.2.2
    fin_cases d <;> blk_simp <;> rw [e]
    · rfl
    · show 0 * 1024 + q.val = q.val
      omega
  rw [show (win0_4.blk t).view.emb (ix2 p q) = (ix2 (row t p) q : S4096x1024.Idx) from hi]
  rfl

theorem ref_h (c : Dev nD) (i : Fin 4096) (q : Fin 1024) : FwdInRefIdeal.Read.val_main_v13 (X m c) (G m c) (ix2 i q) = h m c i q := by
  pointwise [FwdInRefIdeal.Read.val_main_v0, FwdInRefIdeal.Read.val_main_v1, FwdInRefIdeal.Read.val_main_v2, FwdInRefIdeal.Read.val_main_v3, FwdInRefIdeal.Read.val_main_v4, FwdInRefIdeal.Read.val_main_v5, FwdInRefIdeal.Read.val_main_v6, FwdInRefIdeal.Read.val_main_v7, FwdInRefIdeal.Read.val_main_v8, FwdInRefIdeal.Read.val_main_v9, FwdInRefIdeal.Read.val_main_v10, FwdInRefIdeal.Read.val_main_v11, FwdInRefIdeal.Read.val_main_v12, FwdInRefIdeal.Read.val_main_v13, FwdInRefIdeal.Read.val_main_cst, FwdInRefIdeal.Read.val_main_cst_0, FwdInRefIdeal.Read.val_main_cst_1]
  rfl

/-- The reference's product, column number `j`. -/
theorem ref_p (c : Dev nD) (i : Fin 4096) {j : ℕ} (hj : j < 3744) :
    col (FwdInRefIdeal.Read.val_main_v14 (X m c) (G m c) (W m c) : Vec Ideal FwdInRefIdeal.S4096x3744 .f32) i j = ∑ k, h m c i k * w m c k j := by
  rw [col_of_lt _ _ hj]
  pointwise [FwdInRefIdeal.Read.val_main_v14]
  simp only [ref_h, w, col_of_lt _ _ hj]

/-- A column of the kernel's product, for a column of its weight that is the plain weight's. -/
theorem z_col (c : Dev nD) (i : Fin 4096) (f : ℕ) {j : ℕ} (hj : j < 4096) (hf : f < 3744) (hw : ∀ k, col (WP m c) k j = w m c k f) :
    z m c i ⟨j, hj⟩ = col (FwdInRefIdeal.Read.val_main_v14 (X m c) (G m c) (W m c) : Vec Ideal FwdInRefIdeal.S4096x3744 .f32) i f := by
  rw [ref_p m c i hf]
  exact Finset.sum_congr rfl fun k _ => congrArg (h m c i k * ·) ((col_of_lt _ _ hj).symm.trans (hw k))

/-- A column of the kernel's product, for a zero column of its weight. -/
theorem z_zero (c : Dev nD) (i : Fin 4096) {j : ℕ} (hj : j < 4096) (hw : ∀ k, col (WP m c) k j = 0) : z m c i ⟨j, hj⟩ = 0 :=
  Finset.sum_eq_zero fun k _ => (congrArg (h m c i k * ·) ((col_of_lt _ _ hj).symm.trans (hw k))).trans (mul_zero _)

/-! The groups of the reference's joined columns, each against the kernel's product. -/

theorem g_0 (c : Dev nD) (i : Fin 4096) {l : ℕ} (hl : l < 1024) (hj : l < 4096) :
    col (FwdInRefIdeal.Read.val_main_v32 (X m c) (G m c) (W m c) : Vec Ideal S4096x4096 .f32) i (l) = z m c i ⟨l, hj⟩ := by
  unfold FwdInRefIdeal.Read.val_main_v32
  rw [concatenate_col _ _ _ 0 (by simp) (FwdInRefIdeal.Read.val_main_v18 (X m c) (G m c) (W m c) : Vec Ideal FwdInRefIdeal.S4096x1024 .f32) rfl 0 rfl (by norm_num) (l := l) (by omega) hl]
  unfold FwdInRefIdeal.Read.val_main_v18
  rw [slice_col _ _ _ (by norm_num) _ hl]
  rw [z_col m c i (416 + l) hj (by omega) fun k => w_sq m c k hl]

theorem g_1 (c : Dev nD) (i : Fin 4096) {l : ℕ} (hl : l < 2048) (hj : 1024 + l < 4096) :
    col (FwdInRefIdeal.Read.val_main_v32 (X m c) (G m c) (W m c) : Vec Ideal S4096x4096 .f32) i (1024 + l) = z m c i ⟨1024 + l, hj⟩ := by
  unfold FwdInRefIdeal.Read.val_main_v32
  rw [concatenate_col _ _ _ 1 (by simp) (FwdInRefIdeal.Read.val_main_v21 (X m c) (G m c) (W m c) : Vec Ideal FwdInRefIdeal.S4096x2048 .f32) rfl 1024 rfl (by norm_num) (l := l) (by omega) hl]
  unfold FwdInRefIdeal.Read.val_main_v21
  rw [slice_col _ _ _ (by norm_num) _ hl]
  rw [z_col m c i (1696 + l) hj (by omega) fun k => w_gate m c k hl]

theorem g_2 (c : Dev nD) (i : Fin 4096) {l : ℕ} (hl : l < 256) (hj : 3072 + l < 4096) :
    col (FwdInRefIdeal.Read.val_main_v32 (X m c) (G m c) (W m c) : Vec Ideal S4096x4096 .f32) i (3072 + l) = z m c i ⟨3072 + l, hj⟩ := by
  unfold FwdInRefIdeal.Read.val_main_v32
  rw [concatenate_col _ _ _ 2 (by simp) (FwdInRefIdeal.Read.val_main_v15 (X m c) (G m c) (W m c) : Vec Ideal FwdInRefIdeal.S4096x256 .f32) rfl 3072 rfl (by norm_num) (l := l) (by omega) hl]
  unfold FwdInRefIdeal.Read.val_main_v15
  rw [slice_col _ _ _ (by norm_num) _ hl]
  rw [z_col m c i (0 + l) hj (by omega) fun k => w_5 m c k hl]

theorem g_3 (c : Dev nD) (i : Fin 4096) {l : ℕ} (hl : l < 64) (hj : 3328 + l < 4096) :
    col (FwdInRefIdeal.Read.val_main_v32 (X m c) (G m c) (W m c) : Vec Ideal S4096x4096 .f32) i (3328 + l) = z m c i ⟨3328 + l, hj⟩ := by
  unfold FwdInRefIdeal.Read.val_main_v32
  rw [concatenate_col _ _ _ 3 (by simp) (FwdInRefIdeal.Read.val_main_v22 (X m c) (G m c) (W m c) : Vec Ideal FwdInRefIdeal.S4096x64 .f32) rfl 3328 rfl (by norm_num) (l := l) (by omega) hl]
  unfold FwdInRefIdeal.Read.val_main_v22
  rw [slice_col _ _ _ (by norm_num) _ hl]
  unfold FwdInRefIdeal.Read.val_main_v19
  rw [slice_col _ _ _ (by norm_num) _ (by omega)]
  rw [z_col m c i (1440 + l) hj (by omega) fun k => w_10 m c k hl]
  exact congrArg _ (by omega)

theorem g_4 (c : Dev nD) (i : Fin 4096) {l : ℕ} (hl : l < 64) (hj : 3392 + l < 4096) :
    col (FwdInRefIdeal.Read.val_main_v32 (X m c) (G m c) (W m c) : Vec Ideal S4096x4096 .f32) i (3392 + l) = z m c i ⟨3392 + l, hj⟩ := by
  unfold FwdInRefIdeal.Read.val_main_v32
  rw [concatenate_col _ _ _ 4 (by simp) (FwdInRefIdeal.Read.val_main_v23 (X m c) (G m c) (W m c) : Vec Ideal FwdInRefIdeal.S4096x64 .f32) rfl 3392 rfl (by norm_num) (l := l) (by omega) hl]
  unfold FwdInRefIdeal.Read.val_main_v23
  rw [slice_col _ _ _ (by norm_num) _ hl]
  unfold FwdInRefIdeal.Read.val_main_v19
  rw [slice_col _ _ _ (by norm_num) _ (by omega)]
  rw [z_col m c i (1440 + l) hj (by omega) fun k => w_11 m c k hl]
  exact congrArg _ (by omega)

theorem g_5 (c : Dev nD) (i : Fin 4096) {l : ℕ} (hl : l < 64) (hj : 3456 + l < 4096) :
    col (FwdInRefIdeal.Read.val_main_v32 (X m c) (G m c) (W m c) : Vec Ideal S4096x4096 .f32) i (3456 + l) = z m c i ⟨3456 + l, hj⟩ := by
  unfold FwdInRefIdeal.Read.val_main_v32
  rw [concatenate_col _ _ _ 5 (by simp) (FwdInRefIdeal.Read.val_main_v24 (X m c) (G m c) (W m c) : Vec Ideal FwdInRefIdeal.S4096x64 .f32) rfl 3456 rfl (by norm_num) (l := l) (by omega) hl]
  unfold FwdInRefIdeal.Read.val_main_v24
  rw [slice_col _ _ _ (by norm_num) _ hl]
  unfold FwdInRefIdeal.Read.val_main_v19
  rw [slice_col _ _ _ (by norm_num) _ (by omega)]
  rw [z_col m c i (1504 + l) hj (by omega) fun k => w_12 m c k hl]
  exact congrArg _ (by omega)

theorem g_6 (c : Dev nD) (i : Fin 4096) {l : ℕ} (hl : l < 64) (hj : 3520 + l < 4096) :
    col (FwdInRefIdeal.Read.val_main_v32 (X m c) (G m c) (W m c) : Vec Ideal S4096x4096 .f32) i (3520 + l) = z m c i ⟨3520 + l, hj⟩ := by
  unfold FwdInRefIdeal.Read.val_main_v32
  rw [concatenate_col _ _ _ 6 (by simp) (FwdInRefIdeal.Read.val_main_v25 (X m c) (G m c) (W m c) : Vec Ideal FwdInRefIdeal.S4096x64 .f32) rfl 3520 rfl (by norm_num) (l := l) (by omega) hl]
  unfold FwdInRefIdeal.Read.val_main_v25
  rw [slice_col _ _ _ (by norm_num) _ hl]
  unfold FwdInRefIdeal.Read.val_main_v19
  rw [slice_col _ _ _ (by norm_num) _ (by omega)]
  rw [z_col m c i (1504 + l) hj (by omega) fun k => w_13 m c k hl]
  exact congrArg _ (by omega)

theorem g_7 (c : Dev nD) (i : Fin 4096) {l : ℕ} (hl : l < 64) (hj : 3584 + l < 4096) :
    col (FwdInRefIdeal.Read.val_main_v32 (X m c) (G m c) (W m c) : Vec Ideal S4096x4096 .f32) i (3584 + l) = z m c i ⟨3584 + l, hj⟩ := by
  unfold FwdInRefIdeal.Read.val_main_v32
  rw [concatenate_col _ _ _ 7 (by simp) (FwdInRefIdeal.Read.val_main_v26 (X m c) (G m c) (W m c) : Vec Ideal FwdInRefIdeal.S4096x64 .f32) rfl 3584 rfl (by norm_num) (l := l) (by omega) hl]
  unfold FwdInRefIdeal.Read.val_main_v26
  rw [slice_col _ _ _ (by norm_num) _ hl]
  unfold FwdInRefIdeal.Read.val_main_v20
  rw [slice_col _ _ _ (by norm_num) _ (by omega)]
  rw [z_col m c i (1568 + l) hj (by omega) fun k => w_14 m c k hl]
  exact congrArg _ (by omega)

theorem g_8 (c : Dev nD) (i : Fin 4096) {l : ℕ} (hl : l < 64) (hj : 3648 + l < 4096) :
    col (FwdInRefIdeal.Read.val_main_v32 (X m c) (G m c) (W m c) : Vec Ideal S4096x4096 .f32) i (3648 + l) = z m c i ⟨3648 + l, hj⟩ := by
  unfold FwdInRefIdeal.Read.val_main_v32
  rw [concatenate_col _ _ _ 8 (by simp) (FwdInRefIdeal.Read.val_main_v27 (X m c) (G m c) (W m c) : Vec Ideal FwdInRefIdeal.S4096x64 .f32) rfl 3648 rfl (by norm_num) (l := l) (by omega) hl]
  unfold FwdInRefIdeal.Read.val_main_v27
  rw [slice_col _ _ _ (by norm_num) _ hl]
  unfold FwdInRefIdeal.Read.val_main_v20
  rw [slice_col _ _ _ (by norm_num) _ (by omega)]
  rw [z_col m c i (1568 + l) hj (by omega) fun k => w_15 m c k hl]
  exact congrArg _ (by omega)

theorem g_9 (c : Dev nD) (i : Fin 4096) {l : ℕ} (hl : l < 64) (hj : 3712 + l < 4096) :
    col (FwdInRefIdeal.Read.val_main_v32 (X m c) (G m c) (W m c) : Vec Ideal S4096x4096 .f32) i (3712 + l) = z m c i ⟨3712 + l, hj⟩ := by
  unfold FwdInRefIdeal.Read.val_main_v32
  rw [concatenate_col _ _ _ 9 (by simp) (FwdInRefIdeal.Read.val_main_v28 (X m c) (G m c) (W m c) : Vec Ideal FwdInRefIdeal.S4096x64 .f32) rfl 3712 rfl (by norm_num) (l := l) (by omega) hl]
  unfold FwdInRefIdeal.Read.val_main_v28
  rw [slice_col _ _ _ (by norm_num) _ hl]
  unfold FwdInRefIdeal.Read.val_main_v20
  rw [slice_col _ _ _ (by norm_num) _ (by omega)]
  rw [z_col m c i (1632 + l) hj (by omega) fun k => w_16 m c k hl]
  exact congrArg _ (by omega)

theorem g_10 (c : Dev nD) (i : Fin 4096) {l : ℕ} (hl : l < 64) (hj : 3776 + l < 4096) :
    col (FwdInRefIdeal.Read.val_main_v32 (X m c) (G m c) (W m c) : Vec Ideal S4096x4096 .f32) i (3776 + l) = z m c i ⟨3776 + l, hj⟩ := by
  unfold FwdInRefIdeal.Read.val_main_v32
  rw [concatenate_col _ _ _ 10 (by simp) (FwdInRefIdeal.Read.val_main_v29 (X m c) (G m c) (W m c) : Vec Ideal FwdInRefIdeal.S4096x64 .f32) rfl 3776 rfl (by norm_num) (l := l) (by omega) hl]
  unfold FwdInRefIdeal.Read.val_main_v29
  rw [slice_col _ _ _ (by norm_num) _ hl]
  unfold FwdInRefIdeal.Read.val_main_v20
  rw [slice_col _ _ _ (by norm_num) _ (by omega)]
  rw [z_col m c i (1632 + l) hj (by omega) fun k => w_17 m c k hl]
  exact congrArg _ (by omega)

theorem g_11 (c : Dev nD) (i : Fin 4096) {l : ℕ} (hl : l < 128) (hj : 3840 + l < 4096) :
    col (FwdInRefIdeal.Read.val_main_v32 (X m c) (G m c) (W m c) : Vec Ideal S4096x4096 .f32) i (3840 + l) = z m c i ⟨3840 + l, hj⟩ := by
  unfold FwdInRefIdeal.Read.val_main_v32
  rw [concatenate_col _ _ _ 11 (by simp) (FwdInRefIdeal.Read.val_main_v16 (X m c) (G m c) (W m c) : Vec Ideal FwdInRefIdeal.S4096x128 .f32) rfl 3840 rfl (by norm_num) (l := l) (by omega) hl]
  unfold FwdInRefIdeal.Read.val_main_v16
  rw [slice_col _ _ _ (by norm_num) _ hl]
  rw [z_col m c i (256 + l) hj (by omega) fun k => w_6 m c k hl]

set_option maxHeartbeats 1000000 in
theorem g_12 (c : Dev nD) (i : Fin 4096) {l : ℕ} (hl : l < 64) (hj : 3968 + l < 4096) :
    col (FwdInRefIdeal.Read.val_main_v32 (X m c) (G m c) (W m c) : Vec Ideal S4096x4096 .f32) i (3968 + l) = z m c i ⟨3968 + l, hj⟩ := by
  unfold FwdInRefIdeal.Read.val_main_v32
  rw [concatenate_col _ _ _ 12 (by simp) (FwdInRefIdeal.Read.val_main_v30 (F := Ideal) : Vec Ideal FwdInRefIdeal.S4096x64 .f32) rfl 3968 rfl (by norm_num) (l := l) (by omega) hl]
  rw [z_zero m c i hj fun k => w_19 m c k hl, col_of_lt _ _ hl]
  pointwise [FwdInRefIdeal.Read.val_main_v30, FwdInRefIdeal.Read.val_main_cst_2]

set_option maxHeartbeats 1000000 in
theorem g_13 (c : Dev nD) (i : Fin 4096) {l : ℕ} (hl : l < 32) (hj : 4032 + l < 4096) :
    col (FwdInRefIdeal.Read.val_main_v32 (X m c) (G m c) (W m c) : Vec Ideal S4096x4096 .f32) i (4032 + l) = z m c i ⟨4032 + l, hj⟩ := by
  unfold FwdInRefIdeal.Read.val_main_v32
  rw [concatenate_col _ _ _ 13 (by simp) (FwdInRefIdeal.Read.val_main_v17 (X m c) (G m c) (W m c) : Vec Ideal FwdInRefIdeal.S4096x32 .f32) rfl 4032 rfl (by norm_num) (l := l) (by omega) hl]
  unfold FwdInRefIdeal.Read.val_main_v17
  rw [slice_col _ _ _ (by norm_num) _ hl]
  rw [z_col m c i (384 + l) hj (by omega) fun k => w_7 m c k hl]

set_option maxHeartbeats 1000000 in
theorem g_14 (c : Dev nD) (i : Fin 4096) {l : ℕ} (hl : l < 32) (hj : 4064 + l < 4096) :
    col (FwdInRefIdeal.Read.val_main_v32 (X m c) (G m c) (W m c) : Vec Ideal S4096x4096 .f32) i (4064 + l) = z m c i ⟨4064 + l, hj⟩ := by
  unfold FwdInRefIdeal.Read.val_main_v32
  rw [concatenate_col _ _ _ 14 (by simp) (FwdInRefIdeal.Read.val_main_v31 (F := Ideal) : Vec Ideal FwdInRefIdeal.S4096x32 .f32) rfl 4064 rfl (by norm_num) (l := l) (by omega) hl]
  rw [z_zero m c i hj fun k => w_20 m c k hl, col_of_lt _ _ hl]
  pointwise [FwdInRefIdeal.Read.val_main_v31, FwdInRefIdeal.Read.val_main_cst_3]

/-- The reference's joined groups are the kernel's product. -/
theorem ref_z (c : Dev nD) (i q : Fin 4096) : FwdInRefIdeal.Read.val_main_v32 (X m c) (G m c) (W m c) (ix2 i q) = z m c i q := by
  obtain ⟨j, hj⟩ := q
  rw [← col_of_lt (FwdInRefIdeal.Read.val_main_v32 (X m c) (G m c) (W m c) : Vec Ideal S4096x4096 .f32) i hj]
  rcases lt_or_ge j 1024 with h0 | h0
  · exact g_0 m c i h0 hj
  rcases lt_or_ge j 3072 with h1 | h1
  · obtain ⟨l, rfl⟩ := Nat.exists_eq_add_of_le (show 1024 ≤ j by omega)
    exact g_1 m c i (by omega) hj
  rcases lt_or_ge j 3328 with h2 | h2
  · obtain ⟨l, rfl⟩ := Nat.exists_eq_add_of_le (show 3072 ≤ j by omega)
    exact g_2 m c i (by omega) hj
  rcases lt_or_ge j 3392 with h3 | h3
  · obtain ⟨l, rfl⟩ := Nat.exists_eq_add_of_le (show 3328 ≤ j by omega)
    exact g_3 m c i (by omega) hj
  rcases lt_or_ge j 3456 with h4 | h4
  · obtain ⟨l, rfl⟩ := Nat.exists_eq_add_of_le (show 3392 ≤ j by omega)
    exact g_4 m c i (by omega) hj
  rcases lt_or_ge j 3520 with h5 | h5
  · obtain ⟨l, rfl⟩ := Nat.exists_eq_add_of_le (show 3456 ≤ j by omega)
    exact g_5 m c i (by omega) hj
  rcases lt_or_ge j 3584 with h6 | h6
  · obtain ⟨l, rfl⟩ := Nat.exists_eq_add_of_le (show 3520 ≤ j by omega)
    exact g_6 m c i (by omega) hj
  rcases lt_or_ge j 3648 with h7 | h7
  · obtain ⟨l, rfl⟩ := Nat.exists_eq_add_of_le (show 3584 ≤ j by omega)
    exact g_7 m c i (by omega) hj
  rcases lt_or_ge j 3712 with h8 | h8
  · obtain ⟨l, rfl⟩ := Nat.exists_eq_add_of_le (show 3648 ≤ j by omega)
    exact g_8 m c i (by omega) hj
  rcases lt_or_ge j 3776 with h9 | h9
  · obtain ⟨l, rfl⟩ := Nat.exists_eq_add_of_le (show 3712 ≤ j by omega)
    exact g_9 m c i (by omega) hj
  rcases lt_or_ge j 3840 with h10 | h10
  · obtain ⟨l, rfl⟩ := Nat.exists_eq_add_of_le (show 3776 ≤ j by omega)
    exact g_10 m c i (by omega) hj
  rcases lt_or_ge j 3968 with h11 | h11
  · obtain ⟨l, rfl⟩ := Nat.exists_eq_add_of_le (show 3840 ≤ j by omega)
    exact g_11 m c i (by omega) hj
  rcases lt_or_ge j 4032 with h12 | h12
  · obtain ⟨l, rfl⟩ := Nat.exists_eq_add_of_le (show 3968 ≤ j by omega)
    exact g_12 m c i (by omega) hj
  rcases lt_or_ge j 4064 with h13 | h13
  · obtain ⟨l, rfl⟩ := Nat.exists_eq_add_of_le (show 4032 ≤ j by omega)
    exact g_13 m c i (by omega) hj
  obtain ⟨l, rfl⟩ := Nat.exists_eq_add_of_le (show 4064 ≤ j by omega)
  exact g_14 m c i (by omega) hj

/-- The claim's two results. -/
theorem results (c : Dev nD) :
    ((dats m 0 c).arrAt 3 cfg0.N : Vec Ideal S4096x4096 .f32) = FwdInRefIdeal.Read.val_main_v32 (X m c) (G m c) (W m c)
    ∧ ((dats m 0 c).arrAt 4 cfg0.N : Vec Ideal S4096x1024 .bf16) = FwdInRefIdeal.Read.val_main_v33 (X m c) (G m c) := by
  refine ⟨?_, ?_⟩
  · rw [arr3]
    funext j
    rw [eq_ix2 j]
    exact (ref_z m c _ _).symm
  · rw [arr4]
    funext j
    rw [eq_ix2 j]
    exact (ref_h m c _ _).symm

end Cert.FwdInIdeal.Value

end
-- ==== Proof.Adamw.lean ====
/-
  One step of the optimiser for the largest weight, `w_mlp_down`: block by block of 256 rows the kernel reads the gradient
  from its place in the packed buffer and applies the same scalar formula as the reference. No hypothesis.
-/
module

public import proofs.«01_k».proof.Proof.NormGrad
public import proofs.«01_k».proof.Proof.Gen.AdamwIdeal.Value
public import proofs.«01_k».proof.Proof.Gen.AdamwRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem NormGrad
open Idealize.ShloMosaic.Pipeline (Dat)

namespace Cert.AdamwIdeal.Value

open Cert.AdamwIdeal Cert.AdamwIdeal.Gen

variable (m : (ℓ : Loc nD τ sig) → Buf (Elt Ideal) ℓ)

theorem idx : ∀ t : Fin cfg0.N, win0_0.index t = ![0, t.val, 0]
    ∧ win0_1.index t = ![8 + t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The launch contents of the arguments. -/
abbrev W (c : Dev nD) : Vec Ideal S1x1024x1024 .f32 := m ((c.tc : Thread nD τ).loc main_arg0)
abbrev G (c : Dev nD) : Vec Ideal S1x1024x1024 .f32 := m ((c.tc : Thread nD τ).loc main_arg1)
abbrev M (c : Dev nD) : Vec Ideal S1x1024x1024 .f32 := m ((c.tc : Thread nD τ).loc main_arg2)
abbrev S (c : Dev nD) : Vec Ideal S1x1024x1024 .f32 := m ((c.tc : Thread nD τ).loc main_arg3)

/-- Row `p` of the block at point `t`, in the array. -/
abbrev row (t : Fin cfg0.N) (p : Fin 256) : Fin 1024 :=
  ⟨t.val * 256 + p.val, by have h : t.val < 4 := t.isLt.trans_eq N_0; omega⟩

section Entry
variable {F : FTy → Type} [FloatOps F] (mF : (ℓ : Loc nD τ sig) → Buf (Elt F) ℓ)

/-- The packed buffer: zeros, then the gradient's rows. -/
theorem packed_entry (c : Dev nD) : V mF c main_v2
    = concatenate S3072x1024 0 [⟨S2048x1024, V mF c main_v0⟩,
        ⟨S1024x1024, shapeCast S1024x1024 (mF ((c.tc : Thread nD τ).loc main_arg1)) Facts₀.shapeCasts_S1x1024x1024_S1024x1024⟩]
        Facts₀.concatenates_S2048x1024_S1024x1024_S3072x1024_d0 := by
  rfl

end Entry

/-- A row past the first piece is a row of the second. -/
theorem concatenate_second (a : S2048x1024.Idx → EReal) (b : S1024x1024.Idx → EReal)
    (h : Shape.Concatenates (([⟨S2048x1024, a⟩, ⟨S1024x1024, b⟩] : List ((s : Shape) × (s.Idx → EReal))).map (·.1)) S3072x1024 0) (i q : Fin 1024) :
    concatenate S3072x1024 0 [⟨S2048x1024, a⟩, ⟨S1024x1024, b⟩] h (ix2 ⟨2048 + i.val, by omega⟩ q) = b (ix2 i q) := by
  refine concatenate_apply_piece 0 _ h _ 1 (by simp) S1024x1024 b rfl rfl 2048 rfl (ix2 i q) (fun d hd => ?_) rfl
  fin_cases d
  · exact absurd rfl hd
  · rfl

theorem packed (c : Dev nD) (i q : Fin 1024) :
    (V m c main_v2 : Vec Ideal S3072x1024 .f32) (ix2 ⟨2048 + i.val, by omega⟩ q) = G m c (ix3 0 i q) := by
  rw [packed_entry]
  refine (concatenate_second _ _ _ i q).trans (shapeCast_apply _ _ (ix2 i q) (ix3 0 i q) ?_)
  rw [Shape.rowMajor_val_two, Shape.rowMajor_val_three]
  show (0 * 1024 + i.val) * 1024 + q.val = i.val * 1024 + q.val
  omega

theorem blk0 (c : Dev nD) (t : Fin cfg0.N) (p : Fin 256) (l : Fin 1024) :
    (iblk m c 0 t : Vec Ideal S1x256x1024 .f32) (ix3 0 p l) = W m c (ix3 0 (row t p) l) := by
  blk_simp [iblk]
  rw [V_main_arg0]
  blk_ext [(idx t).1]

theorem blk2 (c : Dev nD) (t : Fin cfg0.N) (p : Fin 256) (l : Fin 1024) :
    (iblk m c 2 t : Vec Ideal S1x256x1024 .f32) (ix3 0 p l) = M m c (ix3 0 (row t p) l) := by
  blk_simp [iblk]
  rw [V_main_arg2]
  blk_ext [(idx t).2.2.1]

theorem blk3 (c : Dev nD) (t : Fin cfg0.N) (p : Fin 256) (l : Fin 1024) :
    (iblk m c 3 t : Vec Ideal S1x256x1024 .f32) (ix3 0 p l) = S m c (ix3 0 (row t p) l) := by
  blk_simp [iblk]
  rw [V_main_arg3]
  blk_ext [(idx t).2.2.2.1]

theorem blk1 (c : Dev nD) (t : Fin cfg0.N) (p : Fin 256) (l : Fin 1024) :
    (iblk m c 1 t : Vec Ideal S256x1024 .f32) (ix2 p l) = G m c (ix3 0 (row t p) l) := by
  rw [← packed]
  blk_simp [iblk]
  blk_ext [(idx t).2.1]

theorem out4 (c : Dev nD) (t : Fin cfg0.N) (p : Fin 256) (q : Fin 1024) :
    out0_4 (iblk m c 0 t) (iblk m c 1 t) (iblk m c 2 t) (iblk m c 3 t) (ix3 0 p q)
      = G m c (ix3 0 (row t p) q) := by
  unfold out0_4; frame_out
  pointwise [k0_pay5, k0_pay4]
  simp only [blk1]

theorem arr4 (c : Dev nD) : ((dats m 0 c).arrAt 4 cfg0.N : Vec Ideal S1x1024x1024 .f32)
    = G m c := by
  refine (dats m 0 c).arrAt_eq_of_covers (w := 4) _ (by decide +kernel) fun t hf y => ?_
  obtain ⟨p, q, rfl⟩ : ∃ (p : Fin 256) (q : Fin 1024), y = ix3 0 p q := ⟨y 1, y 2, (eq_ix3 y).trans (congrArg (ix3 · (y 1) (y 2)) (Fin.ext (Nat.lt_one_iff.mp (y 0).isLt)))⟩
  blk_simp
  rw [after0_4, out4]
  have hi : ((cfg0.win 4).blk t).view.emb (ix3 0 p q) = (ix3 0 (row t p) q : S1x1024x1024.Idx) := by
    funext d
    apply Fin.ext
    have e := (idx t).2.2.2.2.1
    fin_cases d <;> blk_simp <;> rw [e]
    · rfl
    · rfl
    · show 0 * 1024 + q.val = q.val
      omega
  rw [show (win0_4.blk t).view.emb (ix3 0 p q) = (ix3 0 (row t p) q : S1x1024x1024.Idx) from hi]

theorem out5 (c : Dev nD) (t : Fin cfg0.N) (p : Fin 256) (q : Fin 1024) :
    out0_5 (iblk m c 0 t) (iblk m c 1 t) (iblk m c 2 t) (iblk m c 3 t) (ix3 0 p q)
      = AdamwRefIdeal.Read.val_main_v23 (W m c) (G m c) (M m c) (S m c) (ix3 0 (row t p) q) := by
  unfold out0_5; frame_out
  pointwise [k0_pay1, k0_pay8, k0_pay7, k0_pay6, k0_pay4]
  pointwise [AdamwRefIdeal.Read.val_main_v0, AdamwRefIdeal.Read.val_main_v1, AdamwRefIdeal.Read.val_main_v2, AdamwRefIdeal.Read.val_main_v3, AdamwRefIdeal.Read.val_main_v4, AdamwRefIdeal.Read.val_main_v5, AdamwRefIdeal.Read.val_main_v6, AdamwRefIdeal.Read.val_main_v7, AdamwRefIdeal.Read.val_main_v8, AdamwRefIdeal.Read.val_main_v9, AdamwRefIdeal.Read.val_main_v10, AdamwRefIdeal.Read.val_main_v11, AdamwRefIdeal.Read.val_main_v12, AdamwRefIdeal.Read.val_main_v13, AdamwRefIdeal.Read.val_main_v14, AdamwRefIdeal.Read.val_main_v15, AdamwRefIdeal.Read.val_main_v16, AdamwRefIdeal.Read.val_main_v17, AdamwRefIdeal.Read.val_main_v18, AdamwRefIdeal.Read.val_main_v19, AdamwRefIdeal.Read.val_main_v20, AdamwRefIdeal.Read.val_main_v21, AdamwRefIdeal.Read.val_main_v22, AdamwRefIdeal.Read.val_main_v23, AdamwRefIdeal.Read.val_main_cst, AdamwRefIdeal.Read.val_main_cst_0, AdamwRefIdeal.Read.val_main_cst_1, AdamwRefIdeal.Read.val_main_cst_2, AdamwRefIdeal.Read.val_main_cst_3, AdamwRefIdeal.Read.val_main_cst_4, AdamwRefIdeal.Read.val_main_cst_5, AdamwRefIdeal.Read.val_main_cst_6]
  simp only [blk0, blk1, blk2, blk3]
  rfl

theorem arr5 (c : Dev nD) : ((dats m 0 c).arrAt 5 cfg0.N : Vec Ideal S1x1024x1024 .f32)
    = AdamwRefIdeal.Read.val_main_v23 (W m c) (G m c) (M m c) (S m c) := by
  refine (dats m 0 c).arrAt_eq_of_covers (w := 5) _ (by decide +kernel) fun t hf y => ?_
  obtain ⟨p, q, rfl⟩ : ∃ (p : Fin 256) (q : Fin 1024), y = ix3 0 p q := ⟨y 1, y 2, (eq_ix3 y).trans (congrArg (ix3 · (y 1) (y 2)) (Fin.ext (Nat.lt_one_iff.mp (y 0).isLt)))⟩
  blk_simp
  rw [after0_5, out5]
  have hi : ((cfg0.win 5).blk t).view.emb (ix3 0 p q) = (ix3 0 (row t p) q : S1x1024x1024.Idx) := by
    funext d
    apply Fin.ext
    have e := (idx t).2.2.2.2.2.1
    fin_cases d <;> blk_simp <;> rw [e]
    · rfl
    · rfl
    · show 0 * 1024 + q.val = q.val
      omega
  rw [show (win0_5.blk t).view.emb (ix3 0 p q) = (ix3 0 (row t p) q : S1x1024x1024.Idx) from hi]

theorem out6 (c : Dev nD) (t : Fin cfg0.N) (p : Fin 256) (q : Fin 1024) :
    out0_6 (iblk m c 0 t) (iblk m c 1 t) (iblk m c 2 t) (iblk m c 3 t) (ix3 0 p q)
      = AdamwRefIdeal.Read.val_main_v4 (G m c) (M m c) (ix3 0 (row t p) q) := by
  unfold out0_6; frame_out
  pointwise [k0_pay2, k0_pay6, k0_pay4]
  pointwise [AdamwRefIdeal.Read.val_main_v0, AdamwRefIdeal.Read.val_main_v1, AdamwRefIdeal.Read.val_main_v2, AdamwRefIdeal.Read.val_main_v3, AdamwRefIdeal.Read.val_main_v4, AdamwRefIdeal.Read.val_main_cst, AdamwRefIdeal.Read.val_main_cst_0]
  simp only [blk1, blk2]

theorem arr6 (c : Dev nD) : ((dats m 0 c).arrAt 6 cfg0.N : Vec Ideal S1x1024x1024 .f32)
    = AdamwRefIdeal.Read.val_main_v4 (G m c) (M m c) := by
  refine (dats m 0 c).arrAt_eq_of_covers (w := 6) _ (by decide +kernel) fun t hf y => ?_
  obtain ⟨p, q, rfl⟩ : ∃ (p : Fin 256) (q : Fin 1024), y = ix3 0 p q := ⟨y 1, y 2, (eq_ix3 y).trans (congrArg (ix3 · (y 1) (y 2)) (Fin.ext (Nat.lt_one_iff.mp (y 0).isLt)))⟩
  blk_simp
  rw [after0_6, out6]
  have hi : ((cfg0.win 6).blk t).view.emb (ix3 0 p q) = (ix3 0 (row t p) q : S1x1024x1024.Idx) := by
    funext d
    apply Fin.ext
    have e := (idx t).2.2.2.2.2.2.1
    fin_cases d <;> blk_simp <;> rw [e]
    · rfl
    · rfl
    · show 0 * 1024 + q.val = q.val
      omega
  rw [show (win0_6.blk t).view.emb (ix3 0 p q) = (ix3 0 (row t p) q : S1x1024x1024.Idx) from hi]

theorem out7 (c : Dev nD) (t : Fin cfg0.N) (p : Fin 256) (q : Fin 1024) :
    out0_7 (iblk m c 0 t) (iblk m c 1 t) (iblk m c 2 t) (iblk m c 3 t) (ix3 0 p q)
      = AdamwRefIdeal.Read.val_main_v10 (G m c) (S m c) (ix3 0 (row t p) q) := by
  unfold out0_7; frame_out
  pointwise [k0_pay3, k0_pay7, k0_pay4]
  pointwise [AdamwRefIdeal.Read.val_main_v5, AdamwRefIdeal.Read.val_main_v6, AdamwRefIdeal.Read.val_main_v7, AdamwRefIdeal.Read.val_main_v8, AdamwRefIdeal.Read.val_main_v9, AdamwRefIdeal.Read.val_main_v10, AdamwRefIdeal.Read.val_main_cst_1, AdamwRefIdeal.Read.val_main_cst_2]
  simp only [blk1, blk3]

theorem arr7 (c : Dev nD) : ((dats m 0 c).arrAt 7 cfg0.N : Vec Ideal S1x1024x1024 .f32)
    = AdamwRefIdeal.Read.val_main_v10 (G m c) (S m c) := by
  refine (dats m 0 c).arrAt_eq_of_covers (w := 7) _ (by decide +kernel) fun t hf y => ?_
  obtain ⟨p, q, rfl⟩ : ∃ (p : Fin 256) (q : Fin 1024), y = ix3 0 p q := ⟨y 1, y 2, (eq_ix3 y).trans (congrArg (ix3 · (y 1) (y 2)) (Fin.ext (Nat.lt_one_iff.mp (y 0).isLt)))⟩
  blk_simp
  rw [after0_7, out7]
  have hi : ((cfg0.win 7).blk t).view.emb (ix3 0 p q) = (ix3 0 (row t p) q : S1x1024x1024.Idx) := by
    funext d
    apply Fin.ext
    have e := (idx t).2.2.2.2.2.2.2
    fin_cases d <;> blk_simp <;> rw [e]
    · rfl
    · rfl
    · show 0 * 1024 + q.val = q.val
      omega
  rw [show (win0_7.blk t).view.emb (ix3 0 p q) = (ix3 0 (row t p) q : S1x1024x1024.Idx) from hi]

/-- The claim's four results. -/
theorem results (c : Dev nD) :
    ((dats m 0 c).arrAt 4 cfg0.N : Vec Ideal S1x1024x1024 .f32) = G m c
    ∧ ((dats m 0 c).arrAt 5 cfg0.N : Vec Ideal S1x1024x1024 .f32) = AdamwRefIdeal.Read.val_main_v23 (W m c) (G m c) (M m c) (S m c)
    ∧ ((dats m 0 c).arrAt 6 cfg0.N : Vec Ideal S1x1024x1024 .f32) = AdamwRefIdeal.Read.val_main_v4 (G m c) (M m c)
    ∧ ((dats m 0 c).arrAt 7 cfg0.N : Vec Ideal S1x1024x1024 .f32) = AdamwRefIdeal.Read.val_main_v10 (G m c) (S m c) :=
  ⟨arr4 m c, arr5 m c, arr6 m c, arr7 m c⟩

end Cert.AdamwIdeal.Value

end
-- ==== Proof.lean ====
/- The claims of this problem, put together from the values of the kernels (the modules under
   `proof/Proof/`), the generated frames and the runs of the references. -/

module

public import proofs.«01_k».proof.Defs
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.Gen.Pre_mlp_up_finite
public import proofs.«01_k».proof.Proof.MlpUp
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.Gen.Pre_mlp_down_finite
public import proofs.«01_k».proof.Proof.MlpDown
public import proofs.«01_k».proof.Proof.Gen.BwdIn
public import proofs.«01_k».proof.Proof.Gen.BwdIn.Skeleton
public import proofs.«01_k».proof.Proof.Gen.BwdIn.Launch
public import proofs.«01_k».proof.Proof.Gen.BwdIn.Points
public import proofs.«01_k».proof.Proof.Gen.BwdIn.Frame
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInIdeal.Frame
public import proofs.«01_k».proof.Proof.Gen.BwdInIdeal.Value
public import proofs.«01_k».proof.Proof.Gen.BwdInRefIdeal
public import proofs.«01_k».proof.Proof.Gen.BwdInRefIdeal.Run
public import proofs.«01_k».proof.Proof.Gen.BwdInRefIdeal.Read
public import proofs.«01_k».proof.Proof.Gen.Pre_in_finite
public import proofs.«01_k».proof.Proof.BwdIn
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.Pre_ple_finite
public import proofs.«01_k».proof.Proof.Ple
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_mix_finite
public import proofs.«01_k».proof.Proof.Mix
public import proofs.«01_k».proof.Proof.Gen.Mla
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Loops
public import proofs.«01_k».proof.Proof.Gen.MlaIdeal.Frame
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Pre_mla_finite
public import proofs.«01_k».proof.Proof.Mla
public import proofs.«01_k».proof.Proof.Gen.FwdUp
public import proofs.«01_k».proof.Proof.Gen.FwdUp.Skeleton
public import proofs.«01_k».proof.Proof.Gen.FwdUp.Launch
public import proofs.«01_k».proof.Proof.Gen.FwdUp.Points
public import proofs.«01_k».proof.Proof.Gen.FwdUp.Frame
public import proofs.«01_k».proof.Proof.Gen.FwdUpIdeal
public import proofs.«01_k».proof.Proof.Gen.FwdUpIdeal.Skeleton
public import proofs.«01_k».proof.Proof.Gen.FwdUpIdeal.Launch
public import proofs.«01_k».proof.Proof.Gen.FwdUpIdeal.Points
public import proofs.«01_k».proof.Proof.Gen.FwdUpIdeal.Frame
public import proofs.«01_k».proof.Proof.Gen.FwdUpIdeal.Value
public import proofs.«01_k».proof.Proof.Gen.FwdUpRefIdeal
public import proofs.«01_k».proof.Proof.Gen.FwdUpRefIdeal.Run
public import proofs.«01_k».proof.Proof.Gen.FwdUpRefIdeal.Read
public import proofs.«01_k».proof.Proof.FwdUp
public import proofs.«01_k».proof.Proof.Gen.FwdDown
public import proofs.«01_k».proof.Proof.Gen.FwdDown.Skeleton
public import proofs.«01_k».proof.Proof.Gen.FwdDown.Launch
public import proofs.«01_k».proof.Proof.Gen.FwdDown.Points
public import proofs.«01_k».proof.Proof.Gen.FwdDown.Frame
public import proofs.«01_k».proof.Proof.Gen.FwdDownIdeal
public import proofs.«01_k».proof.Proof.Gen.FwdDownIdeal.Skeleton
public import proofs.«01_k».proof.Proof.Gen.FwdDownIdeal.Launch
public import proofs.«01_k».proof.Proof.Gen.FwdDownIdeal.Points
public import proofs.«01_k».proof.Proof.Gen.FwdDownIdeal.Frame
public import proofs.«01_k».proof.Proof.Gen.FwdDownIdeal.Value
public import proofs.«01_k».proof.Proof.Gen.FwdDownRefIdeal
public import proofs.«01_k».proof.Proof.Gen.FwdDownRefIdeal.Run
public import proofs.«01_k».proof.Proof.Gen.FwdDownRefIdeal.Read
public import proofs.«01_k».proof.Proof.FwdDown
public import proofs.«01_k».proof.Proof.Gen.FwdMix
public import proofs.«01_k».proof.Proof.Gen.FwdMix.Skeleton
public import proofs.«01_k».proof.Proof.Gen.FwdMix.Launch
public import proofs.«01_k».proof.Proof.Gen.FwdMix.Points
public import proofs.«01_k».proof.Proof.Gen.FwdMix.Frame
public import proofs.«01_k».proof.Proof.Gen.FwdMixIdeal
public import proofs.«01_k».proof.Proof.Gen.FwdMixIdeal.Skeleton
public import proofs.«01_k».proof.Proof.Gen.FwdMixIdeal.Launch
public import proofs.«01_k».proof.Proof.Gen.FwdMixIdeal.Points
public import proofs.«01_k».proof.Proof.Gen.FwdMixIdeal.Frame
public import proofs.«01_k».proof.Proof.Gen.FwdMixIdeal.Value
public import proofs.«01_k».proof.Proof.Gen.FwdMixRefIdeal
public import proofs.«01_k».proof.Proof.Gen.FwdMixRefIdeal.Run
public import proofs.«01_k».proof.Proof.Gen.FwdMixRefIdeal.Read
public import proofs.«01_k».proof.Proof.FwdMix
public import proofs.«01_k».proof.Proof.Gen.Swa
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaRefIdeal
public import proofs.«01_k».proof.Proof.Gen.SwaRefIdeal.Run
public import proofs.«01_k».proof.Proof.Gen.FwdIn
public import proofs.«01_k».proof.Proof.Gen.FwdIn.Skeleton
public import proofs.«01_k».proof.Proof.Gen.FwdIn.Launch
public import proofs.«01_k».proof.Proof.Gen.FwdIn.Points
public import proofs.«01_k».proof.Proof.Gen.FwdIn.Frame
public import proofs.«01_k».proof.Proof.Gen.FwdInIdeal
public import proofs.«01_k».proof.Proof.Gen.FwdInIdeal.Skeleton
public import proofs.«01_k».proof.Proof.Gen.FwdInIdeal.Launch
public import proofs.«01_k».proof.Proof.Gen.FwdInIdeal.Points
public import proofs.«01_k».proof.Proof.Gen.FwdInIdeal.Frame
public import proofs.«01_k».proof.Proof.Gen.FwdInIdeal.Value
public import proofs.«01_k».proof.Proof.Gen.FwdInRefIdeal
public import proofs.«01_k».proof.Proof.Gen.FwdInRefIdeal.Run
public import proofs.«01_k».proof.Proof.Gen.FwdInRefIdeal.Read
public import proofs.«01_k».proof.Proof.FwdIn
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Adamw
public import Idealize.ShloMosaic.Adequacy
public import Idealize.ShloMosaic.Init

@[expose] public section

noncomputable section

namespace Cert.Proof

open Idealize.ShloMosaic Idealize.SL.Sem
open Idealize.ShloMosaic.TcCoe RealEntries

/-- The reference's frame: its run keeps the arguments, and it has no semaphores. -/
theorem mlp_up_reference : quiescent_MlpUpRefIdeal := fun m ρ _ => θ_run_mono (Cert.MlpUpRefIdeal.Value.run (F := Ideal) m ρ) fun r h =>
  ⟨fun c => (h c).2.2, sem_eq_zero_of_no_sems (by decide) r.2⟩

/-- `bwd_mlp_up` computes the derivative of the forward lines. -/
theorem mlp_up : algebraic_MlpUpIdeal_MlpUpRefIdeal_pre_mlp_up_finite := by
  intro m g m' g' hpre hargs
  have h := fun c => Cert.MlpUpIdeal.Value.results m c (fun i => reals_of_finite (hpre c).1 i) (fun i => reals_of_finite (hpre c).2.1 i) (fun i => reals_of_finite (hpre c).2.2.1 i) (fun i => reals_of_finite (hpre c).2.2.2 i)
  refine ⟨_, _, Cert.MlpUpIdeal.Value.run_blocks m g, θ_run_mono (Cert.MlpUpRefIdeal.Value.run m' g')
    fun r hr c => ⟨(hr c).1.trans ?_, (hr c).2.1.trans ?_, (hr c).2.2⟩⟩
  · rw [Cert.MlpUpRefIdeal.Read.val_main_v41_eq, (hargs c).1, (hargs c).2.1, (hargs c).2.2.1, (hargs c).2.2.2.1, (hargs c).2.2.2.2]
    exact (h c).1.symm
  · rw [Cert.MlpUpRefIdeal.Read.val_main_v42_eq, (hargs c).1, (hargs c).2.2.1, (hargs c).2.2.2.1]
    exact (h c).2.symm

/-- The reference's frame: its run keeps the arguments, and it has no semaphores. -/
theorem mlp_down_reference : quiescent_MlpDownRefIdeal := fun m ρ _ => θ_run_mono (Cert.MlpDownRefIdeal.Value.run (F := Ideal) m ρ) fun r h =>
  ⟨fun c => (h c).2.2.2, sem_eq_zero_of_no_sems (by decide) r.2⟩

/-- `bwd_mlp_down` computes the derivative of the forward lines. -/
theorem mlp_down : algebraic_MlpDownIdeal_MlpDownRefIdeal_pre_mlp_down_finite := by
  intro m g m' g' hpre hargs
  have h := fun c => Cert.MlpDownIdeal.Value.results m c (fun i => reals_of_finite (hpre c).1 i) (fun i => reals_of_finite (hpre c).2.1 i) (fun i => reals_of_finite (hpre c).2.2.1 i) (fun i => reals_of_finite (hpre c).2.2.2 i)
  refine ⟨_, _, _, Cert.MlpDownIdeal.Value.run_blocks m g, θ_run_mono (Cert.MlpDownRefIdeal.Value.run m' g')
    fun r hr c => ⟨(hr c).1.trans ?_, (hr c).2.1.trans ?_, (hr c).2.2.1.trans ?_, (hr c).2.2.2⟩⟩
  · rw [Cert.MlpDownRefIdeal.Read.val_main_v50_eq, (hargs c).1, (hargs c).2.1, (hargs c).2.2.1, (hargs c).2.2.2]
    exact (h c).1.symm
  · rw [Cert.MlpDownRefIdeal.Read.val_main_v51_eq, (hargs c).1, (hargs c).2.1, (hargs c).2.2.1, (hargs c).2.2.2]
    exact (h c).2.1.symm
  · rw [Cert.MlpDownRefIdeal.Read.val_main_v45_eq, (hargs c).1, (hargs c).2.1, (hargs c).2.2.2]
    exact (h c).2.2.symm

/-- The reference's frame: its run keeps the arguments, and it has no semaphores. -/
theorem bwd_in_reference : quiescent_BwdInRefIdeal := fun m ρ _ => θ_run_mono (Cert.BwdInRefIdeal.Value.run (F := Ideal) m ρ) fun r h =>
  ⟨fun c => (h c).2.2, sem_eq_zero_of_no_sems (by decide) r.2⟩

/-- `bwd_in` computes the derivative of the forward lines. -/
theorem bwd_in : algebraic_BwdInIdeal_BwdInRefIdeal_pre_in_finite := by
  intro m g m' g' hpre hargs
  have h := fun c => Cert.BwdInIdeal.Value.results m c (fun i => reals_of_finite (hpre c).1 i) (fun i => reals_of_finite (hpre c).2.1 i) (fun i => reals_of_finite (hpre c).2.2.1 i) (fun i => reals_of_finite (hpre c).2.2.2.1 i) (fun i => reals_of_finite (hpre c).2.2.2.2.1 i) (fun i => reals_of_finite (hpre c).2.2.2.2.2.1 i) (fun i => reals_of_finite (hpre c).2.2.2.2.2.2.1 i) (fun i => reals_of_finite (hpre c).2.2.2.2.2.2.2.1 i) (fun i => reals_of_finite (hpre c).2.2.2.2.2.2.2.2.1 i) (fun i => reals_of_finite (hpre c).2.2.2.2.2.2.2.2.2.1 i) (fun i => reals_of_finite (hpre c).2.2.2.2.2.2.2.2.2.2.1 i) (fun i => reals_of_finite (hpre c).2.2.2.2.2.2.2.2.2.2.2 i)
  refine ⟨_, _, Cert.BwdInIdeal.Value.run_blocks m g, θ_run_mono (Cert.BwdInRefIdeal.Value.run m' g')
    fun r hr c => ⟨(hr c).1.trans ?_, (hr c).2.1.trans ?_, (hr c).2.2⟩⟩
  · rw [Cert.BwdInRefIdeal.Read.val_main_v51_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2.1, (hargs c).2.2.2.2.2.2.2.2.2.2.2.2]
    exact (h c).1.symm
  · rw [Cert.BwdInRefIdeal.Read.val_main_v52_eq, (hargs c).1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2.1]
    exact (h c).2.symm

/-- The reference's frame: its run keeps the arguments, and it has no semaphores. -/
theorem ple_reference : quiescent_PleRefIdeal := fun m ρ _ => θ_run_mono (Cert.PleRefIdeal.Value.run (F := Ideal) m ρ) fun r h =>
  ⟨fun c => (h c).2.2.2.2.2, sem_eq_zero_of_no_sems (by decide) r.2⟩

/-- `ple_loss` computes the derivative of the forward lines. -/
theorem ple : algebraic_PleIdeal_PleRefIdeal_pre_ple_finite := by
  intro m g m' g' hpre hargs
  have h := fun c => Cert.PleIdeal.Value.results m c (fun i => reals_of_finite (hpre c).1 i) (fun i => reals_of_finite (hpre c).2.1 i) (fun i => reals_of_finite (hpre c).2.2.1 i) (fun i => reals_of_finite (hpre c).2.2.2.1 i) (fun i => reals_of_finite (hpre c).2.2.2.2.1 i) (fun i => reals_of_finite (hpre c).2.2.2.2.2 i)
  refine ⟨_, _, _, _, _, Cert.PleIdeal.Value.run_blocks m g, θ_run_mono (Cert.PleRefIdeal.Value.run m' g')
    fun r hr c => ⟨(hr c).1.trans ?_, (hr c).2.1.trans ?_, (hr c).2.2.1.trans ?_, (hr c).2.2.2.1.trans ?_, (hr c).2.2.2.2.1.trans ?_, (hr c).2.2.2.2.2⟩⟩
  · rw [Cert.PleRefIdeal.Read.val_main_v69_eq, (hargs c).1, (hargs c).2.1, (hargs c).2.2.1, (hargs c).2.2.2.1, (hargs c).2.2.2.2.1, (hargs c).2.2.2.2.2]
    exact (h c).1.symm
  · rw [Cert.PleRefIdeal.Read.val_main_v71_eq, (hargs c).1, (hargs c).2.1, (hargs c).2.2.1, (hargs c).2.2.2.1, (hargs c).2.2.2.2.1, (hargs c).2.2.2.2.2]
    exact (h c).2.1.symm
  · rw [Cert.PleRefIdeal.Read.val_main_v72_eq, (hargs c).1, (hargs c).2.1, (hargs c).2.2.1, (hargs c).2.2.2.1, (hargs c).2.2.2.2.1, (hargs c).2.2.2.2.2]
    exact (h c).2.2.1.symm
  · rw [Cert.PleRefIdeal.Read.val_main_v73_eq, (hargs c).1, (hargs c).2.1, (hargs c).2.2.1, (hargs c).2.2.2.1, (hargs c).2.2.2.2.1, (hargs c).2.2.2.2.2]
    exact (h c).2.2.2.1.symm
  · rw [Cert.PleRefIdeal.Read.val_main_v67_eq, (hargs c).1, (hargs c).2.1, (hargs c).2.2.1, (hargs c).2.2.2.1, (hargs c).2.2.2.2.1, (hargs c).2.2.2.2.2]
    exact (h c).2.2.2.2.symm

/-- The reference's frame: its run keeps the arguments, and it has no semaphores. -/
theorem bwd_mix_reference : quiescent_MixRefIdeal := fun m ρ _ => θ_run_mono (Cert.MixRefIdeal.Value.run (F := Ideal) m ρ) fun r h =>
  ⟨fun c => (h c).2.2.2.2.2.2.2.2.2, sem_eq_zero_of_no_sems (by decide) r.2⟩

set_option maxHeartbeats 4000000 in
/-- `bwd_mix` computes the derivative of the forward lines. -/
theorem bwd_mix : algebraic_MixIdeal_MixRefIdeal_pre_mix_finite := by
  intro m g m' g' hpre hargs
  have h := fun c => Cert.MixIdeal.Value.results m c (fun i => reals_of_finite (hpre c).1 i) (fun i => reals_of_finite (hpre c).2.1 i) (fun i => reals_of_finite (hpre c).2.2.1 i) (fun i => reals_of_finite (hpre c).2.2.2.1 i) (fun i => reals_of_finite (hpre c).2.2.2.2.1 i) (fun i => reals_of_finite (hpre c).2.2.2.2.2.1 i) (fun i => reals_of_finite (hpre c).2.2.2.2.2.2.1 i) (fun i => reals_of_finite (hpre c).2.2.2.2.2.2.2 i)
  refine ⟨_, _, _, _, _, _, _, _, _, Cert.MixIdeal.Value.run_blocks m g, θ_run_mono (Cert.MixRefIdeal.Value.run m' g')
    fun r hr c => ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2.1.trans ?_, (hr c).2.2.2.2.2.2.2.1.trans ?_, (hr c).2.2.2.2.2.2.2.2.1.trans ?_, (hr c).2.2.2.2.2.2.2.2.2⟩⟩
  · rw [Cert.MixRefIdeal.Read.val_main_v79_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).1.symm
  · rw [Cert.MixRefIdeal.Read.val_main_v63_eq, (hargs c).1, (hargs c).2.1, (hargs c).2.2.1, (hargs c).2.2.2.1, (hargs c).2.2.2.2.1, (hargs c).2.2.2.2.2.1, (hargs c).2.2.2.2.2.2.2]
    exact (h c).2.1.symm
  · rw [Cert.MixRefIdeal.Read.val_main_v80_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).2.2.1.symm
  · rw [Cert.MixRefIdeal.Read.val_main_v81_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).2.2.2.1.symm
  · rw [Cert.MixRefIdeal.Read.val_main_v82_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).2.2.2.2.1.symm
  · rw [Cert.MixRefIdeal.Read.val_main_v83_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).2.2.2.2.2.1.symm
  · rw [Cert.MixRefIdeal.Read.val_main_v72_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).2.2.2.2.2.2.1.symm
  · rw [Cert.MixRefIdeal.Read.val_main_v78_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).2.2.2.2.2.2.2.1.symm
  · rw [Cert.MixRefIdeal.Read.val_main_v86_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).2.2.2.2.2.2.2.2.symm

/-- The reference's frame: its run keeps the arguments, and it has no semaphores. -/
theorem mla_reference : quiescent_MlaRefIdeal := fun m ρ _ => θ_run_mono (Cert.MlaRefIdeal.Value.run (F := Ideal) m ρ) fun r h =>
  ⟨fun c => (h c).2.2.2, sem_eq_zero_of_no_sems (by decide) r.2⟩

/-- `mla_bwd` computes the derivative of the forward lines. -/
theorem mla : algebraic_MlaIdeal_MlaRefIdeal_pre_mla_finite := by
  intro m g m' g' hpre hargs
  have h := fun c => Cert.MlaIdeal.Value.results m c (fun i => reals_of_finite (hpre c).1 i) (fun i => reals_of_finite (hpre c).2.1 i) (fun i => reals_of_finite (hpre c).2.2.1 i) (fun i => reals_of_finite (hpre c).2.2.2 i)
  refine ⟨_, _, _, Cert.MlaIdeal.Value.run_blocks m g, θ_run_mono (Cert.MlaRefIdeal.Value.run m' g')
    fun r hr c => ⟨(hr c).1.trans ?_, (hr c).2.1.trans ?_, (hr c).2.2.1.trans ?_, (hr c).2.2.2⟩⟩
  · rw [Cert.MlaRefIdeal.Read.val_main_v68_eq, (hargs c).1, (hargs c).2.1, (hargs c).2.2.1, (hargs c).2.2.2]
    exact (h c).1.symm
  · rw [Cert.MlaRefIdeal.Read.val_main_v72_eq, (hargs c).1, (hargs c).2.1, (hargs c).2.2.1, (hargs c).2.2.2]
    exact (h c).2.1.symm
  · rw [Cert.MlaRefIdeal.Read.val_main_v74_eq, (hargs c).1, (hargs c).2.1, (hargs c).2.2.2]
    exact (h c).2.2.symm

/-- The reference's frame: its run keeps the arguments, and it has no semaphores. -/
theorem fwd_up_reference : quiescent_FwdUpRefIdeal := fun m ρ _ => θ_run_mono (Cert.FwdUpRefIdeal.Value.run (F := Ideal) m ρ) fun r h =>
  ⟨fun c => (h c).2.2, sem_eq_zero_of_no_sems (by decide) r.2⟩

/-- `fwd_mlp_up` computes the forward lines. -/
theorem fwd_up : algebraic_FwdUpIdeal_FwdUpRefIdeal := by
  intro m g m' g' _ hargs
  have h := fun c => Cert.FwdUpIdeal.Value.results m c
  refine ⟨_, _, Cert.FwdUpIdeal.Value.run_blocks m g, θ_run_mono (Cert.FwdUpRefIdeal.Value.run m' g')
    fun r hr c => ⟨(hr c).1.trans ?_, (hr c).2.1.trans ?_, (hr c).2.2⟩⟩
  · rw [Cert.FwdUpRefIdeal.Read.val_main_v14_eq, (hargs c).1, (hargs c).2.1]
    exact (h c).1.symm
  · rw [Cert.FwdUpRefIdeal.Read.val_main_v18_eq, (hargs c).1, (hargs c).2.1, (hargs c).2.2]
    exact (h c).2.symm

/-- The reference's frame: its run keeps the arguments, and it has no semaphores. -/
theorem fwd_down_reference : quiescent_FwdDownRefIdeal := fun m ρ _ => θ_run_mono (Cert.FwdDownRefIdeal.Value.run (F := Ideal) m ρ) fun r h =>
  ⟨fun c => (h c).2.2, sem_eq_zero_of_no_sems (by decide) r.2⟩

/-- `fwd_mlp_down` computes the forward lines. -/
theorem fwd_down : algebraic_FwdDownIdeal_FwdDownRefIdeal := by
  intro m g m' g' _ hargs
  have h := fun c => Cert.FwdDownIdeal.Value.results m c
  refine ⟨_, _, Cert.FwdDownIdeal.Value.run_blocks m g, θ_run_mono (Cert.FwdDownRefIdeal.Value.run m' g')
    fun r hr c => ⟨(hr c).1.trans ?_, (hr c).2.1.trans ?_, (hr c).2.2⟩⟩
  · rw [Cert.FwdDownRefIdeal.Read.val_main_v0_eq, (hargs c).1, (hargs c).2.1]
    exact (h c).1.symm
  · rw [Cert.FwdDownRefIdeal.Read.val_main_v15_eq, (hargs c).1, (hargs c).2.1, (hargs c).2.2.1, (hargs c).2.2.2]
    exact (h c).2.symm

/-- The reference's frame: its run keeps the arguments, and it has no semaphores. -/
theorem fwd_mix_reference : quiescent_FwdMixRefIdeal := fun m ρ _ => θ_run_mono (Cert.FwdMixRefIdeal.Value.run (F := Ideal) m ρ) fun r h =>
  ⟨fun c => (h c).2.2.2.2.2, sem_eq_zero_of_no_sems (by decide) r.2⟩

/-- `fwd_mix` computes the forward lines. -/
theorem fwd_mix : algebraic_FwdMixIdeal_FwdMixRefIdeal := by
  intro m g m' g' _ hargs
  have h := fun c => Cert.FwdMixIdeal.Value.results m c
  refine ⟨_, _, _, _, _, Cert.FwdMixIdeal.Value.run_blocks m g, θ_run_mono (Cert.FwdMixRefIdeal.Value.run m' g')
    fun r hr c => ⟨(hr c).1.trans ?_, (hr c).2.1.trans ?_, (hr c).2.2.1.trans ?_, (hr c).2.2.2.1.trans ?_, (hr c).2.2.2.2.1.trans ?_, (hr c).2.2.2.2.2⟩⟩
  · rw [Cert.FwdMixRefIdeal.Read.val_main_v20_eq, (hargs c).1, (hargs c).2.1, (hargs c).2.2.1, (hargs c).2.2.2.2.1, (hargs c).2.2.2.2.2.1]
    exact (h c).1.symm
  · rw [Cert.FwdMixRefIdeal.Read.val_main_v19_eq, (hargs c).1, (hargs c).2.1, (hargs c).2.2.1, (hargs c).2.2.2.2.1, (hargs c).2.2.2.2.2.1, (hargs c).2.2.2.2.2.2.1]
    exact (h c).2.1.symm
  · rw [Cert.FwdMixRefIdeal.Read.val_main_v2_eq, (hargs c).1, (hargs c).2.2.2.2.1]
    exact (h c).2.2.1.symm
  · rw [Cert.FwdMixRefIdeal.Read.val_main_v3_eq, (hargs c).2.1, (hargs c).2.2.2.2.2.1]
    exact (h c).2.2.2.1.symm
  · rw [Cert.FwdMixRefIdeal.Read.val_main_v35_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact (h c).2.2.2.2.symm

/-- The reference's frame: its run keeps the arguments, and it has no semaphores. -/
theorem swa_reference : quiescent_SwaRefIdeal := fun m ρ _ => θ_run_mono (Cert.SwaRefIdeal.Value.run (F := Ideal) m ρ) fun r h =>
  ⟨fun c => (h c).2.2.2.2, sem_eq_zero_of_no_sems (by decide) r.2⟩

/-- The reference's frame: its run keeps the arguments, and it has no semaphores. -/
theorem fwd_in_reference : quiescent_FwdInRefIdeal := fun m ρ _ => θ_run_mono (Cert.FwdInRefIdeal.Value.run (F := Ideal) m ρ) fun r h =>
  ⟨fun c => (h c).2.2, sem_eq_zero_of_no_sems (by decide) r.2⟩

/-- `fwd_in` computes the forward lines. -/
theorem fwd_in : algebraic_FwdInIdeal_FwdInRefIdeal := by
  intro m g m' g' _ hargs
  have h := fun c => Cert.FwdInIdeal.Value.results m c
  refine ⟨_, _, Cert.FwdInIdeal.Value.run_blocks m g, θ_run_mono (Cert.FwdInRefIdeal.Value.run m' g')
    fun r hr c => ⟨(hr c).1.trans ?_, (hr c).2.1.trans ?_, (hr c).2.2⟩⟩
  · rw [Cert.FwdInRefIdeal.Read.val_main_v32_eq, (hargs c).1, (hargs c).2.1, (hargs c).2.2]
    exact (h c).1.symm
  · rw [Cert.FwdInRefIdeal.Read.val_main_v33_eq, (hargs c).1, (hargs c).2.1]
    exact (h c).2.symm

/-- The reference's frame: its run keeps the arguments, and it has no semaphores. -/
theorem adamw_reference : quiescent_AdamwRefIdeal := fun m ρ _ => θ_run_mono (Cert.AdamwRefIdeal.Value.run (F := Ideal) m ρ) fun r h =>
  ⟨fun c => (h c).2.2.2.2, sem_eq_zero_of_no_sems (by decide) r.2⟩

/-- `adamw` computes the forward lines. -/
theorem adamw : algebraic_AdamwIdeal_AdamwRefIdeal := by
  intro m g m' g' _ hargs
  have h := fun c => Cert.AdamwIdeal.Value.results m c
  refine ⟨_, _, _, _, Cert.AdamwIdeal.Value.run_blocks m g, θ_run_mono (Cert.AdamwRefIdeal.Value.run m' g')
    fun r hr c => ⟨(hr c).1.trans ?_, (hr c).2.1.trans ?_, (hr c).2.2.1.trans ?_, (hr c).2.2.2.1.trans ?_, (hr c).2.2.2.2⟩⟩
  · rw [(hargs c).2.1]
    exact (h c).1.symm
  · rw [Cert.AdamwRefIdeal.Read.val_main_v23_eq, (hargs c).1, (hargs c).2.1, (hargs c).2.2.1, (hargs c).2.2.2]
    exact (h c).2.1.symm
  · rw [Cert.AdamwRefIdeal.Read.val_main_v4_eq, (hargs c).2.1, (hargs c).2.2.1]
    exact (h c).2.2.1.symm
  · rw [Cert.AdamwRefIdeal.Read.val_main_v10_eq, (hargs c).2.1, (hargs c).2.2.2]
    exact (h c).2.2.2.symm

theorem claim : Cert.Claim := ⟨Cert.MlpUp.Gen.facts, Cert.MlpUpIdeal.Gen.facts, Cert.MlpUpRefIdeal.Gen.facts, Cert.MlpDown.Gen.facts, Cert.MlpDownIdeal.Gen.facts, Cert.MlpDownRefIdeal.Gen.facts, Cert.BwdIn.Gen.facts, Cert.BwdInIdeal.Gen.facts, Cert.BwdInRefIdeal.Gen.facts, Cert.Ple.Gen.facts, Cert.PleIdeal.Gen.facts, Cert.PleRefIdeal.Gen.facts, Cert.Mix.Gen.facts, Cert.MixIdeal.Gen.facts, Cert.MixRefIdeal.Gen.facts, Cert.Mla.Gen.facts, Cert.MlaIdeal.Gen.facts, Cert.MlaRefIdeal.Gen.facts, Cert.FwdUp.Gen.facts, Cert.FwdUpIdeal.Gen.facts, Cert.FwdUpRefIdeal.Gen.facts, Cert.FwdDown.Gen.facts, Cert.FwdDownIdeal.Gen.facts, Cert.FwdDownRefIdeal.Gen.facts, Cert.FwdMix.Gen.facts, Cert.FwdMixIdeal.Gen.facts, Cert.FwdMixRefIdeal.Gen.facts, Cert.Swa.Gen.facts, Cert.SwaIdeal.Gen.facts, Cert.SwaRefIdeal.Gen.facts, Cert.FwdIn.Gen.facts, Cert.FwdInIdeal.Gen.facts, Cert.FwdInRefIdeal.Gen.facts, Cert.Adamw.Gen.facts, Cert.AdamwIdeal.Gen.facts, Cert.AdamwRefIdeal.Gen.facts, Cert.Pre_mlp_up_finite.Gen.facts, Cert.Pre_mlp_down_finite.Gen.facts, Cert.Pre_in_finite.Gen.facts, Cert.Pre_ple_finite.Gen.facts, Cert.Pre_mix_finite.Gen.facts, Cert.Pre_mla_finite.Gen.facts,
  fun m ρ _ => Cert.MlpUp.Gen.frame m ρ, fun m ρ _ => Cert.MlpUpIdeal.Gen.frame m ρ, fun m ρ _ => Cert.MlpUpIdeal.Gen.frame m ρ, mlp_up_reference, fun m ρ _ => mlp_up_reference m ρ trivial,
  fun m ρ _ => Cert.MlpDown.Gen.frame m ρ, fun m ρ _ => Cert.MlpDownIdeal.Gen.frame m ρ, fun m ρ _ => Cert.MlpDownIdeal.Gen.frame m ρ, mlp_down_reference, fun m ρ _ => mlp_down_reference m ρ trivial,
  fun m ρ _ => Cert.BwdIn.Gen.frame m ρ, fun m ρ _ => Cert.BwdInIdeal.Gen.frame m ρ, fun m ρ _ => Cert.BwdInIdeal.Gen.frame m ρ, bwd_in_reference, fun m ρ _ => bwd_in_reference m ρ trivial,
  fun m ρ _ => Cert.Ple.Gen.frame m ρ, fun m ρ _ => Cert.PleIdeal.Gen.frame m ρ, fun m ρ _ => Cert.PleIdeal.Gen.frame m ρ, ple_reference, fun m ρ _ => ple_reference m ρ trivial,
  fun m ρ _ => Cert.Mix.Gen.frame m ρ, fun m ρ _ => Cert.MixIdeal.Gen.frame m ρ, fun m ρ _ => Cert.MixIdeal.Gen.frame m ρ, bwd_mix_reference, fun m ρ _ => bwd_mix_reference m ρ trivial,
  fun m ρ _ => Cert.MlaWords.frame_all m ρ, fun m ρ _ => Cert.MlaIdeal.Hand.frame_all m ρ, fun m ρ _ => Cert.MlaIdeal.Hand.frame_all m ρ, mla_reference, fun m ρ _ => mla_reference m ρ trivial,
  fun m ρ _ => Cert.FwdUp.Gen.frame m ρ, fun m ρ _ => Cert.FwdUpIdeal.Gen.frame m ρ, fwd_up_reference, fun m ρ _ => Cert.FwdDown.Gen.frame m ρ, fun m ρ _ => Cert.FwdDownIdeal.Gen.frame m ρ,
  fwd_down_reference, fun m ρ _ => Cert.FwdMix.Gen.frame m ρ, fun m ρ _ => Cert.FwdMixIdeal.Gen.frame m ρ, fwd_mix_reference, fun m ρ _ => Cert.Swa.Gen.frame m ρ,
  fun m ρ _ => Cert.SwaIdeal.Gen.frame m ρ, swa_reference, fun m ρ _ => Cert.FwdIn.Gen.frame m ρ, fun m ρ _ => Cert.FwdInIdeal.Gen.frame m ρ, fwd_in_reference,
  fun m ρ _ => Cert.Adamw.Gen.frame m ρ, fun m ρ _ => Cert.AdamwIdeal.Gen.frame m ρ, adamw_reference,
  trivial, mlp_up, trivial, mlp_down, trivial, bwd_in, trivial, ple, trivial, bwd_mix, ⟨IdealRules.named_const.statement Cert.MlaIdeal.κ "s2" .f32 0x3E16C740#32 _ rfl, IdealRules.named_const.statement Cert.MlaIdeal.κ "s" .f32 0x3DD105EC#32 _ rfl⟩, mla, trivial, fwd_up, trivial, fwd_down, trivial, fwd_mix, IdealRules.named_const.statement Cert.SwaIdeal.κ "mask" .f32 0xF149F2CA#32 _ rfl, trivial, fwd_in, trivial, adamw⟩

end Cert.Proof

end
